-- ==== Defs.lean ====
def Pre_Scatter (m : (ℓ : Loc Cert.Scatter.nD Cert.Scatter.τ Cert.Scatter.sig) → Buf (Elt Bits) ℓ) : Prop :=
  True

def Pre_ScatterIdeal (m : (ℓ : Loc Cert.ScatterIdeal.nD Cert.ScatterIdeal.τ Cert.ScatterIdeal.sig) → Buf (Elt Ideal) ℓ) : Prop :=
  True

def Pre_ScatterRefIdeal (m : (ℓ : Loc Cert.ScatterRefIdeal.nD Cert.ScatterRefIdeal.τ Cert.ScatterRefIdeal.sig) → Buf (Elt Ideal) ℓ) : Prop :=
  True

def Pre_ScatterRef (m : (ℓ : Loc Cert.ScatterRef.nD Cert.ScatterRef.τ Cert.ScatterRef.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_Update (m : (ℓ : Loc Cert.Update.nD Cert.Update.τ Cert.Update.sig) → Buf (Elt Bits) ℓ) : Prop :=
  True

def Pre_UpdateIdeal (m : (ℓ : Loc Cert.UpdateIdeal.nD Cert.UpdateIdeal.τ Cert.UpdateIdeal.sig) → Buf (Elt Ideal) ℓ) : Prop :=
  True

def Pre_UpdateRefIdeal (m : (ℓ : Loc Cert.UpdateRefIdeal.nD Cert.UpdateRefIdeal.τ Cert.UpdateRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_GradAda (m : (ℓ : Loc Cert.GradAda.nD Cert.GradAda.τ Cert.GradAda.sig) → Buf (Elt Bits) ℓ) : Prop :=
  True

def Pre_GradAdaIdeal (m : (ℓ : Loc Cert.GradAdaIdeal.nD Cert.GradAdaIdeal.τ Cert.GradAdaIdeal.sig) → Buf (Elt Ideal) ℓ) : Prop :=
  True

def Pre_GradAdaRefIdeal (m : (ℓ : Loc Cert.GradAdaRefIdeal.nD Cert.GradAdaRefIdeal.τ Cert.GradAdaRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_ModPart (m : (ℓ : Loc Cert.ModPart.nD Cert.ModPart.τ Cert.ModPart.sig) → Buf (Elt Bits) ℓ) : Prop :=
  True

def Pre_ModPartIdeal (m : (ℓ : Loc Cert.ModPartIdeal.nD Cert.ModPartIdeal.τ Cert.ModPartIdeal.sig) → Buf (Elt Ideal) ℓ) : Prop :=
  True

def Pre_ModPartRefIdeal (m : (ℓ : Loc Cert.ModPartRefIdeal.nD Cert.ModPartRefIdeal.τ Cert.ModPartRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwRet (m : (ℓ : Loc Cert.DwRet.nD Cert.DwRet.τ Cert.DwRet.sig) → Buf (Elt Bits) ℓ) : Prop :=
  True

def Pre_DwRetIdeal (m : (ℓ : Loc Cert.DwRetIdeal.nD Cert.DwRetIdeal.τ Cert.DwRetIdeal.sig) → Buf (Elt Ideal) ℓ) : Prop :=
  True

def Pre_DwRetRefIdeal (m : (ℓ : Loc Cert.DwRetRefIdeal.nD Cert.DwRetRefIdeal.τ Cert.DwRetRefIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXRefIdeal (m : (ℓ : Loc Cert.GradXRefIdeal.nD Cert.GradXRefIdeal.τ Cert.GradXRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_DwInR (m : (ℓ : Loc Cert.DwInR.nD Cert.DwInR.τ Cert.DwInR.sig) → Buf (Elt Bits) ℓ) : Prop :=
  True

def Pre_DwInRIdeal (m : (ℓ : Loc Cert.DwInRIdeal.nD Cert.DwInRIdeal.τ Cert.DwInRIdeal.sig) → Buf (Elt Ideal) ℓ) : Prop :=
  True

def Pre_DwInRRefIdeal (m : (ℓ : Loc Cert.DwInRRefIdeal.nD Cert.DwInRRefIdeal.τ Cert.DwInRRefIdeal.sig) → Buf (Elt Ideal) ℓ) : Prop :=
  True

def Pre_DwInC (m : (ℓ : Loc Cert.DwInC.nD Cert.DwInC.τ Cert.DwInC.sig) → Buf (Elt Bits) ℓ) : Prop :=
  True

def Pre_DwInCIdeal (m : (ℓ : Loc Cert.DwInCIdeal.nD Cert.DwInCIdeal.τ Cert.DwInCIdeal.sig) → Buf (Elt Ideal) ℓ) : Prop :=
  True

def Pre_DwInCRefIdeal (m : (ℓ : Loc Cert.DwInCRefIdeal.nD Cert.DwInCRefIdeal.τ Cert.DwInCRefIdeal.sig) → Buf (Elt Ideal) ℓ) : Prop :=
  True

def Pre_DwInG (m : (ℓ : Loc Cert.DwInG.nD Cert.DwInG.τ Cert.DwInG.sig) → Buf (Elt Bits) ℓ) : Prop :=
  True

def Pre_DwInGIdeal (m : (ℓ : Loc Cert.DwInGIdeal.nD Cert.DwInGIdeal.τ Cert.DwInGIdeal.sig) → Buf (Elt Ideal) ℓ) : Prop :=
  True

def Pre_DwInGRefIdeal (m : (ℓ : Loc Cert.DwInGRefIdeal.nD Cert.DwInGRefIdeal.τ Cert.DwInGRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def quiescent_Scatter [hScatter : Cert.Scatter.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1)
      ∧ r.2.mem ((c.tc : Thread Cert.Scatter.nD Cert.Scatter.τ).loc Cert.Scatter.main_arg2) = m ((c.tc : Thread Cert.Scatter.nD Cert.Scatter.τ).loc Cert.Scatter.main_arg2)
      ∧ r.2.mem ((c.tc : Thread Cert.Scatter.nD Cert.Scatter.τ).loc Cert.Scatter.main_arg3) = m ((c.tc : Thread Cert.Scatter.nD Cert.Scatter.τ).loc Cert.Scatter.main_arg3))
      ∧ r.2.sem = fun _ => 0)

def quiescent_ScatterIdeal [hScatterIdeal : Cert.ScatterIdeal.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
      ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
      ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3))
      ∧ r.2.sem = fun _ => 0)

def quiescent_ScatterRefIdeal [hScatterRefIdeal : Cert.ScatterRefIdeal.Facts] : Prop :=
  ∀ (m : (ℓ : Loc Cert.ScatterRefIdeal.nD Cert.ScatterRefIdeal.τ Cert.ScatterRefIdeal.sig) → Buf (Elt Ideal) ℓ) (g : Dev Cert.ScatterRefIdeal.nD → PrngReg), Pre_ScatterRefIdeal m →
    θ_run (Cert.ScatterRefIdeal.defs (F := Ideal)) (onTc (τ := Cert.ScatterRefIdeal.τ) (Cert.ScatterRefIdeal.main (F := Ideal))) ⟨m, fun _ => 0, g⟩ (fun r => (∀ c : Dev Cert.ScatterRefIdeal.nD,
      r.2.mem ((c.tc : Thread Cert.ScatterRefIdeal.nD Cert.ScatterRefIdeal.τ).loc Cert.ScatterRefIdeal.main_arg0) = m ((c.tc : Thread Cert.ScatterRefIdeal.nD Cert.ScatterRefIdeal.τ).loc Cert.ScatterRefIdeal.main_arg0)
      ∧ r.2.mem ((c.tc : Thread Cert.ScatterRefIdeal.nD Cert.ScatterRefIdeal.τ).loc Cert.ScatterRefIdeal.main_arg1) = m ((c.tc : Thread Cert.ScatterRefIdeal.nD Cert.ScatterRefIdeal.τ).loc Cert.ScatterRefIdeal.main_arg1)
      ∧ r.2.mem ((c.tc : Thread Cert.ScatterRefIdeal.nD Cert.ScatterRefIdeal.τ).loc Cert.ScatterRefIdeal.main_arg2) = m ((c.tc : Thread Cert.ScatterRefIdeal.nD Cert.ScatterRefIdeal.τ).loc Cert.ScatterRefIdeal.main_arg2)
      ∧ r.2.mem ((c.tc : Thread Cert.ScatterRefIdeal.nD Cert.ScatterRefIdeal.τ).loc Cert.ScatterRefIdeal.main_arg3) = m ((c.tc : Thread Cert.ScatterRefIdeal.nD Cert.ScatterRefIdeal.τ).loc Cert.ScatterRefIdeal.main_arg3))
      ∧ r.2.sem = fun _ => 0)

def quiescent_ScatterRef [hScatterRef : Cert.ScatterRef.Facts] : Prop :=
  ∀ (m : (ℓ : Loc Cert.ScatterRef.nD Cert.ScatterRef.τ Cert.ScatterRef.sig) → Buf (Elt Bits) ℓ) (g : Dev Cert.ScatterRef.nD → PrngReg), Pre_ScatterRef m →
    θ_run (Cert.ScatterRef.defs (F := Bits)) (onTc (τ := Cert.ScatterRef.τ) (Cert.ScatterRef.main (F := Bits))) ⟨m, fun _ => 0, g⟩ (fun r => (∀ c : Dev Cert.ScatterRef.nD,
      r.2.mem ((c.tc : Thread Cert.ScatterRef.nD Cert.ScatterRef.τ).loc Cert.ScatterRef.main_arg0) = m ((c.tc : Thread Cert.ScatterRef.nD Cert.ScatterRef.τ).loc Cert.ScatterRef.main_arg0)
      ∧ r.2.mem ((c.tc : Thread Cert.ScatterRef.nD Cert.ScatterRef.τ).loc Cert.ScatterRef.main_arg1) = m ((c.tc : Thread Cert.ScatterRef.nD Cert.ScatterRef.τ).loc Cert.ScatterRef.main_arg1)
      ∧ r.2.mem ((c.tc : Thread Cert.ScatterRef.nD Cert.ScatterRef.τ).loc Cert.ScatterRef.main_arg2) = m ((c.tc : Thread Cert.ScatterRef.nD Cert.ScatterRef.τ).loc Cert.ScatterRef.main_arg2)
      ∧ r.2.mem ((c.tc : Thread Cert.ScatterRef.nD Cert.ScatterRef.τ).loc Cert.ScatterRef.main_arg3) = m ((c.tc : Thread Cert.ScatterRef.nD Cert.ScatterRef.τ).loc Cert.ScatterRef.main_arg3))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1)
      ∧ r.2.mem ((c.tc : Thread Cert.GatherRefIdeal.nD Cert.GatherRefIdeal.τ).loc Cert.GatherRefIdeal.main_arg2) = m ((c.tc : Thread Cert.GatherRefIdeal.nD Cert.GatherRefIdeal.τ).loc Cert.GatherRefIdeal.main_arg2)
      ∧ r.2.mem ((c.tc : Thread Cert.GatherRefIdeal.nD Cert.GatherRefIdeal.τ).loc Cert.GatherRefIdeal.main_arg3) = m ((c.tc : Thread Cert.GatherRefIdeal.nD Cert.GatherRefIdeal.τ).loc Cert.GatherRefIdeal.main_arg3))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0)
      ∧ r.2.mem ((c.tc : Thread Cert.GatherRef.nD Cert.GatherRef.τ).loc Cert.GatherRef.main_arg1) = m ((c.tc : Thread Cert.GatherRef.nD Cert.GatherRef.τ).loc Cert.GatherRef.main_arg1)
      ∧ r.2.mem ((c.tc : Thread Cert.GatherRef.nD Cert.GatherRef.τ).loc Cert.GatherRef.main_arg2) = m ((c.tc : Thread Cert.GatherRef.nD Cert.GatherRef.τ).loc Cert.GatherRef.main_arg2)
      ∧ r.2.mem ((c.tc : Thread Cert.GatherRef.nD Cert.GatherRef.τ).loc Cert.GatherRef.main_arg3) = m ((c.tc : Thread Cert.GatherRef.nD Cert.GatherRef.τ).loc Cert.GatherRef.main_arg3))
      ∧ r.2.sem = fun _ => 0)

def quiescent_Update [hUpdate : Cert.Update.Facts] : Prop :=
  ∀ (m : (ℓ : Loc Cert.Update.nD Cert.Update.τ Cert.Update.sig) → Buf (Elt Bits) ℓ) (g : Dev Cert.Update.nD → PrngReg), Pre_Update m →
    θ_run (Cert.Update.defs (F := Bits)) (onTc (τ := Cert.Update.τ) (Cert.Update.main (F := Bits))) ⟨m, fun _ => 0, g⟩ (fun r => (∀ c : Dev Cert.Update.nD,
      r.2.mem ((c.tc : Thread Cert.Update.nD Cert.Update.τ).loc Cert.Update.main_arg0) = m ((c.tc : Thread Cert.Update.nD Cert.Update.τ).loc Cert.Update.main_arg0)
      ∧ r.2.mem ((c.tc : Thread Cert.Update.nD Cert.Update.τ).loc Cert.Update.main_arg1) = m ((c.tc : Thread Cert.Update.nD Cert.Update.τ).loc Cert.Update.main_arg1)
      ∧ r.2.mem ((c.tc : Thread Cert.Update.nD Cert.Update.τ).loc Cert.Update.main_arg2) = m ((c.tc : Thread Cert.Update.nD Cert.Update.τ).loc Cert.Update.main_arg2)
      ∧ r.2.mem ((c.tc : Thread Cert.Update.nD Cert.Update.τ).loc Cert.Update.main_arg3) = m ((c.tc : Thread Cert.Update.nD Cert.Update.τ).loc Cert.Update.main_arg3)
      ∧ r.2.mem ((c.tc : Thread Cert.Update.nD Cert.Update.τ).loc Cert.Update.main_arg4) = m ((c.tc : Thread Cert.Update.nD Cert.Update.τ).loc Cert.Update.main_arg4)
      ∧ r.2.mem ((c.tc : Thread Cert.Update.nD Cert.Update.τ).loc Cert.Update.main_arg5) = m ((c.tc : Thread Cert.Update.nD Cert.Update.τ).loc Cert.Update.main_arg5)
      ∧ r.2.mem ((c.tc : Thread Cert.Update.nD Cert.Update.τ).loc Cert.Update.main_arg6) = m ((c.tc : Thread Cert.Update.nD Cert.Update.τ).loc Cert.Update.main_arg6)
      ∧ r.2.mem ((c.tc : Thread Cert.Update.nD Cert.Update.τ).loc Cert.Update.main_arg7) = m ((c.tc : Thread Cert.Update.nD Cert.Update.τ).loc Cert.Update.main_arg7)
      ∧ r.2.mem ((c.tc : Thread Cert.Update.nD Cert.Update.τ).loc Cert.Update.main_arg8) = m ((c.tc : Thread Cert.Update.nD Cert.Update.τ).loc Cert.Update.main_arg8)
      ∧ r.2.mem ((c.tc : Thread Cert.Update.nD Cert.Update.τ).loc Cert.Update.main_arg9) = m ((c.tc : Thread Cert.Update.nD Cert.Update.τ).loc Cert.Update.main_arg9)
      ∧ r.2.mem ((c.tc : Thread Cert.Update.nD Cert.Update.τ).loc Cert.Update.main_arg10) = m ((c.tc : Thread Cert.Update.nD Cert.Update.τ).loc Cert.Update.main_arg10)
      ∧ r.2.mem ((c.tc : Thread Cert.Update.nD Cert.Update.τ).loc Cert.Update.main_arg11) = m ((c.tc : Thread Cert.Update.nD Cert.Update.τ).loc Cert.Update.main_arg11)
      ∧ r.2.mem ((c.tc : Thread Cert.Update.nD Cert.Update.τ).loc Cert.Update.main_arg12) = m ((c.tc : Thread Cert.Update.nD Cert.Update.τ).loc Cert.Update.main_arg12)
      ∧ r.2.mem ((c.tc : Thread Cert.Update.nD Cert.Update.τ).loc Cert.Update.main_arg13) = m ((c.tc : Thread Cert.Update.nD Cert.Update.τ).loc Cert.Update.main_arg13)
      ∧ r.2.mem ((c.tc : Thread Cert.Update.nD Cert.Update.τ).loc Cert.Update.main_arg14) = m ((c.tc : Thread Cert.Update.nD Cert.Update.τ).loc Cert.Update.main_arg14)
      ∧ r.2.mem ((c.tc : Thread Cert.Update.nD Cert.Update.τ).loc Cert.Update.main_arg15) = m ((c.tc : Thread Cert.Update.nD Cert.Update.τ).loc Cert.Update.main_arg15))
      ∧ r.2.sem = fun _ => 0)

def quiescent_UpdateIdeal [hUpdateIdeal : Cert.UpdateIdeal.Facts] : Prop :=
  ∀ (m : (ℓ : Loc Cert.UpdateIdeal.nD Cert.UpdateIdeal.τ Cert.UpdateIdeal.sig) → Buf (Elt Ideal) ℓ) (g : Dev Cert.UpdateIdeal.nD → PrngReg), Pre_UpdateIdeal m →
    θ_run (Cert.UpdateIdeal.defs (F := Ideal)) (onTc (τ := Cert.UpdateIdeal.τ) (Cert.UpdateIdeal.main (F := Ideal))) ⟨m, fun _ => 0, g⟩ (fun r => (∀ c : Dev Cert.UpdateIdeal.nD,
      r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
      ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
      ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
      ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3)
      ∧ r.2.mem ((c.tc : Thread Cert.UpdateIdeal.nD Cert.UpdateIdeal.τ).loc Cert.UpdateIdeal.main_arg4) = m ((c.tc : Thread Cert.UpdateIdeal.nD Cert.UpdateIdeal.τ).loc Cert.UpdateIdeal.main_arg4)
      ∧ r.2.mem ((c.tc : Thread Cert.UpdateIdeal.nD Cert.UpdateIdeal.τ).loc Cert.UpdateIdeal.main_arg5) = m ((c.tc : Thread Cert.UpdateIdeal.nD Cert.UpdateIdeal.τ).loc Cert.UpdateIdeal.main_arg5)
      ∧ r.2.mem ((c.tc : Thread Cert.UpdateIdeal.nD Cert.UpdateIdeal.τ).loc Cert.UpdateIdeal.main_arg6) = m ((c.tc : Thread Cert.UpdateIdeal.nD Cert.UpdateIdeal.τ).loc Cert.UpdateIdeal.main_arg6)
      ∧ r.2.mem ((c.tc : Thread Cert.UpdateIdeal.nD Cert.UpdateIdeal.τ).loc Cert.UpdateIdeal.main_arg7) = m ((c.tc : Thread Cert.UpdateIdeal.nD Cert.UpdateIdeal.τ).loc Cert.UpdateIdeal.main_arg7)
      ∧ r.2.mem ((c.tc : Thread Cert.UpdateIdeal.nD Cert.UpdateIdeal.τ).loc Cert.UpdateIdeal.main_arg8) = m ((c.tc : Thread Cert.UpdateIdeal.nD Cert.UpdateIdeal.τ).loc Cert.UpdateIdeal.main_arg8)
      ∧ r.2.mem ((c.tc : Thread Cert.UpdateIdeal.nD Cert.UpdateIdeal.τ).loc Cert.UpdateIdeal.main_arg9) = m ((c.tc : Thread Cert.UpdateIdeal.nD Cert.UpdateIdeal.τ).loc Cert.UpdateIdeal.main_arg9)
      ∧ r.2.mem ((c.tc : Thread Cert.UpdateIdeal.nD Cert.UpdateIdeal.τ).loc Cert.UpdateIdeal.main_arg10) = m ((c.tc : Thread Cert.UpdateIdeal.nD Cert.UpdateIdeal.τ).loc Cert.UpdateIdeal.main_arg10)
      ∧ r.2.mem ((c.tc : Thread Cert.UpdateIdeal.nD Cert.UpdateIdeal.τ).loc Cert.UpdateIdeal.main_arg11) = m ((c.tc : Thread Cert.UpdateIdeal.nD Cert.UpdateIdeal.τ).loc Cert.UpdateIdeal.main_arg11)
      ∧ r.2.mem ((c.tc : Thread Cert.UpdateIdeal.nD Cert.UpdateIdeal.τ).loc Cert.UpdateIdeal.main_arg12) = m ((c.tc : Thread Cert.UpdateIdeal.nD Cert.UpdateIdeal.τ).loc Cert.UpdateIdeal.main_arg12)
      ∧ r.2.mem ((c.tc : Thread Cert.UpdateIdeal.nD Cert.UpdateIdeal.τ).loc Cert.UpdateIdeal.main_arg13) = m ((c.tc : Thread Cert.UpdateIdeal.nD Cert.UpdateIdeal.τ).loc Cert.UpdateIdeal.main_arg13)
      ∧ r.2.mem ((c.tc : Thread Cert.UpdateIdeal.nD Cert.UpdateIdeal.τ).loc Cert.UpdateIdeal.main_arg14) = m ((c.tc : Thread Cert.UpdateIdeal.nD Cert.UpdateIdeal.τ).loc Cert.UpdateIdeal.main_arg14)
      ∧ r.2.mem ((c.tc : Thread Cert.UpdateIdeal.nD Cert.UpdateIdeal.τ).loc Cert.UpdateIdeal.main_arg15) = m ((c.tc : Thread Cert.UpdateIdeal.nD Cert.UpdateIdeal.τ).loc Cert.UpdateIdeal.main_arg15))
      ∧ r.2.sem = fun _ => 0)

def quiescent_UpdateRefIdeal [hUpdateRefIdeal : Cert.UpdateRefIdeal.Facts] : Prop :=
  ∀ (m : (ℓ : Loc Cert.UpdateRefIdeal.nD Cert.UpdateRefIdeal.τ Cert.UpdateRefIdeal.sig) → Buf (Elt Ideal) ℓ) (g : Dev Cert.UpdateRefIdeal.nD → PrngReg), Pre_UpdateRefIdeal m →
    θ_run (Cert.UpdateRefIdeal.defs (F := Ideal)) (onTc (τ := Cert.UpdateRefIdeal.τ) (Cert.UpdateRefIdeal.main (F := Ideal))) ⟨m, fun _ => 0, g⟩ (fun r => (∀ c : Dev Cert.UpdateRefIdeal.nD,
      r.2.mem ((c.tc : Thread Cert.UpdateRefIdeal.nD Cert.UpdateRefIdeal.τ).loc Cert.UpdateRefIdeal.main_arg0) = m ((c.tc : Thread Cert.UpdateRefIdeal.nD Cert.UpdateRefIdeal.τ).loc Cert.UpdateRefIdeal.main_arg0)
      ∧ r.2.mem ((c.tc : Thread Cert.UpdateRefIdeal.nD Cert.UpdateRefIdeal.τ).loc Cert.UpdateRefIdeal.main_arg1) = m ((c.tc : Thread Cert.UpdateRefIdeal.nD Cert.UpdateRefIdeal.τ).loc Cert.UpdateRefIdeal.main_arg1)
      ∧ r.2.mem ((c.tc : Thread Cert.UpdateRefIdeal.nD Cert.UpdateRefIdeal.τ).loc Cert.UpdateRefIdeal.main_arg2) = m ((c.tc : Thread Cert.UpdateRefIdeal.nD Cert.UpdateRefIdeal.τ).loc Cert.UpdateRefIdeal.main_arg2)
      ∧ r.2.mem ((c.tc : Thread Cert.UpdateRefIdeal.nD Cert.UpdateRefIdeal.τ).loc Cert.UpdateRefIdeal.main_arg3) = m ((c.tc : Thread Cert.UpdateRefIdeal.nD Cert.UpdateRefIdeal.τ).loc Cert.UpdateRefIdeal.main_arg3)
      ∧ r.2.mem ((c.tc : Thread Cert.UpdateRefIdeal.nD Cert.UpdateRefIdeal.τ).loc Cert.UpdateRefIdeal.main_arg4) = m ((c.tc : Thread Cert.UpdateRefIdeal.nD Cert.UpdateRefIdeal.τ).loc Cert.UpdateRefIdeal.main_arg4)
      ∧ r.2.mem ((c.tc : Thread Cert.UpdateRefIdeal.nD Cert.UpdateRefIdeal.τ).loc Cert.UpdateRefIdeal.main_arg5) = m ((c.tc : Thread Cert.UpdateRefIdeal.nD Cert.UpdateRefIdeal.τ).loc Cert.UpdateRefIdeal.main_arg5)
      ∧ r.2.mem ((c.tc : Thread Cert.UpdateRefIdeal.nD Cert.UpdateRefIdeal.τ).loc Cert.UpdateRefIdeal.main_arg6) = m ((c.tc : Thread Cert.UpdateRefIdeal.nD Cert.UpdateRefIdeal.τ).loc Cert.UpdateRefIdeal.main_arg6)
      ∧ r.2.mem ((c.tc : Thread Cert.UpdateRefIdeal.nD Cert.UpdateRefIdeal.τ).loc Cert.UpdateRefIdeal.main_arg7) = m ((c.tc : Thread Cert.UpdateRefIdeal.nD Cert.UpdateRefIdeal.τ).loc Cert.UpdateRefIdeal.main_arg7)
      ∧ r.2.mem ((c.tc : Thread Cert.UpdateRefIdeal.nD Cert.UpdateRefIdeal.τ).loc Cert.UpdateRefIdeal.main_arg8) = m ((c.tc : Thread Cert.UpdateRefIdeal.nD Cert.UpdateRefIdeal.τ).loc Cert.UpdateRefIdeal.main_arg8)
      ∧ r.2.mem ((c.tc : Thread Cert.UpdateRefIdeal.nD Cert.UpdateRefIdeal.τ).loc Cert.UpdateRefIdeal.main_arg9) = m ((c.tc : Thread Cert.UpdateRefIdeal.nD Cert.UpdateRefIdeal.τ).loc Cert.UpdateRefIdeal.main_arg9)
      ∧ r.2.mem ((c.tc : Thread Cert.UpdateRefIdeal.nD Cert.UpdateRefIdeal.τ).loc Cert.UpdateRefIdeal.main_arg10) = m ((c.tc : Thread Cert.UpdateRefIdeal.nD Cert.UpdateRefIdeal.τ).loc Cert.UpdateRefIdeal.main_arg10)
      ∧ r.2.mem ((c.tc : Thread Cert.UpdateRefIdeal.nD Cert.UpdateRefIdeal.τ).loc Cert.UpdateRefIdeal.main_arg11) = m ((c.tc : Thread Cert.UpdateRefIdeal.nD Cert.UpdateRefIdeal.τ).loc Cert.UpdateRefIdeal.main_arg11)
      ∧ r.2.mem ((c.tc : Thread Cert.UpdateRefIdeal.nD Cert.UpdateRefIdeal.τ).loc Cert.UpdateRefIdeal.main_arg12) = m ((c.tc : Thread Cert.UpdateRefIdeal.nD Cert.UpdateRefIdeal.τ).loc Cert.UpdateRefIdeal.main_arg12)
      ∧ r.2.mem ((c.tc : Thread Cert.UpdateRefIdeal.nD Cert.UpdateRefIdeal.τ).loc Cert.UpdateRefIdeal.main_arg13) = m ((c.tc : Thread Cert.UpdateRefIdeal.nD Cert.UpdateRefIdeal.τ).loc Cert.UpdateRefIdeal.main_arg13)
      ∧ r.2.mem ((c.tc : Thread Cert.UpdateRefIdeal.nD Cert.UpdateRefIdeal.τ).loc Cert.UpdateRefIdeal.main_arg14) = m ((c.tc : Thread Cert.UpdateRefIdeal.nD Cert.UpdateRefIdeal.τ).loc Cert.UpdateRefIdeal.main_arg14)
      ∧ r.2.mem ((c.tc : Thread Cert.UpdateRefIdeal.nD Cert.UpdateRefIdeal.τ).loc Cert.UpdateRefIdeal.main_arg15) = m ((c.tc : Thread Cert.UpdateRefIdeal.nD Cert.UpdateRefIdeal.τ).loc Cert.UpdateRefIdeal.main_arg15))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_GradAda [hGradAda : Cert.GradAda.Facts] : Prop :=
  ∀ (m : (ℓ : Loc Cert.GradAda.nD Cert.GradAda.τ Cert.GradAda.sig) → Buf (Elt Bits) ℓ) (g : Dev Cert.GradAda.nD → PrngReg), Pre_GradAda m →
    θ_run (Cert.GradAda.defs (F := Bits)) (onTc (τ := Cert.GradAda.τ) (Cert.GradAda.main (F := Bits))) ⟨m, fun _ => 0, g⟩ (fun r => (∀ c : Dev Cert.GradAda.nD,
      r.2.mem ((c.tc : Thread Cert.GradAda.nD Cert.GradAda.τ).loc Cert.GradAda.main_arg0) = m ((c.tc : Thread Cert.GradAda.nD Cert.GradAda.τ).loc Cert.GradAda.main_arg0)
      ∧ r.2.mem ((c.tc : Thread Cert.GradAda.nD Cert.GradAda.τ).loc Cert.GradAda.main_arg1) = m ((c.tc : Thread Cert.GradAda.nD Cert.GradAda.τ).loc Cert.GradAda.main_arg1))
      ∧ r.2.sem = fun _ => 0)

def quiescent_GradAdaIdeal [hGradAdaIdeal : Cert.GradAdaIdeal.Facts] : Prop :=
  ∀ (m : (ℓ : Loc Cert.GradAdaIdeal.nD Cert.GradAdaIdeal.τ Cert.GradAdaIdeal.sig) → Buf (Elt Ideal) ℓ) (g : Dev Cert.GradAdaIdeal.nD → PrngReg), Pre_GradAdaIdeal m →
    θ_run (Cert.GradAdaIdeal.defs (F := Ideal)) (onTc (τ := Cert.GradAdaIdeal.τ) (Cert.GradAdaIdeal.main (F := Ideal))) ⟨m, fun _ => 0, g⟩ (fun r => (∀ c : Dev Cert.GradAdaIdeal.nD,
      r.2.mem ((c.tc : Thread Cert.GradAdaIdeal.nD Cert.GradAdaIdeal.τ).loc Cert.GradAdaIdeal.main_arg0) = m ((c.tc : Thread Cert.GradAdaIdeal.nD Cert.GradAdaIdeal.τ).loc Cert.GradAdaIdeal.main_arg0)
      ∧ r.2.mem ((c.tc : Thread Cert.GradAdaIdeal.nD Cert.GradAdaIdeal.τ).loc Cert.GradAdaIdeal.main_arg1) = m ((c.tc : Thread Cert.GradAdaIdeal.nD Cert.GradAdaIdeal.τ).loc Cert.GradAdaIdeal.main_arg1))
      ∧ r.2.sem = fun _ => 0)

def quiescent_GradAdaRefIdeal [hGradAdaRefIdeal : Cert.GradAdaRefIdeal.Facts] : Prop :=
  ∀ (m : (ℓ : Loc Cert.GradAdaRefIdeal.nD Cert.GradAdaRefIdeal.τ Cert.GradAdaRefIdeal.sig) → Buf (Elt Ideal) ℓ) (g : Dev Cert.GradAdaRefIdeal.nD → PrngReg), Pre_GradAdaRefIdeal m →
    θ_run (Cert.GradAdaRefIdeal.defs (F := Ideal)) (onTc (τ := Cert.GradAdaRefIdeal.τ) (Cert.GradAdaRefIdeal.main (F := Ideal))) ⟨m, fun _ => 0, g⟩ (fun r => (∀ c : Dev Cert.GradAdaRefIdeal.nD,
      r.2.mem ((c.tc : Thread Cert.GradAdaRefIdeal.nD Cert.GradAdaRefIdeal.τ).loc Cert.GradAdaRefIdeal.main_arg0) = m ((c.tc : Thread Cert.GradAdaRefIdeal.nD Cert.GradAdaRefIdeal.τ).loc Cert.GradAdaRefIdeal.main_arg0)
      ∧ r.2.mem ((c.tc : Thread Cert.GradAdaRefIdeal.nD Cert.GradAdaRefIdeal.τ).loc Cert.GradAdaRefIdeal.main_arg1) = m ((c.tc : Thread Cert.GradAdaRefIdeal.nD Cert.GradAdaRefIdeal.τ).loc Cert.GradAdaRefIdeal.main_arg1))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_ModPart [hModPart : Cert.ModPart.Facts] : Prop :=
  ∀ (m : (ℓ : Loc Cert.ModPart.nD Cert.ModPart.τ Cert.ModPart.sig) → Buf (Elt Bits) ℓ) (g : Dev Cert.ModPart.nD → PrngReg), Pre_ModPart m →
    θ_run (Cert.ModPart.defs (F := Bits)) (onTc (τ := Cert.ModPart.τ) (Cert.ModPart.main (F := Bits))) ⟨m, fun _ => 0, g⟩ (fun r => (∀ c : Dev Cert.ModPart.nD,
      r.2.mem ((c.tc : Thread Cert.ModPart.nD Cert.ModPart.τ).loc Cert.ModPart.main_arg0) = m ((c.tc : Thread Cert.ModPart.nD Cert.ModPart.τ).loc Cert.ModPart.main_arg0)
      ∧ r.2.mem ((c.tc : Thread Cert.ModPart.nD Cert.ModPart.τ).loc Cert.ModPart.main_arg1) = m ((c.tc : Thread Cert.ModPart.nD Cert.ModPart.τ).loc Cert.ModPart.main_arg1)
      ∧ r.2.mem ((c.tc : Thread Cert.ModPart.nD Cert.ModPart.τ).loc Cert.ModPart.main_arg2) = m ((c.tc : Thread Cert.ModPart.nD Cert.ModPart.τ).loc Cert.ModPart.main_arg2))
      ∧ r.2.sem = fun _ => 0)

def quiescent_ModPartIdeal [hModPartIdeal : Cert.ModPartIdeal.Facts] : Prop :=
  ∀ (m : (ℓ : Loc Cert.ModPartIdeal.nD Cert.ModPartIdeal.τ Cert.ModPartIdeal.sig) → Buf (Elt Ideal) ℓ) (g : Dev Cert.ModPartIdeal.nD → PrngReg), Pre_ModPartIdeal m →
    θ_run (Cert.ModPartIdeal.defs (F := Ideal)) (onTc (τ := Cert.ModPartIdeal.τ) (Cert.ModPartIdeal.main (F := Ideal))) ⟨m, fun _ => 0, g⟩ (fun r => (∀ c : Dev Cert.ModPartIdeal.nD,
      r.2.mem ((c.tc : Thread Cert.ModPartIdeal.nD Cert.ModPartIdeal.τ).loc Cert.ModPartIdeal.main_arg0) = m ((c.tc : Thread Cert.ModPartIdeal.nD Cert.ModPartIdeal.τ).loc Cert.ModPartIdeal.main_arg0)
      ∧ r.2.mem ((c.tc : Thread Cert.ModPartIdeal.nD Cert.ModPartIdeal.τ).loc Cert.ModPartIdeal.main_arg1) = m ((c.tc : Thread Cert.ModPartIdeal.nD Cert.ModPartIdeal.τ).loc Cert.ModPartIdeal.main_arg1)
      ∧ r.2.mem ((c.tc : Thread Cert.ModPartIdeal.nD Cert.ModPartIdeal.τ).loc Cert.ModPartIdeal.main_arg2) = m ((c.tc : Thread Cert.ModPartIdeal.nD Cert.ModPartIdeal.τ).loc Cert.ModPartIdeal.main_arg2))
      ∧ r.2.sem = fun _ => 0)

def quiescent_ModPartRefIdeal [hModPartRefIdeal : Cert.ModPartRefIdeal.Facts] : Prop :=
  ∀ (m : (ℓ : Loc Cert.ModPartRefIdeal.nD Cert.ModPartRefIdeal.τ Cert.ModPartRefIdeal.sig) → Buf (Elt Ideal) ℓ) (g : Dev Cert.ModPartRefIdeal.nD → PrngReg), Pre_ModPartRefIdeal m →
    θ_run (Cert.ModPartRefIdeal.defs (F := Ideal)) (onTc (τ := Cert.ModPartRefIdeal.τ) (Cert.ModPartRefIdeal.main (F := Ideal))) ⟨m, fun _ => 0, g⟩ (fun r => (∀ c : Dev Cert.ModPartRefIdeal.nD,
      r.2.mem ((c.tc : Thread Cert.ModPartRefIdeal.nD Cert.ModPartRefIdeal.τ).loc Cert.ModPartRefIdeal.main_arg0) = m ((c.tc : Thread Cert.ModPartRefIdeal.nD Cert.ModPartRefIdeal.τ).loc Cert.ModPartRefIdeal.main_arg0)
      ∧ r.2.mem ((c.tc : Thread Cert.ModPartRefIdeal.nD Cert.ModPartRefIdeal.τ).loc Cert.ModPartRefIdeal.main_arg1) = m ((c.tc : Thread Cert.ModPartRefIdeal.nD Cert.ModPartRefIdeal.τ).loc Cert.ModPartRefIdeal.main_arg1)
      ∧ r.2.mem ((c.tc : Thread Cert.ModPartRefIdeal.nD Cert.ModPartRefIdeal.τ).loc Cert.ModPartRefIdeal.main_arg2) = m ((c.tc : Thread Cert.ModPartRefIdeal.nD Cert.ModPartRefIdeal.τ).loc Cert.ModPartRefIdeal.main_arg2))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwRet [hDwRet : Cert.DwRet.Facts] : Prop :=
  ∀ (m : (ℓ : Loc Cert.DwRet.nD Cert.DwRet.τ Cert.DwRet.sig) → Buf (Elt Bits) ℓ) (g : Dev Cert.DwRet.nD → PrngReg), Pre_DwRet m →
    θ_run (Cert.DwRet.defs (F := Bits)) (onTc (τ := Cert.DwRet.τ) (Cert.DwRet.main (F := Bits))) ⟨m, fun _ => 0, g⟩ (fun r => (∀ c : Dev Cert.DwRet.nD,
      r.2.mem ((c.tc : Thread Cert.DwRet.nD Cert.DwRet.τ).loc Cert.DwRet.main_arg0) = m ((c.tc : Thread Cert.DwRet.nD Cert.DwRet.τ).loc Cert.DwRet.main_arg0)
      ∧ r.2.mem ((c.tc : Thread Cert.DwRet.nD Cert.DwRet.τ).loc Cert.DwRet.main_arg1) = m ((c.tc : Thread Cert.DwRet.nD Cert.DwRet.τ).loc Cert.DwRet.main_arg1))
      ∧ r.2.sem = fun _ => 0)

def quiescent_DwRetIdeal [hDwRetIdeal : Cert.DwRetIdeal.Facts] : Prop :=
  ∀ (m : (ℓ : Loc Cert.DwRetIdeal.nD Cert.DwRetIdeal.τ Cert.DwRetIdeal.sig) → Buf (Elt Ideal) ℓ) (g : Dev Cert.DwRetIdeal.nD → PrngReg), Pre_DwRetIdeal m →
    θ_run (Cert.DwRetIdeal.defs (F := Ideal)) (onTc (τ := Cert.DwRetIdeal.τ) (Cert.DwRetIdeal.main (F := Ideal))) ⟨m, fun _ => 0, g⟩ (fun r => (∀ c : Dev Cert.DwRetIdeal.nD,
      r.2.mem ((c.tc : Thread Cert.DwRetIdeal.nD Cert.DwRetIdeal.τ).loc Cert.DwRetIdeal.main_arg0) = m ((c.tc : Thread Cert.DwRetIdeal.nD Cert.DwRetIdeal.τ).loc Cert.DwRetIdeal.main_arg0)
      ∧ r.2.mem ((c.tc : Thread Cert.DwRetIdeal.nD Cert.DwRetIdeal.τ).loc Cert.DwRetIdeal.main_arg1) = m ((c.tc : Thread Cert.DwRetIdeal.nD Cert.DwRetIdeal.τ).loc Cert.DwRetIdeal.main_arg1))
      ∧ r.2.sem = fun _ => 0)

def quiescent_DwRetRefIdeal [hDwRetRefIdeal : Cert.DwRetRefIdeal.Facts] : Prop :=
  ∀ (m : (ℓ : Loc Cert.DwRetRefIdeal.nD Cert.DwRetRefIdeal.τ Cert.DwRetRefIdeal.sig) → Buf (Elt Ideal) ℓ) (g : Dev Cert.DwRetRefIdeal.nD → PrngReg), Pre_DwRetRefIdeal m →
    θ_run (Cert.DwRetRefIdeal.defs (F := Ideal)) (onTc (τ := Cert.DwRetRefIdeal.τ) (Cert.DwRetRefIdeal.main (F := Ideal))) ⟨m, fun _ => 0, g⟩ (fun r => (∀ c : Dev Cert.DwRetRefIdeal.nD,
      r.2.mem ((c.tc : Thread Cert.DwRetRefIdeal.nD Cert.DwRetRefIdeal.τ).loc Cert.DwRetRefIdeal.main_arg0) = m ((c.tc : Thread Cert.DwRetRefIdeal.nD Cert.DwRetRefIdeal.τ).loc Cert.DwRetRefIdeal.main_arg0)
      ∧ r.2.mem ((c.tc : Thread Cert.DwRetRefIdeal.nD Cert.DwRetRefIdeal.τ).loc Cert.DwRetRefIdeal.main_arg1) = m ((c.tc : Thread Cert.DwRetRefIdeal.nD Cert.DwRetRefIdeal.τ).loc Cert.DwRetRefIdeal.main_arg1))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3)
      ∧ r.2.mem ((c.tc : Thread Cert.GradX.nD Cert.GradX.τ).loc Cert.GradX.main_arg4) = m ((c.tc : Thread Cert.GradX.nD Cert.GradX.τ).loc Cert.GradX.main_arg4)
      ∧ r.2.mem ((c.tc : Thread Cert.GradX.nD Cert.GradX.τ).loc Cert.GradX.main_arg5) = m ((c.tc : Thread Cert.GradX.nD Cert.GradX.τ).loc Cert.GradX.main_arg5)
      ∧ r.2.mem ((c.tc : Thread Cert.GradX.nD Cert.GradX.τ).loc Cert.GradX.main_arg6) = m ((c.tc : Thread Cert.GradX.nD Cert.GradX.τ).loc Cert.GradX.main_arg6)
      ∧ r.2.mem ((c.tc : Thread Cert.GradX.nD Cert.GradX.τ).loc Cert.GradX.main_arg7) = m ((c.tc : Thread Cert.GradX.nD Cert.GradX.τ).loc Cert.GradX.main_arg7)
      ∧ r.2.mem ((c.tc : Thread Cert.GradX.nD Cert.GradX.τ).loc Cert.GradX.main_arg8) = m ((c.tc : Thread Cert.GradX.nD Cert.GradX.τ).loc Cert.GradX.main_arg8)
      ∧ r.2.mem ((c.tc : Thread Cert.GradX.nD Cert.GradX.τ).loc Cert.GradX.main_arg9) = m ((c.tc : Thread Cert.GradX.nD Cert.GradX.τ).loc Cert.GradX.main_arg9))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
      ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4)
      ∧ r.2.mem ((c.tc : Thread Cert.GradXIdeal.nD Cert.GradXIdeal.τ).loc Cert.GradXIdeal.main_arg5) = m ((c.tc : Thread Cert.GradXIdeal.nD Cert.GradXIdeal.τ).loc Cert.GradXIdeal.main_arg5)
      ∧ r.2.mem ((c.tc : Thread Cert.GradXIdeal.nD Cert.GradXIdeal.τ).loc Cert.GradXIdeal.main_arg6) = m ((c.tc : Thread Cert.GradXIdeal.nD Cert.GradXIdeal.τ).loc Cert.GradXIdeal.main_arg6)
      ∧ r.2.mem ((c.tc : Thread Cert.GradXIdeal.nD Cert.GradXIdeal.τ).loc Cert.GradXIdeal.main_arg7) = m ((c.tc : Thread Cert.GradXIdeal.nD Cert.GradXIdeal.τ).loc Cert.GradXIdeal.main_arg7)
      ∧ r.2.mem ((c.tc : Thread Cert.GradXIdeal.nD Cert.GradXIdeal.τ).loc Cert.GradXIdeal.main_arg8) = m ((c.tc : Thread Cert.GradXIdeal.nD Cert.GradXIdeal.τ).loc Cert.GradXIdeal.main_arg8)
      ∧ r.2.mem ((c.tc : Thread Cert.GradXIdeal.nD Cert.GradXIdeal.τ).loc Cert.GradXIdeal.main_arg9) = m ((c.tc : Thread Cert.GradXIdeal.nD Cert.GradXIdeal.τ).loc Cert.GradXIdeal.main_arg9))
      ∧ r.2.sem = fun _ => 0)

def quiescent_GradXRefIdeal [hGradXRefIdeal : Cert.GradXRefIdeal.Facts] : Prop :=
  ∀ (m : (ℓ : Loc Cert.GradXRefIdeal.nD Cert.GradXRefIdeal.τ Cert.GradXRefIdeal.sig) → Buf (Elt Ideal) ℓ) (g : Dev Cert.GradXRefIdeal.nD → PrngReg), Pre_GradXRefIdeal m →
    θ_run (Cert.GradXRefIdeal.defs (F := Ideal)) (onTc (τ := Cert.GradXRefIdeal.τ) (Cert.GradXRefIdeal.main (F := Ideal))) ⟨m, fun _ => 0, g⟩ (fun r => (∀ c : Dev Cert.GradXRefIdeal.nD,
      r.2.mem ((c.tc : Thread Cert.GradXRefIdeal.nD Cert.GradXRefIdeal.τ).loc Cert.GradXRefIdeal.main_arg0) = m ((c.tc : Thread Cert.GradXRefIdeal.nD Cert.GradXRefIdeal.τ).loc Cert.GradXRefIdeal.main_arg0)
      ∧ r.2.mem ((c.tc : Thread Cert.GradXRefIdeal.nD Cert.GradXRefIdeal.τ).loc Cert.GradXRefIdeal.main_arg1) = m ((c.tc : Thread Cert.GradXRefIdeal.nD Cert.GradXRefIdeal.τ).loc Cert.GradXRefIdeal.main_arg1)
      ∧ r.2.mem ((c.tc : Thread Cert.GradXRefIdeal.nD Cert.GradXRefIdeal.τ).loc Cert.GradXRefIdeal.main_arg2) = m ((c.tc : Thread Cert.GradXRefIdeal.nD Cert.GradXRefIdeal.τ).loc Cert.GradXRefIdeal.main_arg2)
      ∧ r.2.mem ((c.tc : Thread Cert.GradXRefIdeal.nD Cert.GradXRefIdeal.τ).loc Cert.GradXRefIdeal.main_arg3) = m ((c.tc : Thread Cert.GradXRefIdeal.nD Cert.GradXRefIdeal.τ).loc Cert.GradXRefIdeal.main_arg3)
      ∧ r.2.mem ((c.tc : Thread Cert.GradXRefIdeal.nD Cert.GradXRefIdeal.τ).loc Cert.GradXRefIdeal.main_arg4) = m ((c.tc : Thread Cert.GradXRefIdeal.nD Cert.GradXRefIdeal.τ).loc Cert.GradXRefIdeal.main_arg4)
      ∧ r.2.mem ((c.tc : Thread Cert.GradXRefIdeal.nD Cert.GradXRefIdeal.τ).loc Cert.GradXRefIdeal.main_arg5) = m ((c.tc : Thread Cert.GradXRefIdeal.nD Cert.GradXRefIdeal.τ).loc Cert.GradXRefIdeal.main_arg5)
      ∧ r.2.mem ((c.tc : Thread Cert.GradXRefIdeal.nD Cert.GradXRefIdeal.τ).loc Cert.GradXRefIdeal.main_arg6) = m ((c.tc : Thread Cert.GradXRefIdeal.nD Cert.GradXRefIdeal.τ).loc Cert.GradXRefIdeal.main_arg6)
      ∧ r.2.mem ((c.tc : Thread Cert.GradXRefIdeal.nD Cert.GradXRefIdeal.τ).loc Cert.GradXRefIdeal.main_arg7) = m ((c.tc : Thread Cert.GradXRefIdeal.nD Cert.GradXRefIdeal.τ).loc Cert.GradXRefIdeal.main_arg7)
      ∧ r.2.mem ((c.tc : Thread Cert.GradXRefIdeal.nD Cert.GradXRefIdeal.τ).loc Cert.GradXRefIdeal.main_arg8) = m ((c.tc : Thread Cert.GradXRefIdeal.nD Cert.GradXRefIdeal.τ).loc Cert.GradXRefIdeal.main_arg8)
      ∧ r.2.mem ((c.tc : Thread Cert.GradXRefIdeal.nD Cert.GradXRefIdeal.τ).loc Cert.GradXRefIdeal.main_arg9) = m ((c.tc : Thread Cert.GradXRefIdeal.nD Cert.GradXRefIdeal.τ).loc Cert.GradXRefIdeal.main_arg9))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6)
      ∧ r.2.mem ((c.tc : Thread Cert.Head.nD Cert.Head.τ).loc Cert.Head.main_arg7) = m ((c.tc : Thread Cert.Head.nD Cert.Head.τ).loc Cert.Head.main_arg7)
      ∧ r.2.mem ((c.tc : Thread Cert.Head.nD Cert.Head.τ).loc Cert.Head.main_arg8) = m ((c.tc : Thread Cert.Head.nD Cert.Head.τ).loc Cert.Head.main_arg8)
      ∧ r.2.mem ((c.tc : Thread Cert.Head.nD Cert.Head.τ).loc Cert.Head.main_arg9) = m ((c.tc : Thread Cert.Head.nD Cert.Head.τ).loc Cert.Head.main_arg9))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
      ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8)
      ∧ r.2.mem ((c.tc : Thread Cert.HeadRefIdeal.nD Cert.HeadRefIdeal.τ).loc Cert.HeadRefIdeal.main_arg9) = m ((c.tc : Thread Cert.HeadRefIdeal.nD Cert.HeadRefIdeal.τ).loc Cert.HeadRefIdeal.main_arg9))
      ∧ r.2.sem = fun _ => 0)

def quiescent_DwInR [hDwInR : Cert.DwInR.Facts] : Prop :=
  ∀ (m : (ℓ : Loc Cert.DwInR.nD Cert.DwInR.τ Cert.DwInR.sig) → Buf (Elt Bits) ℓ) (g : Dev Cert.DwInR.nD → PrngReg), Pre_DwInR m →
    θ_run (Cert.DwInR.defs (F := Bits)) (onTc (τ := Cert.DwInR.τ) (Cert.DwInR.main (F := Bits))) ⟨m, fun _ => 0, g⟩ (fun r => (∀ c : Dev Cert.DwInR.nD,
      r.2.mem ((c.tc : Thread Cert.DwInR.nD Cert.DwInR.τ).loc Cert.DwInR.main_arg0) = m ((c.tc : Thread Cert.DwInR.nD Cert.DwInR.τ).loc Cert.DwInR.main_arg0)
      ∧ r.2.mem ((c.tc : Thread Cert.DwInR.nD Cert.DwInR.τ).loc Cert.DwInR.main_arg1) = m ((c.tc : Thread Cert.DwInR.nD Cert.DwInR.τ).loc Cert.DwInR.main_arg1))
      ∧ r.2.sem = fun _ => 0)

def quiescent_DwInRIdeal [hDwInRIdeal : Cert.DwInRIdeal.Facts] : Prop :=
  ∀ (m : (ℓ : Loc Cert.DwInRIdeal.nD Cert.DwInRIdeal.τ Cert.DwInRIdeal.sig) → Buf (Elt Ideal) ℓ) (g : Dev Cert.DwInRIdeal.nD → PrngReg), Pre_DwInRIdeal m →
    θ_run (Cert.DwInRIdeal.defs (F := Ideal)) (onTc (τ := Cert.DwInRIdeal.τ) (Cert.DwInRIdeal.main (F := Ideal))) ⟨m, fun _ => 0, g⟩ (fun r => (∀ c : Dev Cert.DwInRIdeal.nD,
      r.2.mem ((c.tc : Thread Cert.DwInRIdeal.nD Cert.DwInRIdeal.τ).loc Cert.DwInRIdeal.main_arg0) = m ((c.tc : Thread Cert.DwInRIdeal.nD Cert.DwInRIdeal.τ).loc Cert.DwInRIdeal.main_arg0)
      ∧ r.2.mem ((c.tc : Thread Cert.DwInRIdeal.nD Cert.DwInRIdeal.τ).loc Cert.DwInRIdeal.main_arg1) = m ((c.tc : Thread Cert.DwInRIdeal.nD Cert.DwInRIdeal.τ).loc Cert.DwInRIdeal.main_arg1))
      ∧ r.2.sem = fun _ => 0)

def quiescent_DwInRRefIdeal [hDwInRRefIdeal : Cert.DwInRRefIdeal.Facts] : Prop :=
  ∀ (m : (ℓ : Loc Cert.DwInRRefIdeal.nD Cert.DwInRRefIdeal.τ Cert.DwInRRefIdeal.sig) → Buf (Elt Ideal) ℓ) (g : Dev Cert.DwInRRefIdeal.nD → PrngReg), Pre_DwInRRefIdeal m →
    θ_run (Cert.DwInRRefIdeal.defs (F := Ideal)) (onTc (τ := Cert.DwInRRefIdeal.τ) (Cert.DwInRRefIdeal.main (F := Ideal))) ⟨m, fun _ => 0, g⟩ (fun r => (∀ c : Dev Cert.DwInRRefIdeal.nD,
      r.2.mem ((c.tc : Thread Cert.DwInRRefIdeal.nD Cert.DwInRRefIdeal.τ).loc Cert.DwInRRefIdeal.main_arg0) = m ((c.tc : Thread Cert.DwInRRefIdeal.nD Cert.DwInRRefIdeal.τ).loc Cert.DwInRRefIdeal.main_arg0)
      ∧ r.2.mem ((c.tc : Thread Cert.DwInRRefIdeal.nD Cert.DwInRRefIdeal.τ).loc Cert.DwInRRefIdeal.main_arg1) = m ((c.tc : Thread Cert.DwInRRefIdeal.nD Cert.DwInRRefIdeal.τ).loc Cert.DwInRRefIdeal.main_arg1))
      ∧ r.2.sem = fun _ => 0)

def quiescent_DwInC [hDwInC : Cert.DwInC.Facts] : Prop :=
  ∀ (m : (ℓ : Loc Cert.DwInC.nD Cert.DwInC.τ Cert.DwInC.sig) → Buf (Elt Bits) ℓ) (g : Dev Cert.DwInC.nD → PrngReg), Pre_DwInC m →
    θ_run (Cert.DwInC.defs (F := Bits)) (onTc (τ := Cert.DwInC.τ) (Cert.DwInC.main (F := Bits))) ⟨m, fun _ => 0, g⟩ (fun r => (∀ c : Dev Cert.DwInC.nD,
      r.2.mem ((c.tc : Thread Cert.DwInC.nD Cert.DwInC.τ).loc Cert.DwInC.main_arg0) = m ((c.tc : Thread Cert.DwInC.nD Cert.DwInC.τ).loc Cert.DwInC.main_arg0)
      ∧ r.2.mem ((c.tc : Thread Cert.DwInC.nD Cert.DwInC.τ).loc Cert.DwInC.main_arg1) = m ((c.tc : Thread Cert.DwInC.nD Cert.DwInC.τ).loc Cert.DwInC.main_arg1))
      ∧ r.2.sem = fun _ => 0)

def quiescent_DwInCIdeal [hDwInCIdeal : Cert.DwInCIdeal.Facts] : Prop :=
  ∀ (m : (ℓ : Loc Cert.DwInCIdeal.nD Cert.DwInCIdeal.τ Cert.DwInCIdeal.sig) → Buf (Elt Ideal) ℓ) (g : Dev Cert.DwInCIdeal.nD → PrngReg), Pre_DwInCIdeal m →
    θ_run (Cert.DwInCIdeal.defs (F := Ideal)) (onTc (τ := Cert.DwInCIdeal.τ) (Cert.DwInCIdeal.main (F := Ideal))) ⟨m, fun _ => 0, g⟩ (fun r => (∀ c : Dev Cert.DwInCIdeal.nD,
      r.2.mem ((c.tc : Thread Cert.DwInCIdeal.nD Cert.DwInCIdeal.τ).loc Cert.DwInCIdeal.main_arg0) = m ((c.tc : Thread Cert.DwInCIdeal.nD Cert.DwInCIdeal.τ).loc Cert.DwInCIdeal.main_arg0)
      ∧ r.2.mem ((c.tc : Thread Cert.DwInCIdeal.nD Cert.DwInCIdeal.τ).loc Cert.DwInCIdeal.main_arg1) = m ((c.tc : Thread Cert.DwInCIdeal.nD Cert.DwInCIdeal.τ).loc Cert.DwInCIdeal.main_arg1))
      ∧ r.2.sem = fun _ => 0)

def quiescent_DwInCRefIdeal [hDwInCRefIdeal : Cert.DwInCRefIdeal.Facts] : Prop :=
  ∀ (m : (ℓ : Loc Cert.DwInCRefIdeal.nD Cert.DwInCRefIdeal.τ Cert.DwInCRefIdeal.sig) → Buf (Elt Ideal) ℓ) (g : Dev Cert.DwInCRefIdeal.nD → PrngReg), Pre_DwInCRefIdeal m →
    θ_run (Cert.DwInCRefIdeal.defs (F := Ideal)) (onTc (τ := Cert.DwInCRefIdeal.τ) (Cert.DwInCRefIdeal.main (F := Ideal))) ⟨m, fun _ => 0, g⟩ (fun r => (∀ c : Dev Cert.DwInCRefIdeal.nD,
      r.2.mem ((c.tc : Thread Cert.DwInCRefIdeal.nD Cert.DwInCRefIdeal.τ).loc Cert.DwInCRefIdeal.main_arg0) = m ((c.tc : Thread Cert.DwInCRefIdeal.nD Cert.DwInCRefIdeal.τ).loc Cert.DwInCRefIdeal.main_arg0)
      ∧ r.2.mem ((c.tc : Thread Cert.DwInCRefIdeal.nD Cert.DwInCRefIdeal.τ).loc Cert.DwInCRefIdeal.main_arg1) = m ((c.tc : Thread Cert.DwInCRefIdeal.nD Cert.DwInCRefIdeal.τ).loc Cert.DwInCRefIdeal.main_arg1))
      ∧ r.2.sem = fun _ => 0)

def quiescent_DwInG [hDwInG : Cert.DwInG.Facts] : Prop :=
  ∀ (m : (ℓ : Loc Cert.DwInG.nD Cert.DwInG.τ Cert.DwInG.sig) → Buf (Elt Bits) ℓ) (g : Dev Cert.DwInG.nD → PrngReg), Pre_DwInG m →
    θ_run (Cert.DwInG.defs (F := Bits)) (onTc (τ := Cert.DwInG.τ) (Cert.DwInG.main (F := Bits))) ⟨m, fun _ => 0, g⟩ (fun r => (∀ c : Dev Cert.DwInG.nD,
      r.2.mem ((c.tc : Thread Cert.DwInG.nD Cert.DwInG.τ).loc Cert.DwInG.main_arg0) = m ((c.tc : Thread Cert.DwInG.nD Cert.DwInG.τ).loc Cert.DwInG.main_arg0)
      ∧ r.2.mem ((c.tc : Thread Cert.DwInG.nD Cert.DwInG.τ).loc Cert.DwInG.main_arg1) = m ((c.tc : Thread Cert.DwInG.nD Cert.DwInG.τ).loc Cert.DwInG.main_arg1))
      ∧ r.2.sem = fun _ => 0)

def quiescent_DwInGIdeal [hDwInGIdeal : Cert.DwInGIdeal.Facts] : Prop :=
  ∀ (m : (ℓ : Loc Cert.DwInGIdeal.nD Cert.DwInGIdeal.τ Cert.DwInGIdeal.sig) → Buf (Elt Ideal) ℓ) (g : Dev Cert.DwInGIdeal.nD → PrngReg), Pre_DwInGIdeal m →
    θ_run (Cert.DwInGIdeal.defs (F := Ideal)) (onTc (τ := Cert.DwInGIdeal.τ) (Cert.DwInGIdeal.main (F := Ideal))) ⟨m, fun _ => 0, g⟩ (fun r => (∀ c : Dev Cert.DwInGIdeal.nD,
      r.2.mem ((c.tc : Thread Cert.DwInGIdeal.nD Cert.DwInGIdeal.τ).loc Cert.DwInGIdeal.main_arg0) = m ((c.tc : Thread Cert.DwInGIdeal.nD Cert.DwInGIdeal.τ).loc Cert.DwInGIdeal.main_arg0)
      ∧ r.2.mem ((c.tc : Thread Cert.DwInGIdeal.nD Cert.DwInGIdeal.τ).loc Cert.DwInGIdeal.main_arg1) = m ((c.tc : Thread Cert.DwInGIdeal.nD Cert.DwInGIdeal.τ).loc Cert.DwInGIdeal.main_arg1))
      ∧ r.2.sem = fun _ => 0)

def quiescent_DwInGRefIdeal [hDwInGRefIdeal : Cert.DwInGRefIdeal.Facts] : Prop :=
  ∀ (m : (ℓ : Loc Cert.DwInGRefIdeal.nD Cert.DwInGRefIdeal.τ Cert.DwInGRefIdeal.sig) → Buf (Elt Ideal) ℓ) (g : Dev Cert.DwInGRefIdeal.nD → PrngReg), Pre_DwInGRefIdeal m →
    θ_run (Cert.DwInGRefIdeal.defs (F := Ideal)) (onTc (τ := Cert.DwInGRefIdeal.τ) (Cert.DwInGRefIdeal.main (F := Ideal))) ⟨m, fun _ => 0, g⟩ (fun r => (∀ c : Dev Cert.DwInGRefIdeal.nD,
      r.2.mem ((c.tc : Thread Cert.DwInGRefIdeal.nD Cert.DwInGRefIdeal.τ).loc Cert.DwInGRefIdeal.main_arg0) = m ((c.tc : Thread Cert.DwInGRefIdeal.nD Cert.DwInGRefIdeal.τ).loc Cert.DwInGRefIdeal.main_arg0)
      ∧ r.2.mem ((c.tc : Thread Cert.DwInGRefIdeal.nD Cert.DwInGRefIdeal.τ).loc Cert.DwInGRefIdeal.main_arg1) = m ((c.tc : Thread Cert.DwInGRefIdeal.nD Cert.DwInGRefIdeal.τ).loc Cert.DwInGRefIdeal.main_arg1))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2)
      ∧ r.2.mem ((c.tc : Thread Cert.ConvFwd.nD Cert.ConvFwd.τ).loc Cert.ConvFwd.main_arg3) = m ((c.tc : Thread Cert.ConvFwd.nD Cert.ConvFwd.τ).loc Cert.ConvFwd.main_arg3)
      ∧ r.2.mem ((c.tc : Thread Cert.ConvFwd.nD Cert.ConvFwd.τ).loc Cert.ConvFwd.main_arg4) = m ((c.tc : Thread Cert.ConvFwd.nD Cert.ConvFwd.τ).loc Cert.ConvFwd.main_arg4))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
      ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2)
      ∧ r.2.mem ((c.tc : Thread Cert.ConvFwdRefIdeal.nD Cert.ConvFwdRefIdeal.τ).loc Cert.ConvFwdRefIdeal.main_arg3) = m ((c.tc : Thread Cert.ConvFwdRefIdeal.nD Cert.ConvFwdRefIdeal.τ).loc Cert.ConvFwdRefIdeal.main_arg3)
      ∧ r.2.mem ((c.tc : Thread Cert.ConvFwdRefIdeal.nD Cert.ConvFwdRefIdeal.τ).loc Cert.ConvFwdRefIdeal.main_arg4) = m ((c.tc : Thread Cert.ConvFwdRefIdeal.nD Cert.ConvFwdRefIdeal.τ).loc Cert.ConvFwdRefIdeal.main_arg4))
      ∧ r.2.sem = fun _ => 0)

def preserves_Scatter_ScatterIdeal : Prop :=
  True

def algebraic_ScatterIdeal_ScatterRefIdeal [hScatterIdeal : Cert.ScatterIdeal.Facts] [hScatterRefIdeal : Cert.ScatterRefIdeal.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterRefIdeal.nD Cert.ScatterRefIdeal.τ Cert.ScatterRefIdeal.sig) → Buf (Elt Ideal) ℓ) (g' : Dev Cert.ScatterRefIdeal.nD → PrngReg), Pre_ScatterIdeal m →
    (∀ c : Dev Cert.ScatterIdeal.nD,
      m ((c.tc : Thread Cert.ScatterIdeal.nD Cert.ScatterIdeal.τ).loc Cert.ScatterIdeal.main_arg0) = Layout.block ⟨3, ![8, 1024, 1408]⟩ ⟨3, ![64, 1024, 1408]⟩ 0 8 c (m' (((0 : Dev Cert.ScatterRefIdeal.nD).tc : Thread Cert.ScatterRefIdeal.nD Cert.ScatterRefIdeal.τ).loc Cert.ScatterRefIdeal.main_arg0))
      ∧ m ((c.tc : Thread Cert.ScatterIdeal.nD Cert.ScatterIdeal.τ).loc Cert.ScatterIdeal.main_arg1) = Layout.block ⟨3, ![8, 256, 1024]⟩ ⟨3, ![64, 256, 1024]⟩ 0 8 c (m' (((0 : Dev Cert.ScatterRefIdeal.nD).tc : Thread Cert.ScatterRefIdeal.nD Cert.ScatterRefIdeal.τ).loc Cert.ScatterRefIdeal.main_arg1))
      ∧ m ((c.tc : Thread Cert.ScatterIdeal.nD Cert.ScatterIdeal.τ).loc Cert.ScatterIdeal.main_arg2) = Layout.block ⟨3, ![8, 128, 1024]⟩ ⟨3, ![64, 128, 1024]⟩ 0 8 c (m' (((0 : Dev Cert.ScatterRefIdeal.nD).tc : Thread Cert.ScatterRefIdeal.nD Cert.ScatterRefIdeal.τ).loc Cert.ScatterRefIdeal.main_arg2))
      ∧ m ((c.tc : Thread Cert.ScatterIdeal.nD Cert.ScatterIdeal.τ).loc Cert.ScatterIdeal.main_arg3) = Layout.block ⟨3, ![8, 128, 1024]⟩ ⟨3, ![64, 128, 1024]⟩ 0 8 c (m' (((0 : Dev Cert.ScatterRefIdeal.nD).tc : Thread Cert.ScatterRefIdeal.nD Cert.ScatterRefIdeal.τ).loc Cert.ScatterRefIdeal.main_arg3))) →
    ∃ (v0 : Buf (Elt Ideal) (((0 : Dev Cert.ScatterRefIdeal.nD).tc : Thread Cert.ScatterRefIdeal.nD Cert.ScatterRefIdeal.τ).loc Cert.ScatterRefIdeal.main_v2)) (v1 : Buf (Elt Ideal) (((0 : Dev Cert.ScatterRefIdeal.nD).tc : Thread Cert.ScatterRefIdeal.nD Cert.ScatterRefIdeal.τ).loc Cert.ScatterRefIdeal.main_v5)) (v2 : Buf (Elt Ideal) (((0 : Dev Cert.ScatterRefIdeal.nD).tc : Thread Cert.ScatterRefIdeal.nD Cert.ScatterRefIdeal.τ).loc Cert.ScatterRefIdeal.main_v8)) (v3 : Buf (Elt Ideal) (((0 : Dev Cert.ScatterRefIdeal.nD).tc : Thread Cert.ScatterRefIdeal.nD Cert.ScatterRefIdeal.τ).loc Cert.ScatterRefIdeal.main_v11)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v1_0) = Layout.block ⟨3, ![8, 1024, 1408]⟩ ⟨3, ![64, 1024, 1408]⟩ 0 8 c v0
          ∧ r.2.mem ((c.tc : Thread Cert.ScatterIdeal.nD Cert.ScatterIdeal.τ).loc Cert.ScatterIdeal.main_v1_1) = Layout.block ⟨3, ![8, 256, 1024]⟩ ⟨3, ![64, 256, 1024]⟩ 0 8 c v1
          ∧ r.2.mem ((c.tc : Thread Cert.ScatterIdeal.nD Cert.ScatterIdeal.τ).loc Cert.ScatterIdeal.main_v1_2) = Layout.block ⟨3, ![8, 128, 1024]⟩ ⟨3, ![64, 128, 1024]⟩ 0 8 c v2
          ∧ r.2.mem ((c.tc : Thread Cert.ScatterIdeal.nD Cert.ScatterIdeal.τ).loc Cert.ScatterIdeal.main_v1_3) = Layout.block ⟨3, ![8, 128, 1024]⟩ ⟨3, ![64, 128, 1024]⟩ 0 8 c v3
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
          ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
          ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
          ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3))
      ∧ θ_run (Cert.ScatterRefIdeal.defs (F := Ideal)) (onTc (τ := Cert.ScatterRefIdeal.τ) (Cert.ScatterRefIdeal.main (F := Ideal))) ⟨m', fun _ => 0, g'⟩ (fun r =>
          r.2.mem (((0 : Dev Cert.ScatterRefIdeal.nD).tc : Thread Cert.ScatterRefIdeal.nD Cert.ScatterRefIdeal.τ).loc Cert.ScatterRefIdeal.main_v2) = v0
          ∧ r.2.mem (((0 : Dev Cert.ScatterRefIdeal.nD).tc : Thread Cert.ScatterRefIdeal.nD Cert.ScatterRefIdeal.τ).loc Cert.ScatterRefIdeal.main_v5) = v1
          ∧ r.2.mem (((0 : Dev Cert.ScatterRefIdeal.nD).tc : Thread Cert.ScatterRefIdeal.nD Cert.ScatterRefIdeal.τ).loc Cert.ScatterRefIdeal.main_v8) = v2
          ∧ r.2.mem (((0 : Dev Cert.ScatterRefIdeal.nD).tc : Thread Cert.ScatterRefIdeal.nD Cert.ScatterRefIdeal.τ).loc Cert.ScatterRefIdeal.main_v11) = v3
          ∧ r.2.mem (((0 : Dev Cert.ScatterRefIdeal.nD).tc : Thread Cert.ScatterRefIdeal.nD Cert.ScatterRefIdeal.τ).loc Cert.ScatterRefIdeal.main_arg0) = m' (((0 : Dev Cert.ScatterRefIdeal.nD).tc : Thread Cert.ScatterRefIdeal.nD Cert.ScatterRefIdeal.τ).loc Cert.ScatterRefIdeal.main_arg0)
          ∧ r.2.mem (((0 : Dev Cert.ScatterRefIdeal.nD).tc : Thread Cert.ScatterRefIdeal.nD Cert.ScatterRefIdeal.τ).loc Cert.ScatterRefIdeal.main_arg1) = m' (((0 : Dev Cert.ScatterRefIdeal.nD).tc : Thread Cert.ScatterRefIdeal.nD Cert.ScatterRefIdeal.τ).loc Cert.ScatterRefIdeal.main_arg1)
          ∧ r.2.mem (((0 : Dev Cert.ScatterRefIdeal.nD).tc : Thread Cert.ScatterRefIdeal.nD Cert.ScatterRefIdeal.τ).loc Cert.ScatterRefIdeal.main_arg2) = m' (((0 : Dev Cert.ScatterRefIdeal.nD).tc : Thread Cert.ScatterRefIdeal.nD Cert.ScatterRefIdeal.τ).loc Cert.ScatterRefIdeal.main_arg2)
          ∧ r.2.mem (((0 : Dev Cert.ScatterRefIdeal.nD).tc : Thread Cert.ScatterRefIdeal.nD Cert.ScatterRefIdeal.τ).loc Cert.ScatterRefIdeal.main_arg3) = m' (((0 : Dev Cert.ScatterRefIdeal.nD).tc : Thread Cert.ScatterRefIdeal.nD Cert.ScatterRefIdeal.τ).loc Cert.ScatterRefIdeal.main_arg3))

def bitexact_Scatter_ScatterRef [hScatter : Cert.Scatter.Facts] [hScatterRef : Cert.ScatterRef.Facts] : Prop :=
  ∀ (m : (ℓ : Loc Cert.Scatter.nD Cert.Scatter.τ Cert.Scatter.sig) → Buf (Elt Bits) ℓ) (g : Dev Cert.Scatter.nD → PrngReg)
    (m' : (ℓ : Loc Cert.ScatterRef.nD Cert.ScatterRef.τ Cert.ScatterRef.sig) → Buf (Elt Bits) ℓ) (g' : Dev Cert.ScatterRef.nD → PrngReg), Pre_Scatter m →
    (∀ c : Dev Cert.Scatter.nD,
      m ((c.tc : Thread Cert.Scatter.nD Cert.Scatter.τ).loc Cert.Scatter.main_arg0) = Layout.block ⟨3, ![8, 1024, 1408]⟩ ⟨3, ![64, 1024, 1408]⟩ 0 8 c (m' (((0 : Dev Cert.ScatterRef.nD).tc : Thread Cert.ScatterRef.nD Cert.ScatterRef.τ).loc Cert.ScatterRef.main_arg0))
      ∧ m ((c.tc : Thread Cert.Scatter.nD Cert.Scatter.τ).loc Cert.Scatter.main_arg1) = Layout.block ⟨3, ![8, 256, 1024]⟩ ⟨3, ![64, 256, 1024]⟩ 0 8 c (m' (((0 : Dev Cert.ScatterRef.nD).tc : Thread Cert.ScatterRef.nD Cert.ScatterRef.τ).loc Cert.ScatterRef.main_arg1))
      ∧ m ((c.tc : Thread Cert.Scatter.nD Cert.Scatter.τ).loc Cert.Scatter.main_arg2) = Layout.block ⟨3, ![8, 128, 1024]⟩ ⟨3, ![64, 128, 1024]⟩ 0 8 c (m' (((0 : Dev Cert.ScatterRef.nD).tc : Thread Cert.ScatterRef.nD Cert.ScatterRef.τ).loc Cert.ScatterRef.main_arg2))
      ∧ m ((c.tc : Thread Cert.Scatter.nD Cert.Scatter.τ).loc Cert.Scatter.main_arg3) = Layout.block ⟨3, ![8, 128, 1024]⟩ ⟨3, ![64, 128, 1024]⟩ 0 8 c (m' (((0 : Dev Cert.ScatterRef.nD).tc : Thread Cert.ScatterRef.nD Cert.ScatterRef.τ).loc Cert.ScatterRef.main_arg3))) →
    ∃ (v0 : Buf (Elt Bits) (((0 : Dev Cert.ScatterRef.nD).tc : Thread Cert.ScatterRef.nD Cert.ScatterRef.τ).loc Cert.ScatterRef.main_v2)) (v1 : Buf (Elt Bits) (((0 : Dev Cert.ScatterRef.nD).tc : Thread Cert.ScatterRef.nD Cert.ScatterRef.τ).loc Cert.ScatterRef.main_v5)) (v2 : Buf (Elt Bits) (((0 : Dev Cert.ScatterRef.nD).tc : Thread Cert.ScatterRef.nD Cert.ScatterRef.τ).loc Cert.ScatterRef.main_v8)) (v3 : Buf (Elt Bits) (((0 : Dev Cert.ScatterRef.nD).tc : Thread Cert.ScatterRef.nD Cert.ScatterRef.τ).loc Cert.ScatterRef.main_v11)),
      θ_run (Cert.Scatter.defs (F := Bits)) (onTc (τ := Cert.Scatter.τ) (Cert.Scatter.main (F := Bits))) ⟨m, fun _ => 0, g⟩ (fun r => ∀ c : Dev Cert.Scatter.nD,
          r.2.mem ((c.tc : Thread Cert.Scatter.nD Cert.Scatter.τ).loc Cert.Scatter.main_v1_0) = Layout.block ⟨3, ![8, 1024, 1408]⟩ ⟨3, ![64, 1024, 1408]⟩ 0 8 c v0
          ∧ r.2.mem ((c.tc : Thread Cert.Scatter.nD Cert.Scatter.τ).loc Cert.Scatter.main_v1_1) = Layout.block ⟨3, ![8, 256, 1024]⟩ ⟨3, ![64, 256, 1024]⟩ 0 8 c v1
          ∧ r.2.mem ((c.tc : Thread Cert.Scatter.nD Cert.Scatter.τ).loc Cert.Scatter.main_v1_2) = Layout.block ⟨3, ![8, 128, 1024]⟩ ⟨3, ![64, 128, 1024]⟩ 0 8 c v2
          ∧ r.2.mem ((c.tc : Thread Cert.Scatter.nD Cert.Scatter.τ).loc Cert.Scatter.main_v1_3) = Layout.block ⟨3, ![8, 128, 1024]⟩ ⟨3, ![64, 128, 1024]⟩ 0 8 c v3
          ∧ r.2.mem ((c.tc : Thread Cert.Scatter.nD Cert.Scatter.τ).loc Cert.Scatter.main_arg0) = m ((c.tc : Thread Cert.Scatter.nD Cert.Scatter.τ).loc Cert.Scatter.main_arg0)
          ∧ r.2.mem ((c.tc : Thread Cert.Scatter.nD Cert.Scatter.τ).loc Cert.Scatter.main_arg1) = m ((c.tc : Thread Cert.Scatter.nD Cert.Scatter.τ).loc Cert.Scatter.main_arg1)
          ∧ r.2.mem ((c.tc : Thread Cert.Scatter.nD Cert.Scatter.τ).loc Cert.Scatter.main_arg2) = m ((c.tc : Thread Cert.Scatter.nD Cert.Scatter.τ).loc Cert.Scatter.main_arg2)
          ∧ r.2.mem ((c.tc : Thread Cert.Scatter.nD Cert.Scatter.τ).loc Cert.Scatter.main_arg3) = m ((c.tc : Thread Cert.Scatter.nD Cert.Scatter.τ).loc Cert.Scatter.main_arg3))
      ∧ θ_run (Cert.ScatterRef.defs (F := Bits)) (onTc (τ := Cert.ScatterRef.τ) (Cert.ScatterRef.main (F := Bits))) ⟨m', fun _ => 0, g'⟩ (fun r =>
          r.2.mem (((0 : Dev Cert.ScatterRef.nD).tc : Thread Cert.ScatterRef.nD Cert.ScatterRef.τ).loc Cert.ScatterRef.main_v2) = v0
          ∧ r.2.mem (((0 : Dev Cert.ScatterRef.nD).tc : Thread Cert.ScatterRef.nD Cert.ScatterRef.τ).loc Cert.ScatterRef.main_v5) = v1
          ∧ r.2.mem (((0 : Dev Cert.ScatterRef.nD).tc : Thread Cert.ScatterRef.nD Cert.ScatterRef.τ).loc Cert.ScatterRef.main_v8) = v2
          ∧ r.2.mem (((0 : Dev Cert.ScatterRef.nD).tc : Thread Cert.ScatterRef.nD Cert.ScatterRef.τ).loc Cert.ScatterRef.main_v11) = v3
          ∧ r.2.mem (((0 : Dev Cert.ScatterRef.nD).tc : Thread Cert.ScatterRef.nD Cert.ScatterRef.τ).loc Cert.ScatterRef.main_arg0) = m' (((0 : Dev Cert.ScatterRef.nD).tc : Thread Cert.ScatterRef.nD Cert.ScatterRef.τ).loc Cert.ScatterRef.main_arg0)
          ∧ r.2.mem (((0 : Dev Cert.ScatterRef.nD).tc : Thread Cert.ScatterRef.nD Cert.ScatterRef.τ).loc Cert.ScatterRef.main_arg1) = m' (((0 : Dev Cert.ScatterRef.nD).tc : Thread Cert.ScatterRef.nD Cert.ScatterRef.τ).loc Cert.ScatterRef.main_arg1)
          ∧ r.2.mem (((0 : Dev Cert.ScatterRef.nD).tc : Thread Cert.ScatterRef.nD Cert.ScatterRef.τ).loc Cert.ScatterRef.main_arg2) = m' (((0 : Dev Cert.ScatterRef.nD).tc : Thread Cert.ScatterRef.nD Cert.ScatterRef.τ).loc Cert.ScatterRef.main_arg2)
          ∧ r.2.mem (((0 : Dev Cert.ScatterRef.nD).tc : Thread Cert.ScatterRef.nD Cert.ScatterRef.τ).loc Cert.ScatterRef.main_arg3) = m' (((0 : Dev Cert.ScatterRef.nD).tc : Thread Cert.ScatterRef.nD Cert.ScatterRef.τ).loc Cert.ScatterRef.main_arg3))

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![1024, 1408]⟩ ⟨2, ![8192, 1408]⟩ 0 8 c (m' (((0 : Dev Cert.GatherRefIdeal.nD).tc : Thread Cert.GatherRefIdeal.nD Cert.GatherRefIdeal.τ).loc Cert.GatherRefIdeal.main_arg0))
      ∧ m ((c.tc : Thread Cert.GatherIdeal.nD Cert.GatherIdeal.τ).loc Cert.GatherIdeal.main_arg1) = Layout.block ⟨2, ![256, 1024]⟩ ⟨2, ![2048, 1024]⟩ 0 8 c (m' (((0 : Dev Cert.GatherRefIdeal.nD).tc : Thread Cert.GatherRefIdeal.nD Cert.GatherRefIdeal.τ).loc Cert.GatherRefIdeal.main_arg1))
      ∧ m ((c.tc : Thread Cert.GatherIdeal.nD Cert.GatherIdeal.τ).loc Cert.GatherIdeal.main_arg2) = Layout.block ⟨2, ![128, 1024]⟩ ⟨2, ![1024, 1024]⟩ 0 8 c (m' (((0 : Dev Cert.GatherRefIdeal.nD).tc : Thread Cert.GatherRefIdeal.nD Cert.GatherRefIdeal.τ).loc Cert.GatherRefIdeal.main_arg2))
      ∧ m ((c.tc : Thread Cert.GatherIdeal.nD Cert.GatherIdeal.τ).loc Cert.GatherIdeal.main_arg3) = Layout.block ⟨2, ![128, 1024]⟩ ⟨2, ![1024, 1024]⟩ 0 8 c (m' (((0 : Dev Cert.GatherRefIdeal.nD).tc : Thread Cert.GatherRefIdeal.nD Cert.GatherRefIdeal.τ).loc Cert.GatherRefIdeal.main_arg3))) →
    ∃ (v0 : Buf (Elt Ideal) (((0 : Dev Cert.GatherRefIdeal.nD).tc : Thread Cert.GatherRefIdeal.nD Cert.GatherRefIdeal.τ).loc Cert.GatherRefIdeal.main_v0)) (v1 : Buf (Elt Ideal) (((0 : Dev Cert.GatherRefIdeal.nD).tc : Thread Cert.GatherRefIdeal.nD Cert.GatherRefIdeal.τ).loc Cert.GatherRefIdeal.main_v1)) (v2 : Buf (Elt Ideal) (((0 : Dev Cert.GatherRefIdeal.nD).tc : Thread Cert.GatherRefIdeal.nD Cert.GatherRefIdeal.τ).loc Cert.GatherRefIdeal.main_v2)) (v3 : Buf (Elt Ideal) (((0 : Dev Cert.GatherRefIdeal.nD).tc : Thread Cert.GatherRefIdeal.nD Cert.GatherRefIdeal.τ).loc Cert.GatherRefIdeal.main_v3)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_v1_3) = v3
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_v1) = v1
          ∧ r.2.mem (((0 : Dev Cert.GatherRefIdeal.nD).tc : Thread Cert.GatherRefIdeal.nD Cert.GatherRefIdeal.τ).loc Cert.GatherRefIdeal.main_v2) = v2
          ∧ r.2.mem (((0 : Dev Cert.GatherRefIdeal.nD).tc : Thread Cert.GatherRefIdeal.nD Cert.GatherRefIdeal.τ).loc Cert.GatherRefIdeal.main_v3) = v3
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0)
          ∧ r.2.mem (((0 : Dev Cert.GatherRefIdeal.nD).tc : Thread Cert.GatherRefIdeal.nD Cert.GatherRefIdeal.τ).loc Cert.GatherRefIdeal.main_arg1) = m' (((0 : Dev Cert.GatherRefIdeal.nD).tc : Thread Cert.GatherRefIdeal.nD Cert.GatherRefIdeal.τ).loc Cert.GatherRefIdeal.main_arg1)
          ∧ r.2.mem (((0 : Dev Cert.GatherRefIdeal.nD).tc : Thread Cert.GatherRefIdeal.nD Cert.GatherRefIdeal.τ).loc Cert.GatherRefIdeal.main_arg2) = m' (((0 : Dev Cert.GatherRefIdeal.nD).tc : Thread Cert.GatherRefIdeal.nD Cert.GatherRefIdeal.τ).loc Cert.GatherRefIdeal.main_arg2)
          ∧ r.2.mem (((0 : Dev Cert.GatherRefIdeal.nD).tc : Thread Cert.GatherRefIdeal.nD Cert.GatherRefIdeal.τ).loc Cert.GatherRefIdeal.main_arg3) = m' (((0 : Dev Cert.GatherRefIdeal.nD).tc : Thread Cert.GatherRefIdeal.nD Cert.GatherRefIdeal.τ).loc Cert.GatherRefIdeal.main_arg3))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.block ⟨2, ![1024, 1408]⟩ ⟨2, ![8192, 1408]⟩ 0 8 c (m' (((0 : Dev Cert.GatherRef.nD).tc : Thread Cert.GatherRef.nD Cert.GatherRef.τ).loc Cert.GatherRef.main_arg0))
      ∧ m ((c.tc : Thread Cert.Gather.nD Cert.Gather.τ).loc Cert.Gather.main_arg1) = Layout.block ⟨2, ![256, 1024]⟩ ⟨2, ![2048, 1024]⟩ 0 8 c (m' (((0 : Dev Cert.GatherRef.nD).tc : Thread Cert.GatherRef.nD Cert.GatherRef.τ).loc Cert.GatherRef.main_arg1))
      ∧ m ((c.tc : Thread Cert.Gather.nD Cert.Gather.τ).loc Cert.Gather.main_arg2) = Layout.block ⟨2, ![128, 1024]⟩ ⟨2, ![1024, 1024]⟩ 0 8 c (m' (((0 : Dev Cert.GatherRef.nD).tc : Thread Cert.GatherRef.nD Cert.GatherRef.τ).loc Cert.GatherRef.main_arg2))
      ∧ m ((c.tc : Thread Cert.Gather.nD Cert.Gather.τ).loc Cert.Gather.main_arg3) = Layout.block ⟨2, ![128, 1024]⟩ ⟨2, ![1024, 1024]⟩ 0 8 c (m' (((0 : Dev Cert.GatherRef.nD).tc : Thread Cert.GatherRef.nD Cert.GatherRef.τ).loc Cert.GatherRef.main_arg3))) →
    ∃ (v0 : Buf (Elt Bits) (((0 : Dev Cert.GatherRef.nD).tc : Thread Cert.GatherRef.nD Cert.GatherRef.τ).loc Cert.GatherRef.main_v0)) (v1 : Buf (Elt Bits) (((0 : Dev Cert.GatherRef.nD).tc : Thread Cert.GatherRef.nD Cert.GatherRef.τ).loc Cert.GatherRef.main_v1)) (v2 : Buf (Elt Bits) (((0 : Dev Cert.GatherRef.nD).tc : Thread Cert.GatherRef.nD Cert.GatherRef.τ).loc Cert.GatherRef.main_v2)) (v3 : Buf (Elt Bits) (((0 : Dev Cert.GatherRef.nD).tc : Thread Cert.GatherRef.nD Cert.GatherRef.τ).loc Cert.GatherRef.main_v3)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = v0
          ∧ r.2.mem ((c.tc : Thread Cert.Gather.nD Cert.Gather.τ).loc Cert.Gather.main_v1_1) = v1
          ∧ r.2.mem ((c.tc : Thread Cert.Gather.nD Cert.Gather.τ).loc Cert.Gather.main_v1_2) = v2
          ∧ r.2.mem ((c.tc : Thread Cert.Gather.nD Cert.Gather.τ).loc Cert.Gather.main_v1_3) = v3
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2)
          ∧ r.2.mem ((c.tc : Thread Cert.Gather.nD Cert.Gather.τ).loc Cert.Gather.main_arg3) = m ((c.tc : Thread Cert.Gather.nD Cert.Gather.τ).loc Cert.Gather.main_arg3))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v0) = v0
          ∧ r.2.mem (((0 : Dev Cert.GatherRef.nD).tc : Thread Cert.GatherRef.nD Cert.GatherRef.τ).loc Cert.GatherRef.main_v1) = v1
          ∧ r.2.mem (((0 : Dev Cert.GatherRef.nD).tc : Thread Cert.GatherRef.nD Cert.GatherRef.τ).loc Cert.GatherRef.main_v2) = v2
          ∧ r.2.mem (((0 : Dev Cert.GatherRef.nD).tc : Thread Cert.GatherRef.nD Cert.GatherRef.τ).loc Cert.GatherRef.main_v3) = v3
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0)
          ∧ r.2.mem (((0 : Dev Cert.GatherRef.nD).tc : Thread Cert.GatherRef.nD Cert.GatherRef.τ).loc Cert.GatherRef.main_arg1) = m' (((0 : Dev Cert.GatherRef.nD).tc : Thread Cert.GatherRef.nD Cert.GatherRef.τ).loc Cert.GatherRef.main_arg1)
          ∧ r.2.mem (((0 : Dev Cert.GatherRef.nD).tc : Thread Cert.GatherRef.nD Cert.GatherRef.τ).loc Cert.GatherRef.main_arg2) = m' (((0 : Dev Cert.GatherRef.nD).tc : Thread Cert.GatherRef.nD Cert.GatherRef.τ).loc Cert.GatherRef.main_arg2)
          ∧ r.2.mem (((0 : Dev Cert.GatherRef.nD).tc : Thread Cert.GatherRef.nD Cert.GatherRef.τ).loc Cert.GatherRef.main_arg3) = m' (((0 : Dev Cert.GatherRef.nD).tc : Thread Cert.GatherRef.nD Cert.GatherRef.τ).loc Cert.GatherRef.main_arg3))

def preserves_Update_UpdateIdeal : Prop :=
  True

def algebraic_UpdateIdeal_UpdateRefIdeal [hUpdateIdeal : Cert.UpdateIdeal.Facts] [hUpdateRefIdeal : Cert.UpdateRefIdeal.Facts] : Prop :=
  ∀ (m : (ℓ : Loc Cert.UpdateIdeal.nD Cert.UpdateIdeal.τ Cert.UpdateIdeal.sig) → Buf (Elt Ideal) ℓ) (g : Dev Cert.UpdateIdeal.nD → PrngReg)
    (m' : (ℓ : Loc Cert.UpdateRefIdeal.nD Cert.UpdateRefIdeal.τ Cert.UpdateRefIdeal.sig) → Buf (Elt Ideal) ℓ) (g' : Dev Cert.UpdateRefIdeal.nD → PrngReg), Pre_UpdateIdeal m →
    (∀ c : Dev Cert.UpdateIdeal.nD,
      m ((c.tc : Thread Cert.UpdateIdeal.nD Cert.UpdateIdeal.τ).loc Cert.UpdateIdeal.main_arg0) = Layout.block ⟨3, ![8, 1024, 1408]⟩ ⟨3, ![64, 1024, 1408]⟩ 0 8 c (m' (((0 : Dev Cert.UpdateRefIdeal.nD).tc : Thread Cert.UpdateRefIdeal.nD Cert.UpdateRefIdeal.τ).loc Cert.UpdateRefIdeal.main_arg0))
      ∧ m ((c.tc : Thread Cert.UpdateIdeal.nD Cert.UpdateIdeal.τ).loc Cert.UpdateIdeal.main_arg1) = Layout.block ⟨3, ![8, 256, 1024]⟩ ⟨3, ![64, 256, 1024]⟩ 0 8 c (m' (((0 : Dev Cert.UpdateRefIdeal.nD).tc : Thread Cert.UpdateRefIdeal.nD Cert.UpdateRefIdeal.τ).loc Cert.UpdateRefIdeal.main_arg1))
      ∧ m ((c.tc : Thread Cert.UpdateIdeal.nD Cert.UpdateIdeal.τ).loc Cert.UpdateIdeal.main_arg2) = Layout.block ⟨3, ![8, 128, 1024]⟩ ⟨3, ![64, 128, 1024]⟩ 0 8 c (m' (((0 : Dev Cert.UpdateRefIdeal.nD).tc : Thread Cert.UpdateRefIdeal.nD Cert.UpdateRefIdeal.τ).loc Cert.UpdateRefIdeal.main_arg2))
      ∧ m ((c.tc : Thread Cert.UpdateIdeal.nD Cert.UpdateIdeal.τ).loc Cert.UpdateIdeal.main_arg3) = Layout.block ⟨3, ![8, 128, 1024]⟩ ⟨3, ![64, 128, 1024]⟩ 0 8 c (m' (((0 : Dev Cert.UpdateRefIdeal.nD).tc : Thread Cert.UpdateRefIdeal.nD Cert.UpdateRefIdeal.τ).loc Cert.UpdateRefIdeal.main_arg3))
      ∧ m ((c.tc : Thread Cert.UpdateIdeal.nD Cert.UpdateIdeal.τ).loc Cert.UpdateIdeal.main_arg4) = Layout.block ⟨2, ![1024, 1408]⟩ ⟨2, ![1024, 11264]⟩ 1 8 c (m' (((0 : Dev Cert.UpdateRefIdeal.nD).tc : Thread Cert.UpdateRefIdeal.nD Cert.UpdateRefIdeal.τ).loc Cert.UpdateRefIdeal.main_arg4))
      ∧ m ((c.tc : Thread Cert.UpdateIdeal.nD Cert.UpdateIdeal.τ).loc Cert.UpdateIdeal.main_arg5) = Layout.block ⟨2, ![256, 1024]⟩ ⟨2, ![2048, 1024]⟩ 0 8 c (m' (((0 : Dev Cert.UpdateRefIdeal.nD).tc : Thread Cert.UpdateRefIdeal.nD Cert.UpdateRefIdeal.τ).loc Cert.UpdateRefIdeal.main_arg5))
      ∧ m ((c.tc : Thread Cert.UpdateIdeal.nD Cert.UpdateIdeal.τ).loc Cert.UpdateIdeal.main_arg6) = Layout.block ⟨2, ![128, 1024]⟩ ⟨2, ![1024, 1024]⟩ 0 8 c (m' (((0 : Dev Cert.UpdateRefIdeal.nD).tc : Thread Cert.UpdateRefIdeal.nD Cert.UpdateRefIdeal.τ).loc Cert.UpdateRefIdeal.main_arg6))
      ∧ m ((c.tc : Thread Cert.UpdateIdeal.nD Cert.UpdateIdeal.τ).loc Cert.UpdateIdeal.main_arg7) = Layout.block ⟨2, ![128, 1024]⟩ ⟨2, ![1024, 1024]⟩ 0 8 c (m' (((0 : Dev Cert.UpdateRefIdeal.nD).tc : Thread Cert.UpdateRefIdeal.nD Cert.UpdateRefIdeal.τ).loc Cert.UpdateRefIdeal.main_arg7))
      ∧ m ((c.tc : Thread Cert.UpdateIdeal.nD Cert.UpdateIdeal.τ).loc Cert.UpdateIdeal.main_arg8) = Layout.block ⟨2, ![1024, 1408]⟩ ⟨2, ![1024, 11264]⟩ 1 8 c (m' (((0 : Dev Cert.UpdateRefIdeal.nD).tc : Thread Cert.UpdateRefIdeal.nD Cert.UpdateRefIdeal.τ).loc Cert.UpdateRefIdeal.main_arg8))
      ∧ m ((c.tc : Thread Cert.UpdateIdeal.nD Cert.UpdateIdeal.τ).loc Cert.UpdateIdeal.main_arg9) = Layout.block ⟨2, ![256, 1024]⟩ ⟨2, ![2048, 1024]⟩ 0 8 c (m' (((0 : Dev Cert.UpdateRefIdeal.nD).tc : Thread Cert.UpdateRefIdeal.nD Cert.UpdateRefIdeal.τ).loc Cert.UpdateRefIdeal.main_arg9))
      ∧ m ((c.tc : Thread Cert.UpdateIdeal.nD Cert.UpdateIdeal.τ).loc Cert.UpdateIdeal.main_arg10) = Layout.block ⟨2, ![128, 1024]⟩ ⟨2, ![1024, 1024]⟩ 0 8 c (m' (((0 : Dev Cert.UpdateRefIdeal.nD).tc : Thread Cert.UpdateRefIdeal.nD Cert.UpdateRefIdeal.τ).loc Cert.UpdateRefIdeal.main_arg10))
      ∧ m ((c.tc : Thread Cert.UpdateIdeal.nD Cert.UpdateIdeal.τ).loc Cert.UpdateIdeal.main_arg11) = Layout.block ⟨2, ![128, 1024]⟩ ⟨2, ![1024, 1024]⟩ 0 8 c (m' (((0 : Dev Cert.UpdateRefIdeal.nD).tc : Thread Cert.UpdateRefIdeal.nD Cert.UpdateRefIdeal.τ).loc Cert.UpdateRefIdeal.main_arg11))
      ∧ m ((c.tc : Thread Cert.UpdateIdeal.nD Cert.UpdateIdeal.τ).loc Cert.UpdateIdeal.main_arg12) = Layout.block ⟨2, ![1024, 1408]⟩ ⟨2, ![1024, 11264]⟩ 1 8 c (m' (((0 : Dev Cert.UpdateRefIdeal.nD).tc : Thread Cert.UpdateRefIdeal.nD Cert.UpdateRefIdeal.τ).loc Cert.UpdateRefIdeal.main_arg12))
      ∧ m ((c.tc : Thread Cert.UpdateIdeal.nD Cert.UpdateIdeal.τ).loc Cert.UpdateIdeal.main_arg13) = Layout.block ⟨2, ![256, 1024]⟩ ⟨2, ![2048, 1024]⟩ 0 8 c (m' (((0 : Dev Cert.UpdateRefIdeal.nD).tc : Thread Cert.UpdateRefIdeal.nD Cert.UpdateRefIdeal.τ).loc Cert.UpdateRefIdeal.main_arg13))
      ∧ m ((c.tc : Thread Cert.UpdateIdeal.nD Cert.UpdateIdeal.τ).loc Cert.UpdateIdeal.main_arg14) = Layout.block ⟨2, ![128, 1024]⟩ ⟨2, ![1024, 1024]⟩ 0 8 c (m' (((0 : Dev Cert.UpdateRefIdeal.nD).tc : Thread Cert.UpdateRefIdeal.nD Cert.UpdateRefIdeal.τ).loc Cert.UpdateRefIdeal.main_arg14))
      ∧ m ((c.tc : Thread Cert.UpdateIdeal.nD Cert.UpdateIdeal.τ).loc Cert.UpdateIdeal.main_arg15) = Layout.block ⟨2, ![128, 1024]⟩ ⟨2, ![1024, 1024]⟩ 0 8 c (m' (((0 : Dev Cert.UpdateRefIdeal.nD).tc : Thread Cert.UpdateRefIdeal.nD Cert.UpdateRefIdeal.τ).loc Cert.UpdateRefIdeal.main_arg15))) →
    ∃ (v0 : Buf (Elt Ideal) (((0 : Dev Cert.UpdateRefIdeal.nD).tc : Thread Cert.UpdateRefIdeal.nD Cert.UpdateRefIdeal.τ).loc Cert.UpdateRefIdeal.main_v13)) (v1 : Buf (Elt Ideal) (((0 : Dev Cert.UpdateRefIdeal.nD).tc : Thread Cert.UpdateRefIdeal.nD Cert.UpdateRefIdeal.τ).loc Cert.UpdateRefIdeal.main_v40)) (v2 : Buf (Elt Ideal) (((0 : Dev Cert.UpdateRefIdeal.nD).tc : Thread Cert.UpdateRefIdeal.nD Cert.UpdateRefIdeal.τ).loc Cert.UpdateRefIdeal.main_v21)) (v3 : Buf (Elt Ideal) (((0 : Dev Cert.UpdateRefIdeal.nD).tc : Thread Cert.UpdateRefIdeal.nD Cert.UpdateRefIdeal.τ).loc Cert.UpdateRefIdeal.main_v27)) (v4 : Buf (Elt Ideal) (((0 : Dev Cert.UpdateRefIdeal.nD).tc : Thread Cert.UpdateRefIdeal.nD Cert.UpdateRefIdeal.τ).loc Cert.UpdateRefIdeal.main_v14)) (v5 : Buf (Elt Ideal) (((0 : Dev Cert.UpdateRefIdeal.nD).tc : Thread Cert.UpdateRefIdeal.nD Cert.UpdateRefIdeal.τ).loc Cert.UpdateRefIdeal.main_v64)) (v6 : Buf (Elt Ideal) (((0 : Dev Cert.UpdateRefIdeal.nD).tc : Thread Cert.UpdateRefIdeal.nD Cert.UpdateRefIdeal.τ).loc Cert.UpdateRefIdeal.main_v45)) (v7 : Buf (Elt Ideal) (((0 : Dev Cert.UpdateRefIdeal.nD).tc : Thread Cert.UpdateRefIdeal.nD Cert.UpdateRefIdeal.τ).loc Cert.UpdateRefIdeal.main_v51)) (v8 : Buf (Elt Ideal) (((0 : Dev Cert.UpdateRefIdeal.nD).tc : Thread Cert.UpdateRefIdeal.nD Cert.UpdateRefIdeal.τ).loc Cert.UpdateRefIdeal.main_v15)) (v9 : Buf (Elt Ideal) (((0 : Dev Cert.UpdateRefIdeal.nD).tc : Thread Cert.UpdateRefIdeal.nD Cert.UpdateRefIdeal.τ).loc Cert.UpdateRefIdeal.main_v88)) (v10 : Buf (Elt Ideal) (((0 : Dev Cert.UpdateRefIdeal.nD).tc : Thread Cert.UpdateRefIdeal.nD Cert.UpdateRefIdeal.τ).loc Cert.UpdateRefIdeal.main_v69)) (v11 : Buf (Elt Ideal) (((0 : Dev Cert.UpdateRefIdeal.nD).tc : Thread Cert.UpdateRefIdeal.nD Cert.UpdateRefIdeal.τ).loc Cert.UpdateRefIdeal.main_v75)) (v12 : Buf (Elt Ideal) (((0 : Dev Cert.UpdateRefIdeal.nD).tc : Thread Cert.UpdateRefIdeal.nD Cert.UpdateRefIdeal.τ).loc Cert.UpdateRefIdeal.main_v16)) (v13 : Buf (Elt Ideal) (((0 : Dev Cert.UpdateRefIdeal.nD).tc : Thread Cert.UpdateRefIdeal.nD Cert.UpdateRefIdeal.τ).loc Cert.UpdateRefIdeal.main_v112)) (v14 : Buf (Elt Ideal) (((0 : Dev Cert.UpdateRefIdeal.nD).tc : Thread Cert.UpdateRefIdeal.nD Cert.UpdateRefIdeal.τ).loc Cert.UpdateRefIdeal.main_v93)) (v15 : Buf (Elt Ideal) (((0 : Dev Cert.UpdateRefIdeal.nD).tc : Thread Cert.UpdateRefIdeal.nD Cert.UpdateRefIdeal.τ).loc Cert.UpdateRefIdeal.main_v99)),
      θ_run (Cert.UpdateIdeal.defs (F := Ideal)) (onTc (τ := Cert.UpdateIdeal.τ) (Cert.UpdateIdeal.main (F := Ideal))) ⟨m, fun _ => 0, g⟩ (fun r => ∀ c : Dev Cert.UpdateIdeal.nD,
          r.2.mem ((c.tc : Thread Cert.UpdateIdeal.nD Cert.UpdateIdeal.τ).loc Cert.UpdateIdeal.main_v2_0) = Layout.block ⟨2, ![1024, 1408]⟩ ⟨2, ![1024, 11264]⟩ 1 8 c v0
          ∧ r.2.mem ((c.tc : Thread Cert.UpdateIdeal.nD Cert.UpdateIdeal.τ).loc Cert.UpdateIdeal.main_v2_1) = Layout.block ⟨2, ![1024, 1408]⟩ ⟨2, ![1024, 11264]⟩ 1 8 c v1
          ∧ r.2.mem ((c.tc : Thread Cert.UpdateIdeal.nD Cert.UpdateIdeal.τ).loc Cert.UpdateIdeal.main_v2_2) = Layout.block ⟨2, ![1024, 1408]⟩ ⟨2, ![1024, 11264]⟩ 1 8 c v2
          ∧ r.2.mem ((c.tc : Thread Cert.UpdateIdeal.nD Cert.UpdateIdeal.τ).loc Cert.UpdateIdeal.main_v2_3) = Layout.block ⟨2, ![1024, 1408]⟩ ⟨2, ![1024, 11264]⟩ 1 8 c v3
          ∧ r.2.mem ((c.tc : Thread Cert.UpdateIdeal.nD Cert.UpdateIdeal.τ).loc Cert.UpdateIdeal.main_v3_0) = Layout.block ⟨2, ![256, 1024]⟩ ⟨2, ![2048, 1024]⟩ 0 8 c v4
          ∧ r.2.mem ((c.tc : Thread Cert.UpdateIdeal.nD Cert.UpdateIdeal.τ).loc Cert.UpdateIdeal.main_v3_1) = Layout.block ⟨2, ![256, 1024]⟩ ⟨2, ![2048, 1024]⟩ 0 8 c v5
          ∧ r.2.mem ((c.tc : Thread Cert.UpdateIdeal.nD Cert.UpdateIdeal.τ).loc Cert.UpdateIdeal.main_v3_2) = Layout.block ⟨2, ![256, 1024]⟩ ⟨2, ![2048, 1024]⟩ 0 8 c v6
          ∧ r.2.mem ((c.tc : Thread Cert.UpdateIdeal.nD Cert.UpdateIdeal.τ).loc Cert.UpdateIdeal.main_v3_3) = Layout.block ⟨2, ![256, 1024]⟩ ⟨2, ![2048, 1024]⟩ 0 8 c v7
          ∧ r.2.mem ((c.tc : Thread Cert.UpdateIdeal.nD Cert.UpdateIdeal.τ).loc Cert.UpdateIdeal.main_v4_0) = Layout.block ⟨2, ![128, 1024]⟩ ⟨2, ![1024, 1024]⟩ 0 8 c v8
          ∧ r.2.mem ((c.tc : Thread Cert.UpdateIdeal.nD Cert.UpdateIdeal.τ).loc Cert.UpdateIdeal.main_v4_1) = Layout.block ⟨2, ![128, 1024]⟩ ⟨2, ![1024, 1024]⟩ 0 8 c v9
          ∧ r.2.mem ((c.tc : Thread Cert.UpdateIdeal.nD Cert.UpdateIdeal.τ).loc Cert.UpdateIdeal.main_v4_2) = Layout.block ⟨2, ![128, 1024]⟩ ⟨2, ![1024, 1024]⟩ 0 8 c v10
          ∧ r.2.mem ((c.tc : Thread Cert.UpdateIdeal.nD Cert.UpdateIdeal.τ).loc Cert.UpdateIdeal.main_v4_3) = Layout.block ⟨2, ![128, 1024]⟩ ⟨2, ![1024, 1024]⟩ 0 8 c v11
          ∧ r.2.mem ((c.tc : Thread Cert.UpdateIdeal.nD Cert.UpdateIdeal.τ).loc Cert.UpdateIdeal.main_v5_0) = Layout.block ⟨2, ![128, 1024]⟩ ⟨2, ![1024, 1024]⟩ 0 8 c v12
          ∧ r.2.mem ((c.tc : Thread Cert.UpdateIdeal.nD Cert.UpdateIdeal.τ).loc Cert.UpdateIdeal.main_v5_1) = Layout.block ⟨2, ![128, 1024]⟩ ⟨2, ![1024, 1024]⟩ 0 8 c v13
          ∧ r.2.mem ((c.tc : Thread Cert.UpdateIdeal.nD Cert.UpdateIdeal.τ).loc Cert.UpdateIdeal.main_v5_2) = Layout.block ⟨2, ![128, 1024]⟩ ⟨2, ![1024, 1024]⟩ 0 8 c v14
          ∧ r.2.mem ((c.tc : Thread Cert.UpdateIdeal.nD Cert.UpdateIdeal.τ).loc Cert.UpdateIdeal.main_v5_3) = Layout.block ⟨2, ![128, 1024]⟩ ⟨2, ![1024, 1024]⟩ 0 8 c v15
          ∧ r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
          ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
          ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
          ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3)
          ∧ r.2.mem ((c.tc : Thread Cert.UpdateIdeal.nD Cert.UpdateIdeal.τ).loc Cert.UpdateIdeal.main_arg4) = m ((c.tc : Thread Cert.UpdateIdeal.nD Cert.UpdateIdeal.τ).loc Cert.UpdateIdeal.main_arg4)
          ∧ r.2.mem ((c.tc : Thread Cert.UpdateIdeal.nD Cert.UpdateIdeal.τ).loc Cert.UpdateIdeal.main_arg5) = m ((c.tc : Thread Cert.UpdateIdeal.nD Cert.UpdateIdeal.τ).loc Cert.UpdateIdeal.main_arg5)
          ∧ r.2.mem ((c.tc : Thread Cert.UpdateIdeal.nD Cert.UpdateIdeal.τ).loc Cert.UpdateIdeal.main_arg6) = m ((c.tc : Thread Cert.UpdateIdeal.nD Cert.UpdateIdeal.τ).loc Cert.UpdateIdeal.main_arg6)
          ∧ r.2.mem ((c.tc : Thread Cert.UpdateIdeal.nD Cert.UpdateIdeal.τ).loc Cert.UpdateIdeal.main_arg7) = m ((c.tc : Thread Cert.UpdateIdeal.nD Cert.UpdateIdeal.τ).loc Cert.UpdateIdeal.main_arg7)
          ∧ r.2.mem ((c.tc : Thread Cert.UpdateIdeal.nD Cert.UpdateIdeal.τ).loc Cert.UpdateIdeal.main_arg8) = m ((c.tc : Thread Cert.UpdateIdeal.nD Cert.UpdateIdeal.τ).loc Cert.UpdateIdeal.main_arg8)
          ∧ r.2.mem ((c.tc : Thread Cert.UpdateIdeal.nD Cert.UpdateIdeal.τ).loc Cert.UpdateIdeal.main_arg9) = m ((c.tc : Thread Cert.UpdateIdeal.nD Cert.UpdateIdeal.τ).loc Cert.UpdateIdeal.main_arg9)
          ∧ r.2.mem ((c.tc : Thread Cert.UpdateIdeal.nD Cert.UpdateIdeal.τ).loc Cert.UpdateIdeal.main_arg10) = m ((c.tc : Thread Cert.UpdateIdeal.nD Cert.UpdateIdeal.τ).loc Cert.UpdateIdeal.main_arg10)
          ∧ r.2.mem ((c.tc : Thread Cert.UpdateIdeal.nD Cert.UpdateIdeal.τ).loc Cert.UpdateIdeal.main_arg11) = m ((c.tc : Thread Cert.UpdateIdeal.nD Cert.UpdateIdeal.τ).loc Cert.UpdateIdeal.main_arg11)
          ∧ r.2.mem ((c.tc : Thread Cert.UpdateIdeal.nD Cert.UpdateIdeal.τ).loc Cert.UpdateIdeal.main_arg12) = m ((c.tc : Thread Cert.UpdateIdeal.nD Cert.UpdateIdeal.τ).loc Cert.UpdateIdeal.main_arg12)
          ∧ r.2.mem ((c.tc : Thread Cert.UpdateIdeal.nD Cert.UpdateIdeal.τ).loc Cert.UpdateIdeal.main_arg13) = m ((c.tc : Thread Cert.UpdateIdeal.nD Cert.UpdateIdeal.τ).loc Cert.UpdateIdeal.main_arg13)
          ∧ r.2.mem ((c.tc : Thread Cert.UpdateIdeal.nD Cert.UpdateIdeal.τ).loc Cert.UpdateIdeal.main_arg14) = m ((c.tc : Thread Cert.UpdateIdeal.nD Cert.UpdateIdeal.τ).loc Cert.UpdateIdeal.main_arg14)
          ∧ r.2.mem ((c.tc : Thread Cert.UpdateIdeal.nD Cert.UpdateIdeal.τ).loc Cert.UpdateIdeal.main_arg15) = m ((c.tc : Thread Cert.UpdateIdeal.nD Cert.UpdateIdeal.τ).loc Cert.UpdateIdeal.main_arg15))
      ∧ θ_run (Cert.UpdateRefIdeal.defs (F := Ideal)) (onTc (τ := Cert.UpdateRefIdeal.τ) (Cert.UpdateRefIdeal.main (F := Ideal))) ⟨m', fun _ => 0, g'⟩ (fun r =>
          r.2.mem (((0 : Dev Cert.UpdateRefIdeal.nD).tc : Thread Cert.UpdateRefIdeal.nD Cert.UpdateRefIdeal.τ).loc Cert.UpdateRefIdeal.main_v13) = v0
          ∧ r.2.mem (((0 : Dev Cert.UpdateRefIdeal.nD).tc : Thread Cert.UpdateRefIdeal.nD Cert.UpdateRefIdeal.τ).loc Cert.UpdateRefIdeal.main_v40) = v1
          ∧ r.2.mem (((0 : Dev Cert.UpdateRefIdeal.nD).tc : Thread Cert.UpdateRefIdeal.nD Cert.UpdateRefIdeal.τ).loc Cert.UpdateRefIdeal.main_v21) = v2
          ∧ r.2.mem (((0 : Dev Cert.UpdateRefIdeal.nD).tc : Thread Cert.UpdateRefIdeal.nD Cert.UpdateRefIdeal.τ).loc Cert.UpdateRefIdeal.main_v27) = v3
          ∧ r.2.mem (((0 : Dev Cert.UpdateRefIdeal.nD).tc : Thread Cert.UpdateRefIdeal.nD Cert.UpdateRefIdeal.τ).loc Cert.UpdateRefIdeal.main_v14) = v4
          ∧ r.2.mem (((0 : Dev Cert.UpdateRefIdeal.nD).tc : Thread Cert.UpdateRefIdeal.nD Cert.UpdateRefIdeal.τ).loc Cert.UpdateRefIdeal.main_v64) = v5
          ∧ r.2.mem (((0 : Dev Cert.UpdateRefIdeal.nD).tc : Thread Cert.UpdateRefIdeal.nD Cert.UpdateRefIdeal.τ).loc Cert.UpdateRefIdeal.main_v45) = v6
          ∧ r.2.mem (((0 : Dev Cert.UpdateRefIdeal.nD).tc : Thread Cert.UpdateRefIdeal.nD Cert.UpdateRefIdeal.τ).loc Cert.UpdateRefIdeal.main_v51) = v7
          ∧ r.2.mem (((0 : Dev Cert.UpdateRefIdeal.nD).tc : Thread Cert.UpdateRefIdeal.nD Cert.UpdateRefIdeal.τ).loc Cert.UpdateRefIdeal.main_v15) = v8
          ∧ r.2.mem (((0 : Dev Cert.UpdateRefIdeal.nD).tc : Thread Cert.UpdateRefIdeal.nD Cert.UpdateRefIdeal.τ).loc Cert.UpdateRefIdeal.main_v88) = v9
          ∧ r.2.mem (((0 : Dev Cert.UpdateRefIdeal.nD).tc : Thread Cert.UpdateRefIdeal.nD Cert.UpdateRefIdeal.τ).loc Cert.UpdateRefIdeal.main_v69) = v10
          ∧ r.2.mem (((0 : Dev Cert.UpdateRefIdeal.nD).tc : Thread Cert.UpdateRefIdeal.nD Cert.UpdateRefIdeal.τ).loc Cert.UpdateRefIdeal.main_v75) = v11
          ∧ r.2.mem (((0 : Dev Cert.UpdateRefIdeal.nD).tc : Thread Cert.UpdateRefIdeal.nD Cert.UpdateRefIdeal.τ).loc Cert.UpdateRefIdeal.main_v16) = v12
          ∧ r.2.mem (((0 : Dev Cert.UpdateRefIdeal.nD).tc : Thread Cert.UpdateRefIdeal.nD Cert.UpdateRefIdeal.τ).loc Cert.UpdateRefIdeal.main_v112) = v13
          ∧ r.2.mem (((0 : Dev Cert.UpdateRefIdeal.nD).tc : Thread Cert.UpdateRefIdeal.nD Cert.UpdateRefIdeal.τ).loc Cert.UpdateRefIdeal.main_v93) = v14
          ∧ r.2.mem (((0 : Dev Cert.UpdateRefIdeal.nD).tc : Thread Cert.UpdateRefIdeal.nD Cert.UpdateRefIdeal.τ).loc Cert.UpdateRefIdeal.main_v99) = v15
          ∧ r.2.mem (((0 : Dev Cert.UpdateRefIdeal.nD).tc : Thread Cert.UpdateRefIdeal.nD Cert.UpdateRefIdeal.τ).loc Cert.UpdateRefIdeal.main_arg0) = m' (((0 : Dev Cert.UpdateRefIdeal.nD).tc : Thread Cert.UpdateRefIdeal.nD Cert.UpdateRefIdeal.τ).loc Cert.UpdateRefIdeal.main_arg0)
          ∧ r.2.mem (((0 : Dev Cert.UpdateRefIdeal.nD).tc : Thread Cert.UpdateRefIdeal.nD Cert.UpdateRefIdeal.τ).loc Cert.UpdateRefIdeal.main_arg1) = m' (((0 : Dev Cert.UpdateRefIdeal.nD).tc : Thread Cert.UpdateRefIdeal.nD Cert.UpdateRefIdeal.τ).loc Cert.UpdateRefIdeal.main_arg1)
          ∧ r.2.mem (((0 : Dev Cert.UpdateRefIdeal.nD).tc : Thread Cert.UpdateRefIdeal.nD Cert.UpdateRefIdeal.τ).loc Cert.UpdateRefIdeal.main_arg2) = m' (((0 : Dev Cert.UpdateRefIdeal.nD).tc : Thread Cert.UpdateRefIdeal.nD Cert.UpdateRefIdeal.τ).loc Cert.UpdateRefIdeal.main_arg2)
          ∧ r.2.mem (((0 : Dev Cert.UpdateRefIdeal.nD).tc : Thread Cert.UpdateRefIdeal.nD Cert.UpdateRefIdeal.τ).loc Cert.UpdateRefIdeal.main_arg3) = m' (((0 : Dev Cert.UpdateRefIdeal.nD).tc : Thread Cert.UpdateRefIdeal.nD Cert.UpdateRefIdeal.τ).loc Cert.UpdateRefIdeal.main_arg3)
          ∧ r.2.mem (((0 : Dev Cert.UpdateRefIdeal.nD).tc : Thread Cert.UpdateRefIdeal.nD Cert.UpdateRefIdeal.τ).loc Cert.UpdateRefIdeal.main_arg4) = m' (((0 : Dev Cert.UpdateRefIdeal.nD).tc : Thread Cert.UpdateRefIdeal.nD Cert.UpdateRefIdeal.τ).loc Cert.UpdateRefIdeal.main_arg4)
          ∧ r.2.mem (((0 : Dev Cert.UpdateRefIdeal.nD).tc : Thread Cert.UpdateRefIdeal.nD Cert.UpdateRefIdeal.τ).loc Cert.UpdateRefIdeal.main_arg5) = m' (((0 : Dev Cert.UpdateRefIdeal.nD).tc : Thread Cert.UpdateRefIdeal.nD Cert.UpdateRefIdeal.τ).loc Cert.UpdateRefIdeal.main_arg5)
          ∧ r.2.mem (((0 : Dev Cert.UpdateRefIdeal.nD).tc : Thread Cert.UpdateRefIdeal.nD Cert.UpdateRefIdeal.τ).loc Cert.UpdateRefIdeal.main_arg6) = m' (((0 : Dev Cert.UpdateRefIdeal.nD).tc : Thread Cert.UpdateRefIdeal.nD Cert.UpdateRefIdeal.τ).loc Cert.UpdateRefIdeal.main_arg6)
          ∧ r.2.mem (((0 : Dev Cert.UpdateRefIdeal.nD).tc : Thread Cert.UpdateRefIdeal.nD Cert.UpdateRefIdeal.τ).loc Cert.UpdateRefIdeal.main_arg7) = m' (((0 : Dev Cert.UpdateRefIdeal.nD).tc : Thread Cert.UpdateRefIdeal.nD Cert.UpdateRefIdeal.τ).loc Cert.UpdateRefIdeal.main_arg7)
          ∧ r.2.mem (((0 : Dev Cert.UpdateRefIdeal.nD).tc : Thread Cert.UpdateRefIdeal.nD Cert.UpdateRefIdeal.τ).loc Cert.UpdateRefIdeal.main_arg8) = m' (((0 : Dev Cert.UpdateRefIdeal.nD).tc : Thread Cert.UpdateRefIdeal.nD Cert.UpdateRefIdeal.τ).loc Cert.UpdateRefIdeal.main_arg8)
          ∧ r.2.mem (((0 : Dev Cert.UpdateRefIdeal.nD).tc : Thread Cert.UpdateRefIdeal.nD Cert.UpdateRefIdeal.τ).loc Cert.UpdateRefIdeal.main_arg9) = m' (((0 : Dev Cert.UpdateRefIdeal.nD).tc : Thread Cert.UpdateRefIdeal.nD Cert.UpdateRefIdeal.τ).loc Cert.UpdateRefIdeal.main_arg9)
          ∧ r.2.mem (((0 : Dev Cert.UpdateRefIdeal.nD).tc : Thread Cert.UpdateRefIdeal.nD Cert.UpdateRefIdeal.τ).loc Cert.UpdateRefIdeal.main_arg10) = m' (((0 : Dev Cert.UpdateRefIdeal.nD).tc : Thread Cert.UpdateRefIdeal.nD Cert.UpdateRefIdeal.τ).loc Cert.UpdateRefIdeal.main_arg10)
          ∧ r.2.mem (((0 : Dev Cert.UpdateRefIdeal.nD).tc : Thread Cert.UpdateRefIdeal.nD Cert.UpdateRefIdeal.τ).loc Cert.UpdateRefIdeal.main_arg11) = m' (((0 : Dev Cert.UpdateRefIdeal.nD).tc : Thread Cert.UpdateRefIdeal.nD Cert.UpdateRefIdeal.τ).loc Cert.UpdateRefIdeal.main_arg11)
          ∧ r.2.mem (((0 : Dev Cert.UpdateRefIdeal.nD).tc : Thread Cert.UpdateRefIdeal.nD Cert.UpdateRefIdeal.τ).loc Cert.UpdateRefIdeal.main_arg12) = m' (((0 : Dev Cert.UpdateRefIdeal.nD).tc : Thread Cert.UpdateRefIdeal.nD Cert.UpdateRefIdeal.τ).loc Cert.UpdateRefIdeal.main_arg12)
          ∧ r.2.mem (((0 : Dev Cert.UpdateRefIdeal.nD).tc : Thread Cert.UpdateRefIdeal.nD Cert.UpdateRefIdeal.τ).loc Cert.UpdateRefIdeal.main_arg13) = m' (((0 : Dev Cert.UpdateRefIdeal.nD).tc : Thread Cert.UpdateRefIdeal.nD Cert.UpdateRefIdeal.τ).loc Cert.UpdateRefIdeal.main_arg13)
          ∧ r.2.mem (((0 : Dev Cert.UpdateRefIdeal.nD).tc : Thread Cert.UpdateRefIdeal.nD Cert.UpdateRefIdeal.τ).loc Cert.UpdateRefIdeal.main_arg14) = m' (((0 : Dev Cert.UpdateRefIdeal.nD).tc : Thread Cert.UpdateRefIdeal.nD Cert.UpdateRefIdeal.τ).loc Cert.UpdateRefIdeal.main_arg14)
          ∧ r.2.mem (((0 : Dev Cert.UpdateRefIdeal.nD).tc : Thread Cert.UpdateRefIdeal.nD Cert.UpdateRefIdeal.τ).loc Cert.UpdateRefIdeal.main_arg15) = m' (((0 : Dev Cert.UpdateRefIdeal.nD).tc : Thread Cert.UpdateRefIdeal.nD Cert.UpdateRefIdeal.τ).loc Cert.UpdateRefIdeal.main_arg15))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_GradAda_GradAdaIdeal : Prop :=
  True

def algebraic_GradAdaIdeal_GradAdaRefIdeal [hGradAdaIdeal : Cert.GradAdaIdeal.Facts] [hGradAdaRefIdeal : Cert.GradAdaRefIdeal.Facts] : Prop :=
  ∀ (m : (ℓ : Loc Cert.GradAdaIdeal.nD Cert.GradAdaIdeal.τ Cert.GradAdaIdeal.sig) → Buf (Elt Ideal) ℓ) (g : Dev Cert.GradAdaIdeal.nD → PrngReg)
    (m' : (ℓ : Loc Cert.GradAdaRefIdeal.nD Cert.GradAdaRefIdeal.τ Cert.GradAdaRefIdeal.sig) → Buf (Elt Ideal) ℓ) (g' : Dev Cert.GradAdaRefIdeal.nD → PrngReg), Pre_GradAdaIdeal m →
    (∀ c : Dev Cert.GradAdaIdeal.nD,
      m' ((c.tc : Thread Cert.GradAdaRefIdeal.nD Cert.GradAdaRefIdeal.τ).loc Cert.GradAdaRefIdeal.main_arg0) = m ((c.tc : Thread Cert.GradAdaIdeal.nD Cert.GradAdaIdeal.τ).loc Cert.GradAdaIdeal.main_arg0)
      ∧ m' ((c.tc : Thread Cert.GradAdaRefIdeal.nD Cert.GradAdaRefIdeal.τ).loc Cert.GradAdaRefIdeal.main_arg1) = m ((c.tc : Thread Cert.GradAdaIdeal.nD Cert.GradAdaIdeal.τ).loc Cert.GradAdaIdeal.main_arg1)) →
    ∃ (v0 : (c : Dev Cert.GradAdaIdeal.nD) → Buf (Elt Ideal) ((c.tc : Thread Cert.GradAdaIdeal.nD Cert.GradAdaIdeal.τ).loc Cert.GradAdaIdeal.main_v0)),
      θ_run (Cert.GradAdaIdeal.defs (F := Ideal)) (onTc (τ := Cert.GradAdaIdeal.τ) (Cert.GradAdaIdeal.main (F := Ideal))) ⟨m, fun _ => 0, g⟩ (fun r => ∀ c : Dev Cert.GradAdaIdeal.nD,
          r.2.mem ((c.tc : Thread Cert.GradAdaIdeal.nD Cert.GradAdaIdeal.τ).loc Cert.GradAdaIdeal.main_v0) = v0 c
          ∧ r.2.mem ((c.tc : Thread Cert.GradAdaIdeal.nD Cert.GradAdaIdeal.τ).loc Cert.GradAdaIdeal.main_arg0) = m ((c.tc : Thread Cert.GradAdaIdeal.nD Cert.GradAdaIdeal.τ).loc Cert.GradAdaIdeal.main_arg0)
          ∧ r.2.mem ((c.tc : Thread Cert.GradAdaIdeal.nD Cert.GradAdaIdeal.τ).loc Cert.GradAdaIdeal.main_arg1) = m ((c.tc : Thread Cert.GradAdaIdeal.nD Cert.GradAdaIdeal.τ).loc Cert.GradAdaIdeal.main_arg1))
      ∧ θ_run (Cert.GradAdaRefIdeal.defs (F := Ideal)) (onTc (τ := Cert.GradAdaRefIdeal.τ) (Cert.GradAdaRefIdeal.main (F := Ideal))) ⟨m', fun _ => 0, g'⟩ (fun r => ∀ c : Dev Cert.GradAdaRefIdeal.nD,
          r.2.mem ((c.tc : Thread Cert.GradAdaRefIdeal.nD Cert.GradAdaRefIdeal.τ).loc Cert.GradAdaRefIdeal.main_v0) = v0 c
          ∧ r.2.mem ((c.tc : Thread Cert.GradAdaRefIdeal.nD Cert.GradAdaRefIdeal.τ).loc Cert.GradAdaRefIdeal.main_arg0) = m' ((c.tc : Thread Cert.GradAdaRefIdeal.nD Cert.GradAdaRefIdeal.τ).loc Cert.GradAdaRefIdeal.main_arg0)
          ∧ r.2.mem ((c.tc : Thread Cert.GradAdaRefIdeal.nD Cert.GradAdaRefIdeal.τ).loc Cert.GradAdaRefIdeal.main_arg1) = m' ((c.tc : Thread Cert.GradAdaRefIdeal.nD Cert.GradAdaRefIdeal.τ).loc Cert.GradAdaRefIdeal.main_arg1))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v23) = v0 c
          ∧ r.2.mem ((c.tc : Thread Cert.AdamConvRefIdeal.nD Cert.AdamConvRefIdeal.τ).loc Cert.AdamConvRefIdeal.main_v4) = v1 c
          ∧ r.2.mem ((c.tc : Thread Cert.AdamConvRefIdeal.nD Cert.AdamConvRefIdeal.τ).loc Cert.AdamConvRefIdeal.main_v10) = v2 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v23) = v0 c
          ∧ r.2.mem ((c.tc : Thread Cert.AdamAdaRefIdeal.nD Cert.AdamAdaRefIdeal.τ).loc Cert.AdamAdaRefIdeal.main_v4) = v1 c
          ∧ r.2.mem ((c.tc : Thread Cert.AdamAdaRefIdeal.nD Cert.AdamAdaRefIdeal.τ).loc Cert.AdamAdaRefIdeal.main_v10) = v2 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_ModPart_ModPartIdeal : Prop :=
  True

def algebraic_ModPartIdeal_ModPartRefIdeal [hModPartIdeal : Cert.ModPartIdeal.Facts] [hModPartRefIdeal : Cert.ModPartRefIdeal.Facts] : Prop :=
  ∀ (m : (ℓ : Loc Cert.ModPartIdeal.nD Cert.ModPartIdeal.τ Cert.ModPartIdeal.sig) → Buf (Elt Ideal) ℓ) (g : Dev Cert.ModPartIdeal.nD → PrngReg)
    (m' : (ℓ : Loc Cert.ModPartRefIdeal.nD Cert.ModPartRefIdeal.τ Cert.ModPartRefIdeal.sig) → Buf (Elt Ideal) ℓ) (g' : Dev Cert.ModPartRefIdeal.nD → PrngReg), Pre_ModPartIdeal m →
    (∀ c : Dev Cert.ModPartIdeal.nD,
      m' ((c.tc : Thread Cert.ModPartRefIdeal.nD Cert.ModPartRefIdeal.τ).loc Cert.ModPartRefIdeal.main_arg0) = m ((c.tc : Thread Cert.ModPartIdeal.nD Cert.ModPartIdeal.τ).loc Cert.ModPartIdeal.main_arg0)
      ∧ m' ((c.tc : Thread Cert.ModPartRefIdeal.nD Cert.ModPartRefIdeal.τ).loc Cert.ModPartRefIdeal.main_arg1) = m ((c.tc : Thread Cert.ModPartIdeal.nD Cert.ModPartIdeal.τ).loc Cert.ModPartIdeal.main_arg1)
      ∧ m' ((c.tc : Thread Cert.ModPartRefIdeal.nD Cert.ModPartRefIdeal.τ).loc Cert.ModPartRefIdeal.main_arg2) = m ((c.tc : Thread Cert.ModPartIdeal.nD Cert.ModPartIdeal.τ).loc Cert.ModPartIdeal.main_arg2)) →
    ∃ (v0 : (c : Dev Cert.ModPartIdeal.nD) → Buf (Elt Ideal) ((c.tc : Thread Cert.ModPartIdeal.nD Cert.ModPartIdeal.τ).loc Cert.ModPartIdeal.main_v0)),
      θ_run (Cert.ModPartIdeal.defs (F := Ideal)) (onTc (τ := Cert.ModPartIdeal.τ) (Cert.ModPartIdeal.main (F := Ideal))) ⟨m, fun _ => 0, g⟩ (fun r => ∀ c : Dev Cert.ModPartIdeal.nD,
          r.2.mem ((c.tc : Thread Cert.ModPartIdeal.nD Cert.ModPartIdeal.τ).loc Cert.ModPartIdeal.main_v0) = v0 c
          ∧ r.2.mem ((c.tc : Thread Cert.ModPartIdeal.nD Cert.ModPartIdeal.τ).loc Cert.ModPartIdeal.main_arg0) = m ((c.tc : Thread Cert.ModPartIdeal.nD Cert.ModPartIdeal.τ).loc Cert.ModPartIdeal.main_arg0)
          ∧ r.2.mem ((c.tc : Thread Cert.ModPartIdeal.nD Cert.ModPartIdeal.τ).loc Cert.ModPartIdeal.main_arg1) = m ((c.tc : Thread Cert.ModPartIdeal.nD Cert.ModPartIdeal.τ).loc Cert.ModPartIdeal.main_arg1)
          ∧ r.2.mem ((c.tc : Thread Cert.ModPartIdeal.nD Cert.ModPartIdeal.τ).loc Cert.ModPartIdeal.main_arg2) = m ((c.tc : Thread Cert.ModPartIdeal.nD Cert.ModPartIdeal.τ).loc Cert.ModPartIdeal.main_arg2))
      ∧ θ_run (Cert.ModPartRefIdeal.defs (F := Ideal)) (onTc (τ := Cert.ModPartRefIdeal.τ) (Cert.ModPartRefIdeal.main (F := Ideal))) ⟨m', fun _ => 0, g'⟩ (fun r => ∀ c : Dev Cert.ModPartRefIdeal.nD,
          r.2.mem ((c.tc : Thread Cert.ModPartRefIdeal.nD Cert.ModPartRefIdeal.τ).loc Cert.ModPartRefIdeal.main_v2) = v0 c
          ∧ r.2.mem ((c.tc : Thread Cert.ModPartRefIdeal.nD Cert.ModPartRefIdeal.τ).loc Cert.ModPartRefIdeal.main_arg0) = m' ((c.tc : Thread Cert.ModPartRefIdeal.nD Cert.ModPartRefIdeal.τ).loc Cert.ModPartRefIdeal.main_arg0)
          ∧ r.2.mem ((c.tc : Thread Cert.ModPartRefIdeal.nD Cert.ModPartRefIdeal.τ).loc Cert.ModPartRefIdeal.main_arg1) = m' ((c.tc : Thread Cert.ModPartRefIdeal.nD Cert.ModPartRefIdeal.τ).loc Cert.ModPartRefIdeal.main_arg1)
          ∧ r.2.mem ((c.tc : Thread Cert.ModPartRefIdeal.nD Cert.ModPartRefIdeal.τ).loc Cert.ModPartRefIdeal.main_arg2) = m' ((c.tc : Thread Cert.ModPartRefIdeal.nD Cert.ModPartRefIdeal.τ).loc Cert.ModPartRefIdeal.main_arg2))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v3) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwRet_DwRetIdeal : Prop :=
  True

def algebraic_DwRetIdeal_DwRetRefIdeal [hDwRetIdeal : Cert.DwRetIdeal.Facts] [hDwRetRefIdeal : Cert.DwRetRefIdeal.Facts] : Prop :=
  ∀ (m : (ℓ : Loc Cert.DwRetIdeal.nD Cert.DwRetIdeal.τ Cert.DwRetIdeal.sig) → Buf (Elt Ideal) ℓ) (g : Dev Cert.DwRetIdeal.nD → PrngReg)
    (m' : (ℓ : Loc Cert.DwRetRefIdeal.nD Cert.DwRetRefIdeal.τ Cert.DwRetRefIdeal.sig) → Buf (Elt Ideal) ℓ) (g' : Dev Cert.DwRetRefIdeal.nD → PrngReg), Pre_DwRetIdeal m →
    (∀ c : Dev Cert.DwRetIdeal.nD,
      m' ((c.tc : Thread Cert.DwRetRefIdeal.nD Cert.DwRetRefIdeal.τ).loc Cert.DwRetRefIdeal.main_arg0) = m ((c.tc : Thread Cert.DwRetIdeal.nD Cert.DwRetIdeal.τ).loc Cert.DwRetIdeal.main_arg0)
      ∧ m' ((c.tc : Thread Cert.DwRetRefIdeal.nD Cert.DwRetRefIdeal.τ).loc Cert.DwRetRefIdeal.main_arg1) = m ((c.tc : Thread Cert.DwRetIdeal.nD Cert.DwRetIdeal.τ).loc Cert.DwRetIdeal.main_arg1)) →
    ∃ (v0 : (c : Dev Cert.DwRetIdeal.nD) → Buf (Elt Ideal) ((c.tc : Thread Cert.DwRetIdeal.nD Cert.DwRetIdeal.τ).loc Cert.DwRetIdeal.main_v0)),
      θ_run (Cert.DwRetIdeal.defs (F := Ideal)) (onTc (τ := Cert.DwRetIdeal.τ) (Cert.DwRetIdeal.main (F := Ideal))) ⟨m, fun _ => 0, g⟩ (fun r => ∀ c : Dev Cert.DwRetIdeal.nD,
          r.2.mem ((c.tc : Thread Cert.DwRetIdeal.nD Cert.DwRetIdeal.τ).loc Cert.DwRetIdeal.main_v0) = v0 c
          ∧ r.2.mem ((c.tc : Thread Cert.DwRetIdeal.nD Cert.DwRetIdeal.τ).loc Cert.DwRetIdeal.main_arg0) = m ((c.tc : Thread Cert.DwRetIdeal.nD Cert.DwRetIdeal.τ).loc Cert.DwRetIdeal.main_arg0)
          ∧ r.2.mem ((c.tc : Thread Cert.DwRetIdeal.nD Cert.DwRetIdeal.τ).loc Cert.DwRetIdeal.main_arg1) = m ((c.tc : Thread Cert.DwRetIdeal.nD Cert.DwRetIdeal.τ).loc Cert.DwRetIdeal.main_arg1))
      ∧ θ_run (Cert.DwRetRefIdeal.defs (F := Ideal)) (onTc (τ := Cert.DwRetRefIdeal.τ) (Cert.DwRetRefIdeal.main (F := Ideal))) ⟨m', fun _ => 0, g'⟩ (fun r => ∀ c : Dev Cert.DwRetRefIdeal.nD,
          r.2.mem ((c.tc : Thread Cert.DwRetRefIdeal.nD Cert.DwRetRefIdeal.τ).loc Cert.DwRetRefIdeal.main_v3) = v0 c
          ∧ r.2.mem ((c.tc : Thread Cert.DwRetRefIdeal.nD Cert.DwRetRefIdeal.τ).loc Cert.DwRetRefIdeal.main_arg0) = m' ((c.tc : Thread Cert.DwRetRefIdeal.nD Cert.DwRetRefIdeal.τ).loc Cert.DwRetRefIdeal.main_arg0)
          ∧ r.2.mem ((c.tc : Thread Cert.DwRetRefIdeal.nD Cert.DwRetRefIdeal.τ).loc Cert.DwRetRefIdeal.main_arg1) = m' ((c.tc : Thread Cert.DwRetRefIdeal.nD Cert.DwRetRefIdeal.τ).loc Cert.DwRetRefIdeal.main_arg1))

def preserves_GradX_GradXIdeal : Prop :=
  True

def algebraic_GradXIdeal_GradXRefIdeal [hGradXIdeal : Cert.GradXIdeal.Facts] [hGradXRefIdeal : Cert.GradXRefIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXRefIdeal.nD Cert.GradXRefIdeal.τ Cert.GradXRefIdeal.sig) → Buf (Elt Ideal) ℓ) (g' : Dev Cert.GradXRefIdeal.nD → PrngReg), Pre_GradXIdeal m →
    (∀ c : Dev Cert.GradXIdeal.nD,
      m' ((c.tc : Thread Cert.GradXRefIdeal.nD Cert.GradXRefIdeal.τ).loc Cert.GradXRefIdeal.main_arg0) = m ((c.tc : Thread Cert.GradXIdeal.nD Cert.GradXIdeal.τ).loc Cert.GradXIdeal.main_arg0)
      ∧ m' ((c.tc : Thread Cert.GradXRefIdeal.nD Cert.GradXRefIdeal.τ).loc Cert.GradXRefIdeal.main_arg1) = m ((c.tc : Thread Cert.GradXIdeal.nD Cert.GradXIdeal.τ).loc Cert.GradXIdeal.main_arg1)
      ∧ m' ((c.tc : Thread Cert.GradXRefIdeal.nD Cert.GradXRefIdeal.τ).loc Cert.GradXRefIdeal.main_arg2) = m ((c.tc : Thread Cert.GradXIdeal.nD Cert.GradXIdeal.τ).loc Cert.GradXIdeal.main_arg2)
      ∧ m' ((c.tc : Thread Cert.GradXRefIdeal.nD Cert.GradXRefIdeal.τ).loc Cert.GradXRefIdeal.main_arg3) = m ((c.tc : Thread Cert.GradXIdeal.nD Cert.GradXIdeal.τ).loc Cert.GradXIdeal.main_arg3)
      ∧ m' ((c.tc : Thread Cert.GradXRefIdeal.nD Cert.GradXRefIdeal.τ).loc Cert.GradXRefIdeal.main_arg4) = m ((c.tc : Thread Cert.GradXIdeal.nD Cert.GradXIdeal.τ).loc Cert.GradXIdeal.main_arg4)
      ∧ m' ((c.tc : Thread Cert.GradXRefIdeal.nD Cert.GradXRefIdeal.τ).loc Cert.GradXRefIdeal.main_arg5) = m ((c.tc : Thread Cert.GradXIdeal.nD Cert.GradXIdeal.τ).loc Cert.GradXIdeal.main_arg5)
      ∧ m' ((c.tc : Thread Cert.GradXRefIdeal.nD Cert.GradXRefIdeal.τ).loc Cert.GradXRefIdeal.main_arg6) = m ((c.tc : Thread Cert.GradXIdeal.nD Cert.GradXIdeal.τ).loc Cert.GradXIdeal.main_arg6)
      ∧ m' ((c.tc : Thread Cert.GradXRefIdeal.nD Cert.GradXRefIdeal.τ).loc Cert.GradXRefIdeal.main_arg7) = m ((c.tc : Thread Cert.GradXIdeal.nD Cert.GradXIdeal.τ).loc Cert.GradXIdeal.main_arg7)
      ∧ m' ((c.tc : Thread Cert.GradXRefIdeal.nD Cert.GradXRefIdeal.τ).loc Cert.GradXRefIdeal.main_arg8) = m ((c.tc : Thread Cert.GradXIdeal.nD Cert.GradXIdeal.τ).loc Cert.GradXIdeal.main_arg8)
      ∧ m' ((c.tc : Thread Cert.GradXRefIdeal.nD Cert.GradXRefIdeal.τ).loc Cert.GradXRefIdeal.main_arg9) = m ((c.tc : Thread Cert.GradXIdeal.nD Cert.GradXIdeal.τ).loc Cert.GradXIdeal.main_arg9)) →
    ∃ (v0 : (c : Dev Cert.GradXIdeal.nD) → Buf (Elt Ideal) ((c.tc : Thread Cert.GradXIdeal.nD Cert.GradXIdeal.τ).loc Cert.GradXIdeal.main_v0_0)) (v1 : (c : Dev Cert.GradXIdeal.nD) → Buf (Elt Ideal) ((c.tc : Thread Cert.GradXIdeal.nD Cert.GradXIdeal.τ).loc Cert.GradXIdeal.main_v0_1)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v0_0) = v0 c
          ∧ r.2.mem ((c.tc : Thread Cert.GradXIdeal.nD Cert.GradXIdeal.τ).loc Cert.GradXIdeal.main_v0_1) = v1 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
          ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4)
          ∧ r.2.mem ((c.tc : Thread Cert.GradXIdeal.nD Cert.GradXIdeal.τ).loc Cert.GradXIdeal.main_arg5) = m ((c.tc : Thread Cert.GradXIdeal.nD Cert.GradXIdeal.τ).loc Cert.GradXIdeal.main_arg5)
          ∧ r.2.mem ((c.tc : Thread Cert.GradXIdeal.nD Cert.GradXIdeal.τ).loc Cert.GradXIdeal.main_arg6) = m ((c.tc : Thread Cert.GradXIdeal.nD Cert.GradXIdeal.τ).loc Cert.GradXIdeal.main_arg6)
          ∧ r.2.mem ((c.tc : Thread Cert.GradXIdeal.nD Cert.GradXIdeal.τ).loc Cert.GradXIdeal.main_arg7) = m ((c.tc : Thread Cert.GradXIdeal.nD Cert.GradXIdeal.τ).loc Cert.GradXIdeal.main_arg7)
          ∧ r.2.mem ((c.tc : Thread Cert.GradXIdeal.nD Cert.GradXIdeal.τ).loc Cert.GradXIdeal.main_arg8) = m ((c.tc : Thread Cert.GradXIdeal.nD Cert.GradXIdeal.τ).loc Cert.GradXIdeal.main_arg8)
          ∧ r.2.mem ((c.tc : Thread Cert.GradXIdeal.nD Cert.GradXIdeal.τ).loc Cert.GradXIdeal.main_arg9) = m ((c.tc : Thread Cert.GradXIdeal.nD Cert.GradXIdeal.τ).loc Cert.GradXIdeal.main_arg9))
      ∧ θ_run (Cert.GradXRefIdeal.defs (F := Ideal)) (onTc (τ := Cert.GradXRefIdeal.τ) (Cert.GradXRefIdeal.main (F := Ideal))) ⟨m', fun _ => 0, g'⟩ (fun r => ∀ c : Dev Cert.GradXRefIdeal.nD,
          r.2.mem ((c.tc : Thread Cert.GradXRefIdeal.nD Cert.GradXRefIdeal.τ).loc Cert.GradXRefIdeal.main_v53) = v0 c
          ∧ r.2.mem ((c.tc : Thread Cert.GradXRefIdeal.nD Cert.GradXRefIdeal.τ).loc Cert.GradXRefIdeal.main_v58) = v1 c
          ∧ r.2.mem ((c.tc : Thread Cert.GradXRefIdeal.nD Cert.GradXRefIdeal.τ).loc Cert.GradXRefIdeal.main_arg0) = m' ((c.tc : Thread Cert.GradXRefIdeal.nD Cert.GradXRefIdeal.τ).loc Cert.GradXRefIdeal.main_arg0)
          ∧ r.2.mem ((c.tc : Thread Cert.GradXRefIdeal.nD Cert.GradXRefIdeal.τ).loc Cert.GradXRefIdeal.main_arg1) = m' ((c.tc : Thread Cert.GradXRefIdeal.nD Cert.GradXRefIdeal.τ).loc Cert.GradXRefIdeal.main_arg1)
          ∧ r.2.mem ((c.tc : Thread Cert.GradXRefIdeal.nD Cert.GradXRefIdeal.τ).loc Cert.GradXRefIdeal.main_arg2) = m' ((c.tc : Thread Cert.GradXRefIdeal.nD Cert.GradXRefIdeal.τ).loc Cert.GradXRefIdeal.main_arg2)
          ∧ r.2.mem ((c.tc : Thread Cert.GradXRefIdeal.nD Cert.GradXRefIdeal.τ).loc Cert.GradXRefIdeal.main_arg3) = m' ((c.tc : Thread Cert.GradXRefIdeal.nD Cert.GradXRefIdeal.τ).loc Cert.GradXRefIdeal.main_arg3)
          ∧ r.2.mem ((c.tc : Thread Cert.GradXRefIdeal.nD Cert.GradXRefIdeal.τ).loc Cert.GradXRefIdeal.main_arg4) = m' ((c.tc : Thread Cert.GradXRefIdeal.nD Cert.GradXRefIdeal.τ).loc Cert.GradXRefIdeal.main_arg4)
          ∧ r.2.mem ((c.tc : Thread Cert.GradXRefIdeal.nD Cert.GradXRefIdeal.τ).loc Cert.GradXRefIdeal.main_arg5) = m' ((c.tc : Thread Cert.GradXRefIdeal.nD Cert.GradXRefIdeal.τ).loc Cert.GradXRefIdeal.main_arg5)
          ∧ r.2.mem ((c.tc : Thread Cert.GradXRefIdeal.nD Cert.GradXRefIdeal.τ).loc Cert.GradXRefIdeal.main_arg6) = m' ((c.tc : Thread Cert.GradXRefIdeal.nD Cert.GradXRefIdeal.τ).loc Cert.GradXRefIdeal.main_arg6)
          ∧ r.2.mem ((c.tc : Thread Cert.GradXRefIdeal.nD Cert.GradXRefIdeal.τ).loc Cert.GradXRefIdeal.main_arg7) = m' ((c.tc : Thread Cert.GradXRefIdeal.nD Cert.GradXRefIdeal.τ).loc Cert.GradXRefIdeal.main_arg7)
          ∧ r.2.mem ((c.tc : Thread Cert.GradXRefIdeal.nD Cert.GradXRefIdeal.τ).loc Cert.GradXRefIdeal.main_arg8) = m' ((c.tc : Thread Cert.GradXRefIdeal.nD Cert.GradXRefIdeal.τ).loc Cert.GradXRefIdeal.main_arg8)
          ∧ r.2.mem ((c.tc : Thread Cert.GradXRefIdeal.nD Cert.GradXRefIdeal.τ).loc Cert.GradXRefIdeal.main_arg9) = m' ((c.tc : Thread Cert.GradXRefIdeal.nD Cert.GradXRefIdeal.τ).loc Cert.GradXRefIdeal.main_arg9))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)
      ∧ m' ((c.tc : Thread Cert.HeadRefIdeal.nD Cert.HeadRefIdeal.τ).loc Cert.HeadRefIdeal.main_arg7) = m ((c.tc : Thread Cert.HeadIdeal.nD Cert.HeadIdeal.τ).loc Cert.HeadIdeal.main_arg7)
      ∧ m' ((c.tc : Thread Cert.HeadRefIdeal.nD Cert.HeadRefIdeal.τ).loc Cert.HeadRefIdeal.main_arg8) = m ((c.tc : Thread Cert.HeadIdeal.nD Cert.HeadIdeal.τ).loc Cert.HeadIdeal.main_arg8)
      ∧ m' ((c.tc : Thread Cert.HeadRefIdeal.nD Cert.HeadRefIdeal.τ).loc Cert.HeadRefIdeal.main_arg9) = m ((c.tc : Thread Cert.HeadIdeal.nD Cert.HeadIdeal.τ).loc Cert.HeadIdeal.main_arg9)) →
    ∃ (v0 : (c : Dev Cert.HeadIdeal.nD) → Buf (Elt Ideal) ((c.tc : Thread Cert.HeadIdeal.nD Cert.HeadIdeal.τ).loc Cert.HeadIdeal.main_v0_0)) (v1 : (c : Dev Cert.HeadIdeal.nD) → Buf (Elt Ideal) ((c.tc : Thread Cert.HeadIdeal.nD Cert.HeadIdeal.τ).loc Cert.HeadIdeal.main_v0_1)) (v2 : (c : Dev Cert.HeadIdeal.nD) → Buf (Elt Ideal) ((c.tc : Thread Cert.HeadIdeal.nD Cert.HeadIdeal.τ).loc Cert.HeadIdeal.main_v0_2)) (v3 : (c : Dev Cert.HeadIdeal.nD) → Buf (Elt Ideal) ((c.tc : Thread Cert.HeadIdeal.nD Cert.HeadIdeal.τ).loc Cert.HeadIdeal.main_v0_3)) (v4 : (c : Dev Cert.HeadIdeal.nD) → Buf (Elt Ideal) ((c.tc : Thread Cert.HeadIdeal.nD Cert.HeadIdeal.τ).loc Cert.HeadIdeal.main_v0_4)) (v5 : (c : Dev Cert.HeadIdeal.nD) → Buf (Elt Ideal) ((c.tc : Thread Cert.HeadIdeal.nD Cert.HeadIdeal.τ).loc Cert.HeadIdeal.main_v0_5)) (v6 : (c : Dev Cert.HeadIdeal.nD) → Buf (Elt Ideal) ((c.tc : Thread Cert.HeadIdeal.nD Cert.HeadIdeal.τ).loc Cert.HeadIdeal.main_v0_6)) (v7 : (c : Dev Cert.HeadIdeal.nD) → Buf (Elt Ideal) ((c.tc : Thread Cert.HeadIdeal.nD Cert.HeadIdeal.τ).loc Cert.HeadIdeal.main_v0_7)) (v8 : (c : Dev Cert.HeadIdeal.nD) → Buf (Elt Ideal) ((c.tc : Thread Cert.HeadIdeal.nD Cert.HeadIdeal.τ).loc Cert.HeadIdeal.main_v0_8)) (v9 : (c : Dev Cert.HeadIdeal.nD) → Buf (Elt Ideal) ((c.tc : Thread Cert.HeadIdeal.nD Cert.HeadIdeal.τ).loc Cert.HeadIdeal.main_v0_9)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v0_0) = v0 c
          ∧ r.2.mem ((c.tc : Thread Cert.HeadIdeal.nD Cert.HeadIdeal.τ).loc Cert.HeadIdeal.main_v0_1) = v1 c
          ∧ r.2.mem ((c.tc : Thread Cert.HeadIdeal.nD Cert.HeadIdeal.τ).loc Cert.HeadIdeal.main_v0_2) = v2 c
          ∧ r.2.mem ((c.tc : Thread Cert.HeadIdeal.nD Cert.HeadIdeal.τ).loc Cert.HeadIdeal.main_v0_3) = v3 c
          ∧ r.2.mem ((c.tc : Thread Cert.HeadIdeal.nD Cert.HeadIdeal.τ).loc Cert.HeadIdeal.main_v0_4) = v4 c
          ∧ r.2.mem ((c.tc : Thread Cert.HeadIdeal.nD Cert.HeadIdeal.τ).loc Cert.HeadIdeal.main_v0_5) = v5 c
          ∧ r.2.mem ((c.tc : Thread Cert.HeadIdeal.nD Cert.HeadIdeal.τ).loc Cert.HeadIdeal.main_v0_6) = v6 c
          ∧ r.2.mem ((c.tc : Thread Cert.HeadIdeal.nD Cert.HeadIdeal.τ).loc Cert.HeadIdeal.main_v0_7) = v7 c
          ∧ r.2.mem ((c.tc : Thread Cert.HeadIdeal.nD Cert.HeadIdeal.τ).loc Cert.HeadIdeal.main_v0_8) = v8 c
          ∧ r.2.mem ((c.tc : Thread Cert.HeadIdeal.nD Cert.HeadIdeal.τ).loc Cert.HeadIdeal.main_v0_9) = v9 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
          ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
          ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
          ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v87) = v0 c
          ∧ r.2.mem ((c.tc : Thread Cert.HeadRefIdeal.nD Cert.HeadRefIdeal.τ).loc Cert.HeadRefIdeal.main_v48) = v1 c
          ∧ r.2.mem ((c.tc : Thread Cert.HeadRefIdeal.nD Cert.HeadRefIdeal.τ).loc Cert.HeadRefIdeal.main_v88) = v2 c
          ∧ r.2.mem ((c.tc : Thread Cert.HeadRefIdeal.nD Cert.HeadRefIdeal.τ).loc Cert.HeadRefIdeal.main_v90) = v3 c
          ∧ r.2.mem ((c.tc : Thread Cert.HeadRefIdeal.nD Cert.HeadRefIdeal.τ).loc Cert.HeadRefIdeal.main_v92) = v4 c
          ∧ r.2.mem ((c.tc : Thread Cert.HeadRefIdeal.nD Cert.HeadRefIdeal.τ).loc Cert.HeadRefIdeal.main_v93) = v5 c
          ∧ r.2.mem ((c.tc : Thread Cert.HeadRefIdeal.nD Cert.HeadRefIdeal.τ).loc Cert.HeadRefIdeal.main_v94) = v6 c
          ∧ r.2.mem ((c.tc : Thread Cert.HeadRefIdeal.nD Cert.HeadRefIdeal.τ).loc Cert.HeadRefIdeal.main_v95) = v7 c
          ∧ r.2.mem ((c.tc : Thread Cert.HeadRefIdeal.nD Cert.HeadRefIdeal.τ).loc Cert.HeadRefIdeal.main_v96) = v8 c
          ∧ r.2.mem ((c.tc : Thread Cert.HeadRefIdeal.nD Cert.HeadRefIdeal.τ).loc Cert.HeadRefIdeal.main_v97) = v9 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6)
          ∧ r.2.mem ((c.tc : Thread Cert.HeadRefIdeal.nD Cert.HeadRefIdeal.τ).loc Cert.HeadRefIdeal.main_arg7) = m' ((c.tc : Thread Cert.HeadRefIdeal.nD Cert.HeadRefIdeal.τ).loc Cert.HeadRefIdeal.main_arg7)
          ∧ r.2.mem ((c.tc : Thread Cert.HeadRefIdeal.nD Cert.HeadRefIdeal.τ).loc Cert.HeadRefIdeal.main_arg8) = m' ((c.tc : Thread Cert.HeadRefIdeal.nD Cert.HeadRefIdeal.τ).loc Cert.HeadRefIdeal.main_arg8)
          ∧ r.2.mem ((c.tc : Thread Cert.HeadRefIdeal.nD Cert.HeadRefIdeal.τ).loc Cert.HeadRefIdeal.main_arg9) = m' ((c.tc : Thread Cert.HeadRefIdeal.nD Cert.HeadRefIdeal.τ).loc Cert.HeadRefIdeal.main_arg9))

def preserves_DwInR_DwInRIdeal : Prop :=
  True

def algebraic_DwInRIdeal_DwInRRefIdeal [hDwInRIdeal : Cert.DwInRIdeal.Facts] [hDwInRRefIdeal : Cert.DwInRRefIdeal.Facts] : Prop :=
  ∀ (m : (ℓ : Loc Cert.DwInRIdeal.nD Cert.DwInRIdeal.τ Cert.DwInRIdeal.sig) → Buf (Elt Ideal) ℓ) (g : Dev Cert.DwInRIdeal.nD → PrngReg)
    (m' : (ℓ : Loc Cert.DwInRRefIdeal.nD Cert.DwInRRefIdeal.τ Cert.DwInRRefIdeal.sig) → Buf (Elt Ideal) ℓ) (g' : Dev Cert.DwInRRefIdeal.nD → PrngReg), Pre_DwInRIdeal m →
    (∀ c : Dev Cert.DwInRIdeal.nD,
      m' ((c.tc : Thread Cert.DwInRRefIdeal.nD Cert.DwInRRefIdeal.τ).loc Cert.DwInRRefIdeal.main_arg0) = m ((c.tc : Thread Cert.DwInRIdeal.nD Cert.DwInRIdeal.τ).loc Cert.DwInRIdeal.main_arg0)
      ∧ m' ((c.tc : Thread Cert.DwInRRefIdeal.nD Cert.DwInRRefIdeal.τ).loc Cert.DwInRRefIdeal.main_arg1) = m ((c.tc : Thread Cert.DwInRIdeal.nD Cert.DwInRIdeal.τ).loc Cert.DwInRIdeal.main_arg1)) →
    ∃ (v0 : (c : Dev Cert.DwInRIdeal.nD) → Buf (Elt Ideal) ((c.tc : Thread Cert.DwInRIdeal.nD Cert.DwInRIdeal.τ).loc Cert.DwInRIdeal.main_v0)),
      θ_run (Cert.DwInRIdeal.defs (F := Ideal)) (onTc (τ := Cert.DwInRIdeal.τ) (Cert.DwInRIdeal.main (F := Ideal))) ⟨m, fun _ => 0, g⟩ (fun r => ∀ c : Dev Cert.DwInRIdeal.nD,
          r.2.mem ((c.tc : Thread Cert.DwInRIdeal.nD Cert.DwInRIdeal.τ).loc Cert.DwInRIdeal.main_v0) = v0 c
          ∧ r.2.mem ((c.tc : Thread Cert.DwInRIdeal.nD Cert.DwInRIdeal.τ).loc Cert.DwInRIdeal.main_arg0) = m ((c.tc : Thread Cert.DwInRIdeal.nD Cert.DwInRIdeal.τ).loc Cert.DwInRIdeal.main_arg0)
          ∧ r.2.mem ((c.tc : Thread Cert.DwInRIdeal.nD Cert.DwInRIdeal.τ).loc Cert.DwInRIdeal.main_arg1) = m ((c.tc : Thread Cert.DwInRIdeal.nD Cert.DwInRIdeal.τ).loc Cert.DwInRIdeal.main_arg1))
      ∧ θ_run (Cert.DwInRRefIdeal.defs (F := Ideal)) (onTc (τ := Cert.DwInRRefIdeal.τ) (Cert.DwInRRefIdeal.main (F := Ideal))) ⟨m', fun _ => 0, g'⟩ (fun r => ∀ c : Dev Cert.DwInRRefIdeal.nD,
          r.2.mem ((c.tc : Thread Cert.DwInRRefIdeal.nD Cert.DwInRRefIdeal.τ).loc Cert.DwInRRefIdeal.main_v3) = v0 c
          ∧ r.2.mem ((c.tc : Thread Cert.DwInRRefIdeal.nD Cert.DwInRRefIdeal.τ).loc Cert.DwInRRefIdeal.main_arg0) = m' ((c.tc : Thread Cert.DwInRRefIdeal.nD Cert.DwInRRefIdeal.τ).loc Cert.DwInRRefIdeal.main_arg0)
          ∧ r.2.mem ((c.tc : Thread Cert.DwInRRefIdeal.nD Cert.DwInRRefIdeal.τ).loc Cert.DwInRRefIdeal.main_arg1) = m' ((c.tc : Thread Cert.DwInRRefIdeal.nD Cert.DwInRRefIdeal.τ).loc Cert.DwInRRefIdeal.main_arg1))

def preserves_DwInC_DwInCIdeal : Prop :=
  True

def algebraic_DwInCIdeal_DwInCRefIdeal [hDwInCIdeal : Cert.DwInCIdeal.Facts] [hDwInCRefIdeal : Cert.DwInCRefIdeal.Facts] : Prop :=
  ∀ (m : (ℓ : Loc Cert.DwInCIdeal.nD Cert.DwInCIdeal.τ Cert.DwInCIdeal.sig) → Buf (Elt Ideal) ℓ) (g : Dev Cert.DwInCIdeal.nD → PrngReg)
    (m' : (ℓ : Loc Cert.DwInCRefIdeal.nD Cert.DwInCRefIdeal.τ Cert.DwInCRefIdeal.sig) → Buf (Elt Ideal) ℓ) (g' : Dev Cert.DwInCRefIdeal.nD → PrngReg), Pre_DwInCIdeal m →
    (∀ c : Dev Cert.DwInCIdeal.nD,
      m' ((c.tc : Thread Cert.DwInCRefIdeal.nD Cert.DwInCRefIdeal.τ).loc Cert.DwInCRefIdeal.main_arg0) = m ((c.tc : Thread Cert.DwInCIdeal.nD Cert.DwInCIdeal.τ).loc Cert.DwInCIdeal.main_arg0)
      ∧ m' ((c.tc : Thread Cert.DwInCRefIdeal.nD Cert.DwInCRefIdeal.τ).loc Cert.DwInCRefIdeal.main_arg1) = m ((c.tc : Thread Cert.DwInCIdeal.nD Cert.DwInCIdeal.τ).loc Cert.DwInCIdeal.main_arg1)) →
    ∃ (v0 : (c : Dev Cert.DwInCIdeal.nD) → Buf (Elt Ideal) ((c.tc : Thread Cert.DwInCIdeal.nD Cert.DwInCIdeal.τ).loc Cert.DwInCIdeal.main_v0)),
      θ_run (Cert.DwInCIdeal.defs (F := Ideal)) (onTc (τ := Cert.DwInCIdeal.τ) (Cert.DwInCIdeal.main (F := Ideal))) ⟨m, fun _ => 0, g⟩ (fun r => ∀ c : Dev Cert.DwInCIdeal.nD,
          r.2.mem ((c.tc : Thread Cert.DwInCIdeal.nD Cert.DwInCIdeal.τ).loc Cert.DwInCIdeal.main_v0) = v0 c
          ∧ r.2.mem ((c.tc : Thread Cert.DwInCIdeal.nD Cert.DwInCIdeal.τ).loc Cert.DwInCIdeal.main_arg0) = m ((c.tc : Thread Cert.DwInCIdeal.nD Cert.DwInCIdeal.τ).loc Cert.DwInCIdeal.main_arg0)
          ∧ r.2.mem ((c.tc : Thread Cert.DwInCIdeal.nD Cert.DwInCIdeal.τ).loc Cert.DwInCIdeal.main_arg1) = m ((c.tc : Thread Cert.DwInCIdeal.nD Cert.DwInCIdeal.τ).loc Cert.DwInCIdeal.main_arg1))
      ∧ θ_run (Cert.DwInCRefIdeal.defs (F := Ideal)) (onTc (τ := Cert.DwInCRefIdeal.τ) (Cert.DwInCRefIdeal.main (F := Ideal))) ⟨m', fun _ => 0, g'⟩ (fun r => ∀ c : Dev Cert.DwInCRefIdeal.nD,
          r.2.mem ((c.tc : Thread Cert.DwInCRefIdeal.nD Cert.DwInCRefIdeal.τ).loc Cert.DwInCRefIdeal.main_v3) = v0 c
          ∧ r.2.mem ((c.tc : Thread Cert.DwInCRefIdeal.nD Cert.DwInCRefIdeal.τ).loc Cert.DwInCRefIdeal.main_arg0) = m' ((c.tc : Thread Cert.DwInCRefIdeal.nD Cert.DwInCRefIdeal.τ).loc Cert.DwInCRefIdeal.main_arg0)
          ∧ r.2.mem ((c.tc : Thread Cert.DwInCRefIdeal.nD Cert.DwInCRefIdeal.τ).loc Cert.DwInCRefIdeal.main_arg1) = m' ((c.tc : Thread Cert.DwInCRefIdeal.nD Cert.DwInCRefIdeal.τ).loc Cert.DwInCRefIdeal.main_arg1))

def preserves_DwInG_DwInGIdeal : Prop :=
  True

def algebraic_DwInGIdeal_DwInGRefIdeal [hDwInGIdeal : Cert.DwInGIdeal.Facts] [hDwInGRefIdeal : Cert.DwInGRefIdeal.Facts] : Prop :=
  ∀ (m : (ℓ : Loc Cert.DwInGIdeal.nD Cert.DwInGIdeal.τ Cert.DwInGIdeal.sig) → Buf (Elt Ideal) ℓ) (g : Dev Cert.DwInGIdeal.nD → PrngReg)
    (m' : (ℓ : Loc Cert.DwInGRefIdeal.nD Cert.DwInGRefIdeal.τ Cert.DwInGRefIdeal.sig) → Buf (Elt Ideal) ℓ) (g' : Dev Cert.DwInGRefIdeal.nD → PrngReg), Pre_DwInGIdeal m →
    (∀ c : Dev Cert.DwInGIdeal.nD,
      m' ((c.tc : Thread Cert.DwInGRefIdeal.nD Cert.DwInGRefIdeal.τ).loc Cert.DwInGRefIdeal.main_arg0) = m ((c.tc : Thread Cert.DwInGIdeal.nD Cert.DwInGIdeal.τ).loc Cert.DwInGIdeal.main_arg0)
      ∧ m' ((c.tc : Thread Cert.DwInGRefIdeal.nD Cert.DwInGRefIdeal.τ).loc Cert.DwInGRefIdeal.main_arg1) = m ((c.tc : Thread Cert.DwInGIdeal.nD Cert.DwInGIdeal.τ).loc Cert.DwInGIdeal.main_arg1)) →
    ∃ (v0 : (c : Dev Cert.DwInGIdeal.nD) → Buf (Elt Ideal) ((c.tc : Thread Cert.DwInGIdeal.nD Cert.DwInGIdeal.τ).loc Cert.DwInGIdeal.main_v0)),
      θ_run (Cert.DwInGIdeal.defs (F := Ideal)) (onTc (τ := Cert.DwInGIdeal.τ) (Cert.DwInGIdeal.main (F := Ideal))) ⟨m, fun _ => 0, g⟩ (fun r => ∀ c : Dev Cert.DwInGIdeal.nD,
          r.2.mem ((c.tc : Thread Cert.DwInGIdeal.nD Cert.DwInGIdeal.τ).loc Cert.DwInGIdeal.main_v0) = v0 c
          ∧ r.2.mem ((c.tc : Thread Cert.DwInGIdeal.nD Cert.DwInGIdeal.τ).loc Cert.DwInGIdeal.main_arg0) = m ((c.tc : Thread Cert.DwInGIdeal.nD Cert.DwInGIdeal.τ).loc Cert.DwInGIdeal.main_arg0)
          ∧ r.2.mem ((c.tc : Thread Cert.DwInGIdeal.nD Cert.DwInGIdeal.τ).loc Cert.DwInGIdeal.main_arg1) = m ((c.tc : Thread Cert.DwInGIdeal.nD Cert.DwInGIdeal.τ).loc Cert.DwInGIdeal.main_arg1))
      ∧ θ_run (Cert.DwInGRefIdeal.defs (F := Ideal)) (onTc (τ := Cert.DwInGRefIdeal.τ) (Cert.DwInGRefIdeal.main (F := Ideal))) ⟨m', fun _ => 0, g'⟩ (fun r => ∀ c : Dev Cert.DwInGRefIdeal.nD,
          r.2.mem ((c.tc : Thread Cert.DwInGRefIdeal.nD Cert.DwInGRefIdeal.τ).loc Cert.DwInGRefIdeal.main_v3) = v0 c
          ∧ r.2.mem ((c.tc : Thread Cert.DwInGRefIdeal.nD Cert.DwInGRefIdeal.τ).loc Cert.DwInGRefIdeal.main_arg0) = m' ((c.tc : Thread Cert.DwInGRefIdeal.nD Cert.DwInGRefIdeal.τ).loc Cert.DwInGRefIdeal.main_arg0)
          ∧ r.2.mem ((c.tc : Thread Cert.DwInGRefIdeal.nD Cert.DwInGRefIdeal.τ).loc Cert.DwInGRefIdeal.main_arg1) = m' ((c.tc : Thread Cert.DwInGRefIdeal.nD Cert.DwInGRefIdeal.τ).loc Cert.DwInGRefIdeal.main_arg1))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)
      ∧ m' ((c.tc : Thread Cert.ConvFwdRefIdeal.nD Cert.ConvFwdRefIdeal.τ).loc Cert.ConvFwdRefIdeal.main_arg3) = m ((c.tc : Thread Cert.ConvFwdIdeal.nD Cert.ConvFwdIdeal.τ).loc Cert.ConvFwdIdeal.main_arg3)
      ∧ m' ((c.tc : Thread Cert.ConvFwdRefIdeal.nD Cert.ConvFwdRefIdeal.τ).loc Cert.ConvFwdRefIdeal.main_arg4) = m ((c.tc : Thread Cert.ConvFwdIdeal.nD Cert.ConvFwdIdeal.τ).loc Cert.ConvFwdIdeal.main_arg4)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
          ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
          ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v194) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2)
          ∧ r.2.mem ((c.tc : Thread Cert.ConvFwdRefIdeal.nD Cert.ConvFwdRefIdeal.τ).loc Cert.ConvFwdRefIdeal.main_arg3) = m' ((c.tc : Thread Cert.ConvFwdRefIdeal.nD Cert.ConvFwdRefIdeal.τ).loc Cert.ConvFwdRefIdeal.main_arg3)
          ∧ r.2.mem ((c.tc : Thread Cert.ConvFwdRefIdeal.nD Cert.ConvFwdRefIdeal.τ).loc Cert.ConvFwdRefIdeal.main_arg4) = m' ((c.tc : Thread Cert.ConvFwdRefIdeal.nD Cert.ConvFwdRefIdeal.τ).loc Cert.ConvFwdRefIdeal.main_arg4))

def Claim : Prop :=
  ∃ (hScatter : Cert.Scatter.Facts) (hScatterIdeal : Cert.ScatterIdeal.Facts) (hScatterRefIdeal : Cert.ScatterRefIdeal.Facts) (hScatterRef : Cert.ScatterRef.Facts) (hGather : Cert.Gather.Facts) (hGatherIdeal : Cert.GatherIdeal.Facts) (hGatherRefIdeal : Cert.GatherRefIdeal.Facts) (hGatherRef : Cert.GatherRef.Facts) (hUpdate : Cert.Update.Facts) (hUpdateIdeal : Cert.UpdateIdeal.Facts) (hUpdateRefIdeal : Cert.UpdateRefIdeal.Facts) (hSumSmall : Cert.SumSmall.Facts) (hSumSmallIdeal : Cert.SumSmallIdeal.Facts) (hSumSmallRefIdeal : Cert.SumSmallRefIdeal.Facts) (hGradAda : Cert.GradAda.Facts) (hGradAdaIdeal : Cert.GradAdaIdeal.Facts) (hGradAdaRefIdeal : Cert.GradAdaRefIdeal.Facts) (hAdamSmall : Cert.AdamSmall.Facts) (hAdamSmallIdeal : Cert.AdamSmallIdeal.Facts) (hAdamSmallRefIdeal : Cert.AdamSmallRefIdeal.Facts) (hAdamConv : Cert.AdamConv.Facts) (hAdamConvIdeal : Cert.AdamConvIdeal.Facts) (hAdamConvRefIdeal : Cert.AdamConvRefIdeal.Facts) (hAdamAda : Cert.AdamAda.Facts) (hAdamAdaIdeal : Cert.AdamAdaIdeal.Facts) (hAdamAdaRefIdeal : Cert.AdamAdaRefIdeal.Facts) (hModPart : Cert.ModPart.Facts) (hModPartIdeal : Cert.ModPartIdeal.Facts) (hModPartRefIdeal : Cert.ModPartRefIdeal.Facts) (hDwOut : Cert.DwOut.Facts) (hDwOutIdeal : Cert.DwOutIdeal.Facts) (hDwOutRefIdeal : Cert.DwOutRefIdeal.Facts) (hDwRet : Cert.DwRet.Facts) (hDwRetIdeal : Cert.DwRetIdeal.Facts) (hDwRetRefIdeal : Cert.DwRetRefIdeal.Facts) (hGradX : Cert.GradX.Facts) (hGradXIdeal : Cert.GradXIdeal.Facts) (hGradXRefIdeal : Cert.GradXRefIdeal.Facts) (hHead : Cert.Head.Facts) (hHeadIdeal : Cert.HeadIdeal.Facts) (hHeadRefIdeal : Cert.HeadRefIdeal.Facts) (hDwInR : Cert.DwInR.Facts) (hDwInRIdeal : Cert.DwInRIdeal.Facts) (hDwInRRefIdeal : Cert.DwInRRefIdeal.Facts) (hDwInC : Cert.DwInC.Facts) (hDwInCIdeal : Cert.DwInCIdeal.Facts) (hDwInCRefIdeal : Cert.DwInCRefIdeal.Facts) (hDwInG : Cert.DwInG.Facts) (hDwInGIdeal : Cert.DwInGIdeal.Facts) (hDwInGRefIdeal : Cert.DwInGRefIdeal.Facts) (hConvFwd : Cert.ConvFwd.Facts) (hConvFwdIdeal : Cert.ConvFwdIdeal.Facts) (hConvFwdRefIdeal : Cert.ConvFwdRefIdeal.Facts),
    quiescent_Scatter (hScatter := hScatter)
    ∧ quiescent_ScatterIdeal (hScatterIdeal := hScatterIdeal)
    ∧ quiescent_ScatterRefIdeal (hScatterRefIdeal := hScatterRefIdeal)
    ∧ quiescent_ScatterRef (hScatterRef := hScatterRef)
    ∧ quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_Update (hUpdate := hUpdate)
    ∧ quiescent_UpdateIdeal (hUpdateIdeal := hUpdateIdeal)
    ∧ quiescent_UpdateRefIdeal (hUpdateRefIdeal := hUpdateRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_GradAda (hGradAda := hGradAda)
    ∧ quiescent_GradAdaIdeal (hGradAdaIdeal := hGradAdaIdeal)
    ∧ quiescent_GradAdaRefIdeal (hGradAdaRefIdeal := hGradAdaRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_ModPart (hModPart := hModPart)
    ∧ quiescent_ModPartIdeal (hModPartIdeal := hModPartIdeal)
    ∧ quiescent_ModPartRefIdeal (hModPartRefIdeal := hModPartRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwRet (hDwRet := hDwRet)
    ∧ quiescent_DwRetIdeal (hDwRetIdeal := hDwRetIdeal)
    ∧ quiescent_DwRetRefIdeal (hDwRetRefIdeal := hDwRetRefIdeal)
    ∧ quiescent_GradX (hGradX := hGradX)
    ∧ quiescent_GradXIdeal (hGradXIdeal := hGradXIdeal)
    ∧ quiescent_GradXRefIdeal (hGradXRefIdeal := hGradXRefIdeal)
    ∧ quiescent_Head (hHead := hHead)
    ∧ quiescent_HeadIdeal (hHeadIdeal := hHeadIdeal)
    ∧ quiescent_HeadRefIdeal (hHeadRefIdeal := hHeadRefIdeal)
    ∧ quiescent_DwInR (hDwInR := hDwInR)
    ∧ quiescent_DwInRIdeal (hDwInRIdeal := hDwInRIdeal)
    ∧ quiescent_DwInRRefIdeal (hDwInRRefIdeal := hDwInRRefIdeal)
    ∧ quiescent_DwInC (hDwInC := hDwInC)
    ∧ quiescent_DwInCIdeal (hDwInCIdeal := hDwInCIdeal)
    ∧ quiescent_DwInCRefIdeal (hDwInCRefIdeal := hDwInCRefIdeal)
    ∧ quiescent_DwInG (hDwInG := hDwInG)
    ∧ quiescent_DwInGIdeal (hDwInGIdeal := hDwInGIdeal)
    ∧ quiescent_DwInGRefIdeal (hDwInGRefIdeal := hDwInGRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ preserves_Scatter_ScatterIdeal
    ∧ algebraic_ScatterIdeal_ScatterRefIdeal (hScatterIdeal := hScatterIdeal) (hScatterRefIdeal := hScatterRefIdeal)
    ∧ bitexact_Scatter_ScatterRef (hScatter := hScatter) (hScatterRef := hScatterRef)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_Update_UpdateIdeal
    ∧ algebraic_UpdateIdeal_UpdateRefIdeal (hUpdateIdeal := hUpdateIdeal) (hUpdateRefIdeal := hUpdateRefIdeal)
    ∧ preserves_SumSmall_SumSmallIdeal
    ∧ algebraic_SumSmallIdeal_SumSmallRefIdeal (hSumSmallIdeal := hSumSmallIdeal) (hSumSmallRefIdeal := hSumSmallRefIdeal)
    ∧ preserves_GradAda_GradAdaIdeal
    ∧ algebraic_GradAdaIdeal_GradAdaRefIdeal (hGradAdaIdeal := hGradAdaIdeal) (hGradAdaRefIdeal := hGradAdaRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_ModPart_ModPartIdeal
    ∧ algebraic_ModPartIdeal_ModPartRefIdeal (hModPartIdeal := hModPartIdeal) (hModPartRefIdeal := hModPartRefIdeal)
    ∧ preserves_DwOut_DwOutIdeal
    ∧ algebraic_DwOutIdeal_DwOutRefIdeal (hDwOutIdeal := hDwOutIdeal) (hDwOutRefIdeal := hDwOutRefIdeal)
    ∧ preserves_DwRet_DwRetIdeal
    ∧ algebraic_DwRetIdeal_DwRetRefIdeal (hDwRetIdeal := hDwRetIdeal) (hDwRetRefIdeal := hDwRetRefIdeal)
    ∧ preserves_GradX_GradXIdeal
    ∧ algebraic_GradXIdeal_GradXRefIdeal (hGradXIdeal := hGradXIdeal) (hGradXRefIdeal := hGradXRefIdeal)
    ∧ preserves_Head_HeadIdeal
    ∧ algebraic_HeadIdeal_HeadRefIdeal (hHeadIdeal := hHeadIdeal) (hHeadRefIdeal := hHeadRefIdeal)
    ∧ preserves_DwInR_DwInRIdeal
    ∧ algebraic_DwInRIdeal_DwInRRefIdeal (hDwInRIdeal := hDwInRIdeal) (hDwInRRefIdeal := hDwInRRefIdeal)
    ∧ preserves_DwInC_DwInCIdeal
    ∧ algebraic_DwInCIdeal_DwInCRefIdeal (hDwInCIdeal := hDwInCIdeal) (hDwInCRefIdeal := hDwInCRefIdeal)
    ∧ preserves_DwInG_DwInGIdeal
    ∧ algebraic_DwInGIdeal_DwInGRefIdeal (hDwInGIdeal := hDwInGIdeal) (hDwInGRefIdeal := hDwInGRefIdeal)
    ∧ preserves_ConvFwd_ConvFwdIdeal
    ∧ algebraic_ConvFwdIdeal_ConvFwdRefIdeal (hConvFwdIdeal := hConvFwdIdeal) (hConvFwdRefIdeal := hConvFwdRefIdeal)
-- ==== Scatter.lean ====
abbrev S8x1024x1408 : Shape := ⟨3, ![8, 1024, 1408]⟩
abbrev S8x256x1024 : Shape := ⟨3, ![8, 256, 1024]⟩
abbrev S8x128x1024 : Shape := ⟨3, ![8, 128, 1024]⟩
abbrev S4x7 : Shape := ⟨2, ![4, 7]⟩
abbrev S4 : Shape := ⟨1, ![4]⟩
abbrev S1 : Shape := ⟨1, ![1]⟩
abbrev S_ : Shape := ⟨0, ![]⟩
abbrev S1x1024x1408 : Shape := ⟨3, ![1, 1024, 1408]⟩
abbrev S1024x1408 : Shape := ⟨2, ![1024, 1408]⟩
abbrev S1x256x1024 : Shape := ⟨3, ![1, 256, 1024]⟩
abbrev S256x1024 : Shape := ⟨2, ![256, 1024]⟩
abbrev S1x128x1024 : Shape := ⟨3, ![1, 128, 1024]⟩
abbrev S128x1024 : Shape := ⟨2, ![128, 1024]⟩
abbrev S1x1 : Shape := ⟨2, ![1, 1]⟩

abbrev nBuf : Space → Nat
  | .hbm => 8
  | .vmem => 0
  | .smem => 0
  | _ => 0

abbrev bufTy : (tb : Table) → Fin (tcTables nBuf tb) → BufTy
  | .hbm, ⟨0, _⟩ => ⟨S8x1024x1408, .bf16⟩
  | .hbm, ⟨1, _⟩ => ⟨S8x256x1024, .bf16⟩
  | .hbm, ⟨2, _⟩ => ⟨S8x128x1024, .bf16⟩
  | .hbm, ⟨3, _⟩ => ⟨S8x128x1024, .bf16⟩
  | .hbm, ⟨4, _⟩ => ⟨S8x1024x1408, .bf16⟩
  | .hbm, ⟨5, _⟩ => ⟨S8x256x1024, .bf16⟩
  | .hbm, ⟨6, _⟩ => ⟨S8x128x1024, .bf16⟩
  | .hbm, ⟨7, _⟩ => ⟨S8x128x1024, .bf16⟩
  | _, _ => ⟨S8x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_10 : BitVec 32 := 0#32
  let c0_i32_11 : BitVec 32 := 0#32
  ![v12.toNat, 0, 0]
def k0_off3 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_15 : BitVec 32 := 0#32
  let c0_i32_16 : BitVec 32 := 0#32
  ![v12.toNat, 0, 0]
def k0_off4 (d0 : Dev nD) (c0_i32_29 : BitVec 32) (c0_i32_31 : BitVec 32) (c1_i32_33 : BitVec 32) : Fin 3 → Nat :=
  let c4_i32_35 : BitVec 32 := 4#32
  let v37 : BitVec 32 := Dev.word d0
  let c4_i32_24 : BitVec 32 := 4#32
  let v38 : BitVec 32 := Scalar.divsi v37 c4_i32_24
  let c2_i32_23 : BitVec 32 := 2#32
  let v39 : BitVec 32 := Scalar.remsi v38 c2_i32_23
  let v46 : BitVec 32 := Scalar.addi v39 c0_i32_29
  let c2_i32_30 : BitVec 32 := 2#32
  let v47 : BitVec 32 := Scalar.remsi v46 c2_i32_30
  let v52 : BitVec 32 := Scalar.muli c4_i32_35 v47
  let c2_i32_36 : BitVec 32 := 2#32
  let v40 : BitVec 32 := Dev.word d0
  let c2_i32_26 : BitVec 32 := 2#32
  let v41 : BitVec 32 := Scalar.divsi v40 c2_i32_26
  let c2_i32_25 : BitVec 32 := 2#32
  let v42 : BitVec 32 := Scalar.remsi v41 c2_i32_25
  let v48 : BitVec 32 := Scalar.addi v42 c0_i32_31
  let c2_i32_32 : BitVec 32 := 2#32
  let v49 : BitVec 32 := Scalar.remsi v48 c2_i32_32
  let v53 : BitVec 32 := Scalar.muli c2_i32_36 v49
  let v54 : BitVec 32 := Scalar.addi v52 v53
  let v43 : BitVec 32 := Dev.word d0
  let c1_i32_28 : BitVec 32 := 1#32
  let v44 : BitVec 32 := Scalar.divsi v43 c1_i32_28
  let c2_i32_27 : BitVec 32 := 2#32
  let v45 : BitVec 32 := Scalar.remsi v44 c2_i32_27
  let v50 : BitVec 32 := Scalar.addi v45 c1_i32_33
  let c2_i32_34 : BitVec 32 := 2#32
  let v51 : BitVec 32 := Scalar.remsi v50 c2_i32_34
  let v55 : BitVec 32 := Scalar.addi v54 v51
  let c0_i32_47 : BitVec 32 := 0#32
  let c0_i32_48 : BitVec 32 := 0#32
  ![v55.toNat, 0, 0]
def k0_off4_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev1 (d0 : Dev nD) : Nat :=
  let c0_i32_42 : BitVec 32 := 0#32
  let v37 : BitVec 32 := Dev.word d0
  let c4_i32_24 : BitVec 32 := 4#32
  let v38 : BitVec 32 := Scalar.divsi v37 c4_i32_24
  let c2_i32_23 : BitVec 32 := 2#32
  let v39 : BitVec 32 := Scalar.remsi v38 c2_i32_23
  let c0_i32_29 : BitVec 32 := 0#32
  let v46 : BitVec 32 := Scalar.addi v39 c0_i32_29
  let c2_i32_30 : BitVec 32 := 2#32
  let v47 : BitVec 32 := Scalar.remsi v46 c2_i32_30
  let c4_i32_41 : BitVec 32 := 4#32
  let v56 : BitVec 32 := Scalar.muli v47 c4_i32_41
  let v57 : BitVec 32 := Scalar.addi c0_i32_42 v56
  let v40 : BitVec 32 := Dev.word d0
  let c2_i32_26 : BitVec 32 := 2#32
  let v41 : BitVec 32 := Scalar.divsi v40 c2_i32_26
  let c2_i32_25 : BitVec 32 := 2#32
  let v42 : BitVec 32 := Scalar.remsi v41 c2_i32_25
  let c0_i32_31 : BitVec 32 := 0#32
  let v48 : BitVec 32 := Scalar.addi v42 c0_i32_31
  let c2_i32_32 : BitVec 32 := 2#32
  let v49 : BitVec 32 := Scalar.remsi v48 c2_i32_32
  let c2_i32_43 : BitVec 32 := 2#32
  let v58 : BitVec 32 := Scalar.muli v49 c2_i32_43
  let v59 : BitVec 32 := Scalar.addi v57 v58
  let v43 : BitVec 32 := Dev.word d0
  let c1_i32_28 : BitVec 32 := 1#32
  let v44 : BitVec 32 := Scalar.divsi v43 c1_i32_28
  let c2_i32_27 : BitVec 32 := 2#32
  let v45 : BitVec 32 := Scalar.remsi v44 c2_i32_27
  let c1_i32_33 : BitVec 32 := 1#32
  let v50 : BitVec 32 := Scalar.addi v45 c1_i32_33
  let c2_i32_34 : BitVec 32 := 2#32
  let v51 : BitVec 32 := Scalar.remsi v50 c2_i32_34
  let c1_i32_44 : BitVec 32 := 1#32
  let v60 : BitVec 32 := Scalar.muli v51 c1_i32_44
  let v61 : BitVec 32 := Scalar.addi v59 v60
  v61.toNat
def k0_off5 (d0 : Dev nD) (c0_i32_29 : BitVec 32) (c0_i32_31 : BitVec 32) (c1_i32_33 : BitVec 32) : Fin 3 → Nat :=
  let c4_i32_35 : BitVec 32 := 4#32
  let v37 : BitVec 32 := Dev.word d0
  let c4_i32_24 : BitVec 32 := 4#32
  let v38 : BitVec 32 := Scalar.divsi v37 c4_i32_24
  let c2_i32_23 : BitVec 32 := 2#32
  let v39 : BitVec 32 := Scalar.remsi v38 c2_i32_23
  let v46 : BitVec 32 := Scalar.addi v39 c0_i32_29
  let c2_i32_30 : BitVec 32 := 2#32
  let v47 : BitVec 32 := Scalar.remsi v46 c2_i32_30
  let v52 : BitVec 32 := Scalar.muli c4_i32_35 v47
  let c2_i32_36 : BitVec 32 := 2#32
  let v40 : BitVec 32 := Dev.word d0
  let c2_i32_26 : BitVec 32 := 2#32
  let v41 : BitVec 32 := Scalar.divsi v40 c2_i32_26
  let c2_i32_25 : BitVec 32 := 2#32
  let v42 : BitVec 32 := Scalar.remsi v41 c2_i32_25
  let v48 : BitVec 32 := Scalar.addi v42 c0_i32_31
  let c2_i32_32 : BitVec 32 := 2#32
  let v49 : BitVec 32 := Scalar.remsi v48 c2_i32_32
  let v53 : BitVec 32 := Scalar.muli c2_i32_36 v49
  let v54 : BitVec 32 := Scalar.addi v52 v53
  let v43 : BitVec 32 := Dev.word d0
  let c1_i32_28 : BitVec 32 := 1#32
  let v44 : BitVec 32 := Scalar.divsi v43 c1_i32_28
  let c2_i32_27 : BitVec 32 := 2#32
  let v45 : BitVec 32 := Scalar.remsi v44 c2_i32_27
  let v50 : BitVec 32 := Scalar.addi v45 c1_i32_33
  let c2_i32_34 : BitVec 32 := 2#32
  let v51 : BitVec 32 := Scalar.remsi v50 c2_i32_34
  let v55 : BitVec 32 := Scalar.addi v54 v51
  let c0_i32_59 : BitVec 32 := 0#32
  let c0_i32_60 : BitVec 32 := 0#32
  ![v55.toNat, 0, 0]
def k0_off5_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev2 (d0 : Dev nD) : Nat :=
  let c0_i32_54 : BitVec 32 := 0#32
  let v37 : BitVec 32 := Dev.word d0
  let c4_i32_24 : BitVec 32 := 4#32
  let v38 : BitVec 32 := Scalar.divsi v37 c4_i32_24
  let c2_i32_23 : BitVec 32 := 2#32
  let v39 : BitVec 32 := Scalar.remsi v38 c2_i32_23
  let c0_i32_29 : BitVec 32 := 0#32
  let v46 : BitVec 32 := Scalar.addi v39 c0_i32_29
  let c2_i32_30 : BitVec 32 := 2#32
  let v47 : BitVec 32 := Scalar.remsi v46 c2_i32_30
  let c4_i32_53 : BitVec 32 := 4#32
  let v70 : BitVec 32 := Scalar.muli v47 c4_i32_53
  let v71 : BitVec 32 := Scalar.addi c0_i32_54 v70
  let v40 : BitVec 32 := Dev.word d0
  let c2_i32_26 : BitVec 32 := 2#32
  let v41 : BitVec 32 := Scalar.divsi v40 c2_i32_26
  let c2_i32_25 : BitVec 32 := 2#32
  let v42 : BitVec 32 := Scalar.remsi v41 c2_i32_25
  let c0_i32_31 : BitVec 32 := 0#32
  let v48 : BitVec 32 := Scalar.addi v42 c0_i32_31
  let c2_i32_32 : BitVec 32 := 2#32
  let v49 : BitVec 32 := Scalar.remsi v48 c2_i32_32
  let c2_i32_55 : BitVec 32 := 2#32
  let v72 : BitVec 32 := Scalar.muli v49 c2_i32_55
  let v73 : BitVec 32 := Scalar.addi v71 v72
  let v43 : BitVec 32 := Dev.word d0
  let c1_i32_28 : BitVec 32 := 1#32
  let v44 : BitVec 32 := Scalar.divsi v43 c1_i32_28
  let c2_i32_27 : BitVec 32 := 2#32
  let v45 : BitVec 32 := Scalar.remsi v44 c2_i32_27
  let c1_i32_33 : BitVec 32 := 1#32
  let v50 : BitVec 32 := Scalar.addi v45 c1_i32_33
  let c2_i32_34 : BitVec 32 := 2#32
  let v51 : BitVec 32 := Scalar.remsi v50 c2_i32_34
  let c1_i32_56 : BitVec 32 := 1#32
  let v74 : BitVec 32 := Scalar.muli v51 c1_i32_56
  let v75 : BitVec 32 := Scalar.addi v73 v74
  v75.toNat
def k0_off6 (d0 : Dev nD) (c0_i32_29 : BitVec 32) (c0_i32_31 : BitVec 32) (c1_i32_33 : BitVec 32) : Fin 3 → Nat :=
  let c4_i32_35 : BitVec 32 := 4#32
  let v37 : BitVec 32 := Dev.word d0
  let c4_i32_24 : BitVec 32 := 4#32
  let v38 : BitVec 32 := Scalar.divsi v37 c4_i32_24
  let c2_i32_23 : BitVec 32 := 2#32
  let v39 : BitVec 32 := Scalar.remsi v38 c2_i32_23
  let v46 : BitVec 32 := Scalar.addi v39 c0_i32_29
  let c2_i32_30 : BitVec 32 := 2#32
  let v47 : BitVec 32 := Scalar.remsi v46 c2_i32_30
  let v52 : BitVec 32 := Scalar.muli c4_i32_35 v47
  let c2_i32_36 : BitVec 32 := 2#32
  let v40 : BitVec 32 := Dev.word d0
  let c2_i32_26 : BitVec 32 := 2#32
  let v41 : BitVec 32 := Scalar.divsi v40 c2_i32_26
  let c2_i32_25 : BitVec 32 := 2#32
  let v42 : BitVec 32 := Scalar.remsi v41 c2_i32_25
  let v48 : BitVec 32 := Scalar.addi v42 c0_i32_31
  let c2_i32_32 : BitVec 32 := 2#32
  let v49 : BitVec 32 := Scalar.remsi v48 c2_i32_32
  let v53 : BitVec 32 := Scalar.muli c2_i32_36 v49
  let v54 : BitVec 32 := Scalar.addi v52 v53
  let v43 : BitVec 32 := Dev.word d0
  let c1_i32_28 : BitVec 32 := 1#32
  let v44 : BitVec 32 := Scalar.divsi v43 c1_i32_28
  let c2_i32_27 : BitVec 32 := 2#32
  let v45 : BitVec 32 := Scalar.remsi v44 c2_i32_27
  let v50 : BitVec 32 := Scalar.addi v45 c1_i32_33
  let c2_i32_34 : BitVec 32 := 2#32
  let v51 : BitVec 32 := Scalar.remsi v50 c2_i32_34
  let v55 : BitVec 32 := Scalar.addi v54 v51
  let c0_i32_71 : BitVec 32 := 0#32
  let c0_i32_72 : BitVec 32 := 0#32
  ![v55.toNat, 0, 0]
def k0_off6_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev3 (d0 : Dev nD) : Nat :=
  let c0_i32_66 : BitVec 32 := 0#32
  let v37 : BitVec 32 := Dev.word d0
  let c4_i32_24 : BitVec 32 := 4#32
  let v38 : BitVec 32 := Scalar.divsi v37 c4_i32_24
  let c2_i32_23 : BitVec 32 := 2#32
  let v39 : BitVec 32 := Scalar.remsi v38 c2_i32_23
  let c0_i32_29 : BitVec 32 := 0#32
  let v46 : BitVec 32 := Scalar.addi v39 c0_i32_29
  let c2_i32_30 : BitVec 32 := 2#32
  let v47 : BitVec 32 := Scalar.remsi v46 c2_i32_30
  let c4_i32_65 : BitVec 32 := 4#32
  let v84 : BitVec 32 := Scalar.muli v47 c4_i32_65
  let v85 : BitVec 32 := Scalar.addi c0_i32_66 v84
  let v40 : BitVec 32 := Dev.word d0
  let c2_i32_26 : BitVec 32 := 2#32
  let v41 : BitVec 32 := Scalar.divsi v40 c2_i32_26
  let c2_i32_25 : BitVec 32 := 2#32
  let v42 : BitVec 32 := Scalar.remsi v41 c2_i32_25
  let c0_i32_31 : BitVec 32 := 0#32
  let v48 : BitVec 32 := Scalar.addi v42 c0_i32_31
  let c2_i32_32 : BitVec 32 := 2#32
  let v49 : BitVec 32 := Scalar.remsi v48 c2_i32_32
  let c2_i32_67 : BitVec 32 := 2#32
  let v86 : BitVec 32 := Scalar.muli v49 c2_i32_67
  let v87 : BitVec 32 := Scalar.addi v85 v86
  let v43 : BitVec 32 := Dev.word d0
  let c1_i32_28 : BitVec 32 := 1#32
  let v44 : BitVec 32 := Scalar.divsi v43 c1_i32_28
  let c2_i32_27 : BitVec 32 := 2#32
  let v45 : BitVec 32 := Scalar.remsi v44 c2_i32_27
  let c1_i32_33 : BitVec 32 := 1#32
  let v50 : BitVec 32 := Scalar.addi v45 c1_i32_33
  let c2_i32_34 : BitVec 32 := 2#32
  let v51 : BitVec 32 := Scalar.remsi v50 c2_i32_34
  let c1_i32_68 : BitVec 32 := 1#32
  let v88 : BitVec 32 := Scalar.muli v51 c1_i32_68
  let v89 : BitVec 32 := Scalar.addi v87 v88
  v89.toNat
def k0_dev4 (d0 : Dev nD) : Nat :=
  let c0_i32_78 : BitVec 32 := 0#32
  let v37 : BitVec 32 := Dev.word d0
  let c4_i32_24 : BitVec 32 := 4#32
  let v38 : BitVec 32 := Scalar.divsi v37 c4_i32_24
  let c2_i32_23 : BitVec 32 := 2#32
  let v39 : BitVec 32 := Scalar.remsi v38 c2_i32_23
  let c0_i32_29 : BitVec 32 := 0#32
  let v46 : BitVec 32 := Scalar.addi v39 c0_i32_29
  let c2_i32_30 : BitVec 32 := 2#32
  let v47 : BitVec 32 := Scalar.remsi v46 c2_i32_30
  let c4_i32_77 : BitVec 32 := 4#32
  let v98 : BitVec 32 := Scalar.muli v47 c4_i32_77
  let v99 : BitVec 32 := Scalar.addi c0_i32_78 v98
  let v40 : BitVec 32 := Dev.word d0
  let c2_i32_26 : BitVec 32 := 2#32
  let v41 : BitVec 32 := Scalar.divsi v40 c2_i32_26
  let c2_i32_25 : BitVec 32 := 2#32
  let v42 : BitVec 32 := Scalar.remsi v41 c2_i32_25
  let c0_i32_31 : BitVec 32 := 0#32
  let v48 : BitVec 32 := Scalar.addi v42 c0_i32_31
  let c2_i32_32 : BitVec 32 := 2#32
  let v49 : BitVec 32 := Scalar.remsi v48 c2_i32_32
  let c2_i32_79 : BitVec 32 := 2#32
  let v100 : BitVec 32 := Scalar.muli v49 c2_i32_79
  let v101 : BitVec 32 := Scalar.addi v99 v100
  let v43 : BitVec 32 := Dev.word d0
  let c1_i32_28 : BitVec 32 := 1#32
  let v44 : BitVec 32 := Scalar.divsi v43 c1_i32_28
  let c2_i32_27 : BitVec 32 := 2#32
  let v45 : BitVec 32 := Scalar.remsi v44 c2_i32_27
  let c1_i32_33 : BitVec 32 := 1#32
  let v50 : BitVec 32 := Scalar.addi v45 c1_i32_33
  let c2_i32_34 : BitVec 32 := 2#32
  let v51 : BitVec 32 := Scalar.remsi v50 c2_i32_34
  let c1_i32_80 : BitVec 32 := 1#32
  let v102 : BitVec 32 := Scalar.muli v51 c1_i32_80
  let v103 : BitVec 32 := Scalar.addi v101 v102
  v103.toNat
def k0_dev5 (d0 : Dev nD) : Nat :=
  let c0_i32_104 : BitVec 32 := 0#32
  let v112 : BitVec 32 := Dev.word d0
  let c4_i32_86 : BitVec 32 := 4#32
  let v113 : BitVec 32 := Scalar.divsi v112 c4_i32_86
  let c2_i32_85 : BitVec 32 := 2#32
  let v114 : BitVec 32 := Scalar.remsi v113 c2_i32_85
  let c0_i32_91 : BitVec 32 := 0#32
  let v121 : BitVec 32 := Scalar.addi v114 c0_i32_91
  let c2_i32_92 : BitVec 32 := 2#32
  let v122 : BitVec 32 := Scalar.remsi v121 c2_i32_92
  let c4_i32_103 : BitVec 32 := 4#32
  let v131 : BitVec 32 := Scalar.muli v122 c4_i32_103
  let v132 : BitVec 32 := Scalar.addi c0_i32_104 v131
  let v115 : BitVec 32 := Dev.word d0
  let c2_i32_88 : BitVec 32 := 2#32
  let v116 : BitVec 32 := Scalar.divsi v115 c2_i32_88
  let c2_i32_87 : BitVec 32 := 2#32
  let v117 : BitVec 32 := Scalar.remsi v116 c2_i32_87
  let c1_i32_93 : BitVec 32 := 1#32
  let v123 : BitVec 32 := Scalar.addi v117 c1_i32_93
  let c2_i32_94 : BitVec 32 := 2#32
  let v124 : BitVec 32 := Scalar.remsi v123 c2_i32_94
  let c2_i32_105 : BitVec 32 := 2#32
  let v133 : BitVec 32 := Scalar.muli v124 c2_i32_105
  let v134 : BitVec 32 := Scalar.addi v132 v133
  let v118 : BitVec 32 := Dev.word d0
  let c1_i32_90 : BitVec 32 := 1#32
  let v119 : BitVec 32 := Scalar.divsi v118 c1_i32_90
  let c2_i32_89 : BitVec 32 := 2#32
  let v120 : BitVec 32 := Scalar.remsi v119 c2_i32_89
  let c0_i32_95 : BitVec 32 := 0#32
  let v125 : BitVec 32 := Scalar.addi v120 c0_i32_95
  let c2_i32_96 : BitVec 32 := 2#32
  let v126 : BitVec 32 := Scalar.remsi v125 c2_i32_96
  let c1_i32_106 : BitVec 32 := 1#32
  let v135 : BitVec 32 := Scalar.muli v126 c1_i32_106
  let v136 : BitVec 32 := Scalar.addi v134 v135
  v136.toNat
def k0_dev6 (d0 : Dev nD) : Nat :=
  let c0_i32_116 : BitVec 32 := 0#32
  let v112 : BitVec 32 := Dev.word d0
  let c4_i32_86 : BitVec 32 := 4#32
  let v113 : BitVec 32 := Scalar.divsi v112 c4_i32_86
  let c2_i32_85 : BitVec 32 := 2#32
  let v114 : BitVec 32 := Scalar.remsi v113 c2_i32_85
  let c0_i32_91 : BitVec 32 := 0#32
  let v121 : BitVec 32 := Scalar.addi v114 c0_i32_91
  let c2_i32_92 : BitVec 32 := 2#32
  let v122 : BitVec 32 := Scalar.remsi v121 c2_i32_92
  let c4_i32_115 : BitVec 32 := 4#32
  let v145 : BitVec 32 := Scalar.muli v122 c4_i32_115
  let v146 : BitVec 32 := Scalar.addi c0_i32_116 v145
  let v115 : BitVec 32 := Dev.word d0
  let c2_i32_88 : BitVec 32 := 2#32
  let v116 : BitVec 32 := Scalar.divsi v115 c2_i32_88
  let c2_i32_87 : BitVec 32 := 2#32
  let v117 : BitVec 32 := Scalar.remsi v116 c2_i32_87
  let c1_i32_93 : BitVec 32 := 1#32
  let v123 : BitVec 32 := Scalar.addi v117 c1_i32_93
  let c2_i32_94 : BitVec 32 := 2#32
  let v124 : BitVec 32 := Scalar.remsi v123 c2_i32_94
  let c2_i32_117 : BitVec 32 := 2#32
  let v147 : BitVec 32 := Scalar.muli v124 c2_i32_117
  let v148 : BitVec 32 := Scalar.addi v146 v147
  let v118 : BitVec 32 := Dev.word d0
  let c1_i32_90 : BitVec 32 := 1#32
  let v119 : BitVec 32 := Scalar.divsi v118 c1_i32_90
  let c2_i32_89 : BitVec 32 := 2#32
  let v120 : BitVec 32 := Scalar.remsi v119 c2_i32_89
  let c0_i32_95 : BitVec 32 := 0#32
  let v125 : BitVec 32 := Scalar.addi v120 c0_i32_95
  let c2_i32_96 : BitVec 32 := 2#32
  let v126 : BitVec 32 := Scalar.remsi v125 c2_i32_96
  let c1_i32_118 : BitVec 32 := 1#32
  let v149 : BitVec 32 := Scalar.muli v126 c1_i32_118
  let v150 : BitVec 32 := Scalar.addi v148 v149
  v150.toNat
def k0_dev7 (d0 : Dev nD) : Nat :=
  let c0_i32_128 : BitVec 32 := 0#32
  let v112 : BitVec 32 := Dev.word d0
  let c4_i32_86 : BitVec 32 := 4#32
  let v113 : BitVec 32 := Scalar.divsi v112 c4_i32_86
  let c2_i32_85 : BitVec 32 := 2#32
  let v114 : BitVec 32 := Scalar.remsi v113 c2_i32_85
  let c0_i32_91 : BitVec 32 := 0#32
  let v121 : BitVec 32 := Scalar.addi v114 c0_i32_91
  let c2_i32_92 : BitVec 32 := 2#32
  let v122 : BitVec 32 := Scalar.remsi v121 c2_i32_92
  let c4_i32_127 : BitVec 32 := 4#32
  let v159 : BitVec 32 := Scalar.muli v122 c4_i32_127
  let v160 : BitVec 32 := Scalar.addi c0_i32_128 v159
  let v115 : BitVec 32 := Dev.word d0
  let c2_i32_88 : BitVec 32 := 2#32
  let v116 : BitVec 32 := Scalar.divsi v115 c2_i32_88
  let c2_i32_87 : BitVec 32 := 2#32
  let v117 : BitVec 32 := Scalar.remsi v116 c2_i32_87
  let c1_i32_93 : BitVec 32 := 1#32
  let v123 : BitVec 32 := Scalar.addi v117 c1_i32_93
  let c2_i32_94 : BitVec 32 := 2#32
  let v124 : BitVec 32 := Scalar.remsi v123 c2_i32_94
  let c2_i32_129 : BitVec 32 := 2#32
  let v161 : BitVec 32 := Scalar.muli v124 c2_i32_129
  let v162 : BitVec 32 := Scalar.addi v160 v161
  let v118 : BitVec 32 := Dev.word d0
  let c1_i32_90 : BitVec 32 := 1#32
  let v119 : BitVec 32 := Scalar.divsi v118 c1_i32_90
  let c2_i32_89 : BitVec 32 := 2#32
  let v120 : BitVec 32 := Scalar.remsi v119 c2_i32_89
  let c0_i32_95 : BitVec 32 := 0#32
  let v125 : BitVec 32 := Scalar.addi v120 c0_i32_95
  let c2_i32_96 : BitVec 32 := 2#32
  let v126 : BitVec 32 := Scalar.remsi v125 c2_i32_96
  let c1_i32_130 : BitVec 32 := 1#32
  let v163 : BitVec 32 := Scalar.muli v126 c1_i32_130
  let v164 : BitVec 32 := Scalar.addi v162 v163
  v164.toNat
def k0_dev8 (d0 : Dev nD) : Nat :=
  let c0_i32_140 : BitVec 32 := 0#32
  let v112 : BitVec 32 := Dev.word d0
  let c4_i32_86 : BitVec 32 := 4#32
  let v113 : BitVec 32 := Scalar.divsi v112 c4_i32_86
  let c2_i32_85 : BitVec 32 := 2#32
  let v114 : BitVec 32 := Scalar.remsi v113 c2_i32_85
  let c0_i32_91 : BitVec 32 := 0#32
  let v121 : BitVec 32 := Scalar.addi v114 c0_i32_91
  let c2_i32_92 : BitVec 32 := 2#32
  let v122 : BitVec 32 := Scalar.remsi v121 c2_i32_92
  let c4_i32_139 : BitVec 32 := 4#32
  let v173 : BitVec 32 := Scalar.muli v122 c4_i32_139
  let v174 : BitVec 32 := Scalar.addi c0_i32_140 v173
  let v115 : BitVec 32 := Dev.word d0
  let c2_i32_88 : BitVec 32 := 2#32
  let v116 : BitVec 32 := Scalar.divsi v115 c2_i32_88
  let c2_i32_87 : BitVec 32 := 2#32
  let v117 : BitVec 32 := Scalar.remsi v116 c2_i32_87
  let c1_i32_93 : BitVec 32 := 1#32
  let v123 : BitVec 32 := Scalar.addi v117 c1_i32_93
  let c2_i32_94 : BitVec 32 := 2#32
  let v124 : BitVec 32 := Scalar.remsi v123 c2_i32_94
  let c2_i32_141 : BitVec 32 := 2#32
  let v175 : BitVec 32 := Scalar.muli v124 c2_i32_141
  let v176 : BitVec 32 := Scalar.addi v174 v175
  let v118 : BitVec 32 := Dev.word d0
  let c1_i32_90 : BitVec 32 := 1#32
  let v119 : BitVec 32 := Scalar.divsi v118 c1_i32_90
  let c2_i32_89 : BitVec 32 := 2#32
  let v120 : BitVec 32 := Scalar.remsi v119 c2_i32_89
  let c0_i32_95 : BitVec 32 := 0#32
  let v125 : BitVec 32 := Scalar.addi v120 c0_i32_95
  let c2_i32_96 : BitVec 32 := 2#32
  let v126 : BitVec 32 := Scalar.remsi v125 c2_i32_96
  let c1_i32_142 : BitVec 32 := 1#32
  let v177 : BitVec 32 := Scalar.muli v126 c1_i32_142
  let v178 : BitVec 32 := Scalar.addi v176 v177
  v178.toNat
def k0_dev9 (d0 : Dev nD) : Nat :=
  let c0_i32_166 : BitVec 32 := 0#32
  let v187 : BitVec 32 := Dev.word d0
  let c4_i32_148 : BitVec 32 := 4#32
  let v188 : BitVec 32 := Scalar.divsi v187 c4_i32_148
  let c2_i32_147 : BitVec 32 := 2#32
  let v189 : BitVec 32 := Scalar.remsi v188 c2_i32_147
  let c0_i32_153 : BitVec 32 := 0#32
  let v196 : BitVec 32 := Scalar.addi v189 c0_i32_153
  let c2_i32_154 : BitVec 32 := 2#32
  let v197 : BitVec 32 := Scalar.remsi v196 c2_i32_154
  let c4_i32_165 : BitVec 32 := 4#32
  let v206 : BitVec 32 := Scalar.muli v197 c4_i32_165
  let v207 : BitVec 32 := Scalar.addi c0_i32_166 v206
  let v190 : BitVec 32 := Dev.word d0
  let c2_i32_150 : BitVec 32 := 2#32
  let v191 : BitVec 32 := Scalar.divsi v190 c2_i32_150
  let c2_i32_149 : BitVec 32 := 2#32
  let v192 : BitVec 32 := Scalar.remsi v191 c2_i32_149
  let c1_i32_155 : BitVec 32 := 1#32
  let v198 : BitVec 32 := Scalar.addi v192 c1_i32_155
  let c2_i32_156 : BitVec 32 := 2#32
  let v199 : BitVec 32 := Scalar.remsi v198 c2_i32_156
  let c2_i32_167 : BitVec 32 := 2#32
  let v208 : BitVec 32 := Scalar.muli v199 c2_i32_167
  let v209 : BitVec 32 := Scalar.addi v207 v208
  let v193 : BitVec 32 := Dev.word d0
  let c1_i32_152 : BitVec 32 := 1#32
  let v194 : BitVec 32 := Scalar.divsi v193 c1_i32_152
  let c2_i32_151 : BitVec 32 := 2#32
  let v195 : BitVec 32 := Scalar.remsi v194 c2_i32_151
  let c1_i32_157 : BitVec 32 := 1#32
  let v200 : BitVec 32 := Scalar.addi v195 c1_i32_157
  let c2_i32_158 : BitVec 32 := 2#32
  let v201 : BitVec 32 := Scalar.remsi v200 c2_i32_158
  let c1_i32_168 : BitVec 32 := 1#32
  let v210 : BitVec 32 := Scalar.muli v201 c1_i32_168
  let v211 : BitVec 32 := Scalar.addi v209 v210
  v211.toNat
def k0_dev10 (d0 : Dev nD) : Nat :=
  let c0_i32_178 : BitVec 32 := 0#32
  let v187 : BitVec 32 := Dev.word d0
  let c4_i32_148 : BitVec 32 := 4#32
  let v188 : BitVec 32 := Scalar.divsi v187 c4_i32_148
  let c2_i32_147 : BitVec 32 := 2#32
  let v189 : BitVec 32 := Scalar.remsi v188 c2_i32_147
  let c0_i32_153 : BitVec 32 := 0#32
  let v196 : BitVec 32 := Scalar.addi v189 c0_i32_153
  let c2_i32_154 : BitVec 32 := 2#32
  let v197 : BitVec 32 := Scalar.remsi v196 c2_i32_154
  let c4_i32_177 : BitVec 32 := 4#32
  let v220 : BitVec 32 := Scalar.muli v197 c4_i32_177
  let v221 : BitVec 32 := Scalar.addi c0_i32_178 v220
  let v190 : BitVec 32 := Dev.word d0
  let c2_i32_150 : BitVec 32 := 2#32
  let v191 : BitVec 32 := Scalar.divsi v190 c2_i32_150
  let c2_i32_149 : BitVec 32 := 2#32
  let v192 : BitVec 32 := Scalar.remsi v191 c2_i32_149
  let c1_i32_155 : BitVec 32 := 1#32
  let v198 : BitVec 32 := Scalar.addi v192 c1_i32_155
  let c2_i32_156 : BitVec 32 := 2#32
  let v199 : BitVec 32 := Scalar.remsi v198 c2_i32_156
  let c2_i32_179 : BitVec 32 := 2#32
  let v222 : BitVec 32 := Scalar.muli v199 c2_i32_179
  let v223 : BitVec 32 := Scalar.addi v221 v222
  let v193 : BitVec 32 := Dev.word d0
  let c1_i32_152 : BitVec 32 := 1#32
  let v194 : BitVec 32 := Scalar.divsi v193 c1_i32_152
  let c2_i32_151 : BitVec 32 := 2#32
  let v195 : BitVec 32 := Scalar.remsi v194 c2_i32_151
  let c1_i32_157 : BitVec 32 := 1#32
  let v200 : BitVec 32 := Scalar.addi v195 c1_i32_157
  let c2_i32_158 : BitVec 32 := 2#32
  let v201 : BitVec 32 := Scalar.remsi v200 c2_i32_158
  let c1_i32_180 : BitVec 32 := 1#32
  let v224 : BitVec 32 := Scalar.muli v201 c1_i32_180
  let v225 : BitVec 32 := Scalar.addi v223 v224
  v225.toNat
def k0_dev11 (d0 : Dev nD) : Nat :=
  let c0_i32_190 : BitVec 32 := 0#32
  let v187 : BitVec 32 := Dev.word d0
  let c4_i32_148 : BitVec 32 := 4#32
  let v188 : BitVec 32 := Scalar.divsi v187 c4_i32_148
  let c2_i32_147 : BitVec 32 := 2#32
  let v189 : BitVec 32 := Scalar.remsi v188 c2_i32_147
  let c0_i32_153 : BitVec 32 := 0#32
  let v196 : BitVec 32 := Scalar.addi v189 c0_i32_153
  let c2_i32_154 : BitVec 32 := 2#32
  let v197 : BitVec 32 := Scalar.remsi v196 c2_i32_154
  let c4_i32_189 : BitVec 32 := 4#32
  let v234 : BitVec 32 := Scalar.muli v197 c4_i32_189
  let v235 : BitVec 32 := Scalar.addi c0_i32_190 v234
  let v190 : BitVec 32 := Dev.word d0
  let c2_i32_150 : BitVec 32 := 2#32
  let v191 : BitVec 32 := Scalar.divsi v190 c2_i32_150
  let c2_i32_149 : BitVec 32 := 2#32
  let v192 : BitVec 32 := Scalar.remsi v191 c2_i32_149
  let c1_i32_155 : BitVec 32 := 1#32
  let v198 : BitVec 32 := Scalar.addi v192 c1_i32_155
  let c2_i32_156 : BitVec 32 := 2#32
  let v199 : BitVec 32 := Scalar.remsi v198 c2_i32_156
  let c2_i32_191 : BitVec 32 := 2#32
  let v236 : BitVec 32 := Scalar.muli v199 c2_i32_191
  let v237 : BitVec 32 := Scalar.addi v235 v236
  let v193 : BitVec 32 := Dev.word d0
  let c1_i32_152 : BitVec 32 := 1#32
  let v194 : BitVec 32 := Scalar.divsi v193 c1_i32_152
  let c2_i32_151 : BitVec 32 := 2#32
  let v195 : BitVec 32 := Scalar.remsi v194 c2_i32_151
  let c1_i32_157 : BitVec 32 := 1#32
  let v200 : BitVec 32 := Scalar.addi v195 c1_i32_157
  let c2_i32_158 : BitVec 32 := 2#32
  let v201 : BitVec 32 := Scalar.remsi v200 c2_i32_158
  let c1_i32_192 : BitVec 32 := 1#32
  let v238 : BitVec 32 := Scalar.muli v201 c1_i32_192
  let v239 : BitVec 32 := Scalar.addi v237 v238
  v239.toNat
def k0_dev12 (d0 : Dev nD) : Nat :=
  let c0_i32_202 : BitVec 32 := 0#32
  let v187 : BitVec 32 := Dev.word d0
  let c4_i32_148 : BitVec 32 := 4#32
  let v188 : BitVec 32 := Scalar.divsi v187 c4_i32_148
  let c2_i32_147 : BitVec 32 := 2#32
  let v189 : BitVec 32 := Scalar.remsi v188 c2_i32_147
  let c0_i32_153 : BitVec 32 := 0#32
  let v196 : BitVec 32 := Scalar.addi v189 c0_i32_153
  let c2_i32_154 : BitVec 32 := 2#32
  let v197 : BitVec 32 := Scalar.remsi v196 c2_i32_154
  let c4_i32_201 : BitVec 32 := 4#32
  let v248 : BitVec 32 := Scalar.muli v197 c4_i32_201
  let v249 : BitVec 32 := Scalar.addi c0_i32_202 v248
  let v190 : BitVec 32 := Dev.word d0
  let c2_i32_150 : BitVec 32 := 2#32
  let v191 : BitVec 32 := Scalar.divsi v190 c2_i32_150
  let c2_i32_149 : BitVec 32 := 2#32
  let v192 : BitVec 32 := Scalar.remsi v191 c2_i32_149
  let c1_i32_155 : BitVec 32 := 1#32
  let v198 : BitVec 32 := Scalar.addi v192 c1_i32_155
  let c2_i32_156 : BitVec 32 := 2#32
  let v199 : BitVec 32 := Scalar.remsi v198 c2_i32_156
  let c2_i32_203 : BitVec 32 := 2#32
  let v250 : BitVec 32 := Scalar.muli v199 c2_i32_203
  let v251 : BitVec 32 := Scalar.addi v249 v250
  let v193 : BitVec 32 := Dev.word d0
  let c1_i32_152 : BitVec 32 := 1#32
  let v194 : BitVec 32 := Scalar.divsi v193 c1_i32_152
  let c2_i32_151 : BitVec 32 := 2#32
  let v195 : BitVec 32 := Scalar.remsi v194 c2_i32_151
  let c1_i32_157 : BitVec 32 := 1#32
  let v200 : BitVec 32 := Scalar.addi v195 c1_i32_157
  let c2_i32_158 : BitVec 32 := 2#32
  let v201 : BitVec 32 := Scalar.remsi v200 c2_i32_158
  let c1_i32_204 : BitVec 32 := 1#32
  let v252 : BitVec 32 := Scalar.muli v201 c1_i32_204
  let v253 : BitVec 32 := Scalar.addi v251 v252
  v253.toNat
def k0_dev13 (d0 : Dev nD) : Nat :=
  let c0_i32_228 : BitVec 32 := 0#32
  let v262 : BitVec 32 := Dev.word d0
  let c4_i32_210 : BitVec 32 := 4#32
  let v263 : BitVec 32 := Scalar.divsi v262 c4_i32_210
  let c2_i32_209 : BitVec 32 := 2#32
  let v264 : BitVec 32 := Scalar.remsi v263 c2_i32_209
  let c1_i32_215 : BitVec 32 := 1#32
  let v271 : BitVec 32 := Scalar.addi v264 c1_i32_215
  let c2_i32_216 : BitVec 32 := 2#32
  let v272 : BitVec 32 := Scalar.remsi v271 c2_i32_216
  let c4_i32_227 : BitVec 32 := 4#32
  let v281 : BitVec 32 := Scalar.muli v272 c4_i32_227
  let v282 : BitVec 32 := Scalar.addi c0_i32_228 v281
  let v265 : BitVec 32 := Dev.word d0
  let c2_i32_212 : BitVec 32 := 2#32
  let v266 : BitVec 32 := Scalar.divsi v265 c2_i32_212
  let c2_i32_211 : BitVec 32 := 2#32
  let v267 : BitVec 32 := Scalar.remsi v266 c2_i32_211
  let c0_i32_217 : BitVec 32 := 0#32
  let v273 : BitVec 32 := Scalar.addi v267 c0_i32_217
  let c2_i32_218 : BitVec 32 := 2#32
  let v274 : BitVec 32 := Scalar.remsi v273 c2_i32_218
  let c2_i32_229 : BitVec 32 := 2#32
  let v283 : BitVec 32 := Scalar.muli v274 c2_i32_229
  let v284 : BitVec 32 := Scalar.addi v282 v283
  let v268 : BitVec 32 := Dev.word d0
  let c1_i32_214 : BitVec 32 := 1#32
  let v269 : BitVec 32 := Scalar.divsi v268 c1_i32_214
  let c2_i32_213 : BitVec 32 := 2#32
  let v270 : BitVec 32 := Scalar.remsi v269 c2_i32_213
  let c0_i32_219 : BitVec 32 := 0#32
  let v275 : BitVec 32 := Scalar.addi v270 c0_i32_219
  let c2_i32_220 : BitVec 32 := 2#32
  let v276 : BitVec 32 := Scalar.remsi v275 c2_i32_220
  let c1_i32_230 : BitVec 32 := 1#32
  let v285 : BitVec 32 := Scalar.muli v276 c1_i32_230
  let v286 : BitVec 32 := Scalar.addi v284 v285
  v286.toNat
def k0_dev14 (d0 : Dev nD) : Nat :=
  let c0_i32_240 : BitVec 32 := 0#32
  let v262 : BitVec 32 := Dev.word d0
  let c4_i32_210 : BitVec 32 := 4#32
  let v263 : BitVec 32 := Scalar.divsi v262 c4_i32_210
  let c2_i32_209 : BitVec 32 := 2#32
  let v264 : BitVec 32 := Scalar.remsi v263 c2_i32_209
  let c1_i32_215 : BitVec 32 := 1#32
  let v271 : BitVec 32 := Scalar.addi v264 c1_i32_215
  let c2_i32_216 : BitVec 32 := 2#32
  let v272 : BitVec 32 := Scalar.remsi v271 c2_i32_216
  let c4_i32_239 : BitVec 32 := 4#32
  let v295 : BitVec 32 := Scalar.muli v272 c4_i32_239
  let v296 : BitVec 32 := Scalar.addi c0_i32_240 v295
  let v265 : BitVec 32 := Dev.word d0
  let c2_i32_212 : BitVec 32 := 2#32
  let v266 : BitVec 32 := Scalar.divsi v265 c2_i32_212
  let c2_i32_211 : BitVec 32 := 2#32
  let v267 : BitVec 32 := Scalar.remsi v266 c2_i32_211
  let c0_i32_217 : BitVec 32 := 0#32
  let v273 : BitVec 32 := Scalar.addi v267 c0_i32_217
  let c2_i32_218 : BitVec 32 := 2#32
  let v274 : BitVec 32 := Scalar.remsi v273 c2_i32_218
  let c2_i32_241 : BitVec 32 := 2#32
  let v297 : BitVec 32 := Scalar.muli v274 c2_i32_241
  let v298 : BitVec 32 := Scalar.addi v296 v297
  let v268 : BitVec 32 := Dev.word d0
  let c1_i32_214 : BitVec 32 := 1#32
  let v269 : BitVec 32 := Scalar.divsi v268 c1_i32_214
  let c2_i32_213 : BitVec 32 := 2#32
  let v270 : BitVec 32 := Scalar.remsi v269 c2_i32_213
  let c0_i32_219 : BitVec 32 := 0#32
  let v275 : BitVec 32 := Scalar.addi v270 c0_i32_219
  let c2_i32_220 : BitVec 32 := 2#32
  let v276 : BitVec 32 := Scalar.remsi v275 c2_i32_220
  let c1_i32_242 : BitVec 32 := 1#32
  let v299 : BitVec 32 := Scalar.muli v276 c1_i32_242
  let v300 : BitVec 32 := Scalar.addi v298 v299
  v300.toNat
def k0_dev15 (d0 : Dev nD) : Nat :=
  let c0_i32_252 : BitVec 32 := 0#32
  let v262 : BitVec 32 := Dev.word d0
  let c4_i32_210 : BitVec 32 := 4#32
  let v263 : BitVec 32 := Scalar.divsi v262 c4_i32_210
  let c2_i32_209 : BitVec 32 := 2#32
  let v264 : BitVec 32 := Scalar.remsi v263 c2_i32_209
  let c1_i32_215 : BitVec 32 := 1#32
  let v271 : BitVec 32 := Scalar.addi v264 c1_i32_215
  let c2_i32_216 : BitVec 32 := 2#32
  let v272 : BitVec 32 := Scalar.remsi v271 c2_i32_216
  let c4_i32_251 : BitVec 32 := 4#32
  let v309 : BitVec 32 := Scalar.muli v272 c4_i32_251
  let v310 : BitVec 32 := Scalar.addi c0_i32_252 v309
  let v265 : BitVec 32 := Dev.word d0
  let c2_i32_212 : BitVec 32 := 2#32
  let v266 : BitVec 32 := Scalar.divsi v265 c2_i32_212
  let c2_i32_211 : BitVec 32 := 2#32
  let v267 : BitVec 32 := Scalar.remsi v266 c2_i32_211
  let c0_i32_217 : BitVec 32 := 0#32
  let v273 : BitVec 32 := Scalar.addi v267 c0_i32_217
  let c2_i32_218 : BitVec 32 := 2#32
  let v274 : BitVec 32 := Scalar.remsi v273 c2_i32_218
  let c2_i32_253 : BitVec 32 := 2#32
  let v311 : BitVec 32 := Scalar.muli v274 c2_i32_253
  let v312 : BitVec 32 := Scalar.addi v310 v311
  let v268 : BitVec 32 := Dev.word d0
  let c1_i32_214 : BitVec 32 := 1#32
  let v269 : BitVec 32 := Scalar.divsi v268 c1_i32_214
  let c2_i32_213 : BitVec 32 := 2#32
  let v270 : BitVec 32 := Scalar.remsi v269 c2_i32_213
  let c0_i32_219 : BitVec 32 := 0#32
  let v275 : BitVec 32 := Scalar.addi v270 c0_i32_219
  let c2_i32_220 : BitVec 32 := 2#32
  let v276 : BitVec 32 := Scalar.remsi v275 c2_i32_220
  let c1_i32_254 : BitVec 32 := 1#32
  let v313 : BitVec 32 := Scalar.muli v276 c1_i32_254
  let v314 : BitVec 32 := Scalar.addi v312 v313
  v314.toNat
def k0_dev16 (d0 : Dev nD) : Nat :=
  let c0_i32_264 : BitVec 32 := 0#32
  let v262 : BitVec 32 := Dev.word d0
  let c4_i32_210 : BitVec 32 := 4#32
  let v263 : BitVec 32 := Scalar.divsi v262 c4_i32_210
  let c2_i32_209 : BitVec 32 := 2#32
  let v264 : BitVec 32 := Scalar.remsi v263 c2_i32_209
  let c1_i32_215 : BitVec 32 := 1#32
  let v271 : BitVec 32 := Scalar.addi v264 c1_i32_215
  let c2_i32_216 : BitVec 32 := 2#32
  let v272 : BitVec 32 := Scalar.remsi v271 c2_i32_216
  let c4_i32_263 : BitVec 32 := 4#32
  let v323 : BitVec 32 := Scalar.muli v272 c4_i32_263
  let v324 : BitVec 32 := Scalar.addi c0_i32_264 v323
  let v265 : BitVec 32 := Dev.word d0
  let c2_i32_212 : BitVec 32 := 2#32
  let v266 : BitVec 32 := Scalar.divsi v265 c2_i32_212
  let c2_i32_211 : BitVec 32 := 2#32
  let v267 : BitVec 32 := Scalar.remsi v266 c2_i32_211
  let c0_i32_217 : BitVec 32 := 0#32
  let v273 : BitVec 32 := Scalar.addi v267 c0_i32_217
  let c2_i32_218 : BitVec 32 := 2#32
  let v274 : BitVec 32 := Scalar.remsi v273 c2_i32_218
  let c2_i32_265 : BitVec 32 := 2#32
  let v325 : BitVec 32 := Scalar.muli v274 c2_i32_265
  let v326 : BitVec 32 := Scalar.addi v324 v325
  let v268 : BitVec 32 := Dev.word d0
  let c1_i32_214 : BitVec 32 := 1#32
  let v269 : BitVec 32 := Scalar.divsi v268 c1_i32_214
  let c2_i32_213 : BitVec 32 := 2#32
  let v270 : BitVec 32 := Scalar.remsi v269 c2_i32_213
  let c0_i32_219 : BitVec 32 := 0#32
  let v275 : BitVec 32 := Scalar.addi v270 c0_i32_219
  let c2_i32_220 : BitVec 32 := 2#32
  let v276 : BitVec 32 := Scalar.remsi v275 c2_i32_220
  let c1_i32_266 : BitVec 32 := 1#32
  let v327 : BitVec 32 := Scalar.muli v276 c1_i32_266
  let v328 : BitVec 32 := Scalar.addi v326 v327
  v328.toNat
def k0_dev17 (d0 : Dev nD) : Nat :=
  let c0_i32_290 : BitVec 32 := 0#32
  let v337 : BitVec 32 := Dev.word d0
  let c4_i32_272 : BitVec 32 := 4#32
  let v338 : BitVec 32 := Scalar.divsi v337 c4_i32_272
  let c2_i32_271 : BitVec 32 := 2#32
  let v339 : BitVec 32 := Scalar.remsi v338 c2_i32_271
  let c1_i32_277 : BitVec 32 := 1#32
  let v346 : BitVec 32 := Scalar.addi v339 c1_i32_277
  let c2_i32_278 : BitVec 32 := 2#32
  let v347 : BitVec 32 := Scalar.remsi v346 c2_i32_278
  let c4_i32_289 : BitVec 32 := 4#32
  let v356 : BitVec 32 := Scalar.muli v347 c4_i32_289
  let v357 : BitVec 32 := Scalar.addi c0_i32_290 v356
  let v340 : BitVec 32 := Dev.word d0
  let c2_i32_274 : BitVec 32 := 2#32
  let v341 : BitVec 32 := Scalar.divsi v340 c2_i32_274
  let c2_i32_273 : BitVec 32 := 2#32
  let v342 : BitVec 32 := Scalar.remsi v341 c2_i32_273
  let c0_i32_279 : BitVec 32 := 0#32
  let v348 : BitVec 32 := Scalar.addi v342 c0_i32_279
  let c2_i32_280 : BitVec 32 := 2#32
  let v349 : BitVec 32 := Scalar.remsi v348 c2_i32_280
  let c2_i32_291 : BitVec 32 := 2#32
  let v358 : BitVec 32 := Scalar.muli v349 c2_i32_291
  let v359 : BitVec 32 := Scalar.addi v357 v358
  let v343 : BitVec 32 := Dev.word d0
  let c1_i32_276 : BitVec 32 := 1#32
  let v344 : BitVec 32 := Scalar.divsi v343 c1_i32_276
  let c2_i32_275 : BitVec 32 := 2#32
  let v345 : BitVec 32 := Scalar.remsi v344 c2_i32_275
  let c1_i32_281 : BitVec 32 := 1#32
  let v350 : BitVec 32 := Scalar.addi v345 c1_i32_281
  let c2_i32_282 : BitVec 32 := 2#32
  let v351 : BitVec 32 := Scalar.remsi v350 c2_i32_282
  let c1_i32_292 : BitVec 32 := 1#32
  let v360 : BitVec 32 := Scalar.muli v351 c1_i32_292
  let v361 : BitVec 32 := Scalar.addi v359 v360
  v361.toNat
def k0_dev18 (d0 : Dev nD) : Nat :=
  let c0_i32_302 : BitVec 32 := 0#32
  let v337 : BitVec 32 := Dev.word d0
  let c4_i32_272 : BitVec 32 := 4#32
  let v338 : BitVec 32 := Scalar.divsi v337 c4_i32_272
  let c2_i32_271 : BitVec 32 := 2#32
  let v339 : BitVec 32 := Scalar.remsi v338 c2_i32_271
  let c1_i32_277 : BitVec 32 := 1#32
  let v346 : BitVec 32 := Scalar.addi v339 c1_i32_277
  let c2_i32_278 : BitVec 32 := 2#32
  let v347 : BitVec 32 := Scalar.remsi v346 c2_i32_278
  let c4_i32_301 : BitVec 32 := 4#32
  let v370 : BitVec 32 := Scalar.muli v347 c4_i32_301
  let v371 : BitVec 32 := Scalar.addi c0_i32_302 v370
  let v340 : BitVec 32 := Dev.word d0
  let c2_i32_274 : BitVec 32 := 2#32
  let v341 : BitVec 32 := Scalar.divsi v340 c2_i32_274
  let c2_i32_273 : BitVec 32 := 2#32
  let v342 : BitVec 32 := Scalar.remsi v341 c2_i32_273
  let c0_i32_279 : BitVec 32 := 0#32
  let v348 : BitVec 32 := Scalar.addi v342 c0_i32_279
  let c2_i32_280 : BitVec 32 := 2#32
  let v349 : BitVec 32 := Scalar.remsi v348 c2_i32_280
  let c2_i32_303 : BitVec 32 := 2#32
  let v372 : BitVec 32 := Scalar.muli v349 c2_i32_303
  let v373 : BitVec 32 := Scalar.addi v371 v372
  let v343 : BitVec 32 := Dev.word d0
  let c1_i32_276 : BitVec 32 := 1#32
  let v344 : BitVec 32 := Scalar.divsi v343 c1_i32_276
  let c2_i32_275 : BitVec 32 := 2#32
  let v345 : BitVec 32 := Scalar.remsi v344 c2_i32_275
  let c1_i32_281 : BitVec 32 := 1#32
  let v350 : BitVec 32 := Scalar.addi v345 c1_i32_281
  let c2_i32_282 : BitVec 32 := 2#32
  let v351 : BitVec 32 := Scalar.remsi v350 c2_i32_282
  let c1_i32_304 : BitVec 32 := 1#32
  let v374 : BitVec 32 := Scalar.muli v351 c1_i32_304
  let v375 : BitVec 32 := Scalar.addi v373 v374
  v375.toNat
def k0_dev19 (d0 : Dev nD) : Nat :=
  let c0_i32_314 : BitVec 32 := 0#32
  let v337 : BitVec 32 := Dev.word d0
  let c4_i32_272 : BitVec 32 := 4#32
  let v338 : BitVec 32 := Scalar.divsi v337 c4_i32_272
  let c2_i32_271 : BitVec 32 := 2#32
  let v339 : BitVec 32 := Scalar.remsi v338 c2_i32_271
  let c1_i32_277 : BitVec 32 := 1#32
  let v346 : BitVec 32 := Scalar.addi v339 c1_i32_277
  let c2_i32_278 : BitVec 32 := 2#32
  let v347 : BitVec 32 := Scalar.remsi v346 c2_i32_278
  let c4_i32_313 : BitVec 32 := 4#32
  let v384 : BitVec 32 := Scalar.muli v347 c4_i32_313
  let v385 : BitVec 32 := Scalar.addi c0_i32_314 v384
  let v340 : BitVec 32 := Dev.word d0
  let c2_i32_274 : BitVec 32 := 2#32
  let v341 : BitVec 32 := Scalar.divsi v340 c2_i32_274
  let c2_i32_273 : BitVec 32 := 2#32
  let v342 : BitVec 32 := Scalar.remsi v341 c2_i32_273
  let c0_i32_279 : BitVec 32 := 0#32
  let v348 : BitVec 32 := Scalar.addi v342 c0_i32_279
  let c2_i32_280 : BitVec 32 := 2#32
  let v349 : BitVec 32 := Scalar.remsi v348 c2_i32_280
  let c2_i32_315 : BitVec 32 := 2#32
  let v386 : BitVec 32 := Scalar.muli v349 c2_i32_315
  let v387 : BitVec 32 := Scalar.addi v385 v386
  let v343 : BitVec 32 := Dev.word d0
  let c1_i32_276 : BitVec 32 := 1#32
  let v344 : BitVec 32 := Scalar.divsi v343 c1_i32_276
  let c2_i32_275 : BitVec 32 := 2#32
  let v345 : BitVec 32 := Scalar.remsi v344 c2_i32_275
  let c1_i32_281 : BitVec 32 := 1#32
  let v350 : BitVec 32 := Scalar.addi v345 c1_i32_281
  let c2_i32_282 : BitVec 32 := 2#32
  let v351 : BitVec 32 := Scalar.remsi v350 c2_i32_282
  let c1_i32_316 : BitVec 32 := 1#32
  let v388 : BitVec 32 := Scalar.muli v351 c1_i32_316
  let v389 : BitVec 32 := Scalar.addi v387 v388
  v389.toNat
def k0_dev20 (d0 : Dev nD) : Nat :=
  let c0_i32_326 : BitVec 32 := 0#32
  let v337 : BitVec 32 := Dev.word d0
  let c4_i32_272 : BitVec 32 := 4#32
  let v338 : BitVec 32 := Scalar.divsi v337 c4_i32_272
  let c2_i32_271 : BitVec 32 := 2#32
  let v339 : BitVec 32 := Scalar.remsi v338 c2_i32_271
  let c1_i32_277 : BitVec 32 := 1#32
  let v346 : BitVec 32 := Scalar.addi v339 c1_i32_277
  let c2_i32_278 : BitVec 32 := 2#32
  let v347 : BitVec 32 := Scalar.remsi v346 c2_i32_278
  let c4_i32_325 : BitVec 32 := 4#32
  let v398 : BitVec 32 := Scalar.muli v347 c4_i32_325
  let v399 : BitVec 32 := Scalar.addi c0_i32_326 v398
  let v340 : BitVec 32 := Dev.word d0
  let c2_i32_274 : BitVec 32 := 2#32
  let v341 : BitVec 32 := Scalar.divsi v340 c2_i32_274
  let c2_i32_273 : BitVec 32 := 2#32
  let v342 : BitVec 32 := Scalar.remsi v341 c2_i32_273
  let c0_i32_279 : BitVec 32 := 0#32
  let v348 : BitVec 32 := Scalar.addi v342 c0_i32_279
  let c2_i32_280 : BitVec 32 := 2#32
  let v349 : BitVec 32 := Scalar.remsi v348 c2_i32_280
  let c2_i32_327 : BitVec 32 := 2#32
  let v400 : BitVec 32 := Scalar.muli v349 c2_i32_327
  let v401 : BitVec 32 := Scalar.addi v399 v400
  let v343 : BitVec 32 := Dev.word d0
  let c1_i32_276 : BitVec 32 := 1#32
  let v344 : BitVec 32 := Scalar.divsi v343 c1_i32_276
  let c2_i32_275 : BitVec 32 := 2#32
  let v345 : BitVec 32 := Scalar.remsi v344 c2_i32_275
  let c1_i32_281 : BitVec 32 := 1#32
  let v350 : BitVec 32 := Scalar.addi v345 c1_i32_281
  let c2_i32_282 : BitVec 32 := 2#32
  let v351 : BitVec 32 := Scalar.remsi v350 c2_i32_282
  let c1_i32_328 : BitVec 32 := 1#32
  let v402 : BitVec 32 := Scalar.muli v351 c1_i32_328
  let v403 : BitVec 32 := Scalar.addi v401 v402
  v403.toNat
def k0_dev21 (d0 : Dev nD) : Nat :=
  let c0_i32_351 : BitVec 32 := 0#32
  let v412 : BitVec 32 := Dev.word d0
  let c4_i32_334 : BitVec 32 := 4#32
  let v413 : BitVec 32 := Scalar.divsi v412 c4_i32_334
  let c2_i32_333 : BitVec 32 := 2#32
  let v414 : BitVec 32 := Scalar.remsi v413 c2_i32_333
  let c1_i32_339 : BitVec 32 := 1#32
  let v421 : BitVec 32 := Scalar.addi v414 c1_i32_339
  let c2_i32_340 : BitVec 32 := 2#32
  let v422 : BitVec 32 := Scalar.remsi v421 c2_i32_340
  let c4_i32_350 : BitVec 32 := 4#32
  let v431 : BitVec 32 := Scalar.muli v422 c4_i32_350
  let v432 : BitVec 32 := Scalar.addi c0_i32_351 v431
  let v415 : BitVec 32 := Dev.word d0
  let c2_i32_336 : BitVec 32 := 2#32
  let v416 : BitVec 32 := Scalar.divsi v415 c2_i32_336
  let c2_i32_335 : BitVec 32 := 2#32
  let v417 : BitVec 32 := Scalar.remsi v416 c2_i32_335
  let c1_i32_341 : BitVec 32 := 1#32
  let v423 : BitVec 32 := Scalar.addi v417 c1_i32_341
  let c2_i32_342 : BitVec 32 := 2#32
  let v424 : BitVec 32 := Scalar.remsi v423 c2_i32_342
  let c2_i32_352 : BitVec 32 := 2#32
  let v433 : BitVec 32 := Scalar.muli v424 c2_i32_352
  let v434 : BitVec 32 := Scalar.addi v432 v433
  let v418 : BitVec 32 := Dev.word d0
  let c1_i32_338 : BitVec 32 := 1#32
  let v419 : BitVec 32 := Scalar.divsi v418 c1_i32_338
  let c2_i32_337 : BitVec 32 := 2#32
  let v420 : BitVec 32 := Scalar.remsi v419 c2_i32_337
  let c0_i32_343 : BitVec 32 := 0#32
  let v425 : BitVec 32 := Scalar.addi v420 c0_i32_343
  let c2_i32_344 : BitVec 32 := 2#32
  let v426 : BitVec 32 := Scalar.remsi v425 c2_i32_344
  let c1_i32_353 : BitVec 32 := 1#32
  let v435 : BitVec 32 := Scalar.muli v426 c1_i32_353
  let v436 : BitVec 32 := Scalar.addi v434 v435
  v436.toNat
def k0_dev22 (d0 : Dev nD) : Nat :=
  let c0_i32_363 : BitVec 32 := 0#32
  let v412 : BitVec 32 := Dev.word d0
  let c4_i32_334 : BitVec 32 := 4#32
  let v413 : BitVec 32 := Scalar.divsi v412 c4_i32_334
  let c2_i32_333 : BitVec 32 := 2#32
  let v414 : BitVec 32 := Scalar.remsi v413 c2_i32_333
  let c1_i32_339 : BitVec 32 := 1#32
  let v421 : BitVec 32 := Scalar.addi v414 c1_i32_339
  let c2_i32_340 : BitVec 32 := 2#32
  let v422 : BitVec 32 := Scalar.remsi v421 c2_i32_340
  let c4_i32_362 : BitVec 32 := 4#32
  let v445 : BitVec 32 := Scalar.muli v422 c4_i32_362
  let v446 : BitVec 32 := Scalar.addi c0_i32_363 v445
  let v415 : BitVec 32 := Dev.word d0
  let c2_i32_336 : BitVec 32 := 2#32
  let v416 : BitVec 32 := Scalar.divsi v415 c2_i32_336
  let c2_i32_335 : BitVec 32 := 2#32
  let v417 : BitVec 32 := Scalar.remsi v416 c2_i32_335
  let c1_i32_341 : BitVec 32 := 1#32
  let v423 : BitVec 32 := Scalar.addi v417 c1_i32_341
  let c2_i32_342 : BitVec 32 := 2#32
  let v424 : BitVec 32 := Scalar.remsi v423 c2_i32_342
  let c2_i32_364 : BitVec 32 := 2#32
  let v447 : BitVec 32 := Scalar.muli v424 c2_i32_364
  let v448 : BitVec 32 := Scalar.addi v446 v447
  let v418 : BitVec 32 := Dev.word d0
  let c1_i32_338 : BitVec 32 := 1#32
  let v419 : BitVec 32 := Scalar.divsi v418 c1_i32_338
  let c2_i32_337 : BitVec 32 := 2#32
  let v420 : BitVec 32 := Scalar.remsi v419 c2_i32_337
  let c0_i32_343 : BitVec 32 := 0#32
  let v425 : BitVec 32 := Scalar.addi v420 c0_i32_343
  let c2_i32_344 : BitVec 32 := 2#32
  let v426 : BitVec 32 := Scalar.remsi v425 c2_i32_344
  let c1_i32_365 : BitVec 32 := 1#32
  let v449 : BitVec 32 := Scalar.muli v426 c1_i32_365
  let v450 : BitVec 32 := Scalar.addi v448 v449
  v450.toNat
def k0_dev23 (d0 : Dev nD) : Nat :=
  let c0_i32_375 : BitVec 32 := 0#32
  let v412 : BitVec 32 := Dev.word d0
  let c4_i32_334 : BitVec 32 := 4#32
  let v413 : BitVec 32 := Scalar.divsi v412 c4_i32_334
  let c2_i32_333 : BitVec 32 := 2#32
  let v414 : BitVec 32 := Scalar.remsi v413 c2_i32_333
  let c1_i32_339 : BitVec 32 := 1#32
  let v421 : BitVec 32 := Scalar.addi v414 c1_i32_339
  let c2_i32_340 : BitVec 32 := 2#32
  let v422 : BitVec 32 := Scalar.remsi v421 c2_i32_340
  let c4_i32_374 : BitVec 32 := 4#32
  let v459 : BitVec 32 := Scalar.muli v422 c4_i32_374
  let v460 : BitVec 32 := Scalar.addi c0_i32_375 v459
  let v415 : BitVec 32 := Dev.word d0
  let c2_i32_336 : BitVec 32 := 2#32
  let v416 : BitVec 32 := Scalar.divsi v415 c2_i32_336
  let c2_i32_335 : BitVec 32 := 2#32
  let v417 : BitVec 32 := Scalar.remsi v416 c2_i32_335
  let c1_i32_341 : BitVec 32 := 1#32
  let v423 : BitVec 32 := Scalar.addi v417 c1_i32_341
  let c2_i32_342 : BitVec 32 := 2#32
  let v424 : BitVec 32 := Scalar.remsi v423 c2_i32_342
  let c2_i32_376 : BitVec 32 := 2#32
  let v461 : BitVec 32 := Scalar.muli v424 c2_i32_376
  let v462 : BitVec 32 := Scalar.addi v460 v461
  let v418 : BitVec 32 := Dev.word d0
  let c1_i32_338 : BitVec 32 := 1#32
  let v419 : BitVec 32 := Scalar.divsi v418 c1_i32_338
  let c2_i32_337 : BitVec 32 := 2#32
  let v420 : BitVec 32 := Scalar.remsi v419 c2_i32_337
  let c0_i32_343 : BitVec 32 := 0#32
  let v425 : BitVec 32 := Scalar.addi v420 c0_i32_343
  let c2_i32_344 : BitVec 32 := 2#32
  let v426 : BitVec 32 := Scalar.remsi v425 c2_i32_344
  let c1_i32_377 : BitVec 32 := 1#32
  let v463 : BitVec 32 := Scalar.muli v426 c1_i32_377
  let v464 : BitVec 32 := Scalar.addi v462 v463
  v464.toNat
def k0_dev24 (d0 : Dev nD) : Nat :=
  let c0_i32_387 : BitVec 32 := 0#32
  let v412 : BitVec 32 := Dev.word d0
  let c4_i32_334 : BitVec 32 := 4#32
  let v413 : BitVec 32 := Scalar.divsi v412 c4_i32_334
  let c2_i32_333 : BitVec 32 := 2#32
  let v414 : BitVec 32 := Scalar.remsi v413 c2_i32_333
  let c1_i32_339 : BitVec 32 := 1#32
  let v421 : BitVec 32 := Scalar.addi v414 c1_i32_339
  let c2_i32_340 : BitVec 32 := 2#32
  let v422 : BitVec 32 := Scalar.remsi v421 c2_i32_340
  let c4_i32_386 : BitVec 32 := 4#32
  let v473 : BitVec 32 := Scalar.muli v422 c4_i32_386
  let v474 : BitVec 32 := Scalar.addi c0_i32_387 v473
  let v415 : BitVec 32 := Dev.word d0
  let c2_i32_336 : BitVec 32 := 2#32
  let v416 : BitVec 32 := Scalar.divsi v415 c2_i32_336
  let c2_i32_335 : BitVec 32 := 2#32
  let v417 : BitVec 32 := Scalar.remsi v416 c2_i32_335
  let c1_i32_341 : BitVec 32 := 1#32
  let v423 : BitVec 32 := Scalar.addi v417 c1_i32_341
  let c2_i32_342 : BitVec 32 := 2#32
  let v424 : BitVec 32 := Scalar.remsi v423 c2_i32_342
  let c2_i32_388 : BitVec 32 := 2#32
  let v475 : BitVec 32 := Scalar.muli v424 c2_i32_388
  let v476 : BitVec 32 := Scalar.addi v474 v475
  let v418 : BitVec 32 := Dev.word d0
  let c1_i32_338 : BitVec 32 := 1#32
  let v419 : BitVec 32 := Scalar.divsi v418 c1_i32_338
  let c2_i32_337 : BitVec 32 := 2#32
  let v420 : BitVec 32 := Scalar.remsi v419 c2_i32_337
  let c0_i32_343 : BitVec 32 := 0#32
  let v425 : BitVec 32 := Scalar.addi v420 c0_i32_343
  let c2_i32_344 : BitVec 32 := 2#32
  let v426 : BitVec 32 := Scalar.remsi v425 c2_i32_344
  let c1_i32_389 : BitVec 32 := 1#32
  let v477 : BitVec 32 := Scalar.muli v426 c1_i32_389
  let v478 : BitVec 32 := Scalar.addi v476 v477
  v478.toNat
def k0_dev25 (d0 : Dev nD) : Nat :=
  let c0_i32_412 : BitVec 32 := 0#32
  let v487 : BitVec 32 := Dev.word d0
  let c4_i32_395 : BitVec 32 := 4#32
  let v488 : BitVec 32 := Scalar.divsi v487 c4_i32_395
  let c2_i32_394 : BitVec 32 := 2#32
  let v489 : BitVec 32 := Scalar.remsi v488 c2_i32_394
  let c1_i32_400 : BitVec 32 := 1#32
  let v496 : BitVec 32 := Scalar.addi v489 c1_i32_400
  let c2_i32_401 : BitVec 32 := 2#32
  let v497 : BitVec 32 := Scalar.remsi v496 c2_i32_401
  let c4_i32_411 : BitVec 32 := 4#32
  let v506 : BitVec 32 := Scalar.muli v497 c4_i32_411
  let v507 : BitVec 32 := Scalar.addi c0_i32_412 v506
  let v490 : BitVec 32 := Dev.word d0
  let c2_i32_397 : BitVec 32 := 2#32
  let v491 : BitVec 32 := Scalar.divsi v490 c2_i32_397
  let c2_i32_396 : BitVec 32 := 2#32
  let v492 : BitVec 32 := Scalar.remsi v491 c2_i32_396
  let c1_i32_402 : BitVec 32 := 1#32
  let v498 : BitVec 32 := Scalar.addi v492 c1_i32_402
  let c2_i32_403 : BitVec 32 := 2#32
  let v499 : BitVec 32 := Scalar.remsi v498 c2_i32_403
  let c2_i32_413 : BitVec 32 := 2#32
  let v508 : BitVec 32 := Scalar.muli v499 c2_i32_413
  let v509 : BitVec 32 := Scalar.addi v507 v508
  let v493 : BitVec 32 := Dev.word d0
  let c1_i32_399 : BitVec 32 := 1#32
  let v494 : BitVec 32 := Scalar.divsi v493 c1_i32_399
  let c2_i32_398 : BitVec 32 := 2#32
  let v495 : BitVec 32 := Scalar.remsi v494 c2_i32_398
  let c1_i32_404 : BitVec 32 := 1#32
  let v500 : BitVec 32 := Scalar.addi v495 c1_i32_404
  let c2_i32_405 : BitVec 32 := 2#32
  let v501 : BitVec 32 := Scalar.remsi v500 c2_i32_405
  let c1_i32_414 : BitVec 32 := 1#32
  let v510 : BitVec 32 := Scalar.muli v501 c1_i32_414
  let v511 : BitVec 32 := Scalar.addi v509 v510
  v511.toNat
def k0_dev26 (d0 : Dev nD) : Nat :=
  let c0_i32_424 : BitVec 32 := 0#32
  let v487 : BitVec 32 := Dev.word d0
  let c4_i32_395 : BitVec 32 := 4#32
  let v488 : BitVec 32 := Scalar.divsi v487 c4_i32_395
  let c2_i32_394 : BitVec 32 := 2#32
  let v489 : BitVec 32 := Scalar.remsi v488 c2_i32_394
  let c1_i32_400 : BitVec 32 := 1#32
  let v496 : BitVec 32 := Scalar.addi v489 c1_i32_400
  let c2_i32_401 : BitVec 32 := 2#32
  let v497 : BitVec 32 := Scalar.remsi v496 c2_i32_401
  let c4_i32_423 : BitVec 32 := 4#32
  let v520 : BitVec 32 := Scalar.muli v497 c4_i32_423
  let v521 : BitVec 32 := Scalar.addi c0_i32_424 v520
  let v490 : BitVec 32 := Dev.word d0
  let c2_i32_397 : BitVec 32 := 2#32
  let v491 : BitVec 32 := Scalar.divsi v490 c2_i32_397
  let c2_i32_396 : BitVec 32 := 2#32
  let v492 : BitVec 32 := Scalar.remsi v491 c2_i32_396
  let c1_i32_402 : BitVec 32 := 1#32
  let v498 : BitVec 32 := Scalar.addi v492 c1_i32_402
  let c2_i32_403 : BitVec 32 := 2#32
  let v499 : BitVec 32 := Scalar.remsi v498 c2_i32_403
  let c2_i32_425 : BitVec 32 := 2#32
  let v522 : BitVec 32 := Scalar.muli v499 c2_i32_425
  let v523 : BitVec 32 := Scalar.addi v521 v522
  let v493 : BitVec 32 := Dev.word d0
  let c1_i32_399 : BitVec 32 := 1#32
  let v494 : BitVec 32 := Scalar.divsi v493 c1_i32_399
  let c2_i32_398 : BitVec 32 := 2#32
  let v495 : BitVec 32 := Scalar.remsi v494 c2_i32_398
  let c1_i32_404 : BitVec 32 := 1#32
  let v500 : BitVec 32 := Scalar.addi v495 c1_i32_404
  let c2_i32_405 : BitVec 32 := 2#32
  let v501 : BitVec 32 := Scalar.remsi v500 c2_i32_405
  let c1_i32_426 : BitVec 32 := 1#32
  let v524 : BitVec 32 := Scalar.muli v501 c1_i32_426
  let v525 : BitVec 32 := Scalar.addi v523 v524
  v525.toNat
def k0_dev27 (d0 : Dev nD) : Nat :=
  let c0_i32_436 : BitVec 32 := 0#32
  let v487 : BitVec 32 := Dev.word d0
  let c4_i32_395 : BitVec 32 := 4#32
  let v488 : BitVec 32 := Scalar.divsi v487 c4_i32_395
  let c2_i32_394 : BitVec 32 := 2#32
  let v489 : BitVec 32 := Scalar.remsi v488 c2_i32_394
  let c1_i32_400 : BitVec 32 := 1#32
  let v496 : BitVec 32 := Scalar.addi v489 c1_i32_400
  let c2_i32_401 : BitVec 32 := 2#32
  let v497 : BitVec 32 := Scalar.remsi v496 c2_i32_401
  let c4_i32_435 : BitVec 32 := 4#32
  let v534 : BitVec 32 := Scalar.muli v497 c4_i32_435
  let v535 : BitVec 32 := Scalar.addi c0_i32_436 v534
  let v490 : BitVec 32 := Dev.word d0
  let c2_i32_397 : BitVec 32 := 2#32
  let v491 : BitVec 32 := Scalar.divsi v490 c2_i32_397
  let c2_i32_396 : BitVec 32 := 2#32
  let v492 : BitVec 32 := Scalar.remsi v491 c2_i32_396
  let c1_i32_402 : BitVec 32 := 1#32
  let v498 : BitVec 32 := Scalar.addi v492 c1_i32_402
  let c2_i32_403 : BitVec 32 := 2#32
  let v499 : BitVec 32 := Scalar.remsi v498 c2_i32_403
  let c2_i32_437 : BitVec 32 := 2#32
  let v536 : BitVec 32 := Scalar.muli v499 c2_i32_437
  let v537 : BitVec 32 := Scalar.addi v535 v536
  let v493 : BitVec 32 := Dev.word d0
  let c1_i32_399 : BitVec 32 := 1#32
  let v494 : BitVec 32 := Scalar.divsi v493 c1_i32_399
  let c2_i32_398 : BitVec 32 := 2#32
  let v495 : BitVec 32 := Scalar.remsi v494 c2_i32_398
  let c1_i32_404 : BitVec 32 := 1#32
  let v500 : BitVec 32 := Scalar.addi v495 c1_i32_404
  let c2_i32_405 : BitVec 32 := 2#32
  let v501 : BitVec 32 := Scalar.remsi v500 c2_i32_405
  let c1_i32_438 : BitVec 32 := 1#32
  let v538 : BitVec 32 := Scalar.muli v501 c1_i32_438
  let v539 : BitVec 32 := Scalar.addi v537 v538
  v539.toNat
def k0_dev28 (d0 : Dev nD) : Nat :=
  let c0_i32_448 : BitVec 32 := 0#32
  let v487 : BitVec 32 := Dev.word d0
  let c4_i32_395 : BitVec 32 := 4#32
  let v488 : BitVec 32 := Scalar.divsi v487 c4_i32_395
  let c2_i32_394 : BitVec 32 := 2#32
  let v489 : BitVec 32 := Scalar.remsi v488 c2_i32_394
  let c1_i32_400 : BitVec 32 := 1#32
  let v496 : BitVec 32 := Scalar.addi v489 c1_i32_400
  let c2_i32_401 : BitVec 32 := 2#32
  let v497 : BitVec 32 := Scalar.remsi v496 c2_i32_401
  let c4_i32_447 : BitVec 32 := 4#32
  let v548 : BitVec 32 := Scalar.muli v497 c4_i32_447
  let v549 : BitVec 32 := Scalar.addi c0_i32_448 v548
  let v490 : BitVec 32 := Dev.word d0
  let c2_i32_397 : BitVec 32 := 2#32
  let v491 : BitVec 32 := Scalar.divsi v490 c2_i32_397
  let c2_i32_396 : BitVec 32 := 2#32
  let v492 : BitVec 32 := Scalar.remsi v491 c2_i32_396
  let c1_i32_402 : BitVec 32 := 1#32
  let v498 : BitVec 32 := Scalar.addi v492 c1_i32_402
  let c2_i32_403 : BitVec 32 := 2#32
  let v499 : BitVec 32 := Scalar.remsi v498 c2_i32_403
  let c2_i32_449 : BitVec 32 := 2#32
  let v550 : BitVec 32 := Scalar.muli v499 c2_i32_449
  let v551 : BitVec 32 := Scalar.addi v549 v550
  let v493 : BitVec 32 := Dev.word d0
  let c1_i32_399 : BitVec 32 := 1#32
  let v494 : BitVec 32 := Scalar.divsi v493 c1_i32_399
  let c2_i32_398 : BitVec 32 := 2#32
  let v495 : BitVec 32 := Scalar.remsi v494 c2_i32_398
  let c1_i32_404 : BitVec 32 := 1#32
  let v500 : BitVec 32 := Scalar.addi v495 c1_i32_404
  let c2_i32_405 : BitVec 32 := 2#32
  let v501 : BitVec 32 := Scalar.remsi v500 c2_i32_405
  let c1_i32_450 : BitVec 32 := 1#32
  let v552 : BitVec 32 := Scalar.muli v501 c1_i32_450
  let v553 : BitVec 32 := Scalar.addi v551 v552
  v553.toNat
-- ==== ScatterRef.lean ====
abbrev S64x1024x1408 : Shape := ⟨3, ![64, 1024, 1408]⟩
abbrev S64x256x1024 : Shape := ⟨3, ![64, 256, 1024]⟩
abbrev S64x128x1024 : Shape := ⟨3, ![64, 128, 1024]⟩
abbrev S8x8x1024x1408 : Shape := ⟨4, ![8, 8, 1024, 1408]⟩
abbrev S8x8x256x1024 : Shape := ⟨4, ![8, 8, 256, 1024]⟩
abbrev S8x8x128x1024 : Shape := ⟨4, ![8, 8, 128, 1024]⟩

abbrev nBuf : Space → Nat
  | .hbm => 16
  | .vmem => 0
  | .smem => 0
  | _ => 0

abbrev bufTy : (tb : Table) → Fin (tcTables nBuf tb) → BufTy
  | .hbm, ⟨0, _⟩ => ⟨S64x1024x1408, .bf16⟩
  | .hbm, ⟨1, _⟩ => ⟨S64x256x1024, .bf16⟩
  | .hbm, ⟨2, _⟩ => ⟨S64x128x1024, .bf16⟩
  | .hbm, ⟨3, _⟩ => ⟨S64x128x1024, .bf16⟩
  | .hbm, ⟨4, _⟩ => ⟨S8x8x1024x1408, .bf16⟩
  | .hbm, ⟨5, _⟩ => ⟨S8x8x1024x1408, .bf16⟩
  | .hbm, ⟨6, _⟩ => ⟨S64x1024x1408, .bf16⟩
  | .hbm, ⟨7, _⟩ => ⟨S8x8x256x1024, .bf16⟩
  | .hbm, ⟨8, _⟩ => ⟨S8x8x256x1024, .bf16⟩
  | .hbm, ⟨9, _⟩ => ⟨S64x256x1024, .bf16⟩
  | .hbm, ⟨10, _⟩ => ⟨S8x8x128x1024, .bf16⟩
  | .hbm, ⟨11, _⟩ => ⟨S8x8x128x1024, .bf16⟩
  | .hbm, ⟨12, _⟩ => ⟨S64x128x1024, .bf16⟩
  | .hbm, ⟨13, _⟩ => ⟨S8x8x128x1024, .bf16⟩
  | .hbm, ⟨14, _⟩ => ⟨S8x8x128x1024, .bf16⟩
  | .hbm, ⟨15, _⟩ => ⟨S64x128x1024, .bf16⟩
  | _, _ => ⟨S64x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Gather.lean ====
abbrev S1024x1408 : Shape := ⟨2, ![1024, 1408]⟩
abbrev S256x1024 : Shape := ⟨2, ![256, 1024]⟩
abbrev S128x1024 : Shape := ⟨2, ![128, 1024]⟩
abbrev S8x1024x1408 : Shape := ⟨3, ![8, 1024, 1408]⟩
abbrev S8x256x1024 : Shape := ⟨3, ![8, 256, 1024]⟩
abbrev S8x128x1024 : Shape := ⟨3, ![8, 128, 1024]⟩
abbrev S4x7 : Shape := ⟨2, ![4, 7]⟩
abbrev S4 : Shape := ⟨1, ![4]⟩
abbrev S1 : Shape := ⟨1, ![1]⟩
abbrev S_ : Shape := ⟨0, ![]⟩
abbrev S1x1024x1408 : Shape := ⟨3, ![1, 1024, 1408]⟩
abbrev S1x256x1024 : Shape := ⟨3, ![1, 256, 1024]⟩
abbrev S1x128x1024 : Shape := ⟨3, ![1, 128, 1024]⟩
abbrev S1x1 : Shape := ⟨2, ![1, 1]⟩

abbrev nBuf : Space → Nat
  | .hbm => 8
  | .vmem => 0
  | .smem => 0
  | _ => 0

abbrev bufTy : (tb : Table) → Fin (tcTables nBuf tb) → BufTy
  | .hbm, ⟨0, _⟩ => ⟨S1024x1408, .bf16⟩
  | .hbm, ⟨1, _⟩ => ⟨S256x1024, .bf16⟩
  | .hbm, ⟨2, _⟩ => ⟨S128x1024, .bf16⟩
  | .hbm, ⟨3, _⟩ => ⟨S128x1024, .bf16⟩
  | .hbm, ⟨4, _⟩ => ⟨S8x1024x1408, .bf16⟩
  | .hbm, ⟨5, _⟩ => ⟨S8x256x1024, .bf16⟩
  | .hbm, ⟨6, _⟩ => ⟨S8x128x1024, .bf16⟩
  | .hbm, ⟨7, _⟩ => ⟨S8x128x1024, .bf16⟩
  | _, _ => ⟨S1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_8 : BitVec 32 := 0#32
  let c0_i32_9 : BitVec 32 := 0#32
  ![v12.toNat, 0, 0]
def k0_off3 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_11 : BitVec 32 := 0#32
  let c0_i32_12 : BitVec 32 := 0#32
  ![v12.toNat, 0, 0]
def k0_dev1 (d0 : Dev nD) : Nat :=
  let c0_i32_32 : BitVec 32 := 0#32
  let v29 : BitVec 32 := Dev.word d0
  let c4_i32_16 : BitVec 32 := 4#32
  let v30 : BitVec 32 := Scalar.divsi v29 c4_i32_16
  let c2_i32_15 : BitVec 32 := 2#32
  let v31 : BitVec 32 := Scalar.remsi v30 c2_i32_15
  let c0_i32_21 : BitVec 32 := 0#32
  let v38 : BitVec 32 := Scalar.addi v31 c0_i32_21
  let c2_i32_22 : BitVec 32 := 2#32
  let v39 : BitVec 32 := Scalar.remsi v38 c2_i32_22
  let c4_i32_31 : BitVec 32 := 4#32
  let v44 : BitVec 32 := Scalar.muli v39 c4_i32_31
  let v45 : BitVec 32 := Scalar.addi c0_i32_32 v44
  let v32 : BitVec 32 := Dev.word d0
  let c2_i32_18 : BitVec 32 := 2#32
  let v33 : BitVec 32 := Scalar.divsi v32 c2_i32_18
  let c2_i32_17 : BitVec 32 := 2#32
  let v34 : BitVec 32 := Scalar.remsi v33 c2_i32_17
  let c0_i32_23 : BitVec 32 := 0#32
  let v40 : BitVec 32 := Scalar.addi v34 c0_i32_23
  let c2_i32_24 : BitVec 32 := 2#32
  let v41 : BitVec 32 := Scalar.remsi v40 c2_i32_24
  let c2_i32_33 : BitVec 32 := 2#32
  let v46 : BitVec 32 := Scalar.muli v41 c2_i32_33
  let v47 : BitVec 32 := Scalar.addi v45 v46
  let v35 : BitVec 32 := Dev.word d0
  let c1_i32_20 : BitVec 32 := 1#32
  let v36 : BitVec 32 := Scalar.divsi v35 c1_i32_20
  let c2_i32_19 : BitVec 32 := 2#32
  let v37 : BitVec 32 := Scalar.remsi v36 c2_i32_19
  let c1_i32_25 : BitVec 32 := 1#32
  let v42 : BitVec 32 := Scalar.addi v37 c1_i32_25
  let c2_i32_26 : BitVec 32 := 2#32
  let v43 : BitVec 32 := Scalar.remsi v42 c2_i32_26
  let c1_i32_34 : BitVec 32 := 1#32
  let v48 : BitVec 32 := Scalar.muli v43 c1_i32_34
  let v49 : BitVec 32 := Scalar.addi v47 v48
  v49.toNat
def k0_dev2 (d0 : Dev nD) : Nat :=
  let c0_i32_42 : BitVec 32 := 0#32
  let v29 : BitVec 32 := Dev.word d0
  let c4_i32_16 : BitVec 32 := 4#32
  let v30 : BitVec 32 := Scalar.divsi v29 c4_i32_16
  let c2_i32_15 : BitVec 32 := 2#32
  let v31 : BitVec 32 := Scalar.remsi v30 c2_i32_15
  let c0_i32_21 : BitVec 32 := 0#32
  let v38 : BitVec 32 := Scalar.addi v31 c0_i32_21
  let c2_i32_22 : BitVec 32 := 2#32
  let v39 : BitVec 32 := Scalar.remsi v38 c2_i32_22
  let c4_i32_41 : BitVec 32 := 4#32
  let v56 : BitVec 32 := Scalar.muli v39 c4_i32_41
  let v57 : BitVec 32 := Scalar.addi c0_i32_42 v56
  let v32 : BitVec 32 := Dev.word d0
  let c2_i32_18 : BitVec 32 := 2#32
  let v33 : BitVec 32 := Scalar.divsi v32 c2_i32_18
  let c2_i32_17 : BitVec 32 := 2#32
  let v34 : BitVec 32 := Scalar.remsi v33 c2_i32_17
  let c0_i32_23 : BitVec 32 := 0#32
  let v40 : BitVec 32 := Scalar.addi v34 c0_i32_23
  let c2_i32_24 : BitVec 32 := 2#32
  let v41 : BitVec 32 := Scalar.remsi v40 c2_i32_24
  let c2_i32_43 : BitVec 32 := 2#32
  let v58 : BitVec 32 := Scalar.muli v41 c2_i32_43
  let v59 : BitVec 32 := Scalar.addi v57 v58
  let v35 : BitVec 32 := Dev.word d0
  let c1_i32_20 : BitVec 32 := 1#32
  let v36 : BitVec 32 := Scalar.divsi v35 c1_i32_20
  let c2_i32_19 : BitVec 32 := 2#32
  let v37 : BitVec 32 := Scalar.remsi v36 c2_i32_19
  let c1_i32_25 : BitVec 32 := 1#32
  let v42 : BitVec 32 := Scalar.addi v37 c1_i32_25
  let c2_i32_26 : BitVec 32 := 2#32
  let v43 : BitVec 32 := Scalar.remsi v42 c2_i32_26
  let c1_i32_44 : BitVec 32 := 1#32
  let v60 : BitVec 32 := Scalar.muli v43 c1_i32_44
  let v61 : BitVec 32 := Scalar.addi v59 v60
  v61.toNat
def k0_dev3 (d0 : Dev nD) : Nat :=
  let c0_i32_52 : BitVec 32 := 0#32
  let v29 : BitVec 32 := Dev.word d0
  let c4_i32_16 : BitVec 32 := 4#32
  let v30 : BitVec 32 := Scalar.divsi v29 c4_i32_16
  let c2_i32_15 : BitVec 32 := 2#32
  let v31 : BitVec 32 := Scalar.remsi v30 c2_i32_15
  let c0_i32_21 : BitVec 32 := 0#32
  let v38 : BitVec 32 := Scalar.addi v31 c0_i32_21
  let c2_i32_22 : BitVec 32 := 2#32
  let v39 : BitVec 32 := Scalar.remsi v38 c2_i32_22
  let c4_i32_51 : BitVec 32 := 4#32
  let v68 : BitVec 32 := Scalar.muli v39 c4_i32_51
  let v69 : BitVec 32 := Scalar.addi c0_i32_52 v68
  let v32 : BitVec 32 := Dev.word d0
  let c2_i32_18 : BitVec 32 := 2#32
  let v33 : BitVec 32 := Scalar.divsi v32 c2_i32_18
  let c2_i32_17 : BitVec 32 := 2#32
  let v34 : BitVec 32 := Scalar.remsi v33 c2_i32_17
  let c0_i32_23 : BitVec 32 := 0#32
  let v40 : BitVec 32 := Scalar.addi v34 c0_i32_23
  let c2_i32_24 : BitVec 32 := 2#32
  let v41 : BitVec 32 := Scalar.remsi v40 c2_i32_24
  let c2_i32_53 : BitVec 32 := 2#32
  let v70 : BitVec 32 := Scalar.muli v41 c2_i32_53
  let v71 : BitVec 32 := Scalar.addi v69 v70
  let v35 : BitVec 32 := Dev.word d0
  let c1_i32_20 : BitVec 32 := 1#32
  let v36 : BitVec 32 := Scalar.divsi v35 c1_i32_20
  let c2_i32_19 : BitVec 32 := 2#32
  let v37 : BitVec 32 := Scalar.remsi v36 c2_i32_19
  let c1_i32_25 : BitVec 32 := 1#32
  let v42 : BitVec 32 := Scalar.addi v37 c1_i32_25
  let c2_i32_26 : BitVec 32 := 2#32
  let v43 : BitVec 32 := Scalar.remsi v42 c2_i32_26
  let c1_i32_54 : BitVec 32 := 1#32
  let v72 : BitVec 32 := Scalar.muli v43 c1_i32_54
  let v73 : BitVec 32 := Scalar.addi v71 v72
  v73.toNat
def k0_dev4 (d0 : Dev nD) : Nat :=
  let c0_i32_62 : BitVec 32 := 0#32
  let v29 : BitVec 32 := Dev.word d0
  let c4_i32_16 : BitVec 32 := 4#32
  let v30 : BitVec 32 := Scalar.divsi v29 c4_i32_16
  let c2_i32_15 : BitVec 32 := 2#32
  let v31 : BitVec 32 := Scalar.remsi v30 c2_i32_15
  let c0_i32_21 : BitVec 32 := 0#32
  let v38 : BitVec 32 := Scalar.addi v31 c0_i32_21
  let c2_i32_22 : BitVec 32 := 2#32
  let v39 : BitVec 32 := Scalar.remsi v38 c2_i32_22
  let c4_i32_61 : BitVec 32 := 4#32
  let v80 : BitVec 32 := Scalar.muli v39 c4_i32_61
  let v81 : BitVec 32 := Scalar.addi c0_i32_62 v80
  let v32 : BitVec 32 := Dev.word d0
  let c2_i32_18 : BitVec 32 := 2#32
  let v33 : BitVec 32 := Scalar.divsi v32 c2_i32_18
  let c2_i32_17 : BitVec 32 := 2#32
  let v34 : BitVec 32 := Scalar.remsi v33 c2_i32_17
  let c0_i32_23 : BitVec 32 := 0#32
  let v40 : BitVec 32 := Scalar.addi v34 c0_i32_23
  let c2_i32_24 : BitVec 32 := 2#32
  let v41 : BitVec 32 := Scalar.remsi v40 c2_i32_24
  let c2_i32_63 : BitVec 32 := 2#32
  let v82 : BitVec 32 := Scalar.muli v41 c2_i32_63
  let v83 : BitVec 32 := Scalar.addi v81 v82
  let v35 : BitVec 32 := Dev.word d0
  let c1_i32_20 : BitVec 32 := 1#32
  let v36 : BitVec 32 := Scalar.divsi v35 c1_i32_20
  let c2_i32_19 : BitVec 32 := 2#32
  let v37 : BitVec 32 := Scalar.remsi v36 c2_i32_19
  let c1_i32_25 : BitVec 32 := 1#32
  let v42 : BitVec 32 := Scalar.addi v37 c1_i32_25
  let c2_i32_26 : BitVec 32 := 2#32
  let v43 : BitVec 32 := Scalar.remsi v42 c2_i32_26
  let c1_i32_64 : BitVec 32 := 1#32
  let v84 : BitVec 32 := Scalar.muli v43 c1_i32_64
  let v85 : BitVec 32 := Scalar.addi v83 v84
  v85.toNat
def k0_dev5 (d0 : Dev nD) : Nat :=
  let c0_i32_84 : BitVec 32 := 0#32
  let v92 : BitVec 32 := Dev.word d0
  let c4_i32_68 : BitVec 32 := 4#32
  let v93 : BitVec 32 := Scalar.divsi v92 c4_i32_68
  let c2_i32_67 : BitVec 32 := 2#32
  let v94 : BitVec 32 := Scalar.remsi v93 c2_i32_67
  let c0_i32_73 : BitVec 32 := 0#32
  let v101 : BitVec 32 := Scalar.addi v94 c0_i32_73
  let c2_i32_74 : BitVec 32 := 2#32
  let v102 : BitVec 32 := Scalar.remsi v101 c2_i32_74
  let c4_i32_83 : BitVec 32 := 4#32
  let v107 : BitVec 32 := Scalar.muli v102 c4_i32_83
  let v108 : BitVec 32 := Scalar.addi c0_i32_84 v107
  let v95 : BitVec 32 := Dev.word d0
  let c2_i32_70 : BitVec 32 := 2#32
  let v96 : BitVec 32 := Scalar.divsi v95 c2_i32_70
  let c2_i32_69 : BitVec 32 := 2#32
  let v97 : BitVec 32 := Scalar.remsi v96 c2_i32_69
  let c1_i32_75 : BitVec 32 := 1#32
  let v103 : BitVec 32 := Scalar.addi v97 c1_i32_75
  let c2_i32_76 : BitVec 32 := 2#32
  let v104 : BitVec 32 := Scalar.remsi v103 c2_i32_76
  let c2_i32_85 : BitVec 32 := 2#32
  let v109 : BitVec 32 := Scalar.muli v104 c2_i32_85
  let v110 : BitVec 32 := Scalar.addi v108 v109
  let v98 : BitVec 32 := Dev.word d0
  let c1_i32_72 : BitVec 32 := 1#32
  let v99 : BitVec 32 := Scalar.divsi v98 c1_i32_72
  let c2_i32_71 : BitVec 32 := 2#32
  let v100 : BitVec 32 := Scalar.remsi v99 c2_i32_71
  let c0_i32_77 : BitVec 32 := 0#32
  let v105 : BitVec 32 := Scalar.addi v100 c0_i32_77
  let c2_i32_78 : BitVec 32 := 2#32
  let v106 : BitVec 32 := Scalar.remsi v105 c2_i32_78
  let c1_i32_86 : BitVec 32 := 1#32
  let v111 : BitVec 32 := Scalar.muli v106 c1_i32_86
  let v112 : BitVec 32 := Scalar.addi v110 v111
  v112.toNat
def k0_dev6 (d0 : Dev nD) : Nat :=
  let c0_i32_94 : BitVec 32 := 0#32
  let v92 : BitVec 32 := Dev.word d0
  let c4_i32_68 : BitVec 32 := 4#32
  let v93 : BitVec 32 := Scalar.divsi v92 c4_i32_68
  let c2_i32_67 : BitVec 32 := 2#32
  let v94 : BitVec 32 := Scalar.remsi v93 c2_i32_67
  let c0_i32_73 : BitVec 32 := 0#32
  let v101 : BitVec 32 := Scalar.addi v94 c0_i32_73
  let c2_i32_74 : BitVec 32 := 2#32
  let v102 : BitVec 32 := Scalar.remsi v101 c2_i32_74
  let c4_i32_93 : BitVec 32 := 4#32
  let v119 : BitVec 32 := Scalar.muli v102 c4_i32_93
  let v120 : BitVec 32 := Scalar.addi c0_i32_94 v119
  let v95 : BitVec 32 := Dev.word d0
  let c2_i32_70 : BitVec 32 := 2#32
  let v96 : BitVec 32 := Scalar.divsi v95 c2_i32_70
  let c2_i32_69 : BitVec 32 := 2#32
  let v97 : BitVec 32 := Scalar.remsi v96 c2_i32_69
  let c1_i32_75 : BitVec 32 := 1#32
  let v103 : BitVec 32 := Scalar.addi v97 c1_i32_75
  let c2_i32_76 : BitVec 32 := 2#32
  let v104 : BitVec 32 := Scalar.remsi v103 c2_i32_76
  let c2_i32_95 : BitVec 32 := 2#32
  let v121 : BitVec 32 := Scalar.muli v104 c2_i32_95
  let v122 : BitVec 32 := Scalar.addi v120 v121
  let v98 : BitVec 32 := Dev.word d0
  let c1_i32_72 : BitVec 32 := 1#32
  let v99 : BitVec 32 := Scalar.divsi v98 c1_i32_72
  let c2_i32_71 : BitVec 32 := 2#32
  let v100 : BitVec 32 := Scalar.remsi v99 c2_i32_71
  let c0_i32_77 : BitVec 32 := 0#32
  let v105 : BitVec 32 := Scalar.addi v100 c0_i32_77
  let c2_i32_78 : BitVec 32 := 2#32
  let v106 : BitVec 32 := Scalar.remsi v105 c2_i32_78
  let c1_i32_96 : BitVec 32 := 1#32
  let v123 : BitVec 32 := Scalar.muli v106 c1_i32_96
  let v124 : BitVec 32 := Scalar.addi v122 v123
  v124.toNat
def k0_dev7 (d0 : Dev nD) : Nat :=
  let c0_i32_104 : BitVec 32 := 0#32
  let v92 : BitVec 32 := Dev.word d0
  let c4_i32_68 : BitVec 32 := 4#32
  let v93 : BitVec 32 := Scalar.divsi v92 c4_i32_68
  let c2_i32_67 : BitVec 32 := 2#32
  let v94 : BitVec 32 := Scalar.remsi v93 c2_i32_67
  let c0_i32_73 : BitVec 32 := 0#32
  let v101 : BitVec 32 := Scalar.addi v94 c0_i32_73
  let c2_i32_74 : BitVec 32 := 2#32
  let v102 : BitVec 32 := Scalar.remsi v101 c2_i32_74
  let c4_i32_103 : BitVec 32 := 4#32
  let v131 : BitVec 32 := Scalar.muli v102 c4_i32_103
  let v132 : BitVec 32 := Scalar.addi c0_i32_104 v131
  let v95 : BitVec 32 := Dev.word d0
  let c2_i32_70 : BitVec 32 := 2#32
  let v96 : BitVec 32 := Scalar.divsi v95 c2_i32_70
  let c2_i32_69 : BitVec 32 := 2#32
  let v97 : BitVec 32 := Scalar.remsi v96 c2_i32_69
  let c1_i32_75 : BitVec 32 := 1#32
  let v103 : BitVec 32 := Scalar.addi v97 c1_i32_75
  let c2_i32_76 : BitVec 32 := 2#32
  let v104 : BitVec 32 := Scalar.remsi v103 c2_i32_76
  let c2_i32_105 : BitVec 32 := 2#32
  let v133 : BitVec 32 := Scalar.muli v104 c2_i32_105
  let v134 : BitVec 32 := Scalar.addi v132 v133
  let v98 : BitVec 32 := Dev.word d0
  let c1_i32_72 : BitVec 32 := 1#32
  let v99 : BitVec 32 := Scalar.divsi v98 c1_i32_72
  let c2_i32_71 : BitVec 32 := 2#32
  let v100 : BitVec 32 := Scalar.remsi v99 c2_i32_71
  let c0_i32_77 : BitVec 32 := 0#32
  let v105 : BitVec 32 := Scalar.addi v100 c0_i32_77
  let c2_i32_78 : BitVec 32 := 2#32
  let v106 : BitVec 32 := Scalar.remsi v105 c2_i32_78
  let c1_i32_106 : BitVec 32 := 1#32
  let v135 : BitVec 32 := Scalar.muli v106 c1_i32_106
  let v136 : BitVec 32 := Scalar.addi v134 v135
  v136.toNat
def k0_dev8 (d0 : Dev nD) : Nat :=
  let c0_i32_114 : BitVec 32 := 0#32
  let v92 : BitVec 32 := Dev.word d0
  let c4_i32_68 : BitVec 32 := 4#32
  let v93 : BitVec 32 := Scalar.divsi v92 c4_i32_68
  let c2_i32_67 : BitVec 32 := 2#32
  let v94 : BitVec 32 := Scalar.remsi v93 c2_i32_67
  let c0_i32_73 : BitVec 32 := 0#32
  let v101 : BitVec 32 := Scalar.addi v94 c0_i32_73
  let c2_i32_74 : BitVec 32 := 2#32
  let v102 : BitVec 32 := Scalar.remsi v101 c2_i32_74
  let c4_i32_113 : BitVec 32 := 4#32
  let v143 : BitVec 32 := Scalar.muli v102 c4_i32_113
  let v144 : BitVec 32 := Scalar.addi c0_i32_114 v143
  let v95 : BitVec 32 := Dev.word d0
  let c2_i32_70 : BitVec 32 := 2#32
  let v96 : BitVec 32 := Scalar.divsi v95 c2_i32_70
  let c2_i32_69 : BitVec 32 := 2#32
  let v97 : BitVec 32 := Scalar.remsi v96 c2_i32_69
  let c1_i32_75 : BitVec 32 := 1#32
  let v103 : BitVec 32 := Scalar.addi v97 c1_i32_75
  let c2_i32_76 : BitVec 32 := 2#32
  let v104 : BitVec 32 := Scalar.remsi v103 c2_i32_76
  let c2_i32_115 : BitVec 32 := 2#32
  let v145 : BitVec 32 := Scalar.muli v104 c2_i32_115
  let v146 : BitVec 32 := Scalar.addi v144 v145
  let v98 : BitVec 32 := Dev.word d0
  let c1_i32_72 : BitVec 32 := 1#32
  let v99 : BitVec 32 := Scalar.divsi v98 c1_i32_72
  let c2_i32_71 : BitVec 32 := 2#32
  let v100 : BitVec 32 := Scalar.remsi v99 c2_i32_71
  let c0_i32_77 : BitVec 32 := 0#32
  let v105 : BitVec 32 := Scalar.addi v100 c0_i32_77
  let c2_i32_78 : BitVec 32 := 2#32
  let v106 : BitVec 32 := Scalar.remsi v105 c2_i32_78
  let c1_i32_116 : BitVec 32 := 1#32
  let v147 : BitVec 32 := Scalar.muli v106 c1_i32_116
  let v148 : BitVec 32 := Scalar.addi v146 v147
  v148.toNat
def k0_dev9 (d0 : Dev nD) : Nat :=
  let c0_i32_136 : BitVec 32 := 0#32
  let v155 : BitVec 32 := Dev.word d0
  let c4_i32_120 : BitVec 32 := 4#32
  let v156 : BitVec 32 := Scalar.divsi v155 c4_i32_120
  let c2_i32_119 : BitVec 32 := 2#32
  let v157 : BitVec 32 := Scalar.remsi v156 c2_i32_119
  let c0_i32_125 : BitVec 32 := 0#32
  let v164 : BitVec 32 := Scalar.addi v157 c0_i32_125
  let c2_i32_126 : BitVec 32 := 2#32
  let v165 : BitVec 32 := Scalar.remsi v164 c2_i32_126
  let c4_i32_135 : BitVec 32 := 4#32
  let v170 : BitVec 32 := Scalar.muli v165 c4_i32_135
  let v171 : BitVec 32 := Scalar.addi c0_i32_136 v170
  let v158 : BitVec 32 := Dev.word d0
  let c2_i32_122 : BitVec 32 := 2#32
  let v159 : BitVec 32 := Scalar.divsi v158 c2_i32_122
  let c2_i32_121 : BitVec 32 := 2#32
  let v160 : BitVec 32 := Scalar.remsi v159 c2_i32_121
  let c1_i32_127 : BitVec 32 := 1#32
  let v166 : BitVec 32 := Scalar.addi v160 c1_i32_127
  let c2_i32_128 : BitVec 32 := 2#32
  let v167 : BitVec 32 := Scalar.remsi v166 c2_i32_128
  let c2_i32_137 : BitVec 32 := 2#32
  let v172 : BitVec 32 := Scalar.muli v167 c2_i32_137
  let v173 : BitVec 32 := Scalar.addi v171 v172
  let v161 : BitVec 32 := Dev.word d0
  let c1_i32_124 : BitVec 32 := 1#32
  let v162 : BitVec 32 := Scalar.divsi v161 c1_i32_124
  let c2_i32_123 : BitVec 32 := 2#32
  let v163 : BitVec 32 := Scalar.remsi v162 c2_i32_123
  let c1_i32_129 : BitVec 32 := 1#32
  let v168 : BitVec 32 := Scalar.addi v163 c1_i32_129
  let c2_i32_130 : BitVec 32 := 2#32
  let v169 : BitVec 32 := Scalar.remsi v168 c2_i32_130
  let c1_i32_138 : BitVec 32 := 1#32
  let v174 : BitVec 32 := Scalar.muli v169 c1_i32_138
  let v175 : BitVec 32 := Scalar.addi v173 v174
  v175.toNat
def k0_dev10 (d0 : Dev nD) : Nat :=
  let c0_i32_146 : BitVec 32 := 0#32
  let v155 : BitVec 32 := Dev.word d0
  let c4_i32_120 : BitVec 32 := 4#32
  let v156 : BitVec 32 := Scalar.divsi v155 c4_i32_120
  let c2_i32_119 : BitVec 32 := 2#32
  let v157 : BitVec 32 := Scalar.remsi v156 c2_i32_119
  let c0_i32_125 : BitVec 32 := 0#32
  let v164 : BitVec 32 := Scalar.addi v157 c0_i32_125
  let c2_i32_126 : BitVec 32 := 2#32
  let v165 : BitVec 32 := Scalar.remsi v164 c2_i32_126
  let c4_i32_145 : BitVec 32 := 4#32
  let v182 : BitVec 32 := Scalar.muli v165 c4_i32_145
  let v183 : BitVec 32 := Scalar.addi c0_i32_146 v182
  let v158 : BitVec 32 := Dev.word d0
  let c2_i32_122 : BitVec 32 := 2#32
  let v159 : BitVec 32 := Scalar.divsi v158 c2_i32_122
  let c2_i32_121 : BitVec 32 := 2#32
  let v160 : BitVec 32 := Scalar.remsi v159 c2_i32_121
  let c1_i32_127 : BitVec 32 := 1#32
  let v166 : BitVec 32 := Scalar.addi v160 c1_i32_127
  let c2_i32_128 : BitVec 32 := 2#32
  let v167 : BitVec 32 := Scalar.remsi v166 c2_i32_128
  let c2_i32_147 : BitVec 32 := 2#32
  let v184 : BitVec 32 := Scalar.muli v167 c2_i32_147
  let v185 : BitVec 32 := Scalar.addi v183 v184
  let v161 : BitVec 32 := Dev.word d0
  let c1_i32_124 : BitVec 32 := 1#32
  let v162 : BitVec 32 := Scalar.divsi v161 c1_i32_124
  let c2_i32_123 : BitVec 32 := 2#32
  let v163 : BitVec 32 := Scalar.remsi v162 c2_i32_123
  let c1_i32_129 : BitVec 32 := 1#32
  let v168 : BitVec 32 := Scalar.addi v163 c1_i32_129
  let c2_i32_130 : BitVec 32 := 2#32
  let v169 : BitVec 32 := Scalar.remsi v168 c2_i32_130
  let c1_i32_148 : BitVec 32 := 1#32
  let v186 : BitVec 32 := Scalar.muli v169 c1_i32_148
  let v187 : BitVec 32 := Scalar.addi v185 v186
  v187.toNat
def k0_dev11 (d0 : Dev nD) : Nat :=
  let c0_i32_156 : BitVec 32 := 0#32
  let v155 : BitVec 32 := Dev.word d0
  let c4_i32_120 : BitVec 32 := 4#32
  let v156 : BitVec 32 := Scalar.divsi v155 c4_i32_120
  let c2_i32_119 : BitVec 32 := 2#32
  let v157 : BitVec 32 := Scalar.remsi v156 c2_i32_119
  let c0_i32_125 : BitVec 32 := 0#32
  let v164 : BitVec 32 := Scalar.addi v157 c0_i32_125
  let c2_i32_126 : BitVec 32 := 2#32
  let v165 : BitVec 32 := Scalar.remsi v164 c2_i32_126
  let c4_i32_155 : BitVec 32 := 4#32
  let v194 : BitVec 32 := Scalar.muli v165 c4_i32_155
  let v195 : BitVec 32 := Scalar.addi c0_i32_156 v194
  let v158 : BitVec 32 := Dev.word d0
  let c2_i32_122 : BitVec 32 := 2#32
  let v159 : BitVec 32 := Scalar.divsi v158 c2_i32_122
  let c2_i32_121 : BitVec 32 := 2#32
  let v160 : BitVec 32 := Scalar.remsi v159 c2_i32_121
  let c1_i32_127 : BitVec 32 := 1#32
  let v166 : BitVec 32 := Scalar.addi v160 c1_i32_127
  let c2_i32_128 : BitVec 32 := 2#32
  let v167 : BitVec 32 := Scalar.remsi v166 c2_i32_128
  let c2_i32_157 : BitVec 32 := 2#32
  let v196 : BitVec 32 := Scalar.muli v167 c2_i32_157
  let v197 : BitVec 32 := Scalar.addi v195 v196
  let v161 : BitVec 32 := Dev.word d0
  let c1_i32_124 : BitVec 32 := 1#32
  let v162 : BitVec 32 := Scalar.divsi v161 c1_i32_124
  let c2_i32_123 : BitVec 32 := 2#32
  let v163 : BitVec 32 := Scalar.remsi v162 c2_i32_123
  let c1_i32_129 : BitVec 32 := 1#32
  let v168 : BitVec 32 := Scalar.addi v163 c1_i32_129
  let c2_i32_130 : BitVec 32 := 2#32
  let v169 : BitVec 32 := Scalar.remsi v168 c2_i32_130
  let c1_i32_158 : BitVec 32 := 1#32
  let v198 : BitVec 32 := Scalar.muli v169 c1_i32_158
  let v199 : BitVec 32 := Scalar.addi v197 v198
  v199.toNat
def k0_dev12 (d0 : Dev nD) : Nat :=
  let c0_i32_166 : BitVec 32 := 0#32
  let v155 : BitVec 32 := Dev.word d0
  let c4_i32_120 : BitVec 32 := 4#32
  let v156 : BitVec 32 := Scalar.divsi v155 c4_i32_120
  let c2_i32_119 : BitVec 32 := 2#32
  let v157 : BitVec 32 := Scalar.remsi v156 c2_i32_119
  let c0_i32_125 : BitVec 32 := 0#32
  let v164 : BitVec 32 := Scalar.addi v157 c0_i32_125
  let c2_i32_126 : BitVec 32 := 2#32
  let v165 : BitVec 32 := Scalar.remsi v164 c2_i32_126
  let c4_i32_165 : BitVec 32 := 4#32
  let v206 : BitVec 32 := Scalar.muli v165 c4_i32_165
  let v207 : BitVec 32 := Scalar.addi c0_i32_166 v206
  let v158 : BitVec 32 := Dev.word d0
  let c2_i32_122 : BitVec 32 := 2#32
  let v159 : BitVec 32 := Scalar.divsi v158 c2_i32_122
  let c2_i32_121 : BitVec 32 := 2#32
  let v160 : BitVec 32 := Scalar.remsi v159 c2_i32_121
  let c1_i32_127 : BitVec 32 := 1#32
  let v166 : BitVec 32 := Scalar.addi v160 c1_i32_127
  let c2_i32_128 : BitVec 32 := 2#32
  let v167 : BitVec 32 := Scalar.remsi v166 c2_i32_128
  let c2_i32_167 : BitVec 32 := 2#32
  let v208 : BitVec 32 := Scalar.muli v167 c2_i32_167
  let v209 : BitVec 32 := Scalar.addi v207 v208
  let v161 : BitVec 32 := Dev.word d0
  let c1_i32_124 : BitVec 32 := 1#32
  let v162 : BitVec 32 := Scalar.divsi v161 c1_i32_124
  let c2_i32_123 : BitVec 32 := 2#32
  let v163 : BitVec 32 := Scalar.remsi v162 c2_i32_123
  let c1_i32_129 : BitVec 32 := 1#32
  let v168 : BitVec 32 := Scalar.addi v163 c1_i32_129
  let c2_i32_130 : BitVec 32 := 2#32
  let v169 : BitVec 32 := Scalar.remsi v168 c2_i32_130
  let c1_i32_168 : BitVec 32 := 1#32
  let v210 : BitVec 32 := Scalar.muli v169 c1_i32_168
  let v211 : BitVec 32 := Scalar.addi v209 v210
  v211.toNat
def k0_dev13 (d0 : Dev nD) : Nat :=
  let c0_i32_188 : BitVec 32 := 0#32
  let v218 : BitVec 32 := Dev.word d0
  let c4_i32_172 : BitVec 32 := 4#32
  let v219 : BitVec 32 := Scalar.divsi v218 c4_i32_172
  let c2_i32_171 : BitVec 32 := 2#32
  let v220 : BitVec 32 := Scalar.remsi v219 c2_i32_171
  let c1_i32_177 : BitVec 32 := 1#32
  let v227 : BitVec 32 := Scalar.addi v220 c1_i32_177
  let c2_i32_178 : BitVec 32 := 2#32
  let v228 : BitVec 32 := Scalar.remsi v227 c2_i32_178
  let c4_i32_187 : BitVec 32 := 4#32
  let v233 : BitVec 32 := Scalar.muli v228 c4_i32_187
  let v234 : BitVec 32 := Scalar.addi c0_i32_188 v233
  let v221 : BitVec 32 := Dev.word d0
  let c2_i32_174 : BitVec 32 := 2#32
  let v222 : BitVec 32 := Scalar.divsi v221 c2_i32_174
  let c2_i32_173 : BitVec 32 := 2#32
  let v223 : BitVec 32 := Scalar.remsi v222 c2_i32_173
  let c0_i32_179 : BitVec 32 := 0#32
  let v229 : BitVec 32 := Scalar.addi v223 c0_i32_179
  let c2_i32_180 : BitVec 32 := 2#32
  let v230 : BitVec 32 := Scalar.remsi v229 c2_i32_180
  let c2_i32_189 : BitVec 32 := 2#32
  let v235 : BitVec 32 := Scalar.muli v230 c2_i32_189
  let v236 : BitVec 32 := Scalar.addi v234 v235
  let v224 : BitVec 32 := Dev.word d0
  let c1_i32_176 : BitVec 32 := 1#32
  let v225 : BitVec 32 := Scalar.divsi v224 c1_i32_176
  let c2_i32_175 : BitVec 32 := 2#32
  let v226 : BitVec 32 := Scalar.remsi v225 c2_i32_175
  let c0_i32_181 : BitVec 32 := 0#32
  let v231 : BitVec 32 := Scalar.addi v226 c0_i32_181
  let c2_i32_182 : BitVec 32 := 2#32
  let v232 : BitVec 32 := Scalar.remsi v231 c2_i32_182
  let c1_i32_190 : BitVec 32 := 1#32
  let v237 : BitVec 32 := Scalar.muli v232 c1_i32_190
  let v238 : BitVec 32 := Scalar.addi v236 v237
  v238.toNat
def k0_dev14 (d0 : Dev nD) : Nat :=
  let c0_i32_198 : BitVec 32 := 0#32
  let v218 : BitVec 32 := Dev.word d0
  let c4_i32_172 : BitVec 32 := 4#32
  let v219 : BitVec 32 := Scalar.divsi v218 c4_i32_172
  let c2_i32_171 : BitVec 32 := 2#32
  let v220 : BitVec 32 := Scalar.remsi v219 c2_i32_171
  let c1_i32_177 : BitVec 32 := 1#32
  let v227 : BitVec 32 := Scalar.addi v220 c1_i32_177
  let c2_i32_178 : BitVec 32 := 2#32
  let v228 : BitVec 32 := Scalar.remsi v227 c2_i32_178
  let c4_i32_197 : BitVec 32 := 4#32
  let v245 : BitVec 32 := Scalar.muli v228 c4_i32_197
  let v246 : BitVec 32 := Scalar.addi c0_i32_198 v245
  let v221 : BitVec 32 := Dev.word d0
  let c2_i32_174 : BitVec 32 := 2#32
  let v222 : BitVec 32 := Scalar.divsi v221 c2_i32_174
  let c2_i32_173 : BitVec 32 := 2#32
  let v223 : BitVec 32 := Scalar.remsi v222 c2_i32_173
  let c0_i32_179 : BitVec 32 := 0#32
  let v229 : BitVec 32 := Scalar.addi v223 c0_i32_179
  let c2_i32_180 : BitVec 32 := 2#32
  let v230 : BitVec 32 := Scalar.remsi v229 c2_i32_180
  let c2_i32_199 : BitVec 32 := 2#32
  let v247 : BitVec 32 := Scalar.muli v230 c2_i32_199
  let v248 : BitVec 32 := Scalar.addi v246 v247
  let v224 : BitVec 32 := Dev.word d0
  let c1_i32_176 : BitVec 32 := 1#32
  let v225 : BitVec 32 := Scalar.divsi v224 c1_i32_176
  let c2_i32_175 : BitVec 32 := 2#32
  let v226 : BitVec 32 := Scalar.remsi v225 c2_i32_175
  let c0_i32_181 : BitVec 32 := 0#32
  let v231 : BitVec 32 := Scalar.addi v226 c0_i32_181
  let c2_i32_182 : BitVec 32 := 2#32
  let v232 : BitVec 32 := Scalar.remsi v231 c2_i32_182
  let c1_i32_200 : BitVec 32 := 1#32
  let v249 : BitVec 32 := Scalar.muli v232 c1_i32_200
  let v250 : BitVec 32 := Scalar.addi v248 v249
  v250.toNat
def k0_dev15 (d0 : Dev nD) : Nat :=
  let c0_i32_208 : BitVec 32 := 0#32
  let v218 : BitVec 32 := Dev.word d0
  let c4_i32_172 : BitVec 32 := 4#32
  let v219 : BitVec 32 := Scalar.divsi v218 c4_i32_172
  let c2_i32_171 : BitVec 32 := 2#32
  let v220 : BitVec 32 := Scalar.remsi v219 c2_i32_171
  let c1_i32_177 : BitVec 32 := 1#32
  let v227 : BitVec 32 := Scalar.addi v220 c1_i32_177
  let c2_i32_178 : BitVec 32 := 2#32
  let v228 : BitVec 32 := Scalar.remsi v227 c2_i32_178
  let c4_i32_207 : BitVec 32 := 4#32
  let v257 : BitVec 32 := Scalar.muli v228 c4_i32_207
  let v258 : BitVec 32 := Scalar.addi c0_i32_208 v257
  let v221 : BitVec 32 := Dev.word d0
  let c2_i32_174 : BitVec 32 := 2#32
  let v222 : BitVec 32 := Scalar.divsi v221 c2_i32_174
  let c2_i32_173 : BitVec 32 := 2#32
  let v223 : BitVec 32 := Scalar.remsi v222 c2_i32_173
  let c0_i32_179 : BitVec 32 := 0#32
  let v229 : BitVec 32 := Scalar.addi v223 c0_i32_179
  let c2_i32_180 : BitVec 32 := 2#32
  let v230 : BitVec 32 := Scalar.remsi v229 c2_i32_180
  let c2_i32_209 : BitVec 32 := 2#32
  let v259 : BitVec 32 := Scalar.muli v230 c2_i32_209
  let v260 : BitVec 32 := Scalar.addi v258 v259
  let v224 : BitVec 32 := Dev.word d0
  let c1_i32_176 : BitVec 32 := 1#32
  let v225 : BitVec 32 := Scalar.divsi v224 c1_i32_176
  let c2_i32_175 : BitVec 32 := 2#32
  let v226 : BitVec 32 := Scalar.remsi v225 c2_i32_175
  let c0_i32_181 : BitVec 32 := 0#32
  let v231 : BitVec 32 := Scalar.addi v226 c0_i32_181
  let c2_i32_182 : BitVec 32 := 2#32
  let v232 : BitVec 32 := Scalar.remsi v231 c2_i32_182
  let c1_i32_210 : BitVec 32 := 1#32
  let v261 : BitVec 32 := Scalar.muli v232 c1_i32_210
  let v262 : BitVec 32 := Scalar.addi v260 v261
  v262.toNat
def k0_dev16 (d0 : Dev nD) : Nat :=
  let c0_i32_218 : BitVec 32 := 0#32
  let v218 : BitVec 32 := Dev.word d0
  let c4_i32_172 : BitVec 32 := 4#32
  let v219 : BitVec 32 := Scalar.divsi v218 c4_i32_172
  let c2_i32_171 : BitVec 32 := 2#32
  let v220 : BitVec 32 := Scalar.remsi v219 c2_i32_171
  let c1_i32_177 : BitVec 32 := 1#32
  let v227 : BitVec 32 := Scalar.addi v220 c1_i32_177
  let c2_i32_178 : BitVec 32 := 2#32
  let v228 : BitVec 32 := Scalar.remsi v227 c2_i32_178
  let c4_i32_217 : BitVec 32 := 4#32
  let v269 : BitVec 32 := Scalar.muli v228 c4_i32_217
  let v270 : BitVec 32 := Scalar.addi c0_i32_218 v269
  let v221 : BitVec 32 := Dev.word d0
  let c2_i32_174 : BitVec 32 := 2#32
  let v222 : BitVec 32 := Scalar.divsi v221 c2_i32_174
  let c2_i32_173 : BitVec 32 := 2#32
  let v223 : BitVec 32 := Scalar.remsi v222 c2_i32_173
  let c0_i32_179 : BitVec 32 := 0#32
  let v229 : BitVec 32 := Scalar.addi v223 c0_i32_179
  let c2_i32_180 : BitVec 32 := 2#32
  let v230 : BitVec 32 := Scalar.remsi v229 c2_i32_180
  let c2_i32_219 : BitVec 32 := 2#32
  let v271 : BitVec 32 := Scalar.muli v230 c2_i32_219
  let v272 : BitVec 32 := Scalar.addi v270 v271
  let v224 : BitVec 32 := Dev.word d0
  let c1_i32_176 : BitVec 32 := 1#32
  let v225 : BitVec 32 := Scalar.divsi v224 c1_i32_176
  let c2_i32_175 : BitVec 32 := 2#32
  let v226 : BitVec 32 := Scalar.remsi v225 c2_i32_175
  let c0_i32_181 : BitVec 32 := 0#32
  let v231 : BitVec 32 := Scalar.addi v226 c0_i32_181
  let c2_i32_182 : BitVec 32 := 2#32
  let v232 : BitVec 32 := Scalar.remsi v231 c2_i32_182
  let c1_i32_220 : BitVec 32 := 1#32
  let v273 : BitVec 32 := Scalar.muli v232 c1_i32_220
  let v274 : BitVec 32 := Scalar.addi v272 v273
  v274.toNat
def k0_dev17 (d0 : Dev nD) : Nat :=
  let c0_i32_240 : BitVec 32 := 0#32
  let v281 : BitVec 32 := Dev.word d0
  let c4_i32_224 : BitVec 32 := 4#32
  let v282 : BitVec 32 := Scalar.divsi v281 c4_i32_224
  let c2_i32_223 : BitVec 32 := 2#32
  let v283 : BitVec 32 := Scalar.remsi v282 c2_i32_223
  let c1_i32_229 : BitVec 32 := 1#32
  let v290 : BitVec 32 := Scalar.addi v283 c1_i32_229
  let c2_i32_230 : BitVec 32 := 2#32
  let v291 : BitVec 32 := Scalar.remsi v290 c2_i32_230
  let c4_i32_239 : BitVec 32 := 4#32
  let v296 : BitVec 32 := Scalar.muli v291 c4_i32_239
  let v297 : BitVec 32 := Scalar.addi c0_i32_240 v296
  let v284 : BitVec 32 := Dev.word d0
  let c2_i32_226 : BitVec 32 := 2#32
  let v285 : BitVec 32 := Scalar.divsi v284 c2_i32_226
  let c2_i32_225 : BitVec 32 := 2#32
  let v286 : BitVec 32 := Scalar.remsi v285 c2_i32_225
  let c0_i32_231 : BitVec 32 := 0#32
  let v292 : BitVec 32 := Scalar.addi v286 c0_i32_231
  let c2_i32_232 : BitVec 32 := 2#32
  let v293 : BitVec 32 := Scalar.remsi v292 c2_i32_232
  let c2_i32_241 : BitVec 32 := 2#32
  let v298 : BitVec 32 := Scalar.muli v293 c2_i32_241
  let v299 : BitVec 32 := Scalar.addi v297 v298
  let v287 : BitVec 32 := Dev.word d0
  let c1_i32_228 : BitVec 32 := 1#32
  let v288 : BitVec 32 := Scalar.divsi v287 c1_i32_228
  let c2_i32_227 : BitVec 32 := 2#32
  let v289 : BitVec 32 := Scalar.remsi v288 c2_i32_227
  let c1_i32_233 : BitVec 32 := 1#32
  let v294 : BitVec 32 := Scalar.addi v289 c1_i32_233
  let c2_i32_234 : BitVec 32 := 2#32
  let v295 : BitVec 32 := Scalar.remsi v294 c2_i32_234
  let c1_i32_242 : BitVec 32 := 1#32
  let v300 : BitVec 32 := Scalar.muli v295 c1_i32_242
  let v301 : BitVec 32 := Scalar.addi v299 v300
  v301.toNat
def k0_dev18 (d0 : Dev nD) : Nat :=
  let c0_i32_250 : BitVec 32 := 0#32
  let v281 : BitVec 32 := Dev.word d0
  let c4_i32_224 : BitVec 32 := 4#32
  let v282 : BitVec 32 := Scalar.divsi v281 c4_i32_224
  let c2_i32_223 : BitVec 32 := 2#32
  let v283 : BitVec 32 := Scalar.remsi v282 c2_i32_223
  let c1_i32_229 : BitVec 32 := 1#32
  let v290 : BitVec 32 := Scalar.addi v283 c1_i32_229
  let c2_i32_230 : BitVec 32 := 2#32
  let v291 : BitVec 32 := Scalar.remsi v290 c2_i32_230
  let c4_i32_249 : BitVec 32 := 4#32
  let v308 : BitVec 32 := Scalar.muli v291 c4_i32_249
  let v309 : BitVec 32 := Scalar.addi c0_i32_250 v308
  let v284 : BitVec 32 := Dev.word d0
  let c2_i32_226 : BitVec 32 := 2#32
  let v285 : BitVec 32 := Scalar.divsi v284 c2_i32_226
  let c2_i32_225 : BitVec 32 := 2#32
  let v286 : BitVec 32 := Scalar.remsi v285 c2_i32_225
  let c0_i32_231 : BitVec 32 := 0#32
  let v292 : BitVec 32 := Scalar.addi v286 c0_i32_231
  let c2_i32_232 : BitVec 32 := 2#32
  let v293 : BitVec 32 := Scalar.remsi v292 c2_i32_232
  let c2_i32_251 : BitVec 32 := 2#32
  let v310 : BitVec 32 := Scalar.muli v293 c2_i32_251
  let v311 : BitVec 32 := Scalar.addi v309 v310
  let v287 : BitVec 32 := Dev.word d0
  let c1_i32_228 : BitVec 32 := 1#32
  let v288 : BitVec 32 := Scalar.divsi v287 c1_i32_228
  let c2_i32_227 : BitVec 32 := 2#32
  let v289 : BitVec 32 := Scalar.remsi v288 c2_i32_227
  let c1_i32_233 : BitVec 32 := 1#32
  let v294 : BitVec 32 := Scalar.addi v289 c1_i32_233
  let c2_i32_234 : BitVec 32 := 2#32
  let v295 : BitVec 32 := Scalar.remsi v294 c2_i32_234
  let c1_i32_252 : BitVec 32 := 1#32
  let v312 : BitVec 32 := Scalar.muli v295 c1_i32_252
  let v313 : BitVec 32 := Scalar.addi v311 v312
  v313.toNat
def k0_dev19 (d0 : Dev nD) : Nat :=
  let c0_i32_260 : BitVec 32 := 0#32
  let v281 : BitVec 32 := Dev.word d0
  let c4_i32_224 : BitVec 32 := 4#32
  let v282 : BitVec 32 := Scalar.divsi v281 c4_i32_224
  let c2_i32_223 : BitVec 32 := 2#32
  let v283 : BitVec 32 := Scalar.remsi v282 c2_i32_223
  let c1_i32_229 : BitVec 32 := 1#32
  let v290 : BitVec 32 := Scalar.addi v283 c1_i32_229
  let c2_i32_230 : BitVec 32 := 2#32
  let v291 : BitVec 32 := Scalar.remsi v290 c2_i32_230
  let c4_i32_259 : BitVec 32 := 4#32
  let v320 : BitVec 32 := Scalar.muli v291 c4_i32_259
  let v321 : BitVec 32 := Scalar.addi c0_i32_260 v320
  let v284 : BitVec 32 := Dev.word d0
  let c2_i32_226 : BitVec 32 := 2#32
  let v285 : BitVec 32 := Scalar.divsi v284 c2_i32_226
  let c2_i32_225 : BitVec 32 := 2#32
  let v286 : BitVec 32 := Scalar.remsi v285 c2_i32_225
  let c0_i32_231 : BitVec 32 := 0#32
  let v292 : BitVec 32 := Scalar.addi v286 c0_i32_231
  let c2_i32_232 : BitVec 32 := 2#32
  let v293 : BitVec 32 := Scalar.remsi v292 c2_i32_232
  let c2_i32_261 : BitVec 32 := 2#32
  let v322 : BitVec 32 := Scalar.muli v293 c2_i32_261
  let v323 : BitVec 32 := Scalar.addi v321 v322
  let v287 : BitVec 32 := Dev.word d0
  let c1_i32_228 : BitVec 32 := 1#32
  let v288 : BitVec 32 := Scalar.divsi v287 c1_i32_228
  let c2_i32_227 : BitVec 32 := 2#32
  let v289 : BitVec 32 := Scalar.remsi v288 c2_i32_227
  let c1_i32_233 : BitVec 32 := 1#32
  let v294 : BitVec 32 := Scalar.addi v289 c1_i32_233
  let c2_i32_234 : BitVec 32 := 2#32
  let v295 : BitVec 32 := Scalar.remsi v294 c2_i32_234
  let c1_i32_262 : BitVec 32 := 1#32
  let v324 : BitVec 32 := Scalar.muli v295 c1_i32_262
  let v325 : BitVec 32 := Scalar.addi v323 v324
  v325.toNat
def k0_dev20 (d0 : Dev nD) : Nat :=
  let c0_i32_270 : BitVec 32 := 0#32
  let v281 : BitVec 32 := Dev.word d0
  let c4_i32_224 : BitVec 32 := 4#32
  let v282 : BitVec 32 := Scalar.divsi v281 c4_i32_224
  let c2_i32_223 : BitVec 32 := 2#32
  let v283 : BitVec 32 := Scalar.remsi v282 c2_i32_223
  let c1_i32_229 : BitVec 32 := 1#32
  let v290 : BitVec 32 := Scalar.addi v283 c1_i32_229
  let c2_i32_230 : BitVec 32 := 2#32
  let v291 : BitVec 32 := Scalar.remsi v290 c2_i32_230
  let c4_i32_269 : BitVec 32 := 4#32
  let v332 : BitVec 32 := Scalar.muli v291 c4_i32_269
  let v333 : BitVec 32 := Scalar.addi c0_i32_270 v332
  let v284 : BitVec 32 := Dev.word d0
  let c2_i32_226 : BitVec 32 := 2#32
  let v285 : BitVec 32 := Scalar.divsi v284 c2_i32_226
  let c2_i32_225 : BitVec 32 := 2#32
  let v286 : BitVec 32 := Scalar.remsi v285 c2_i32_225
  let c0_i32_231 : BitVec 32 := 0#32
  let v292 : BitVec 32 := Scalar.addi v286 c0_i32_231
  let c2_i32_232 : BitVec 32 := 2#32
  let v293 : BitVec 32 := Scalar.remsi v292 c2_i32_232
  let c2_i32_271 : BitVec 32 := 2#32
  let v334 : BitVec 32 := Scalar.muli v293 c2_i32_271
  let v335 : BitVec 32 := Scalar.addi v333 v334
  let v287 : BitVec 32 := Dev.word d0
  let c1_i32_228 : BitVec 32 := 1#32
  let v288 : BitVec 32 := Scalar.divsi v287 c1_i32_228
  let c2_i32_227 : BitVec 32 := 2#32
  let v289 : BitVec 32 := Scalar.remsi v288 c2_i32_227
  let c1_i32_233 : BitVec 32 := 1#32
  let v294 : BitVec 32 := Scalar.addi v289 c1_i32_233
  let c2_i32_234 : BitVec 32 := 2#32
  let v295 : BitVec 32 := Scalar.remsi v294 c2_i32_234
  let c1_i32_272 : BitVec 32 := 1#32
  let v336 : BitVec 32 := Scalar.muli v295 c1_i32_272
  let v337 : BitVec 32 := Scalar.addi v335 v336
  v337.toNat
def k0_dev21 (d0 : Dev nD) : Nat :=
  let c0_i32_291 : BitVec 32 := 0#32
  let v344 : BitVec 32 := Dev.word d0
  let c4_i32_276 : BitVec 32 := 4#32
  let v345 : BitVec 32 := Scalar.divsi v344 c4_i32_276
  let c2_i32_275 : BitVec 32 := 2#32
  let v346 : BitVec 32 := Scalar.remsi v345 c2_i32_275
  let c1_i32_281 : BitVec 32 := 1#32
  let v353 : BitVec 32 := Scalar.addi v346 c1_i32_281
  let c2_i32_282 : BitVec 32 := 2#32
  let v354 : BitVec 32 := Scalar.remsi v353 c2_i32_282
  let c4_i32_290 : BitVec 32 := 4#32
  let v359 : BitVec 32 := Scalar.muli v354 c4_i32_290
  let v360 : BitVec 32 := Scalar.addi c0_i32_291 v359
  let v347 : BitVec 32 := Dev.word d0
  let c2_i32_278 : BitVec 32 := 2#32
  let v348 : BitVec 32 := Scalar.divsi v347 c2_i32_278
  let c2_i32_277 : BitVec 32 := 2#32
  let v349 : BitVec 32 := Scalar.remsi v348 c2_i32_277
  let c1_i32_283 : BitVec 32 := 1#32
  let v355 : BitVec 32 := Scalar.addi v349 c1_i32_283
  let c2_i32_284 : BitVec 32 := 2#32
  let v356 : BitVec 32 := Scalar.remsi v355 c2_i32_284
  let c2_i32_292 : BitVec 32 := 2#32
  let v361 : BitVec 32 := Scalar.muli v356 c2_i32_292
  let v362 : BitVec 32 := Scalar.addi v360 v361
  let v350 : BitVec 32 := Dev.word d0
  let c1_i32_280 : BitVec 32 := 1#32
  let v351 : BitVec 32 := Scalar.divsi v350 c1_i32_280
  let c2_i32_279 : BitVec 32 := 2#32
  let v352 : BitVec 32 := Scalar.remsi v351 c2_i32_279
  let c0_i32_285 : BitVec 32 := 0#32
  let v357 : BitVec 32 := Scalar.addi v352 c0_i32_285
  let c2_i32_286 : BitVec 32 := 2#32
  let v358 : BitVec 32 := Scalar.remsi v357 c2_i32_286
  let c1_i32_293 : BitVec 32 := 1#32
  let v363 : BitVec 32 := Scalar.muli v358 c1_i32_293
  let v364 : BitVec 32 := Scalar.addi v362 v363
  v364.toNat
def k0_dev22 (d0 : Dev nD) : Nat :=
  let c0_i32_301 : BitVec 32 := 0#32
  let v344 : BitVec 32 := Dev.word d0
  let c4_i32_276 : BitVec 32 := 4#32
  let v345 : BitVec 32 := Scalar.divsi v344 c4_i32_276
  let c2_i32_275 : BitVec 32 := 2#32
  let v346 : BitVec 32 := Scalar.remsi v345 c2_i32_275
  let c1_i32_281 : BitVec 32 := 1#32
  let v353 : BitVec 32 := Scalar.addi v346 c1_i32_281
  let c2_i32_282 : BitVec 32 := 2#32
  let v354 : BitVec 32 := Scalar.remsi v353 c2_i32_282
  let c4_i32_300 : BitVec 32 := 4#32
  let v371 : BitVec 32 := Scalar.muli v354 c4_i32_300
  let v372 : BitVec 32 := Scalar.addi c0_i32_301 v371
  let v347 : BitVec 32 := Dev.word d0
  let c2_i32_278 : BitVec 32 := 2#32
  let v348 : BitVec 32 := Scalar.divsi v347 c2_i32_278
  let c2_i32_277 : BitVec 32 := 2#32
  let v349 : BitVec 32 := Scalar.remsi v348 c2_i32_277
  let c1_i32_283 : BitVec 32 := 1#32
  let v355 : BitVec 32 := Scalar.addi v349 c1_i32_283
  let c2_i32_284 : BitVec 32 := 2#32
  let v356 : BitVec 32 := Scalar.remsi v355 c2_i32_284
  let c2_i32_302 : BitVec 32 := 2#32
  let v373 : BitVec 32 := Scalar.muli v356 c2_i32_302
  let v374 : BitVec 32 := Scalar.addi v372 v373
  let v350 : BitVec 32 := Dev.word d0
  let c1_i32_280 : BitVec 32 := 1#32
  let v351 : BitVec 32 := Scalar.divsi v350 c1_i32_280
  let c2_i32_279 : BitVec 32 := 2#32
  let v352 : BitVec 32 := Scalar.remsi v351 c2_i32_279
  let c0_i32_285 : BitVec 32 := 0#32
  let v357 : BitVec 32 := Scalar.addi v352 c0_i32_285
  let c2_i32_286 : BitVec 32 := 2#32
  let v358 : BitVec 32 := Scalar.remsi v357 c2_i32_286
  let c1_i32_303 : BitVec 32 := 1#32
  let v375 : BitVec 32 := Scalar.muli v358 c1_i32_303
  let v376 : BitVec 32 := Scalar.addi v374 v375
  v376.toNat
def k0_dev23 (d0 : Dev nD) : Nat :=
  let c0_i32_311 : BitVec 32 := 0#32
  let v344 : BitVec 32 := Dev.word d0
  let c4_i32_276 : BitVec 32 := 4#32
  let v345 : BitVec 32 := Scalar.divsi v344 c4_i32_276
  let c2_i32_275 : BitVec 32 := 2#32
  let v346 : BitVec 32 := Scalar.remsi v345 c2_i32_275
  let c1_i32_281 : BitVec 32 := 1#32
  let v353 : BitVec 32 := Scalar.addi v346 c1_i32_281
  let c2_i32_282 : BitVec 32 := 2#32
  let v354 : BitVec 32 := Scalar.remsi v353 c2_i32_282
  let c4_i32_310 : BitVec 32 := 4#32
  let v383 : BitVec 32 := Scalar.muli v354 c4_i32_310
  let v384 : BitVec 32 := Scalar.addi c0_i32_311 v383
  let v347 : BitVec 32 := Dev.word d0
  let c2_i32_278 : BitVec 32 := 2#32
  let v348 : BitVec 32 := Scalar.divsi v347 c2_i32_278
  let c2_i32_277 : BitVec 32 := 2#32
  let v349 : BitVec 32 := Scalar.remsi v348 c2_i32_277
  let c1_i32_283 : BitVec 32 := 1#32
  let v355 : BitVec 32 := Scalar.addi v349 c1_i32_283
  let c2_i32_284 : BitVec 32 := 2#32
  let v356 : BitVec 32 := Scalar.remsi v355 c2_i32_284
  let c2_i32_312 : BitVec 32 := 2#32
  let v385 : BitVec 32 := Scalar.muli v356 c2_i32_312
  let v386 : BitVec 32 := Scalar.addi v384 v385
  let v350 : BitVec 32 := Dev.word d0
  let c1_i32_280 : BitVec 32 := 1#32
  let v351 : BitVec 32 := Scalar.divsi v350 c1_i32_280
  let c2_i32_279 : BitVec 32 := 2#32
  let v352 : BitVec 32 := Scalar.remsi v351 c2_i32_279
  let c0_i32_285 : BitVec 32 := 0#32
  let v357 : BitVec 32 := Scalar.addi v352 c0_i32_285
  let c2_i32_286 : BitVec 32 := 2#32
  let v358 : BitVec 32 := Scalar.remsi v357 c2_i32_286
  let c1_i32_313 : BitVec 32 := 1#32
  let v387 : BitVec 32 := Scalar.muli v358 c1_i32_313
  let v388 : BitVec 32 := Scalar.addi v386 v387
  v388.toNat
def k0_dev24 (d0 : Dev nD) : Nat :=
  let c0_i32_321 : BitVec 32 := 0#32
  let v344 : BitVec 32 := Dev.word d0
  let c4_i32_276 : BitVec 32 := 4#32
  let v345 : BitVec 32 := Scalar.divsi v344 c4_i32_276
  let c2_i32_275 : BitVec 32 := 2#32
  let v346 : BitVec 32 := Scalar.remsi v345 c2_i32_275
  let c1_i32_281 : BitVec 32 := 1#32
  let v353 : BitVec 32 := Scalar.addi v346 c1_i32_281
  let c2_i32_282 : BitVec 32 := 2#32
  let v354 : BitVec 32 := Scalar.remsi v353 c2_i32_282
  let c4_i32_320 : BitVec 32 := 4#32
  let v395 : BitVec 32 := Scalar.muli v354 c4_i32_320
  let v396 : BitVec 32 := Scalar.addi c0_i32_321 v395
  let v347 : BitVec 32 := Dev.word d0
  let c2_i32_278 : BitVec 32 := 2#32
  let v348 : BitVec 32 := Scalar.divsi v347 c2_i32_278
  let c2_i32_277 : BitVec 32 := 2#32
  let v349 : BitVec 32 := Scalar.remsi v348 c2_i32_277
  let c1_i32_283 : BitVec 32 := 1#32
  let v355 : BitVec 32 := Scalar.addi v349 c1_i32_283
  let c2_i32_284 : BitVec 32 := 2#32
  let v356 : BitVec 32 := Scalar.remsi v355 c2_i32_284
  let c2_i32_322 : BitVec 32 := 2#32
  let v397 : BitVec 32 := Scalar.muli v356 c2_i32_322
  let v398 : BitVec 32 := Scalar.addi v396 v397
  let v350 : BitVec 32 := Dev.word d0
  let c1_i32_280 : BitVec 32 := 1#32
  let v351 : BitVec 32 := Scalar.divsi v350 c1_i32_280
  let c2_i32_279 : BitVec 32 := 2#32
  let v352 : BitVec 32 := Scalar.remsi v351 c2_i32_279
  let c0_i32_285 : BitVec 32 := 0#32
  let v357 : BitVec 32 := Scalar.addi v352 c0_i32_285
  let c2_i32_286 : BitVec 32 := 2#32
  let v358 : BitVec 32 := Scalar.remsi v357 c2_i32_286
  let c1_i32_323 : BitVec 32 := 1#32
  let v399 : BitVec 32 := Scalar.muli v358 c1_i32_323
  let v400 : BitVec 32 := Scalar.addi v398 v399
  v400.toNat
def k0_dev25 (d0 : Dev nD) : Nat :=
  let c0_i32_342 : BitVec 32 := 0#32
  let v407 : BitVec 32 := Dev.word d0
  let c4_i32_327 : BitVec 32 := 4#32
  let v408 : BitVec 32 := Scalar.divsi v407 c4_i32_327
  let c2_i32_326 : BitVec 32 := 2#32
  let v409 : BitVec 32 := Scalar.remsi v408 c2_i32_326
  let c1_i32_332 : BitVec 32 := 1#32
  let v416 : BitVec 32 := Scalar.addi v409 c1_i32_332
  let c2_i32_333 : BitVec 32 := 2#32
  let v417 : BitVec 32 := Scalar.remsi v416 c2_i32_333
  let c4_i32_341 : BitVec 32 := 4#32
  let v422 : BitVec 32 := Scalar.muli v417 c4_i32_341
  let v423 : BitVec 32 := Scalar.addi c0_i32_342 v422
  let v410 : BitVec 32 := Dev.word d0
  let c2_i32_329 : BitVec 32 := 2#32
  let v411 : BitVec 32 := Scalar.divsi v410 c2_i32_329
  let c2_i32_328 : BitVec 32 := 2#32
  let v412 : BitVec 32 := Scalar.remsi v411 c2_i32_328
  let c1_i32_334 : BitVec 32 := 1#32
  let v418 : BitVec 32 := Scalar.addi v412 c1_i32_334
  let c2_i32_335 : BitVec 32 := 2#32
  let v419 : BitVec 32 := Scalar.remsi v418 c2_i32_335
  let c2_i32_343 : BitVec 32 := 2#32
  let v424 : BitVec 32 := Scalar.muli v419 c2_i32_343
  let v425 : BitVec 32 := Scalar.addi v423 v424
  let v413 : BitVec 32 := Dev.word d0
  let c1_i32_331 : BitVec 32 := 1#32
  let v414 : BitVec 32 := Scalar.divsi v413 c1_i32_331
  let c2_i32_330 : BitVec 32 := 2#32
  let v415 : BitVec 32 := Scalar.remsi v414 c2_i32_330
  let c1_i32_336 : BitVec 32 := 1#32
  let v420 : BitVec 32 := Scalar.addi v415 c1_i32_336
  let c2_i32_337 : BitVec 32 := 2#32
  let v421 : BitVec 32 := Scalar.remsi v420 c2_i32_337
  let c1_i32_344 : BitVec 32 := 1#32
  let v426 : BitVec 32 := Scalar.muli v421 c1_i32_344
  let v427 : BitVec 32 := Scalar.addi v425 v426
  v427.toNat
def k0_dev26 (d0 : Dev nD) : Nat :=
  let c0_i32_352 : BitVec 32 := 0#32
  let v407 : BitVec 32 := Dev.word d0
  let c4_i32_327 : BitVec 32 := 4#32
  let v408 : BitVec 32 := Scalar.divsi v407 c4_i32_327
  let c2_i32_326 : BitVec 32 := 2#32
  let v409 : BitVec 32 := Scalar.remsi v408 c2_i32_326
  let c1_i32_332 : BitVec 32 := 1#32
  let v416 : BitVec 32 := Scalar.addi v409 c1_i32_332
  let c2_i32_333 : BitVec 32 := 2#32
  let v417 : BitVec 32 := Scalar.remsi v416 c2_i32_333
  let c4_i32_351 : BitVec 32 := 4#32
  let v434 : BitVec 32 := Scalar.muli v417 c4_i32_351
  let v435 : BitVec 32 := Scalar.addi c0_i32_352 v434
  let v410 : BitVec 32 := Dev.word d0
  let c2_i32_329 : BitVec 32 := 2#32
  let v411 : BitVec 32 := Scalar.divsi v410 c2_i32_329
  let c2_i32_328 : BitVec 32 := 2#32
  let v412 : BitVec 32 := Scalar.remsi v411 c2_i32_328
  let c1_i32_334 : BitVec 32 := 1#32
  let v418 : BitVec 32 := Scalar.addi v412 c1_i32_334
  let c2_i32_335 : BitVec 32 := 2#32
  let v419 : BitVec 32 := Scalar.remsi v418 c2_i32_335
  let c2_i32_353 : BitVec 32 := 2#32
  let v436 : BitVec 32 := Scalar.muli v419 c2_i32_353
  let v437 : BitVec 32 := Scalar.addi v435 v436
  let v413 : BitVec 32 := Dev.word d0
  let c1_i32_331 : BitVec 32 := 1#32
  let v414 : BitVec 32 := Scalar.divsi v413 c1_i32_331
  let c2_i32_330 : BitVec 32 := 2#32
  let v415 : BitVec 32 := Scalar.remsi v414 c2_i32_330
  let c1_i32_336 : BitVec 32 := 1#32
  let v420 : BitVec 32 := Scalar.addi v415 c1_i32_336
  let c2_i32_337 : BitVec 32 := 2#32
  let v421 : BitVec 32 := Scalar.remsi v420 c2_i32_337
  let c1_i32_354 : BitVec 32 := 1#32
  let v438 : BitVec 32 := Scalar.muli v421 c1_i32_354
  let v439 : BitVec 32 := Scalar.addi v437 v438
  v439.toNat
def k0_dev27 (d0 : Dev nD) : Nat :=
  let c0_i32_362 : BitVec 32 := 0#32
  let v407 : BitVec 32 := Dev.word d0
  let c4_i32_327 : BitVec 32 := 4#32
  let v408 : BitVec 32 := Scalar.divsi v407 c4_i32_327
  let c2_i32_326 : BitVec 32 := 2#32
  let v409 : BitVec 32 := Scalar.remsi v408 c2_i32_326
  let c1_i32_332 : BitVec 32 := 1#32
  let v416 : BitVec 32 := Scalar.addi v409 c1_i32_332
  let c2_i32_333 : BitVec 32 := 2#32
  let v417 : BitVec 32 := Scalar.remsi v416 c2_i32_333
  let c4_i32_361 : BitVec 32 := 4#32
  let v446 : BitVec 32 := Scalar.muli v417 c4_i32_361
  let v447 : BitVec 32 := Scalar.addi c0_i32_362 v446
  let v410 : BitVec 32 := Dev.word d0
  let c2_i32_329 : BitVec 32 := 2#32
  let v411 : BitVec 32 := Scalar.divsi v410 c2_i32_329
  let c2_i32_328 : BitVec 32 := 2#32
  let v412 : BitVec 32 := Scalar.remsi v411 c2_i32_328
  let c1_i32_334 : BitVec 32 := 1#32
  let v418 : BitVec 32 := Scalar.addi v412 c1_i32_334
  let c2_i32_335 : BitVec 32 := 2#32
  let v419 : BitVec 32 := Scalar.remsi v418 c2_i32_335
  let c2_i32_363 : BitVec 32 := 2#32
  let v448 : BitVec 32 := Scalar.muli v419 c2_i32_363
  let v449 : BitVec 32 := Scalar.addi v447 v448
  let v413 : BitVec 32 := Dev.word d0
  let c1_i32_331 : BitVec 32 := 1#32
  let v414 : BitVec 32 := Scalar.divsi v413 c1_i32_331
  let c2_i32_330 : BitVec 32 := 2#32
  let v415 : BitVec 32 := Scalar.remsi v414 c2_i32_330
  let c1_i32_336 : BitVec 32 := 1#32
  let v420 : BitVec 32 := Scalar.addi v415 c1_i32_336
  let c2_i32_337 : BitVec 32 := 2#32
  let v421 : BitVec 32 := Scalar.remsi v420 c2_i32_337
  let c1_i32_364 : BitVec 32 := 1#32
  let v450 : BitVec 32 := Scalar.muli v421 c1_i32_364
  let v451 : BitVec 32 := Scalar.addi v449 v450
  v451.toNat
def k0_dev28 (d0 : Dev nD) : Nat :=
  let c0_i32_372 : BitVec 32 := 0#32
  let v407 : BitVec 32 := Dev.word d0
  let c4_i32_327 : BitVec 32 := 4#32
  let v408 : BitVec 32 := Scalar.divsi v407 c4_i32_327
  let c2_i32_326 : BitVec 32 := 2#32
  let v409 : BitVec 32 := Scalar.remsi v408 c2_i32_326
  let c1_i32_332 : BitVec 32 := 1#32
  let v416 : BitVec 32 := Scalar.addi v409 c1_i32_332
  let c2_i32_333 : BitVec 32 := 2#32
  let v417 : BitVec 32 := Scalar.remsi v416 c2_i32_333
  let c4_i32_371 : BitVec 32 := 4#32
  let v458 : BitVec 32 := Scalar.muli v417 c4_i32_371
  let v459 : BitVec 32 := Scalar.addi c0_i32_372 v458
  let v410 : BitVec 32 := Dev.word d0
  let c2_i32_329 : BitVec 32 := 2#32
  let v411 : BitVec 32 := Scalar.divsi v410 c2_i32_329
  let c2_i32_328 : BitVec 32 := 2#32
  let v412 : BitVec 32 := Scalar.remsi v411 c2_i32_328
  let c1_i32_334 : BitVec 32 := 1#32
  let v418 : BitVec 32 := Scalar.addi v412 c1_i32_334
  let c2_i32_335 : BitVec 32 := 2#32
  let v419 : BitVec 32 := Scalar.remsi v418 c2_i32_335
  let c2_i32_373 : BitVec 32 := 2#32
  let v460 : BitVec 32 := Scalar.muli v419 c2_i32_373
  let v461 : BitVec 32 := Scalar.addi v459 v460
  let v413 : BitVec 32 := Dev.word d0
  let c1_i32_331 : BitVec 32 := 1#32
  let v414 : BitVec 32 := Scalar.divsi v413 c1_i32_331
  let c2_i32_330 : BitVec 32 := 2#32
  let v415 : BitVec 32 := Scalar.remsi v414 c2_i32_330
  let c1_i32_336 : BitVec 32 := 1#32
  let v420 : BitVec 32 := Scalar.addi v415 c1_i32_336
  let c2_i32_337 : BitVec 32 := 2#32
  let v421 : BitVec 32 := Scalar.remsi v420 c2_i32_337
  let c1_i32_374 : BitVec 32 := 1#32
  let v462 : BitVec 32 := Scalar.muli v421 c1_i32_374
  let v463 : BitVec 32 := Scalar.addi v461 v462
  v463.toNat
-- ==== GatherRef.lean ====
abbrev S8192x1408 : Shape := ⟨2, ![8192, 1408]⟩
abbrev S2048x1024 : Shape := ⟨2, ![2048, 1024]⟩
abbrev S1024x1024 : Shape := ⟨2, ![1024, 1024]⟩
abbrev S8x1024x1408 : Shape := ⟨3, ![8, 1024, 1408]⟩
abbrev S8x256x1024 : Shape := ⟨3, ![8, 256, 1024]⟩
abbrev S8x128x1024 : Shape := ⟨3, ![8, 128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1408, .bf16⟩
  | .hbm, ⟨1, _⟩ => ⟨S2048x1024, .bf16⟩
  | .hbm, ⟨2, _⟩ => ⟨S1024x1024, .bf16⟩
  | .hbm, ⟨3, _⟩ => ⟨S1024x1024, .bf16⟩
  | .hbm, ⟨4, _⟩ => ⟨S8x1024x1408, .bf16⟩
  | .hbm, ⟨5, _⟩ => ⟨S8x256x1024, .bf16⟩
  | .hbm, ⟨6, _⟩ => ⟨S8x128x1024, .bf16⟩
  | .hbm, ⟨7, _⟩ => ⟨S8x128x1024, .bf16⟩
  | _, _ => ⟨S8192x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Update.lean ====
abbrev S8x1024x1408 : Shape := ⟨3, ![8, 1024, 1408]⟩
abbrev S8x256x1024 : Shape := ⟨3, ![8, 256, 1024]⟩
abbrev S8x128x1024 : Shape := ⟨3, ![8, 128, 1024]⟩
abbrev S1024x1408 : Shape := ⟨2, ![1024, 1408]⟩
abbrev S256x1024 : Shape := ⟨2, ![256, 1024]⟩
abbrev S128x1024 : Shape := ⟨2, ![128, 1024]⟩
abbrev S4x7 : Shape := ⟨2, ![4, 7]⟩
abbrev S4 : Shape := ⟨1, ![4]⟩
abbrev S1 : Shape := ⟨1, ![1]⟩
abbrev S_ : Shape := ⟨0, ![]⟩
abbrev S1x1024x1408 : Shape := ⟨3, ![1, 1024, 1408]⟩
abbrev S1x256x1024 : Shape := ⟨3, ![1, 256, 1024]⟩
abbrev S1x128x1024 : Shape := ⟨3, ![1, 128, 1024]⟩
abbrev S1x1 : Shape := ⟨2, ![1, 1]⟩
abbrev S8x128x1408 : Shape := ⟨3, ![8, 128, 1408]⟩
abbrev S128x1408 : Shape := ⟨2, ![128, 1408]⟩
abbrev S1x128x1408 : Shape := ⟨3, ![1, 128, 1408]⟩

abbrev nBuf : Space → Nat
  | .hbm => 36
  | .vmem => 48
  | .smem => 0
  | _ => 0

abbrev bufTy : (tb : Table) → Fin (tcTables nBuf tb) → BufTy
  | .hbm, ⟨0, _⟩ => ⟨S8x1024x1408, .bf16⟩
  | .hbm, ⟨1, _⟩ => ⟨S8x256x1024, .bf16⟩
  | .hbm, ⟨2, _⟩ => ⟨S8x128x1024, .bf16⟩
  | .hbm, ⟨3, _⟩ => ⟨S8x128x1024, .bf16⟩
  | .hbm, ⟨4, _⟩ => ⟨S1024x1408, .f32⟩
  | .hbm, ⟨5, _⟩ => ⟨S256x1024, .f32⟩
  | .hbm, ⟨6, _⟩ => ⟨S128x1024, .f32⟩
  | .hbm, ⟨7, _⟩ => ⟨S128x1024, .f32⟩
  | .hbm, ⟨8, _⟩ => ⟨S1024x1408, .f32⟩
  | .hbm, ⟨9, _⟩ => ⟨S256x1024, .f32⟩
  | .hbm, ⟨10, _⟩ => ⟨S128x1024, .f32⟩
  | .hbm, ⟨11, _⟩ => ⟨S128x1024, .f32⟩
  | .hbm, ⟨12, _⟩ => ⟨S1024x1408, .f32⟩
  | .hbm, ⟨13, _⟩ => ⟨S256x1024, .f32⟩
  | .hbm, ⟨14, _⟩ => ⟨S128x1024, .f32⟩
  | .hbm, ⟨15, _⟩ => ⟨S128x1024, .f32⟩
  | .hbm, ⟨16, _⟩ => ⟨S8x1024x1408, .bf16⟩
  | .hbm, ⟨17, _⟩ => ⟨S8x256x1024, .bf16⟩
  | .hbm, ⟨18, _⟩ => ⟨S8x128x1024, .bf16⟩
  | .hbm, ⟨19, _⟩ => ⟨S8x128x1024, .bf16⟩
  | .hbm, ⟨20, _⟩ => ⟨S1024x1408, .f32⟩
  | .hbm, ⟨21, _⟩ => ⟨S1024x1408, .f32⟩
  | .hbm, ⟨22, _⟩ => ⟨S1024x1408, .f32⟩
  | .hbm, ⟨23, _⟩ => ⟨S1024x1408, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S128x1024, .f32⟩
  | .local _ .vmem, ⟨0, _⟩ => ⟨S8x128x1408, .bf16⟩
  | .local _ .vmem, ⟨1, _⟩ => ⟨S8x128x1408, .bf16⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | .local _ .vmem, ⟨16, _⟩ => ⟨S8x128x1024, .bf16⟩
  | .local _ .vmem, ⟨17, _⟩ => ⟨S8x128x1024, .bf16⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | .local _ .vmem, ⟨30, _⟩ => ⟨S128x1024, .f32⟩
  | .local _ .vmem, ⟨31, _⟩ => ⟨S128x1024, .f32⟩
  | .local _ .vmem, ⟨32, _⟩ => ⟨S8x128x1024, .bf16⟩
  | .local _ .vmem, ⟨33, _⟩ => ⟨S128x1024, .f32⟩
  | .local _ .vmem, ⟨34, _⟩ => ⟨S128x1024, .f32⟩
  | .local _ .vmem, ⟨35, _⟩ => ⟨S128x1024, .f32⟩
  | .local _ .vmem, ⟨36, _⟩ => ⟨S128x1024, .f32⟩
  | .local _ .vmem, ⟨37, _⟩ => ⟨S128x1024, .f32⟩
  | .local _ .vmem, ⟨38, _⟩ => ⟨S128x1024, .f32⟩
  | .local _ .vmem, ⟨39, _⟩ => ⟨S128x1024, .f32⟩
  | .local _ .vmem, ⟨40, _⟩ => ⟨S8x128x1024, .bf16⟩
  | .local _ .vmem, ⟨41, _⟩ => ⟨S128x1024, .f32⟩
  | .local _ .vmem, ⟨42, _⟩ => ⟨S128x1024, .f32⟩
  | .local _ .vmem, ⟨43, _⟩ => ⟨S128x1024, .f32⟩
  | .local _ .vmem, ⟨44, _⟩ => ⟨S128x1024, .f32⟩
  | .local _ .vmem, ⟨45, _⟩ => ⟨S128x1024, .f32⟩
  | .local _ .vmem, ⟨46, _⟩ => ⟨S128x1024, .f32⟩
  | .local _ .vmem, ⟨47, _⟩ => ⟨S128x1024, .f32⟩
  | _, _ => ⟨S8x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 108 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | _ => false

abbrev sig : RefSig :=
  ofTc nBuf bufTy 0 108 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v1_0 : Ref sig .tc := ⟨.hbm, 16, rfl⟩
abbrev main_v1_1 : Ref sig .tc := ⟨.hbm, 17, rfl⟩
abbrev main_v1_2 : Ref sig .tc := ⟨.hbm, 18, rfl⟩
abbrev main_v1_3 : Ref sig .tc := ⟨.hbm, 19, rfl⟩
abbrev main_v2_0 : Ref sig .tc := ⟨.hbm, 20, rfl⟩
abbrev main_v2_1 : Ref sig .tc := ⟨.hbm, 21, rfl⟩
abbrev main_v2_2 : Ref sig .tc := ⟨.hbm, 22, rfl⟩
abbrev main_v2_3 : Ref sig .tc := ⟨.hbm, 23, rfl⟩
abbrev main_v3_0 : Ref sig .tc := ⟨.hbm, 24, rfl⟩
abbrev main_v3_1 : Ref sig .tc := ⟨.hbm, 25, rfl⟩
abbrev main_v3_2 : Ref sig .tc := ⟨.hbm, 26, rfl⟩
abbrev main_v3_3 : Ref sig .tc := ⟨.hbm, 27, rfl⟩
abbrev main_v4_0 : Ref sig .tc := ⟨.hbm, 28, rfl⟩
abbrev main_v4_1 : Ref sig .tc := ⟨.hbm, 29, rfl⟩
abbrev main_v4_2 : Ref sig .tc := ⟨.hbm, 30, rfl⟩
abbrev main_v4_3 : Ref sig .tc := ⟨.hbm, 31, rfl⟩
abbrev main_v5_0 : Ref sig .tc := ⟨.hbm, 32, rfl⟩
abbrev main_v5_1 : Ref sig .tc := ⟨.hbm, 33, rfl⟩
abbrev main_v5_2 : Ref sig .tc := ⟨.hbm, 34, rfl⟩
abbrev main_v5_3 : Ref sig .tc := ⟨.hbm, 35, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg7_1 : Ref sig .tc := ⟨.vmem, 31, rfl⟩
abbrev cc3_stg0_0 : Ref sig .tc := ⟨.vmem, 32, rfl⟩
abbrev cc3_stg1_0 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg7_0 : Ref sig .tc := ⟨.vmem, 39, rfl⟩
abbrev cc4_stg0_0 : Ref sig .tc := ⟨.vmem, 40, rfl⟩
abbrev cc4_stg1_0 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg6_0 : Ref sig .tc := ⟨.vmem, 46, rfl⟩
abbrev cc4_stg7_0 : Ref sig .tc := ⟨.vmem, 47, rfl⟩
abbrev cc1_sem0_0 : DmaSem sig := 60
abbrev cc1_sem0_1 : DmaSem sig := 61
abbrev cc1_sem1_0 : DmaSem sig := 62
abbrev cc1_sem1_1 : DmaSem sig := 63
abbrev cc1_sem2_0 : DmaSem sig := 64
abbrev cc1_sem2_1 : DmaSem sig := 65
abbrev cc1_sem3_0 : DmaSem sig := 66
abbrev cc1_sem3_1 : DmaSem sig := 67
abbrev cc1_sem4_0 : DmaSem sig := 68
abbrev cc1_sem4_1 : DmaSem sig := 69
abbrev cc1_sem5_0 : DmaSem sig := 70
abbrev cc1_sem5_1 : DmaSem sig := 71
abbrev cc1_sem6_0 : DmaSem sig := 72
abbrev cc1_sem6_1 : DmaSem sig := 73
abbrev cc1_sem7_0 : DmaSem sig := 74
abbrev cc1_sem7_1 : DmaSem sig := 75
abbrev cc2_sem0_0 : DmaSem sig := 76
abbrev cc2_sem0_1 : DmaSem sig := 77
abbrev cc2_sem1_0 : DmaSem sig := 78
abbrev cc2_sem1_1 : DmaSem sig := 79
abbrev cc2_sem2_0 : DmaSem sig := 80
abbrev cc2_sem2_1 : DmaSem sig := 81
abbrev cc2_sem3_0 : DmaSem sig := 82
abbrev cc2_sem3_1 : DmaSem sig := 83
abbrev cc2_sem4_0 : DmaSem sig := 84
abbrev cc2_sem4_1 : DmaSem sig := 85
abbrev cc2_sem5_0 : DmaSem sig := 86
abbrev cc2_sem5_1 : DmaSem sig := 87
abbrev cc2_sem6_0 : DmaSem sig := 88
abbrev cc2_sem6_1 : DmaSem sig := 89
abbrev cc2_sem7_0 : DmaSem sig := 90
abbrev cc2_sem7_1 : DmaSem sig := 91
abbrev cc3_sem0_0 : DmaSem sig := 92
abbrev cc3_sem1_0 : DmaSem sig := 93
abbrev cc3_sem2_0 : DmaSem sig := 94
abbrev cc3_sem3_0 : DmaSem sig := 95
abbrev cc3_sem4_0 : DmaSem sig := 96
abbrev cc3_sem5_0 : DmaSem sig := 97
abbrev cc3_sem6_0 : DmaSem sig := 98
abbrev cc3_sem7_0 : DmaSem sig := 99
abbrev cc4_sem0_0 : DmaSem sig := 100
abbrev cc4_sem1_0 : DmaSem sig := 101
abbrev cc4_sem2_0 : DmaSem sig := 102
abbrev cc4_sem3_0 : DmaSem sig := 103
abbrev cc4_sem4_0 : DmaSem sig := 104
abbrev cc4_sem5_0 : DmaSem sig := 105
abbrev cc4_sem6_0 : DmaSem sig := 106
abbrev cc4_sem7_0 : DmaSem sig := 107

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_10 : BitVec 32 := 0#32
  let c0_i32_11 : BitVec 32 := 0#32
  ![v12.toNat, 0, 0]
def k0_off3 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_15 : BitVec 32 := 0#32
  let c0_i32_16 : BitVec 32 := 0#32
  ![v12.toNat, 0, 0]
def k0_off4 (d0 : Dev nD) (c0_i32_29 : BitVec 32) (c0_i32_31 : BitVec 32) (c1_i32_33 : BitVec 32) : Fin 3 → Nat :=
  let c4_i32_35 : BitVec 32 := 4#32
  let v37 : BitVec 32 := Dev.word d0
  let c4_i32_24 : BitVec 32 := 4#32
  let v38 : BitVec 32 := Scalar.divsi v37 c4_i32_24
  let c2_i32_23 : BitVec 32 := 2#32
  let v39 : BitVec 32 := Scalar.remsi v38 c2_i32_23
  let v46 : BitVec 32 := Scalar.addi v39 c0_i32_29
  let c2_i32_30 : BitVec 32 := 2#32
  let v47 : BitVec 32 := Scalar.remsi v46 c2_i32_30
  let v52 : BitVec 32 := Scalar.muli c4_i32_35 v47
  let c2_i32_36 : BitVec 32 := 2#32
  let v40 : BitVec 32 := Dev.word d0
  let c2_i32_26 : BitVec 32 := 2#32
  let v41 : BitVec 32 := Scalar.divsi v40 c2_i32_26
  let c2_i32_25 : BitVec 32 := 2#32
  let v42 : BitVec 32 := Scalar.remsi v41 c2_i32_25
  let v48 : BitVec 32 := Scalar.addi v42 c0_i32_31
  let c2_i32_32 : BitVec 32 := 2#32
  let v49 : BitVec 32 := Scalar.remsi v48 c2_i32_32
  let v53 : BitVec 32 := Scalar.muli c2_i32_36 v49
  let v54 : BitVec 32 := Scalar.addi v52 v53
  let v43 : BitVec 32 := Dev.word d0
  let c1_i32_28 : BitVec 32 := 1#32
  let v44 : BitVec 32 := Scalar.divsi v43 c1_i32_28
  let c2_i32_27 : BitVec 32 := 2#32
  let v45 : BitVec 32 := Scalar.remsi v44 c2_i32_27
  let v50 : BitVec 32 := Scalar.addi v45 c1_i32_33
  let c2_i32_34 : BitVec 32 := 2#32
  let v51 : BitVec 32 := Scalar.remsi v50 c2_i32_34
  let v55 : BitVec 32 := Scalar.addi v54 v51
  let c0_i32_47 : BitVec 32 := 0#32
  let c0_i32_48 : BitVec 32 := 0#32
  ![v55.toNat, 0, 0]
def k0_off4_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev1 (d0 : Dev nD) : Nat :=
  let c0_i32_42 : BitVec 32 := 0#32
  let v37 : BitVec 32 := Dev.word d0
  let c4_i32_24 : BitVec 32 := 4#32
  let v38 : BitVec 32 := Scalar.divsi v37 c4_i32_24
  let c2_i32_23 : BitVec 32 := 2#32
  let v39 : BitVec 32 := Scalar.remsi v38 c2_i32_23
  let c0_i32_29 : BitVec 32 := 0#32
  let v46 : BitVec 32 := Scalar.addi v39 c0_i32_29
  let c2_i32_30 : BitVec 32 := 2#32
  let v47 : BitVec 32 := Scalar.remsi v46 c2_i32_30
  let c4_i32_41 : BitVec 32 := 4#32
  let v56 : BitVec 32 := Scalar.muli v47 c4_i32_41
  let v57 : BitVec 32 := Scalar.addi c0_i32_42 v56
  let v40 : BitVec 32 := Dev.word d0
  let c2_i32_26 : BitVec 32 := 2#32
  let v41 : BitVec 32 := Scalar.divsi v40 c2_i32_26
  let c2_i32_25 : BitVec 32 := 2#32
  let v42 : BitVec 32 := Scalar.remsi v41 c2_i32_25
  let c0_i32_31 : BitVec 32 := 0#32
  let v48 : BitVec 32 := Scalar.addi v42 c0_i32_31
  let c2_i32_32 : BitVec 32 := 2#32
  let v49 : BitVec 32 := Scalar.remsi v48 c2_i32_32
  let c2_i32_43 : BitVec 32 := 2#32
  let v58 : BitVec 32 := Scalar.muli v49 c2_i32_43
  let v59 : BitVec 32 := Scalar.addi v57 v58
  let v43 : BitVec 32 := Dev.word d0
  let c1_i32_28 : BitVec 32 := 1#32
  let v44 : BitVec 32 := Scalar.divsi v43 c1_i32_28
  let c2_i32_27 : BitVec 32 := 2#32
  let v45 : BitVec 32 := Scalar.remsi v44 c2_i32_27
  let c1_i32_33 : BitVec 32 := 1#32
  let v50 : BitVec 32 := Scalar.addi v45 c1_i32_33
  let c2_i32_34 : BitVec 32 := 2#32
  let v51 : BitVec 32 := Scalar.remsi v50 c2_i32_34
  let c1_i32_44 : BitVec 32 := 1#32
  let v60 : BitVec 32 := Scalar.muli v51 c1_i32_44
  let v61 : BitVec 32 := Scalar.addi v59 v60
  v61.toNat
def k0_off5 (d0 : Dev nD) (c0_i32_29 : BitVec 32) (c0_i32_31 : BitVec 32) (c1_i32_33 : BitVec 32) : Fin 3 → Nat :=
  let c4_i32_35 : BitVec 32 := 4#32
  let v37 : BitVec 32 := Dev.word d0
  let c4_i32_24 : BitVec 32 := 4#32
  let v38 : BitVec 32 := Scalar.divsi v37 c4_i32_24
  let c2_i32_23 : BitVec 32 := 2#32
  let v39 : BitVec 32 := Scalar.remsi v38 c2_i32_23
  let v46 : BitVec 32 := Scalar.addi v39 c0_i32_29
  let c2_i32_30 : BitVec 32 := 2#32
  let v47 : BitVec 32 := Scalar.remsi v46 c2_i32_30
  let v52 : BitVec 32 := Scalar.muli c4_i32_35 v47
  let c2_i32_36 : BitVec 32 := 2#32
  let v40 : BitVec 32 := Dev.word d0
  let c2_i32_26 : BitVec 32 := 2#32
  let v41 : BitVec 32 := Scalar.divsi v40 c2_i32_26
  let c2_i32_25 : BitVec 32 := 2#32
  let v42 : BitVec 32 := Scalar.remsi v41 c2_i32_25
  let v48 : BitVec 32 := Scalar.addi v42 c0_i32_31
  let c2_i32_32 : BitVec 32 := 2#32
  let v49 : BitVec 32 := Scalar.remsi v48 c2_i32_32
  let v53 : BitVec 32 := Scalar.muli c2_i32_36 v49
  let v54 : BitVec 32 := Scalar.addi v52 v53
  let v43 : BitVec 32 := Dev.word d0
  let c1_i32_28 : BitVec 32 := 1#32
  let v44 : BitVec 32 := Scalar.divsi v43 c1_i32_28
  let c2_i32_27 : BitVec 32 := 2#32
  let v45 : BitVec 32 := Scalar.remsi v44 c2_i32_27
  let v50 : BitVec 32 := Scalar.addi v45 c1_i32_33
  let c2_i32_34 : BitVec 32 := 2#32
  let v51 : BitVec 32 := Scalar.remsi v50 c2_i32_34
  let v55 : BitVec 32 := Scalar.addi v54 v51
  let c0_i32_59 : BitVec 32 := 0#32
  let c0_i32_60 : BitVec 32 := 0#32
  ![v55.toNat, 0, 0]
def k0_off5_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev2 (d0 : Dev nD) : Nat :=
  let c0_i32_54 : BitVec 32 := 0#32
  let v37 : BitVec 32 := Dev.word d0
  let c4_i32_24 : BitVec 32 := 4#32
  let v38 : BitVec 32 := Scalar.divsi v37 c4_i32_24
  let c2_i32_23 : BitVec 32 := 2#32
  let v39 : BitVec 32 := Scalar.remsi v38 c2_i32_23
  let c0_i32_29 : BitVec 32 := 0#32
  let v46 : BitVec 32 := Scalar.addi v39 c0_i32_29
  let c2_i32_30 : BitVec 32 := 2#32
  let v47 : BitVec 32 := Scalar.remsi v46 c2_i32_30
  let c4_i32_53 : BitVec 32 := 4#32
  let v70 : BitVec 32 := Scalar.muli v47 c4_i32_53
  let v71 : BitVec 32 := Scalar.addi c0_i32_54 v70
  let v40 : BitVec 32 := Dev.word d0
  let c2_i32_26 : BitVec 32 := 2#32
  let v41 : BitVec 32 := Scalar.divsi v40 c2_i32_26
  let c2_i32_25 : BitVec 32 := 2#32
  let v42 : BitVec 32 := Scalar.remsi v41 c2_i32_25
  let c0_i32_31 : BitVec 32 := 0#32
  let v48 : BitVec 32 := Scalar.addi v42 c0_i32_31
  let c2_i32_32 : BitVec 32 := 2#32
  let v49 : BitVec 32 := Scalar.remsi v48 c2_i32_32
  let c2_i32_55 : BitVec 32 := 2#32
  let v72 : BitVec 32 := Scalar.muli v49 c2_i32_55
  let v73 : BitVec 32 := Scalar.addi v71 v72
  let v43 : BitVec 32 := Dev.word d0
  let c1_i32_28 : BitVec 32 := 1#32
  let v44 : BitVec 32 := Scalar.divsi v43 c1_i32_28
  let c2_i32_27 : BitVec 32 := 2#32
  let v45 : BitVec 32 := Scalar.remsi v44 c2_i32_27
  let c1_i32_33 : BitVec 32 := 1#32
  let v50 : BitVec 32 := Scalar.addi v45 c1_i32_33
  let c2_i32_34 : BitVec 32 := 2#32
  let v51 : BitVec 32 := Scalar.remsi v50 c2_i32_34
  let c1_i32_56 : BitVec 32 := 1#32
  let v74 : BitVec 32 := Scalar.muli v51 c1_i32_56
  let v75 : BitVec 32 := Scalar.addi v73 v74
  v75.toNat
def k0_off6 (d0 : Dev nD) (c0_i32_29 : BitVec 32) (c0_i32_31 : BitVec 32) (c1_i32_33 : BitVec 32) : Fin 3 → Nat :=
  let c4_i32_35 : BitVec 32 := 4#32
  let v37 : BitVec 32 := Dev.word d0
  let c4_i32_24 : BitVec 32 := 4#32
  let v38 : BitVec 32 := Scalar.divsi v37 c4_i32_24
  let c2_i32_23 : BitVec 32 := 2#32
  let v39 : BitVec 32 := Scalar.remsi v38 c2_i32_23
  let v46 : BitVec 32 := Scalar.addi v39 c0_i32_29
  let c2_i32_30 : BitVec 32 := 2#32
  let v47 : BitVec 32 := Scalar.remsi v46 c2_i32_30
  let v52 : BitVec 32 := Scalar.muli c4_i32_35 v47
  let c2_i32_36 : BitVec 32 := 2#32
  let v40 : BitVec 32 := Dev.word d0
  let c2_i32_26 : BitVec 32 := 2#32
  let v41 : BitVec 32 := Scalar.divsi v40 c2_i32_26
  let c2_i32_25 : BitVec 32 := 2#32
  let v42 : BitVec 32 := Scalar.remsi v41 c2_i32_25
  let v48 : BitVec 32 := Scalar.addi v42 c0_i32_31
  let c2_i32_32 : BitVec 32 := 2#32
  let v49 : BitVec 32 := Scalar.remsi v48 c2_i32_32
  let v53 : BitVec 32 := Scalar.muli c2_i32_36 v49
  let v54 : BitVec 32 := Scalar.addi v52 v53
  let v43 : BitVec 32 := Dev.word d0
  let c1_i32_28 : BitVec 32 := 1#32
  let v44 : BitVec 32 := Scalar.divsi v43 c1_i32_28
  let c2_i32_27 : BitVec 32 := 2#32
  let v45 : BitVec 32 := Scalar.remsi v44 c2_i32_27
  let v50 : BitVec 32 := Scalar.addi v45 c1_i32_33
  let c2_i32_34 : BitVec 32 := 2#32
  let v51 : BitVec 32 := Scalar.remsi v50 c2_i32_34
  let v55 : BitVec 32 := Scalar.addi v54 v51
  let c0_i32_71 : BitVec 32 := 0#32
  let c0_i32_72 : BitVec 32 := 0#32
  ![v55.toNat, 0, 0]
def k0_off6_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev3 (d0 : Dev nD) : Nat :=
  let c0_i32_66 : BitVec 32 := 0#32
  let v37 : BitVec 32 := Dev.word d0
  let c4_i32_24 : BitVec 32 := 4#32
  let v38 : BitVec 32 := Scalar.divsi v37 c4_i32_24
  let c2_i32_23 : BitVec 32 := 2#32
  let v39 : BitVec 32 := Scalar.remsi v38 c2_i32_23
  let c0_i32_29 : BitVec 32 := 0#32
  let v46 : BitVec 32 := Scalar.addi v39 c0_i32_29
  let c2_i32_30 : BitVec 32 := 2#32
  let v47 : BitVec 32 := Scalar.remsi v46 c2_i32_30
  let c4_i32_65 : BitVec 32 := 4#32
  let v84 : BitVec 32 := Scalar.muli v47 c4_i32_65
  let v85 : BitVec 32 := Scalar.addi c0_i32_66 v84
  let v40 : BitVec 32 := Dev.word d0
  let c2_i32_26 : BitVec 32 := 2#32
  let v41 : BitVec 32 := Scalar.divsi v40 c2_i32_26
  let c2_i32_25 : BitVec 32 := 2#32
  let v42 : BitVec 32 := Scalar.remsi v41 c2_i32_25
  let c0_i32_31 : BitVec 32 := 0#32
  let v48 : BitVec 32 := Scalar.addi v42 c0_i32_31
  let c2_i32_32 : BitVec 32 := 2#32
  let v49 : BitVec 32 := Scalar.remsi v48 c2_i32_32
  let c2_i32_67 : BitVec 32 := 2#32
  let v86 : BitVec 32 := Scalar.muli v49 c2_i32_67
  let v87 : BitVec 32 := Scalar.addi v85 v86
  let v43 : BitVec 32 := Dev.word d0
  let c1_i32_28 : BitVec 32 := 1#32
  let v44 : BitVec 32 := Scalar.divsi v43 c1_i32_28
  let c2_i32_27 : BitVec 32 := 2#32
  let v45 : BitVec 32 := Scalar.remsi v44 c2_i32_27
  let c1_i32_33 : BitVec 32 := 1#32
  let v50 : BitVec 32 := Scalar.addi v45 c1_i32_33
  let c2_i32_34 : BitVec 32 := 2#32
  let v51 : BitVec 32 := Scalar.remsi v50 c2_i32_34
  let c1_i32_68 : BitVec 32 := 1#32
  let v88 : BitVec 32 := Scalar.muli v51 c1_i32_68
  let v89 : BitVec 32 := Scalar.addi v87 v88
  v89.toNat
def k0_dev4 (d0 : Dev nD) : Nat :=
  let c0_i32_78 : BitVec 32 := 0#32
  let v37 : BitVec 32 := Dev.word d0
  let c4_i32_24 : BitVec 32 := 4#32
  let v38 : BitVec 32 := Scalar.divsi v37 c4_i32_24
  let c2_i32_23 : BitVec 32 := 2#32
  let v39 : BitVec 32 := Scalar.remsi v38 c2_i32_23
  let c0_i32_29 : BitVec 32 := 0#32
  let v46 : BitVec 32 := Scalar.addi v39 c0_i32_29
  let c2_i32_30 : BitVec 32 := 2#32
  let v47 : BitVec 32 := Scalar.remsi v46 c2_i32_30
  let c4_i32_77 : BitVec 32 := 4#32
  let v98 : BitVec 32 := Scalar.muli v47 c4_i32_77
  let v99 : BitVec 32 := Scalar.addi c0_i32_78 v98
  let v40 : BitVec 32 := Dev.word d0
  let c2_i32_26 : BitVec 32 := 2#32
  let v41 : BitVec 32 := Scalar.divsi v40 c2_i32_26
  let c2_i32_25 : BitVec 32 := 2#32
  let v42 : BitVec 32 := Scalar.remsi v41 c2_i32_25
  let c0_i32_31 : BitVec 32 := 0#32
  let v48 : BitVec 32 := Scalar.addi v42 c0_i32_31
  let c2_i32_32 : BitVec 32 := 2#32
  let v49 : BitVec 32 := Scalar.remsi v48 c2_i32_32
  let c2_i32_79 : BitVec 32 := 2#32
  let v100 : BitVec 32 := Scalar.muli v49 c2_i32_79
  let v101 : BitVec 32 := Scalar.addi v99 v100
  let v43 : BitVec 32 := Dev.word d0
  let c1_i32_28 : BitVec 32 := 1#32
  let v44 : BitVec 32 := Scalar.divsi v43 c1_i32_28
  let c2_i32_27 : BitVec 32 := 2#32
  let v45 : BitVec 32 := Scalar.remsi v44 c2_i32_27
  let c1_i32_33 : BitVec 32 := 1#32
  let v50 : BitVec 32 := Scalar.addi v45 c1_i32_33
  let c2_i32_34 : BitVec 32 := 2#32
  let v51 : BitVec 32 := Scalar.remsi v50 c2_i32_34
  let c1_i32_80 : BitVec 32 := 1#32
  let v102 : BitVec 32 := Scalar.muli v51 c1_i32_80
  let v103 : BitVec 32 := Scalar.addi v101 v102
  v103.toNat
def k0_dev5 (d0 : Dev nD) : Nat :=
  let c0_i32_104 : BitVec 32 := 0#32
  let v112 : BitVec 32 := Dev.word d0
  let c4_i32_86 : BitVec 32 := 4#32
  let v113 : BitVec 32 := Scalar.divsi v112 c4_i32_86
  let c2_i32_85 : BitVec 32 := 2#32
  let v114 : BitVec 32 := Scalar.remsi v113 c2_i32_85
  let c0_i32_91 : BitVec 32 := 0#32
  let v121 : BitVec 32 := Scalar.addi v114 c0_i32_91
  let c2_i32_92 : BitVec 32 := 2#32
  let v122 : BitVec 32 := Scalar.remsi v121 c2_i32_92
  let c4_i32_103 : BitVec 32 := 4#32
  let v131 : BitVec 32 := Scalar.muli v122 c4_i32_103
  let v132 : BitVec 32 := Scalar.addi c0_i32_104 v131
  let v115 : BitVec 32 := Dev.word d0
  let c2_i32_88 : BitVec 32 := 2#32
  let v116 : BitVec 32 := Scalar.divsi v115 c2_i32_88
  let c2_i32_87 : BitVec 32 := 2#32
  let v117 : BitVec 32 := Scalar.remsi v116 c2_i32_87
  let c1_i32_93 : BitVec 32 := 1#32
  let v123 : BitVec 32 := Scalar.addi v117 c1_i32_93
  let c2_i32_94 : BitVec 32 := 2#32
  let v124 : BitVec 32 := Scalar.remsi v123 c2_i32_94
  let c2_i32_105 : BitVec 32 := 2#32
  let v133 : BitVec 32 := Scalar.muli v124 c2_i32_105
  let v134 : BitVec 32 := Scalar.addi v132 v133
  let v118 : BitVec 32 := Dev.word d0
  let c1_i32_90 : BitVec 32 := 1#32
  let v119 : BitVec 32 := Scalar.divsi v118 c1_i32_90
  let c2_i32_89 : BitVec 32 := 2#32
  let v120 : BitVec 32 := Scalar.remsi v119 c2_i32_89
  let c0_i32_95 : BitVec 32 := 0#32
  let v125 : BitVec 32 := Scalar.addi v120 c0_i32_95
  let c2_i32_96 : BitVec 32 := 2#32
  let v126 : BitVec 32 := Scalar.remsi v125 c2_i32_96
  let c1_i32_106 : BitVec 32 := 1#32
  let v135 : BitVec 32 := Scalar.muli v126 c1_i32_106
  let v136 : BitVec 32 := Scalar.addi v134 v135
  v136.toNat
def k0_dev6 (d0 : Dev nD) : Nat :=
  let c0_i32_116 : BitVec 32 := 0#32
  let v112 : BitVec 32 := Dev.word d0
  let c4_i32_86 : BitVec 32 := 4#32
  let v113 : BitVec 32 := Scalar.divsi v112 c4_i32_86
  let c2_i32_85 : BitVec 32 := 2#32
  let v114 : BitVec 32 := Scalar.remsi v113 c2_i32_85
  let c0_i32_91 : BitVec 32 := 0#32
  let v121 : BitVec 32 := Scalar.addi v114 c0_i32_91
  let c2_i32_92 : BitVec 32 := 2#32
  let v122 : BitVec 32 := Scalar.remsi v121 c2_i32_92
  let c4_i32_115 : BitVec 32 := 4#32
  let v145 : BitVec 32 := Scalar.muli v122 c4_i32_115
  let v146 : BitVec 32 := Scalar.addi c0_i32_116 v145
  let v115 : BitVec 32 := Dev.word d0
  let c2_i32_88 : BitVec 32 := 2#32
  let v116 : BitVec 32 := Scalar.divsi v115 c2_i32_88
  let c2_i32_87 : BitVec 32 := 2#32
  let v117 : BitVec 32 := Scalar.remsi v116 c2_i32_87
  let c1_i32_93 : BitVec 32 := 1#32
  let v123 : BitVec 32 := Scalar.addi v117 c1_i32_93
  let c2_i32_94 : BitVec 32 := 2#32
  let v124 : BitVec 32 := Scalar.remsi v123 c2_i32_94
  let c2_i32_117 : BitVec 32 := 2#32
  let v147 : BitVec 32 := Scalar.muli v124 c2_i32_117
  let v148 : BitVec 32 := Scalar.addi v146 v147
  let v118 : BitVec 32 := Dev.word d0
  let c1_i32_90 : BitVec 32 := 1#32
  let v119 : BitVec 32 := Scalar.divsi v118 c1_i32_90
  let c2_i32_89 : BitVec 32 := 2#32
  let v120 : BitVec 32 := Scalar.remsi v119 c2_i32_89
  let c0_i32_95 : BitVec 32 := 0#32
  let v125 : BitVec 32 := Scalar.addi v120 c0_i32_95
  let c2_i32_96 : BitVec 32 := 2#32
  let v126 : BitVec 32 := Scalar.remsi v125 c2_i32_96
  let c1_i32_118 : BitVec 32 := 1#32
  let v149 : BitVec 32 := Scalar.muli v126 c1_i32_118
  let v150 : BitVec 32 := Scalar.addi v148 v149
  v150.toNat
def k0_dev7 (d0 : Dev nD) : Nat :=
  let c0_i32_128 : BitVec 32 := 0#32
  let v112 : BitVec 32 := Dev.word d0
  let c4_i32_86 : BitVec 32 := 4#32
  let v113 : BitVec 32 := Scalar.divsi v112 c4_i32_86
  let c2_i32_85 : BitVec 32 := 2#32
  let v114 : BitVec 32 := Scalar.remsi v113 c2_i32_85
  let c0_i32_91 : BitVec 32 := 0#32
  let v121 : BitVec 32 := Scalar.addi v114 c0_i32_91
  let c2_i32_92 : BitVec 32 := 2#32
  let v122 : BitVec 32 := Scalar.remsi v121 c2_i32_92
  let c4_i32_127 : BitVec 32 := 4#32
  let v159 : BitVec 32 := Scalar.muli v122 c4_i32_127
  let v160 : BitVec 32 := Scalar.addi c0_i32_128 v159
  let v115 : BitVec 32 := Dev.word d0
  let c2_i32_88 : BitVec 32 := 2#32
  let v116 : BitVec 32 := Scalar.divsi v115 c2_i32_88
  let c2_i32_87 : BitVec 32 := 2#32
  let v117 : BitVec 32 := Scalar.remsi v116 c2_i32_87
  let c1_i32_93 : BitVec 32 := 1#32
  let v123 : BitVec 32 := Scalar.addi v117 c1_i32_93
  let c2_i32_94 : BitVec 32 := 2#32
  let v124 : BitVec 32 := Scalar.remsi v123 c2_i32_94
  let c2_i32_129 : BitVec 32 := 2#32
  let v161 : BitVec 32 := Scalar.muli v124 c2_i32_129
  let v162 : BitVec 32 := Scalar.addi v160 v161
  let v118 : BitVec 32 := Dev.word d0
  let c1_i32_90 : BitVec 32 := 1#32
  let v119 : BitVec 32 := Scalar.divsi v118 c1_i32_90
  let c2_i32_89 : BitVec 32 := 2#32
  let v120 : BitVec 32 := Scalar.remsi v119 c2_i32_89
  let c0_i32_95 : BitVec 32 := 0#32
  let v125 : BitVec 32 := Scalar.addi v120 c0_i32_95
  let c2_i32_96 : BitVec 32 := 2#32
  let v126 : BitVec 32 := Scalar.remsi v125 c2_i32_96
  let c1_i32_130 : BitVec 32 := 1#32
  let v163 : BitVec 32 := Scalar.muli v126 c1_i32_130
  let v164 : BitVec 32 := Scalar.addi v162 v163
  v164.toNat
def k0_dev8 (d0 : Dev nD) : Nat :=
  let c0_i32_140 : BitVec 32 := 0#32
  let v112 : BitVec 32 := Dev.word d0
  let c4_i32_86 : BitVec 32 := 4#32
  let v113 : BitVec 32 := Scalar.divsi v112 c4_i32_86
  let c2_i32_85 : BitVec 32 := 2#32
  let v114 : BitVec 32 := Scalar.remsi v113 c2_i32_85
  let c0_i32_91 : BitVec 32 := 0#32
  let v121 : BitVec 32 := Scalar.addi v114 c0_i32_91
  let c2_i32_92 : BitVec 32 := 2#32
  let v122 : BitVec 32 := Scalar.remsi v121 c2_i32_92
  let c4_i32_139 : BitVec 32 := 4#32
  let v173 : BitVec 32 := Scalar.muli v122 c4_i32_139
  let v174 : BitVec 32 := Scalar.addi c0_i32_140 v173
  let v115 : BitVec 32 := Dev.word d0
  let c2_i32_88 : BitVec 32 := 2#32
  let v116 : BitVec 32 := Scalar.divsi v115 c2_i32_88
  let c2_i32_87 : BitVec 32 := 2#32
  let v117 : BitVec 32 := Scalar.remsi v116 c2_i32_87
  let c1_i32_93 : BitVec 32 := 1#32
  let v123 : BitVec 32 := Scalar.addi v117 c1_i32_93
  let c2_i32_94 : BitVec 32 := 2#32
  let v124 : BitVec 32 := Scalar.remsi v123 c2_i32_94
  let c2_i32_141 : BitVec 32 := 2#32
  let v175 : BitVec 32 := Scalar.muli v124 c2_i32_141
  let v176 : BitVec 32 := Scalar.addi v174 v175
  let v118 : BitVec 32 := Dev.word d0
  let c1_i32_90 : BitVec 32 := 1#32
  let v119 : BitVec 32 := Scalar.divsi v118 c1_i32_90
  let c2_i32_89 : BitVec 32 := 2#32
  let v120 : BitVec 32 := Scalar.remsi v119 c2_i32_89
  let c0_i32_95 : BitVec 32 := 0#32
  let v125 : BitVec 32 := Scalar.addi v120 c0_i32_95
  let c2_i32_96 : BitVec 32 := 2#32
  let v126 : BitVec 32 := Scalar.remsi v125 c2_i32_96
  let c1_i32_142 : BitVec 32 := 1#32
  let v177 : BitVec 32 := Scalar.muli v126 c1_i32_142
  let v178 : BitVec 32 := Scalar.addi v176 v177
  v178.toNat
def k0_dev9 (d0 : Dev nD) : Nat :=
  let c0_i32_166 : BitVec 32 := 0#32
  let v187 : BitVec 32 := Dev.word d0
  let c4_i32_148 : BitVec 32 := 4#32
  let v188 : BitVec 32 := Scalar.divsi v187 c4_i32_148
  let c2_i32_147 : BitVec 32 := 2#32
  let v189 : BitVec 32 := Scalar.remsi v188 c2_i32_147
  let c0_i32_153 : BitVec 32 := 0#32
  let v196 : BitVec 32 := Scalar.addi v189 c0_i32_153
  let c2_i32_154 : BitVec 32 := 2#32
  let v197 : BitVec 32 := Scalar.remsi v196 c2_i32_154
  let c4_i32_165 : BitVec 32 := 4#32
  let v206 : BitVec 32 := Scalar.muli v197 c4_i32_165
  let v207 : BitVec 32 := Scalar.addi c0_i32_166 v206
  let v190 : BitVec 32 := Dev.word d0
  let c2_i32_150 : BitVec 32 := 2#32
  let v191 : BitVec 32 := Scalar.divsi v190 c2_i32_150
  let c2_i32_149 : BitVec 32 := 2#32
  let v192 : BitVec 32 := Scalar.remsi v191 c2_i32_149
  let c1_i32_155 : BitVec 32 := 1#32
  let v198 : BitVec 32 := Scalar.addi v192 c1_i32_155
  let c2_i32_156 : BitVec 32 := 2#32
  let v199 : BitVec 32 := Scalar.remsi v198 c2_i32_156
  let c2_i32_167 : BitVec 32 := 2#32
  let v208 : BitVec 32 := Scalar.muli v199 c2_i32_167
  let v209 : BitVec 32 := Scalar.addi v207 v208
  let v193 : BitVec 32 := Dev.word d0
  let c1_i32_152 : BitVec 32 := 1#32
  let v194 : BitVec 32 := Scalar.divsi v193 c1_i32_152
  let c2_i32_151 : BitVec 32 := 2#32
  let v195 : BitVec 32 := Scalar.remsi v194 c2_i32_151
  let c1_i32_157 : BitVec 32 := 1#32
  let v200 : BitVec 32 := Scalar.addi v195 c1_i32_157
  let c2_i32_158 : BitVec 32 := 2#32
  let v201 : BitVec 32 := Scalar.remsi v200 c2_i32_158
  let c1_i32_168 : BitVec 32 := 1#32
  let v210 : BitVec 32 := Scalar.muli v201 c1_i32_168
  let v211 : BitVec 32 := Scalar.addi v209 v210
  v211.toNat
def k0_dev10 (d0 : Dev nD) : Nat :=
  let c0_i32_178 : BitVec 32 := 0#32
  let v187 : BitVec 32 := Dev.word d0
  let c4_i32_148 : BitVec 32 := 4#32
  let v188 : BitVec 32 := Scalar.divsi v187 c4_i32_148
  let c2_i32_147 : BitVec 32 := 2#32
  let v189 : BitVec 32 := Scalar.remsi v188 c2_i32_147
  let c0_i32_153 : BitVec 32 := 0#32
  let v196 : BitVec 32 := Scalar.addi v189 c0_i32_153
  let c2_i32_154 : BitVec 32 := 2#32
  let v197 : BitVec 32 := Scalar.remsi v196 c2_i32_154
  let c4_i32_177 : BitVec 32 := 4#32
  let v220 : BitVec 32 := Scalar.muli v197 c4_i32_177
  let v221 : BitVec 32 := Scalar.addi c0_i32_178 v220
  let v190 : BitVec 32 := Dev.word d0
  let c2_i32_150 : BitVec 32 := 2#32
  let v191 : BitVec 32 := Scalar.divsi v190 c2_i32_150
  let c2_i32_149 : BitVec 32 := 2#32
  let v192 : BitVec 32 := Scalar.remsi v191 c2_i32_149
  let c1_i32_155 : BitVec 32 := 1#32
  let v198 : BitVec 32 := Scalar.addi v192 c1_i32_155
  let c2_i32_156 : BitVec 32 := 2#32
  let v199 : BitVec 32 := Scalar.remsi v198 c2_i32_156
  let c2_i32_179 : BitVec 32 := 2#32
  let v222 : BitVec 32 := Scalar.muli v199 c2_i32_179
  let v223 : BitVec 32 := Scalar.addi v221 v222
  let v193 : BitVec 32 := Dev.word d0
  let c1_i32_152 : BitVec 32 := 1#32
  let v194 : BitVec 32 := Scalar.divsi v193 c1_i32_152
  let c2_i32_151 : BitVec 32 := 2#32
  let v195 : BitVec 32 := Scalar.remsi v194 c2_i32_151
  let c1_i32_157 : BitVec 32 := 1#32
  let v200 : BitVec 32 := Scalar.addi v195 c1_i32_157
  let c2_i32_158 : BitVec 32 := 2#32
  let v201 : BitVec 32 := Scalar.remsi v200 c2_i32_158
  let c1_i32_180 : BitVec 32 := 1#32
  let v224 : BitVec 32 := Scalar.muli v201 c1_i32_180
  let v225 : BitVec 32 := Scalar.addi v223 v224
  v225.toNat
def k0_dev11 (d0 : Dev nD) : Nat :=
  let c0_i32_190 : BitVec 32 := 0#32
  let v187 : BitVec 32 := Dev.word d0
  let c4_i32_148 : BitVec 32 := 4#32
  let v188 : BitVec 32 := Scalar.divsi v187 c4_i32_148
  let c2_i32_147 : BitVec 32 := 2#32
  let v189 : BitVec 32 := Scalar.remsi v188 c2_i32_147
  let c0_i32_153 : BitVec 32 := 0#32
  let v196 : BitVec 32 := Scalar.addi v189 c0_i32_153
  let c2_i32_154 : BitVec 32 := 2#32
  let v197 : BitVec 32 := Scalar.remsi v196 c2_i32_154
  let c4_i32_189 : BitVec 32 := 4#32
  let v234 : BitVec 32 := Scalar.muli v197 c4_i32_189
  let v235 : BitVec 32 := Scalar.addi c0_i32_190 v234
  let v190 : BitVec 32 := Dev.word d0
  let c2_i32_150 : BitVec 32 := 2#32
  let v191 : BitVec 32 := Scalar.divsi v190 c2_i32_150
  let c2_i32_149 : BitVec 32 := 2#32
  let v192 : BitVec 32 := Scalar.remsi v191 c2_i32_149
  let c1_i32_155 : BitVec 32 := 1#32
  let v198 : BitVec 32 := Scalar.addi v192 c1_i32_155
  let c2_i32_156 : BitVec 32 := 2#32
  let v199 : BitVec 32 := Scalar.remsi v198 c2_i32_156
  let c2_i32_191 : BitVec 32 := 2#32
  let v236 : BitVec 32 := Scalar.muli v199 c2_i32_191
  let v237 : BitVec 32 := Scalar.addi v235 v236
  let v193 : BitVec 32 := Dev.word d0
  let c1_i32_152 : BitVec 32 := 1#32
  let v194 : BitVec 32 := Scalar.divsi v193 c1_i32_152
  let c2_i32_151 : BitVec 32 := 2#32
  let v195 : BitVec 32 := Scalar.remsi v194 c2_i32_151
  let c1_i32_157 : BitVec 32 := 1#32
  let v200 : BitVec 32 := Scalar.addi v195 c1_i32_157
  let c2_i32_158 : BitVec 32 := 2#32
  let v201 : BitVec 32 := Scalar.remsi v200 c2_i32_158
  let c1_i32_192 : BitVec 32 := 1#32
  let v238 : BitVec 32 := Scalar.muli v201 c1_i32_192
  let v239 : BitVec 32 := Scalar.addi v237 v238
  v239.toNat
def k0_dev12 (d0 : Dev nD) : Nat :=
  let c0_i32_202 : BitVec 32 := 0#32
  let v187 : BitVec 32 := Dev.word d0
  let c4_i32_148 : BitVec 32 := 4#32
  let v188 : BitVec 32 := Scalar.divsi v187 c4_i32_148
  let c2_i32_147 : BitVec 32 := 2#32
  let v189 : BitVec 32 := Scalar.remsi v188 c2_i32_147
  let c0_i32_153 : BitVec 32 := 0#32
  let v196 : BitVec 32 := Scalar.addi v189 c0_i32_153
  let c2_i32_154 : BitVec 32 := 2#32
  let v197 : BitVec 32 := Scalar.remsi v196 c2_i32_154
  let c4_i32_201 : BitVec 32 := 4#32
  let v248 : BitVec 32 := Scalar.muli v197 c4_i32_201
  let v249 : BitVec 32 := Scalar.addi c0_i32_202 v248
  let v190 : BitVec 32 := Dev.word d0
  let c2_i32_150 : BitVec 32 := 2#32
  let v191 : BitVec 32 := Scalar.divsi v190 c2_i32_150
  let c2_i32_149 : BitVec 32 := 2#32
  let v192 : BitVec 32 := Scalar.remsi v191 c2_i32_149
  let c1_i32_155 : BitVec 32 := 1#32
  let v198 : BitVec 32 := Scalar.addi v192 c1_i32_155
  let c2_i32_156 : BitVec 32 := 2#32
  let v199 : BitVec 32 := Scalar.remsi v198 c2_i32_156
  let c2_i32_203 : BitVec 32 := 2#32
  let v250 : BitVec 32 := Scalar.muli v199 c2_i32_203
  let v251 : BitVec 32 := Scalar.addi v249 v250
  let v193 : BitVec 32 := Dev.word d0
  let c1_i32_152 : BitVec 32 := 1#32
  let v194 : BitVec 32 := Scalar.divsi v193 c1_i32_152
  let c2_i32_151 : BitVec 32 := 2#32
  let v195 : BitVec 32 := Scalar.remsi v194 c2_i32_151
  let c1_i32_157 : BitVec 32 := 1#32
  let v200 : BitVec 32 := Scalar.addi v195 c1_i32_157
  let c2_i32_158 : BitVec 32 := 2#32
  let v201 : BitVec 32 := Scalar.remsi v200 c2_i32_158
  let c1_i32_204 : BitVec 32 := 1#32
  let v252 : BitVec 32 := Scalar.muli v201 c1_i32_204
  let v253 : BitVec 32 := Scalar.addi v251 v252
  v253.toNat
def k0_dev13 (d0 : Dev nD) : Nat :=
  let c0_i32_228 : BitVec 32 := 0#32
  let v262 : BitVec 32 := Dev.word d0
  let c4_i32_210 : BitVec 32 := 4#32
  let v263 : BitVec 32 := Scalar.divsi v262 c4_i32_210
  let c2_i32_209 : BitVec 32 := 2#32
  let v264 : BitVec 32 := Scalar.remsi v263 c2_i32_209
  let c1_i32_215 : BitVec 32 := 1#32
  let v271 : BitVec 32 := Scalar.addi v264 c1_i32_215
  let c2_i32_216 : BitVec 32 := 2#32
  let v272 : BitVec 32 := Scalar.remsi v271 c2_i32_216
  let c4_i32_227 : BitVec 32 := 4#32
  let v281 : BitVec 32 := Scalar.muli v272 c4_i32_227
  let v282 : BitVec 32 := Scalar.addi c0_i32_228 v281
  let v265 : BitVec 32 := Dev.word d0
  let c2_i32_212 : BitVec 32 := 2#32
  let v266 : BitVec 32 := Scalar.divsi v265 c2_i32_212
  let c2_i32_211 : BitVec 32 := 2#32
  let v267 : BitVec 32 := Scalar.remsi v266 c2_i32_211
  let c0_i32_217 : BitVec 32 := 0#32
  let v273 : BitVec 32 := Scalar.addi v267 c0_i32_217
  let c2_i32_218 : BitVec 32 := 2#32
  let v274 : BitVec 32 := Scalar.remsi v273 c2_i32_218
  let c2_i32_229 : BitVec 32 := 2#32
  let v283 : BitVec 32 := Scalar.muli v274 c2_i32_229
  let v284 : BitVec 32 := Scalar.addi v282 v283
  let v268 : BitVec 32 := Dev.word d0
  let c1_i32_214 : BitVec 32 := 1#32
  let v269 : BitVec 32 := Scalar.divsi v268 c1_i32_214
  let c2_i32_213 : BitVec 32 := 2#32
  let v270 : BitVec 32 := Scalar.remsi v269 c2_i32_213
  let c0_i32_219 : BitVec 32 := 0#32
  let v275 : BitVec 32 := Scalar.addi v270 c0_i32_219
  let c2_i32_220 : BitVec 32 := 2#32
  let v276 : BitVec 32 := Scalar.remsi v275 c2_i32_220
  let c1_i32_230 : BitVec 32 := 1#32
  let v285 : BitVec 32 := Scalar.muli v276 c1_i32_230
  let v286 : BitVec 32 := Scalar.addi v284 v285
  v286.toNat
def k0_dev14 (d0 : Dev nD) : Nat :=
  let c0_i32_240 : BitVec 32 := 0#32
  let v262 : BitVec 32 := Dev.word d0
  let c4_i32_210 : BitVec 32 := 4#32
  let v263 : BitVec 32 := Scalar.divsi v262 c4_i32_210
  let c2_i32_209 : BitVec 32 := 2#32
  let v264 : BitVec 32 := Scalar.remsi v263 c2_i32_209
  let c1_i32_215 : BitVec 32 := 1#32
  let v271 : BitVec 32 := Scalar.addi v264 c1_i32_215
  let c2_i32_216 : BitVec 32 := 2#32
  let v272 : BitVec 32 := Scalar.remsi v271 c2_i32_216
  let c4_i32_239 : BitVec 32 := 4#32
  let v295 : BitVec 32 := Scalar.muli v272 c4_i32_239
  let v296 : BitVec 32 := Scalar.addi c0_i32_240 v295
  let v265 : BitVec 32 := Dev.word d0
  let c2_i32_212 : BitVec 32 := 2#32
  let v266 : BitVec 32 := Scalar.divsi v265 c2_i32_212
  let c2_i32_211 : BitVec 32 := 2#32
  let v267 : BitVec 32 := Scalar.remsi v266 c2_i32_211
  let c0_i32_217 : BitVec 32 := 0#32
  let v273 : BitVec 32 := Scalar.addi v267 c0_i32_217
  let c2_i32_218 : BitVec 32 := 2#32
  let v274 : BitVec 32 := Scalar.remsi v273 c2_i32_218
  let c2_i32_241 : BitVec 32 := 2#32
  let v297 : BitVec 32 := Scalar.muli v274 c2_i32_241
  let v298 : BitVec 32 := Scalar.addi v296 v297
  let v268 : BitVec 32 := Dev.word d0
  let c1_i32_214 : BitVec 32 := 1#32
  let v269 : BitVec 32 := Scalar.divsi v268 c1_i32_214
  let c2_i32_213 : BitVec 32 := 2#32
  let v270 : BitVec 32 := Scalar.remsi v269 c2_i32_213
  let c0_i32_219 : BitVec 32 := 0#32
  let v275 : BitVec 32 := Scalar.addi v270 c0_i32_219
  let c2_i32_220 : BitVec 32 := 2#32
  let v276 : BitVec 32 := Scalar.remsi v275 c2_i32_220
  let c1_i32_242 : BitVec 32 := 1#32
  let v299 : BitVec 32 := Scalar.muli v276 c1_i32_242
  let v300 : BitVec 32 := Scalar.addi v298 v299
  v300.toNat
def k0_dev15 (d0 : Dev nD) : Nat :=
  let c0_i32_252 : BitVec 32 := 0#32
  let v262 : BitVec 32 := Dev.word d0
  let c4_i32_210 : BitVec 32 := 4#32
  let v263 : BitVec 32 := Scalar.divsi v262 c4_i32_210
  let c2_i32_209 : BitVec 32 := 2#32
  let v264 : BitVec 32 := Scalar.remsi v263 c2_i32_209
  let c1_i32_215 : BitVec 32 := 1#32
  let v271 : BitVec 32 := Scalar.addi v264 c1_i32_215
  let c2_i32_216 : BitVec 32 := 2#32
  let v272 : BitVec 32 := Scalar.remsi v271 c2_i32_216
  let c4_i32_251 : BitVec 32 := 4#32
  let v309 : BitVec 32 := Scalar.muli v272 c4_i32_251
  let v310 : BitVec 32 := Scalar.addi c0_i32_252 v309
  let v265 : BitVec 32 := Dev.word d0
  let c2_i32_212 : BitVec 32 := 2#32
  let v266 : BitVec 32 := Scalar.divsi v265 c2_i32_212
  let c2_i32_211 : BitVec 32 := 2#32
  let v267 : BitVec 32 := Scalar.remsi v266 c2_i32_211
  let c0_i32_217 : BitVec 32 := 0#32
  let v273 : BitVec 32 := Scalar.addi v267 c0_i32_217
  let c2_i32_218 : BitVec 32 := 2#32
  let v274 : BitVec 32 := Scalar.remsi v273 c2_i32_218
  let c2_i32_253 : BitVec 32 := 2#32
  let v311 : BitVec 32 := Scalar.muli v274 c2_i32_253
  let v312 : BitVec 32 := Scalar.addi v310 v311
  let v268 : BitVec 32 := Dev.word d0
  let c1_i32_214 : BitVec 32 := 1#32
  let v269 : BitVec 32 := Scalar.divsi v268 c1_i32_214
  let c2_i32_213 : BitVec 32 := 2#32
  let v270 : BitVec 32 := Scalar.remsi v269 c2_i32_213
  let c0_i32_219 : BitVec 32 := 0#32
  let v275 : BitVec 32 := Scalar.addi v270 c0_i32_219
  let c2_i32_220 : BitVec 32 := 2#32
  let v276 : BitVec 32 := Scalar.remsi v275 c2_i32_220
  let c1_i32_254 : BitVec 32 := 1#32
  let v313 : BitVec 32 := Scalar.muli v276 c1_i32_254
  let v314 : BitVec 32 := Scalar.addi v312 v313
  v314.toNat
def k0_dev16 (d0 : Dev nD) : Nat :=
  let c0_i32_264 : BitVec 32 := 0#32
  let v262 : BitVec 32 := Dev.word d0
  let c4_i32_210 : BitVec 32 := 4#32
  let v263 : BitVec 32 := Scalar.divsi v262 c4_i32_210
  let c2_i32_209 : BitVec 32 := 2#32
  let v264 : BitVec 32 := Scalar.remsi v263 c2_i32_209
  let c1_i32_215 : BitVec 32 := 1#32
  let v271 : BitVec 32 := Scalar.addi v264 c1_i32_215
  let c2_i32_216 : BitVec 32 := 2#32
  let v272 : BitVec 32 := Scalar.remsi v271 c2_i32_216
  let c4_i32_263 : BitVec 32 := 4#32
  let v323 : BitVec 32 := Scalar.muli v272 c4_i32_263
  let v324 : BitVec 32 := Scalar.addi c0_i32_264 v323
  let v265 : BitVec 32 := Dev.word d0
  let c2_i32_212 : BitVec 32 := 2#32
  let v266 : BitVec 32 := Scalar.divsi v265 c2_i32_212
  let c2_i32_211 : BitVec 32 := 2#32
  let v267 : BitVec 32 := Scalar.remsi v266 c2_i32_211
  let c0_i32_217 : BitVec 32 := 0#32
  let v273 : BitVec 32 := Scalar.addi v267 c0_i32_217
  let c2_i32_218 : BitVec 32 := 2#32
  let v274 : BitVec 32 := Scalar.remsi v273 c2_i32_218
  let c2_i32_265 : BitVec 32 := 2#32
  let v325 : BitVec 32 := Scalar.muli v274 c2_i32_265
  let v326 : BitVec 32 := Scalar.addi v324 v325
  let v268 : BitVec 32 := Dev.word d0
  let c1_i32_214 : BitVec 32 := 1#32
  let v269 : BitVec 32 := Scalar.divsi v268 c1_i32_214
  let c2_i32_213 : BitVec 32 := 2#32
  let v270 : BitVec 32 := Scalar.remsi v269 c2_i32_213
  let c0_i32_219 : BitVec 32 := 0#32
  let v275 : BitVec 32 := Scalar.addi v270 c0_i32_219
  let c2_i32_220 : BitVec 32 := 2#32
  let v276 : BitVec 32 := Scalar.remsi v275 c2_i32_220
  let c1_i32_266 : BitVec 32 := 1#32
  let v327 : BitVec 32 := Scalar.muli v276 c1_i32_266
  let v328 : BitVec 32 := Scalar.addi v326 v327
  v328.toNat
def k0_dev17 (d0 : Dev nD) : Nat :=
  let c0_i32_290 : BitVec 32 := 0#32
  let v337 : BitVec 32 := Dev.word d0
  let c4_i32_272 : BitVec 32 := 4#32
  let v338 : BitVec 32 := Scalar.divsi v337 c4_i32_272
  let c2_i32_271 : BitVec 32 := 2#32
  let v339 : BitVec 32 := Scalar.remsi v338 c2_i32_271
  let c1_i32_277 : BitVec 32 := 1#32
  let v346 : BitVec 32 := Scalar.addi v339 c1_i32_277
  let c2_i32_278 : BitVec 32 := 2#32
  let v347 : BitVec 32 := Scalar.remsi v346 c2_i32_278
  let c4_i32_289 : BitVec 32 := 4#32
  let v356 : BitVec 32 := Scalar.muli v347 c4_i32_289
  let v357 : BitVec 32 := Scalar.addi c0_i32_290 v356
  let v340 : BitVec 32 := Dev.word d0
  let c2_i32_274 : BitVec 32 := 2#32
  let v341 : BitVec 32 := Scalar.divsi v340 c2_i32_274
  let c2_i32_273 : BitVec 32 := 2#32
  let v342 : BitVec 32 := Scalar.remsi v341 c2_i32_273
  let c0_i32_279 : BitVec 32 := 0#32
  let v348 : BitVec 32 := Scalar.addi v342 c0_i32_279
  let c2_i32_280 : BitVec 32 := 2#32
  let v349 : BitVec 32 := Scalar.remsi v348 c2_i32_280
  let c2_i32_291 : BitVec 32 := 2#32
  let v358 : BitVec 32 := Scalar.muli v349 c2_i32_291
  let v359 : BitVec 32 := Scalar.addi v357 v358
  let v343 : BitVec 32 := Dev.word d0
  let c1_i32_276 : BitVec 32 := 1#32
  let v344 : BitVec 32 := Scalar.divsi v343 c1_i32_276
  let c2_i32_275 : BitVec 32 := 2#32
  let v345 : BitVec 32 := Scalar.remsi v344 c2_i32_275
  let c1_i32_281 : BitVec 32 := 1#32
  let v350 : BitVec 32 := Scalar.addi v345 c1_i32_281
  let c2_i32_282 : BitVec 32 := 2#32
  let v351 : BitVec 32 := Scalar.remsi v350 c2_i32_282
  let c1_i32_292 : BitVec 32 := 1#32
  let v360 : BitVec 32 := Scalar.muli v351 c1_i32_292
  let v361 : BitVec 32 := Scalar.addi v359 v360
  v361.toNat
def k0_dev18 (d0 : Dev nD) : Nat :=
  let c0_i32_302 : BitVec 32 := 0#32
  let v337 : BitVec 32 := Dev.word d0
  let c4_i32_272 : BitVec 32 := 4#32
  let v338 : BitVec 32 := Scalar.divsi v337 c4_i32_272
  let c2_i32_271 : BitVec 32 := 2#32
  let v339 : BitVec 32 := Scalar.remsi v338 c2_i32_271
  let c1_i32_277 : BitVec 32 := 1#32
  let v346 : BitVec 32 := Scalar.addi v339 c1_i32_277
  let c2_i32_278 : BitVec 32 := 2#32
  let v347 : BitVec 32 := Scalar.remsi v346 c2_i32_278
  let c4_i32_301 : BitVec 32 := 4#32
  let v370 : BitVec 32 := Scalar.muli v347 c4_i32_301
  let v371 : BitVec 32 := Scalar.addi c0_i32_302 v370
  let v340 : BitVec 32 := Dev.word d0
  let c2_i32_274 : BitVec 32 := 2#32
  let v341 : BitVec 32 := Scalar.divsi v340 c2_i32_274
  let c2_i32_273 : BitVec 32 := 2#32
  let v342 : BitVec 32 := Scalar.remsi v341 c2_i32_273
  let c0_i32_279 : BitVec 32 := 0#32
  let v348 : BitVec 32 := Scalar.addi v342 c0_i32_279
  let c2_i32_280 : BitVec 32 := 2#32
  let v349 : BitVec 32 := Scalar.remsi v348 c2_i32_280
  let c2_i32_303 : BitVec 32 := 2#32
  let v372 : BitVec 32 := Scalar.muli v349 c2_i32_303
  let v373 : BitVec 32 := Scalar.addi v371 v372
  let v343 : BitVec 32 := Dev.word d0
  let c1_i32_276 : BitVec 32 := 1#32
  let v344 : BitVec 32 := Scalar.divsi v343 c1_i32_276
  let c2_i32_275 : BitVec 32 := 2#32
  let v345 : BitVec 32 := Scalar.remsi v344 c2_i32_275
  let c1_i32_281 : BitVec 32 := 1#32
  let v350 : BitVec 32 := Scalar.addi v345 c1_i32_281
  let c2_i32_282 : BitVec 32 := 2#32
  let v351 : BitVec 32 := Scalar.remsi v350 c2_i32_282
  let c1_i32_304 : BitVec 32 := 1#32
  let v374 : BitVec 32 := Scalar.muli v351 c1_i32_304
  let v375 : BitVec 32 := Scalar.addi v373 v374
  v375.toNat
def k0_dev19 (d0 : Dev nD) : Nat :=
  let c0_i32_314 : BitVec 32 := 0#32
  let v337 : BitVec 32 := Dev.word d0
  let c4_i32_272 : BitVec 32 := 4#32
  let v338 : BitVec 32 := Scalar.divsi v337 c4_i32_272
  let c2_i32_271 : BitVec 32 := 2#32
  let v339 : BitVec 32 := Scalar.remsi v338 c2_i32_271
  let c1_i32_277 : BitVec 32 := 1#32
  let v346 : BitVec 32 := Scalar.addi v339 c1_i32_277
  let c2_i32_278 : BitVec 32 := 2#32
  let v347 : BitVec 32 := Scalar.remsi v346 c2_i32_278
  let c4_i32_313 : BitVec 32 := 4#32
  let v384 : BitVec 32 := Scalar.muli v347 c4_i32_313
  let v385 : BitVec 32 := Scalar.addi c0_i32_314 v384
  let v340 : BitVec 32 := Dev.word d0
  let c2_i32_274 : BitVec 32 := 2#32
  let v341 : BitVec 32 := Scalar.divsi v340 c2_i32_274
  let c2_i32_273 : BitVec 32 := 2#32
  let v342 : BitVec 32 := Scalar.remsi v341 c2_i32_273
  let c0_i32_279 : BitVec 32 := 0#32
  let v348 : BitVec 32 := Scalar.addi v342 c0_i32_279
  let c2_i32_280 : BitVec 32 := 2#32
  let v349 : BitVec 32 := Scalar.remsi v348 c2_i32_280
  let c2_i32_315 : BitVec 32 := 2#32
  let v386 : BitVec 32 := Scalar.muli v349 c2_i32_315
  let v387 : BitVec 32 := Scalar.addi v385 v386
  let v343 : BitVec 32 := Dev.word d0
  let c1_i32_276 : BitVec 32 := 1#32
  let v344 : BitVec 32 := Scalar.divsi v343 c1_i32_276
  let c2_i32_275 : BitVec 32 := 2#32
  let v345 : BitVec 32 := Scalar.remsi v344 c2_i32_275
  let c1_i32_281 : BitVec 32 := 1#32
  let v350 : BitVec 32 := Scalar.addi v345 c1_i32_281
  let c2_i32_282 : BitVec 32 := 2#32
  let v351 : BitVec 32 := Scalar.remsi v350 c2_i32_282
  let c1_i32_316 : BitVec 32 := 1#32
  let v388 : BitVec 32 := Scalar.muli v351 c1_i32_316
  let v389 : BitVec 32 := Scalar.addi v387 v388
  v389.toNat
def k0_dev20 (d0 : Dev nD) : Nat :=
  let c0_i32_326 : BitVec 32 := 0#32
  let v337 : BitVec 32 := Dev.word d0
  let c4_i32_272 : BitVec 32 := 4#32
  let v338 : BitVec 32 := Scalar.divsi v337 c4_i32_272
  let c2_i32_271 : BitVec 32 := 2#32
  let v339 : BitVec 32 := Scalar.remsi v338 c2_i32_271
  let c1_i32_277 : BitVec 32 := 1#32
  let v346 : BitVec 32 := Scalar.addi v339 c1_i32_277
  let c2_i32_278 : BitVec 32 := 2#32
  let v347 : BitVec 32 := Scalar.remsi v346 c2_i32_278
  let c4_i32_325 : BitVec 32 := 4#32
  let v398 : BitVec 32 := Scalar.muli v347 c4_i32_325
  let v399 : BitVec 32 := Scalar.addi c0_i32_326 v398
  let v340 : BitVec 32 := Dev.word d0
  let c2_i32_274 : BitVec 32 := 2#32
  let v341 : BitVec 32 := Scalar.divsi v340 c2_i32_274
  let c2_i32_273 : BitVec 32 := 2#32
  let v342 : BitVec 32 := Scalar.remsi v341 c2_i32_273
  let c0_i32_279 : BitVec 32 := 0#32
  let v348 : BitVec 32 := Scalar.addi v342 c0_i32_279
  let c2_i32_280 : BitVec 32 := 2#32
  let v349 : BitVec 32 := Scalar.remsi v348 c2_i32_280
  let c2_i32_327 : BitVec 32 := 2#32
  let v400 : BitVec 32 := Scalar.muli v349 c2_i32_327
  let v401 : BitVec 32 := Scalar.addi v399 v400
  let v343 : BitVec 32 := Dev.word d0
  let c1_i32_276 : BitVec 32 := 1#32
  let v344 : BitVec 32 := Scalar.divsi v343 c1_i32_276
  let c2_i32_275 : BitVec 32 := 2#32
  let v345 : BitVec 32 := Scalar.remsi v344 c2_i32_275
  let c1_i32_281 : BitVec 32 := 1#32
  let v350 : BitVec 32 := Scalar.addi v345 c1_i32_281
  let c2_i32_282 : BitVec 32 := 2#32
  let v351 : BitVec 32 := Scalar.remsi v350 c2_i32_282
  let c1_i32_328 : BitVec 32 := 1#32
  let v402 : BitVec 32 := Scalar.muli v351 c1_i32_328
  let v403 : BitVec 32 := Scalar.addi v401 v402
  v403.toNat
def k0_dev21 (d0 : Dev nD) : Nat :=
  let c0_i32_351 : BitVec 32 := 0#32
  let v412 : BitVec 32 := Dev.word d0
  let c4_i32_334 : BitVec 32 := 4#32
  let v413 : BitVec 32 := Scalar.divsi v412 c4_i32_334
  let c2_i32_333 : BitVec 32 := 2#32
  let v414 : BitVec 32 := Scalar.remsi v413 c2_i32_333
  let c1_i32_339 : BitVec 32 := 1#32
  let v421 : BitVec 32 := Scalar.addi v414 c1_i32_339
  let c2_i32_340 : BitVec 32 := 2#32
  let v422 : BitVec 32 := Scalar.remsi v421 c2_i32_340
  let c4_i32_350 : BitVec 32 := 4#32
  let v431 : BitVec 32 := Scalar.muli v422 c4_i32_350
  let v432 : BitVec 32 := Scalar.addi c0_i32_351 v431
  let v415 : BitVec 32 := Dev.word d0
  let c2_i32_336 : BitVec 32 := 2#32
  let v416 : BitVec 32 := Scalar.divsi v415 c2_i32_336
  let c2_i32_335 : BitVec 32 := 2#32
  let v417 : BitVec 32 := Scalar.remsi v416 c2_i32_335
  let c1_i32_341 : BitVec 32 := 1#32
  let v423 : BitVec 32 := Scalar.addi v417 c1_i32_341
  let c2_i32_342 : BitVec 32 := 2#32
  let v424 : BitVec 32 := Scalar.remsi v423 c2_i32_342
  let c2_i32_352 : BitVec 32 := 2#32
  let v433 : BitVec 32 := Scalar.muli v424 c2_i32_352
  let v434 : BitVec 32 := Scalar.addi v432 v433
  let v418 : BitVec 32 := Dev.word d0
  let c1_i32_338 : BitVec 32 := 1#32
  let v419 : BitVec 32 := Scalar.divsi v418 c1_i32_338
  let c2_i32_337 : BitVec 32 := 2#32
  let v420 : BitVec 32 := Scalar.remsi v419 c2_i32_337
  let c0_i32_343 : BitVec 32 := 0#32
  let v425 : BitVec 32 := Scalar.addi v420 c0_i32_343
  let c2_i32_344 : BitVec 32 := 2#32
  let v426 : BitVec 32 := Scalar.remsi v425 c2_i32_344
  let c1_i32_353 : BitVec 32 := 1#32
  let v435 : BitVec 32 := Scalar.muli v426 c1_i32_353
  let v436 : BitVec 32 := Scalar.addi v434 v435
  v436.toNat
def k0_dev22 (d0 : Dev nD) : Nat :=
  let c0_i32_363 : BitVec 32 := 0#32
  let v412 : BitVec 32 := Dev.word d0
  let c4_i32_334 : BitVec 32 := 4#32
  let v413 : BitVec 32 := Scalar.divsi v412 c4_i32_334
  let c2_i32_333 : BitVec 32 := 2#32
  let v414 : BitVec 32 := Scalar.remsi v413 c2_i32_333
  let c1_i32_339 : BitVec 32 := 1#32
  let v421 : BitVec 32 := Scalar.addi v414 c1_i32_339
  let c2_i32_340 : BitVec 32 := 2#32
  let v422 : BitVec 32 := Scalar.remsi v421 c2_i32_340
  let c4_i32_362 : BitVec 32 := 4#32
  let v445 : BitVec 32 := Scalar.muli v422 c4_i32_362
  let v446 : BitVec 32 := Scalar.addi c0_i32_363 v445
  let v415 : BitVec 32 := Dev.word d0
  let c2_i32_336 : BitVec 32 := 2#32
  let v416 : BitVec 32 := Scalar.divsi v415 c2_i32_336
  let c2_i32_335 : BitVec 32 := 2#32
  let v417 : BitVec 32 := Scalar.remsi v416 c2_i32_335
  let c1_i32_341 : BitVec 32 := 1#32
  let v423 : BitVec 32 := Scalar.addi v417 c1_i32_341
  let c2_i32_342 : BitVec 32 := 2#32
  let v424 : BitVec 32 := Scalar.remsi v423 c2_i32_342
  let c2_i32_364 : BitVec 32 := 2#32
  let v447 : BitVec 32 := Scalar.muli v424 c2_i32_364
  let v448 : BitVec 32 := Scalar.addi v446 v447
  let v418 : BitVec 32 := Dev.word d0
  let c1_i32_338 : BitVec 32 := 1#32
  let v419 : BitVec 32 := Scalar.divsi v418 c1_i32_338
  let c2_i32_337 : BitVec 32 := 2#32
  let v420 : BitVec 32 := Scalar.remsi v419 c2_i32_337
  let c0_i32_343 : BitVec 32 := 0#32
  let v425 : BitVec 32 := Scalar.addi v420 c0_i32_343
  let c2_i32_344 : BitVec 32 := 2#32
  let v426 : BitVec 32 := Scalar.remsi v425 c2_i32_344
  let c1_i32_365 : BitVec 32 := 1#32
  let v449 : BitVec 32 := Scalar.muli v426 c1_i32_365
  let v450 : BitVec 32 := Scalar.addi v448 v449
  v450.toNat
def k0_dev23 (d0 : Dev nD) : Nat :=
  let c0_i32_375 : BitVec 32 := 0#32
  let v412 : BitVec 32 := Dev.word d0
  let c4_i32_334 : BitVec 32 := 4#32
  let v413 : BitVec 32 := Scalar.divsi v412 c4_i32_334
  let c2_i32_333 : BitVec 32 := 2#32
  let v414 : BitVec 32 := Scalar.remsi v413 c2_i32_333
  let c1_i32_339 : BitVec 32 := 1#32
  let v421 : BitVec 32 := Scalar.addi v414 c1_i32_339
  let c2_i32_340 : BitVec 32 := 2#32
  let v422 : BitVec 32 := Scalar.remsi v421 c2_i32_340
  let c4_i32_374 : BitVec 32 := 4#32
  let v459 : BitVec 32 := Scalar.muli v422 c4_i32_374
  let v460 : BitVec 32 := Scalar.addi c0_i32_375 v459
  let v415 : BitVec 32 := Dev.word d0
  let c2_i32_336 : BitVec 32 := 2#32
  let v416 : BitVec 32 := Scalar.divsi v415 c2_i32_336
  let c2_i32_335 : BitVec 32 := 2#32
  let v417 : BitVec 32 := Scalar.remsi v416 c2_i32_335
  let c1_i32_341 : BitVec 32 := 1#32
  let v423 : BitVec 32 := Scalar.addi v417 c1_i32_341
  let c2_i32_342 : BitVec 32 := 2#32
  let v424 : BitVec 32 := Scalar.remsi v423 c2_i32_342
  let c2_i32_376 : BitVec 32 := 2#32
  let v461 : BitVec 32 := Scalar.muli v424 c2_i32_376
  let v462 : BitVec 32 := Scalar.addi v460 v461
  let v418 : BitVec 32 := Dev.word d0
  let c1_i32_338 : BitVec 32 := 1#32
  let v419 : BitVec 32 := Scalar.divsi v418 c1_i32_338
  let c2_i32_337 : BitVec 32 := 2#32
  let v420 : BitVec 32 := Scalar.remsi v419 c2_i32_337
  let c0_i32_343 : BitVec 32 := 0#32
  let v425 : BitVec 32 := Scalar.addi v420 c0_i32_343
  let c2_i32_344 : BitVec 32 := 2#32
  let v426 : BitVec 32 := Scalar.remsi v425 c2_i32_344
  let c1_i32_377 : BitVec 32 := 1#32
  let v463 : BitVec 32 := Scalar.muli v426 c1_i32_377
  let v464 : BitVec 32 := Scalar.addi v462 v463
  v464.toNat
def k0_dev24 (d0 : Dev nD) : Nat :=
  let c0_i32_387 : BitVec 32 := 0#32
  let v412 : BitVec 32 := Dev.word d0
  let c4_i32_334 : BitVec 32 := 4#32
  let v413 : BitVec 32 := Scalar.divsi v412 c4_i32_334
  let c2_i32_333 : BitVec 32 := 2#32
  let v414 : BitVec 32 := Scalar.remsi v413 c2_i32_333
  let c1_i32_339 : BitVec 32 := 1#32
  let v421 : BitVec 32 := Scalar.addi v414 c1_i32_339
  let c2_i32_340 : BitVec 32 := 2#32
  let v422 : BitVec 32 := Scalar.remsi v421 c2_i32_340
  let c4_i32_386 : BitVec 32 := 4#32
  let v473 : BitVec 32 := Scalar.muli v422 c4_i32_386
  let v474 : BitVec 32 := Scalar.addi c0_i32_387 v473
  let v415 : BitVec 32 := Dev.word d0
  let c2_i32_336 : BitVec 32 := 2#32
  let v416 : BitVec 32 := Scalar.divsi v415 c2_i32_336
  let c2_i32_335 : BitVec 32 := 2#32
  let v417 : BitVec 32 := Scalar.remsi v416 c2_i32_335
  let c1_i32_341 : BitVec 32 := 1#32
  let v423 : BitVec 32 := Scalar.addi v417 c1_i32_341
  let c2_i32_342 : BitVec 32 := 2#32
  let v424 : BitVec 32 := Scalar.remsi v423 c2_i32_342
  let c2_i32_388 : BitVec 32 := 2#32
  let v475 : BitVec 32 := Scalar.muli v424 c2_i32_388
  let v476 : BitVec 32 := Scalar.addi v474 v475
  let v418 : BitVec 32 := Dev.word d0
  let c1_i32_338 : BitVec 32 := 1#32
  let v419 : BitVec 32 := Scalar.divsi v418 c1_i32_338
  let c2_i32_337 : BitVec 32 := 2#32
  let v420 : BitVec 32 := Scalar.remsi v419 c2_i32_337
  let c0_i32_343 : BitVec 32 := 0#32
  let v425 : BitVec 32 := Scalar.addi v420 c0_i32_343
  let c2_i32_344 : BitVec 32 := 2#32
  let v426 : BitVec 32 := Scalar.remsi v425 c2_i32_344
  let c1_i32_389 : BitVec 32 := 1#32
  let v477 : BitVec 32 := Scalar.muli v426 c1_i32_389
  let v478 : BitVec 32 := Scalar.addi v476 v477
  v478.toNat
def k0_dev25 (d0 : Dev nD) : Nat :=
  let c0_i32_412 : BitVec 32 := 0#32
  let v487 : BitVec 32 := Dev.word d0
  let c4_i32_395 : BitVec 32 := 4#32
  let v488 : BitVec 32 := Scalar.divsi v487 c4_i32_395
  let c2_i32_394 : BitVec 32 := 2#32
  let v489 : BitVec 32 := Scalar.remsi v488 c2_i32_394
  let c1_i32_400 : BitVec 32 := 1#32
  let v496 : BitVec 32 := Scalar.addi v489 c1_i32_400
  let c2_i32_401 : BitVec 32 := 2#32
  let v497 : BitVec 32 := Scalar.remsi v496 c2_i32_401
  let c4_i32_411 : BitVec 32 := 4#32
  let v506 : BitVec 32 := Scalar.muli v497 c4_i32_411
  let v507 : BitVec 32 := Scalar.addi c0_i32_412 v506
  let v490 : BitVec 32 := Dev.word d0
  let c2_i32_397 : BitVec 32 := 2#32
  let v491 : BitVec 32 := Scalar.divsi v490 c2_i32_397
  let c2_i32_396 : BitVec 32 := 2#32
  let v492 : BitVec 32 := Scalar.remsi v491 c2_i32_396
  let c1_i32_402 : BitVec 32 := 1#32
  let v498 : BitVec 32 := Scalar.addi v492 c1_i32_402
  let c2_i32_403 : BitVec 32 := 2#32
  let v499 : BitVec 32 := Scalar.remsi v498 c2_i32_403
  let c2_i32_413 : BitVec 32 := 2#32
  let v508 : BitVec 32 := Scalar.muli v499 c2_i32_413
  let v509 : BitVec 32 := Scalar.addi v507 v508
  let v493 : BitVec 32 := Dev.word d0
  let c1_i32_399 : BitVec 32 := 1#32
  let v494 : BitVec 32 := Scalar.divsi v493 c1_i32_399
  let c2_i32_398 : BitVec 32 := 2#32
  let v495 : BitVec 32 := Scalar.remsi v494 c2_i32_398
  let c1_i32_404 : BitVec 32 := 1#32
  let v500 : BitVec 32 := Scalar.addi v495 c1_i32_404
  let c2_i32_405 : BitVec 32 := 2#32
  let v501 : BitVec 32 := Scalar.remsi v500 c2_i32_405
  let c1_i32_414 : BitVec 32 := 1#32
  let v510 : BitVec 32 := Scalar.muli v501 c1_i32_414
  let v511 : BitVec 32 := Scalar.addi v509 v510
  v511.toNat
def k0_dev26 (d0 : Dev nD) : Nat :=
  let c0_i32_424 : BitVec 32 := 0#32
  let v487 : BitVec 32 := Dev.word d0
  let c4_i32_395 : BitVec 32 := 4#32
  let v488 : BitVec 32 := Scalar.divsi v487 c4_i32_395
  let c2_i32_394 : BitVec 32 := 2#32
  let v489 : BitVec 32 := Scalar.remsi v488 c2_i32_394
  let c1_i32_400 : BitVec 32 := 1#32
  let v496 : BitVec 32 := Scalar.addi v489 c1_i32_400
  let c2_i32_401 : BitVec 32 := 2#32
  let v497 : BitVec 32 := Scalar.remsi v496 c2_i32_401
  let c4_i32_423 : BitVec 32 := 4#32
  let v520 : BitVec 32 := Scalar.muli v497 c4_i32_423
  let v521 : BitVec 32 := Scalar.addi c0_i32_424 v520
  let v490 : BitVec 32 := Dev.word d0
  let c2_i32_397 : BitVec 32 := 2#32
  let v491 : BitVec 32 := Scalar.divsi v490 c2_i32_397
  let c2_i32_396 : BitVec 32 := 2#32
  let v492 : BitVec 32 := Scalar.remsi v491 c2_i32_396
  let c1_i32_402 : BitVec 32 := 1#32
  let v498 : BitVec 32 := Scalar.addi v492 c1_i32_402
  let c2_i32_403 : BitVec 32 := 2#32
  let v499 : BitVec 32 := Scalar.remsi v498 c2_i32_403
  let c2_i32_425 : BitVec 32 := 2#32
  let v522 : BitVec 32 := Scalar.muli v499 c2_i32_425
  let v523 : BitVec 32 := Scalar.addi v521 v522
  let v493 : BitVec 32 := Dev.word d0
  let c1_i32_399 : BitVec 32 := 1#32
  let v494 : BitVec 32 := Scalar.divsi v493 c1_i32_399
  let c2_i32_398 : BitVec 32 := 2#32
  let v495 : BitVec 32 := Scalar.remsi v494 c2_i32_398
  let c1_i32_404 : BitVec 32 := 1#32
  let v500 : BitVec 32 := Scalar.addi v495 c1_i32_404
  let c2_i32_405 : BitVec 32 := 2#32
  let v501 : BitVec 32 := Scalar.remsi v500 c2_i32_405
  let c1_i32_426 : BitVec 32 := 1#32
  let v524 : BitVec 32 := Scalar.muli v501 c1_i32_426
  let v525 : BitVec 32 := Scalar.addi v523 v524
  v525.toNat
def k0_dev27 (d0 : Dev nD) : Nat :=
  let c0_i32_436 : BitVec 32 := 0#32
  let v487 : BitVec 32 := Dev.word d0
  let c4_i32_395 : BitVec 32 := 4#32
  let v488 : BitVec 32 := Scalar.divsi v487 c4_i32_395
  let c2_i32_394 : BitVec 32 := 2#32
  let v489 : BitVec 32 := Scalar.remsi v488 c2_i32_394
  let c1_i32_400 : BitVec 32 := 1#32
  let v496 : BitVec 32 := Scalar.addi v489 c1_i32_400
  let c2_i32_401 : BitVec 32 := 2#32
  let v497 : BitVec 32 := Scalar.remsi v496 c2_i32_401
  let c4_i32_435 : BitVec 32 := 4#32
  let v534 : BitVec 32 := Scalar.muli v497 c4_i32_435
  let v535 : BitVec 32 := Scalar.addi c0_i32_436 v534
  let v490 : BitVec 32 := Dev.word d0
  let c2_i32_397 : BitVec 32 := 2#32
  let v491 : BitVec 32 := Scalar.divsi v490 c2_i32_397
  let c2_i32_396 : BitVec 32 := 2#32
  let v492 : BitVec 32 := Scalar.remsi v491 c2_i32_396
  let c1_i32_402 : BitVec 32 := 1#32
  let v498 : BitVec 32 := Scalar.addi v492 c1_i32_402
  let c2_i32_403 : BitVec 32 := 2#32
  let v499 : BitVec 32 := Scalar.remsi v498 c2_i32_403
  let c2_i32_437 : BitVec 32 := 2#32
  let v536 : BitVec 32 := Scalar.muli v499 c2_i32_437
  let v537 : BitVec 32 := Scalar.addi v535 v536
  let v493 : BitVec 32 := Dev.word d0
  let c1_i32_399 : BitVec 32 := 1#32
  let v494 : BitVec 32 := Scalar.divsi v493 c1_i32_399
  let c2_i32_398 : BitVec 32 := 2#32
  let v495 : BitVec 32 := Scalar.remsi v494 c2_i32_398
  let c1_i32_404 : BitVec 32 := 1#32
  let v500 : BitVec 32 := Scalar.addi v495 c1_i32_404
  let c2_i32_405 : BitVec 32 := 2#32
  let v501 : BitVec 32 := Scalar.remsi v500 c2_i32_405
  let c1_i32_438 : BitVec 32 := 1#32
  let v538 : BitVec 32 := Scalar.muli v501 c1_i32_438
  let v539 : BitVec 32 := Scalar.addi v537 v538
  v539.toNat
def k0_dev28 (d0 : Dev nD) : Nat :=
  let c0_i32_448 : BitVec 32 := 0#32
  let v487 : BitVec 32 := Dev.word d0
  let c4_i32_395 : BitVec 32 := 4#32
  let v488 : BitVec 32 := Scalar.divsi v487 c4_i32_395
  let c2_i32_394 : BitVec 32 := 2#32
  let v489 : BitVec 32 := Scalar.remsi v488 c2_i32_394
  let c1_i32_400 : BitVec 32 := 1#32
  let v496 : BitVec 32 := Scalar.addi v489 c1_i32_400
  let c2_i32_401 : BitVec 32 := 2#32
  let v497 : BitVec 32 := Scalar.remsi v496 c2_i32_401
  let c4_i32_447 : BitVec 32 := 4#32
  let v548 : BitVec 32 := Scalar.muli v497 c4_i32_447
  let v549 : BitVec 32 := Scalar.addi c0_i32_448 v548
  let v490 : BitVec 32 := Dev.word d0
  let c2_i32_397 : BitVec 32 := 2#32
  let v491 : BitVec 32 := Scalar.divsi v490 c2_i32_397
  let c2_i32_396 : BitVec 32 := 2#32
  let v492 : BitVec 32 := Scalar.remsi v491 c2_i32_396
  let c1_i32_402 : BitVec 32 := 1#32
  let v498 : BitVec 32 := Scalar.addi v492 c1_i32_402
  let c2_i32_403 : BitVec 32 := 2#32
  let v499 : BitVec 32 := Scalar.remsi v498 c2_i32_403
  let c2_i32_449 : BitVec 32 := 2#32
  let v550 : BitVec 32 := Scalar.muli v499 c2_i32_449
  let v551 : BitVec 32 := Scalar.addi v549 v550
  let v493 : BitVec 32 := Dev.word d0
  let c1_i32_399 : BitVec 32 := 1#32
  let v494 : BitVec 32 := Scalar.divsi v493 c1_i32_399
  let c2_i32_398 : BitVec 32 := 2#32
  let v495 : BitVec 32 := Scalar.remsi v494 c2_i32_398
  let c1_i32_404 : BitVec 32 := 1#32
  let v500 : BitVec 32 := Scalar.addi v495 c1_i32_404
  let c2_i32_405 : BitVec 32 := 2#32
  let v501 : BitVec 32 := Scalar.remsi v500 c2_i32_405
  let c1_i32_450 : BitVec 32 := 1#32
  let v552 : BitVec 32 := Scalar.muli v501 c1_i32_450
  let v553 : BitVec 32 := Scalar.addi v551 v552
  v553.toNat
abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x128x1408 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1408 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x1408 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x1408 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x1408 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x1408 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x1408 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![2], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x128x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S128x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S128x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S128x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S128x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S128x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![1], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S8x128x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S128x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S128x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S128x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S128x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S128x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S128x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev stage3_7 : Fin 1 → Memref sig .tc .vmem S128x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![true]

abbrev grid4 : Pipeline.Grid := ⟨1, ![1], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S8x128x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S128x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev stage4_2 : Fin 1 → Memref sig .tc .vmem S128x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S128x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev stage4_4 : Fin 1 → Memref sig .tc .vmem S128x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true]

abbrev stage4_5 : Fin 1 → Memref sig .tc .vmem S128x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true]

abbrev stage4_6 : Fin 1 → Memref sig .tc .vmem S128x1024 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![true]

abbrev stage4_7 : Fin 1 → Memref sig .tc .vmem S128x1024 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![true]
-- ==== UpdateRefIdeal.lean ====
abbrev S64x1024x1408 : Shape := ⟨3, ![64, 1024, 1408]⟩
abbrev S64x256x1024 : Shape := ⟨3, ![64, 256, 1024]⟩
abbrev S64x128x1024 : Shape := ⟨3, ![64, 128, 1024]⟩
abbrev S1024x11264 : Shape := ⟨2, ![1024, 11264]⟩
abbrev S2048x1024 : Shape := ⟨2, ![2048, 1024]⟩
abbrev S1024x1024 : Shape := ⟨2, ![1024, 1024]⟩
abbrev S8x8x1024x1408 : Shape := ⟨4, ![8, 8, 1024, 1408]⟩
abbrev S_ : Shape := ⟨0, ![]⟩
abbrev S8x1024x1408 : Shape := ⟨3, ![8, 1024, 1408]⟩
abbrev S8x8x256x1024 : Shape := ⟨4, ![8, 8, 256, 1024]⟩
abbrev S8x256x1024 : Shape := ⟨3, ![8, 256, 1024]⟩
abbrev S8x8x128x1024 : Shape := ⟨4, ![8, 8, 128, 1024]⟩
abbrev S8x128x1024 : Shape := ⟨3, ![8, 128, 1024]⟩
abbrev S1024x8x1408 : Shape := ⟨3, ![1024, 8, 1408]⟩

abbrev nBuf : Space → Nat
  | .hbm => 169
  | .vmem => 0
  | .smem => 0
  | _ => 0

abbrev hbmTy0_0 (i : Nat) : BufTy := match i % 128 with
  | 0 => ⟨S64x1024x1408, .bf16⟩
  | 1 => ⟨S64x256x1024, .bf16⟩
  | 2 => ⟨S64x128x1024, .bf16⟩
  | 3 => ⟨S64x128x1024, .bf16⟩
  | 4 => ⟨S1024x11264, .f32⟩
  | 5 => ⟨S2048x1024, .f32⟩
  | 6 => ⟨S1024x1024, .f32⟩
  | 7 => ⟨S1024x1024, .f32⟩
  | 8 => ⟨S1024x11264, .f32⟩
  | 9 => ⟨S2048x1024, .f32⟩
  | 10 => ⟨S1024x1024, .f32⟩
  | 11 => ⟨S1024x1024, .f32⟩
  | 12 => ⟨S1024x11264, .f32⟩
  | 13 => ⟨S2048x1024, .f32⟩
  | 14 => ⟨S1024x1024, .f32⟩
  | 15 => ⟨S1024x1024, .f32⟩
  | 16 => ⟨S64x1024x1408, .f32⟩
  | 17 => ⟨S8x8x1024x1408, .f32⟩
  | 18 => ⟨S_, .f32⟩
  | 19 => ⟨S8x1024x1408, .f32⟩
  | 20 => ⟨S64x256x1024, .f32⟩
  | 21 => ⟨S8x8x256x1024, .f32⟩
  | 22 => ⟨S_, .f32⟩
  | 23 => ⟨S8x256x1024, .f32⟩
  | 24 => ⟨S64x128x1024, .f32⟩
  | 25 => ⟨S8x8x128x1024, .f32⟩
  | 26 => ⟨S_, .f32⟩
  | 27 => ⟨S8x128x1024, .f32⟩
  | 28 => ⟨S64x128x1024, .f32⟩
  | 29 => ⟨S8x8x128x1024, .f32⟩
  | 30 => ⟨S_, .f32⟩
  | 31 => ⟨S8x128x1024, .f32⟩
  | 32 => ⟨S1024x8x1408, .f32⟩
  | 33 => ⟨S1024x11264, .f32⟩
  | 34 => ⟨S2048x1024, .f32⟩
  | 35 => ⟨S1024x1024, .f32⟩
  | 36 => ⟨S1024x1024, .f32⟩
  | 37 => ⟨S_, .f32⟩
  | 38 => ⟨S1024x11264, .f32⟩
  | 39 => ⟨S1024x11264, .f32⟩
  | 40 => ⟨S_, .f32⟩
  | 41 => ⟨S1024x11264, .f32⟩
  | 42 => ⟨S1024x11264, .f32⟩
  | 43 => ⟨S1024x11264, .f32⟩
  | 44 => ⟨S_, .f32⟩
  | 45 => ⟨S1024x11264, .f32⟩
  | 46 => ⟨S1024x11264, .f32⟩
  | 47 => ⟨S1024x11264, .f32⟩
  | 48 => ⟨S_, .f32⟩
  | 49 => ⟨S1024x11264, .f32⟩
  | 50 => ⟨S1024x11264, .f32⟩
  | 51 => ⟨S1024x11264, .f32⟩
  | 52 => ⟨S_, .f32⟩
  | 53 => ⟨S1024x11264, .f32⟩
  | 54 => ⟨S1024x11264, .f32⟩
  | 55 => ⟨S_, .f32⟩
  | 56 => ⟨S1024x11264, .f32⟩
  | 57 => ⟨S1024x11264, .f32⟩
  | 58 => ⟨S1024x11264, .f32⟩
  | 59 => ⟨S_, .f32⟩
  | 60 => ⟨S1024x11264, .f32⟩
  | 61 => ⟨S1024x11264, .f32⟩
  | 62 => ⟨S1024x11264, .f32⟩
  | 63 => ⟨S_, .f32⟩
  | 64 => ⟨S1024x11264, .f32⟩
  | 65 => ⟨S1024x11264, .f32⟩
  | 66 => ⟨S1024x11264, .f32⟩
  | 67 => ⟨S_, .f32⟩
  | 68 => ⟨S1024x11264, .f32⟩
  | 69 => ⟨S1024x11264, .f32⟩
  | 70 => ⟨S_, .f32⟩
  | 71 => ⟨S2048x1024, .f32⟩
  | 72 => ⟨S2048x1024, .f32⟩
  | 73 => ⟨S_, .f32⟩
  | 74 => ⟨S2048x1024, .f32⟩
  | 75 => ⟨S2048x1024, .f32⟩
  | 76 => ⟨S2048x1024, .f32⟩
  | 77 => ⟨S_, .f32⟩
  | 78 => ⟨S2048x1024, .f32⟩
  | 79 => ⟨S2048x1024, .f32⟩
  | 80 => ⟨S2048x1024, .f32⟩
  | 81 => ⟨S_, .f32⟩
  | 82 => ⟨S2048x1024, .f32⟩
  | 83 => ⟨S2048x1024, .f32⟩
  | 84 => ⟨S2048x1024, .f32⟩
  | 85 => ⟨S_, .f32⟩
  | 86 => ⟨S2048x1024, .f32⟩
  | 87 => ⟨S2048x1024, .f32⟩
  | 88 => ⟨S_, .f32⟩
  | 89 => ⟨S2048x1024, .f32⟩
  | 90 => ⟨S2048x1024, .f32⟩
  | 91 => ⟨S2048x1024, .f32⟩
  | 92 => ⟨S_, .f32⟩
  | 93 => ⟨S2048x1024, .f32⟩
  | 94 => ⟨S2048x1024, .f32⟩
  | 95 => ⟨S2048x1024, .f32⟩
  | 96 => ⟨S_, .f32⟩
  | 97 => ⟨S2048x1024, .f32⟩
  | 98 => ⟨S2048x1024, .f32⟩
  | 99 => ⟨S2048x1024, .f32⟩
  | 100 => ⟨S_, .f32⟩
  | 101 => ⟨S2048x1024, .f32⟩
  | 102 => ⟨S2048x1024, .f32⟩
  | 103 => ⟨S_, .f32⟩
  | 104 => ⟨S1024x1024, .f32⟩
  | 105 => ⟨S1024x1024, .f32⟩
  | 106 => ⟨S_, .f32⟩
  | 107 => ⟨S1024x1024, .f32⟩
  | 108 => ⟨S1024x1024, .f32⟩
  | 109 => ⟨S1024x1024, .f32⟩
  | 110 => ⟨S_, .f32⟩
  | 111 => ⟨S1024x1024, .f32⟩
  | 112 => ⟨S1024x1024, .f32⟩
  | 113 => ⟨S1024x1024, .f32⟩
  | 114 => ⟨S_, .f32⟩
  | 115 => ⟨S1024x1024, .f32⟩
  | 116 => ⟨S1024x1024, .f32⟩
  | 117 => ⟨S1024x1024, .f32⟩
  | 118 => ⟨S_, .f32⟩
  | 119 => ⟨S1024x1024, .f32⟩
  | 120 => ⟨S1024x1024, .f32⟩
  | 121 => ⟨S_, .f32⟩
  | 122 => ⟨S1024x1024, .f32⟩
  | 123 => ⟨S1024x1024, .f32⟩
  | 124 => ⟨S1024x1024, .f32⟩
  | 125 => ⟨S_, .f32⟩
  | 126 => ⟨S1024x1024, .f32⟩
  | 127 => ⟨S1024x1024, .f32⟩
  | _ => ⟨S64x1024x1408, .bf16⟩

abbrev hbmTy0_1 (i : Nat) : BufTy := match i % 128 with
  | 0 => ⟨S1024x1024, .f32⟩
  | 1 => ⟨S_, .f32⟩
  | 2 => ⟨S1024x1024, .f32⟩
  | 3 => ⟨S1024x1024, .f32⟩
  | 4 => ⟨S1024x1024, .f32⟩
  | 5 => ⟨S_, .f32⟩
  | 6 => ⟨S1024x1024, .f32⟩
  | 7 => ⟨S1024x1024, .f32⟩
  | 8 => ⟨S_, .f32⟩
  | 9 => ⟨S1024x1024, .f32⟩
  | 10 => ⟨S1024x1024, .f32⟩
  | 11 => ⟨S_, .f32⟩
  | 12 => ⟨S1024x1024, .f32⟩
  | 13 => ⟨S1024x1024, .f32⟩
  | 14 => ⟨S1024x1024, .f32⟩
  | 15 => ⟨S_, .f32⟩
  | 16 => ⟨S1024x1024, .f32⟩
  | 17 => ⟨S1024x1024, .f32⟩
  | 18 => ⟨S1024x1024, .f32⟩
  | 19 => ⟨S_, .f32⟩
  | 20 => ⟨S1024x1024, .f32⟩
  | 21 => ⟨S1024x1024, .f32⟩
  | 22 => ⟨S1024x1024, .f32⟩
  | 23 => ⟨S_, .f32⟩
  | 24 => ⟨S1024x1024, .f32⟩
  | 25 => ⟨S1024x1024, .f32⟩
  | 26 => ⟨S_, .f32⟩
  | 27 => ⟨S1024x1024, .f32⟩
  | 28 => ⟨S1024x1024, .f32⟩
  | 29 => ⟨S1024x1024, .f32⟩
  | 30 => ⟨S_, .f32⟩
  | 31 => ⟨S1024x1024, .f32⟩
  | 32 => ⟨S1024x1024, .f32⟩
  | 33 => ⟨S1024x1024, .f32⟩
  | 34 => ⟨S_, .f32⟩
  | 35 => ⟨S1024x1024, .f32⟩
  | 36 => ⟨S1024x1024, .f32⟩
  | 37 => ⟨S1024x1024, .f32⟩
  | 38 => ⟨S_, .f32⟩
  | 39 => ⟨S1024x1024, .f32⟩
  | 40 => ⟨S1024x1024, .f32⟩
  | _ => ⟨S64x1024x1408, .bf16⟩

abbrev hbmTy (i : Nat) : BufTy := match i / 128 with
  | 0 => hbmTy0_0 i
  | 1 => hbmTy0_1 i
  | _ => ⟨S64x1024x1408, .bf16⟩

abbrev bufTy : (tb : Table) → Fin (tcTables nBuf tb) → BufTy
  | .hbm, ⟨i, _⟩ => hbmTy i
  | _, _ => ⟨S64x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_cst_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_6 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_7 : Ref sig .tc := ⟨.hbm, 52, rfl⟩
abbrev main_v28 : Ref sig .tc := ⟨.hbm, 53, rfl⟩
abbrev main_v29 : Ref sig .tc := ⟨.hbm, 54, rfl⟩
abbrev main_cst_8 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_9 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_10 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_11 : Ref sig .tc := ⟨.hbm, 67, rfl⟩
abbrev main_v39 : Ref sig .tc := ⟨.hbm, 68, rfl⟩
abbrev main_v40 : Ref sig .tc := ⟨.hbm, 69, rfl⟩
abbrev main_cst_12 : Ref sig .tc := ⟨.hbm, 70, rfl⟩
abbrev main_v41 : Ref sig .tc := ⟨.hbm, 71, rfl⟩
abbrev main_v42 : Ref sig .tc := ⟨.hbm, 72, rfl⟩
abbrev main_cst_13 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_14 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_15 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_16 : Ref sig .tc := ⟨.hbm, 85, rfl⟩
abbrev main_v52 : Ref sig .tc := ⟨.hbm, 86, rfl⟩
abbrev main_v53 : Ref sig .tc := ⟨.hbm, 87, rfl⟩
abbrev main_cst_17 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_18 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_19 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_20 : Ref sig .tc := ⟨.hbm, 100, rfl⟩
abbrev main_v63 : Ref sig .tc := ⟨.hbm, 101, rfl⟩
abbrev main_v64 : Ref sig .tc := ⟨.hbm, 102, rfl⟩
abbrev main_cst_21 : Ref sig .tc := ⟨.hbm, 103, rfl⟩
abbrev main_v65 : Ref sig .tc := ⟨.hbm, 104, rfl⟩
abbrev main_v66 : Ref sig .tc := ⟨.hbm, 105, rfl⟩
abbrev main_cst_22 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_23 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_24 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_25 : Ref sig .tc := ⟨.hbm, 118, rfl⟩
abbrev main_v76 : Ref sig .tc := ⟨.hbm, 119, rfl⟩
abbrev main_v77 : Ref sig .tc := ⟨.hbm, 120, rfl⟩
abbrev main_cst_26 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_27 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_cst_28 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_cst_29 : Ref sig .tc := ⟨.hbm, 133, rfl⟩
abbrev main_v87 : Ref sig .tc := ⟨.hbm, 134, rfl⟩
abbrev main_v88 : Ref sig .tc := ⟨.hbm, 135, rfl⟩
abbrev main_cst_30 : Ref sig .tc := ⟨.hbm, 136, rfl⟩
abbrev main_v89 : Ref sig .tc := ⟨.hbm, 137, rfl⟩
abbrev main_v90 : Ref sig .tc := ⟨.hbm, 138, rfl⟩
abbrev main_cst_31 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_cst_32 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_cst_33 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_cst_34 : Ref sig .tc := ⟨.hbm, 151, rfl⟩
abbrev main_v100 : Ref sig .tc := ⟨.hbm, 152, rfl⟩
abbrev main_v101 : Ref sig .tc := ⟨.hbm, 153, rfl⟩
abbrev main_cst_35 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_cst_36 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_cst_37 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_cst_38 : Ref sig .tc := ⟨.hbm, 166, rfl⟩
abbrev main_v111 : Ref sig .tc := ⟨.hbm, 167, rfl⟩
abbrev main_v112 : Ref sig .tc := ⟨.hbm, 168, rfl⟩

abbrev nD : Nat := 1
abbrev τ : Topo := Topo.v7x

variable {F : FTy → Type} [FloatOps F]
-- ==== SumSmall.lean ====
abbrev S8x56x1024 : Shape := ⟨3, ![8, 56, 1024]⟩
abbrev S56x1024 : Shape := ⟨2, ![56, 1024]⟩
abbrev S1x56x1024 : Shape := ⟨3, ![1, 56, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x56x1024, .f32⟩
  | .hbm, ⟨1, _⟩ => ⟨S56x1024, .f32⟩
  | .local _ .vmem, ⟨0, _⟩ => ⟨S8x56x1024, .f32⟩
  | .local _ .vmem, ⟨1, _⟩ => ⟨S56x1024, .f32⟩
  | _, _ => ⟨S8x56x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x56x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S56x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallRefIdeal.lean ====
abbrev S8x56x1024 : Shape := ⟨3, ![8, 56, 1024]⟩
abbrev S_ : Shape := ⟨0, ![]⟩
abbrev S56x1024 : Shape := ⟨2, ![56, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x56x1024, .f32⟩
  | .hbm, ⟨1, _⟩ => ⟨S_, .f32⟩
  | .hbm, ⟨2, _⟩ => ⟨S56x1024, .f32⟩
  | _, _ => ⟨S8x56x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GradAda.lean ====
abbrev S1024x8 : Shape := ⟨2, ![1024, 8]⟩
abbrev S8x384 : Shape := ⟨2, ![8, 384]⟩
abbrev S1024x384 : Shape := ⟨2, ![1024, 384]⟩
abbrev S1024x1 : Shape := ⟨2, ![1024, 1]⟩
abbrev S1x384 : Shape := ⟨2, ![1, 384]⟩

abbrev nBuf : Space → Nat
  | .hbm => 3
  | .vmem => 3
  | .smem => 0
  | _ => 0

abbrev bufTy : (tb : Table) → Fin (tcTables nBuf tb) → BufTy
  | .hbm, ⟨0, _⟩ => ⟨S1024x8, .f32⟩
  | .hbm, ⟨1, _⟩ => ⟨S8x384, .f32⟩
  | .hbm, ⟨2, _⟩ => ⟨S1024x384, .f32⟩
  | .local _ .vmem, ⟨0, _⟩ => ⟨S1024x8, .f32⟩
  | .local _ .vmem, ⟨1, _⟩ => ⟨S8x384, .f32⟩
  | .local _ .vmem, ⟨2, _⟩ => ⟨S1024x384, .f32⟩
  | _, _ => ⟨S1024x8, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== GradAdaRefIdeal.lean ====
abbrev S1024x8 : Shape := ⟨2, ![1024, 8]⟩
abbrev S8x384 : Shape := ⟨2, ![8, 384]⟩
abbrev S1024x384 : Shape := ⟨2, ![1024, 384]⟩

abbrev nBuf : Space → Nat
  | .hbm => 3
  | .vmem => 0
  | .smem => 0
  | _ => 0

abbrev bufTy : (tb : Table) → Fin (tcTables nBuf tb) → BufTy
  | .hbm, ⟨0, _⟩ => ⟨S1024x8, .f32⟩
  | .hbm, ⟨1, _⟩ => ⟨S8x384, .f32⟩
  | .hbm, ⟨2, _⟩ => ⟨S1024x384, .f32⟩
  | _, _ => ⟨S1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamSmall.lean ====
abbrev S8x1024 : Shape := ⟨2, ![8, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamSmallRefIdeal.lean ====
abbrev S8x1024 : Shape := ⟨2, ![8, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S_, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S_, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S8x1024, .f32⟩
  | .hbm, ⟨26, _⟩ => ⟨S_, .f32⟩
  | .hbm, ⟨27, _⟩ => ⟨S8x1024, .f32⟩
  | .hbm, ⟨28, _⟩ => ⟨S8x1024, .f32⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S_, .f32⟩
  | .hbm, ⟨35, _⟩ => ⟨S8x1024, .f32⟩
  | .hbm, ⟨36, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S32x128 : Shape := ⟨2, ![32, 128]⟩

abbrev nBuf : Space → Nat
  | .hbm => 7
  | .vmem => 7
  | .smem => 0
  | _ => 0

abbrev bufTy : (tb : Table) → Fin (tcTables nBuf tb) → BufTy
  | .hbm, ⟨0, _⟩ => ⟨S32x128, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S32x128, .f32⟩
  | .hbm, ⟨5, _⟩ => ⟨S32x128, .f32⟩
  | .hbm, ⟨6, _⟩ => ⟨S32x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | _, _ => ⟨S32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamConvRefIdeal.lean ====
abbrev S32x128 : Shape := ⟨2, ![32, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x128, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S_, .f32⟩
  | .hbm, ⟨5, _⟩ => ⟨S32x128, .f32⟩
  | .hbm, ⟨6, _⟩ => ⟨S32x128, .f32⟩
  | .hbm, ⟨7, _⟩ => ⟨S_, .f32⟩
  | .hbm, ⟨8, _⟩ => ⟨S32x128, .f32⟩
  | .hbm, ⟨9, _⟩ => ⟨S32x128, .f32⟩
  | .hbm, ⟨10, _⟩ => ⟨S32x128, .f32⟩
  | .hbm, ⟨11, _⟩ => ⟨S_, .f32⟩
  | .hbm, ⟨12, _⟩ => ⟨S32x128, .f32⟩
  | .hbm, ⟨13, _⟩ => ⟨S32x128, .f32⟩
  | .hbm, ⟨14, _⟩ => ⟨S32x128, .f32⟩
  | .hbm, ⟨15, _⟩ => ⟨S_, .f32⟩
  | .hbm, ⟨16, _⟩ => ⟨S32x128, .f32⟩
  | .hbm, ⟨17, _⟩ => ⟨S32x128, .f32⟩
  | .hbm, ⟨18, _⟩ => ⟨S32x128, .f32⟩
  | .hbm, ⟨19, _⟩ => ⟨S_, .f32⟩
  | .hbm, ⟨20, _⟩ => ⟨S32x128, .f32⟩
  | .hbm, ⟨21, _⟩ => ⟨S32x128, .f32⟩
  | .hbm, ⟨22, _⟩ => ⟨S_, .f32⟩
  | .hbm, ⟨23, _⟩ => ⟨S32x128, .f32⟩
  | .hbm, ⟨24, _⟩ => ⟨S32x128, .f32⟩
  | .hbm, ⟨25, _⟩ => ⟨S32x128, .f32⟩
  | .hbm, ⟨26, _⟩ => ⟨S_, .f32⟩
  | .hbm, ⟨27, _⟩ => ⟨S32x128, .f32⟩
  | .hbm, ⟨28, _⟩ => ⟨S32x128, .f32⟩
  | .hbm, ⟨29, _⟩ => ⟨S32x128, .f32⟩
  | .hbm, ⟨30, _⟩ => ⟨S_, .f32⟩
  | .hbm, ⟨31, _⟩ => ⟨S32x128, .f32⟩
  | .hbm, ⟨32, _⟩ => ⟨S32x128, .f32⟩
  | .hbm, ⟨33, _⟩ => ⟨S32x128, .f32⟩
  | .hbm, ⟨34, _⟩ => ⟨S_, .f32⟩
  | .hbm, ⟨35, _⟩ => ⟨S32x128, .f32⟩
  | .hbm, ⟨36, _⟩ => ⟨S32x128, .f32⟩
  | _, _ => ⟨S32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAda.lean ====
abbrev S1024x384 : Shape := ⟨2, ![1024, 384]⟩

abbrev nBuf : Space → Nat
  | .hbm => 7
  | .vmem => 7
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .local _ .vmem, ⟨0, _⟩ => ⟨S1024x384, .f32⟩
  | .local _ .vmem, ⟨1, _⟩ => ⟨S1024x384, .f32⟩
  | .local _ .vmem, ⟨2, _⟩ => ⟨S1024x384, .f32⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | _, _ => ⟨S1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1024x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamAdaRefIdeal.lean ====
abbrev S1024x384 : Shape := ⟨2, ![1024, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S_, .f32⟩
  | .hbm, ⟨5, _⟩ => ⟨S1024x384, .f32⟩
  | .hbm, ⟨6, _⟩ => ⟨S1024x384, .f32⟩
  | .hbm, ⟨7, _⟩ => ⟨S_, .f32⟩
  | .hbm, ⟨8, _⟩ => ⟨S1024x384, .f32⟩
  | .hbm, ⟨9, _⟩ => ⟨S1024x384, .f32⟩
  | .hbm, ⟨10, _⟩ => ⟨S1024x384, .f32⟩
  | .hbm, ⟨11, _⟩ => ⟨S_, .f32⟩
  | .hbm, ⟨12, _⟩ => ⟨S1024x384, .f32⟩
  | .hbm, ⟨13, _⟩ => ⟨S1024x384, .f32⟩
  | .hbm, ⟨14, _⟩ => ⟨S1024x384, .f32⟩
  | .hbm, ⟨15, _⟩ => ⟨S_, .f32⟩
  | .hbm, ⟨16, _⟩ => ⟨S1024x384, .f32⟩
  | .hbm, ⟨17, _⟩ => ⟨S1024x384, .f32⟩
  | .hbm, ⟨18, _⟩ => ⟨S1024x384, .f32⟩
  | .hbm, ⟨19, _⟩ => ⟨S_, .f32⟩
  | .hbm, ⟨20, _⟩ => ⟨S1024x384, .f32⟩
  | .hbm, ⟨21, _⟩ => ⟨S1024x384, .f32⟩
  | .hbm, ⟨22, _⟩ => ⟨S_, .f32⟩
  | .hbm, ⟨23, _⟩ => ⟨S1024x384, .f32⟩
  | .hbm, ⟨24, _⟩ => ⟨S1024x384, .f32⟩
  | .hbm, ⟨25, _⟩ => ⟨S1024x384, .f32⟩
  | .hbm, ⟨26, _⟩ => ⟨S_, .f32⟩
  | .hbm, ⟨27, _⟩ => ⟨S1024x384, .f32⟩
  | .hbm, ⟨28, _⟩ => ⟨S1024x384, .f32⟩
  | .hbm, ⟨29, _⟩ => ⟨S1024x384, .f32⟩
  | .hbm, ⟨30, _⟩ => ⟨S_, .f32⟩
  | .hbm, ⟨31, _⟩ => ⟨S1024x384, .f32⟩
  | .hbm, ⟨32, _⟩ => ⟨S1024x384, .f32⟩
  | .hbm, ⟨33, _⟩ => ⟨S1024x384, .f32⟩
  | .hbm, ⟨34, _⟩ => ⟨S_, .f32⟩
  | .hbm, ⟨35, _⟩ => ⟨S1024x384, .f32⟩
  | .hbm, ⟨36, _⟩ => ⟨S1024x384, .f32⟩
  | _, _ => ⟨S1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ModPart.lean ====
abbrev S8x1024 : Shape := ⟨2, ![8, 1024]⟩
abbrev S1024x384 : Shape := ⟨2, ![1024, 384]⟩
abbrev S1x384 : Shape := ⟨2, ![1, 384]⟩
abbrev S8x384 : Shape := ⟨2, ![8, 384]⟩

abbrev nBuf : Space → Nat
  | .hbm => 4
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1024x384, .f32⟩
  | .hbm, ⟨2, _⟩ => ⟨S1x384, .f32⟩
  | .hbm, ⟨3, _⟩ => ⟨S8x384, .f32⟩
  | .local _ .vmem, ⟨0, _⟩ => ⟨S8x1024, .f32⟩
  | .local _ .vmem, ⟨1, _⟩ => ⟨S1024x384, .f32⟩
  | .local _ .vmem, ⟨2, _⟩ => ⟨S1x384, .f32⟩
  | .local _ .vmem, ⟨3, _⟩ => ⟨S8x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ModPartRefIdeal.lean ====
abbrev S8x1024 : Shape := ⟨2, ![8, 1024]⟩
abbrev S1024x384 : Shape := ⟨2, ![1024, 384]⟩
abbrev S1x384 : Shape := ⟨2, ![1, 384]⟩
abbrev S8x384 : Shape := ⟨2, ![8, 384]⟩

abbrev nBuf : Space → Nat
  | .hbm => 6
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x384, .f32⟩
  | .hbm, ⟨2, _⟩ => ⟨S1x384, .f32⟩
  | .hbm, ⟨3, _⟩ => ⟨S8x384, .f32⟩
  | .hbm, ⟨4, _⟩ => ⟨S8x384, .f32⟩
  | .hbm, ⟨5, _⟩ => ⟨S8x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DwOut.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwOutRefIdeal.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S1024x8192, .f32⟩
  | .hbm, ⟨4, _⟩ => ⟨S8192x1024, .f32⟩
  | .hbm, ⟨5, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwRet.lean ====
abbrev S8192x2048 : Shape := ⟨2, ![8192, 2048]⟩
abbrev S8192x1024 : Shape := ⟨2, ![8192, 1024]⟩
abbrev S2048x1024 : Shape := ⟨2, ![2048, 1024]⟩
abbrev S512x2048 : Shape := ⟨2, ![512, 2048]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwRetRefIdeal.lean ====
abbrev S8192x2048 : Shape := ⟨2, ![8192, 2048]⟩
abbrev S8192x1024 : Shape := ⟨2, ![8192, 1024]⟩
abbrev S2048x8192 : Shape := ⟨2, ![2048, 8192]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S2048x8192, .f32⟩
  | .hbm, ⟨4, _⟩ => ⟨S8192x1024, .f32⟩
  | .hbm, ⟨5, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradX.lean ====
abbrev S8192x6144 : Shape := ⟨2, ![8192, 6144]⟩
abbrev S8192x3072 : Shape := ⟨2, ![8192, 3072]⟩
abbrev S8192x2048 : Shape := ⟨2, ![8192, 2048]⟩
abbrev S1024x6144 : Shape := ⟨2, ![1024, 6144]⟩
abbrev S1024x3072 : Shape := ⟨2, ![1024, 3072]⟩
abbrev S1024x2048 : Shape := ⟨2, ![1024, 2048]⟩
abbrev S8192x1024 : Shape := ⟨2, ![8192, 1024]⟩
abbrev S1x1024 : Shape := ⟨2, ![1, 1024]⟩
abbrev S8x1024 : Shape := ⟨2, ![8, 1024]⟩
abbrev S256x6144 : Shape := ⟨2, ![256, 6144]⟩
abbrev S256x3072 : Shape := ⟨2, ![256, 3072]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 12
  | .vmem => 18
  | .smem => 0
  | _ => 0

abbrev bufTy : (tb : Table) → Fin (tcTables nBuf tb) → BufTy
  | .hbm, ⟨0, _⟩ => ⟨S8192x6144, .bf16⟩
  | .hbm, ⟨1, _⟩ => ⟨S8192x3072, .bf16⟩
  | .hbm, ⟨2, _⟩ => ⟨S8192x2048, .bf16⟩
  | .hbm, ⟨3, _⟩ => ⟨S1024x6144, .bf16⟩
  | .hbm, ⟨4, _⟩ => ⟨S1024x3072, .bf16⟩
  | .hbm, ⟨5, _⟩ => ⟨S1024x2048, .bf16⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8x1024, .f32⟩
  | .local _ .vmem, ⟨0, _⟩ => ⟨S256x6144, .bf16⟩
  | .local _ .vmem, ⟨1, _⟩ => ⟨S256x6144, .bf16⟩
  | .local _ .vmem, ⟨2, _⟩ => ⟨S256x3072, .bf16⟩
  | .local _ .vmem, ⟨3, _⟩ => ⟨S256x3072, .bf16⟩
  | .local _ .vmem, ⟨4, _⟩ => ⟨S256x2048, .bf16⟩
  | .local _ .vmem, ⟨5, _⟩ => ⟨S256x2048, .bf16⟩
  | .local _ .vmem, ⟨6, _⟩ => ⟨S1024x6144, .bf16⟩
  | .local _ .vmem, ⟨7, _⟩ => ⟨S1024x3072, .bf16⟩
  | .local _ .vmem, ⟨8, _⟩ => ⟨S1024x2048, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S8x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== GradXRefIdeal.lean ====
abbrev S8192x6144 : Shape := ⟨2, ![8192, 6144]⟩
abbrev S8192x3072 : Shape := ⟨2, ![8192, 3072]⟩
abbrev S8192x2048 : Shape := ⟨2, ![8192, 2048]⟩
abbrev S1024x6144 : Shape := ⟨2, ![1024, 6144]⟩
abbrev S1024x3072 : Shape := ⟨2, ![1024, 3072]⟩
abbrev S1024x2048 : Shape := ⟨2, ![1024, 2048]⟩
abbrev S8192x1024 : Shape := ⟨2, ![8192, 1024]⟩
abbrev S1x1024 : Shape := ⟨2, ![1, 1024]⟩
abbrev S6144x1024 : Shape := ⟨2, ![6144, 1024]⟩
abbrev S_ : Shape := ⟨0, ![]⟩
abbrev S3072x1024 : Shape := ⟨2, ![3072, 1024]⟩
abbrev S2048x1024 : Shape := ⟨2, ![2048, 1024]⟩
abbrev S8192 : Shape := ⟨1, ![8192]⟩
abbrev S8192x1 : Shape := ⟨2, ![8192, 1]⟩
abbrev S1024 : Shape := ⟨1, ![1024]⟩
abbrev S3x1024 : Shape := ⟨2, ![3, 1024]⟩
abbrev S8x1024 : Shape := ⟨2, ![8, 1024]⟩

abbrev nBuf : Space → Nat
  | .hbm => 82
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x3072, .bf16⟩
  | .hbm, ⟨2, _⟩ => ⟨S8192x2048, .bf16⟩
  | .hbm, ⟨3, _⟩ => ⟨S1024x6144, .bf16⟩
  | .hbm, ⟨4, _⟩ => ⟨S1024x3072, .bf16⟩
  | .hbm, ⟨5, _⟩ => ⟨S1024x2048, .bf16⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S8192x6144, .f32⟩
  | .hbm, ⟨11, _⟩ => ⟨S1024x6144, .f32⟩
  | .hbm, ⟨12, _⟩ => ⟨S6144x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x3072, .f32⟩
  | .hbm, ⟨18, _⟩ => ⟨S1024x3072, .f32⟩
  | .hbm, ⟨19, _⟩ => ⟨S3072x1024, .f32⟩
  | .hbm, ⟨20, _⟩ => ⟨S8192x1024, .f32⟩
  | .hbm, ⟨21, _⟩ => ⟨S8192x1024, .f32⟩
  | .hbm, ⟨22, _⟩ => ⟨S8192x2048, .f32⟩
  | .hbm, ⟨23, _⟩ => ⟨S1024x2048, .f32⟩
  | .hbm, ⟨24, _⟩ => ⟨S2048x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S_, .f32⟩
  | .hbm, ⟨59, _⟩ => ⟨S1024, .f32⟩
  | .hbm, ⟨60, _⟩ => ⟨S_, .f32⟩
  | .hbm, ⟨61, _⟩ => ⟨S1024, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S3x1024, .f32⟩
  | .hbm, ⟨79, _⟩ => ⟨S_, .i32⟩
  | .hbm, ⟨80, _⟩ => ⟨S_, .f32⟩
  | .hbm, ⟨81, _⟩ => ⟨S8x1024, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c : Ref sig .tc := ⟨.hbm, 79, rfl⟩
abbrev main_call0_v0 : Ref sig .tc := ⟨.hbm, 80, rfl⟩
abbrev main_v58 : Ref sig .tc := ⟨.hbm, 81, rfl⟩

abbrev nD : Nat := 1
abbrev τ : Topo := Topo.v7x

variable {F : FTy → Type} [FloatOps F]
-- ==== Head.lean ====
abbrev S8192x2048 : Shape := ⟨2, ![8192, 2048]⟩
abbrev S8192x1024 : Shape := ⟨2, ![8192, 1024]⟩
abbrev S8192x11264 : Shape := ⟨2, ![8192, 11264]⟩
abbrev S1x1024 : Shape := ⟨2, ![1, 1024]⟩
abbrev S2048x1024 : Shape := ⟨2, ![2048, 1024]⟩
abbrev S1024x1024 : Shape := ⟨2, ![1024, 1024]⟩
abbrev S8x128 : Shape := ⟨2, ![8, 128]⟩
abbrev S8x1024 : Shape := ⟨2, ![8, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1024 : Shape := ⟨1, ![1024]⟩

abbrev nBuf : Space → Nat
  | .hbm => 20
  | .vmem => 35
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x11264, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S2048x1024, .bf16⟩
  | .hbm, ⟨8, _⟩ => ⟨S1024x1024, .bf16⟩
  | .hbm, ⟨9, _⟩ => ⟨S1024x1024, .bf16⟩
  | .hbm, ⟨10, _⟩ => ⟨S8x128, .f32⟩
  | .hbm, ⟨11, _⟩ => ⟨S8192x1024, .f32⟩
  | .hbm, ⟨12, _⟩ => ⟨S8192x2048, .bf16⟩
  | .hbm, ⟨13, _⟩ => ⟨S8192x2048, .f32⟩
  | .hbm, ⟨14, _⟩ => ⟨S8192x1024, .f32⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S8192x1024, .bf16⟩
  | .hbm, ⟨19, _⟩ => ⟨S8x1024, .f32⟩
  | .local _ .vmem, ⟨0, _⟩ => ⟨S256x2048, .bf16⟩
  | .local _ .vmem, ⟨1, _⟩ => ⟨S256x2048, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1x1024, .f32⟩
  | .local _ .vmem, ⟨14, _⟩ => ⟨S2048x1024, .bf16⟩
  | .local _ .vmem, ⟨15, _⟩ => ⟨S1024x1024, .bf16⟩
  | .local _ .vmem, ⟨16, _⟩ => ⟨S1024x1024, .bf16⟩
  | .local _ .vmem, ⟨17, _⟩ => ⟨S8x128, .f32⟩
  | .local _ .vmem, ⟨18, _⟩ => ⟨S256x1024, .f32⟩
  | .local _ .vmem, ⟨19, _⟩ => ⟨S256x1024, .f32⟩
  | .local _ .vmem, ⟨20, _⟩ => ⟨S256x2048, .bf16⟩
  | .local _ .vmem, ⟨21, _⟩ => ⟨S256x2048, .bf16⟩
  | .local _ .vmem, ⟨22, _⟩ => ⟨S256x2048, .f32⟩
  | .local _ .vmem, ⟨23, _⟩ => ⟨S256x2048, .f32⟩
  | .local _ .vmem, ⟨24, _⟩ => ⟨S256x1024, .f32⟩
  | .local _ .vmem, ⟨25, _⟩ => ⟨S256x1024, .f32⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S8x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S8x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== HeadRefIdeal.lean ====
abbrev S8192x2048 : Shape := ⟨2, ![8192, 2048]⟩
abbrev S8192x1024 : Shape := ⟨2, ![8192, 1024]⟩
abbrev S8192x11264 : Shape := ⟨2, ![8192, 11264]⟩
abbrev S1x1024 : Shape := ⟨2, ![1, 1024]⟩
abbrev S2048x1024 : Shape := ⟨2, ![2048, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S2x1024 : Shape := ⟨2, ![2, 1024]⟩
abbrev S8x128 : Shape := ⟨2, ![8, 128]⟩
abbrev S1024x2048 : Shape := ⟨2, ![1024, 2048]⟩
abbrev S8x1024 : Shape := ⟨2, ![8, 1024]⟩

abbrev nBuf : Space → Nat
  | .hbm => 128
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x11264, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S2048x1024, .bf16⟩
  | .hbm, ⟨8, _⟩ => ⟨S1024x1024, .bf16⟩
  | .hbm, ⟨9, _⟩ => ⟨S1024x1024, .bf16⟩
  | .hbm, ⟨10, _⟩ => ⟨S8192x2048, .f32⟩
  | .hbm, ⟨11, _⟩ => ⟨S8192x1024, .f32⟩
  | .hbm, ⟨12, _⟩ => ⟨S2048x1024, .f32⟩
  | .hbm, ⟨13, _⟩ => ⟨S1024x1024, .f32⟩
  | .hbm, ⟨14, _⟩ => ⟨S1024x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S1024x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S_, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x2048, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S_, .f32⟩
  | .hbm, ⟨106, _⟩ => ⟨S1024, .f32⟩
  | .hbm, ⟨107, _⟩ => ⟨S8192x1024, .f32⟩
  | .hbm, ⟨108, _⟩ => ⟨S8192x1024, .f32⟩
  | .hbm, ⟨109, _⟩ => ⟨S8192x1024, .f32⟩
  | .hbm, ⟨110, _⟩ => ⟨S_, .f32⟩
  | .hbm, ⟨111, _⟩ => ⟨S1024, .f32⟩
  | .hbm, ⟨112, _⟩ => ⟨S1x1024, .f32⟩
  | .hbm, ⟨113, _⟩ => ⟨S1x1024, .f32⟩
  | .hbm, ⟨114, _⟩ => ⟨S2x1024, .f32⟩
  | .hbm, ⟨115, _⟩ => ⟨S8x128, .f32⟩
  | .hbm, ⟨116, _⟩ => ⟨S8192x2048, .bf16⟩
  | .hbm, ⟨117, _⟩ => ⟨S1024x2048, .f32⟩
  | .hbm, ⟨118, _⟩ => ⟨S8192x2048, .f32⟩
  | .hbm, ⟨119, _⟩ => ⟨S1024x1024, .f32⟩
  | .hbm, ⟨120, _⟩ => ⟨S8192x1024, .f32⟩
  | .hbm, ⟨121, _⟩ => ⟨S8192x1024, .bf16⟩
  | .hbm, ⟨122, _⟩ => ⟨S8192x1024, .bf16⟩
  | .hbm, ⟨123, _⟩ => ⟨S8192x1024, .bf16⟩
  | .hbm, ⟨124, _⟩ => ⟨S8192x1024, .bf16⟩
  | .hbm, ⟨125, _⟩ => ⟨S_, .i32⟩
  | .hbm, ⟨126, _⟩ => ⟨S_, .f32⟩
  | .hbm, ⟨127, _⟩ => ⟨S8x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_13 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_14 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_15 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_16 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_c : Ref sig .tc := ⟨.hbm, 125, rfl⟩
abbrev main_call0_v0 : Ref sig .tc := ⟨.hbm, 126, rfl⟩
abbrev main_v97 : Ref sig .tc := ⟨.hbm, 127, rfl⟩

abbrev nD : Nat := 1
abbrev τ : Topo := Topo.v7x

variable {F : FTy → Type} [FloatOps F]
-- ==== DwInR.lean ====
abbrev S8192x1024 : Shape := ⟨2, ![8192, 1024]⟩
abbrev S8192x6144 : Shape := ⟨2, ![8192, 6144]⟩
abbrev S1024x6144 : Shape := ⟨2, ![1024, 6144]⟩
abbrev S512x1024 : Shape := ⟨2, ![512, 1024]⟩
abbrev S512x1536 : Shape := ⟨2, ![512, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S1024x6144, .f32⟩
  | .local _ .vmem, ⟨0, _⟩ => ⟨S512x1024, .bf16⟩
  | .local _ .vmem, ⟨1, _⟩ => ⟨S512x1024, .bf16⟩
  | .local _ .vmem, ⟨2, _⟩ => ⟨S512x1536, .bf16⟩
  | .local _ .vmem, ⟨3, _⟩ => ⟨S512x1536, .bf16⟩
  | .local _ .vmem, ⟨4, _⟩ => ⟨S1024x1536, .f32⟩
  | .local _ .vmem, ⟨5, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwInRRefIdeal.lean ====
abbrev S8192x1024 : Shape := ⟨2, ![8192, 1024]⟩
abbrev S8192x6144 : Shape := ⟨2, ![8192, 6144]⟩
abbrev S1024x8192 : Shape := ⟨2, ![1024, 8192]⟩
abbrev S1024x6144 : Shape := ⟨2, ![1024, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S8192x1024, .f32⟩
  | .hbm, ⟨3, _⟩ => ⟨S1024x8192, .f32⟩
  | .hbm, ⟨4, _⟩ => ⟨S8192x6144, .f32⟩
  | .hbm, ⟨5, _⟩ => ⟨S1024x6144, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwInC.lean ====
abbrev S8192x1024 : Shape := ⟨2, ![8192, 1024]⟩
abbrev S8192x3072 : Shape := ⟨2, ![8192, 3072]⟩
abbrev S1024x3072 : Shape := ⟨2, ![1024, 3072]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwInCRefIdeal.lean ====
abbrev S8192x1024 : Shape := ⟨2, ![8192, 1024]⟩
abbrev S8192x3072 : Shape := ⟨2, ![8192, 3072]⟩
abbrev S1024x8192 : Shape := ⟨2, ![1024, 8192]⟩
abbrev S1024x3072 : Shape := ⟨2, ![1024, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x1024, .f32⟩
  | .hbm, ⟨3, _⟩ => ⟨S1024x8192, .f32⟩
  | .hbm, ⟨4, _⟩ => ⟨S8192x3072, .f32⟩
  | .hbm, ⟨5, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwInG.lean ====
abbrev S8192x1024 : Shape := ⟨2, ![8192, 1024]⟩
abbrev S8192x2048 : Shape := ⟨2, ![8192, 2048]⟩
abbrev S1024x2048 : Shape := ⟨2, ![1024, 2048]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwInGRefIdeal.lean ====
abbrev S8192x1024 : Shape := ⟨2, ![8192, 1024]⟩
abbrev S8192x2048 : Shape := ⟨2, ![8192, 2048]⟩
abbrev S1024x8192 : Shape := ⟨2, ![1024, 8192]⟩
abbrev S1024x2048 : Shape := ⟨2, ![1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .f32⟩
  | .hbm, ⟨3, _⟩ => ⟨S1024x8192, .f32⟩
  | .hbm, ⟨4, _⟩ => ⟨S8192x2048, .f32⟩
  | .hbm, ⟨5, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ConvFwd.lean ====
abbrev S8192x11264 : Shape := ⟨2, ![8192, 11264]⟩
abbrev S32x1024 : Shape := ⟨2, ![32, 1024]⟩
abbrev S1x1024 : Shape := ⟨2, ![1, 1024]⟩
abbrev S8192x1024 : Shape := ⟨2, ![8192, 1024]⟩
abbrev S512x1024 : Shape := ⟨2, ![512, 1024]⟩
abbrev S544x1024 : Shape := ⟨2, ![544, 1024]⟩
abbrev S512 : Shape := ⟨1, ![512]⟩
abbrev S512x1 : Shape := ⟨2, ![512, 1]⟩

abbrev nBuf : Space → Nat
  | .hbm => 6
  | .vmem => 17
  | .smem => 0
  | _ => 0

abbrev bufTy : (tb : Table) → Fin (tcTables nBuf tb) → BufTy
  | .hbm, ⟨0, _⟩ => ⟨S8192x11264, .f32⟩
  | .hbm, ⟨1, _⟩ => ⟨S32x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S512x1024, .f32⟩
  | .local _ .vmem, ⟨9, _⟩ => ⟨S512x1024, .f32⟩
  | .local _ .vmem, ⟨10, _⟩ => ⟨S32x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S544x1024, .f32⟩
  | _, _ => ⟨S8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c7_i32 : BitVec 32 := 7#32
  let c0_i32_0 : BitVec 32 := 0#32
  ![v2.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ConvFwdRefIdeal.lean ====
abbrev S8192x11264 : Shape := ⟨2, ![8192, 11264]⟩
abbrev S32x1024 : Shape := ⟨2, ![32, 1024]⟩
abbrev S1x1024 : Shape := ⟨2, ![1, 1024]⟩
abbrev S8192x1024 : Shape := ⟨2, ![8192, 1024]⟩
abbrev S_ : Shape := ⟨0, ![]⟩
abbrev S8222x1024 : Shape := ⟨2, ![8222, 1024]⟩
abbrev S8192 : Shape := ⟨1, ![8192]⟩
abbrev S8192x1 : Shape := ⟨2, ![8192, 1]⟩

abbrev nBuf : Space → Nat
  | .hbm => 226
  | .vmem => 0
  | .smem => 0
  | _ => 0

abbrev hbmTy0_0 (i : Nat) : BufTy := match i % 128 with
  | 0 => ⟨S8192x11264, .f32⟩
  | 1 => ⟨S32x1024, .f32⟩
  | 2 => ⟨S1x1024, .f32⟩
  | 3 => ⟨S1x1024, .f32⟩
  | 4 => ⟨S1x1024, .f32⟩
  | 5 => ⟨S8192x1024, .f32⟩
  | 6 => ⟨S8192x1024, .f32⟩
  | 7 => ⟨S8192x1024, .f32⟩
  | 8 => ⟨S8192x1024, .f32⟩
  | 9 => ⟨S_, .f32⟩
  | 10 => ⟨S8192x1024, .f32⟩
  | 11 => ⟨S8192x1024, .f32⟩
  | 12 => ⟨S_, .f32⟩
  | 13 => ⟨S8192x1024, .f32⟩
  | 14 => ⟨S8192x1024, .f32⟩
  | 15 => ⟨S8192x1024, .f32⟩
  | 16 => ⟨S_, .i32⟩
  | 17 => ⟨S_, .f32⟩
  | 18 => ⟨S8222x1024, .f32⟩
  | 19 => ⟨S1x1024, .f32⟩
  | 20 => ⟨S8192x1024, .f32⟩
  | 21 => ⟨S8192x1024, .f32⟩
  | 22 => ⟨S8192x1024, .f32⟩
  | 23 => ⟨S_, .f32⟩
  | 24 => ⟨S8192x1024, .f32⟩
  | 25 => ⟨S8192x1024, .f32⟩
  | 26 => ⟨S1x1024, .f32⟩
  | 27 => ⟨S8192x1024, .f32⟩
  | 28 => ⟨S8192x1024, .f32⟩
  | 29 => ⟨S8192x1024, .f32⟩
  | 30 => ⟨S8192x1024, .f32⟩
  | 31 => ⟨S1x1024, .f32⟩
  | 32 => ⟨S8192x1024, .f32⟩
  | 33 => ⟨S8192x1024, .f32⟩
  | 34 => ⟨S8192x1024, .f32⟩
  | 35 => ⟨S8192x1024, .f32⟩
  | 36 => ⟨S1x1024, .f32⟩
  | 37 => ⟨S8192x1024, .f32⟩
  | 38 => ⟨S8192x1024, .f32⟩
  | 39 => ⟨S8192x1024, .f32⟩
  | 40 => ⟨S8192x1024, .f32⟩
  | 41 => ⟨S1x1024, .f32⟩
  | 42 => ⟨S8192x1024, .f32⟩
  | 43 => ⟨S8192x1024, .f32⟩
  | 44 => ⟨S8192x1024, .f32⟩
  | 45 => ⟨S8192x1024, .f32⟩
  | 46 => ⟨S1x1024, .f32⟩
  | 47 => ⟨S8192x1024, .f32⟩
  | 48 => ⟨S8192x1024, .f32⟩
  | 49 => ⟨S8192x1024, .f32⟩
  | 50 => ⟨S8192x1024, .f32⟩
  | 51 => ⟨S1x1024, .f32⟩
  | 52 => ⟨S8192x1024, .f32⟩
  | 53 => ⟨S8192x1024, .f32⟩
  | 54 => ⟨S8192x1024, .f32⟩
  | 55 => ⟨S8192x1024, .f32⟩
  | 56 => ⟨S1x1024, .f32⟩
  | 57 => ⟨S8192x1024, .f32⟩
  | 58 => ⟨S8192x1024, .f32⟩
  | 59 => ⟨S8192x1024, .f32⟩
  | 60 => ⟨S8192x1024, .f32⟩
  | 61 => ⟨S1x1024, .f32⟩
  | 62 => ⟨S8192x1024, .f32⟩
  | 63 => ⟨S8192x1024, .f32⟩
  | 64 => ⟨S8192x1024, .f32⟩
  | 65 => ⟨S8192x1024, .f32⟩
  | 66 => ⟨S1x1024, .f32⟩
  | 67 => ⟨S8192x1024, .f32⟩
  | 68 => ⟨S8192x1024, .f32⟩
  | 69 => ⟨S8192x1024, .f32⟩
  | 70 => ⟨S8192x1024, .f32⟩
  | 71 => ⟨S1x1024, .f32⟩
  | 72 => ⟨S8192x1024, .f32⟩
  | 73 => ⟨S8192x1024, .f32⟩
  | 74 => ⟨S8192x1024, .f32⟩
  | 75 => ⟨S8192x1024, .f32⟩
  | 76 => ⟨S1x1024, .f32⟩
  | 77 => ⟨S8192x1024, .f32⟩
  | 78 => ⟨S8192x1024, .f32⟩
  | 79 => ⟨S8192x1024, .f32⟩
  | 80 => ⟨S8192x1024, .f32⟩
  | 81 => ⟨S1x1024, .f32⟩
  | 82 => ⟨S8192x1024, .f32⟩
  | 83 => ⟨S8192x1024, .f32⟩
  | 84 => ⟨S8192x1024, .f32⟩
  | 85 => ⟨S8192x1024, .f32⟩
  | 86 => ⟨S1x1024, .f32⟩
  | 87 => ⟨S8192x1024, .f32⟩
  | 88 => ⟨S8192x1024, .f32⟩
  | 89 => ⟨S8192x1024, .f32⟩
  | 90 => ⟨S8192x1024, .f32⟩
  | 91 => ⟨S1x1024, .f32⟩
  | 92 => ⟨S8192x1024, .f32⟩
  | 93 => ⟨S8192x1024, .f32⟩
  | 94 => ⟨S8192x1024, .f32⟩
  | 95 => ⟨S8192x1024, .f32⟩
  | 96 => ⟨S1x1024, .f32⟩
  | 97 => ⟨S8192x1024, .f32⟩
  | 98 => ⟨S8192x1024, .f32⟩
  | 99 => ⟨S8192x1024, .f32⟩
  | 100 => ⟨S8192x1024, .f32⟩
  | 101 => ⟨S1x1024, .f32⟩
  | 102 => ⟨S8192x1024, .f32⟩
  | 103 => ⟨S8192x1024, .f32⟩
  | 104 => ⟨S8192x1024, .f32⟩
  | 105 => ⟨S8192x1024, .f32⟩
  | 106 => ⟨S1x1024, .f32⟩
  | 107 => ⟨S8192x1024, .f32⟩
  | 108 => ⟨S8192x1024, .f32⟩
  | 109 => ⟨S8192x1024, .f32⟩
  | 110 => ⟨S8192x1024, .f32⟩
  | 111 => ⟨S1x1024, .f32⟩
  | 112 => ⟨S8192x1024, .f32⟩
  | 113 => ⟨S8192x1024, .f32⟩
  | 114 => ⟨S8192x1024, .f32⟩
  | 115 => ⟨S8192x1024, .f32⟩
  | 116 => ⟨S1x1024, .f32⟩
  | 117 => ⟨S8192x1024, .f32⟩
  | 118 => ⟨S8192x1024, .f32⟩
  | 119 => ⟨S8192x1024, .f32⟩
  | 120 => ⟨S8192x1024, .f32⟩
  | 121 => ⟨S1x1024, .f32⟩
  | 122 => ⟨S8192x1024, .f32⟩
  | 123 => ⟨S8192x1024, .f32⟩
  | 124 => ⟨S8192x1024, .f32⟩
  | 125 => ⟨S8192x1024, .f32⟩
  | 126 => ⟨S1x1024, .f32⟩
  | 127 => ⟨S8192x1024, .f32⟩
  | _ => ⟨S8192x11264, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S1x1024, .f32⟩
  | 4 => ⟨S8192x1024, .f32⟩
  | 5 => ⟨S8192x1024, .f32⟩
  | 6 => ⟨S8192x1024, .f32⟩
  | 7 => ⟨S8192x1024, .f32⟩
  | 8 => ⟨S1x1024, .f32⟩
  | 9 => ⟨S8192x1024, .f32⟩
  | 10 => ⟨S8192x1024, .f32⟩
  | 11 => ⟨S8192x1024, .f32⟩
  | 12 => ⟨S8192x1024, .f32⟩
  | 13 => ⟨S1x1024, .f32⟩
  | 14 => ⟨S8192x1024, .f32⟩
  | 15 => ⟨S8192x1024, .f32⟩
  | 16 => ⟨S8192x1024, .f32⟩
  | 17 => ⟨S8192x1024, .f32⟩
  | 18 => ⟨S1x1024, .f32⟩
  | 19 => ⟨S8192x1024, .f32⟩
  | 20 => ⟨S8192x1024, .f32⟩
  | 21 => ⟨S8192x1024, .f32⟩
  | 22 => ⟨S8192x1024, .f32⟩
  | 23 => ⟨S1x1024, .f32⟩
  | 24 => ⟨S8192x1024, .f32⟩
  | 25 => ⟨S8192x1024, .f32⟩
  | 26 => ⟨S8192x1024, .f32⟩
  | 27 => ⟨S8192x1024, .f32⟩
  | 28 => ⟨S1x1024, .f32⟩
  | 29 => ⟨S8192x1024, .f32⟩
  | 30 => ⟨S8192x1024, .f32⟩
  | 31 => ⟨S8192x1024, .f32⟩
  | 32 => ⟨S8192x1024, .f32⟩
  | 33 => ⟨S1x1024, .f32⟩
  | 34 => ⟨S8192x1024, .f32⟩
  | 35 => ⟨S8192x1024, .f32⟩
  | 36 => ⟨S8192x1024, .f32⟩
  | 37 => ⟨S8192x1024, .f32⟩
  | 38 => ⟨S1x1024, .f32⟩
  | 39 => ⟨S8192x1024, .f32⟩
  | 40 => ⟨S8192x1024, .f32⟩
  | 41 => ⟨S8192x1024, .f32⟩
  | 42 => ⟨S8192x1024, .f32⟩
  | 43 => ⟨S1x1024, .f32⟩
  | 44 => ⟨S8192x1024, .f32⟩
  | 45 => ⟨S8192x1024, .f32⟩
  | 46 => ⟨S8192x1024, .f32⟩
  | 47 => ⟨S8192x1024, .f32⟩
  | 48 => ⟨S8192x1024, .f32⟩
  | 49 => ⟨S8192x1024, .f32⟩
  | 50 => ⟨S_, .f32⟩
  | 51 => ⟨S8192, .f32⟩
  | 52 => ⟨S8192x1, .f32⟩
  | 53 => ⟨S_, .f32⟩
  | 54 => ⟨S8192x1, .f32⟩
  | 55 => ⟨S8192x1, .f32⟩
  | 56 => ⟨S8192x1024, .f32⟩
  | 57 => ⟨S8192x1024, .f32⟩
  | 58 => ⟨S8192x1024, .f32⟩
  | 59 => ⟨S_, .f32⟩
  | 60 => ⟨S8192, .f32⟩
  | 61 => ⟨S8192x1, .f32⟩
  | 62 => ⟨S_, .f32⟩
  | 63 => ⟨S8192x1, .f32⟩
  | 64 => ⟨S8192x1, .f32⟩
  | 65 => ⟨S8192x1024, .f32⟩
  | 66 => ⟨S8192x1024, .f32⟩
  | 67 => ⟨S_, .f32⟩
  | 68 => ⟨S8192x1, .f32⟩
  | 69 => ⟨S8192x1, .f32⟩
  | 70 => ⟨S8192x1, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S8192x1024, .f32⟩
  | 77 => ⟨S8192x1024, .f32⟩
  | 78 => ⟨S8192x1024, .f32⟩
  | 79 => ⟨S_, .f32⟩
  | 80 => ⟨S8192x1024, .f32⟩
  | 81 => ⟨S8192x1024, .f32⟩
  | 82 => ⟨S_, .f32⟩
  | 83 => ⟨S8192x1024, .f32⟩
  | 84 => ⟨S8192x1024, .f32⟩
  | 85 => ⟨S8192x1024, .f32⟩
  | 86 => ⟨S8192x1024, .f32⟩
  | 87 => ⟨S8192x1024, .f32⟩
  | 88 => ⟨S8192x1024, .f32⟩
  | 89 => ⟨S_, .f32⟩
  | 90 => ⟨S8192x1024, .f32⟩
  | 91 => ⟨S8192x1024, .f32⟩
  | 92 => ⟨S_, .f32⟩
  | 93 => ⟨S8192x1024, .f32⟩
  | 94 => ⟨S8192x1024, .f32⟩
  | 95 => ⟨S8192x1024, .f32⟩
  | 96 => ⟨S8192x1024, .f32⟩
  | 97 => ⟨S8192x1024, .bf16⟩
  | _ => ⟨S8192x11264, .f32⟩

abbrev hbmTy (i : Nat) : BufTy := match i / 128 with
  | 0 => hbmTy0_0 i
  | 1 => hbmTy0_1 i
  | _ => ⟨S8192x11264, .f32⟩

abbrev bufTy : (tb : Table) → Fin (tcTables nBuf tb) → BufTy
  | .hbm, ⟨i, _⟩ => hbmTy i
  | _, _ => ⟨S8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_cst_2 : Ref sig .tc := ⟨.hbm, 178, rfl⟩
abbrev main_v168 : Ref sig .tc := ⟨.hbm, 179, rfl⟩
abbrev main_v169 : Ref sig .tc := ⟨.hbm, 180, rfl⟩
abbrev main_cst_3 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_cst_4 : Ref sig .tc := ⟨.hbm, 187, rfl⟩
abbrev main_v175 : Ref sig .tc := ⟨.hbm, 188, rfl⟩
abbrev main_v176 : Ref sig .tc := ⟨.hbm, 189, rfl⟩
abbrev main_cst_5 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_cst_6 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_call1_v0 : Ref sig .tc := ⟨.hbm, 205, rfl⟩
abbrev main_call1_v1 : Ref sig .tc := ⟨.hbm, 206, rfl⟩
abbrev main_call1_cst : Ref sig .tc := ⟨.hbm, 207, rfl⟩
abbrev main_call1_v2 : Ref sig .tc := ⟨.hbm, 208, rfl⟩
abbrev main_call1_v3 : Ref sig .tc := ⟨.hbm, 209, rfl⟩
abbrev main_call1_cst_0 : Ref sig .tc := ⟨.hbm, 210, rfl⟩
abbrev main_call1_v4 : Ref sig .tc := ⟨.hbm, 211, rfl⟩
abbrev main_call1_v5 : Ref sig .tc := ⟨.hbm, 212, rfl⟩
abbrev main_v190 : Ref sig .tc := ⟨.hbm, 213, rfl⟩
abbrev main_v191 : Ref sig .tc := ⟨.hbm, 214, rfl⟩
abbrev main_call2_v0 : Ref sig .tc := ⟨.hbm, 215, rfl⟩
abbrev main_call2_v1 : Ref sig .tc := ⟨.hbm, 216, rfl⟩
abbrev main_call2_cst : Ref sig .tc := ⟨.hbm, 217, rfl⟩
abbrev main_call2_v2 : Ref sig .tc := ⟨.hbm, 218, rfl⟩
abbrev main_call2_v3 : Ref sig .tc := ⟨.hbm, 219, rfl⟩
abbrev main_call2_cst_0 : Ref sig .tc := ⟨.hbm, 220, rfl⟩
abbrev main_call2_v4 : Ref sig .tc := ⟨.hbm, 221, rfl⟩
abbrev main_call2_v5 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩

abbrev nD : Nat := 1
abbrev τ : Topo := Topo.v7x

variable {F : FTy → Type} [FloatOps F]
-- ==== Proof.Exchange.lean ====
/-
The pairwise exchange of a mesh without a handshake, once for every table of copies.

Each device starts some local copies, each onto a semaphore of its own, and some copies into the buffers of other devices,
each with a send semaphore on the issuer and a receive semaphore on the target; then it waits for every local copy and, copy
by copy, for the departure of what it sent and for the arrival of what it is sent. No semaphore is used twice, so each cell
has one round with one duty: a local copy's cell hands back both ends, a send cell the source, a receive cell the row the
peer has written. The receive credits are owed from launch, the target rows are dealt to the issuers at launch.
-/
module

public import Idealize.ShloMosaic.Lib.Rounds
public import Idealize.ShloMosaic.Lib.Pipeline.Launch
public import Idealize.ShloMosaic.Lib.Pipeline.BigSepL
public import Idealize.ShloMosaic.Lib.Tactic

@[expose] public section

set_option Elab.async false

noncomputable section

namespace Cert.Exchange

open Idealize.ShloMosaic Idealize.ShloMosaic.Pipeline Idealize.ShloMosaic.Rounds
open Idealize.ShloMosaic.TcCoe
open Idealize.SL
open Idealize.SL.BI (sProp bigSep bigSep_sep' bigSep_mono bigSep_congr bigSepL bigSepL_nil bigSepL_cons' bigSepL_mono bigSep_univ_eq_bigSepL)
open scoped Idealize.SL.BI
open Idealize.SL.BI.BIBase Idealize.SL.BI.Laws Idealize.SL.Sem Idealize.SL.ProofMode
open Idealize.SL.RA

/-- The copies of an exchange: for each local copy `j` and each remote copy `i` its two ends on the issuing device, its
    semaphores and the units it credits; `dev i` is the device copy `i` goes to, `frm i` the one it comes from. -/
structure Plan (nD : ℕ) (τ : Topo) (sig : RefSig) where
  J : Type
  I : Type
  [fJ : Fintype J]
  [fI : Fintype I]
  [dJ : DecidableEq J]
  [dI : DecidableEq I]
  js : List J
  is : List I
  js_univ : Finset.univ = js.toFinset
  is_univ : Finset.univ = is.toFinset
  js_nodup : js.Nodup
  is_nodup : is.Nodup
  shJ : J → Shape
  shI : I → Shape
  eJ : J → EltTy
  eI : I → EltTy
  lsrc : (j : J) → Dev nD → Memref sig .tc .hbm (shJ j) (eJ j)
  ldst : (j : J) → Dev nD → Memref sig .tc .hbm (shJ j) (eJ j)
  lsem : J → DmaSem sig
  lsrc_ok : ∀ j c, (lsrc j c).view.WordExact
  ldst_ok : ∀ j c, (ldst j c).view.WordExact
  rsrc : (i : I) → Dev nD → Memref sig .tc .hbm (shI i) (eI i)
  rdst : (i : I) → Dev nD → Memref sig .tc .hbm (shI i) (eI i)
  snd : I → DmaSem sig
  rcv : I → DmaSem sig
  dev : I → Dev nD → Dev nD
  frm : I → Dev nD → Dev nD
  dev_frm : ∀ i c, dev i (frm i c) = c
  frm_dev : ∀ i c, frm i (dev i c) = c
  rsrc_ok : ∀ i c, (rsrc i c).view.WordExact
  rdst_ok : ∀ i c, (rdst i c).view.WordExact
  plain : ∀ i c, (rdst i c).view.ref.isScScratch = false
  routes : ∀ i c, τ.routes (Dev.tc c) (Dev.tc (dev i c)) = true
  lN : J → ℕ
  rN : I → ℕ
  lN_pos : ∀ j, 0 < lN j
  rN_pos : ∀ i, 0 < rN i
  lN_dst : ∀ j c, (ldst j c).view.dmaCredit = lN j
  rN_src : ∀ i c, (rsrc i c).view.dmaCredit = rN i
  rN_dst : ∀ i c, (rdst i c).view.dmaCredit = rN i
  sem_inj : Function.Injective (fun k : J ⊕ (I ⊕ I) => k.elim lsem fun k => k.elim snd rcv)

attribute [instance] Plan.fJ Plan.fI Plan.dJ Plan.dI

namespace Plan

variable {nD : ℕ} {τ : Topo} {sig : RefSig} (X : Plan nD τ sig)

/-- The exchange's semaphores on one device. -/
abbrev K : Type := X.J ⊕ (X.I ⊕ X.I)
def dsem (k : X.K) : DmaSem sig := k.elim X.lsem fun k => k.elim X.snd X.rcv
abbrev osem (k : X.K) : SemLoc sig := .dma (X.dsem k)
abbrev cell (c : Dev nD) (k : X.K) : GSem nD τ sig := ((c.tc : Thread nD τ), X.osem k)
abbrev lcell (c : Dev nD) (j : X.J) : GSem nD τ sig := X.cell c (.inl j)
abbrev scell (c : Dev nD) (i : X.I) : GSem nD τ sig := X.cell c (.inr (.inl i))
abbrev rcell (c : Dev nD) (i : X.I) : GSem nD τ sig := X.cell c (.inr (.inr i))

theorem osem_inj : Function.Injective X.osem := fun a b h => X.sem_inj (SemLoc.dma.inj h)

open Classical in
/-- The copy end a semaphore belongs to. -/
def dec (s : SemLoc sig) : Option X.K := if h : ∃ k, X.osem k = s then some h.choose else none
theorem dec_osem (k : X.K) : X.dec (X.osem k) = some k := by
  have h : ∃ k', X.osem k' = X.osem k := ⟨k, rfl⟩
  unfold dec; rw [dif_pos h]; exact congrArg some (X.osem_inj h.choose_spec)

def unitsOf (k : X.K) : ℕ := k.elim X.lN fun k => k.elim X.rN X.rN
theorem unitsOf_pos (k : X.K) : 0 < X.unitsOf k := by
  rcases k with j | i | i
  · exact X.lN_pos j
  · exact X.rN_pos i
  · exact X.rN_pos i

/-! ### The program -/

section Program

variable {Val : EltTy → Type} {Λ : Idealize.SL.Sem.Labels} {α : Type}

theorem ltyped (j : X.J) (c : Dev nD) : DmaTarget.Typed (nD := nD) (τ := τ) (p := .tc) .hbm (.dma (X.lsem j)) (.here (X.ldst j c)) := ⟨Or.inl rfl, trivial⟩
theorem rtyped (i : X.I) (c : Dev nD) : DmaTarget.Typed (nD := nD) (τ := τ) (p := .tc) .hbm (.dma (X.rcv i))
    (.remote (Dev.tc (X.dev i c)) (X.rdst i c) (.dma (X.snd i)) (X.plain i c)) := ⟨⟨rfl, Or.inl rfl⟩, trivial⟩

/-- Starting the local copies of a list. -/
def startsL (c : Dev nD) (k : Prog (TpuEff nD τ sig Val Λ .tc) α) : List X.J → Prog (TpuEff nD τ sig Val Λ .tc) α
  | [] => k
  | j :: l => .op (.enqueueDma (X.lsrc j c) (.here (X.ldst j c)) (.dma (X.lsem j)) (X.lsrc_ok j c) (X.ldst_ok j c) (X.ltyped j c)) fun _ => startsL c k l
/-- Starting the remote copies of a list. -/
def startsR (c : Dev nD) (k : Prog (TpuEff nD τ sig Val Λ .tc) α) : List X.I → Prog (TpuEff nD τ sig Val Λ .tc) α
  | [] => k
  | i :: l => .op (.enqueueDma (X.rsrc i c) (.remote (Dev.tc (X.dev i c)) (X.rdst i c) (.dma (X.snd i)) (X.plain i c)) (.dma (X.rcv i))
      (X.rsrc_ok i c) (X.rdst_ok i c) (X.rtyped i c)) fun _ => startsR c k l
/-- Waiting for the local copies of a list. -/
def waitsL (c : Dev nD) (k : Prog (TpuEff nD τ sig Val Λ .tc) α) : List X.J → Prog (TpuEff nD τ sig Val Λ .tc) α
  | [] => k
  | j :: l => .op (.waitDma2 (X.lsem j) (X.lsrc j c) (X.ldst j c) (X.lsrc_ok j c) (X.ldst_ok j c)) fun _ => waitsL c k l
/-- Waiting, for each remote copy of a list, for its departure and for the arrival on the same pair of semaphores. -/
def waitsR (c : Dev nD) (k : Prog (TpuEff nD τ sig Val Λ .tc) α) : List X.I → Prog (TpuEff nD τ sig Val Λ .tc) α
  | [] => k
  | i :: l => .op (.waitDma2 (X.snd i) (X.rdst i c) (X.rsrc i c) (X.rdst_ok i c) (X.rsrc_ok i c)) fun _ =>
      .op (.waitDma2 (X.rcv i) (X.rsrc i c) (X.rdst i c) (X.rsrc_ok i c) (X.rdst_ok i c)) fun _ => waitsR c k l

/-- The exchange on device `c`, followed by `k`. -/
def prog (c : Dev nD) (k : Prog (TpuEff nD τ sig Val Λ .tc) α) : Prog (TpuEff nD τ sig Val Λ .tc) α :=
  X.startsL c (X.startsR c (X.waitsL c (X.waitsR c k X.is) X.js) X.is) X.js

end Program

/-! ### The schedule -/

section Sched

variable {Val : EltTy → Type} {U : Type} [URA U]

local notation "𝕄" => MT nD τ sig Unit Val ℕ U ℕ

variable (E : Emb (URounds (GSem nD τ sig) Unit) (MT nD τ sig Unit Val ℕ U ℕ))
  (m : (ℓ : Loc nD τ sig) → Buf Val ℓ) (lq : X.J → PosShare TreeShare) (rq : X.I → PosShare TreeShare)

/-- The source of a local copy, read from the launch memory. -/
def lsrcPts (c : Dev nD) (j : X.J) : sProp 𝕄 :=
  (X.lsrc j c).view.loc (c.tc : Thread nD τ) ↦[(X.lsrc j c).view.set]{lq j} m ((X.lsrc j c).view.loc (c.tc : Thread nD τ))
/-- Its target before and after. -/
def ldstPts (c : Dev nD) (j : X.J) : sProp 𝕄 :=
  (X.ldst j c).view.loc (c.tc : Thread nD τ) ↦[(X.ldst j c).view.set]{fullShare} m ((X.ldst j c).view.loc (c.tc : Thread nD τ))
def lwritten (c : Dev nD) (j : X.J) : sProp 𝕄 :=
  (X.ldst j c).view.loc (c.tc : Thread nD τ) ↦[(X.ldst j c).view.set]{fullShare}
    ((X.ldst j c).view.write Val (m ((X.ldst j c).view.loc (c.tc : Thread nD τ)))
      ((X.lsrc j c).view.read Val (m ((X.lsrc j c).view.loc (c.tc : Thread nD τ)))) Finset.univ)
/-- The source of a remote copy of device `c`. -/
def rsrcPts (c : Dev nD) (i : X.I) : sProp 𝕄 :=
  (X.rsrc i c).view.loc (c.tc : Thread nD τ) ↦[(X.rsrc i c).view.set]{rq i} m ((X.rsrc i c).view.loc (c.tc : Thread nD τ))
/-- What copy `i` of device `s` writes on device `c`, before and after. -/
def rdstPts (i : X.I) (s c : Dev nD) : sProp 𝕄 :=
  (X.rdst i s).view.loc (c.tc : Thread nD τ) ↦[(X.rdst i s).view.set]{fullShare} m ((X.rdst i s).view.loc (c.tc : Thread nD τ))
def rwritten (i : X.I) (s c : Dev nD) : sProp 𝕄 :=
  (X.rdst i s).view.loc (c.tc : Thread nD τ) ↦[(X.rdst i s).view.set]{fullShare}
    ((X.rdst i s).view.write Val (m ((X.rdst i s).view.loc (c.tc : Thread nD τ)))
      ((X.rsrc i s).view.read Val (m ((X.rsrc i s).view.loc (s.tc : Thread nD τ)))) Finset.univ)

/-- What the one duty of a cell hands over. -/
def pay (c : Dev nD) : X.K → sProp 𝕄
  | .inl j => iprop(X.lwritten m c j ∗ X.lsrcPts m lq c j)
  | .inr (.inl i) => X.rsrcPts m rq c i
  | .inr (.inr i) => X.rwritten m i (X.frm i c) c

instance pay_storable (c : Dev nD) (k : X.K) : BI.Storable (upEmb : UEmb _ 𝕄) (X.pay m lq rq c k) := by
  rcases k with j | i | i
  · show BI.Storable _ iprop(X.lwritten m c j ∗ X.lsrcPts m lq c j); unfold lwritten lsrcPts; infer_instance
  · show BI.Storable _ (X.rsrcPts m rq c i); unfold rsrcPts; infer_instance
  · show BI.Storable _ (X.rwritten m i (X.frm i c) c); unfold rwritten; infer_instance

def sched : Schedule (GSem nD τ sig) Unit 𝕄 where
  duties g r := if r = 0 ∧ (X.dec g.2).isSome then {()} else ∅
  amount g _ _ := ((X.dec g.2).map X.unitsOf).getD 1
  payload g _ _ := ((X.dec g.2).map fun k => X.pay m lq rq g.1.1 k).getD iprop(emp)
  amount_pos g r d _ := by
    cases X.dec g.2 with
    | none => exact Nat.one_pos
    | some k => exact X.unitsOf_pos k

instance sched_storable (g : GSem nD τ sig) (r : ℕ) (d : Unit) : BI.Storable (upEmb : UEmb _ 𝕄) ((X.sched m lq rq).payload g r d) := by
  show BI.Storable _ (((X.dec g.2).map fun k => X.pay m lq rq g.1.1 k).getD iprop(emp))
  cases X.dec g.2 with
  | none => show BI.Storable _ iprop(emp); infer_instance
  | some k => show BI.Storable _ (X.pay m lq rq g.1.1 k); infer_instance

local notation "𝕊" => X.sched (U := U) m lq rq

theorem duties_zero (c : Dev nD) (k : X.K) : (𝕊).duties (X.cell c k) 0 = {()} := by
  show (if 0 = 0 ∧ (X.dec (X.osem k)).isSome then ({()} : Finset Unit) else ∅) = {()}
  rw [X.dec_osem]; exact if_pos ⟨rfl, rfl⟩
theorem duties_mem (c : Dev nD) (k : X.K) : () ∈ (𝕊).duties (X.cell c k) 0 := by rw [duties_zero]; exact Finset.mem_singleton_self _
theorem duties_later (c : Dev nD) (k : X.K) (r : ℕ) (hr : 1 ≤ r) : (𝕊).duties (X.cell c k) r = ∅ := by
  show (if r = 0 ∧ (X.dec (X.osem k)).isSome then ({()} : Finset Unit) else ∅) = ∅
  exact if_neg fun h => by omega
theorem amount_cell (c : Dev nD) (k : X.K) (r : ℕ) (d : Unit) : (𝕊).amount (X.cell c k) r d = X.unitsOf k := by
  show ((X.dec (X.osem k)).map X.unitsOf).getD 1 = _
  rw [X.dec_osem]; rfl
theorem payload_cell (c : Dev nD) (k : X.K) (r : ℕ) (d : Unit) : (𝕊).payload (X.cell c k) r d = X.pay m lq rq c k := by
  show ((X.dec (X.osem k)).map fun k => X.pay m lq rq c k).getD iprop(emp) = _
  rw [X.dec_osem]; rfl
theorem expect_cell (c : Dev nD) (k : X.K) : (𝕊).expect (X.cell c k) 0 = X.unitsOf k := by
  unfold Schedule.expect
  rw [duties_zero]; simp only [Finset.sum_singleton, amount_cell]
theorem rest_cell (c : Dev nD) (k : X.K) :
    (bigSep ((𝕊).duties (X.cell c k) 0 \ ∅) fun d => (𝕊).payload (X.cell c k) 0 d) = X.pay m lq rq c k := by
  rw [Finset.sdiff_empty, duties_zero, BI.bigSep_singleton, payload_cell]

/-- A cell's invariant, at some name, and its first round reached. -/
def known (c : Dev nD) (k : X.K) : sProp 𝕄 := iprop((∃ κ : ℕ, cellInv E (𝕊) κ (X.cell c k)) ∗ reached E (X.cell c k) 0)
instance known_persistent (c : Dev nD) (k : X.K) : BI.Persistent (X.known E m lq rq c k) := by unfold known; infer_instance

/-! ### The run of one device -/

section Run

variable {Λ : Idealize.SL.Sem.Labels} {defs : Defs nD τ sig Val Λ} (𝒱 : Variants) (bd : Option 𝒱.V)
  {α : Type} (Q : α → sProp (MT nD τ sig Unit Val ℕ U ℕ))

local notation "𝔼" c => wpE defs 𝒱 (Dev.tc c : Thread nD τ) bd

variable [E.LandsIn (upEmb : UEmb _ (MT nD τ sig Unit Val ℕ U ℕ))]

/-- What starting a local copy takes. -/
def inL (c : Dev nD) (j : X.J) : sProp 𝕄 :=
  iprop(X.known E m lq rq c (.inl j) ∗ X.lsrcPts m lq c j ∗ X.ldstPts m c j ∗ dutyTok E (X.lcell c j) 0 ())
def midL (c : Dev nD) (j : X.J) : sProp 𝕄 :=
  iprop(X.known E m lq rq c (.inl j) ∗ cred (tallyAt (X.lcell c j) () (X.lN j)))

theorem wp_startL (c : Dev nD) (j : X.J) (k : PUnit → Prog (TpuEff nD τ sig Val Λ .tc) α) :
    iprop(X.inL E m lq rq c j ∗ (X.midL E m lq rq c j -∗ wp frame (𝔼 c) Set.univ (k ⟨⟩) Q))
      ⊢ wp frame (𝔼 c) Set.univ (.op (.enqueueDma (X.lsrc j c) (.here (X.ldst j c)) (.dma (X.lsem j)) (X.lsrc_ok j c) (X.ldst_ok j c) (X.ltyped j c)) k) Q := by
  unfold inL midL known lsrcPts ldstPts
  iintro ⟨⟨⟨⟨%κ, #Hi⟩, #Hr⟩, Hs, Hd, Ht⟩, Hk⟩
  iapply (Rounds.wp_copy_pointsTo 𝒱 E (𝕊) (Dev.tc c : Thread nD τ) bd (sem := .dma (X.lsem j)) (r := 0) (d := ()) (κ := κ)
    (X.duties_mem m lq rq c (.inl j)) () (X.lN j) (X.lN_dst j c) (X.amount_cell m lq rq c (.inl j) 0 ())
    (by
      have h := X.payload_cell (U := U) m lq rq c (.inl j) 0 ()
      exact (Entails.of_eq h.symm)) (Es := Set.univ)) $$ [Hs Hd Ht]
  · isplitr; · iexact Hi
    isplitl [Hs]; · iexact Hs
    isplitl [Hd]; · iexact Hd
    isplitl [Ht]; · iexact Ht
    iexact Hr
  iintro Hc
  iapply Hk
  isplitr
  · isplitr; · iexists κ; iexact Hi
    iexact Hr
  iexact Hc

theorem wp_startsL (c : Dev nD) (k : Prog (TpuEff nD τ sig Val Λ .tc) α) (l : List X.J) :
    iprop(bigSepL l (X.inL E m lq rq c) ∗ (bigSepL l (X.midL E m lq rq c) -∗ wp frame (𝔼 c) Set.univ k Q))
      ⊢ wp frame (𝔼 c) Set.univ (X.startsL c k l) Q := by
  induction l with
  | nil => iintro ⟨-, Hk⟩; iapply Hk; simp only [bigSepL_nil]; iempintro
  | cons j l ih =>
    simp only [bigSepL_cons', startsL]
    iintro ⟨⟨Hj, Hl⟩, Hk⟩
    iapply (X.wp_startL E m lq rq 𝒱 bd Q c j fun _ => X.startsL c k l)
    isplitl [Hj]; · iexact Hj
    iintro Hm
    iapply ih
    isplitl [Hl]; · iexact Hl
    iintro Hms
    iapply Hk
    isplitl [Hm] <;> iassumption

/-- What a device still owes its peers when the copies of a list are still to be started. -/
def owed (c : Dev nD) : List X.I → CellTallies nD τ sig Unit
  | [] => 0
  | i :: l => owed c l + tallyAt (X.rcell (X.dev i c) i) () (X.rN i)

/-- What starting a remote copy takes. -/
def inR (c : Dev nD) (i : X.I) : sProp 𝕄 :=
  iprop(X.known E m lq rq c (.inr (.inl i)) ∗ X.known E m lq rq (X.dev i c) (.inr (.inr i)) ∗ X.rsrcPts m rq c i ∗ X.rdstPts m i c (X.dev i c)
    ∗ dutyTok E (X.scell c i) 0 () ∗ dutyTok E (X.rcell (X.dev i c) i) 0 ())
def midR (c : Dev nD) (i : X.I) : sProp 𝕄 :=
  iprop(X.known E m lq rq c (.inr (.inl i)) ∗ cred (tallyAt (X.scell c i) () (X.rN i)))

theorem wp_startR (c : Dev nD) (i : X.I) (k : PUnit → Prog (TpuEff nD τ sig Val Λ .tc) α) (O : CellTallies nD τ sig Unit) (W : Waits sig Unit) :
    iprop(X.inR E m lq rq c i ∗ owes (c.tc : Thread nD τ) (O + tallyAt (X.rcell (X.dev i c) i) () (X.rN i)) W
        ∗ (iprop(X.midR E m lq rq c i ∗ owes (c.tc : Thread nD τ) O W) -∗ wp frame (𝔼 c) Set.univ (k ⟨⟩) Q))
      ⊢ wp frame (𝔼 c) Set.univ (.op (.enqueueDma (X.rsrc i c) (.remote (Dev.tc (X.dev i c)) (X.rdst i c) (.dma (X.snd i)) (X.plain i c)) (.dma (X.rcv i))
      (X.rsrc_ok i c) (X.rdst_ok i c) (X.rtyped i c)) k) Q := by
  unfold inR midR known rsrcPts rdstPts
  iintro ⟨⟨⟨⟨%κ₁, #Hi₁⟩, #Hr₁⟩, ⟨⟨%κ₂, #Hi₂⟩, #Hr₂⟩, Hs, Hd, Ht₁, Ht₂⟩, HO, Hk⟩
  iapply (Rounds.wp_send_pointsTo 𝒱 E (𝕊) (Dev.tc c : Thread nD τ) bd (c' := Dev.tc (X.dev i c)) (sS := .dma (X.snd i)) (sem := .dma (X.rcv i))
    (r₁ := 0) (r₂ := 0) (d₁ := ()) (d₂ := ()) (κ₁ := κ₁) (κ₂ := κ₂)
    (X.duties_mem m lq rq c (.inr (.inl i))) (X.duties_mem m lq rq (X.dev i c) (.inr (.inr i))) () () (X.rN i) (X.rN_dst i c)
    (X.amount_cell m lq rq c (.inr (.inl i)) 0 ()) (X.amount_cell m lq rq (X.dev i c) (.inr (.inr i)) 0 ()) O rfl
    (by
      have h := X.payload_cell (U := U) m lq rq c (.inr (.inl i)) 0 ()
      exact (Entails.of_eq h.symm))
    (by
      have h := X.payload_cell (U := U) m lq rq (X.dev i c) (.inr (.inr i)) 0 ()
      have h' : X.pay (U := U) m lq rq (X.dev i c) (.inr (.inr i)) = X.rwritten m i c (X.dev i c) := by
        show X.rwritten m i (X.frm i (X.dev i c)) (X.dev i c) = _
        rw [X.frm_dev]
      exact (Entails.of_eq (h.trans h').symm)) (Es := Set.univ) (X.routes i c)) $$ [Hs Hd HO Ht₁ Ht₂]
  · isplitr; · iexact Hi₁
    isplitr; · iexact Hi₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitr [HO]
  · isplitr
    · isplitr; · iexists κ₁; iexact Hi₁
      iexact Hr₁
    iexact Hc
  iexact HO

theorem wp_startsR (c : Dev nD) (k : Prog (TpuEff nD τ sig Val Λ .tc) α) (W : Waits sig Unit) (l : List X.I) :
    iprop(bigSepL l (X.inR E m lq rq c) ∗ owes (c.tc : Thread nD τ) (X.owed c l) W
        ∗ (iprop(bigSepL l (X.midR E m lq rq c) ∗ owes (c.tc : Thread nD τ) 0 W) -∗ wp frame (𝔼 c) Set.univ k Q))
      ⊢ wp frame (𝔼 c) Set.univ (X.startsR c k l) Q := by
  induction l with
  | nil =>
    iintro ⟨-, HO, Hk⟩; iapply Hk; simp only [bigSepL_nil, owed]
    isplitr; · iempintro
    iexact HO
  | cons i l ih =>
    simp only [bigSepL_cons', startsR, owed]
    iintro ⟨⟨Hi, Hl⟩, HO, Hk⟩
    iapply (X.wp_startR E m lq rq 𝒱 bd Q c i (fun _ => X.startsR c k l) (X.owed c l) W)
    isplitl [Hi]; · iexact Hi
    isplitl [HO]; · iexact HO
    iintro ⟨Hm, HO⟩
    iapply ih
    isplitl [Hl]; · iexact Hl
    isplitl [HO]; · iexact HO
    iintro ⟨Hms, HO⟩
    iapply Hk
    isplitr [HO]
    · isplitl [Hm] <;> iassumption
    iexact HO

/-- A wait for a cell's one duty, the cell closed afterwards. -/
theorem wp_wait (c : Dev nD) (q : X.K) {w : TpuEff nD τ sig Val Λ .tc PUnit}
    (hw : ∀ K : PUnit → sProp 𝕄, wpE defs 𝒱 (Dev.tc c : Thread nD τ) bd Set.univ w K = waitSpec (Dev.tc c : Thread nD τ) Set.univ (X.osem q) (X.unitsOf q) K)
    (k : PUnit → Prog (TpuEff nD τ sig Val Λ .tc) α) (W : Waits sig Unit) :
    iprop(X.known E m lq rq c q ∗ cred (tallyAt (X.cell c q) () (X.unitsOf q)) ∗ atPos E (X.cell c q) 0 ∅ 0 ∗ owes (c.tc : Thread nD τ) 0 W
        ∗ (iprop(X.pay m lq rq c q ∗ semVal (X.cell c q) 0 ∗ ∃ W', owes (c.tc : Thread nD τ) 0 W') -∗ wp frame (𝔼 c) Set.univ (k ⟨⟩) Q))
      ⊢ wp frame (𝔼 c) Set.univ (.op w k) Q := by
  unfold known
  iintro ⟨⟨⟨%κ, #Hi⟩, #Hr⟩, Hc, Hat, HO, Hk⟩
  iapply (Rounds.wp_wait_rest_token 𝒱 E (𝕊) (Dev.tc c : Thread nD τ) bd (sm := X.osem q) (κ := κ) hw (Set.mem_univ _) () (O := 0) (W := W) (R := 0) (m := 0) (T := ∅)
    (by rw [Nat.zero_add]; exact (X.expect_cell m lq rq c q).symm)) $$ [Hc HO Hat]
  · isplitr; · iexact Hi
    isplitl [Hc]; · iexact Hc
    isplitl [HO]; · iexact HO
    isplitr; · rw [MayWait_zero]; iempintro
    iexact Hat
  iintro ⟨HO, Hat, -, Hpay⟩
  ihave Hp := (Entails.of_eq (X.rest_cell m lq rq c q)) $$ Hpay
  iapply (fupd_wp frame (𝔼 c) Set.univ _ _)
  imod (Rounds.cell_close E (𝕊) (κ := κ) (Set.mem_univ _) (g := X.cell c q) (fun h => h) (R := 1) (fun r hr => X.duties_later m lq rq c q r hr)) $$ [Hat] with Hv
  · isplitr; · iexact Hi
    iexact Hat
  imodintro
  iapply Hk
  isplitl [Hp]; · iexact Hp
  isplitl [Hv]; · iexact Hv
  iexists _; iexact HO

/-- What waiting for a local copy takes and gives. -/
def waitL (c : Dev nD) (j : X.J) : sProp 𝕄 := iprop(X.midL E m lq rq c j ∗ atPos E (X.lcell c j) 0 ∅ 0)
def outL (c : Dev nD) (j : X.J) : sProp 𝕄 := iprop(X.pay m lq rq c (.inl j) ∗ semVal (X.lcell c j) 0)

theorem wp_waitsL (c : Dev nD) (k : Prog (TpuEff nD τ sig Val Λ .tc) α) (l : List X.J) (W : Waits sig Unit) :
    iprop(bigSepL l (X.waitL E m lq rq c) ∗ owes (c.tc : Thread nD τ) 0 W
        ∗ (iprop(bigSepL l (X.outL m lq rq c) ∗ ∃ W', owes (c.tc : Thread nD τ) 0 W') -∗ wp frame (𝔼 c) Set.univ k Q))
      ⊢ wp frame (𝔼 c) Set.univ (X.waitsL c k l) Q := by
  induction l generalizing W with
  | nil =>
    iintro ⟨-, HO, Hk⟩; iapply Hk; simp only [bigSepL_nil]
    isplitr; · iempintro
    iexists W; iexact HO
  | cons j l ih =>
    simp only [bigSepL_cons', waitsL]
    unfold waitL midL
    iintro ⟨⟨⟨⟨#Hkn, Hc⟩, Hat⟩, Hl⟩, HO, Hk⟩
    iapply (X.wp_wait E m lq rq 𝒱 bd Q c (.inl j) (fun K => by
      rw [wpE_waitDma2_eq, X.lN_dst]; rfl) (fun _ => X.waitsL c k l) W)
    isplitr; · iexact Hkn
    isplitl [Hc]; · iexact Hc
    isplitl [Hat]; · iexact Hat
    isplitl [HO]; · iexact HO
    iintro ⟨Hp, Hv, ⟨%W', HO⟩⟩
    iapply (ih W')
    isplitl [Hl]; · iexact Hl
    isplitl [HO]; · iexact HO
    iintro ⟨Hls, HO⟩
    iapply Hk
    isplitr [HO]
    · isplitr [Hls]
      · unfold outL
        isplitl [Hp] <;> iassumption
      iexact Hls
    iexact HO

/-- What waiting for a remote copy and for its counterpart takes and gives. -/
def waitR (c : Dev nD) (i : X.I) : sProp 𝕄 :=
  iprop(X.midR E m lq rq c i ∗ atPos E (X.scell c i) 0 ∅ 0
    ∗ X.known E m lq rq c (.inr (.inr i)) ∗ cred (tallyAt (X.rcell c i) () (X.rN i)) ∗ atPos E (X.rcell c i) 0 ∅ 0)
def outR (c : Dev nD) (i : X.I) : sProp 𝕄 :=
  iprop((X.pay m lq rq c (.inr (.inl i)) ∗ semVal (X.scell c i) 0) ∗ X.pay m lq rq c (.inr (.inr i)) ∗ semVal (X.rcell c i) 0)

theorem wp_waitsR (c : Dev nD) (k : Prog (TpuEff nD τ sig Val Λ .tc) α) (l : List X.I) (W : Waits sig Unit) :
    iprop(bigSepL l (X.waitR E m lq rq c) ∗ owes (c.tc : Thread nD τ) 0 W
        ∗ (iprop(bigSepL l (X.outR m lq rq c) ∗ ∃ W', owes (c.tc : Thread nD τ) 0 W') -∗ wp frame (𝔼 c) Set.univ k Q))
      ⊢ wp frame (𝔼 c) Set.univ (X.waitsR c k l) Q := by
  induction l generalizing W with
  | nil =>
    iintro ⟨-, HO, Hk⟩; iapply Hk; simp only [bigSepL_nil]
    isplitr; · iempintro
    iexists W; iexact HO
  | cons i l ih =>
    simp only [bigSepL_cons', waitsR]
    unfold waitR midR
    iintro ⟨⟨⟨⟨#Hkn, Hc⟩, Hat, #Hkn', Hc', Hat'⟩, Hl⟩, HO, Hk⟩
    iapply (X.wp_wait E m lq rq 𝒱 bd Q c (.inr (.inl i)) (fun K => by
      rw [wpE_waitDma2_eq, X.rN_src]; rfl) _ W)
    isplitr; · iexact Hkn
    isplitl [Hc]; · iexact Hc
    isplitl [Hat]; · iexact Hat
    isplitl [HO]; · iexact HO
    iintro ⟨Hp, Hv, ⟨%W', HO⟩⟩
    iapply (X.wp_wait E m lq rq 𝒱 bd Q c (.inr (.inr i)) (fun K => by
      rw [wpE_waitDma2_eq, X.rN_dst]; rfl) (fun _ => X.waitsR c k l) W')
    isplitr; · iexact Hkn'
    isplitl [Hc']; · iexact Hc'
    isplitl [Hat']; · iexact Hat'
    isplitl [HO]; · iexact HO
    iintro ⟨Hp', Hv', ⟨%W'', HO⟩⟩
    iapply (ih W'')
    isplitl [Hl]; · iexact Hl
    isplitl [HO]; · iexact HO
    iintro ⟨Hls, HO⟩
    iapply Hk
    isplitr [HO]
    · isplitr [Hls]
      · unfold outR
        isplitl [Hp Hv]
        · isplitl [Hp] <;> iassumption
        isplitl [Hp'] <;> iassumption
      iexact Hls
    iexact HO

/-- What a device holds at the exchange's first instruction, what it owes apart. -/
def Pre (c : Dev nD) : sProp 𝕄 :=
  iprop((bigSepL X.js (X.inL E m lq rq c) ∗ bigSepL X.js fun j => atPos E (X.lcell c j) 0 ∅ 0)
    ∗ (bigSepL X.is (X.inR E m lq rq c) ∗ bigSepL X.is fun i =>
      iprop(atPos E (X.scell c i) 0 ∅ 0 ∗ X.known E m lq rq c (.inr (.inr i)) ∗ cred (tallyAt (X.rcell c i) () (X.rN i)) ∗ atPos E (X.rcell c i) 0 ∅ 0)))
/-- And after its last. -/
def Post (c : Dev nD) : sProp 𝕄 := iprop(bigSepL X.js (X.outL m lq rq c) ∗ bigSepL X.is (X.outR m lq rq c))

omit [URA U] [E.LandsIn (upEmb : UEmb _ (MT nD τ sig Unit Val ℕ U ℕ))] in
theorem bigSepL_zip {A M : Type} [URA M] (l : List A) (Φ Ψ Θ : A → sProp M) (h : ∀ a, iprop(Φ a ∗ Ψ a) ⊢ Θ a) :
    iprop(bigSepL l Φ ∗ bigSepL l Ψ) ⊢ bigSepL l Θ := by
  induction l with
  | nil => iintro ⟨H, -⟩; iexact H
  | cons a l ih =>
    simp only [bigSepL_cons']
    iintro ⟨⟨Ha, Hl⟩, ⟨Hb, Hm⟩⟩
    isplitl [Ha Hb]
    · iapply (h a); isplitl [Ha] <;> iassumption
    iapply ih
    isplitl [Hl] <;> iassumption

/-- The exchange on one device. -/
theorem wp_prog (c : Dev nD) (k : Prog (TpuEff nD τ sig Val Λ .tc) α) (W : Waits sig Unit) :
    iprop(X.Pre E m lq rq c ∗ owes (c.tc : Thread nD τ) (X.owed c X.is) W
        ∗ (iprop(X.Post m lq rq c ∗ ∃ W', owes (c.tc : Thread nD τ) 0 W') -∗ wp frame (𝔼 c) Set.univ k Q))
      ⊢ wp frame (𝔼 c) Set.univ (X.prog c k) Q := by
  unfold Pre Post prog
  iintro ⟨⟨⟨HinL, HatL⟩, ⟨HinR, HatR⟩⟩, HO, Hk⟩
  iapply (X.wp_startsL E m lq rq 𝒱 bd Q c _ X.js)
  isplitl [HinL]; · iexact HinL
  iintro HmL
  iapply (X.wp_startsR E m lq rq 𝒱 bd Q c _ W X.is)
  isplitl [HinR]; · iexact HinR
  isplitl [HO]; · iexact HO
  iintro ⟨HmR, HO⟩
  iapply (X.wp_waitsL E m lq rq 𝒱 bd Q c _ X.js W)
  isplitl [HmL HatL]
  · iapply (bigSepL_zip X.js (X.midL E m lq rq c) (fun j => atPos E (X.lcell c j) 0 ∅ 0) (X.waitL E m lq rq c) (fun j => by unfold waitL; exact BI.Entails.refl _))
    isplitl [HmL] <;> iassumption
  isplitl [HO]; · iexact HO
  iintro ⟨HoL, ⟨%W', HO⟩⟩
  iapply (X.wp_waitsR E m lq rq 𝒱 bd Q c _ X.is W')
  isplitl [HmR HatR]
  · iapply (bigSepL_zip X.is (X.midR E m lq rq c) (fun i =>
      iprop(atPos E (X.scell c i) 0 ∅ 0 ∗ X.known E m lq rq c (.inr (.inr i)) ∗ cred (tallyAt (X.rcell c i) () (X.rN i)) ∗ atPos E (X.rcell c i) 0 ∅ 0))
      (X.waitR E m lq rq c) (fun i => by unfold waitR; exact BI.Entails.refl _))
    isplitl [HmR] <;> iassumption
  isplitl [HO]; · iexact HO
  iintro ⟨HoR, HO⟩
  iapply Hk
  isplitr [HO]
  · isplitl [HoL] <;> iassumption
  iexact HO

end Run

/-! ### The end -/

/-- The elements the copies of a device have read and those its own buffers have received. -/
def done (c : Dev nD) : sProp 𝕄 :=
  iprop((bigSep Finset.univ (X.lsrcPts m lq c) ∗ bigSep Finset.univ (X.lwritten m c))
    ∗ (bigSep Finset.univ (X.rsrcPts m rq c) ∗ bigSep Finset.univ fun i => X.rwritten m i (X.frm i c) c))

theorem post_done (c : Dev nD) : X.Post m lq rq c ⊢ (iprop(ownSems0 X.osem c ∗ X.done m lq rq c) : sProp 𝕄) := by
  have hos : (ownSems0 X.osem c : sProp 𝕄) = iprop(bigSep Finset.univ (fun j : X.J => semVal (X.lcell c j) 0)
      ∗ bigSep Finset.univ (fun i : X.I => semVal (X.scell c i) 0) ∗ bigSep Finset.univ (fun i : X.I => semVal (X.rcell c i) 0)) := by
    unfold ownSems0
    rw [BI.bigSep_univ_sum, BI.bigSep_univ_sum]
    rfl
  have hL : bigSep Finset.univ (X.outL m lq rq c) ⊢ (iprop((bigSep Finset.univ (X.lwritten m c) ∗ bigSep Finset.univ (X.lsrcPts m lq c))
      ∗ bigSep Finset.univ (fun j : X.J => semVal (X.lcell c j) 0)) : sProp 𝕄) := by
    rw [← bigSep_sep', ← bigSep_sep']
    exact BI.Entails.refl _
  have hR : bigSep Finset.univ (X.outR m lq rq c) ⊢ (iprop((bigSep Finset.univ (X.rsrcPts m rq c) ∗ bigSep Finset.univ (fun i : X.I => semVal (X.scell c i) 0))
      ∗ bigSep Finset.univ (fun i => X.rwritten m i (X.frm i c) c) ∗ bigSep Finset.univ (fun i : X.I => semVal (X.rcell c i) 0)) : sProp 𝕄) := by
    rw [← bigSep_sep', ← bigSep_sep', ← bigSep_sep']
    exact BI.Entails.refl _
  unfold Post done
  rw [hos, ← bigSep_univ_eq_bigSepL X.is X.is_univ X.is_nodup, ← bigSep_univ_eq_bigSepL X.js X.js_univ X.js_nodup]
  iintro ⟨HL, HR⟩
  ihave HL' := hL $$ HL
  ihave HR' := hR $$ HR
  icases HL' with ⟨⟨Hw, Hs⟩, Hz⟩
  icases HR' with ⟨⟨Hrs, Hzs⟩, Hrw, Hzr⟩
  isplitl [Hz Hzs Hzr]
  · isplitl [Hz]; · iexact Hz
    isplitl [Hzs] <;> iassumption
  isplitl [Hw Hs]
  · isplitl [Hs] <;> iassumption
  isplitl [Hrs] <;> iassumption

/-! ### The launch -/

section Launch

variable [E.LandsIn (upEmb : UEmb _ (MT nD τ sig Unit Val ℕ U ℕ))]

theorem cell_inj : Function.Injective (fun ck : Dev nD × X.K => X.cell (τ := τ) ck.1 ck.2) := fun a b h =>
  Prod.ext (Fin.ext (congrArg (fun g : GSem nD τ sig => g.1.1.val) h)) (X.osem_inj (congrArg Prod.snd h))

/-- The exchange's cells, and one duty token for each. -/
def cellsOf : Finset (GSem nD τ sig) := Finset.univ.map ⟨fun ck : Dev nD × X.K => X.cell ck.1 ck.2, X.cell_inj⟩
def toksOf : Finset (GSem nD τ sig × ℕ × Unit) :=
  Finset.univ.map ⟨fun ck : Dev nD × X.K => (X.cell ck.1 ck.2, 0, ()), fun a b h => X.cell_inj (congrArg Prod.fst h)⟩

/-- The ghost state of a device's own cells. -/
def G (c : Dev nD) : sProp 𝕄 :=
  bigSep Finset.univ fun k : X.K => iprop(roundState E (𝕊) (X.cell c k) 0 ∗ reached E (X.cell c k) 0 ∗ atPos E (X.cell c k) 0 ∅ 0 ∗ dutyTok E (X.cell c k) 0 ())

omit [E.LandsIn (upEmb : UEmb _ (MT nD τ sig Unit Val ℕ U ℕ))] in
theorem fund_cells : BI.own (E (initOf X.cellsOf X.toksOf)) ⊢ (|==> bigSep Finset.univ (X.G E m lq rq) : sProp 𝕄) := by
  have hX (Φ : GSem nD τ sig → sProp 𝕄) : bigSep X.cellsOf Φ = bigSep Finset.univ fun c : Dev nD => bigSep Finset.univ fun k : X.K => Φ (X.cell c k) := by
    unfold cellsOf; rw [BI.bigSep_map, BI.bigSep_univ_prod]; rfl
  have hT (Φ : GSem nD τ sig × ℕ × Unit → sProp 𝕄) : bigSep X.toksOf Φ = bigSep Finset.univ fun c : Dev nD => bigSep Finset.univ fun k : X.K => Φ (X.cell c k, 0, ()) := by
    unfold toksOf; rw [BI.bigSep_map, BI.bigSep_univ_prod]; rfl
  have h := Rounds.fund E (𝕊) X.cellsOf X.toksOf
  rw [hX, hX, hX, hT] at h
  refine h.trans (BI.bupd_mono ?_)
  unfold G
  simp only [bigSep_sep']
  exact BI.Entails.refl _

/-- The launch credit of what every device owes its peers: one credit on each of a device's own receive cells. -/
theorem launchCred_owed (l : List X.I) (c : Dev nD) :
    (launchCred (fun d => X.owed d l) c : sProp 𝕄) ⊢ bigSepL l fun i => cred (tallyAt (X.rcell c i) () (X.rN i)) := by
  induction l with
  | nil =>
    simp only [owed, bigSepL_nil]
    exact Entails.of_eq (launchCred_zero c)
  | cons i l ih =>
    simp only [owed, bigSepL_cons']
    rw [launchCred_add (fun d => X.owed d l) (fun d => tallyAt (X.rcell (X.dev i d) i) () (X.rN i)) c]
    iintro ⟨Hl, Hi⟩
    isplitl [Hi]
    · iapply (launchCred_tallyAt (.dma (X.rcv i)) (X.dev i) (X.frm i) (X.dev_frm i) (X.frm_dev i) () (X.rN i) c); iexact Hi
    iapply ih; iexact Hl

/-- The elements the copies of a device read and those its own buffers receive. -/
def rows (c : Dev nD) : sProp 𝕄 :=
  iprop((bigSep Finset.univ (X.lsrcPts m lq c) ∗ bigSep Finset.univ (X.ldstPts m c))
    ∗ (bigSep Finset.univ (X.rsrcPts m rq c) ∗ bigSep Finset.univ fun i => X.rdstPts m i (X.frm i c) c))

/-- What stays on a device, and what goes to the device that writes here. -/
def keepL (c : Dev nD) (j : X.J) : sProp 𝕄 := iprop(X.inL E m lq rq c j ∗ atPos E (X.lcell c j) 0 ∅ 0)
def keepR (c : Dev nD) (i : X.I) : sProp 𝕄 :=
  iprop((X.known E m lq rq c (.inr (.inl i)) ∗ X.rsrcPts m rq c i ∗ dutyTok E (X.scell c i) 0 ())
    ∗ atPos E (X.scell c i) 0 ∅ 0 ∗ X.known E m lq rq c (.inr (.inr i)) ∗ cred (tallyAt (X.rcell c i) () (X.rN i)) ∗ atPos E (X.rcell c i) 0 ∅ 0)
def give (i : X.I) (c : Dev nD) : sProp 𝕄 :=
  iprop(X.known E m lq rq c (.inr (.inr i)) ∗ X.rdstPts m i (X.frm i c) c ∗ dutyTok E (X.rcell c i) 0 ())

theorem open_cell (c : Dev nD) (k : X.K) :
    iprop(semVal (X.cell c k) 0 ∗ roundState E (𝕊) (X.cell c k) 0 ∗ reached E (X.cell c k) 0 ∗ atPos E (X.cell c k) 0 ∅ 0 ∗ dutyTok E (X.cell c k) 0 ())
      ⊢ |={Set.univ}=> iprop(X.known E m lq rq c k ∗ atPos E (X.cell c k) 0 ∅ 0 ∗ dutyTok E (X.cell c k) 0 ()) := by
  unfold known
  iintro ⟨Hv, Hst, Hr, Hat, Ht⟩
  imod ((Rounds.body_intro E (𝕊) (X.cell c k)).trans inv_alloc) $$ [Hv Hst] with Hinv
  · isplitl [Hv] <;> iassumption
  imodintro
  isplitl [Hinv Hr]
  · isplitl [Hinv] <;> iassumption
  isplitl [Hat] <;> iassumption

theorem open_cells (c : Dev nD) :
    iprop(ownSems0 X.osem c ∗ X.G E m lq rq c)
      ⊢ |={Set.univ}=> bigSep Finset.univ fun k : X.K => iprop(X.known E m lq rq c k ∗ atPos E (X.cell c k) 0 ∅ 0 ∗ dutyTok E (X.cell c k) 0 ()) := by
  unfold ownSems0 G
  rw [← bigSep_sep']
  exact (bigSep_mono fun k _ => X.open_cell E m lq rq c k).trans (BI.bigSep_fupd _ _)

omit [URA U] [E.LandsIn (upEmb : UEmb _ (MT nD τ sig Unit Val ℕ U ℕ))] in
theorem split_keys {M : Type} [URA M] (Φ : X.K → sProp M) :
    bigSep Finset.univ Φ ⊢ iprop(bigSep Finset.univ (fun j : X.J => Φ (.inl j))
      ∗ bigSep Finset.univ (fun i : X.I => Φ (.inr (.inl i))) ∗ bigSep Finset.univ (fun i : X.I => Φ (.inr (.inr i)))) := by
  refine (Entails.of_eq (BI.bigSep_univ_sum Φ)).trans ?_
  exact sep_mono_right (Entails.of_eq (BI.bigSep_univ_sum fun k => Φ (.inr k)))

theorem deal_own (c : Dev nD) :
    iprop(ownSems0 X.osem c ∗ launchCred (fun d => X.owed d X.is) c ∗ X.G E m lq rq c ∗ X.rows m lq rq c)
      ⊢ |={Set.univ}=> iprop((bigSep Finset.univ (X.keepL E m lq rq c) ∗ bigSep Finset.univ (X.keepR E m lq rq c)) ∗ bigSep Finset.univ fun i => X.give E m lq rq i c) := by
  have hcr := X.launchCred_owed (U := U) (Val := Val) X.is c
  rw [← bigSep_univ_eq_bigSepL X.is X.is_univ X.is_nodup] at hcr
  have hL : iprop((bigSep Finset.univ fun j : X.J => iprop(X.known E m lq rq c (.inl j) ∗ atPos E (X.lcell c j) 0 ∅ 0 ∗ dutyTok E (X.lcell c j) 0 ()))
      ∗ bigSep Finset.univ (X.lsrcPts m lq c) ∗ bigSep Finset.univ (X.ldstPts m c)) ⊢ (bigSep Finset.univ (X.keepL E m lq rq c) : sProp 𝕄) := by
    rw [← bigSep_sep', ← bigSep_sep']
    refine bigSep_mono fun j _ => (show _ ⊢ (_ : sProp 𝕄) from ?_)
    unfold keepL inL
    iintro ⟨⟨Hk, Hat, Ht⟩, Hs, Hd⟩
    isplitr [Hat]
    · isplitl [Hk]; · iexact Hk
      isplitl [Hs]; · iexact Hs
      isplitl [Hd] <;> iassumption
    iexact Hat
  have hR : iprop(((bigSep Finset.univ fun i : X.I => iprop(X.known E m lq rq c (.inr (.inl i)) ∗ atPos E (X.scell c i) 0 ∅ 0 ∗ dutyTok E (X.scell c i) 0 ()))
        ∗ (bigSep Finset.univ fun i : X.I => iprop(X.known E m lq rq c (.inr (.inr i)) ∗ atPos E (X.rcell c i) 0 ∅ 0 ∗ dutyTok E (X.rcell c i) 0 ())))
      ∗ (bigSep Finset.univ (X.rsrcPts m rq c) ∗ bigSep Finset.univ fun i => X.rdstPts m i (X.frm i c) c)
      ∗ bigSep Finset.univ fun i : X.I => cred (tallyAt (X.rcell c i) () (X.rN i)))
      ⊢ (iprop(bigSep Finset.univ (X.keepR E m lq rq c) ∗ bigSep Finset.univ fun i => X.give E m lq rq i c) : sProp 𝕄) := by
    rw [← bigSep_sep', ← bigSep_sep', ← bigSep_sep', ← bigSep_sep', ← bigSep_sep']
    refine bigSep_mono fun i _ => (show _ ⊢ (_ : sProp 𝕄) from ?_)
    unfold keepR give
    iintro ⟨⟨⟨Hk, Hat, Ht⟩, ⟨#Hk', Hat', Ht'⟩⟩, ⟨Hs, Hd⟩, Hc⟩
    isplitl [Hk Hat Ht Hat' Hs Hc]
    · isplitl [Hk Hs Ht]
      · isplitl [Hk]; · iexact Hk
        isplitl [Hs] <;> iassumption
      isplitl [Hat]; · iexact Hat
      isplitr; · iexact Hk'
      isplitl [Hc] <;> iassumption
    isplitr; · iexact Hk'
    isplitl [Hd] <;> iassumption
  unfold rows
  iintro ⟨Hv, Hc, HG, ⟨HL, HR⟩⟩
  imod (X.open_cells E m lq rq c) $$ [Hv HG] with Hk
  · isplitl [Hv] <;> iassumption
  ihave Hk' := (X.split_keys fun k => iprop(X.known E m lq rq c k ∗ atPos E (X.cell c k) 0 ∅ 0 ∗ dutyTok E (X.cell c k) 0 ())) $$ Hk
  icases Hk' with ⟨HkL, HkR'⟩
  imodintro
  ihave HR' := hR $$ [HkR' HR Hc]
  · isplitl [HkR']; · iexact HkR'
    isplitl [HR]; · iexact HR
    iapply hcr; iexact Hc
  icases HR' with ⟨HR1, HR2⟩
  isplitl [HkL HL HR1]
  · isplitl [HkL HL]
    · iapply hL
      isplitl [HkL] <;> iassumption
    iexact HR1
  iexact HR2

/-- The target devices of copy `i`, as a permutation. -/
def devEquiv (i : X.I) : Dev nD ≃ Dev nD := ⟨X.dev i, X.frm i, X.frm_dev i, X.dev_frm i⟩

omit [URA U] [E.LandsIn (upEmb : UEmb _ (MT nD τ sig Unit Val ℕ U ℕ))] in
theorem swap {M : Type} [URA M] (Φ : X.I → Dev nD → sProp M) :
    (bigSep Finset.univ fun c : Dev nD => bigSep Finset.univ fun i => Φ i c) = bigSep Finset.univ fun c : Dev nD => bigSep Finset.univ fun i => Φ i (X.dev i c) := by
  rw [BI.bigSep_univ_comm, BI.bigSep_univ_comm (fun c i => Φ i (X.dev i c))]
  exact bigSep_congr fun i _ => BI.bigSep_univ_equiv (X.devEquiv i) _

theorem start_own (c : Dev nD) :
    iprop((bigSep Finset.univ (X.keepL E m lq rq c) ∗ bigSep Finset.univ (X.keepR E m lq rq c)) ∗ bigSep Finset.univ fun i => X.give E m lq rq i (X.dev i c))
      ⊢ X.Pre E m lq rq c := by
  unfold Pre
  rw [← bigSep_univ_eq_bigSepL X.is X.is_univ X.is_nodup, ← bigSep_univ_eq_bigSepL X.is X.is_univ X.is_nodup,
    ← bigSep_univ_eq_bigSepL X.js X.js_univ X.js_nodup, ← bigSep_univ_eq_bigSepL X.js X.js_univ X.js_nodup, ← bigSep_sep', ← bigSep_sep']
  have hR : iprop(bigSep Finset.univ (X.keepR E m lq rq c) ∗ bigSep Finset.univ fun i => X.give E m lq rq i (X.dev i c))
      ⊢ (bigSep Finset.univ fun i : X.I => iprop(X.inR E m lq rq c i ∗ atPos E (X.scell c i) 0 ∅ 0 ∗ X.known E m lq rq c (.inr (.inr i))
        ∗ cred (tallyAt (X.rcell c i) () (X.rN i)) ∗ atPos E (X.rcell c i) 0 ∅ 0) : sProp 𝕄) := by
    rw [← bigSep_sep']
    refine bigSep_mono fun i _ => (show _ ⊢ (_ : sProp 𝕄) from ?_)
    unfold keepR give inR
    rw [X.frm_dev]
    iintro ⟨⟨⟨Hk, Hs, Ht⟩, Hrest⟩, Hk', Hd, Ht'⟩
    isplitr [Hrest]
    · isplitl [Hk]; · iexact Hk
      isplitl [Hk']; · iexact Hk'
      isplitl [Hs]; · iexact Hs
      isplitl [Hd]; · iexact Hd
      isplitl [Ht] <;> iassumption
    iexact Hrest
  iintro ⟨⟨HL, HR⟩, HG⟩
  isplitl [HL]
  · unfold keepL; iexact HL
  iapply hR
  isplitl [HR] <;> iassumption

/-- The first step: every device's cells opened, and each row dealt to the device that writes it. -/
theorem deal :
    (bigSep Finset.univ fun c : Dev nD => (iprop(ownSems0 X.osem c ∗ launchCred (fun d => X.owed d X.is) c ∗ X.G E m lq rq c ∗ X.rows m lq rq c) : sProp 𝕄))
      ⊢ |={Set.univ}=> bigSep Finset.univ (X.Pre E m lq rq) := by
  have h1 : (bigSep Finset.univ fun c : Dev nD => (iprop(ownSems0 X.osem c ∗ launchCred (fun d => X.owed d X.is) c ∗ X.G E m lq rq c ∗ X.rows m lq rq c) : sProp 𝕄))
      ⊢ |={Set.univ}=> bigSep Finset.univ fun c : Dev nD => iprop((bigSep Finset.univ (X.keepL E m lq rq c) ∗ bigSep Finset.univ (X.keepR E m lq rq c))
        ∗ bigSep Finset.univ fun i => X.give E m lq rq i c) :=
    (bigSep_mono fun c _ => X.deal_own E m lq rq c).trans (BI.bigSep_fupd _ _)
  have h2 : (bigSep Finset.univ fun c : Dev nD => (iprop((bigSep Finset.univ (X.keepL E m lq rq c) ∗ bigSep Finset.univ (X.keepR E m lq rq c))
        ∗ bigSep Finset.univ fun i => X.give E m lq rq i c) : sProp 𝕄)) ⊢ bigSep Finset.univ (X.Pre E m lq rq) := by
    rw [bigSep_sep', X.swap fun i c => X.give E m lq rq i c, ← bigSep_sep']
    exact bigSep_mono fun c _ => X.start_own E m lq rq c
  iintro H
  imod h1 $$ H with H
  imodintro
  iapply h2; iexact H

end Launch

end Sched

end Plan

end Cert.Exchange

end
-- ==== Proof.ScatterPlan.lean ====
/-
The exchange of the gradients as a table of copies, and the printed kernel as the run of that table.

Array `i` of the four is one buffer of eight rows on each device. Device `c` copies its own row of `main_arg i` to its own
row of `main_v1_i`, and for each of the seven other devices the row of that device to its own row on that device.
-/
module

public import proofs.«01_k».proof.Proof.Exchange
public import proofs.«01_k».proof.Proof.Gen.ScatterIdeal.Launch
public import proofs.«01_k».proof.Proof.Gen.ScatterIdeal.Skeleton

@[expose] public section

set_option maxRecDepth 65536

noncomputable section

namespace Cert.ScatterRun

open Idealize.ShloMosaic Idealize.ShloMosaic.TcCoe Idealize.SL.Sem
open Cert.ScatterIdeal Cert.ScatterIdeal.Gen

/-- The shape of a row of each array. -/
def rowShape : Fin 4 → Shape
  | 0 => S1024x1408
  | 1 => S256x1024
  | 2 => S128x1024
  | 3 => S128x1024

/-- Device `c`'s own row of each argument and of each result. -/
def inOwn : (i : Fin 4) → Dev nD → Memref sig .tc .hbm (rowShape i) .bf16
  | 0, c => ((Memref.whole main_arg0).slice (Rect.unit (s := S8x1024x1408) (k0_off1 c) S1x1024x1408.size (k0_off1_inb c)) (fun _ => rfl)).squeeze S1024x1408 squeezes_S1x1024x1408_S1024x1408
  | 1, c => ((Memref.whole main_arg1).slice (Rect.unit (s := S8x256x1024) (k0_off2 c) S1x256x1024.size (k0_off2_inb c)) (fun _ => rfl)).squeeze S256x1024 squeezes_S1x256x1024_S256x1024
  | 2, c => ((Memref.whole main_arg2).slice (Rect.unit (s := S8x128x1024) (k0_off3 c) S1x128x1024.size (k0_off3_inb c)) (fun _ => rfl)).squeeze S128x1024 squeezes_S1x128x1024_S128x1024
  | 3, c => ((Memref.whole main_arg3).slice (Rect.unit (s := S8x128x1024) (k0_off3 c) S1x128x1024.size (k0_off3_inb c)) (fun _ => rfl)).squeeze S128x1024 squeezes_S1x128x1024_S128x1024
def outOwn : (i : Fin 4) → Dev nD → Memref sig .tc .hbm (rowShape i) .bf16
  | 0, c => ((Memref.whole main_v1_0).slice (Rect.unit (s := S8x1024x1408) (k0_off1 c) S1x1024x1408.size (k0_off1_inb c)) (fun _ => rfl)).squeeze S1024x1408 squeezes_S1x1024x1408_S1024x1408
  | 1, c => ((Memref.whole main_v1_1).slice (Rect.unit (s := S8x256x1024) (k0_off2 c) S1x256x1024.size (k0_off2_inb c)) (fun _ => rfl)).squeeze S256x1024 squeezes_S1x256x1024_S256x1024
  | 2, c => ((Memref.whole main_v1_2).slice (Rect.unit (s := S8x128x1024) (k0_off3 c) S1x128x1024.size (k0_off3_inb c)) (fun _ => rfl)).squeeze S128x1024 squeezes_S1x128x1024_S128x1024
  | 3, c => ((Memref.whole main_v1_3).slice (Rect.unit (s := S8x128x1024) (k0_off3 c) S1x128x1024.size (k0_off3_inb c)) (fun _ => rfl)).squeeze S128x1024 squeezes_S1x128x1024_S128x1024
/-- The row of each argument that goes to the peer of round `r`. -/
def inPeer : (i : Fin 4) → Fin 7 → Dev nD → Memref sig .tc .hbm (rowShape i) .bf16
  | 0, r, c => ((Memref.whole main_arg0).slice (Rect.unit (s := S8x1024x1408) (k0_off4 c (k0_off4_at r).1 (k0_off4_at r).2.1 (k0_off4_at r).2.2) S1x1024x1408.size (k0_off4_inb c r)) (fun _ => rfl)).squeeze S1024x1408 squeezes_S1x1024x1408_S1024x1408
  | 1, r, c => ((Memref.whole main_arg1).slice (Rect.unit (s := S8x256x1024) (k0_off5 c (k0_off5_at r).1 (k0_off5_at r).2.1 (k0_off5_at r).2.2) S1x256x1024.size (k0_off5_inb c r)) (fun _ => rfl)).squeeze S256x1024 squeezes_S1x256x1024_S256x1024
  | 2, r, c => ((Memref.whole main_arg2).slice (Rect.unit (s := S8x128x1024) (k0_off6 c (k0_off6_at r).1 (k0_off6_at r).2.1 (k0_off6_at r).2.2) S1x128x1024.size (k0_off6_inb c r)) (fun _ => rfl)).squeeze S128x1024 squeezes_S1x128x1024_S128x1024
  | 3, r, c => ((Memref.whole main_arg3).slice (Rect.unit (s := S8x128x1024) (k0_off6 c (k0_off6_at r).1 (k0_off6_at r).2.1 (k0_off6_at r).2.2) S1x128x1024.size (k0_off6_inb c r)) (fun _ => rfl)).squeeze S128x1024 squeezes_S1x128x1024_S128x1024

theorem inOwn_ok : ∀ i c, (inOwn i c).view.WordExact
  | 0, c => ((Memref.isWhole_whole _).wordExact_slice rfl _ (k0_off1_wordsbf16 c)).reshape _ _
  | 1, c => ((Memref.isWhole_whole _).wordExact_slice rfl _ (k0_off2_wordsbf16 c)).reshape _ _
  | 2, c => ((Memref.isWhole_whole _).wordExact_slice rfl _ (k0_off3_wordsbf16 c)).reshape _ _
  | 3, c => ((Memref.isWhole_whole _).wordExact_slice rfl _ (k0_off3_wordsbf16 c)).reshape _ _
theorem outOwn_ok : ∀ i c, (outOwn i c).view.WordExact
  | 0, c => ((Memref.isWhole_whole _).wordExact_slice rfl _ (k0_off1_wordsbf16 c)).reshape _ _
  | 1, c => ((Memref.isWhole_whole _).wordExact_slice rfl _ (k0_off2_wordsbf16 c)).reshape _ _
  | 2, c => ((Memref.isWhole_whole _).wordExact_slice rfl _ (k0_off3_wordsbf16 c)).reshape _ _
  | 3, c => ((Memref.isWhole_whole _).wordExact_slice rfl _ (k0_off3_wordsbf16 c)).reshape _ _
theorem inPeer_ok : ∀ i r c, (inPeer i r c).view.WordExact
  | 0, r, c => ((Memref.isWhole_whole _).wordExact_slice rfl _ (k0_off4_wordsbf16 c r)).reshape _ _
  | 1, r, c => ((Memref.isWhole_whole _).wordExact_slice rfl _ (k0_off5_wordsbf16 c r)).reshape _ _
  | 2, r, c => ((Memref.isWhole_whole _).wordExact_slice rfl _ (k0_off6_wordsbf16 c r)).reshape _ _
  | 3, r, c => ((Memref.isWhole_whole _).wordExact_slice rfl _ (k0_off6_wordsbf16 c r)).reshape _ _

/-- The device each remote copy goes to, as printed. -/
def peerVal : Fin 7 × Fin 4 → Dev nD → ℕ
  | (0, 0), c => k0_dev1 c
  | (0, 1), c => k0_dev2 c
  | (0, 2), c => k0_dev3 c
  | (0, 3), c => k0_dev4 c
  | (1, 0), c => k0_dev5 c
  | (1, 1), c => k0_dev6 c
  | (1, 2), c => k0_dev7 c
  | (1, 3), c => k0_dev8 c
  | (2, 0), c => k0_dev9 c
  | (2, 1), c => k0_dev10 c
  | (2, 2), c => k0_dev11 c
  | (2, 3), c => k0_dev12 c
  | (3, 0), c => k0_dev13 c
  | (3, 1), c => k0_dev14 c
  | (3, 2), c => k0_dev15 c
  | (3, 3), c => k0_dev16 c
  | (4, 0), c => k0_dev17 c
  | (4, 1), c => k0_dev18 c
  | (4, 2), c => k0_dev19 c
  | (4, 3), c => k0_dev20 c
  | (5, 0), c => k0_dev21 c
  | (5, 1), c => k0_dev22 c
  | (5, 2), c => k0_dev23 c
  | (5, 3), c => k0_dev24 c
  | (6, 0), c => k0_dev25 c
  | (6, 1), c => k0_dev26 c
  | (6, 2), c => k0_dev27 c
  | (6, 3), c => k0_dev28 c
theorem peerVal_lt : ∀ i c, peerVal i c < nD := by decide +kernel
def peer (i : Fin 7 × Fin 4) (c : Dev nD) : Dev nD := ⟨peerVal i c, peerVal_lt i c⟩
theorem peer_peer : ∀ i c, peer i (peer i c) = c := by decide +kernel

theorem inb4 : ∀ i : Fin 4, ∀ a, (![i.val] : Fin 1 → ℕ) a + S1.size a ≤ S4.size a := by decide
theorem inb47 : ∀ (i : Fin 4) (r : Fin 7), ∀ a, (![i.val, r.val] : Fin 2 → ℕ) a + S1x1.size a ≤ S4x7.size a := by decide
def locSem (i : Fin 4) : DmaSem sig := ((cc0_scratch2.slice (Rect.unit (s := S4) ![i.val] S1.size (inb4 i))).squeeze S_ squeezes_S1_S_).sem
def sndSem (i : Fin 4) (r : Fin 7) : DmaSem sig := ((cc0_scratch0.slice (Rect.unit (s := S4x7) ![i.val, r.val] S1x1.size (inb47 i r))).squeeze S_ squeezes_S1x1_S_).sem
def rcvSem (i : Fin 4) (r : Fin 7) : DmaSem sig := ((cc0_scratch1.slice (Rect.unit (s := S4x7) ![i.val, r.val] S1x1.size (inb47 i r))).squeeze S_ squeezes_S1x1_S_).sem

/-- The units a copy of each array credits. -/
def units (i : Fin 4) : ℕ := (outOwn i 0).view.dmaCredit

theorem units_pos : ∀ i, 0 < units i := by decide +kernel
theorem units_outOwn : ∀ i c, (outOwn i c).view.dmaCredit = units i
  | 0, _ => rfl
  | 1, _ => rfl
  | 2, _ => rfl
  | 3, _ => rfl
theorem units_inPeer : ∀ i r c, (inPeer i r c).view.dmaCredit = units i
  | 0, _, _ => rfl
  | 1, _, _ => rfl
  | 2, _, _ => rfl
  | 3, _, _ => rfl

abbrev semOf (k : Fin 4 ⊕ (Fin 7 × Fin 4 ⊕ Fin 7 × Fin 4)) : DmaSem sig :=
  k.elim locSem fun k => k.elim (fun i => sndSem i.2 i.1) fun i => rcvSem i.2 i.1
theorem semOf_inj : Function.Injective semOf := by
  have h : ∀ a b, semOf a = semOf b → a = b := by decide +kernel
  exact fun a b => h a b

/-- The exchange of the gradients. -/
def plan : Exchange.Plan nD τ sig where
  J := Fin 4
  I := Fin 7 × Fin 4
  js := [0, 1, 2, 3]
  is := [(0, 0), (0, 1), (0, 2), (0, 3), (1, 0), (1, 1), (1, 2), (1, 3), (2, 0), (2, 1), (2, 2), (2, 3), (3, 0), (3, 1), (3, 2), (3, 3), (4, 0), (4, 1), (4, 2), (4, 3), (5, 0), (5, 1), (5, 2), (5, 3), (6, 0), (6, 1), (6, 2), (6, 3)]
  js_univ := by decide
  is_univ := by decide
  js_nodup := by decide
  is_nodup := by decide
  shJ := rowShape
  shI i := rowShape i.2
  eJ _ := .bf16
  eI _ := .bf16
  lsrc := inOwn
  ldst := outOwn
  lsem := locSem
  lsrc_ok := inOwn_ok
  ldst_ok := outOwn_ok
  rsrc i c := inPeer i.2 i.1 c
  rdst i c := outOwn i.2 c
  snd i := sndSem i.2 i.1
  rcv i := rcvSem i.2 i.1
  dev := peer
  frm := peer
  dev_frm := peer_peer
  frm_dev := peer_peer
  rsrc_ok i c := inPeer_ok i.2 i.1 c
  rdst_ok i c := outOwn_ok i.2 c
  plain := by decide +kernel
  routes := by decide +kernel
  lN := units
  rN i := units i.2
  lN_pos := units_pos
  rN_pos i := units_pos i.2
  lN_dst := units_outOwn
  rN_src i c := units_inPeer i.2 i.1 c
  rN_dst i c := units_outOwn i.2 c
  sem_inj := semOf_inj

variable {F : FTy → Type} [FloatOps F]

/-- The printed kernel is the run of the table on the device it reads. -/
theorem body_eq (t : Fin grid0.N) (s : (w : Fin 0) → Fin (win0 w).nbuf) :
    cc0_scatter_grads (F := F) (Memref.whole main_arg0) (Memref.isWhole_whole _) (Memref.whole main_arg1) (Memref.isWhole_whole _) (Memref.whole main_arg2) (Memref.isWhole_whole _) (Memref.whole main_arg3) (Memref.isWhole_whole _)
      (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2
      = .op .deviceId fun d => plan.prog d (.ret ⟨⟩) := by
  chain_rfl

end Cert.ScatterRun

end
-- ==== Proof.Rows.lean ====
/-
The rows of a buffer of eight: the elements of each row, the buffer as its eight rows, what a copy into a row leaves there.
-/
module

public import Idealize.ShloMosaic.Lib.Rounds
public import Idealize.ShloMosaic.Lib.ValueLayout
public import Idealize.ShloMosaic.Lib.Writes
public import Idealize.ShloMosaic.Lib.Pipeline.BigSepL
public import Idealize.ShloMosaic.Lib.ShareLeaves

@[expose] public section

noncomputable section

namespace Cert.Rows

open Idealize.ShloMosaic Idealize.ShloMosaic.TcCoe Idealize.ShloMosaic.ValueIdx
open Idealize.SL
open Idealize.SL.BI (sProp bigSep bigSep_map bigSep_insert)
open scoped Idealize.SL.BI
open Idealize.SL.BI.BIBase Idealize.SL.BI.Laws Idealize.SL.Sem
open Idealize.SL.RA

variable {nD : ℕ} {τ : Topo} {sig : RefSig} {e : EltTy} {A B : ℕ}

abbrev Stack (A B : ℕ) : Shape := ⟨3, ![8, A, B]⟩
abbrev One (A B : ℕ) : Shape := ⟨3, ![1, A, B]⟩
abbrev Sheet (A B : ℕ) : Shape := ⟨2, ![A, B]⟩

variable (M : Memref sig .tc .hbm (Stack A B) e)

/-- The row of a stack at an offset, as printed. -/
abbrev row (off : Fin 3 → ℕ) (inb : ∀ a, off a + (One A B).size a ≤ (Stack A B).size a) (sq : (One A B).Squeezes (Sheet A B)) :
    Memref sig .tc .hbm (Sheet A B) e :=
  (M.slice (Rect.unit (s := Stack A B) off (One A B).size inb) (fun _ => rfl)).squeeze (Sheet A B) sq

/-- An element of row `s` of a stack. -/
abbrev at3 (s : Fin 8) (z : (Sheet A B).Idx) : (Stack A B).Idx := ix3 s (z 0) (z 1)

theorem row_emb {off : Fin 3 → ℕ} (inb : ∀ a, off a + (One A B).size a ≤ (Stack A B).size a) (sq : (One A B).Squeezes (Sheet A B))
    {s : Fin 8} (h : off = ![s.val, 0, 0]) (z : (Sheet A B).Idx) : (row M off inb sq).view.emb z = M.view.emb (at3 s z) := by
  subst h
  have hz : z = ix2 (z 0) (z 1) := by funext a; match a with | ⟨0, _⟩ => rfl | ⟨1, _⟩ => rfl
  show M.view.emb ((Rect.unit (s := Stack A B) ![s.val, 0, 0] (One A B).size inb).emb (Shape.reshapeEquiv sq.numel_eq z)) = _
  refine congrArg M.view.emb ?_
  have hq : Shape.reshapeEquiv sq.numel_eq z = ix3 (⟨0, Nat.one_pos⟩ : Fin 1) (z 0) (z 1) := by
    conv_lhs => rw [hz]
    exact reshapeEquiv_ix2_1ab sq.numel_eq (z 0) (z 1)
  rw [hq]
  funext a
  apply Fin.ext
  match a with
  | ⟨0, _⟩ => show s.val + 1 * 0 = s.val; omega
  | ⟨1, _⟩ => show 0 + 1 * (z 0).val = (z 0).val; omega
  | ⟨2, _⟩ => show 0 + 1 * (z 1).val = (z 1).val; omega

theorem row_read {Val : EltTy → Type} {off : Fin 3 → ℕ} (inb : ∀ a, off a + (One A B).size a ≤ (Stack A B).size a)
    (sq : (One A B).Squeezes (Sheet A B)) {s : Fin 8} (h : off = ![s.val, 0, 0]) (g : M.view.ty.Contents Val) (z : (Sheet A B).Idx) :
    (row M off inb sq).view.read Val g z = M.view.read Val g (at3 s z) := by
  have he := row_emb M inb sq h z
  show _root_.cast _ (g ((row M off inb sq).view.emb z)) = _root_.cast _ (g (M.view.emb (at3 s z)))
  rw [he]

/-- The elements of row `s`. -/
def slab (s : Fin 8) : Finset M.view.ty.Idx :=
  Finset.univ.map ⟨fun z : (Sheet A B).Idx => M.view.emb (at3 s z), fun z z' h => by
    have h' := M.view.emb.injective h
    funext a
    match a with
    | ⟨0, _⟩ => exact congrFun h' 1
    | ⟨1, _⟩ => exact congrFun h' 2⟩

theorem row_set {off : Fin 3 → ℕ} (inb : ∀ a, off a + (One A B).size a ≤ (Stack A B).size a) (sq : (One A B).Squeezes (Sheet A B))
    {s : Fin 8} (h : off = ![s.val, 0, 0]) : (row M off inb sq).view.set = slab M s := by
  unfold slab View.set
  refine congrArg (fun E => Finset.map E Finset.univ) ?_
  exact Function.Embedding.ext fun z => row_emb M inb sq h z

theorem slab_disjoint {s s' : Fin 8} (h : s ≠ s') : Disjoint (slab M s) (slab M s') := by
  refine Finset.disjoint_left.mpr fun i hi hi' => h ?_
  obtain ⟨z, -, rfl⟩ := Finset.mem_map.mp hi
  obtain ⟨z', -, hz⟩ := Finset.mem_map.mp hi'
  exact (congrFun (M.view.emb.injective hz) 0).symm

theorem slab_cover : Finset.univ.biUnion (slab M) = M.view.set := by
  refine Finset.ext fun i => ⟨fun hi => ?_, fun hi => ?_⟩
  · obtain ⟨s, -, hi⟩ := Finset.mem_biUnion.mp hi
    obtain ⟨z, -, rfl⟩ := Finset.mem_map.mp hi
    exact M.view.emb_mem_set _
  · obtain ⟨y, -, rfl⟩ := Finset.mem_map.mp hi
    refine Finset.mem_biUnion.mpr ⟨y 0, Finset.mem_univ _, Finset.mem_map.mpr ⟨ix2 (y 1) (y 2), Finset.mem_univ _, ?_⟩⟩
    refine congrArg M.view.emb ?_
    funext a
    match a with
    | ⟨0, _⟩ => rfl
    | ⟨1, _⟩ => rfl
    | ⟨2, _⟩ => rfl

section Pts

variable {Val : EltTy → Type} {U : Type} [URA U]

local notation "𝕄" => MT nD τ sig Unit Val ℕ U ℕ

/-- A stack is its eight rows. -/
theorem pts_slabs (t : Dev nD) (q : PosShare TreeShare) (f : Buf Val (M.view.loc (t.tc : Thread nD τ))) :
    (M.view.loc (t.tc : Thread nD τ) ↦[M.view.set]{q} f : sProp 𝕄) = bigSep Finset.univ fun s => M.view.loc (t.tc : Thread nD τ) ↦[slab M s]{q} f := by
  have h₁ : (M.view.loc (t.tc : Thread nD τ) ↦[M.view.set]{q} f : sProp 𝕄) = (M.view.loc (t.tc : Thread nD τ) ↦[Finset.univ.biUnion (slab M)]{q} f) :=
    congrArg (fun S : Finset M.view.ty.Idx => (M.view.loc (t.tc : Thread nD τ) ↦[S]{q} f : sProp 𝕄)) (slab_cover M).symm
  have h₂ := pointsTo_biUnion (Ix := Unit) (Name := ℕ) (U := U) (Lvl := ℕ) (ℓ := M.view.loc (t.tc : Thread nD τ)) (q := q) (f := f) Finset.univ (slab M)
    fun s _ s' _ h => slab_disjoint M h
  exact h₁.trans h₂

theorem pts_row (t : Dev nD) (q : PosShare TreeShare) (f : Buf Val (M.view.loc (t.tc : Thread nD τ)))
    {off : Fin 3 → ℕ} (inb : ∀ a, off a + (One A B).size a ≤ (Stack A B).size a) (sq : (One A B).Squeezes (Sheet A B))
    {s : Fin 8} (h : off = ![s.val, 0, 0]) :
    ((row M off inb sq).view.loc (t.tc : Thread nD τ) ↦[(row M off inb sq).view.set]{q} f : sProp 𝕄)
      = M.view.loc (t.tc : Thread nD τ) ↦[slab M s]{q} f :=
  congrArg (fun S : Finset M.view.ty.Idx => (M.view.loc (t.tc : Thread nD τ) ↦[S]{q} f : sProp 𝕄)) (row_set M inb sq h)

/-- A row written whole holds the row of any contents that read so. -/
theorem pts_written (t : Dev nD) (q : PosShare TreeShare) (f g : Buf Val (M.view.loc (t.tc : Thread nD τ))) (v : (Sheet A B).Idx → Val e)
    {off : Fin 3 → ℕ} (inb : ∀ a, off a + (One A B).size a ≤ (Stack A B).size a) (sq : (One A B).Squeezes (Sheet A B))
    {s : Fin 8} (h : off = ![s.val, 0, 0]) (hv : ∀ z, v z = M.view.read Val g (at3 s z)) :
    ((row M off inb sq).view.loc (t.tc : Thread nD τ) ↦[(row M off inb sq).view.set]{q} (row M off inb sq).view.write Val f v Finset.univ : sProp 𝕄)
      = M.view.loc (t.tc : Thread nD τ) ↦[slab M s]{q} g := by
  rw [← pts_row M t q g inb sq h]
  refine pointsTo_congr fun i hi => ?_
  obtain ⟨z, -, rfl⟩ := Finset.mem_map.mp hi
  rw [View.write_emb_of_mem _ _ (Finset.mem_univ _), hv z, ← row_read M inb sq h g z]
  show _root_.cast _ (_root_.cast _ (g _)) = _
  simp

/-- Eight of anything is one and the seven others. -/
theorem bigSep_one_others (Φ : Fin 8 → sProp 𝕄) (c : Fin 8) (p : Fin 7 → Fin 8) (hp : Function.Injective p) (hc : ∀ r, p r ≠ c) :
    bigSep Finset.univ Φ = iprop(Φ c ∗ bigSep Finset.univ fun r => Φ (p r)) := by
  have hu : (Finset.univ : Finset (Fin 8)) = insert c (Finset.univ.map ⟨p, hp⟩) := by
    refine (Finset.eq_univ_of_card _ ?_).symm
    rw [Finset.card_insert_of_notMem, Finset.card_map]
    · rfl
    · intro h
      obtain ⟨r, -, hr⟩ := Finset.mem_map.mp h
      exact hc r hr
  rw [hu, bigSep_insert, bigSep_map]
  · rfl
  · intro h
    obtain ⟨r, -, hr⟩ := Finset.mem_map.mp h
    exact hc r hr

variable {off : Fin 3 → ℕ} {inb : ∀ a, off a + (One A B).size a ≤ (Stack A B).size a} {sq : (One A B).Squeezes (Sheet A B)}
  {offs : Fin 7 → Fin 3 → ℕ} {inbs : ∀ r, ∀ a, offs r a + (One A B).size a ≤ (Stack A B).size a}

/-- A whole stack as one row and the seven others, as printed. -/
theorem pts_split (hM : M.view.set = Finset.univ) (t : Dev nD) (q : PosShare TreeShare) (f : Buf Val (M.view.loc (t.tc : Thread nD τ)))
    (c : Fin 8) (p : Fin 7 → Fin 8) (hp : Function.Injective p) (hc : ∀ r, p r ≠ c)
    (h : off = ![c.val, 0, 0]) (hs : ∀ r, offs r = ![(p r).val, 0, 0]) :
    (M.view.loc (t.tc : Thread nD τ) ↦{q} f : sProp 𝕄)
      = iprop(((row M off inb sq).view.loc (t.tc : Thread nD τ) ↦[(row M off inb sq).view.set]{q} f)
        ∗ bigSep Finset.univ fun r => (row M (offs r) (inbs r) sq).view.loc (t.tc : Thread nD τ) ↦[(row M (offs r) (inbs r) sq).view.set]{q} f) := by
  have h₀ : (M.view.loc (t.tc : Thread nD τ) ↦{q} f : sProp 𝕄) = (M.view.loc (t.tc : Thread nD τ) ↦[M.view.set]{q} f) :=
    congrArg (fun S : Finset M.view.ty.Idx => (M.view.loc (t.tc : Thread nD τ) ↦[S]{q} f : sProp 𝕄)) hM.symm
  rw [h₀, pts_slabs, bigSep_one_others _ c p hp hc, pts_row M t q f inb sq h]
  refine congrArg _ (BI.bigSep_congr fun r _ => ?_)
  rw [pts_row M t q f (inbs r) sq (hs r)]

/-- The same rows, each written whole, as the whole stack. -/
theorem pts_joined (hM : M.view.set = Finset.univ) (t : Dev nD) (q : PosShare TreeShare) (f g : Buf Val (M.view.loc (t.tc : Thread nD τ)))
    (c : Fin 8) (p : Fin 7 → Fin 8) (hp : Function.Injective p) (hc : ∀ r, p r ≠ c)
    (h : off = ![c.val, 0, 0]) (hs : ∀ r, offs r = ![(p r).val, 0, 0])
    (v : (Sheet A B).Idx → Val e) (vs : Fin 7 → (Sheet A B).Idx → Val e)
    (hv : ∀ z, v z = M.view.read Val g (at3 c z)) (hvs : ∀ r z, vs r z = M.view.read Val g (at3 (p r) z)) :
    iprop(((row M off inb sq).view.loc (t.tc : Thread nD τ) ↦[(row M off inb sq).view.set]{q} (row M off inb sq).view.write Val f v Finset.univ)
        ∗ bigSep Finset.univ fun r => (row M (offs r) (inbs r) sq).view.loc (t.tc : Thread nD τ) ↦[(row M (offs r) (inbs r) sq).view.set]{q}
          (row M (offs r) (inbs r) sq).view.write Val f (vs r) Finset.univ)
      = (M.view.loc (t.tc : Thread nD τ) ↦{q} g : sProp 𝕄) := by
  have h₀ : (M.view.loc (t.tc : Thread nD τ) ↦{q} g : sProp 𝕄) = (M.view.loc (t.tc : Thread nD τ) ↦[M.view.set]{q} g) :=
    congrArg (fun S : Finset M.view.ty.Idx => (M.view.loc (t.tc : Thread nD τ) ↦[S]{q} g : sProp 𝕄)) hM.symm
  rw [h₀, pts_slabs, bigSep_one_others _ c p hp hc, pts_written M t q f g v inb sq h hv]
  refine congrArg _ (BI.bigSep_congr fun r _ => ?_)
  rw [pts_written M t q f g (vs r) (inbs r) sq (hs r) (hvs r)]

/-- The share of a whole buffer that each of eight copies reading it at once is lent. -/
abbrev eighth (k : Fin 8) : PosShare TreeShare := ShareLeaves.leaf 3 fullShare k

/-- A whole buffer as the eight shares of it, the first apart. -/
theorem pts_shares {s : Shape} (N : Memref sig .tc .hbm s e) (hN : N.view.set = Finset.univ) (t : Dev nD) (f : Buf Val (N.view.loc (t.tc : Thread nD τ))) :
    (N.view.loc (t.tc : Thread nD τ) ↦{fullShare} f : sProp 𝕄)
      = iprop((N.view.loc (t.tc : Thread nD τ) ↦[N.view.set]{eighth 0} f)
        ∗ bigSep Finset.univ fun r : Fin 7 => N.view.loc (t.tc : Thread nD τ) ↦[N.view.set]{eighth r.succ} f) := by
  have h₀ : (N.view.loc (t.tc : Thread nD τ) ↦{fullShare} f : sProp 𝕄) = (N.view.loc (t.tc : Thread nD τ) ↦[N.view.set]{fullShare} f) :=
    congrArg (fun S : Finset N.view.ty.Idx => (N.view.loc (t.tc : Thread nD τ) ↦[S]{fullShare} f : sProp 𝕄)) hN.symm
  exact h₀.trans ((ShareLeaves.pointsTo_leaves _ _ 3 fullShare).trans (bigSep_one_others _ 0 Fin.succ (Fin.succ_injective 7) fun r => Fin.succ_ne_zero r))

end Pts

section Arrays

variable {Val : EltTy → Type} {U : Type} [URA U]

local notation "𝕄" => MT nD τ sig Unit Val ℕ U ℕ

theorem pairs (Φ : Fin 7 × Fin 4 → sProp 𝕄) :
    bigSep Finset.univ Φ = bigSep Finset.univ fun i : Fin 4 => bigSep Finset.univ fun r : Fin 7 => Φ (r, i) := by
  rw [BI.bigSep_univ_prod, BI.bigSep_univ_comm]

/-- Four arrays, each one part and seven others, as the four parts and the twenty-eight others. -/
theorem by_array (C A : Fin 4 → sProp 𝕄) (B : Fin 7 × Fin 4 → sProp 𝕄) (h : ∀ i, C i = iprop(A i ∗ bigSep Finset.univ fun r : Fin 7 => B (r, i))) :
    bigSep Finset.univ C = iprop(bigSep Finset.univ A ∗ bigSep Finset.univ B) := by
  rw [BI.bigSep_congr fun i _ => h i, BI.bigSep_sep', pairs]

end Arrays

end Cert.Rows

end
-- ==== Proof.First.lean ====
/-
A program whose first statement is a kernel region entered with the devices' buffers already dealt out between them.

The library's launch theorems deal each device its own buffers. In an exchange without a handshake a device writes into the
other devices' buffers from its first instruction on, so it has to own the rows it writes from the start. `run_first` is
the launch for such a program: one step over all devices at once sorts the semaphores, the buffers and the ghost state into
the state each device enters the region with; the region runs by the library's region rule; whatever follows it is a list of
the library's segments.
-/
module

public import Idealize.ShloMosaic.Lib.Pipeline.Launch
public import Idealize.ShloMosaic.Lib.Pipeline.Regions
public import Idealize.ShloMosaic.Lib.Tactic

@[expose] public section

set_option Elab.async false

noncomputable section

namespace Cert.First

open Idealize.ShloMosaic Idealize.ShloMosaic.Pipeline Idealize.ShloMosaic.Rounds
open Idealize.ShloMosaic.TcCoe
open Idealize.SL
open Idealize.SL.BI (sProp bigSep bigSep_sep' bigSep_mono bigSep_congr)
open scoped Idealize.SL.BI
open Idealize.SL.BI.BIBase Idealize.SL.BI.Laws Idealize.SL.Sem Idealize.SL.ProofMode
open Idealize.SL.RA

variable {nD : Nat} {τ : Topo} {sig : RefSig} {Val : EltTy → Type}
variable {U : Type} [URA U]

local notation "𝕄" => MT nD τ sig Unit Val ℕ U ℕ

variable {Λ₀ : Idealize.SL.Sem.Labels} {P : Type} [Fintype P]
variable (pcs : P → PCfg sig Λ₀ Val) (a : (p : P) → (pcs p).Adm)
  (pdats : (p : P) → (c : Dev nD) → Dat τ Val Unit ℕ U ℕ (pin pcs a p) c)
  (phinj : Function.Injective (cellOf (nD := nD) (pin pcs a)))
  (EP : Emb (URounds (GSem nD τ sig) Unit) (MT nD τ sig Unit Val ℕ U ℕ))
  (defs₀ : Defs nD τ sig Val Λ₀) (𝒱₀ : Variants)

local notation "𝔻" => Pipeline.defs pcs defs₀
local notation "𝕍" => Variants.lift 𝒱₀

/-- No wait is made while owing, so no index needs a level. -/
abbrev L₀ : GSem nD τ sig → Finset Unit := fun _ => ∅
abbrev lv₀ : GSem nD τ sig → Unit → ℕ := fun _ _ => 0

theorem levAts_none : (levAts (L₀ (nD := nD) (τ := τ) (sig := sig)) lv₀ : sProp 𝕄) = BI.emp := by
  unfold levAts
  rw [bigSep_congr (Ψ := fun _ : GSem nD τ sig => (BI.emp : sProp 𝕄)) fun g _ => BI.bigSep_empty, BI.bigSep_emp_const]

variable {K : Type} [Fintype K] (osem : K → SemLoc sig)

/-- What one device brings to the first step: its own semaphores at zero, its unscoped buffers at the launch memory, what it
    owes, its launch credit and its ghost state. -/
abbrev dealt (m : (ℓ : Loc nD τ sig) → Buf Val ℓ) (O₀ : Dev nD → CellTallies nD τ sig Unit) (G : Dev nD → sProp 𝕄) (c : Dev nD) : sProp 𝕄 :=
  iprop(ownSems0 osem c ∗ unscopedBufs c (fun b => m ((c.tc : Thread nD τ).loc b)) ∗ owes (c.tc : Thread nD τ) (O₀ c) ∅
    ∗ launchCred O₀ c ∗ G c)

include phinj in
/-- The region and what follows it, on one device. -/
theorem wp_first [DecidableEq P] [∀ e, Nonempty (Val e)] [EP.LandsIn (upEmb : UEmb _ 𝕄)]
    {p : P} (win : WinFacts₀ (pcs p).spec) (ho : OwnSemFacts (pcs p).spec osem)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (c : Dev nD) (hbody : BodyObligationLoose (pdats p c) defs₀ 𝒱₀ () Set.univ)
    (hwaits : (BI.emp : sProp 𝕄) ⊢ cellsWaits (pin pcs a) pdats () p c)
    (T X Y Z T₁ : Dev nD → sProp 𝕄)
    (hentry : T c ⊢ |={Set.univ}=> iprop((pdats p c).arrays ((pdats p c).arrAt · 0) ∗ prefHeld (pcs p).pre c (fun _ => fullShare) (a p).1
        ∗ (pdats p c).owesAt () 0 ∗ X c ∗ Z c))
    (hin : iprop(X c ∗ prefHeld (pcs p).pre c (fun _ => fullShare) (a p).1 ∗ scopedRest (pin pcs a p).spec c) ⊢ (pdats p c).Φ 0)
    (hout : (pdats p c).Φ (Fin.last (pin pcs a p).N) ⊢ iprop(Y c ∗ ownSems0 osem c ∗ scopedRest (pin pcs a p).spec c))
    (hexit : iprop((pdats p c).arrays ((pdats p c).arrAt · (pin pcs a p).N) ∗ (pdats p c).owesAt () (Fin.last (pin pcs a p).N) ∗ Y c ∗ Z c)
      ⊢ |={Set.univ}=> T₁ c)
    {α : Type} (k : PUnit → Prog (TpuEff nD τ sig Val (Sig Λ₀ P fun p => (pcs p).Adm) .tc) α) (Q : α → sProp 𝕄) :
    iprop((iprop(boundary (c.tc : Thread nD τ) ∗ T₁ c) -∗ wp frame (wpE 𝔻 𝕍 (c.tc : Thread nD τ) none) Set.univ (k ⟨⟩) Q)
        ∗ (scopedBufs (c.tc : Thread nD τ) ∗ cellsSems0 (pin pcs a) p c ∗ idleSems0 (pin pcs a) phinj p ho c ∗ opIdle (c.tc : Thread nD τ))
        ∗ T c ∗ cellsGhost (pin pcs a) EP p c ∗ toksInit (pin pcs a) EP p c)
      ⊢ wp frame (wpE 𝔻 𝕍 (c.tc : Thread nD τ) none) Set.univ (.op (.customCall (entry p) ()) k) Q := by
  classical
  have hss := scopedSems0_split (pin pcs a) phinj p win ho (Ix := Unit) (Val := Val) (Name := ℕ) (U := U) (Lvl := ℕ) c
  have hsb := scopedBufs_split (pin pcs a) p win.stage_scoped win.stage_inj stage_whole (nD := nD) (τ := τ) (Ix := Unit) (Val := Val) (Name := ℕ) (U := U) (Lvl := ℕ) c
  have hleave : iprop((pdats p c).Φ (Fin.last (pin pcs a p).N) ∗ cellsSems0 (pin pcs a) p c ∗ Dat.staging (pin pcs a p) c ∗ idleSems0 (pin pcs a) phinj p ho c)
      ⊢ iprop(Y c ∗ scopedSems0 (c.tc : Thread nD τ) ∗ scopedBufs (c.tc : Thread nD τ)) := by
    rw [hss, hsb]
    iintro ⟨HΦ, Hcells, Hst, Hidle⟩
    ihave H := hout $$ HΦ
    icases H with ⟨HY, Hos, Hrest⟩
    isplitl [HY]; · iexact HY
    isplitl [Hcells Hos Hidle]
    · isplitl [Hcells Hos]; · isplitl [Hcells] <;> iassumption
      iexact Hidle
    isplitl [Hst] <;> iassumption
  iintro ⟨Hk, ⟨Hsc, Hcells, Hidle, Hop⟩, HT, Hg, Ht⟩
  iapply (fupd_wp frame (wpE 𝔻 𝕍 (c.tc : Thread nD τ) none) Set.univ _ _)
  imod (cellsInit_alloc (pin pcs a) pdats EP phinj p c) $$ [Hcells Hg] with ⟨%κ, -, Hinit⟩
  · isplitl [Hcells] <;> iassumption
  imod hentry $$ HT with ⟨Harr, Hpf, HO, HX, HZ⟩
  imodintro
  iapply (wp_customCall_entry_frame pcs a pdats () EP κ phinj p defs₀ 𝒱₀ (fun _ => fullShare) c Set.univ (fun _ _ => Set.mem_univ _)
      hbody block_pos none (fun u h => nomatch h) (X := X c) (Y := Y c) (R := scopedRest (pcs p).spec c)
      (I := idleSems0 (pin pcs a) phinj p ho c) (Entails.of_eq hsb) hin hleave (k := k) (Q := Q)) $$ [Harr HO Hinit Ht Hpf HX Hidle Hsc]
  · isplitl [Harr HO Hinit Ht]
    · unfold EntryPre PerCore.EntryPre
      isplitl [Harr]; · iexact Harr
      isplitl [HO]; · iexact HO
      isplitr; · iapply hwaits; iempintro
      isplitl [Hinit] <;> iassumption
    isplitl [Hpf]; · iexact Hpf
    isplitl [HX]; · iexact HX
    isplitl [Hidle]; · iexact Hidle
    iexact Hsc
  iintro ⟨Hpost, HY, Hss2, Hsc2⟩
  unfold EntryPost PerCore.EntryPost
  icases Hpost with ⟨Ha, HO⟩
  iapply (fupd_wp frame (wpE 𝔻 𝕍 (c.tc : Thread nD τ) none) Set.univ _ _)
  imod hexit $$ [Ha HO HY HZ] with Hpost
  · isplitl [Ha]; · iexact Ha
    isplitl [HO]; · iexact HO
    isplitl [HY] <;> iassumption
  imodintro
  iapply Hk
  isplitr [Hpost]
  · iapply (show iprop(scopedBufs (c.tc : Thread nD τ) ∗ scopedSems0 (c.tc : Thread nD τ) ∗ opIdle (c.tc : Thread nD τ))
      ⊢ (boundary (c.tc : Thread nD τ) : sProp 𝕄) from BI.Entails.refl _)
    isplitl [Hsc2]; · iexact Hsc2
    isplitl [Hss2] <;> iassumption
  iexact Hpost

theorem dealt_intro (m : (ℓ : Loc nD τ sig) → Buf Val ℓ) (O₀ : Dev nD → CellTallies nD τ sig Unit) (G : Dev nD → sProp 𝕄) (c : Dev nD) :
    iprop((ownSems0 osem c ∗ unscopedBufs c (fun b => m ((c.tc : Thread nD τ).loc b)) ∗ owes (c.tc : Thread nD τ) (O₀ c) ∅
      ∗ launchCred O₀ c) ∗ G c) ⊢ dealt osem m O₀ G c := by
  iintro ⟨⟨H1, H2, H3, H4⟩, HG⟩
  isplitl [H1]; · iexact H1
  isplitl [H2]; · iexact H2
  isplitl [H3]; · iexact H3
  isplitl [H4] <;> iassumption

/-- What a device holds once the first step has run. -/
def atStart [DecidableEq P] (p : P) (ho : OwnSemFacts (pcs p).spec osem) (T : Dev nD → sProp 𝕄) (c : Dev nD) : sProp 𝕄 :=
  iprop((scopedBufs (c.tc : Thread nD τ) ∗ cellsSems0 (pin pcs a) p c ∗ idleSems0 (pin pcs a) phinj p ho c ∗ opIdle (c.tc : Thread nD τ))
    ∗ T c ∗ ghostOn pcs a EP Finset.univ c)

/-- A device's launch holdings, its own semaphores taken out. -/
theorem coreInit_deal {p : P} (win : WinFacts₀ (pcs p).spec) (ho : OwnSemFacts (pcs p).spec osem)
    (m : (ℓ : Loc nD τ sig) → Buf Val ℓ) (g : Dev nD → PrngReg) (O₀ : Dev nD → CellTallies nD τ sig Unit) (c : Dev nD) :
    coreInit (Ix := Unit) (Name := ℕ) (U := U) (Lvl := ℕ) (owing O₀) 0 (⟨m, fun _ => 0, g⟩ : MemSt nD τ sig Val) (c.tc : Thread nD τ)
      ⊢ iprop((scopedBufs (c.tc : Thread nD τ) ∗ cellsSems0 (pin pcs a) p c ∗ idleSems0 (pin pcs a) phinj p ho c ∗ opIdle (c.tc : Thread nD τ))
        ∗ (ownSems0 osem c ∗ unscopedBufs c (fun b => m ((c.tc : Thread nD τ).loc b)) ∗ owes (c.tc : Thread nD τ) (O₀ c) ∅
          ∗ launchCred O₀ c)) := by
  refine (coreInit_boundary_owing O₀ m g c).trans ?_
  unfold boundary
  rw [scopedSems0_split (pin pcs a) phinj p win ho (Ix := Unit) (Val := Val) (Name := ℕ) (U := U) (Lvl := ℕ) c]
  iintro ⟨⟨Hsc, ⟨⟨Hcells, Hos⟩, Hidle⟩, Hop⟩, Hub, -, HL, -, -, Hcr⟩
  isplitl [Hsc Hcells Hidle Hop]
  · isplitl [Hsc]; · iexact Hsc
    isplitl [Hcells]; · iexact Hcells
    isplitl [Hidle] <;> iassumption
  isplitl [Hos]; · iexact Hos
  isplitl [Hub]; · iexact Hub
  isplitl [HL] <;> iassumption

include phinj in
theorem run_first [DecidableEq P] [∀ e, Nonempty (Val e)] [EP.LandsIn (upEmb : UEmb _ 𝕄)]
    (m : (ℓ : Loc nD τ sig) → Buf Val ℓ) (g : Dev nD → PrngReg)
    {p : P} (win : WinFacts₀ (pcs p).spec) (ho : OwnSemFacts (pcs p).spec osem)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (main : Dev nD → Prog (TpuEff nD τ sig Val (Sig Λ₀ P fun p => (pcs p).Adm) .tc) PUnit)
    (segs : List (Seg pcs a pdats () defs₀ 𝒱₀ L₀ lv₀))
    (hmain : ∀ c, main c = .op (.customCall (entry p) ()) fun _ => Seg.run segs)
    (hnd : (Seg.pipes segs).Nodup) (hp : p ∉ Seg.pipes segs)
    (hbody : ∀ c, BodyObligationLoose (pdats p c) defs₀ 𝒱₀ () Set.univ)
    (hwaits : ∀ c, (BI.emp : sProp 𝕄) ⊢ cellsWaits (pin pcs a) pdats () p c)
    (O₀ : Dev nD → CellTallies nD τ sig Unit) (G : Dev nD → sProp 𝕄) (u₀ : U)
    (hu₀ : (ownU u₀ : sProp 𝕄)
      ⊢ |={Set.univ}=> iprop(BI.own (EP (initOf (cells (pin pcs a) phinj) (launchToks (pin pcs a) phinj))) ∗ bigSep Finset.univ G))
    (T X Y Z T₁ Tₙ : Dev nD → sProp 𝕄)
    (hdeal : (bigSep Finset.univ fun c : Dev nD => dealt osem m O₀ G c) ⊢ |={Set.univ}=> bigSep Finset.univ T)
    (hentry : ∀ c, T c ⊢ |={Set.univ}=> iprop((pdats p c).arrays ((pdats p c).arrAt · 0) ∗ prefHeld (pcs p).pre c (fun _ => fullShare) (a p).1
        ∗ (pdats p c).owesAt () 0 ∗ X c ∗ Z c))
    (hin : ∀ c, iprop(X c ∗ prefHeld (pcs p).pre c (fun _ => fullShare) (a p).1 ∗ scopedRest (pin pcs a p).spec c) ⊢ (pdats p c).Φ 0)
    (hout : ∀ c, (pdats p c).Φ (Fin.last (pin pcs a p).N) ⊢ iprop(Y c ∗ ownSems0 osem c ∗ scopedRest (pin pcs a p).spec c))
    (hexit : ∀ c, iprop((pdats p c).arrays ((pdats p c).arrAt · (pin pcs a p).N) ∗ (pdats p c).owesAt () (Fin.last (pin pcs a p).N) ∗ Y c ∗ Z c)
      ⊢ |={Set.univ}=> T₁ c)
    (hch : Seg.Chains T₁ segs fun c => iprop(Tₙ c ∗ ∃ W, owes (c.tc : Thread nD τ) (0 : CellTallies nD τ sig Unit) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let fin : Dev nD → sProp 𝕄 := fun c => iprop(Tₙ c ∗ boundary (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀
      (fun _ => atStart pcs a phinj EP osem p ho T) (fun _ => fin)
      (fun _ => iprop(emp)) Set.univ ?_ (fun _ c => ?_) fun _ => ?_))
  · have hcores : (bigSep Finset.univ fun d : Dev nD =>
          coreInit (Ix := Unit) (Name := ℕ) (U := U) (Lvl := ℕ) (owing O₀) 0 (⟨m, fun _ => 0, g⟩ : MemSt nD τ sig Val) (d.tc : Thread nD τ))
        ⊢ iprop((bigSep Finset.univ fun c : Dev nD => iprop(scopedBufs (c.tc : Thread nD τ) ∗ cellsSems0 (pin pcs a) p c ∗ idleSems0 (pin pcs a) phinj p ho c ∗ opIdle (c.tc : Thread nD τ)))
          ∗ bigSep Finset.univ fun c : Dev nD => (iprop(ownSems0 osem c ∗ unscopedBufs c (fun b => m ((c.tc : Thread nD τ).loc b))
            ∗ owes (c.tc : Thread nD τ) (O₀ c) ∅ ∗ launchCred O₀ c) : sProp 𝕄)) := by
      rw [← bigSep_sep']
      exact bigSep_mono fun c _ => coreInit_deal pcs a phinj osem win ho m g O₀ c
    iintro ⟨Hcores, Hu⟩
    ihave Hc := hcores $$ Hcores
    icases Hc with ⟨Hscoped, Hown⟩
    imod hu₀ $$ Hu with ⟨HP, HG⟩
    imod (fund_ghost (pin pcs a) EP phinj) $$ HP with ⟨Hg, Ht⟩
    imod ((show iprop((bigSep Finset.univ fun c : Dev nD => iprop(ownSems0 osem c ∗ unscopedBufs c (fun b => m ((c.tc : Thread nD τ).loc b))
          ∗ owes (c.tc : Thread nD τ) (O₀ c) ∅ ∗ launchCred O₀ c)) ∗ bigSep Finset.univ G) ⊢ (bigSep Finset.univ fun c : Dev nD => dealt osem m O₀ G c) from by
        rw [← bigSep_sep']
        exact bigSep_mono fun c _ => dealt_intro osem m O₀ G c).trans hdeal) $$ [Hown HG] with HT
    · isplitl [Hown]; · iexact Hown
      iexact HG
    imodintro
    iexists ()
    isplitr []
    · iapply (show iprop((bigSep Finset.univ fun c : Dev nD => iprop(scopedBufs (c.tc : Thread nD τ) ∗ cellsSems0 (pin pcs a) p c ∗ idleSems0 (pin pcs a) phinj p ho c ∗ opIdle (c.tc : Thread nD τ)))
            ∗ bigSep Finset.univ T ∗ bigSep Finset.univ fun c : Dev nD => ghostOn pcs a EP Finset.univ c)
          ⊢ bigSep Finset.univ (atStart pcs a phinj EP osem p ho T) from by
        rw [← bigSep_sep', ← bigSep_sep']
        exact BI.Entails.refl _)
      isplitl [Hscoped]; · iexact Hscoped
      isplitl [HT]; · iexact HT
      iapply (show iprop((bigSep Finset.univ fun c : Dev nD => bigSep Finset.univ fun p => cellsGhost (pin pcs a) EP p c)
          ∗ (bigSep Finset.univ fun c : Dev nD => bigSep Finset.univ fun p => (toksInit (pin pcs a) EP p c : sProp 𝕄)))
        ⊢ bigSep Finset.univ fun c : Dev nD => ghostOn pcs a EP Finset.univ c from by
          rw [← bigSep_sep']
          exact bigSep_mono fun c _ => Entails.of_eq (bigSep_sep' _ _ _).symm)
      isplitl [Hg] <;> iassumption
    · iempintro
  · have herase : (ghostOn pcs a EP Finset.univ c : sProp 𝕄)
        = iprop((cellsGhost (pin pcs a) EP p c ∗ toksInit (pin pcs a) EP p c) ∗ ghostOn pcs a EP (Finset.univ.erase p) c) :=
      PerCore.ghostOn_erase pcs (fun _ => a) EP (Finset.mem_univ p) c
    unfold atStart
    rw [hmain c, herase]
    iintro ⟨Hsc, HT, ⟨Hg, Ht⟩, Hrest⟩
    iapply (wp_first pcs a pdats phinj EP defs₀ 𝒱₀ osem win ho block_pos stage_whole c (hbody c) (hwaits c) T X Y Z T₁ (hentry c) (hin c)
      (hout c) (hexit c) (fun _ => Seg.run segs) _)
    isplitl [Hrest]
    · iintro ⟨Hbd, HT₁⟩
      iapply (wp_segs pcs a pdats () phinj EP defs₀ 𝒱₀ L₀ lv₀ c segs (Finset.univ.erase p) T₁ _ hnd
        (fun p' hp' => Finset.mem_erase.mpr ⟨fun h => hp (h ▸ hp'), Finset.mem_univ _⟩) hch)
      isplitr [Hbd HT₁ Hrest]
      · iintro ⟨Hbd', HTn, HW⟩
        unfold post; simp only [liftTc_tc, fin]
        isplitr [HW]
        · isplitl [HTn] <;> iassumption
        iexact HW
      · isplitl [Hbd]; · iexact Hbd
        isplitl [HT₁]; · iexact HT₁
        isplitr; · rw [levAts_none]; iempintro
        iexact Hrest
    isplitl [Hsc]; · iexact Hsc
    isplitl [HT]; · iexact HT
    isplitl [Hg] <;> iassumption
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Cert.First

end
-- ==== Proof.ScatterRun.lean ====
/-
The run of the exchange of the gradients, with the contents it leaves: array `i` of device `c` ends holding, in row `s`, row
`c` of array `i` of device `s`.
-/
module

public import proofs.«01_k».proof.Proof.ScatterPlan
public import proofs.«01_k».proof.Proof.Rows
public import proofs.«01_k».proof.Proof.First

@[expose] public section

set_option maxRecDepth 65536

noncomputable section

namespace Cert.ScatterRun

open Idealize.ShloMosaic Idealize.ShloMosaic.TcCoe Idealize.ShloMosaic.Rounds Idealize.ShloMosaic.ValueIdx
open Idealize.ShloMosaic.Pipeline (Dat ownSems0 prefHeld scopedRest)
open Idealize.SL
open Idealize.SL.BI (sProp bigSep bigSep_sep' bigSep_mono bigSep_congr)
open scoped Idealize.SL.BI
open Idealize.SL.BI.BIBase Idealize.SL.BI.Laws Idealize.SL.Sem Idealize.SL.ProofMode
open Idealize.SL.RA
open Cert.ScatterIdeal Cert.ScatterIdeal.Gen Cert.Rows

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-- Every element is lent whole. -/
abbrev lq : plan.J → PosShare TreeShare := fun _ => fullShare
abbrev rq : plan.I → PosShare TreeShare := fun _ => fullShare

def argRef : Fin 4 → Ref sig .tc
  | 0 => main_arg0
  | 1 => main_arg1
  | 2 => main_arg2
  | 3 => main_arg3
def outRef : Fin 4 → Ref sig .tc
  | 0 => main_v1_0
  | 1 => main_v1_1
  | 2 => main_v1_2
  | 3 => main_v1_3

/-- What result array `i` of device `c` ends holding. -/
def received : (i : Fin 4) → (c : Dev nD) → Buf (Elt F) ((c.tc : Thread nD τ).loc (outRef i))
  | 0, c => fun (y : S8x1024x1408.Idx) => (m ((Dev.tc (nD := nD) (τ := τ) (y 0)).loc main_arg0) : S8x1024x1408.Idx → Elt F .bf16) (ix3 (c : Fin 8) (y 1) (y 2))
  | 1, c => fun (y : S8x256x1024.Idx) => (m ((Dev.tc (nD := nD) (τ := τ) (y 0)).loc main_arg1) : S8x256x1024.Idx → Elt F .bf16) (ix3 (c : Fin 8) (y 1) (y 2))
  | 2, c => fun (y : S8x128x1024.Idx) => (m ((Dev.tc (nD := nD) (τ := τ) (y 0)).loc main_arg2) : S8x128x1024.Idx → Elt F .bf16) (ix3 (c : Fin 8) (y 1) (y 2))
  | 3, c => fun (y : S8x128x1024.Idx) => (m ((Dev.tc (nD := nD) (τ := τ) (y 0)).loc main_arg3) : S8x128x1024.Idx → Elt F .bf16) (ix3 (c : Fin 8) (y 1) (y 2))

def argPts (c : Dev nD) (i : Fin 4) : sProp 𝕄 := ((c.tc : Thread nD τ).loc (argRef i)) ↦{fullShare} m ((c.tc : Thread nD τ).loc (argRef i))
def outPts (c : Dev nD) (i : Fin 4) : sProp 𝕄 := ((c.tc : Thread nD τ).loc (outRef i)) ↦{fullShare} m ((c.tc : Thread nD τ).loc (outRef i))
def recPts (c : Dev nD) (i : Fin 4) : sProp 𝕄 := ((c.tc : Thread nD τ).loc (outRef i)) ↦{fullShare} received m i c

theorem peer_inj : ∀ (i : Fin 4) (c : Dev nD), Function.Injective fun r : Fin 7 => peer (r, i) c := by decide +kernel
theorem peer_ne : ∀ (i : Fin 4) (c : Dev nD) (r : Fin 7), peer (r, i) c ≠ c := by decide +kernel
theorem own1 : ∀ c : Dev nD, k0_off1 c = ![c.val, 0, 0] := by decide +kernel
theorem own2 : ∀ c : Dev nD, k0_off2 c = ![c.val, 0, 0] := by decide +kernel
theorem own3 : ∀ c : Dev nD, k0_off3 c = ![c.val, 0, 0] := by decide +kernel
theorem peer4 : ∀ (i : Fin 4) (c : Dev nD) (r : Fin 7), k0_off4 c (k0_off4_at r).1 (k0_off4_at r).2.1 (k0_off4_at r).2.2 = ![(peer (r, i) c).val, 0, 0] := by decide +kernel
theorem peer5 : ∀ (i : Fin 4) (c : Dev nD) (r : Fin 7), k0_off5 c (k0_off5_at r).1 (k0_off5_at r).2.1 (k0_off5_at r).2.2 = ![(peer (r, i) c).val, 0, 0] := by decide +kernel
theorem peer6 : ∀ (i : Fin 4) (c : Dev nD) (r : Fin 7), k0_off6 c (k0_off6_at r).1 (k0_off6_at r).2.1 (k0_off6_at r).2.2 = ![(peer (r, i) c).val, 0, 0] := by decide +kernel

theorem arg_split : ∀ (i : Fin 4) (c : Dev nD),
    argPts m c i = (iprop(plan.lsrcPts m lq c i ∗ bigSep Finset.univ fun r : Fin 7 => plan.rsrcPts m rq c (r, i)) : sProp 𝕄)
  | 0, c => pts_split (A := 1024) (B := 1408) (e := .bf16) (sq := squeezes_S1x1024x1408_S1024x1408) (Memref.whole main_arg0) (View.set_whole _) c fullShare (m ((c.tc : Thread nD τ).loc main_arg0)) c (fun r => peer (r, 0) c) (peer_inj 0 c) (peer_ne 0 c)
      (own1 c) (peer4 0 c)
  | 1, c => pts_split (A := 256) (B := 1024) (e := .bf16) (sq := squeezes_S1x256x1024_S256x1024) (Memref.whole main_arg1) (View.set_whole _) c fullShare (m ((c.tc : Thread nD τ).loc main_arg1)) c (fun r => peer (r, 1) c) (peer_inj 1 c) (peer_ne 1 c)
      (own2 c) (peer5 1 c)
  | 2, c => pts_split (A := 128) (B := 1024) (e := .bf16) (sq := squeezes_S1x128x1024_S128x1024) (Memref.whole main_arg2) (View.set_whole _) c fullShare (m ((c.tc : Thread nD τ).loc main_arg2)) c (fun r => peer (r, 2) c) (peer_inj 2 c) (peer_ne 2 c)
      (own3 c) (peer6 2 c)
  | 3, c => pts_split (A := 128) (B := 1024) (e := .bf16) (sq := squeezes_S1x128x1024_S128x1024) (Memref.whole main_arg3) (View.set_whole _) c fullShare (m ((c.tc : Thread nD τ).loc main_arg3)) c (fun r => peer (r, 3) c) (peer_inj 3 c) (peer_ne 3 c)
      (own3 c) (peer6 3 c)

theorem out_split : ∀ (i : Fin 4) (c : Dev nD),
    outPts m c i = (iprop(plan.ldstPts m c i ∗ bigSep Finset.univ fun r : Fin 7 => plan.rdstPts m (r, i) (plan.frm (r, i) c) c) : sProp 𝕄)
  | 0, c => pts_split (A := 1024) (B := 1408) (e := .bf16) (sq := squeezes_S1x1024x1408_S1024x1408) (Memref.whole main_v1_0) (View.set_whole _) c fullShare (m ((c.tc : Thread nD τ).loc main_v1_0)) c (fun r => peer (r, 0) c) (peer_inj 0 c) (peer_ne 0 c)
      (own1 c) (fun r => own1 (peer (r, 0) c))
  | 1, c => pts_split (A := 256) (B := 1024) (e := .bf16) (sq := squeezes_S1x256x1024_S256x1024) (Memref.whole main_v1_1) (View.set_whole _) c fullShare (m ((c.tc : Thread nD τ).loc main_v1_1)) c (fun r => peer (r, 1) c) (peer_inj 1 c) (peer_ne 1 c)
      (own2 c) (fun r => own2 (peer (r, 1) c))
  | 2, c => pts_split (A := 128) (B := 1024) (e := .bf16) (sq := squeezes_S1x128x1024_S128x1024) (Memref.whole main_v1_2) (View.set_whole _) c fullShare (m ((c.tc : Thread nD τ).loc main_v1_2)) c (fun r => peer (r, 2) c) (peer_inj 2 c) (peer_ne 2 c)
      (own3 c) (fun r => own3 (peer (r, 2) c))
  | 3, c => pts_split (A := 128) (B := 1024) (e := .bf16) (sq := squeezes_S1x128x1024_S128x1024) (Memref.whole main_v1_3) (View.set_whole _) c fullShare (m ((c.tc : Thread nD τ).loc main_v1_3)) c (fun r => peer (r, 3) c) (peer_inj 3 c) (peer_ne 3 c)
      (own3 c) (fun r => own3 (peer (r, 3) c))

theorem rec_join : ∀ (i : Fin 4) (c : Dev nD),
    (iprop(plan.lwritten m c i ∗ bigSep Finset.univ fun r : Fin 7 => plan.rwritten m (r, i) (plan.frm (r, i) c) c) : sProp 𝕄) = recPts m c i
  | 0, c => pts_joined (A := 1024) (B := 1408) (e := .bf16) (sq := squeezes_S1x1024x1408_S1024x1408) (Memref.whole main_v1_0) (View.set_whole _) c fullShare (m ((c.tc : Thread nD τ).loc main_v1_0)) (received m 0 c) c (fun r => peer (r, 0) c) (peer_inj 0 c) (peer_ne 0 c)
      (own1 c) (fun r => own1 (peer (r, 0) c))
      ((inOwn 0 c).view.read (Elt F) (m ((c.tc : Thread nD τ).loc main_arg0)))
      (fun r => (inPeer 0 r (peer (r, 0) c)).view.read (Elt F) (m (((peer (r, 0) c).tc : Thread nD τ).loc main_arg0)))
      (fun z => row_read (A := 1024) (B := 1408) (e := .bf16) (Memref.whole main_arg0) _ squeezes_S1x1024x1408_S1024x1408 (own1 c) _ z)
      (fun r z => row_read (A := 1024) (B := 1408) (e := .bf16) (Memref.whole main_arg0) _ squeezes_S1x1024x1408_S1024x1408 ((peer4 0 (peer (r, 0) c) r).trans (by rw [peer_peer])) _ z)
  | 1, c => pts_joined (A := 256) (B := 1024) (e := .bf16) (sq := squeezes_S1x256x1024_S256x1024) (Memref.whole main_v1_1) (View.set_whole _) c fullShare (m ((c.tc : Thread nD τ).loc main_v1_1)) (received m 1 c) c (fun r => peer (r, 1) c) (peer_inj 1 c) (peer_ne 1 c)
      (own2 c) (fun r => own2 (peer (r, 1) c))
      ((inOwn 1 c).view.read (Elt F) (m ((c.tc : Thread nD τ).loc main_arg1)))
      (fun r => (inPeer 1 r (peer (r, 1) c)).view.read (Elt F) (m (((peer (r, 1) c).tc : Thread nD τ).loc main_arg1)))
      (fun z => row_read (A := 256) (B := 1024) (e := .bf16) (Memref.whole main_arg1) _ squeezes_S1x256x1024_S256x1024 (own2 c) _ z)
      (fun r z => row_read (A := 256) (B := 1024) (e := .bf16) (Memref.whole main_arg1) _ squeezes_S1x256x1024_S256x1024 ((peer5 1 (peer (r, 1) c) r).trans (by rw [peer_peer])) _ z)
  | 2, c => pts_joined (A := 128) (B := 1024) (e := .bf16) (sq := squeezes_S1x128x1024_S128x1024) (Memref.whole main_v1_2) (View.set_whole _) c fullShare (m ((c.tc : Thread nD τ).loc main_v1_2)) (received m 2 c) c (fun r => peer (r, 2) c) (peer_inj 2 c) (peer_ne 2 c)
      (own3 c) (fun r => own3 (peer (r, 2) c))
      ((inOwn 2 c).view.read (Elt F) (m ((c.tc : Thread nD τ).loc main_arg2)))
      (fun r => (inPeer 2 r (peer (r, 2) c)).view.read (Elt F) (m (((peer (r, 2) c).tc : Thread nD τ).loc main_arg2)))
      (fun z => row_read (A := 128) (B := 1024) (e := .bf16) (Memref.whole main_arg2) _ squeezes_S1x128x1024_S128x1024 (own3 c) _ z)
      (fun r z => row_read (A := 128) (B := 1024) (e := .bf16) (Memref.whole main_arg2) _ squeezes_S1x128x1024_S128x1024 ((peer6 2 (peer (r, 2) c) r).trans (by rw [peer_peer])) _ z)
  | 3, c => pts_joined (A := 128) (B := 1024) (e := .bf16) (sq := squeezes_S1x128x1024_S128x1024) (Memref.whole main_v1_3) (View.set_whole _) c fullShare (m ((c.tc : Thread nD τ).loc main_v1_3)) (received m 3 c) c (fun r => peer (r, 3) c) (peer_inj 3 c) (peer_ne 3 c)
      (own3 c) (fun r => own3 (peer (r, 3) c))
      ((inOwn 3 c).view.read (Elt F) (m ((c.tc : Thread nD τ).loc main_arg3)))
      (fun r => (inPeer 3 r (peer (r, 3) c)).view.read (Elt F) (m (((peer (r, 3) c).tc : Thread nD τ).loc main_arg3)))
      (fun z => row_read (A := 128) (B := 1024) (e := .bf16) (Memref.whole main_arg3) _ squeezes_S1x128x1024_S128x1024 (own3 c) _ z)
      (fun r z => row_read (A := 128) (B := 1024) (e := .bf16) (Memref.whole main_arg3) _ squeezes_S1x128x1024_S128x1024 ((peer6 3 (peer (r, 3) c) r).trans (by rw [peer_peer])) _ z)

theorem args_split (c : Dev nD) : bigSep Finset.univ (argPts m c)
    = (iprop(bigSep Finset.univ (plan.lsrcPts m lq c) ∗ bigSep Finset.univ (plan.rsrcPts m rq c)) : sProp 𝕄) :=
  by_array (argPts m c) (plan.lsrcPts m lq c) (plan.rsrcPts m rq c) fun i => arg_split m i c
theorem outs_split (c : Dev nD) : bigSep Finset.univ (outPts m c)
    = (iprop(bigSep Finset.univ (plan.ldstPts m c) ∗ bigSep Finset.univ fun i => plan.rdstPts m i (plan.frm i c) c) : sProp 𝕄) :=
  by_array (outPts m c) (plan.ldstPts m c) (fun i => plan.rdstPts m i (plan.frm i c) c) fun i => out_split m i c
theorem recs_join (c : Dev nD) : (iprop(bigSep Finset.univ (plan.lwritten m c) ∗ bigSep Finset.univ fun i => plan.rwritten m i (plan.frm i c) c) : sProp 𝕄)
    = bigSep Finset.univ (recPts m c) :=
  (by_array (recPts m c) (plan.lwritten m c) (fun i => plan.rwritten m i (plan.frm i c) c) fun i => (rec_join m i c).symm).symm

theorem rows_intro (c : Dev nD) : iprop(bigSep Finset.univ (argPts m c) ∗ bigSep Finset.univ (outPts m c)) ⊢ (plan.rows m lq rq c : sProp 𝕄) := by
  rw [args_split, outs_split]
  unfold Exchange.Plan.rows
  iintro ⟨⟨HA, HB⟩, ⟨HC, HD⟩⟩
  isplitl [HA HC]
  · isplitl [HA] <;> iassumption
  · isplitl [HB] <;> iassumption

/-- What a device holds in the end: its arguments as they were, its results received. -/
def held (c : Dev nD) : sProp 𝕄 := iprop(bigSep Finset.univ (argPts m c) ∗ bigSep Finset.univ (recPts m c))

theorem done_held (c : Dev nD) : (plan.done m lq rq c : sProp 𝕄) ⊢ held m c := by
  unfold held
  rw [args_split, ← recs_join]
  unfold Exchange.Plan.done
  iintro ⟨⟨HA, HC⟩, ⟨HB, HD⟩⟩
  isplitl [HA HB]
  · isplitl [HA] <;> iassumption
  · isplitl [HC] <;> iassumption

theorem unscoped_intro (c : Dev nD) : unscopedBufs c (fun b => m ((c.tc : Thread nD τ).loc b))
    ⊢ (iprop(bigSep Finset.univ (argPts m c) ∗ bigSep Finset.univ (outPts m c)) : sProp 𝕄) := by
  have h : (unscopedBufs c (fun b => m ((c.tc : Thread nD τ).loc b)) : sProp 𝕄) = iprop(argPts m c 0 ∗ argPts m c 1 ∗ argPts m c 2 ∗ argPts m c 3
      ∗ outPts m c 0 ∗ outPts m c 1 ∗ outPts m c 2 ∗ outPts m c 3) := by
    unfold unscopedBufs
    exact BI.bigSep_eq_bigSepL_of_eq [main_arg0, main_arg1, main_arg2, main_arg3, main_v1_0, main_v1_1, main_v1_2, main_v1_3] (by decide) (by decide) _
  have h4 (Φ : Fin 4 → sProp 𝕄) : bigSep Finset.univ Φ = iprop(Φ 0 ∗ Φ 1 ∗ Φ 2 ∗ Φ 3) :=
    BI.bigSep_eq_bigSepL_of_eq [0, 1, 2, 3] (by decide) (by decide) _
  rw [h, h4, h4]
  iintro ⟨H0, H1, H2, H3, H4, H5, H6, H7⟩
  isplitl [H0 H1 H2 H3]
  · isplitl [H0]; · iexact H0
    isplitl [H1]; · iexact H1
    isplitl [H2] <;> iassumption
  · isplitl [H4]; · iexact H4
    isplitl [H5]; · iexact H5
    isplitl [H6] <;> iassumption

/-- What device `c` owes at the start: the arrival of each of its remote copies. -/
abbrev O₀ (c : Dev nD) : CellTallies nD τ sig Unit := plan.owed c plan.is

def dats (_ : Fin 1) (c : Dev nD) : Dat τ (Elt F) Unit ℕ UU ℕ cfg0 c where
  A w := w.elim0
  after w _ := w.elim0
  Φ t := match t with
    | ⟨0, _⟩ => plan.Pre ER m lq rq c
    | ⟨_ + 1, _⟩ => iprop(ownSems0 plan.osem c ∗ held m c)
  q _ := fullShare
  owed t := match t with
    | ⟨0, _⟩ => O₀ c
    | ⟨_ + 1, _⟩ => 0

abbrev 𝒱₀ : Variants := Variants.none

theorem bigSep_none (Φ : Fin cfg0.W → sProp 𝕄) : bigSep Finset.univ Φ = BI.emp := BI.bigSep_empty

theorem body_obligation (c : Dev nD) : Pipeline.BodyObligationLoose (dats m 0 c) (defs₀ (F := F)) 𝒱₀ () Set.univ := by
  intro t
  rw [fin_N0 t, bigSep_none, bigSep_none]
  show iprop(plan.Pre ER m lq rq c ∗ (dats m 0 c).owesAt () t0_0.castSucc ∗ emp)
    ⊢ wp frame (wpE (defs₀ (F := F)) 𝒱₀ c none) Set.univ
      (cc0_scatter_grads (F := F) (Memref.whole main_arg0) (Memref.isWhole_whole _) (Memref.whole main_arg1) (Memref.isWhole_whole _) (Memref.whole main_arg2) (Memref.isWhole_whole _) (Memref.whole main_arg3) (Memref.isWhole_whole _)
        (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2)
      fun _ => iprop((ownSems0 plan.osem c ∗ held m c) ∗ (dats m 0 c).owesAt () t0_0.succ ∗ emp)
  rw [body_eq t0_0 fun w => w.elim0, wp_deviceId]
  unfold Dat.owesAt Pipeline.owesWithin
  iintro ⟨HP, ⟨%W, %hW, HO⟩, -⟩
  iapply (plan.wp_prog ER m lq rq 𝒱₀ none _ c (.ret ⟨⟩) W)
  isplitl [HP]; · iexact HP
  isplitl [HO]; · iexact HO
  iintro ⟨HQ, ⟨%W', HO⟩⟩
  rw [wp_ret]
  imodintro
  ihave H := (plan.post_done m lq rq c) $$ HQ
  icases H with ⟨HS, HD⟩
  isplitl [HS HD]
  · isplitl [HS]; · iexact HS
    iapply (done_held m c); iexact HD
  isplitl [HO]
  · iexists W'
    isplitr; · ipureintro; exact fun _ _ => Or.inl trivial
    iexact HO
  iempintro

theorem ownSemFacts : Pipeline.OwnSemFacts cfg0.spec plan.osem := by decide +kernel

def u₀ : UU := (initOf (Pipeline.cells cfgs cellOf_inj) (Pipeline.launchToks cfgs cellOf_inj), initOf plan.cellsOf plan.toksOf)

theorem deal : (bigSep Finset.univ fun c : Dev nD => First.dealt plan.osem m O₀ (plan.G ER m lq rq) c)
    ⊢ |={Set.univ}=> bigSep Finset.univ fun c : Dev nD => (iprop(plan.Pre ER m lq rq c ∗ owes (c.tc : Thread nD τ) (O₀ c) ∅) : sProp 𝕄) := by
  have h1 : (bigSep Finset.univ fun c : Dev nD => First.dealt plan.osem m O₀ (plan.G ER m lq rq) c)
      ⊢ (iprop((bigSep Finset.univ fun c : Dev nD => iprop(ownSems0 plan.osem c ∗ Pipeline.launchCred O₀ c ∗ plan.G ER m lq rq c ∗ plan.rows m lq rq c))
        ∗ bigSep Finset.univ fun c : Dev nD => owes (c.tc : Thread nD τ) (O₀ c) ∅) : sProp 𝕄) := by
    rw [← bigSep_sep']
    refine bigSep_mono fun c _ => (show _ ⊢ (_ : sProp 𝕄) from ?_)
    unfold First.dealt
    iintro ⟨HS, HU, HO, HC, HG⟩
    isplitr [HO]
    · isplitl [HS]; · iexact HS
      isplitl [HC]; · iexact HC
      isplitl [HG]; · iexact HG
      iapply (rows_intro m c)
      iapply (unscoped_intro m c)
      iexact HU
    iexact HO
  refine h1.trans ?_
  rw [bigSep_sep' (Φ := plan.Pre ER m lq rq)]
  iintro ⟨HA, HO⟩
  imod (plan.deal ER m lq rq) $$ HA with HP
  imodintro
  isplitl [HP] <;> iassumption

/-- The final memory of one device. -/
def Final (c : Dev nD) (s : MemSt nD τ sig (Elt F)) : Prop :=
  (∀ i, s.mem ((c.tc : Thread nD τ).loc (argRef i)) = m ((c.tc : Thread nD τ).loc (argRef i)))
    ∧ ∀ i, s.mem ((c.tc : Thread nD τ).loc (outRef i)) = received m i c

theorem held_final (c : Dev nD) (s' : Phys nD τ sig (Elt F)) : iprop(held m c ∗ SI s') ⊢ (iprop(⌜Final m c s'.mem⌝ ∗ SI s') : sProp 𝕄) := by
  have h4 (Φ : Fin 4 → sProp 𝕄) : bigSep Finset.univ Φ = iprop(Φ 0 ∗ Φ 1 ∗ Φ 2 ∗ Φ 3) :=
    BI.bigSep_eq_bigSepL_of_eq [0, 1, 2, 3] (by decide) (by decide) _
  unfold held
  rw [h4, h4]
  unfold argPts recPts
  iintro ⟨⟨⟨A0, A1, A2, A3⟩, ⟨R0, R1, R2, R3⟩⟩, HSI⟩
  icombine HSI A0 gives %a0
  icombine HSI A1 gives %a1
  icombine HSI A2 gives %a2
  icombine HSI A3 gives %a3
  icombine HSI R0 gives %r0
  icombine HSI R1 gives %r1
  icombine HSI R2 gives %r2
  icombine HSI R3 gives %r3
  isplitr [HSI]
  · ipureintro
    exact ⟨fun | 0 => funext fun x => a0 x (Finset.mem_univ x) | 1 => funext fun x => a1 x (Finset.mem_univ x)
               | 2 => funext fun x => a2 x (Finset.mem_univ x) | 3 => funext fun x => a3 x (Finset.mem_univ x),
           fun | 0 => funext fun x => r0 x (Finset.mem_univ x) | 1 => funext fun x => r1 x (Finset.mem_univ x)
               | 2 => funext fun x => r2 x (Finset.mem_univ x) | 3 => funext fun x => r3 x (Finset.mem_univ x)⟩
  · iexact HSI

/-- @main ends, on every device, with the rows received, the arguments as they were and every semaphore at zero. -/
theorem run_main : θ_run defs (onTc (τ := τ) (main (F := F))) (s₀ m ρ) (fun r => (∀ c, Final m c r.2) ∧ r.2.sem = fun _ => 0) :=
  First.run_first (fun p => (cfgs p).toPCfg) (fun p => (cfgs p).toPCfg_adm) (dats m) cellOf_inj EP defs₀ 𝒱₀ plan.osem
    m ρ (p := (0 : Fin 1)) winFacts0.to₀ ownSemFacts block_pos0 stage_whole0 main [] (fun _ => rfl) List.nodup_nil (by simp [Pipeline.Seg.pipes])
    (body_obligation m) (fun c => by unfold Pipeline.cellsWaits; exact Entails.of_eq (BI.bigSep_empty).symm)
    O₀ (plan.G ER m lq rq) u₀
    (by
      unfold u₀
      iintro Hu
      ihave H := (ownU_pair _ _) $$ Hu
      icases H with ⟨HP, HX⟩
      imod (plan.fund_cells ER m lq rq) $$ HX with HG
      imodintro
      isplitl [HP] <;> iassumption)
    (fun c => iprop(plan.Pre ER m lq rq c ∗ owes (c.tc : Thread nD τ) (O₀ c) ∅)) (plan.Pre ER m lq rq) (held m) (fun _ => iprop(emp))
    (fun c => iprop(held m c ∗ ∃ W, owes (c.tc : Thread nD τ) (0 : CellTallies nD τ sig Unit) W)) (held m)
    (deal m)
    (fun c => by
      iintro ⟨HP, HO⟩
      imodintro
      isplitr; · iapply (Entails.of_eq (BI.bigSep_empty).symm : (emp : sProp 𝕄) ⊢ (dats m 0 c).arrays ((dats m 0 c).arrAt · 0)); iempintro
      isplitr; · iapply (Entails.of_eq (BI.bigSep_empty).symm : (emp : sProp 𝕄) ⊢ prefHeld Pipeline.Prefetch.none c (fun _ => fullShare) _); iempintro
      isplitl [HO]
      · unfold Dat.owesAt Pipeline.owesWithin
        iexists ∅
        isplitr; · ipureintro; exact fun _ h => Or.inl trivial
        iexact HO
      isplitl [HP]; · iexact HP
      iempintro)
    (fun c => by
      show iprop(plan.Pre ER m lq rq c ∗ _ ∗ _) ⊢ plan.Pre ER m lq rq c
      iintro ⟨HP, -, -⟩
      iexact HP)
    (fun c => by
      rw [show Pipeline.scopedRest (Ix := Unit) (Name := ℕ) (U := UU) (Lvl := ℕ) (Val := Elt F) _ c = (emp : sProp 𝕄) from scopedRest0_eq c]
      show iprop(ownSems0 plan.osem c ∗ held m c) ⊢ (iprop(held m c ∗ ownSems0 plan.osem c ∗ emp) : sProp 𝕄)
      iintro ⟨HS, HH⟩
      isplitl [HH]; · iexact HH
      isplitl [HS]; · iexact HS
      iempintro)
    (fun c => by
      unfold Dat.owesAt Pipeline.owesWithin
      iintro ⟨-, ⟨%W, -, HO⟩, HH, -⟩
      imodintro
      isplitl [HH]; · iexact HH
      iexists W
      iexact HO)
    (fun c => BI.Entails.refl _)
    (Final m)
    (fun c s' => (held_final m c s').trans (by iintro H; imodintro; iexact H))
    (fun s h hs => ⟨h, sem_eq_zero_of_scoped (by decide) hs⟩)

end Cert.ScatterRun

end
-- ==== Proof.Swap.lean ====
/-
The whole arrays behind an exchange: a stack of 64 sheets read as 8 rows of 8, the two axes swapped, read as 64 sheets again.
Block `c` of the result holds, in place `s`, sheet `c` of block `s` of the operand. And a tall sheet read as a stack of eight.
-/
module

public import Idealize.ShloMosaic.Lib.ValueLayout
public import Idealize.ShloMosaic.Lib.Layout

@[expose] public section

noncomputable section

namespace Cert.Swap

open Idealize.ShloMosaic Idealize.ShloMosaic.ValueIdx

variable {α : Type} {A B : ℕ}

abbrev Long (A B : ℕ) : Shape := ⟨3, ![64, A, B]⟩
abbrev Part (A B : ℕ) : Shape := ⟨3, ![8, A, B]⟩
abbrev Square (A B : ℕ) : Shape := ⟨4, ![8, 8, A, B]⟩

theorem long_val (ht : Layout.Tiles (Part A B) (Long A B) 0 8) (c : Fin 8) (y : (Part A B).Idx) :
    (ht.idx c y 0).val = c.val * 8 + (y 0).val ∧ (ht.idx c y 1).val = (y 1).val ∧ (ht.idx c y 2).val = (y 2).val := ⟨rfl, rfl, rfl⟩

theorem cut_apply (x : (Long A B).Idx → α) (h : (Long A B).ShapeCasts (Square A B)) (ht : Layout.Tiles (Part A B) (Long A B) 0 8)
    (c s : Fin 8) (i : Fin A) (j : Fin B) : shapeCast (Square A B) x h (ix4 c s i j) = x (ht.idx c (ix3 s i j)) :=
  shapeCast_apply x h _ _ (by
    rw [Shape.rowMajor_val_four, Shape.rowMajor_val_three]
    rfl)

theorem joined_apply (x : (Square A B).Idx → α) (h : (Square A B).ShapeCasts (Long A B)) (ht : Layout.Tiles (Part A B) (Long A B) 0 8)
    (c s : Fin 8) (i : Fin A) (j : Fin B) : shapeCast (Long A B) x h (ht.idx c (ix3 s i j)) = x (ix4 c s i j) :=
  shapeCast_apply x h _ _ (by
    rw [Shape.rowMajor_val_four, Shape.rowMajor_val_three]
    rfl)

theorem swapped_apply (x : (Square A B).Idx → α) (h : (Square A B).Transposes [1, 0, 2, 3] (Square A B))
    (c s : Fin 8) (i : Fin A) (j : Fin B) : transpose (Square A B) [1, 0, 2, 3] x h (ix4 c s i j) = x (ix4 s c i j) :=
  transpose_apply _ x h _ _ fun a => match a with | ⟨0, _⟩ => rfl | ⟨1, _⟩ => rfl | ⟨2, _⟩ => rfl | ⟨3, _⟩ => rfl

theorem block_swap (x : (Long A B).Idx → α) (h₁ : (Long A B).ShapeCasts (Square A B)) (h₂ : (Square A B).Transposes [1, 0, 2, 3] (Square A B))
    (h₃ : (Square A B).ShapeCasts (Long A B)) (ht : Layout.Tiles (Part A B) (Long A B) 0 8) (c : Fin 8) (y : (Part A B).Idx) :
    Layout.block (Part A B) (Long A B) 0 8 (y 0) x ht (ix3 c (y 1) (y 2))
      = Layout.block (Part A B) (Long A B) 0 8 c (shapeCast (Long A B) (transpose (Square A B) [1, 0, 2, 3] (shapeCast (Square A B) x h₁) h₂) h₃) ht y := by
  have hy : y = ix3 (y 0) (y 1) (y 2) := by funext a; match a with | ⟨0, _⟩ => rfl | ⟨1, _⟩ => rfl | ⟨2, _⟩ => rfl
  refine Eq.symm (Eq.trans (congrArg (fun z => shapeCast (Long A B) (transpose (Square A B) [1, 0, 2, 3] (shapeCast (Square A B) x h₁) h₂) h₃ (ht.idx c z)) hy) ?_)
  exact (joined_apply _ h₃ ht c (y 0) (y 1) (y 2)).trans ((swapped_apply _ h₂ c (y 0) (y 1) (y 2)).trans (cut_apply x h₁ ht (y 0) c (y 1) (y 2)))

/-- A tall sheet read as eight sheets: sheet `s` is block `s` of it. -/
theorem block_stack (x : (⟨2, ![8 * A, B]⟩ : Shape).Idx → α) (h : (⟨2, ![8 * A, B]⟩ : Shape).ShapeCasts (Part A B))
    (ht : Layout.Tiles (⟨2, ![A, B]⟩ : Shape) ⟨2, ![8 * A, B]⟩ 0 8) (y : (Part A B).Idx) :
    Layout.block (⟨2, ![A, B]⟩ : Shape) ⟨2, ![8 * A, B]⟩ 0 8 (y 0) x ht (ix2 (y 1) (y 2)) = shapeCast (Part A B) x h y := by
  refine (shapeCast_apply x h _ _ ?_).symm
  rw [Shape.rowMajor_val_two, Shape.rowMajor_val_three]
  rfl

end Cert.Swap

end
-- ==== Proof.ScatterClaims.lean ====
/-
The claims about the exchange of the gradients: what each device receives is its block of the whole arrays with the two
leading axes swapped.
-/
module

public import proofs.«01_k».proof.Defs
public import proofs.«01_k».proof.Proof.Gen.Scatter
public import proofs.«01_k».proof.Proof.Gen.Scatter.Launch
public import proofs.«01_k».proof.Proof.Gen.ScatterRefIdeal.Run
public import proofs.«01_k».proof.Proof.Gen.ScatterRef.Run
public import proofs.«01_k».proof.Proof.ScatterRun
public import Idealize.ShloMosaic.Lib.Quiescent
public import proofs.«01_k».proof.Proof.Swap

@[expose] public section

set_option maxRecDepth 65536

noncomputable section

namespace Cert.ScatterClaims

open Idealize.ShloMosaic Idealize.ShloMosaic.TcCoe Idealize.ShloMosaic.ValueIdx
open Idealize.SL.Sem
open Cert.ScatterRefIdeal Cert.ScatterRefIdeal.Gen

variable {F : FTy → Type} [FloatOps F]

/-- The whole result for a whole argument. -/
def whole0 (x : S64x1024x1408.Idx → Elt F .bf16) : S64x1024x1408.Idx → Elt F .bf16 :=
  shapeCast S64x1024x1408 (transpose S8x8x1024x1408 [1, 0, 2, 3] (shapeCast S8x8x1024x1408 x shapeCasts_S64x1024x1408_S8x8x1024x1408) transposes_S8x8x1024x1408_S8x8x1024x1408_1_0_2_3) shapeCasts_S8x8x1024x1408_S64x1024x1408
/-- The whole result for a whole argument. -/
def whole1 (x : S64x256x1024.Idx → Elt F .bf16) : S64x256x1024.Idx → Elt F .bf16 :=
  shapeCast S64x256x1024 (transpose S8x8x256x1024 [1, 0, 2, 3] (shapeCast S8x8x256x1024 x shapeCasts_S64x256x1024_S8x8x256x1024) transposes_S8x8x256x1024_S8x8x256x1024_1_0_2_3) shapeCasts_S8x8x256x1024_S64x256x1024
/-- The whole result for a whole argument. -/
def whole2 (x : S64x128x1024.Idx → Elt F .bf16) : S64x128x1024.Idx → Elt F .bf16 :=
  shapeCast S64x128x1024 (transpose S8x8x128x1024 [1, 0, 2, 3] (shapeCast S8x8x128x1024 x shapeCasts_S64x128x1024_S8x8x128x1024) transposes_S8x8x128x1024_S8x8x128x1024_1_0_2_3) shapeCasts_S8x8x128x1024_S64x128x1024

theorem received0 (m : (ℓ : Loc Cert.ScatterIdeal.nD Cert.ScatterIdeal.τ Cert.ScatterIdeal.sig) → Buf (Elt F) ℓ) (x : S64x1024x1408.Idx → Elt F .bf16)
    (hm : ∀ d : Dev Cert.ScatterIdeal.nD, m ((d.tc : Thread Cert.ScatterIdeal.nD Cert.ScatterIdeal.τ).loc Cert.ScatterIdeal.main_arg0)
      = Layout.block ⟨3, ![8, 1024, 1408]⟩ ⟨3, ![64, 1024, 1408]⟩ 0 8 d x) (c : Dev Cert.ScatterIdeal.nD) :
    Cert.ScatterRun.received m 0 c = Layout.block ⟨3, ![8, 1024, 1408]⟩ ⟨3, ![64, 1024, 1408]⟩ 0 8 c (whole0 x) :=
  funext fun (y : (⟨3, ![8, 1024, 1408]⟩ : Shape).Idx) => (congrFun (hm (y 0)) (ix3 (c : Fin 8) (y 1) (y 2))).trans (Swap.block_swap (A := 1024) (B := 1408) x _ _ _ _ c y)

theorem received1 (m : (ℓ : Loc Cert.ScatterIdeal.nD Cert.ScatterIdeal.τ Cert.ScatterIdeal.sig) → Buf (Elt F) ℓ) (x : S64x256x1024.Idx → Elt F .bf16)
    (hm : ∀ d : Dev Cert.ScatterIdeal.nD, m ((d.tc : Thread Cert.ScatterIdeal.nD Cert.ScatterIdeal.τ).loc Cert.ScatterIdeal.main_arg1)
      = Layout.block ⟨3, ![8, 256, 1024]⟩ ⟨3, ![64, 256, 1024]⟩ 0 8 d x) (c : Dev Cert.ScatterIdeal.nD) :
    Cert.ScatterRun.received m 1 c = Layout.block ⟨3, ![8, 256, 1024]⟩ ⟨3, ![64, 256, 1024]⟩ 0 8 c (whole1 x) :=
  funext fun (y : (⟨3, ![8, 256, 1024]⟩ : Shape).Idx) => (congrFun (hm (y 0)) (ix3 (c : Fin 8) (y 1) (y 2))).trans (Swap.block_swap (A := 256) (B := 1024) x _ _ _ _ c y)

theorem received2 (m : (ℓ : Loc Cert.ScatterIdeal.nD Cert.ScatterIdeal.τ Cert.ScatterIdeal.sig) → Buf (Elt F) ℓ) (x : S64x128x1024.Idx → Elt F .bf16)
    (hm : ∀ d : Dev Cert.ScatterIdeal.nD, m ((d.tc : Thread Cert.ScatterIdeal.nD Cert.ScatterIdeal.τ).loc Cert.ScatterIdeal.main_arg2)
      = Layout.block ⟨3, ![8, 128, 1024]⟩ ⟨3, ![64, 128, 1024]⟩ 0 8 d x) (c : Dev Cert.ScatterIdeal.nD) :
    Cert.ScatterRun.received m 2 c = Layout.block ⟨3, ![8, 128, 1024]⟩ ⟨3, ![64, 128, 1024]⟩ 0 8 c (whole2 x) :=
  funext fun (y : (⟨3, ![8, 128, 1024]⟩ : Shape).Idx) => (congrFun (hm (y 0)) (ix3 (c : Fin 8) (y 1) (y 2))).trans (Swap.block_swap (A := 128) (B := 1024) x _ _ _ _ c y)

theorem received3 (m : (ℓ : Loc Cert.ScatterIdeal.nD Cert.ScatterIdeal.τ Cert.ScatterIdeal.sig) → Buf (Elt F) ℓ) (x : S64x128x1024.Idx → Elt F .bf16)
    (hm : ∀ d : Dev Cert.ScatterIdeal.nD, m ((d.tc : Thread Cert.ScatterIdeal.nD Cert.ScatterIdeal.τ).loc Cert.ScatterIdeal.main_arg3)
      = Layout.block ⟨3, ![8, 128, 1024]⟩ ⟨3, ![64, 128, 1024]⟩ 0 8 d x) (c : Dev Cert.ScatterIdeal.nD) :
    Cert.ScatterRun.received m 3 c = Layout.block ⟨3, ![8, 128, 1024]⟩ ⟨3, ![64, 128, 1024]⟩ 0 8 c (whole2 x) :=
  funext fun (y : (⟨3, ![8, 128, 1024]⟩ : Shape).Idx) => (congrFun (hm (y 0)) (ix3 (c : Fin 8) (y 1) (y 2))).trans (Swap.block_swap (A := 128) (B := 1024) x _ _ _ _ c y)

theorem frame_kernel : Cert.quiescent_Scatter := fun m ρ _ => (θ_run (Cert.Scatter.defs (F := Bits)) _ _).mono
  (fun _ h => ⟨fun c => ⟨(h.1 c).1 0, (h.1 c).1 1, (h.1 c).1 2, (h.1 c).1 3⟩, h.2⟩) (Cert.ScatterRun.run_main (F := Bits) m ρ)

theorem frame_ideal : Cert.quiescent_ScatterIdeal := fun m ρ _ => (θ_run (Cert.ScatterIdeal.defs (F := Ideal)) _ _).mono
  (fun _ h => ⟨fun c => ⟨(h.1 c).1 0, (h.1 c).1 1, (h.1 c).1 2, (h.1 c).1 3⟩, h.2⟩) (Cert.ScatterRun.run_main (F := Ideal) m ρ)

theorem frame_refIdeal : Cert.quiescent_ScatterRefIdeal := fun m ρ _ => (θ_run (Cert.ScatterRefIdeal.defs (F := Ideal)) _ _).mono
  (fun r h => ⟨fun c => (h c).2.2.2.2, sem_eq_zero_of_no_sems (by decide) r.2⟩) (Cert.ScatterRefIdeal.Value.run (F := Ideal) m ρ)

theorem frame_ref : Cert.quiescent_ScatterRef := fun m ρ _ => (θ_run (Cert.ScatterRef.defs (F := Bits)) _ _).mono
  (fun r h => ⟨fun c => (h c).2.2.2.2, sem_eq_zero_of_no_sems (by decide) r.2⟩) (Cert.ScatterRef.Value.run (F := Bits) m ρ)

theorem algebraic : Cert.algebraic_ScatterIdeal_ScatterRefIdeal := by
  intro m g m' g' _ hm
  refine ⟨whole0 (m' (((0 : Dev Cert.ScatterRefIdeal.nD).tc : Thread Cert.ScatterRefIdeal.nD Cert.ScatterRefIdeal.τ).loc Cert.ScatterRefIdeal.main_arg0)),
    whole1 (m' (((0 : Dev Cert.ScatterRefIdeal.nD).tc : Thread Cert.ScatterRefIdeal.nD Cert.ScatterRefIdeal.τ).loc Cert.ScatterRefIdeal.main_arg1)),
    whole2 (m' (((0 : Dev Cert.ScatterRefIdeal.nD).tc : Thread Cert.ScatterRefIdeal.nD Cert.ScatterRefIdeal.τ).loc Cert.ScatterRefIdeal.main_arg2)),
    whole2 (m' (((0 : Dev Cert.ScatterRefIdeal.nD).tc : Thread Cert.ScatterRefIdeal.nD Cert.ScatterRefIdeal.τ).loc Cert.ScatterRefIdeal.main_arg3)), ?_, ?_⟩
  · refine (θ_run (Cert.ScatterIdeal.defs (F := Ideal)) _ _).mono (fun r h c => ⟨?_, ?_, ?_, ?_, (h.1 c).1 0, (h.1 c).1 1, (h.1 c).1 2, (h.1 c).1 3⟩) (Cert.ScatterRun.run_main (F := Ideal) m g)
    · exact ((h.1 c).2 0).trans (received0 m _ (fun d => (hm d).1) c)
    · exact ((h.1 c).2 1).trans (received1 m _ (fun d => (hm d).2.1) c)
    · exact ((h.1 c).2 2).trans (received2 m _ (fun d => (hm d).2.2.1) c)
    · exact ((h.1 c).2 3).trans (received3 m _ (fun d => (hm d).2.2.2) c)
  · exact (θ_run (Cert.ScatterRefIdeal.defs (F := Ideal)) _ _).mono (fun r h => h 0) (Cert.ScatterRefIdeal.Value.run (F := Ideal) m' g')

theorem bitexact : Cert.bitexact_Scatter_ScatterRef := by
  intro m g m' g' _ hm
  refine ⟨whole0 (m' (((0 : Dev Cert.ScatterRef.nD).tc : Thread Cert.ScatterRef.nD Cert.ScatterRef.τ).loc Cert.ScatterRef.main_arg0)),
    whole1 (m' (((0 : Dev Cert.ScatterRef.nD).tc : Thread Cert.ScatterRef.nD Cert.ScatterRef.τ).loc Cert.ScatterRef.main_arg1)),
    whole2 (m' (((0 : Dev Cert.ScatterRef.nD).tc : Thread Cert.ScatterRef.nD Cert.ScatterRef.τ).loc Cert.ScatterRef.main_arg2)),
    whole2 (m' (((0 : Dev Cert.ScatterRef.nD).tc : Thread Cert.ScatterRef.nD Cert.ScatterRef.τ).loc Cert.ScatterRef.main_arg3)), ?_, ?_⟩
  · refine (θ_run (Cert.Scatter.defs (F := Bits)) _ _).mono (fun r h c => ⟨?_, ?_, ?_, ?_, (h.1 c).1 0, (h.1 c).1 1, (h.1 c).1 2, (h.1 c).1 3⟩) (Cert.ScatterRun.run_main (F := Bits) m g)
    · exact ((h.1 c).2 0).trans (received0 m _ (fun d => (hm d).1) c)
    · exact ((h.1 c).2 1).trans (received1 m _ (fun d => (hm d).2.1) c)
    · exact ((h.1 c).2 2).trans (received2 m _ (fun d => (hm d).2.2.1) c)
    · exact ((h.1 c).2 3).trans (received3 m _ (fun d => (hm d).2.2.2) c)
  · exact (θ_run (Cert.ScatterRef.defs (F := Bits)) _ _).mono (fun r h => h 0) (Cert.ScatterRef.Value.run (F := Bits) m' g')

end Cert.ScatterClaims

end
-- ==== Proof.GatherPlan.lean ====
/-
The gathering of the weights as a table of copies, and the printed kernel as the run of that table.

Argument `i` of the four is one device's block of a whole array, result `i` the eight blocks as rows. Device `c` copies its
argument to its own row of `main_v1_i` on itself and on each of the seven other devices.
-/
module

public import proofs.«01_k».proof.Proof.Exchange
public import proofs.«01_k».proof.Proof.Gen.GatherIdeal.Launch
public import proofs.«01_k».proof.Proof.Gen.GatherIdeal.Skeleton

@[expose] public section

set_option maxRecDepth 65536

noncomputable section

namespace Cert.GatherRun

open Idealize.ShloMosaic Idealize.ShloMosaic.TcCoe Idealize.SL.Sem
open Cert.GatherIdeal Cert.GatherIdeal.Gen

/-- The shape of a row of each array. -/
def rowShape : Fin 4 → Shape
  | 0 => S1024x1408
  | 1 => S256x1024
  | 2 => S128x1024
  | 3 => S128x1024

/-- Each argument, whole. -/
def inWhole : (i : Fin 4) → Memref sig .tc .hbm (rowShape i) .bf16
  | 0 => Memref.whole main_arg0
  | 1 => Memref.whole main_arg1
  | 2 => Memref.whole main_arg2
  | 3 => Memref.whole main_arg3
/-- Device `c`'s own row of each result. -/
def outOwn : (i : Fin 4) → Dev nD → Memref sig .tc .hbm (rowShape i) .bf16
  | 0, c => ((Memref.whole main_v1_0).slice (Rect.unit (s := S8x1024x1408) (k0_off1 c) S1x1024x1408.size (k0_off1_inb c)) (fun _ => rfl)).squeeze S1024x1408 squeezes_S1x1024x1408_S1024x1408
  | 1, c => ((Memref.whole main_v1_1).slice (Rect.unit (s := S8x256x1024) (k0_off2 c) S1x256x1024.size (k0_off2_inb c)) (fun _ => rfl)).squeeze S256x1024 squeezes_S1x256x1024_S256x1024
  | 2, c => ((Memref.whole main_v1_2).slice (Rect.unit (s := S8x128x1024) (k0_off3 c) S1x128x1024.size (k0_off3_inb c)) (fun _ => rfl)).squeeze S128x1024 squeezes_S1x128x1024_S128x1024
  | 3, c => ((Memref.whole main_v1_3).slice (Rect.unit (s := S8x128x1024) (k0_off3 c) S1x128x1024.size (k0_off3_inb c)) (fun _ => rfl)).squeeze S128x1024 squeezes_S1x128x1024_S128x1024
theorem inWhole_ok : ∀ i, (inWhole i).view.WordExact
  | 0 => (Memref.isWhole_whole _).wordExact
  | 1 => (Memref.isWhole_whole _).wordExact
  | 2 => (Memref.isWhole_whole _).wordExact
  | 3 => (Memref.isWhole_whole _).wordExact
theorem outOwn_ok : ∀ i c, (outOwn i c).view.WordExact
  | 0, c => ((Memref.isWhole_whole _).wordExact_slice rfl _ (k0_off1_wordsbf16 c)).reshape _ _
  | 1, c => ((Memref.isWhole_whole _).wordExact_slice rfl _ (k0_off2_wordsbf16 c)).reshape _ _
  | 2, c => ((Memref.isWhole_whole _).wordExact_slice rfl _ (k0_off3_wordsbf16 c)).reshape _ _
  | 3, c => ((Memref.isWhole_whole _).wordExact_slice rfl _ (k0_off3_wordsbf16 c)).reshape _ _

/-- The device each remote copy goes to, as printed. -/
def peerVal : Fin 7 × Fin 4 → Dev nD → ℕ
  | (0, 0), c => k0_dev1 c
  | (0, 1), c => k0_dev2 c
  | (0, 2), c => k0_dev3 c
  | (0, 3), c => k0_dev4 c
  | (1, 0), c => k0_dev5 c
  | (1, 1), c => k0_dev6 c
  | (1, 2), c => k0_dev7 c
  | (1, 3), c => k0_dev8 c
  | (2, 0), c => k0_dev9 c
  | (2, 1), c => k0_dev10 c
  | (2, 2), c => k0_dev11 c
  | (2, 3), c => k0_dev12 c
  | (3, 0), c => k0_dev13 c
  | (3, 1), c => k0_dev14 c
  | (3, 2), c => k0_dev15 c
  | (3, 3), c => k0_dev16 c
  | (4, 0), c => k0_dev17 c
  | (4, 1), c => k0_dev18 c
  | (4, 2), c => k0_dev19 c
  | (4, 3), c => k0_dev20 c
  | (5, 0), c => k0_dev21 c
  | (5, 1), c => k0_dev22 c
  | (5, 2), c => k0_dev23 c
  | (5, 3), c => k0_dev24 c
  | (6, 0), c => k0_dev25 c
  | (6, 1), c => k0_dev26 c
  | (6, 2), c => k0_dev27 c
  | (6, 3), c => k0_dev28 c
theorem peerVal_lt : ∀ i c, peerVal i c < nD := by decide +kernel
def peer (i : Fin 7 × Fin 4) (c : Dev nD) : Dev nD := ⟨peerVal i c, peerVal_lt i c⟩
theorem peer_peer : ∀ i c, peer i (peer i c) = c := by decide +kernel

theorem inb4 : ∀ i : Fin 4, ∀ a, (![i.val] : Fin 1 → ℕ) a + S1.size a ≤ S4.size a := by decide
theorem inb47 : ∀ (i : Fin 4) (r : Fin 7), ∀ a, (![i.val, r.val] : Fin 2 → ℕ) a + S1x1.size a ≤ S4x7.size a := by decide
def locSem (i : Fin 4) : DmaSem sig := ((cc0_scratch2.slice (Rect.unit (s := S4) ![i.val] S1.size (inb4 i))).squeeze S_ squeezes_S1_S_).sem
def sndSem (i : Fin 4) (r : Fin 7) : DmaSem sig := ((cc0_scratch0.slice (Rect.unit (s := S4x7) ![i.val, r.val] S1x1.size (inb47 i r))).squeeze S_ squeezes_S1x1_S_).sem
def rcvSem (i : Fin 4) (r : Fin 7) : DmaSem sig := ((cc0_scratch1.slice (Rect.unit (s := S4x7) ![i.val, r.val] S1x1.size (inb47 i r))).squeeze S_ squeezes_S1x1_S_).sem

/-- The units a copy of each array credits. -/
def units (i : Fin 4) : ℕ := (outOwn i 0).view.dmaCredit

theorem units_pos : ∀ i, 0 < units i := by decide +kernel
theorem units_outOwn : ∀ i c, (outOwn i c).view.dmaCredit = units i
  | 0, _ => rfl
  | 1, _ => rfl
  | 2, _ => rfl
  | 3, _ => rfl
theorem units_inWhole : ∀ i, (inWhole i).view.dmaCredit = units i
  | 0 => rfl
  | 1 => rfl
  | 2 => rfl
  | 3 => rfl

abbrev semOf (k : Fin 4 ⊕ (Fin 7 × Fin 4 ⊕ Fin 7 × Fin 4)) : DmaSem sig :=
  k.elim locSem fun k => k.elim (fun i => sndSem i.2 i.1) fun i => rcvSem i.2 i.1
theorem semOf_inj : Function.Injective semOf := by
  have h : ∀ a b, semOf a = semOf b → a = b := by decide +kernel
  exact fun a b => h a b

/-- The gathering of the weights. -/
def plan : Exchange.Plan nD τ sig where
  J := Fin 4
  I := Fin 7 × Fin 4
  js := [0, 1, 2, 3]
  is := [(0, 0), (0, 1), (0, 2), (0, 3), (1, 0), (1, 1), (1, 2), (1, 3), (2, 0), (2, 1), (2, 2), (2, 3), (3, 0), (3, 1), (3, 2), (3, 3), (4, 0), (4, 1), (4, 2), (4, 3), (5, 0), (5, 1), (5, 2), (5, 3), (6, 0), (6, 1), (6, 2), (6, 3)]
  js_univ := by decide
  is_univ := by decide
  js_nodup := by decide
  is_nodup := by decide
  shJ := rowShape
  shI i := rowShape i.2
  eJ _ := .bf16
  eI _ := .bf16
  lsrc i _ := inWhole i
  ldst := outOwn
  lsem := locSem
  lsrc_ok i _ := inWhole_ok i
  ldst_ok := outOwn_ok
  rsrc i _ := inWhole i.2
  rdst i c := outOwn i.2 c
  snd i := sndSem i.2 i.1
  rcv i := rcvSem i.2 i.1
  dev := peer
  frm := peer
  dev_frm := peer_peer
  frm_dev := peer_peer
  rsrc_ok i _ := inWhole_ok i.2
  rdst_ok i c := outOwn_ok i.2 c
  plain := by decide +kernel
  routes := by decide +kernel
  lN := units
  rN i := units i.2
  lN_pos := units_pos
  rN_pos i := units_pos i.2
  lN_dst := units_outOwn
  rN_src i _ := units_inWhole i.2
  rN_dst i c := units_outOwn i.2 c
  sem_inj := semOf_inj

variable {F : FTy → Type} [FloatOps F]

/-- The printed kernel is the run of the table on the device it reads. -/
theorem body_eq (t : Fin grid0.N) (s : (w : Fin 0) → Fin (win0 w).nbuf) :
    cc0_gather_weights (F := F) (Memref.whole main_arg0) (Memref.isWhole_whole _) (Memref.whole main_arg1) (Memref.isWhole_whole _) (Memref.whole main_arg2) (Memref.isWhole_whole _) (Memref.whole main_arg3) (Memref.isWhole_whole _)
      (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2
      = .op .deviceId fun d => plan.prog d (.ret ⟨⟩) := by
  chain_rfl

end Cert.GatherRun

end
-- ==== Proof.GatherRun.lean ====
/-
The run of the gathering of the weights, with the contents it leaves: result `i` of every device ends holding, in row `s`,
argument `i` of device `s`.
-/
module

public import proofs.«01_k».proof.Proof.GatherPlan
public import proofs.«01_k».proof.Proof.Rows
public import proofs.«01_k».proof.Proof.First

@[expose] public section

set_option maxRecDepth 65536

noncomputable section

namespace Cert.GatherRun

open Idealize.ShloMosaic Idealize.ShloMosaic.TcCoe Idealize.ShloMosaic.Rounds Idealize.ShloMosaic.ValueIdx
open Idealize.ShloMosaic.Pipeline (Dat ownSems0 prefHeld scopedRest)
open Idealize.SL
open Idealize.SL.BI (sProp bigSep bigSep_sep' bigSep_mono bigSep_congr)
open scoped Idealize.SL.BI
open Idealize.SL.BI.BIBase Idealize.SL.BI.Laws Idealize.SL.Sem Idealize.SL.ProofMode
open Idealize.SL.RA
open Cert.GatherIdeal Cert.GatherIdeal.Gen Cert.Rows

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-- Each argument is read by eight copies at once, an eighth of it lent to each. -/
abbrev lq : plan.J → PosShare TreeShare := fun _ => eighth 0
abbrev rq : plan.I → PosShare TreeShare := fun i => eighth (Fin.succ i.1)

def argRef : Fin 4 → Ref sig .tc
  | 0 => main_arg0
  | 1 => main_arg1
  | 2 => main_arg2
  | 3 => main_arg3
def outRef : Fin 4 → Ref sig .tc
  | 0 => main_v1_0
  | 1 => main_v1_1
  | 2 => main_v1_2
  | 3 => main_v1_3

/-- What result `i` ends holding, the same on every device. -/
def received : (i : Fin 4) → (c : Dev nD) → Buf (Elt F) ((c.tc : Thread nD τ).loc (outRef i))
  | 0, c => fun (y : S8x1024x1408.Idx) => (m ((Dev.tc (nD := nD) (τ := τ) (y 0)).loc main_arg0) : S1024x1408.Idx → Elt F .bf16) (ix2 (y 1) (y 2))
  | 1, c => fun (y : S8x256x1024.Idx) => (m ((Dev.tc (nD := nD) (τ := τ) (y 0)).loc main_arg1) : S256x1024.Idx → Elt F .bf16) (ix2 (y 1) (y 2))
  | 2, c => fun (y : S8x128x1024.Idx) => (m ((Dev.tc (nD := nD) (τ := τ) (y 0)).loc main_arg2) : S128x1024.Idx → Elt F .bf16) (ix2 (y 1) (y 2))
  | 3, c => fun (y : S8x128x1024.Idx) => (m ((Dev.tc (nD := nD) (τ := τ) (y 0)).loc main_arg3) : S128x1024.Idx → Elt F .bf16) (ix2 (y 1) (y 2))

def argPts (c : Dev nD) (i : Fin 4) : sProp 𝕄 := ((c.tc : Thread nD τ).loc (argRef i)) ↦{fullShare} m ((c.tc : Thread nD τ).loc (argRef i))
def outPts (c : Dev nD) (i : Fin 4) : sProp 𝕄 := ((c.tc : Thread nD τ).loc (outRef i)) ↦{fullShare} m ((c.tc : Thread nD τ).loc (outRef i))
def recPts (c : Dev nD) (i : Fin 4) : sProp 𝕄 := ((c.tc : Thread nD τ).loc (outRef i)) ↦{fullShare} received m i c

theorem peer_inj : ∀ (i : Fin 4) (c : Dev nD), Function.Injective fun r : Fin 7 => peer (r, i) c := by decide +kernel
theorem peer_ne : ∀ (i : Fin 4) (c : Dev nD) (r : Fin 7), peer (r, i) c ≠ c := by decide +kernel
theorem own1 : ∀ c : Dev nD, k0_off1 c = ![c.val, 0, 0] := by decide +kernel
theorem own2 : ∀ c : Dev nD, k0_off2 c = ![c.val, 0, 0] := by decide +kernel
theorem own3 : ∀ c : Dev nD, k0_off3 c = ![c.val, 0, 0] := by decide +kernel

theorem arg_split : ∀ (i : Fin 4) (c : Dev nD),
    argPts m c i = (iprop(plan.lsrcPts m lq c i ∗ bigSep Finset.univ fun r : Fin 7 => plan.rsrcPts m rq c (r, i)) : sProp 𝕄)
  | 0, c => pts_shares (e := .bf16) (Memref.whole main_arg0) (View.set_whole _) c (m ((c.tc : Thread nD τ).loc main_arg0))
  | 1, c => pts_shares (e := .bf16) (Memref.whole main_arg1) (View.set_whole _) c (m ((c.tc : Thread nD τ).loc main_arg1))
  | 2, c => pts_shares (e := .bf16) (Memref.whole main_arg2) (View.set_whole _) c (m ((c.tc : Thread nD τ).loc main_arg2))
  | 3, c => pts_shares (e := .bf16) (Memref.whole main_arg3) (View.set_whole _) c (m ((c.tc : Thread nD τ).loc main_arg3))

theorem out_split : ∀ (i : Fin 4) (c : Dev nD),
    outPts m c i = (iprop(plan.ldstPts m c i ∗ bigSep Finset.univ fun r : Fin 7 => plan.rdstPts m (r, i) (plan.frm (r, i) c) c) : sProp 𝕄)
  | 0, c => pts_split (A := 1024) (B := 1408) (e := .bf16) (sq := squeezes_S1x1024x1408_S1024x1408) (Memref.whole main_v1_0) (View.set_whole _) c fullShare (m ((c.tc : Thread nD τ).loc main_v1_0)) c (fun r => peer (r, 0) c) (peer_inj 0 c) (peer_ne 0 c)
      (own1 c) (fun r => own1 (peer (r, 0) c))
  | 1, c => pts_split (A := 256) (B := 1024) (e := .bf16) (sq := squeezes_S1x256x1024_S256x1024) (Memref.whole main_v1_1) (View.set_whole _) c fullShare (m ((c.tc : Thread nD τ).loc main_v1_1)) c (fun r => peer (r, 1) c) (peer_inj 1 c) (peer_ne 1 c)
      (own2 c) (fun r => own2 (peer (r, 1) c))
  | 2, c => pts_split (A := 128) (B := 1024) (e := .bf16) (sq := squeezes_S1x128x1024_S128x1024) (Memref.whole main_v1_2) (View.set_whole _) c fullShare (m ((c.tc : Thread nD τ).loc main_v1_2)) c (fun r => peer (r, 2) c) (peer_inj 2 c) (peer_ne 2 c)
      (own3 c) (fun r => own3 (peer (r, 2) c))
  | 3, c => pts_split (A := 128) (B := 1024) (e := .bf16) (sq := squeezes_S1x128x1024_S128x1024) (Memref.whole main_v1_3) (View.set_whole _) c fullShare (m ((c.tc : Thread nD τ).loc main_v1_3)) c (fun r => peer (r, 3) c) (peer_inj 3 c) (peer_ne 3 c)
      (own3 c) (fun r => own3 (peer (r, 3) c))

theorem pair_eta {A B : ℕ} (z : (Sheet A B).Idx) : z = ix2 (z 0) (z 1) := by
  funext a
  match a with
  | ⟨0, _⟩ => rfl
  | ⟨1, _⟩ => rfl

theorem rec_join : ∀ (i : Fin 4) (c : Dev nD),
    (iprop(plan.lwritten m c i ∗ bigSep Finset.univ fun r : Fin 7 => plan.rwritten m (r, i) (plan.frm (r, i) c) c) : sProp 𝕄) = recPts m c i
  | 0, c => pts_joined (A := 1024) (B := 1408) (e := .bf16) (sq := squeezes_S1x1024x1408_S1024x1408) (Memref.whole main_v1_0) (View.set_whole _) c fullShare (m ((c.tc : Thread nD τ).loc main_v1_0)) (received m 0 c) c (fun r => peer (r, 0) c) (peer_inj 0 c) (peer_ne 0 c)
      (own1 c) (fun r => own1 (peer (r, 0) c))
      ((inWhole 0).view.read (Elt F) (m ((c.tc : Thread nD τ).loc main_arg0)))
      (fun r => (inWhole 0).view.read (Elt F) (m (((peer (r, 0) c).tc : Thread nD τ).loc main_arg0)))
      (fun z => congrArg (m ((c.tc : Thread nD τ).loc main_arg0) : S1024x1408.Idx → Elt F .bf16) (pair_eta z))
      (fun r z => congrArg (m (((peer (r, 0) c).tc : Thread nD τ).loc main_arg0) : S1024x1408.Idx → Elt F .bf16) (pair_eta z))
  | 1, c => pts_joined (A := 256) (B := 1024) (e := .bf16) (sq := squeezes_S1x256x1024_S256x1024) (Memref.whole main_v1_1) (View.set_whole _) c fullShare (m ((c.tc : Thread nD τ).loc main_v1_1)) (received m 1 c) c (fun r => peer (r, 1) c) (peer_inj 1 c) (peer_ne 1 c)
      (own2 c) (fun r => own2 (peer (r, 1) c))
      ((inWhole 1).view.read (Elt F) (m ((c.tc : Thread nD τ).loc main_arg1)))
      (fun r => (inWhole 1).view.read (Elt F) (m (((peer (r, 1) c).tc : Thread nD τ).loc main_arg1)))
      (fun z => congrArg (m ((c.tc : Thread nD τ).loc main_arg1) : S256x1024.Idx → Elt F .bf16) (pair_eta z))
      (fun r z => congrArg (m (((peer (r, 1) c).tc : Thread nD τ).loc main_arg1) : S256x1024.Idx → Elt F .bf16) (pair_eta z))
  | 2, c => pts_joined (A := 128) (B := 1024) (e := .bf16) (sq := squeezes_S1x128x1024_S128x1024) (Memref.whole main_v1_2) (View.set_whole _) c fullShare (m ((c.tc : Thread nD τ).loc main_v1_2)) (received m 2 c) c (fun r => peer (r, 2) c) (peer_inj 2 c) (peer_ne 2 c)
      (own3 c) (fun r => own3 (peer (r, 2) c))
      ((inWhole 2).view.read (Elt F) (m ((c.tc : Thread nD τ).loc main_arg2)))
      (fun r => (inWhole 2).view.read (Elt F) (m (((peer (r, 2) c).tc : Thread nD τ).loc main_arg2)))
      (fun z => congrArg (m ((c.tc : Thread nD τ).loc main_arg2) : S128x1024.Idx → Elt F .bf16) (pair_eta z))
      (fun r z => congrArg (m (((peer (r, 2) c).tc : Thread nD τ).loc main_arg2) : S128x1024.Idx → Elt F .bf16) (pair_eta z))
  | 3, c => pts_joined (A := 128) (B := 1024) (e := .bf16) (sq := squeezes_S1x128x1024_S128x1024) (Memref.whole main_v1_3) (View.set_whole _) c fullShare (m ((c.tc : Thread nD τ).loc main_v1_3)) (received m 3 c) c (fun r => peer (r, 3) c) (peer_inj 3 c) (peer_ne 3 c)
      (own3 c) (fun r => own3 (peer (r, 3) c))
      ((inWhole 3).view.read (Elt F) (m ((c.tc : Thread nD τ).loc main_arg3)))
      (fun r => (inWhole 3).view.read (Elt F) (m (((peer (r, 3) c).tc : Thread nD τ).loc main_arg3)))
      (fun z => congrArg (m ((c.tc : Thread nD τ).loc main_arg3) : S128x1024.Idx → Elt F .bf16) (pair_eta z))
      (fun r z => congrArg (m (((peer (r, 3) c).tc : Thread nD τ).loc main_arg3) : S128x1024.Idx → Elt F .bf16) (pair_eta z))

theorem args_split (c : Dev nD) : bigSep Finset.univ (argPts m c)
    = (iprop(bigSep Finset.univ (plan.lsrcPts m lq c) ∗ bigSep Finset.univ (plan.rsrcPts m rq c)) : sProp 𝕄) :=
  by_array (argPts m c) (plan.lsrcPts m lq c) (plan.rsrcPts m rq c) fun i => arg_split m i c
theorem outs_split (c : Dev nD) : bigSep Finset.univ (outPts m c)
    = (iprop(bigSep Finset.univ (plan.ldstPts m c) ∗ bigSep Finset.univ fun i => plan.rdstPts m i (plan.frm i c) c) : sProp 𝕄) :=
  by_array (outPts m c) (plan.ldstPts m c) (fun i => plan.rdstPts m i (plan.frm i c) c) fun i => out_split m i c
theorem recs_join (c : Dev nD) : (iprop(bigSep Finset.univ (plan.lwritten m c) ∗ bigSep Finset.univ fun i => plan.rwritten m i (plan.frm i c) c) : sProp 𝕄)
    = bigSep Finset.univ (recPts m c) :=
  (by_array (recPts m c) (plan.lwritten m c) (fun i => plan.rwritten m i (plan.frm i c) c) fun i => (rec_join m i c).symm).symm

theorem rows_intro (c : Dev nD) : iprop(bigSep Finset.univ (argPts m c) ∗ bigSep Finset.univ (outPts m c)) ⊢ (plan.rows m lq rq c : sProp 𝕄) := by
  rw [args_split, outs_split]
  unfold Exchange.Plan.rows
  iintro ⟨⟨HA, HB⟩, ⟨HC, HD⟩⟩
  isplitl [HA HC]
  · isplitl [HA] <;> iassumption
  · isplitl [HB] <;> iassumption

/-- What a device holds in the end: its arguments as they were, its results received. -/
def held (c : Dev nD) : sProp 𝕄 := iprop(bigSep Finset.univ (argPts m c) ∗ bigSep Finset.univ (recPts m c))

theorem done_held (c : Dev nD) : (plan.done m lq rq c : sProp 𝕄) ⊢ held m c := by
  unfold held
  rw [args_split, ← recs_join]
  unfold Exchange.Plan.done
  iintro ⟨⟨HA, HC⟩, ⟨HB, HD⟩⟩
  isplitl [HA HB]
  · isplitl [HA] <;> iassumption
  · isplitl [HC] <;> iassumption

theorem unscoped_intro (c : Dev nD) : unscopedBufs c (fun b => m ((c.tc : Thread nD τ).loc b))
    ⊢ (iprop(bigSep Finset.univ (argPts m c) ∗ bigSep Finset.univ (outPts m c)) : sProp 𝕄) := by
  have h : (unscopedBufs c (fun b => m ((c.tc : Thread nD τ).loc b)) : sProp 𝕄) = iprop(argPts m c 0 ∗ argPts m c 1 ∗ argPts m c 2 ∗ argPts m c 3
      ∗ outPts m c 0 ∗ outPts m c 1 ∗ outPts m c 2 ∗ outPts m c 3) := by
    unfold unscopedBufs
    exact BI.bigSep_eq_bigSepL_of_eq [main_arg0, main_arg1, main_arg2, main_arg3, main_v1_0, main_v1_1, main_v1_2, main_v1_3] (by decide) (by decide) _
  have h4 (Φ : Fin 4 → sProp 𝕄) : bigSep Finset.univ Φ = iprop(Φ 0 ∗ Φ 1 ∗ Φ 2 ∗ Φ 3) :=
    BI.bigSep_eq_bigSepL_of_eq [0, 1, 2, 3] (by decide) (by decide) _
  rw [h, h4, h4]
  iintro ⟨H0, H1, H2, H3, H4, H5, H6, H7⟩
  isplitl [H0 H1 H2 H3]
  · isplitl [H0]; · iexact H0
    isplitl [H1]; · iexact H1
    isplitl [H2] <;> iassumption
  · isplitl [H4]; · iexact H4
    isplitl [H5]; · iexact H5
    isplitl [H6] <;> iassumption

/-- What device `c` owes at the start: the arrival of each of its remote copies. -/
abbrev O₀ (c : Dev nD) : CellTallies nD τ sig Unit := plan.owed c plan.is

def dats (_ : Fin 1) (c : Dev nD) : Dat τ (Elt F) Unit ℕ UU ℕ cfg0 c where
  A w := w.elim0
  after w _ := w.elim0
  Φ t := match t with
    | ⟨0, _⟩ => plan.Pre ER m lq rq c
    | ⟨_ + 1, _⟩ => iprop(ownSems0 plan.osem c ∗ held m c)
  q _ := fullShare
  owed t := match t with
    | ⟨0, _⟩ => O₀ c
    | ⟨_ + 1, _⟩ => 0

abbrev 𝒱₀ : Variants := Variants.none

theorem bigSep_none (Φ : Fin cfg0.W → sProp 𝕄) : bigSep Finset.univ Φ = BI.emp := BI.bigSep_empty

theorem body_obligation (c : Dev nD) : Pipeline.BodyObligationLoose (dats m 0 c) (defs₀ (F := F)) 𝒱₀ () Set.univ := by
  intro t
  rw [fin_N0 t, bigSep_none, bigSep_none]
  show iprop(plan.Pre ER m lq rq c ∗ (dats m 0 c).owesAt () t0_0.castSucc ∗ emp)
    ⊢ wp frame (wpE (defs₀ (F := F)) 𝒱₀ c none) Set.univ
      (cc0_gather_weights (F := F) (Memref.whole main_arg0) (Memref.isWhole_whole _) (Memref.whole main_arg1) (Memref.isWhole_whole _) (Memref.whole main_arg2) (Memref.isWhole_whole _) (Memref.whole main_arg3) (Memref.isWhole_whole _)
        (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2)
      fun _ => iprop((ownSems0 plan.osem c ∗ held m c) ∗ (dats m 0 c).owesAt () t0_0.succ ∗ emp)
  rw [body_eq t0_0 fun w => w.elim0, wp_deviceId]
  unfold Dat.owesAt Pipeline.owesWithin
  iintro ⟨HP, ⟨%W, %hW, HO⟩, -⟩
  iapply (plan.wp_prog ER m lq rq 𝒱₀ none _ c (.ret ⟨⟩) W)
  isplitl [HP]; · iexact HP
  isplitl [HO]; · iexact HO
  iintro ⟨HQ, ⟨%W', HO⟩⟩
  rw [wp_ret]
  imodintro
  ihave H := (plan.post_done m lq rq c) $$ HQ
  icases H with ⟨HS, HD⟩
  isplitl [HS HD]
  · isplitl [HS]; · iexact HS
    iapply (done_held m c); iexact HD
  isplitl [HO]
  · iexists W'
    isplitr; · ipureintro; exact fun _ _ => Or.inl trivial
    iexact HO
  iempintro

theorem ownSemFacts : Pipeline.OwnSemFacts cfg0.spec plan.osem := by decide +kernel

def u₀ : UU := (initOf (Pipeline.cells cfgs cellOf_inj) (Pipeline.launchToks cfgs cellOf_inj), initOf plan.cellsOf plan.toksOf)

theorem deal : (bigSep Finset.univ fun c : Dev nD => First.dealt plan.osem m O₀ (plan.G ER m lq rq) c)
    ⊢ |={Set.univ}=> bigSep Finset.univ fun c : Dev nD => (iprop(plan.Pre ER m lq rq c ∗ owes (c.tc : Thread nD τ) (O₀ c) ∅) : sProp 𝕄) := by
  have h1 : (bigSep Finset.univ fun c : Dev nD => First.dealt plan.osem m O₀ (plan.G ER m lq rq) c)
      ⊢ (iprop((bigSep Finset.univ fun c : Dev nD => iprop(ownSems0 plan.osem c ∗ Pipeline.launchCred O₀ c ∗ plan.G ER m lq rq c ∗ plan.rows m lq rq c))
        ∗ bigSep Finset.univ fun c : Dev nD => owes (c.tc : Thread nD τ) (O₀ c) ∅) : sProp 𝕄) := by
    rw [← bigSep_sep']
    refine bigSep_mono fun c _ => (show _ ⊢ (_ : sProp 𝕄) from ?_)
    unfold First.dealt
    iintro ⟨HS, HU, HO, HC, HG⟩
    isplitr [HO]
    · isplitl [HS]; · iexact HS
      isplitl [HC]; · iexact HC
      isplitl [HG]; · iexact HG
      iapply (rows_intro m c)
      iapply (unscoped_intro m c)
      iexact HU
    iexact HO
  refine h1.trans ?_
  rw [bigSep_sep' (Φ := plan.Pre ER m lq rq)]
  iintro ⟨HA, HO⟩
  imod (plan.deal ER m lq rq) $$ HA with HP
  imodintro
  isplitl [HP] <;> iassumption

/-- The final memory of one device. -/
def Final (c : Dev nD) (s : MemSt nD τ sig (Elt F)) : Prop :=
  (∀ i, s.mem ((c.tc : Thread nD τ).loc (argRef i)) = m ((c.tc : Thread nD τ).loc (argRef i)))
    ∧ ∀ i, s.mem ((c.tc : Thread nD τ).loc (outRef i)) = received m i c

theorem held_final (c : Dev nD) (s' : Phys nD τ sig (Elt F)) : iprop(held m c ∗ SI s') ⊢ (iprop(⌜Final m c s'.mem⌝ ∗ SI s') : sProp 𝕄) := by
  have h4 (Φ : Fin 4 → sProp 𝕄) : bigSep Finset.univ Φ = iprop(Φ 0 ∗ Φ 1 ∗ Φ 2 ∗ Φ 3) :=
    BI.bigSep_eq_bigSepL_of_eq [0, 1, 2, 3] (by decide) (by decide) _
  unfold held
  rw [h4, h4]
  unfold argPts recPts
  iintro ⟨⟨⟨A0, A1, A2, A3⟩, ⟨R0, R1, R2, R3⟩⟩, HSI⟩
  icombine HSI A0 gives %a0
  icombine HSI A1 gives %a1
  icombine HSI A2 gives %a2
  icombine HSI A3 gives %a3
  icombine HSI R0 gives %r0
  icombine HSI R1 gives %r1
  icombine HSI R2 gives %r2
  icombine HSI R3 gives %r3
  isplitr [HSI]
  · ipureintro
    exact ⟨fun | 0 => funext fun x => a0 x (Finset.mem_univ x) | 1 => funext fun x => a1 x (Finset.mem_univ x)
               | 2 => funext fun x => a2 x (Finset.mem_univ x) | 3 => funext fun x => a3 x (Finset.mem_univ x),
           fun | 0 => funext fun x => r0 x (Finset.mem_univ x) | 1 => funext fun x => r1 x (Finset.mem_univ x)
               | 2 => funext fun x => r2 x (Finset.mem_univ x) | 3 => funext fun x => r3 x (Finset.mem_univ x)⟩
  · iexact HSI

/-- @main ends, on every device, with the rows received, the arguments as they were and every semaphore at zero. -/
theorem run_main : θ_run defs (onTc (τ := τ) (main (F := F))) (s₀ m ρ) (fun r => (∀ c, Final m c r.2) ∧ r.2.sem = fun _ => 0) :=
  First.run_first (fun p => (cfgs p).toPCfg) (fun p => (cfgs p).toPCfg_adm) (dats m) cellOf_inj EP defs₀ 𝒱₀ plan.osem
    m ρ (p := (0 : Fin 1)) winFacts0.to₀ ownSemFacts block_pos0 stage_whole0 main [] (fun _ => rfl) List.nodup_nil (by simp [Pipeline.Seg.pipes])
    (body_obligation m) (fun c => by unfold Pipeline.cellsWaits; exact Entails.of_eq (BI.bigSep_empty).symm)
    O₀ (plan.G ER m lq rq) u₀
    (by
      unfold u₀
      iintro Hu
      ihave H := (ownU_pair _ _) $$ Hu
      icases H with ⟨HP, HX⟩
      imod (plan.fund_cells ER m lq rq) $$ HX with HG
      imodintro
      isplitl [HP] <;> iassumption)
    (fun c => iprop(plan.Pre ER m lq rq c ∗ owes (c.tc : Thread nD τ) (O₀ c) ∅)) (plan.Pre ER m lq rq) (held m) (fun _ => iprop(emp))
    (fun c => iprop(held m c ∗ ∃ W, owes (c.tc : Thread nD τ) (0 : CellTallies nD τ sig Unit) W)) (held m)
    (deal m)
    (fun c => by
      iintro ⟨HP, HO⟩
      imodintro
      isplitr; · iapply (Entails.of_eq (BI.bigSep_empty).symm : (emp : sProp 𝕄) ⊢ (dats m 0 c).arrays ((dats m 0 c).arrAt · 0)); iempintro
      isplitr; · iapply (Entails.of_eq (BI.bigSep_empty).symm : (emp : sProp 𝕄) ⊢ prefHeld Pipeline.Prefetch.none c (fun _ => fullShare) _); iempintro
      isplitl [HO]
      · unfold Dat.owesAt Pipeline.owesWithin
        iexists ∅
        isplitr; · ipureintro; exact fun _ h => Or.inl trivial
        iexact HO
      isplitl [HP]; · iexact HP
      iempintro)
    (fun c => by
      show iprop(plan.Pre ER m lq rq c ∗ _ ∗ _) ⊢ plan.Pre ER m lq rq c
      iintro ⟨HP, -, -⟩
      iexact HP)
    (fun c => by
      rw [show Pipeline.scopedRest (Ix := Unit) (Name := ℕ) (U := UU) (Lvl := ℕ) (Val := Elt F) _ c = (emp : sProp 𝕄) from scopedRest0_eq c]
      show iprop(ownSems0 plan.osem c ∗ held m c) ⊢ (iprop(held m c ∗ ownSems0 plan.osem c ∗ emp) : sProp 𝕄)
      iintro ⟨HS, HH⟩
      isplitl [HH]; · iexact HH
      isplitl [HS]; · iexact HS
      iempintro)
    (fun c => by
      unfold Dat.owesAt Pipeline.owesWithin
      iintro ⟨-, ⟨%W, -, HO⟩, HH, -⟩
      imodintro
      isplitl [HH]; · iexact HH
      iexists W
      iexact HO)
    (fun c => BI.Entails.refl _)
    (Final m)
    (fun c s' => (held_final m c s').trans (by iintro H; imodintro; iexact H))
    (fun s h hs => ⟨h, sem_eq_zero_of_scoped (by decide) hs⟩)

end Cert.GatherRun

end
-- ==== Proof.GatherClaims.lean ====
/-
The claims about the gathering of the weights: what every device receives is the whole array read as a stack of eight.
-/
module

public import proofs.«01_k».proof.Defs
public import proofs.«01_k».proof.Proof.Gen.Gather
public import proofs.«01_k».proof.Proof.Gen.Gather.Launch
public import proofs.«01_k».proof.Proof.Gen.GatherRefIdeal.Run
public import proofs.«01_k».proof.Proof.Gen.GatherRef.Run
public import proofs.«01_k».proof.Proof.GatherRun
public import Idealize.ShloMosaic.Lib.Quiescent
public import proofs.«01_k».proof.Proof.Swap

@[expose] public section

set_option maxRecDepth 65536

noncomputable section

namespace Cert.GatherClaims

open Idealize.ShloMosaic Idealize.ShloMosaic.TcCoe Idealize.ShloMosaic.ValueIdx
open Idealize.SL.Sem
open Cert.GatherRefIdeal Cert.GatherRefIdeal.Gen

variable {F : FTy → Type} [FloatOps F]

/-- The whole result for a whole argument. -/
def whole0 (x : S8192x1408.Idx → Elt F .bf16) : S8x1024x1408.Idx → Elt F .bf16 := shapeCast S8x1024x1408 x shapeCasts_S8192x1408_S8x1024x1408
/-- The whole result for a whole argument. -/
def whole1 (x : S2048x1024.Idx → Elt F .bf16) : S8x256x1024.Idx → Elt F .bf16 := shapeCast S8x256x1024 x shapeCasts_S2048x1024_S8x256x1024
/-- The whole result for a whole argument. -/
def whole2 (x : S1024x1024.Idx → Elt F .bf16) : S8x128x1024.Idx → Elt F .bf16 := shapeCast S8x128x1024 x shapeCasts_S1024x1024_S8x128x1024

theorem received0 (m : (ℓ : Loc Cert.GatherIdeal.nD Cert.GatherIdeal.τ Cert.GatherIdeal.sig) → Buf (Elt F) ℓ) (x : S8192x1408.Idx → Elt F .bf16)
    (hm : ∀ d : Dev Cert.GatherIdeal.nD, m ((d.tc : Thread Cert.GatherIdeal.nD Cert.GatherIdeal.τ).loc Cert.GatherIdeal.main_arg0)
      = Layout.block ⟨2, ![1024, 1408]⟩ ⟨2, ![8192, 1408]⟩ 0 8 d x) (c : Dev Cert.GatherIdeal.nD) :
    Cert.GatherRun.received m 0 c = whole0 x :=
  funext fun (y : (⟨3, ![8, 1024, 1408]⟩ : Shape).Idx) => (congrFun (hm (y 0)) (ix2 (y 1) (y 2))).trans (Swap.block_stack (A := 1024) (B := 1408) x _ _ y)

theorem received1 (m : (ℓ : Loc Cert.GatherIdeal.nD Cert.GatherIdeal.τ Cert.GatherIdeal.sig) → Buf (Elt F) ℓ) (x : S2048x1024.Idx → Elt F .bf16)
    (hm : ∀ d : Dev Cert.GatherIdeal.nD, m ((d.tc : Thread Cert.GatherIdeal.nD Cert.GatherIdeal.τ).loc Cert.GatherIdeal.main_arg1)
      = Layout.block ⟨2, ![256, 1024]⟩ ⟨2, ![2048, 1024]⟩ 0 8 d x) (c : Dev Cert.GatherIdeal.nD) :
    Cert.GatherRun.received m 1 c = whole1 x :=
  funext fun (y : (⟨3, ![8, 256, 1024]⟩ : Shape).Idx) => (congrFun (hm (y 0)) (ix2 (y 1) (y 2))).trans (Swap.block_stack (A := 256) (B := 1024) x _ _ y)

theorem received2 (m : (ℓ : Loc Cert.GatherIdeal.nD Cert.GatherIdeal.τ Cert.GatherIdeal.sig) → Buf (Elt F) ℓ) (x : S1024x1024.Idx → Elt F .bf16)
    (hm : ∀ d : Dev Cert.GatherIdeal.nD, m ((d.tc : Thread Cert.GatherIdeal.nD Cert.GatherIdeal.τ).loc Cert.GatherIdeal.main_arg2)
      = Layout.block ⟨2, ![128, 1024]⟩ ⟨2, ![1024, 1024]⟩ 0 8 d x) (c : Dev Cert.GatherIdeal.nD) :
    Cert.GatherRun.received m 2 c = whole2 x :=
  funext fun (y : (⟨3, ![8, 128, 1024]⟩ : Shape).Idx) => (congrFun (hm (y 0)) (ix2 (y 1) (y 2))).trans (Swap.block_stack (A := 128) (B := 1024) x _ _ y)

theorem received3 (m : (ℓ : Loc Cert.GatherIdeal.nD Cert.GatherIdeal.τ Cert.GatherIdeal.sig) → Buf (Elt F) ℓ) (x : S1024x1024.Idx → Elt F .bf16)
    (hm : ∀ d : Dev Cert.GatherIdeal.nD, m ((d.tc : Thread Cert.GatherIdeal.nD Cert.GatherIdeal.τ).loc Cert.GatherIdeal.main_arg3)
      = Layout.block ⟨2, ![128, 1024]⟩ ⟨2, ![1024, 1024]⟩ 0 8 d x) (c : Dev Cert.GatherIdeal.nD) :
    Cert.GatherRun.received m 3 c = whole2 x :=
  funext fun (y : (⟨3, ![8, 128, 1024]⟩ : Shape).Idx) => (congrFun (hm (y 0)) (ix2 (y 1) (y 2))).trans (Swap.block_stack (A := 128) (B := 1024) x _ _ y)

theorem frame_kernel : Cert.quiescent_Gather := fun m ρ _ => (θ_run (Cert.Gather.defs (F := Bits)) _ _).mono
  (fun _ h => ⟨fun c => ⟨(h.1 c).1 0, (h.1 c).1 1, (h.1 c).1 2, (h.1 c).1 3⟩, h.2⟩) (Cert.GatherRun.run_main (F := Bits) m ρ)

theorem frame_ideal : Cert.quiescent_GatherIdeal := fun m ρ _ => (θ_run (Cert.GatherIdeal.defs (F := Ideal)) _ _).mono
  (fun _ h => ⟨fun c => ⟨(h.1 c).1 0, (h.1 c).1 1, (h.1 c).1 2, (h.1 c).1 3⟩, h.2⟩) (Cert.GatherRun.run_main (F := Ideal) m ρ)

theorem frame_refIdeal : Cert.quiescent_GatherRefIdeal := fun m ρ _ => (θ_run (Cert.GatherRefIdeal.defs (F := Ideal)) _ _).mono
  (fun r h => ⟨fun c => (h c).2.2.2.2, sem_eq_zero_of_no_sems (by decide) r.2⟩) (Cert.GatherRefIdeal.Value.run (F := Ideal) m ρ)

theorem frame_ref : Cert.quiescent_GatherRef := fun m ρ _ => (θ_run (Cert.GatherRef.defs (F := Bits)) _ _).mono
  (fun r h => ⟨fun c => (h c).2.2.2.2, sem_eq_zero_of_no_sems (by decide) r.2⟩) (Cert.GatherRef.Value.run (F := Bits) m ρ)

theorem algebraic : Cert.algebraic_GatherIdeal_GatherRefIdeal := by
  intro m g m' g' _ hm
  refine ⟨whole0 (m' (((0 : Dev Cert.GatherRefIdeal.nD).tc : Thread Cert.GatherRefIdeal.nD Cert.GatherRefIdeal.τ).loc Cert.GatherRefIdeal.main_arg0)),
    whole1 (m' (((0 : Dev Cert.GatherRefIdeal.nD).tc : Thread Cert.GatherRefIdeal.nD Cert.GatherRefIdeal.τ).loc Cert.GatherRefIdeal.main_arg1)),
    whole2 (m' (((0 : Dev Cert.GatherRefIdeal.nD).tc : Thread Cert.GatherRefIdeal.nD Cert.GatherRefIdeal.τ).loc Cert.GatherRefIdeal.main_arg2)),
    whole2 (m' (((0 : Dev Cert.GatherRefIdeal.nD).tc : Thread Cert.GatherRefIdeal.nD Cert.GatherRefIdeal.τ).loc Cert.GatherRefIdeal.main_arg3)), ?_, ?_⟩
  · refine (θ_run (Cert.GatherIdeal.defs (F := Ideal)) _ _).mono (fun r h c => ⟨?_, ?_, ?_, ?_, (h.1 c).1 0, (h.1 c).1 1, (h.1 c).1 2, (h.1 c).1 3⟩) (Cert.GatherRun.run_main (F := Ideal) m g)
    · exact ((h.1 c).2 0).trans (received0 m _ (fun d => (hm d).1) c)
    · exact ((h.1 c).2 1).trans (received1 m _ (fun d => (hm d).2.1) c)
    · exact ((h.1 c).2 2).trans (received2 m _ (fun d => (hm d).2.2.1) c)
    · exact ((h.1 c).2 3).trans (received3 m _ (fun d => (hm d).2.2.2) c)
  · exact (θ_run (Cert.GatherRefIdeal.defs (F := Ideal)) _ _).mono (fun r h => h 0) (Cert.GatherRefIdeal.Value.run (F := Ideal) m' g')

theorem bitexact : Cert.bitexact_Gather_GatherRef := by
  intro m g m' g' _ hm
  refine ⟨whole0 (m' (((0 : Dev Cert.GatherRef.nD).tc : Thread Cert.GatherRef.nD Cert.GatherRef.τ).loc Cert.GatherRef.main_arg0)),
    whole1 (m' (((0 : Dev Cert.GatherRef.nD).tc : Thread Cert.GatherRef.nD Cert.GatherRef.τ).loc Cert.GatherRef.main_arg1)),
    whole2 (m' (((0 : Dev Cert.GatherRef.nD).tc : Thread Cert.GatherRef.nD Cert.GatherRef.τ).loc Cert.GatherRef.main_arg2)),
    whole2 (m' (((0 : Dev Cert.GatherRef.nD).tc : Thread Cert.GatherRef.nD Cert.GatherRef.τ).loc Cert.GatherRef.main_arg3)), ?_, ?_⟩
  · refine (θ_run (Cert.Gather.defs (F := Bits)) _ _).mono (fun r h c => ⟨?_, ?_, ?_, ?_, (h.1 c).1 0, (h.1 c).1 1, (h.1 c).1 2, (h.1 c).1 3⟩) (Cert.GatherRun.run_main (F := Bits) m g)
    · exact ((h.1 c).2 0).trans (received0 m _ (fun d => (hm d).1) c)
    · exact ((h.1 c).2 1).trans (received1 m _ (fun d => (hm d).2.1) c)
    · exact ((h.1 c).2 2).trans (received2 m _ (fun d => (hm d).2.2.1) c)
    · exact ((h.1 c).2 3).trans (received3 m _ (fun d => (hm d).2.2.2) c)
  · exact (θ_run (Cert.GatherRef.defs (F := Bits)) _ _).mono (fun r h => h 0) (Cert.GatherRef.Value.run (F := Bits) m' g')

end Cert.GatherClaims

end
-- ==== Proof.UpdatePlan.lean ====
/-
The exchange at the head of the program that exchanges the gradients and updates the weights, as a table of copies.

Array `i` of the four is one buffer of eight rows on each device. Device `c` copies its own row of `main_arg i` to its own
row of `main_v1_i`, and for each of the seven other devices the row of that device to its own row on that device.
-/
module

public import proofs.«01_k».proof.Proof.Exchange
public import proofs.«01_k».proof.Proof.Gen.UpdateIdeal.Launch
public import proofs.«01_k».proof.Proof.Gen.UpdateIdeal.Skeleton

@[expose] public section

set_option maxRecDepth 65536

noncomputable section

namespace Cert.UpdateRun

open Idealize.ShloMosaic Idealize.ShloMosaic.TcCoe Idealize.SL.Sem
open Cert.UpdateIdeal Cert.UpdateIdeal.Gen

/-- The shape of a row of each array. -/
def rowShape : Fin 4 → Shape
  | 0 => S1024x1408
  | 1 => S256x1024
  | 2 => S128x1024
  | 3 => S128x1024

/-- Device `c`'s own row of each argument and of each result. -/
def inOwn : (i : Fin 4) → Dev nD → Memref sig .tc .hbm (rowShape i) .bf16
  | 0, c => ((Memref.whole main_arg0).slice (Rect.unit (s := S8x1024x1408) (k0_off1 c) S1x1024x1408.size (k0_off1_inb c)) (fun _ => rfl)).squeeze S1024x1408 squeezes_S1x1024x1408_S1024x1408
  | 1, c => ((Memref.whole main_arg1).slice (Rect.unit (s := S8x256x1024) (k0_off2 c) S1x256x1024.size (k0_off2_inb c)) (fun _ => rfl)).squeeze S256x1024 squeezes_S1x256x1024_S256x1024
  | 2, c => ((Memref.whole main_arg2).slice (Rect.unit (s := S8x128x1024) (k0_off3 c) S1x128x1024.size (k0_off3_inb c)) (fun _ => rfl)).squeeze S128x1024 squeezes_S1x128x1024_S128x1024
  | 3, c => ((Memref.whole main_arg3).slice (Rect.unit (s := S8x128x1024) (k0_off3 c) S1x128x1024.size (k0_off3_inb c)) (fun _ => rfl)).squeeze S128x1024 squeezes_S1x128x1024_S128x1024
def outOwn : (i : Fin 4) → Dev nD → Memref sig .tc .hbm (rowShape i) .bf16
  | 0, c => ((Memref.whole main_v1_0).slice (Rect.unit (s := S8x1024x1408) (k0_off1 c) S1x1024x1408.size (k0_off1_inb c)) (fun _ => rfl)).squeeze S1024x1408 squeezes_S1x1024x1408_S1024x1408
  | 1, c => ((Memref.whole main_v1_1).slice (Rect.unit (s := S8x256x1024) (k0_off2 c) S1x256x1024.size (k0_off2_inb c)) (fun _ => rfl)).squeeze S256x1024 squeezes_S1x256x1024_S256x1024
  | 2, c => ((Memref.whole main_v1_2).slice (Rect.unit (s := S8x128x1024) (k0_off3 c) S1x128x1024.size (k0_off3_inb c)) (fun _ => rfl)).squeeze S128x1024 squeezes_S1x128x1024_S128x1024
  | 3, c => ((Memref.whole main_v1_3).slice (Rect.unit (s := S8x128x1024) (k0_off3 c) S1x128x1024.size (k0_off3_inb c)) (fun _ => rfl)).squeeze S128x1024 squeezes_S1x128x1024_S128x1024
/-- The row of each argument that goes to the peer of round `r`. -/
def inPeer : (i : Fin 4) → Fin 7 → Dev nD → Memref sig .tc .hbm (rowShape i) .bf16
  | 0, r, c => ((Memref.whole main_arg0).slice (Rect.unit (s := S8x1024x1408) (k0_off4 c (k0_off4_at r).1 (k0_off4_at r).2.1 (k0_off4_at r).2.2) S1x1024x1408.size (k0_off4_inb c r)) (fun _ => rfl)).squeeze S1024x1408 squeezes_S1x1024x1408_S1024x1408
  | 1, r, c => ((Memref.whole main_arg1).slice (Rect.unit (s := S8x256x1024) (k0_off5 c (k0_off5_at r).1 (k0_off5_at r).2.1 (k0_off5_at r).2.2) S1x256x1024.size (k0_off5_inb c r)) (fun _ => rfl)).squeeze S256x1024 squeezes_S1x256x1024_S256x1024
  | 2, r, c => ((Memref.whole main_arg2).slice (Rect.unit (s := S8x128x1024) (k0_off6 c (k0_off6_at r).1 (k0_off6_at r).2.1 (k0_off6_at r).2.2) S1x128x1024.size (k0_off6_inb c r)) (fun _ => rfl)).squeeze S128x1024 squeezes_S1x128x1024_S128x1024
  | 3, r, c => ((Memref.whole main_arg3).slice (Rect.unit (s := S8x128x1024) (k0_off6 c (k0_off6_at r).1 (k0_off6_at r).2.1 (k0_off6_at r).2.2) S1x128x1024.size (k0_off6_inb c r)) (fun _ => rfl)).squeeze S128x1024 squeezes_S1x128x1024_S128x1024

theorem inOwn_ok : ∀ i c, (inOwn i c).view.WordExact
  | 0, c => ((Memref.isWhole_whole _).wordExact_slice rfl _ (k0_off1_wordsbf16 c)).reshape _ _
  | 1, c => ((Memref.isWhole_whole _).wordExact_slice rfl _ (k0_off2_wordsbf16 c)).reshape _ _
  | 2, c => ((Memref.isWhole_whole _).wordExact_slice rfl _ (k0_off3_wordsbf16 c)).reshape _ _
  | 3, c => ((Memref.isWhole_whole _).wordExact_slice rfl _ (k0_off3_wordsbf16 c)).reshape _ _
theorem outOwn_ok : ∀ i c, (outOwn i c).view.WordExact
  | 0, c => ((Memref.isWhole_whole _).wordExact_slice rfl _ (k0_off1_wordsbf16 c)).reshape _ _
  | 1, c => ((Memref.isWhole_whole _).wordExact_slice rfl _ (k0_off2_wordsbf16 c)).reshape _ _
  | 2, c => ((Memref.isWhole_whole _).wordExact_slice rfl _ (k0_off3_wordsbf16 c)).reshape _ _
  | 3, c => ((Memref.isWhole_whole _).wordExact_slice rfl _ (k0_off3_wordsbf16 c)).reshape _ _
theorem inPeer_ok : ∀ i r c, (inPeer i r c).view.WordExact
  | 0, r, c => ((Memref.isWhole_whole _).wordExact_slice rfl _ (k0_off4_wordsbf16 c r)).reshape _ _
  | 1, r, c => ((Memref.isWhole_whole _).wordExact_slice rfl _ (k0_off5_wordsbf16 c r)).reshape _ _
  | 2, r, c => ((Memref.isWhole_whole _).wordExact_slice rfl _ (k0_off6_wordsbf16 c r)).reshape _ _
  | 3, r, c => ((Memref.isWhole_whole _).wordExact_slice rfl _ (k0_off6_wordsbf16 c r)).reshape _ _

/-- The device each remote copy goes to, as printed. -/
def peerVal : Fin 7 × Fin 4 → Dev nD → ℕ
  | (0, 0), c => k0_dev1 c
  | (0, 1), c => k0_dev2 c
  | (0, 2), c => k0_dev3 c
  | (0, 3), c => k0_dev4 c
  | (1, 0), c => k0_dev5 c
  | (1, 1), c => k0_dev6 c
  | (1, 2), c => k0_dev7 c
  | (1, 3), c => k0_dev8 c
  | (2, 0), c => k0_dev9 c
  | (2, 1), c => k0_dev10 c
  | (2, 2), c => k0_dev11 c
  | (2, 3), c => k0_dev12 c
  | (3, 0), c => k0_dev13 c
  | (3, 1), c => k0_dev14 c
  | (3, 2), c => k0_dev15 c
  | (3, 3), c => k0_dev16 c
  | (4, 0), c => k0_dev17 c
  | (4, 1), c => k0_dev18 c
  | (4, 2), c => k0_dev19 c
  | (4, 3), c => k0_dev20 c
  | (5, 0), c => k0_dev21 c
  | (5, 1), c => k0_dev22 c
  | (5, 2), c => k0_dev23 c
  | (5, 3), c => k0_dev24 c
  | (6, 0), c => k0_dev25 c
  | (6, 1), c => k0_dev26 c
  | (6, 2), c => k0_dev27 c
  | (6, 3), c => k0_dev28 c
theorem peerVal_lt : ∀ i c, peerVal i c < nD := by decide +kernel
def peer (i : Fin 7 × Fin 4) (c : Dev nD) : Dev nD := ⟨peerVal i c, peerVal_lt i c⟩
theorem peer_peer : ∀ i c, peer i (peer i c) = c := by decide +kernel

theorem inb4 : ∀ i : Fin 4, ∀ a, (![i.val] : Fin 1 → ℕ) a + S1.size a ≤ S4.size a := by decide
theorem inb47 : ∀ (i : Fin 4) (r : Fin 7), ∀ a, (![i.val, r.val] : Fin 2 → ℕ) a + S1x1.size a ≤ S4x7.size a := by decide
def locSem (i : Fin 4) : DmaSem sig := ((cc0_scratch2.slice (Rect.unit (s := S4) ![i.val] S1.size (inb4 i))).squeeze S_ squeezes_S1_S_).sem
def sndSem (i : Fin 4) (r : Fin 7) : DmaSem sig := ((cc0_scratch0.slice (Rect.unit (s := S4x7) ![i.val, r.val] S1x1.size (inb47 i r))).squeeze S_ squeezes_S1x1_S_).sem
def rcvSem (i : Fin 4) (r : Fin 7) : DmaSem sig := ((cc0_scratch1.slice (Rect.unit (s := S4x7) ![i.val, r.val] S1x1.size (inb47 i r))).squeeze S_ squeezes_S1x1_S_).sem

/-- The units a copy of each array credits. -/
def units (i : Fin 4) : ℕ := (outOwn i 0).view.dmaCredit

theorem units_pos : ∀ i, 0 < units i := by decide +kernel
theorem units_outOwn : ∀ i c, (outOwn i c).view.dmaCredit = units i
  | 0, _ => rfl
  | 1, _ => rfl
  | 2, _ => rfl
  | 3, _ => rfl
theorem units_inPeer : ∀ i r c, (inPeer i r c).view.dmaCredit = units i
  | 0, _, _ => rfl
  | 1, _, _ => rfl
  | 2, _, _ => rfl
  | 3, _, _ => rfl

abbrev semOf (k : Fin 4 ⊕ (Fin 7 × Fin 4 ⊕ Fin 7 × Fin 4)) : DmaSem sig :=
  k.elim locSem fun k => k.elim (fun i => sndSem i.2 i.1) fun i => rcvSem i.2 i.1
theorem semOf_inj : Function.Injective semOf := by
  have h : ∀ a b, semOf a = semOf b → a = b := by decide +kernel
  exact fun a b => h a b

/-- The exchange of the gradients. -/
def plan : Exchange.Plan nD τ sig where
  J := Fin 4
  I := Fin 7 × Fin 4
  js := [0, 1, 2, 3]
  is := [(0, 0), (0, 1), (0, 2), (0, 3), (1, 0), (1, 1), (1, 2), (1, 3), (2, 0), (2, 1), (2, 2), (2, 3), (3, 0), (3, 1), (3, 2), (3, 3), (4, 0), (4, 1), (4, 2), (4, 3), (5, 0), (5, 1), (5, 2), (5, 3), (6, 0), (6, 1), (6, 2), (6, 3)]
  js_univ := by decide
  is_univ := by decide
  js_nodup := by decide
  is_nodup := by decide
  shJ := rowShape
  shI i := rowShape i.2
  eJ _ := .bf16
  eI _ := .bf16
  lsrc := inOwn
  ldst := outOwn
  lsem := locSem
  lsrc_ok := inOwn_ok
  ldst_ok := outOwn_ok
  rsrc i c := inPeer i.2 i.1 c
  rdst i c := outOwn i.2 c
  snd i := sndSem i.2 i.1
  rcv i := rcvSem i.2 i.1
  dev := peer
  frm := peer
  dev_frm := peer_peer
  frm_dev := peer_peer
  rsrc_ok i c := inPeer_ok i.2 i.1 c
  rdst_ok i c := outOwn_ok i.2 c
  plain := by decide +kernel
  routes := by decide +kernel
  lN := units
  rN i := units i.2
  lN_pos := units_pos
  rN_pos i := units_pos i.2
  lN_dst := units_outOwn
  rN_src i c := units_inPeer i.2 i.1 c
  rN_dst i c := units_outOwn i.2 c
  sem_inj := semOf_inj

variable {F : FTy → Type} [FloatOps F]

/-- The printed kernel is the run of the table on the device it reads. -/
theorem body_eq (t : Fin grid0.N) (s : (w : Fin 0) → Fin (win0 w).nbuf) :
    cc0_scatter_grads (F := F) (Memref.whole main_arg0) (Memref.isWhole_whole _) (Memref.whole main_arg1) (Memref.isWhole_whole _) (Memref.whole main_arg2) (Memref.isWhole_whole _) (Memref.whole main_arg3) (Memref.isWhole_whole _)
      (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2
      = .op .deviceId fun d => plan.prog d (.ret ⟨⟩) := by
  chain_rfl

end Cert.UpdateRun

end
-- ==== Proof.UpdateRows.lean ====
/-
The run of the exchange that opens the update, with the contents it leaves: array `i` of device `c` ends holding, in row `s`, row
`c` of array `i` of device `s`.
-/
module

public import proofs.«01_k».proof.Proof.UpdatePlan
public import proofs.«01_k».proof.Proof.Rows
public import proofs.«01_k».proof.Proof.First

@[expose] public section

set_option maxRecDepth 65536

noncomputable section

namespace Cert.UpdateRun

open Idealize.ShloMosaic Idealize.ShloMosaic.TcCoe Idealize.ShloMosaic.Rounds Idealize.ShloMosaic.ValueIdx
open Idealize.ShloMosaic.Pipeline (Dat ownSems0 prefHeld scopedRest)
open Idealize.SL
open Idealize.SL.BI (sProp bigSep bigSep_sep' bigSep_mono bigSep_congr)
open scoped Idealize.SL.BI
open Idealize.SL.BI.BIBase Idealize.SL.BI.Laws Idealize.SL.Sem Idealize.SL.ProofMode
open Idealize.SL.RA
open Cert.UpdateIdeal Cert.UpdateIdeal.Gen Cert.Rows

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-- Every element is lent whole. -/
abbrev lq : plan.J → PosShare TreeShare := fun _ => fullShare
abbrev rq : plan.I → PosShare TreeShare := fun _ => fullShare

def argRef : Fin 4 → Ref sig .tc
  | 0 => main_arg0
  | 1 => main_arg1
  | 2 => main_arg2
  | 3 => main_arg3
def outRef : Fin 4 → Ref sig .tc
  | 0 => main_v1_0
  | 1 => main_v1_1
  | 2 => main_v1_2
  | 3 => main_v1_3

/-- What result array `i` of device `c` ends holding. -/
def received : (i : Fin 4) → (c : Dev nD) → Buf (Elt F) ((c.tc : Thread nD τ).loc (outRef i))
  | 0, c => fun (y : S8x1024x1408.Idx) => (m ((Dev.tc (nD := nD) (τ := τ) (y 0)).loc main_arg0) : S8x1024x1408.Idx → Elt F .bf16) (ix3 (c : Fin 8) (y 1) (y 2))
  | 1, c => fun (y : S8x256x1024.Idx) => (m ((Dev.tc (nD := nD) (τ := τ) (y 0)).loc main_arg1) : S8x256x1024.Idx → Elt F .bf16) (ix3 (c : Fin 8) (y 1) (y 2))
  | 2, c => fun (y : S8x128x1024.Idx) => (m ((Dev.tc (nD := nD) (τ := τ) (y 0)).loc main_arg2) : S8x128x1024.Idx → Elt F .bf16) (ix3 (c : Fin 8) (y 1) (y 2))
  | 3, c => fun (y : S8x128x1024.Idx) => (m ((Dev.tc (nD := nD) (τ := τ) (y 0)).loc main_arg3) : S8x128x1024.Idx → Elt F .bf16) (ix3 (c : Fin 8) (y 1) (y 2))

def argPts (c : Dev nD) (i : Fin 4) : sProp 𝕄 := ((c.tc : Thread nD τ).loc (argRef i)) ↦{fullShare} m ((c.tc : Thread nD τ).loc (argRef i))
def outPts (c : Dev nD) (i : Fin 4) : sProp 𝕄 := ((c.tc : Thread nD τ).loc (outRef i)) ↦{fullShare} m ((c.tc : Thread nD τ).loc (outRef i))
def recPts (c : Dev nD) (i : Fin 4) : sProp 𝕄 := ((c.tc : Thread nD τ).loc (outRef i)) ↦{fullShare} received m i c

theorem peer_inj : ∀ (i : Fin 4) (c : Dev nD), Function.Injective fun r : Fin 7 => peer (r, i) c := by decide +kernel
theorem peer_ne : ∀ (i : Fin 4) (c : Dev nD) (r : Fin 7), peer (r, i) c ≠ c := by decide +kernel
theorem own1 : ∀ c : Dev nD, k0_off1 c = ![c.val, 0, 0] := by decide +kernel
theorem own2 : ∀ c : Dev nD, k0_off2 c = ![c.val, 0, 0] := by decide +kernel
theorem own3 : ∀ c : Dev nD, k0_off3 c = ![c.val, 0, 0] := by decide +kernel
theorem peer4 : ∀ (i : Fin 4) (c : Dev nD) (r : Fin 7), k0_off4 c (k0_off4_at r).1 (k0_off4_at r).2.1 (k0_off4_at r).2.2 = ![(peer (r, i) c).val, 0, 0] := by decide +kernel
theorem peer5 : ∀ (i : Fin 4) (c : Dev nD) (r : Fin 7), k0_off5 c (k0_off5_at r).1 (k0_off5_at r).2.1 (k0_off5_at r).2.2 = ![(peer (r, i) c).val, 0, 0] := by decide +kernel
theorem peer6 : ∀ (i : Fin 4) (c : Dev nD) (r : Fin 7), k0_off6 c (k0_off6_at r).1 (k0_off6_at r).2.1 (k0_off6_at r).2.2 = ![(peer (r, i) c).val, 0, 0] := by decide +kernel

theorem arg_split : ∀ (i : Fin 4) (c : Dev nD),
    argPts m c i = (iprop(plan.lsrcPts m lq c i ∗ bigSep Finset.univ fun r : Fin 7 => plan.rsrcPts m rq c (r, i)) : sProp 𝕄)
  | 0, c => pts_split (A := 1024) (B := 1408) (e := .bf16) (sq := squeezes_S1x1024x1408_S1024x1408) (Memref.whole main_arg0) (View.set_whole _) c fullShare (m ((c.tc : Thread nD τ).loc main_arg0)) c (fun r => peer (r, 0) c) (peer_inj 0 c) (peer_ne 0 c)
      (own1 c) (peer4 0 c)
  | 1, c => pts_split (A := 256) (B := 1024) (e := .bf16) (sq := squeezes_S1x256x1024_S256x1024) (Memref.whole main_arg1) (View.set_whole _) c fullShare (m ((c.tc : Thread nD τ).loc main_arg1)) c (fun r => peer (r, 1) c) (peer_inj 1 c) (peer_ne 1 c)
      (own2 c) (peer5 1 c)
  | 2, c => pts_split (A := 128) (B := 1024) (e := .bf16) (sq := squeezes_S1x128x1024_S128x1024) (Memref.whole main_arg2) (View.set_whole _) c fullShare (m ((c.tc : Thread nD τ).loc main_arg2)) c (fun r => peer (r, 2) c) (peer_inj 2 c) (peer_ne 2 c)
      (own3 c) (peer6 2 c)
  | 3, c => pts_split (A := 128) (B := 1024) (e := .bf16) (sq := squeezes_S1x128x1024_S128x1024) (Memref.whole main_arg3) (View.set_whole _) c fullShare (m ((c.tc : Thread nD τ).loc main_arg3)) c (fun r => peer (r, 3) c) (peer_inj 3 c) (peer_ne 3 c)
      (own3 c) (peer6 3 c)

theorem out_split : ∀ (i : Fin 4) (c : Dev nD),
    outPts m c i = (iprop(plan.ldstPts m c i ∗ bigSep Finset.univ fun r : Fin 7 => plan.rdstPts m (r, i) (plan.frm (r, i) c) c) : sProp 𝕄)
  | 0, c => pts_split (A := 1024) (B := 1408) (e := .bf16) (sq := squeezes_S1x1024x1408_S1024x1408) (Memref.whole main_v1_0) (View.set_whole _) c fullShare (m ((c.tc : Thread nD τ).loc main_v1_0)) c (fun r => peer (r, 0) c) (peer_inj 0 c) (peer_ne 0 c)
      (own1 c) (fun r => own1 (peer (r, 0) c))
  | 1, c => pts_split (A := 256) (B := 1024) (e := .bf16) (sq := squeezes_S1x256x1024_S256x1024) (Memref.whole main_v1_1) (View.set_whole _) c fullShare (m ((c.tc : Thread nD τ).loc main_v1_1)) c (fun r => peer (r, 1) c) (peer_inj 1 c) (peer_ne 1 c)
      (own2 c) (fun r => own2 (peer (r, 1) c))
  | 2, c => pts_split (A := 128) (B := 1024) (e := .bf16) (sq := squeezes_S1x128x1024_S128x1024) (Memref.whole main_v1_2) (View.set_whole _) c fullShare (m ((c.tc : Thread nD τ).loc main_v1_2)) c (fun r => peer (r, 2) c) (peer_inj 2 c) (peer_ne 2 c)
      (own3 c) (fun r => own3 (peer (r, 2) c))
  | 3, c => pts_split (A := 128) (B := 1024) (e := .bf16) (sq := squeezes_S1x128x1024_S128x1024) (Memref.whole main_v1_3) (View.set_whole _) c fullShare (m ((c.tc : Thread nD τ).loc main_v1_3)) c (fun r => peer (r, 3) c) (peer_inj 3 c) (peer_ne 3 c)
      (own3 c) (fun r => own3 (peer (r, 3) c))

theorem rec_join : ∀ (i : Fin 4) (c : Dev nD),
    (iprop(plan.lwritten m c i ∗ bigSep Finset.univ fun r : Fin 7 => plan.rwritten m (r, i) (plan.frm (r, i) c) c) : sProp 𝕄) = recPts m c i
  | 0, c => pts_joined (A := 1024) (B := 1408) (e := .bf16) (sq := squeezes_S1x1024x1408_S1024x1408) (Memref.whole main_v1_0) (View.set_whole _) c fullShare (m ((c.tc : Thread nD τ).loc main_v1_0)) (received m 0 c) c (fun r => peer (r, 0) c) (peer_inj 0 c) (peer_ne 0 c)
      (own1 c) (fun r => own1 (peer (r, 0) c))
      ((inOwn 0 c).view.read (Elt F) (m ((c.tc : Thread nD τ).loc main_arg0)))
      (fun r => (inPeer 0 r (peer (r, 0) c)).view.read (Elt F) (m (((peer (r, 0) c).tc : Thread nD τ).loc main_arg0)))
      (fun z => row_read (A := 1024) (B := 1408) (e := .bf16) (Memref.whole main_arg0) _ squeezes_S1x1024x1408_S1024x1408 (own1 c) _ z)
      (fun r z => row_read (A := 1024) (B := 1408) (e := .bf16) (Memref.whole main_arg0) _ squeezes_S1x1024x1408_S1024x1408 ((peer4 0 (peer (r, 0) c) r).trans (by rw [peer_peer])) _ z)
  | 1, c => pts_joined (A := 256) (B := 1024) (e := .bf16) (sq := squeezes_S1x256x1024_S256x1024) (Memref.whole main_v1_1) (View.set_whole _) c fullShare (m ((c.tc : Thread nD τ).loc main_v1_1)) (received m 1 c) c (fun r => peer (r, 1) c) (peer_inj 1 c) (peer_ne 1 c)
      (own2 c) (fun r => own2 (peer (r, 1) c))
      ((inOwn 1 c).view.read (Elt F) (m ((c.tc : Thread nD τ).loc main_arg1)))
      (fun r => (inPeer 1 r (peer (r, 1) c)).view.read (Elt F) (m (((peer (r, 1) c).tc : Thread nD τ).loc main_arg1)))
      (fun z => row_read (A := 256) (B := 1024) (e := .bf16) (Memref.whole main_arg1) _ squeezes_S1x256x1024_S256x1024 (own2 c) _ z)
      (fun r z => row_read (A := 256) (B := 1024) (e := .bf16) (Memref.whole main_arg1) _ squeezes_S1x256x1024_S256x1024 ((peer5 1 (peer (r, 1) c) r).trans (by rw [peer_peer])) _ z)
  | 2, c => pts_joined (A := 128) (B := 1024) (e := .bf16) (sq := squeezes_S1x128x1024_S128x1024) (Memref.whole main_v1_2) (View.set_whole _) c fullShare (m ((c.tc : Thread nD τ).loc main_v1_2)) (received m 2 c) c (fun r => peer (r, 2) c) (peer_inj 2 c) (peer_ne 2 c)
      (own3 c) (fun r => own3 (peer (r, 2) c))
      ((inOwn 2 c).view.read (Elt F) (m ((c.tc : Thread nD τ).loc main_arg2)))
      (fun r => (inPeer 2 r (peer (r, 2) c)).view.read (Elt F) (m (((peer (r, 2) c).tc : Thread nD τ).loc main_arg2)))
      (fun z => row_read (A := 128) (B := 1024) (e := .bf16) (Memref.whole main_arg2) _ squeezes_S1x128x1024_S128x1024 (own3 c) _ z)
      (fun r z => row_read (A := 128) (B := 1024) (e := .bf16) (Memref.whole main_arg2) _ squeezes_S1x128x1024_S128x1024 ((peer6 2 (peer (r, 2) c) r).trans (by rw [peer_peer])) _ z)
  | 3, c => pts_joined (A := 128) (B := 1024) (e := .bf16) (sq := squeezes_S1x128x1024_S128x1024) (Memref.whole main_v1_3) (View.set_whole _) c fullShare (m ((c.tc : Thread nD τ).loc main_v1_3)) (received m 3 c) c (fun r => peer (r, 3) c) (peer_inj 3 c) (peer_ne 3 c)
      (own3 c) (fun r => own3 (peer (r, 3) c))
      ((inOwn 3 c).view.read (Elt F) (m ((c.tc : Thread nD τ).loc main_arg3)))
      (fun r => (inPeer 3 r (peer (r, 3) c)).view.read (Elt F) (m (((peer (r, 3) c).tc : Thread nD τ).loc main_arg3)))
      (fun z => row_read (A := 128) (B := 1024) (e := .bf16) (Memref.whole main_arg3) _ squeezes_S1x128x1024_S128x1024 (own3 c) _ z)
      (fun r z => row_read (A := 128) (B := 1024) (e := .bf16) (Memref.whole main_arg3) _ squeezes_S1x128x1024_S128x1024 ((peer6 3 (peer (r, 3) c) r).trans (by rw [peer_peer])) _ z)

theorem args_split (c : Dev nD) : bigSep Finset.univ (argPts m c)
    = (iprop(bigSep Finset.univ (plan.lsrcPts m lq c) ∗ bigSep Finset.univ (plan.rsrcPts m rq c)) : sProp 𝕄) :=
  by_array (argPts m c) (plan.lsrcPts m lq c) (plan.rsrcPts m rq c) fun i => arg_split m i c
theorem outs_split (c : Dev nD) : bigSep Finset.univ (outPts m c)
    = (iprop(bigSep Finset.univ (plan.ldstPts m c) ∗ bigSep Finset.univ fun i => plan.rdstPts m i (plan.frm i c) c) : sProp 𝕄) :=
  by_array (outPts m c) (plan.ldstPts m c) (fun i => plan.rdstPts m i (plan.frm i c) c) fun i => out_split m i c
theorem recs_join (c : Dev nD) : (iprop(bigSep Finset.univ (plan.lwritten m c) ∗ bigSep Finset.univ fun i => plan.rwritten m i (plan.frm i c) c) : sProp 𝕄)
    = bigSep Finset.univ (recPts m c) :=
  (by_array (recPts m c) (plan.lwritten m c) (fun i => plan.rwritten m i (plan.frm i c) c) fun i => (rec_join m i c).symm).symm

theorem rows_intro (c : Dev nD) : iprop(bigSep Finset.univ (argPts m c) ∗ bigSep Finset.univ (outPts m c)) ⊢ (plan.rows m lq rq c : sProp 𝕄) := by
  rw [args_split, outs_split]
  unfold Exchange.Plan.rows
  iintro ⟨⟨HA, HB⟩, ⟨HC, HD⟩⟩
  isplitl [HA HC]
  · isplitl [HA] <;> iassumption
  · isplitl [HB] <;> iassumption

/-- What a device holds in the end: its arguments as they were, its results received. -/
def held (c : Dev nD) : sProp 𝕄 := iprop(bigSep Finset.univ (argPts m c) ∗ bigSep Finset.univ (recPts m c))

theorem done_held (c : Dev nD) : (plan.done m lq rq c : sProp 𝕄) ⊢ held m c := by
  unfold held
  rw [args_split, ← recs_join]
  unfold Exchange.Plan.done
  iintro ⟨⟨HA, HC⟩, ⟨HB, HD⟩⟩
  isplitl [HA HB]
  · isplitl [HA] <;> iassumption
  · isplitl [HC] <;> iassumption

end Cert.UpdateRun

end
-- ==== Proof.AdamStep.lean ====
/-
One grid step of the AdamW kernel, once for every width of its blocks.

The step reads eight received parts of a gradient, a block of the weights and of the two moments, and stores the sum of the
parts, the weight's change and the new moments. The four AdamW calls of the program are this step at their own width.
-/
module

public import Idealize.ShloMosaic.Lib.Pipeline.FrameBody
public import Idealize.ShloMosaic.Lib.Pipeline.Value
public import Idealize.ShloMosaic.Lib.Claim
public import Idealize.ShloMosaic.Lib.Tactic

@[expose] public section

noncomputable section

namespace Cert.AdamStep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The formulas, element by element over any shape -/

theorem narrower : FTy.bits .bf16 < FTy.bits .f32 := by decide

/-- The sum of eight parts, in their order, in f32. -/
def total {S : Shape} (q : Fin 8 → FVec F S .bf16) : FVec F S .f32 :=
  addf (addf (addf (addf (addf (addf (addf (extf .f32 (q 0) narrower) (extf .f32 (q 1) narrower)) (extf .f32 (q 2) narrower))
    (extf .f32 (q 3) narrower)) (extf .f32 (q 4) narrower)) (extf .f32 (q 5) narrower)) (extf .f32 (q 6) narrower))
    (extf .f32 (q 7) narrower)

/-- The new first moment. -/
def moment1 {S : Shape} (g m : FVec F S .f32) : FVec F S .f32 :=
  addf (mulf (broadcast S (Scalar.ofBits .f32 0x3F666666#32 : F .f32)) m)
    (mulf (broadcast S (Scalar.ofBits .f32 0x3DCCCCCD#32 : F .f32)) g)

/-- The new second moment. -/
def moment2 {S : Shape} (g v : FVec F S .f32) : FVec F S .f32 :=
  addf (mulf (broadcast S (Scalar.ofBits .f32 0x3F7FBE77#32 : F .f32)) v)
    (mulf (broadcast S (Scalar.ofBits .f32 0x3A83126F#32 : F .f32)) (mulf g g))

/-- The weight's change. -/
def change {S : Shape} (g w m v : FVec F S .f32) : FVec F S .f32 :=
  mulf (broadcast S (Scalar.ofBits .f32 0xBA83126F#32 : F .f32))
    (addf
      (divf (divf (moment1 g m) (broadcast S (Scalar.ofBits .f32 0x3F26BD02#32 : F .f32)))
        (addf (sqrt (divf (moment2 g v) (broadcast S (Scalar.ofBits .f32 0x3C231ACC#32 : F .f32))))
          (broadcast S (Scalar.ofBits .f32 0x322BCC77#32 : F .f32))))
      (mulf (broadcast S (Scalar.ofBits .f32 0x3C23D70A#32 : F .f32)) w))

/-! ## The step -/

abbrev Sheet (L : ℕ) : Shape := ⟨2, ![128, L]⟩
abbrev Leaf (L : ℕ) : Shape := ⟨3, ![1, 128, L]⟩
abbrev Stack (L : ℕ) : Shape := ⟨3, ![8, 128, L]⟩

theorem leaf_inb (L : ℕ) (k : Fin 8) : ∀ a, (![k.val, 0, 0] : Fin 3 → ℕ) a + (Leaf L).size a ≤ (Stack L).size a := by
  have := k.isLt
  intro a; fin_cases a
  · show k.val + 1 ≤ 8; omega
  · show 0 + 128 ≤ 128; omega
  · show 0 + L ≤ L; omega

theorem sheet_inb (L : ℕ) : ∀ a, (![0, 0] : Fin 2 → ℕ) a + (Sheet L).size a ≤ (Sheet L).size a := by
  intro a; fin_cases a
  · show 0 + 128 ≤ 128; omega
  · show 0 + L ≤ L; omega

theorem zeros2 : (![0, 0] : Fin 2 → ℕ) = fun _ => 0 := by funext a; fin_cases a <;> rfl

/-- Part `k` of a stack of eight. -/
def part {α : Type} {R L : ℕ} (x : (⟨3, ![8, R, L]⟩ : Shape).Idx → α) (k : Fin 8) : (⟨2, ![R, L]⟩ : Shape).Idx → α := fun y => x (Fin.cons k y)

abbrev leafRect (L : ℕ) (k : Fin 8) : Rect (Stack L) := Rect.unit (s := Stack L) ![k.val, 0, 0] (Leaf L).size (leaf_inb L k)
abbrev sheetRect (L : ℕ) : Rect (Sheet L) := Rect.unit (s := Sheet L) ![0, 0] (Sheet L).size (sheet_inb L)

theorem part_ld {α : EltTy → Type} {e : EltTy} {L : ℕ} (x : (Stack L).Idx → α e) (k : Fin 8) (h : (Leaf L).ShapeCasts (Sheet L)) :
    shapeCast (Sheet L) (View.ld x (leafRect L k)) h = part x k := by
  funext y
  refine (shapeCast_dropUnit_apply ![128, L] _ h y).trans ?_
  show x _ = x _
  congr 1
  funext a
  apply Fin.ext
  fin_cases a
  · show k.val + 1 * 0 = k.val; omega
  · show 0 + 1 * (y 0).val = (y 0).val; omega
  · show 0 + 1 * (y 1).val = (y 1).val; omega

theorem total_ld {L : ℕ} (x : (Stack L).Idx → Elt F .bf16) (hc : (Leaf L).ShapeCasts (Sheet L)) :
    total (S := Sheet L) ![shapeCast (Sheet L) (View.ld x (leafRect L 0)) hc, shapeCast (Sheet L) (View.ld x (leafRect L 1)) hc,
      shapeCast (Sheet L) (View.ld x (leafRect L 2)) hc, shapeCast (Sheet L) (View.ld x (leafRect L 3)) hc,
      shapeCast (Sheet L) (View.ld x (leafRect L 4)) hc, shapeCast (Sheet L) (View.ld x (leafRect L 5)) hc,
      shapeCast (Sheet L) (View.ld x (leafRect L 6)) hc, shapeCast (Sheet L) (View.ld x (leafRect L 7)) hc] = total (part x) := by
  congr 1
  funext k
  refine Eq.trans ?_ (part_ld (α := Elt F) x k hc)
  fin_cases k <;> rfl

/-- A block as the step loads it: the block itself. -/
theorem sheet_ld {L : ℕ} (x : (Sheet L).Idx → Elt F .f32) (hc' : (Sheet L).ShapeCasts (Sheet L)) :
    shapeCast (Sheet L) (View.ld x (sheetRect L)) hc' = x :=
  (shapeCast_self _ hc').trans (View.ld_unit_zero zeros2 (sheet_inb L) x)

variable {nD : ℕ} {τ : Topo} {sig : RefSig} {Λ₀ : Labels}

/-- The step's loads and stores, in the program's order. -/
def step (L : ℕ) (hl : 0 < (Leaf L).numel) (hs : 0 < (Sheet L).numel) (hc : (Leaf L).ShapeCasts (Sheet L))
    (hc' : (Sheet L).ShapeCasts (Sheet L))
    (a1 : Memref sig .tc .vmem (Stack L) .bf16) (a2 a3 a4 a5 a6 a7 a8 : Memref sig .tc .vmem (Sheet L) .f32) :
    Prog (TpuEff nD τ sig (Elt F) Λ₀ .tc) PUnit := do
  let x0 : Vec F (Leaf L) .bf16 ← Prog.lift (.load a1 (leafRect L 0).toLoadRect (View.loadsAt_vmem hl))
  let x1 : Vec F (Leaf L) .bf16 ← Prog.lift (.load a1 (leafRect L 1).toLoadRect (View.loadsAt_vmem hl))
  let x2 : Vec F (Leaf L) .bf16 ← Prog.lift (.load a1 (leafRect L 2).toLoadRect (View.loadsAt_vmem hl))
  let x3 : Vec F (Leaf L) .bf16 ← Prog.lift (.load a1 (leafRect L 3).toLoadRect (View.loadsAt_vmem hl))
  let x4 : Vec F (Leaf L) .bf16 ← Prog.lift (.load a1 (leafRect L 4).toLoadRect (View.loadsAt_vmem hl))
  let x5 : Vec F (Leaf L) .bf16 ← Prog.lift (.load a1 (leafRect L 5).toLoadRect (View.loadsAt_vmem hl))
  let x6 : Vec F (Leaf L) .bf16 ← Prog.lift (.load a1 (leafRect L 6).toLoadRect (View.loadsAt_vmem hl))
  let x7 : Vec F (Leaf L) .bf16 ← Prog.lift (.load a1 (leafRect L 7).toLoadRect (View.loadsAt_vmem hl))
  let g : FVec F (Sheet L) .f32 := total (S := Sheet L) ![shapeCast (Sheet L) x0 hc, shapeCast (Sheet L) x1 hc, shapeCast (Sheet L) x2 hc,
    shapeCast (Sheet L) x3 hc, shapeCast (Sheet L) x4 hc, shapeCast (Sheet L) x5 hc, shapeCast (Sheet L) x6 hc, shapeCast (Sheet L) x7 hc]
  let _ : Vec F (Sheet L) .f32 ← Prog.lift (.load a5 (sheetRect L).toLoadRect (View.loadsAt_vmem hs))
  Prog.lift (.store a5 (sheetRect L) g Finset.univ (View.stores_vmem_bits_univ hs rfl) (.inl rfl))
  let w : Vec F (Sheet L) .f32 ← Prog.lift (.load a2 (sheetRect L).toLoadRect (View.loadsAt_vmem hs))
  let m : Vec F (Sheet L) .f32 ← Prog.lift (.load a3 (sheetRect L).toLoadRect (View.loadsAt_vmem hs))
  let v : Vec F (Sheet L) .f32 ← Prog.lift (.load a4 (sheetRect L).toLoadRect (View.loadsAt_vmem hs))
  let _ : Vec F (Sheet L) .f32 ← Prog.lift (.load a6 (sheetRect L).toLoadRect (View.loadsAt_vmem hs))
  Prog.lift (.store a6 (sheetRect L) (change g (shapeCast (Sheet L) w hc') (shapeCast (Sheet L) m hc') (shapeCast (Sheet L) v hc'))
    Finset.univ (View.stores_vmem_bits_univ hs rfl) (.inl rfl))
  let _ : Vec F (Sheet L) .f32 ← Prog.lift (.load a7 (sheetRect L).toLoadRect (View.loadsAt_vmem hs))
  Prog.lift (.store a7 (sheetRect L) (moment1 g (shapeCast (Sheet L) m hc')) Finset.univ (View.stores_vmem_bits_univ hs rfl) (.inl rfl))
  let _ : Vec F (Sheet L) .f32 ← Prog.lift (.load a8 (sheetRect L).toLoadRect (View.loadsAt_vmem hs))
  Prog.lift (.store a8 (sheetRect L) (moment2 g (shapeCast (Sheet L) v hc')) Finset.univ (View.stores_vmem_bits_univ hs rfl) (.inl rfl))
  pure ⟨⟩

variable {U : Type} [URA U]

local notation "𝕄" => MT nD τ sig Unit (Elt F) ℕ U ℕ

theorem covered {L : ℕ} (p : Vec F (Sheet L) .f32) (y : (Sheet L).Idx) :
    ∃ pc ∈ ([⟨sheetRect L, p⟩] : List (View.Piece (Elt F) (Sheet L) .f32)), y ∈ pc.1.set :=
  ⟨_, List.mem_singleton_self _, View.mem_set_unit_zero zeros2 (sheet_inb L) y⟩

set_option maxHeartbeats 2000000 in
/-- What the step leaves: its inputs as they were, and in each output the formula of the inputs. -/
theorem step_wp {defs₀ : Defs nD τ sig (Elt F) Λ₀} (c : Dev nD) (E : Set ℕ) (L : ℕ) (hl : 0 < (Leaf L).numel) (hs : 0 < (Sheet L).numel)
    (hc : (Leaf L).ShapeCasts (Sheet L)) (hc' : (Sheet L).ShapeCasts (Sheet L))
    (a1 : Memref sig .tc .vmem (Stack L) .bf16) (a2 a3 a4 a5 a6 a7 a8 : Memref sig .tc .vmem (Sheet L) .f32)
    (h1 : a1.IsWhole) (h2 : a2.IsWhole) (h3 : a3.IsWhole) (h4 : a4.IsWhole) (h5 : a5.IsWhole) (h6 : a6.IsWhole) (h7 : a7.IsWhole)
    (h8 : a8.IsWhole)
    (x : Vec F (Stack L) .bf16) (w m v : Vec F (Sheet L) .f32) (K : PUnit → sProp 𝕄) :
    iprop(owns (c : Thread nD τ) a1 fullShare x ∗ owns (c : Thread nD τ) a2 fullShare w ∗ owns (c : Thread nD τ) a3 fullShare m
        ∗ owns (c : Thread nD τ) a4 fullShare v ∗ (∃ d, owns (c : Thread nD τ) a5 fullShare d) ∗ (∃ d, owns (c : Thread nD τ) a6 fullShare d)
        ∗ (∃ d, owns (c : Thread nD τ) a7 fullShare d) ∗ (∃ d, owns (c : Thread nD τ) a8 fullShare d)
        ∗ (iprop(owns (c : Thread nD τ) a1 fullShare x ∗ owns (c : Thread nD τ) a2 fullShare w ∗ owns (c : Thread nD τ) a3 fullShare m
            ∗ owns (c : Thread nD τ) a4 fullShare v ∗ owns (c : Thread nD τ) a5 fullShare (total (part x))
            ∗ owns (c : Thread nD τ) a6 fullShare (change (total (part x)) w m v)
            ∗ owns (c : Thread nD τ) a7 fullShare (moment1 (total (part x)) m)
            ∗ owns (c : Thread nD τ) a8 fullShare (moment2 (total (part x)) v)) -∗ K ⟨⟩))
      ⊢ wp frame (wpE defs₀ Variants.none c none) E (step (F := F) L hl hs hc hc' a1 a2 a3 a4 a5 a6 a7 a8) K := by
  unfold step owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (covered _)).trans ((View.canon_unit_zero zeros2 (sheet_inb L) _).trans ?_)
    exact total_ld _ hc
  isplitl [H5]
  · iexists _; isplitr
    swap; · iexact H5
    ipureintro
    refine (View.read_writes_eq_canon _ _ _ (covered _)).trans ((View.canon_unit_zero zeros2 (sheet_inb L) _).trans ?_)
    rw [← total_ld _ hc, ← sheet_ld (a2.view.read (Elt F) f1) hc', ← sheet_ld (a3.view.read (Elt F) f2) hc',
      ← sheet_ld (a4.view.read (Elt F) f3) hc']
    rfl
  isplitl [H6]
  · iexists _; isplitr
    swap; · iexact H6
    ipureintro
    refine (View.read_writes_eq_canon _ _ _ (covered _)).trans ((View.canon_unit_zero zeros2 (sheet_inb L) _).trans ?_)
    rw [← total_ld _ hc, ← sheet_ld (a3.view.read (Elt F) f2) hc']
    rfl
  iexists _; isplitr
  swap; · iexact H7
  ipureintro
  refine (View.read_writes_eq_canon _ _ _ (covered _)).trans ((View.canon_unit_zero zeros2 (sheet_inb L) _).trans ?_)
  rw [← total_ld _ hc, ← sheet_ld (a4.view.read (Elt F) f3) hc']
  rfl

/-- The step on blocks of whole arrays: from the arrays' blocks at `e`, the blocks at `e` of the formulas of the arrays. -/
theorem tile_wp {defs₀ : Defs nD τ sig (Elt F) Λ₀} (c : Dev nD) (E : Set ℕ) (R L : ℕ) (hl : 0 < (Leaf L).numel) (hs : 0 < (Sheet L).numel)
    (hc : (Leaf L).ShapeCasts (Sheet L)) (hc' : (Sheet L).ShapeCasts (Sheet L))
    (a1 : Memref sig .tc .vmem (Stack L) .bf16) (a2 a3 a4 a5 a6 a7 a8 : Memref sig .tc .vmem (Sheet L) .f32)
    (h1 : a1.IsWhole) (h2 : a2.IsWhole) (h3 : a3.IsWhole) (h4 : a4.IsWhole) (h5 : a5.IsWhole) (h6 : a6.IsWhole) (h7 : a7.IsWhole)
    (h8 : a8.IsWhole)
    (e : (Sheet L).Idx → (⟨2, ![R, L]⟩ : Shape).Idx)
    (X : Vec F ⟨3, ![8, R, L]⟩ .bf16) (W M V : Vec F ⟨2, ![R, L]⟩ .f32)
    (x : Vec F (Stack L) .bf16) (w m v y1 y2 y3 y4 : Vec F (Sheet L) .f32)
    (hx : ∀ k y, x (Fin.cons k y) = X (Fin.cons k (e y))) (hw : w = fun y => W (e y)) (hm : m = fun y => M (e y)) (hv : v = fun y => V (e y))
    (hy1 : y1 = fun y => total (part X) (e y)) (hy2 : y2 = fun y => change (total (part X)) W M V (e y))
    (hy3 : y3 = fun y => moment1 (total (part X)) M (e y)) (hy4 : y4 = fun y => moment2 (total (part X)) V (e y))
    (K : PUnit → sProp 𝕄) :
    iprop((owns (c : Thread nD τ) a1 fullShare x ∗ owns (c : Thread nD τ) a2 fullShare w ∗ owns (c : Thread nD τ) a3 fullShare m
        ∗ owns (c : Thread nD τ) a4 fullShare v ∗ (∃ d, owns (c : Thread nD τ) a5 fullShare d) ∗ (∃ d, owns (c : Thread nD τ) a6 fullShare d)
        ∗ (∃ d, owns (c : Thread nD τ) a7 fullShare d) ∗ (∃ d, owns (c : Thread nD τ) a8 fullShare d))
        ∗ (∀ a : PUnit, iprop(owns (c : Thread nD τ) a1 fullShare x ∗ owns (c : Thread nD τ) a2 fullShare w ∗ owns (c : Thread nD τ) a3 fullShare m
            ∗ owns (c : Thread nD τ) a4 fullShare v ∗ owns (c : Thread nD τ) a5 fullShare y1 ∗ owns (c : Thread nD τ) a6 fullShare y2
            ∗ owns (c : Thread nD τ) a7 fullShare y3 ∗ owns (c : Thread nD τ) a8 fullShare y4) -∗ K a))
      ⊢ wp frame (wpE defs₀ Variants.none c none) E (step (F := F) L hl hs hc hc' a1 a2 a3 a4 a5 a6 a7 a8) K := by
  have ht : total (part x) = fun y => total (part X) (e y) := by
    have hp : part x = fun k y => part X k (e y) := funext fun k => funext fun y => hx k y
    rw [hp]; rfl
  have e1 : y1 = total (part x) := hy1.trans ht.symm
  have e2 : y2 = change (total (part x)) w m v := by rw [hy2, ht, hw, hm, hv]; rfl
  have e3 : y3 = moment1 (total (part x)) m := by rw [hy3, ht, hm]; rfl
  have e4 : y4 = moment2 (total (part x)) v := by rw [hy4, ht, hv]; rfl
  rw [e1, e2, e3, e4]
  iintro ⟨⟨H1, H2, H3, H4, H5, H6, H7, H8⟩, Hk⟩
  iapply (step_wp c E L hl hs hc hc' a1 a2 a3 a4 a5 a6 a7 a8 h1 h2 h3 h4 h5 h6 h7 h8 x w m v K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply Hk

end Cert.AdamStep
-- ==== Proof.Regional.lean ====
/-
A kernel region between other regions, entered and left with every buffer of the device held.

`region` is the library's region record for a kernel with windows and nothing of its own: it is entered holding all unscoped
buffers at some contents and left holding them with the windows' arrays as the grid leaves them. `obligation` brings the
library's statement about the body to a triple over the windows' staging buffers alone.
-/
module

public import Idealize.ShloMosaic.Lib.Pipeline.FrameTail
public import Idealize.ShloMosaic.Lib.Pipeline.FrameBody
public import proofs.«01_k».proof.Proof.First

@[expose] public section

noncomputable section

namespace Cert.Regional

open Idealize.ShloMosaic Idealize.ShloMosaic.Pipeline Idealize.ShloMosaic.Rounds
open Idealize.ShloMosaic.TcCoe
open Idealize.SL
open Idealize.SL.BI (sProp bigSep bigSep_sep' bigSep_mono bigSep_congr)
open scoped Idealize.SL.BI
open Idealize.SL.BI.BIBase Idealize.SL.BI.Laws Idealize.SL.Sem Idealize.SL.ProofMode
open Idealize.SL.RA

variable {nD : Nat} {τ : Topo} {sig : RefSig} {Val : EltTy → Type} [∀ e, Nonempty (Val e)]
variable {U : Type} [URA U]
variable {Λ₀ : Idealize.SL.Sem.Labels} {P : Type} [Fintype P] [DecidableEq P]

local notation "𝕄" => MT nD τ sig Unit Val ℕ U ℕ

/-- All unscoped buffers of a device at the contents `V`, and nothing owed. -/
def state (V : Dev nD → Valuation τ sig Val) (c : Dev nD) : sProp 𝕄 :=
  iprop(StableHlo.held (c.tc : Thread nD τ) (ucRefs τ sig) (V c) ∗ ∃ W, owes (c.tc : Thread nD τ) (0 : CellTallies nD τ sig Unit) W)

variable (cfgs : P → Cfg sig Λ₀)
  (dats : (p : P) → (c : Dev nD) → Dat τ Val Unit ℕ U ℕ (cfgs p) c) (p : P) (kit : LaunchFacts (nD := nD) (τ := τ) cfgs p)
  (defs₀ : Defs nD τ sig Val Λ₀) (𝒱₀ : Variants)

set_option backward.isDefEq.respectTransparency.types false in
/-- The region of pipeline `p`, from all buffers at `V₁` to all buffers with the windows' arrays as the grid leaves them. -/
def region (V₁ : Dev nD → Valuation τ sig Val)
    (hbody : ∀ c, BodyObligationLoose (dats p c) defs₀ 𝒱₀ () Set.univ)
    (hshare : ∀ c w, (dats p c).share w = fullShare) (howed : ∀ c t, (dats p c).owed t = 0)
    (hrec : ∀ c t, (dats p c).recorded t = Set.univ)
    (hA : ∀ c w, (dats p c).A w = V₁ c (Proc.devRef .tc (arrRef (cfgs p).spec w)))
    (hΦ : ∀ c t, (dats p c).Φ t = scopedRest (cfgs p).spec c) :
    RegionSeg (fun q => (cfgs q).toPCfg (Val := Val)) (fun q => (cfgs q).toPCfg_adm) dats () defs₀ 𝒱₀ First.L₀ First.lv₀ p :=
  have kitP : PLaunchFacts (nD := nD) (τ := τ) (fun q => (cfgs q).toPCfg (Val := Val)) p := kit.toP
  { win := kitP.win.to₀
    block_pos := kitP.block_pos
    stage_whole := kitP.stage_whole
    K := PEmpty
    osem := fun k => k.elim
    ho := OwnSemFacts.none _
    hbody := hbody
    hwaits := hwaits_of_owed_zero (fun q => (cfgs q).toPCfg (Val := Val)) (fun q => (cfgs q).toPCfg_adm) dats () First.L₀ First.lv₀ p howed
    pre := state V₁
    post := state fun c => afterRegion (dats p c) (V₁ c)
    X := fun c => iprop(emp)
    Y := fun c => iprop(emp)
    Z := fun c => unscopedRest (Ix := Unit) (Name := ℕ) (U := U) (Lvl := ℕ) (cfgs p).spec c (fun b => V₁ c (Proc.devRef .tc b))
    hentry := fun c => by
      unfold state
      rw [ownSems0_none,
        show StableHlo.held (c.tc : Thread nD τ) (ucRefs τ sig) (V₁ c) = unscopedBufs c (fun b => V₁ c (Proc.devRef .tc b))
          from (unscopedBufs_held (Ix := Unit) (Name := ℕ) (U := U) (Lvl := ℕ) c (V₁ c)).symm]
      have hsplit := arrays_of_unscopedBufs (p := p) (fun q => (cfgs q).toPCfg (Val := Val)) (fun q => (cfgs q).toPCfg_adm) dats
        kitP.win kitP.arr_whole c (hshare c) (fun b => V₁ c (Proc.devRef .tc b)) (fun w => hA c w)
      iintro ⟨⟨Hub, HO⟩, -, -⟩
      ihave H := hsplit $$ Hub
      icases H with ⟨Ha, Hrest⟩
      imodintro
      isplitl [Ha]; · iexact Ha
      isplitr
      · unfold prefHeld
        iapply (show (BI.emp : sProp 𝕄) ⊢ bigSep (Finset.univ : Finset (Fin 0)) _ from by
          rw [show (Finset.univ : Finset (Fin 0)) = ∅ from rfl, BI.bigSep_empty])
        iempintro
      isplitl [HO]
      · unfold Dat.owesAt owesWithin Dat.bound
        rw [howed c 0, hrec c 0]
        icases HO with ⟨%W, HO⟩
        iexists W; isplitr; · ipureintro; exact fun _ _ => Or.inl trivial
        iexact HO
      isplitr; · iempintro
      iexact Hrest
    hin := fun c => by
      rw [hΦ c 0]
      iintro ⟨-, -, Hr⟩
      iexact Hr
    hout := fun c => by
      rw [hΦ c (Fin.last _), ownSems0_none]
      iintro Hr
      isplitr; · iempintro
      isplitr; · iempintro
      iexact Hr
    hexit := fun c => by
      have hjoin := unscopedBufs_of_arrays (p := p) (fun q => (cfgs q).toPCfg (Val := Val)) (fun q => (cfgs q).toPCfg_adm)
        (Ix := Unit) (Name := ℕ) (U := U) (Lvl := ℕ) kitP.win kitP.arr_whole c dats (hshare c)
        (fun b => V₁ c (Proc.devRef .tc b)) (fun b => afterRegion (dats p c) (V₁ c) (Proc.devRef .tc b)) ((dats p c).arrAt · (cfgs p).N)
        (fun w => (afterRegion_arr (dats p c) (V₁ c) kit.win.arr_inj w).symm)
        (fun b hb => afterRegion_of_not_arr (dats p c) (V₁ c)
          fun w h => hb (h ▸ Finset.mem_image.mpr ⟨w, Finset.mem_univ _, rfl⟩))
      unfold state
      rw [show StableHlo.held (c.tc : Thread nD τ) (ucRefs τ sig) (afterRegion (dats p c) (V₁ c))
            = unscopedBufs c (fun b => afterRegion (dats p c) (V₁ c) (Proc.devRef .tc b))
          from (unscopedBufs_held (Ix := Unit) (Name := ℕ) (U := U) (Lvl := ℕ) c (afterRegion (dats p c) (V₁ c))).symm]
      iintro ⟨Ha, HO, -, Hrest⟩
      imodintro
      isplitl [Ha Hrest]
      · iapply hjoin; isplitl [Ha] <;> iassumption
      unfold Dat.owesAt owesWithin
      rw [howed c (Fin.last _)]
      icases HO with ⟨%W, -, HO⟩; iexists W; iexact HO }

/-- The library's obligation on a body that reads its input blocks, leaves them, and fills its outputs: from a triple over the
    windows' staging buffers. -/
theorem obligation {cfg : Cfg sig Λ₀} {c : Dev nD} (dat : Dat τ Val Unit ℕ U ℕ cfg c)
    (hΦ : ∀ t : Fin cfg.N, dat.Φ t.castSucc = dat.Φ t.succ)
    (ho : ∀ t : Fin cfg.N, dat.owesAt () t.castSucc = dat.owesAt () t.succ)
    (hidle : ∀ w i, cfg.idle w i = false)
    (hbefore : ∀ w, (cfg.win w).isOut = false → ∀ t d, dat.before w t d = dat.after w t)
    (body : Fin cfg.N → Prog (TpuEff nD τ sig Val Λ₀ .tc) (Λ₀.Result cfg.body))
    (hrow : ∀ t, defs₀ .tc cfg.body (cfg.bodyArgs t (cfg.slots t)) = body t)
    (htriple : ∀ t (K : Λ₀.Result cfg.body → sProp 𝕄),
      iprop((bigSep Finset.univ fun w : Fin cfg.W =>
            match (cfg.win w).isOut with
            | true => iprop(∃ d, owns (c.tc : Thread nD τ) ((cfg.win w).stage (cfg.slots t w)) fullShare d)
            | false => owns (c.tc : Thread nD τ) ((cfg.win w).stage (cfg.slots t w)) fullShare (dat.after w t))
          ∗ (∀ a, iprop(bigSep Finset.univ fun w : Fin cfg.W =>
              owns (c.tc : Thread nD τ) ((cfg.win w).stage (cfg.slots t w)) fullShare (dat.after w t)) -∗ K a))
        ⊢ wp frame (wpE defs₀ 𝒱₀ c none) Set.univ (body t) K) :
    BodyObligationLoose dat defs₀ 𝒱₀ () Set.univ := by
  refine BodyObligation.loose dat (fgt := fun _ => false) fun t => ?_
  rw [hrow t, hΦ t, ho t]
  have hpre : (bigSep Finset.univ fun w : Fin cfg.W =>
        iprop(∃ d, owns (c.tc : Thread nD τ) ((cfg.win w).stage (cfg.slots t w)) fullShare (dat.before w t d)) : sProp 𝕄)
      ⊢ bigSep Finset.univ fun w : Fin cfg.W =>
        match (cfg.win w).isOut with
        | true => iprop(∃ d, owns (c.tc : Thread nD τ) ((cfg.win w).stage (cfg.slots t w)) fullShare d)
        | false => owns (c.tc : Thread nD τ) ((cfg.win w).stage (cfg.slots t w)) fullShare (dat.after w t) :=
    bigSep_mono fun w _ => by
      cases h : (cfg.win w).isOut with
      | true =>
        show iprop(∃ d, owns (c.tc : Thread nD τ) ((cfg.win w).stage (cfg.slots t w)) fullShare (dat.before w t d))
          ⊢ (iprop(∃ d, owns (c.tc : Thread nD τ) ((cfg.win w).stage (cfg.slots t w)) fullShare d) : sProp 𝕄)
        iintro ⟨%d, H⟩; iexists _; iexact H
      | false =>
        show iprop(∃ d, owns (c.tc : Thread nD τ) ((cfg.win w).stage (cfg.slots t w)) fullShare (dat.before w t d))
          ⊢ (owns (c.tc : Thread nD τ) ((cfg.win w).stage (cfg.slots t w)) fullShare (dat.after w t) : sProp 𝕄)
        iintro ⟨%d, H⟩
        rw [hbefore w h t d]
        iexact H
  have hpost : (bigSep Finset.univ fun w : Fin cfg.W =>
        owns (c.tc : Thread nD τ) ((cfg.win w).stage (cfg.slots t w)) fullShare (dat.after w t) : sProp 𝕄)
      ⊢ bigSep Finset.univ fun w : Fin cfg.W =>
        match cfg.idle w (cfg.grid.coords t) with
        | true =>
          match (cfg.win w).flush t with
          | false => iprop(∃ d, owns (c.tc : Thread nD τ) ((cfg.win w).stage (cfg.slots t w)) fullShare (dat.before w t d))
          | true => owns (c.tc : Thread nD τ) ((cfg.win w).stage (cfg.slots t w)) fullShare (dat.after w t)
        | false => owns (c.tc : Thread nD τ) ((cfg.win w).stage (cfg.slots t w)) fullShare (dat.after w t) :=
    bigSep_mono fun w _ => by
      rw [hidle w _]
      show (owns (c.tc : Thread nD τ) ((cfg.win w).stage (cfg.slots t w)) fullShare (dat.after w t) : sProp 𝕄)
        ⊢ owns (c.tc : Thread nD τ) ((cfg.win w).stage (cfg.slots t w)) fullShare (dat.after w t)
      exact .rfl
  iintro ⟨HΦ, Ho, Hw⟩
  iapply (htriple t _)
  isplitl [Hw]
  · iapply hpre; iexact Hw
  iintro %a Hw
  isplitl [HΦ]; · iexact HΦ
  isplitl [Ho]; · iexact Ho
  iapply hpost; iexact Hw

end Cert.Regional
-- ==== Proof.Tiles.lean ====
/-
A kernel region whose outputs are blocks of known arrays: at every grid point each output's block is the block of one whole
array, so the region leaves that array.

The proof data name the whole arrays; what each staging buffer holds after the body is the array's block.
-/
module

public import Idealize.ShloMosaic.Lib.Pipeline.ValueKit.Geometry
public import proofs.«01_k».proof.Proof.Regional

@[expose] public section

noncomputable section

namespace Cert.Tiles

open Idealize.ShloMosaic Idealize.ShloMosaic.Pipeline Idealize.ShloMosaic.Rounds
open Idealize.ShloMosaic.TcCoe
open Idealize.SL
open Idealize.SL.BI (sProp)
open Idealize.SL.RA

variable {nD : Nat} {τ : Topo} {sig : RefSig} {Val : EltTy → Type} [∀ e, Nonempty (Val e)]
variable {U : Type} [URA U] {Λ₀ : Idealize.SL.Sem.Labels}
variable {cfg : Cfg sig Λ₀} {c : Dev nD}

/-- Contents of every window's array. -/
abbrev Arrs (Val : EltTy → Type) (cfg : Cfg sig Λ₀) (c : Dev nD) (τ : Topo) : Type :=
  (w : Fin cfg.W) → Buf Val ((cfg.win w).arr.view.loc (c.tc : Thread nD τ))

/-- The block of array `w` at point `t`, as its staging buffer holds it. -/
def block (G : Arrs Val cfg c τ) (w : Fin cfg.W) (t : Fin cfg.N) : (cfg.win w).block.Idx → Val (cfg.win w).elt :=
  (cfg.win w).fill (cfg.grid.coords t) (fun _ => Classical.arbitrary _) (((cfg.win w).blk t).view.read Val (G w))

/-- The proof data: the arrays enter at `A`, and every staging buffer ends a point with its block of `G`. -/
def dat (A G : Arrs Val cfg c τ) : Dat τ Val Unit ℕ U ℕ cfg c where
  A := A
  after := block G
  Φ _ := scopedRest cfg.spec c
  q _ := fullShare
  owed _ := 0

variable (A G : Arrs Val cfg c τ)

theorem share_full (w : Fin cfg.W) : (dat (U := U) A G).share w = fullShare := by unfold Dat.share dat; split <;> rfl

/-- An output window whose blocks cover its array leaves the array named. -/
theorem arrAt_out (w : Fin cfg.W) (hcov : (cfg.win w).Covers) (harr : (cfg.win w).arr.IsWhole) :
    (dat (U := U) A G).arrAt w cfg.N = G w :=
  (dat (U := U) A G).arrAt_eq_of_covers w (G w) hcov (fun t _ y => by
    show _root_.cast _ (block G w t ((cfg.win w).xinj (cfg.grid.coords t) y)) = _
    unfold block
    rw [Window.fill_xinj]
    simp only [View.read, cast_cast, cast_eq]) harr

/-- An input window finds its block in the staging buffer, and leaves it. -/
theorem before_in (w : Fin cfg.W) (hw : (cfg.win w).isOut = false) (hlive : ∀ i, cfg.idle w i = false)
    (hclip : ∀ t t' : Fin cfg.N, (cfg.win w).index t = (cfg.win w).index t' →
      (cfg.win w).clip (cfg.grid.coords t) = (cfg.win w).clip (cfg.grid.coords t'))
    (hfull : ∀ t (d d' : (cfg.win w).block.Idx → Val (cfg.win w).elt) g,
      (cfg.win w).fill (cfg.grid.coords t) d g = (cfg.win w).fill (cfg.grid.coords t) d' g)
    (hG : G w = A w) (t : Fin cfg.N) (d : (cfg.win w).block.Idx → Val (cfg.win w).elt) :
    (dat (U := U) A G).before w t d = (dat (U := U) A G).after w t := by
  refine ((dat (U := U) A G).before_in_eq_fetched w hw hlive hclip (fun t => ?_) t d).trans ?_
  · show (cfg.win w).cut _ (block G w t) = _
    unfold block
    rw [Window.cut_fill, hG]; rfl
  · show (cfg.win w).fill (cfg.grid.coords t) d _ = block G w t
    unfold block
    rw [hG]
    exact hfull t _ _ _

end Cert.Tiles
-- ==== Proof.UpdateAdam.lean ====
/-
The four AdamW calls of the program, each over whole arrays.

Each call reads the eight received parts of one gradient, the weight and the two moments in tiles of 128 rows, and writes in
the same tiles the sum of the parts, the change, and the new moments. Over the whole arrays the four outputs are the same
formulas.
-/
module

public import proofs.«01_k».proof.Proof.AdamStep
public import proofs.«01_k».proof.Proof.Tiles
public import proofs.«01_k».proof.Proof.Gen.UpdateIdeal.Launch
public import proofs.«01_k».proof.Proof.Gen.UpdateIdeal.Points

@[expose] public section

set_option maxRecDepth 65536

noncomputable section

namespace Cert.UpdateAdam

open Idealize.ShloMosaic Idealize.ShloMosaic.TcCoe Idealize.ShloMosaic.Rounds
open Idealize.ShloMosaic.Pipeline (Dat arrRef)
open Idealize.SL
open Idealize.SL.BI (sProp bigSep)
open scoped Idealize.SL.BI
open Idealize.SL.BI.BIBase Idealize.SL.BI.Laws Idealize.SL.Sem Idealize.SL.ProofMode
open Idealize.SL.RA
open Cert.UpdateIdeal Cert.UpdateIdeal.Gen Cert.AdamStep

variable {F : FTy → Type} [FloatOps F] {U : Type} [URA U]

/-- The arrays of a call whose inputs are `X`, `W`, `M`, `V` over tables of `R` rows: the call leaves its inputs, and in its
    outputs the formulas. -/
abbrev after4 {R L : ℕ} (X : Vec F ⟨3, ![8, R, L]⟩ .bf16) (W M V : Vec F ⟨2, ![R, L]⟩ .f32) : Fin 4 → Vec F ⟨2, ![R, L]⟩ .f32
  | 0 => total (part X)
  | 1 => change (total (part X)) W M V
  | 2 => moment1 (total (part X)) M
  | 3 => moment2 (total (part X)) V

variable (V : Valuation τ sig (Elt F)) (c : Dev nD)

/-! ## Call 1: tables of 1024 rows of 1408 -/

def in1 : Tiles.Arrs (Elt F) cfg1 c τ := fun w => V (Proc.devRef .tc (arrRef spec1 w))
def out1 : Tiles.Arrs (Elt F) cfg1 c τ := fun
  | 4 => after4 (R := 1024) (L := 1408) (in1 V c 0) (in1 V c 1) (in1 V c 2) (in1 V c 3) 0
  | 5 => after4 (R := 1024) (L := 1408) (in1 V c 0) (in1 V c 1) (in1 V c 2) (in1 V c 3) 1
  | 6 => after4 (R := 1024) (L := 1408) (in1 V c 0) (in1 V c 1) (in1 V c 2) (in1 V c 3) 2
  | 7 => after4 (R := 1024) (L := 1408) (in1 V c 0) (in1 V c 1) (in1 V c 2) (in1 V c 3) 3
  | w => in1 V c w
def dat1 : Dat τ (Elt F) Unit ℕ U ℕ cfg1 c := Tiles.dat (in1 V c) (out1 V c)

theorem place1 (t : Fin cfg1.N) (k : Fin 8) (y : (Sheet 1408).Idx) :
    ((cfg1.win 0).blk t).view.emb (Fin.cons k y) = Fin.cons k (((cfg1.win 4).blk t).view.emb y) := by
  funext a
  apply Fin.ext
  fin_cases a
  · exact (win1_0.rect_emb_val t _ 0).trans (show 0 * 8 + k.val = k.val by omega)
  · exact (win1_0.rect_emb_val t _ 1).trans (win1_4.rect_emb_val t y 0).symm
  · exact (win1_0.rect_emb_val t _ 2).trans (win1_4.rect_emb_val t y 1).symm

set_option maxHeartbeats 4000000 in
theorem body1 : Pipeline.BodyObligationLoose (dat1 (U := U) V c) (defs₀ (F := F)) Variants.none () Set.univ := by
  refine Regional.obligation _ _ _ (fun _ => rfl) (fun _ => rfl) (fun _ _ => rfl)
    (fun
      | 0, h => Tiles.before_in _ _ 0 h (fun _ => rfl) (fun _ _ _ => rfl) (fun _ _ _ _ => rfl) rfl
      | 1, h => Tiles.before_in _ _ 1 h (fun _ => rfl) (fun _ _ _ => rfl) (fun _ _ _ _ => rfl) rfl
      | 2, h => Tiles.before_in _ _ 2 h (fun _ => rfl) (fun _ _ _ => rfl) (fun _ _ _ _ => rfl) rfl
      | 3, h => Tiles.before_in _ _ 3 h (fun _ => rfl) (fun _ _ _ => rfl) (fun _ _ _ _ => rfl) rfl
      | 4, h | 5, h | 6, h | 7, h => nomatch h)
    (fun t => step 1408 h_S1x128x1408 h_S128x1408 shapeCasts_S1x128x1408_S128x1408 shapeCasts_S128x1408_S128x1408
      (st1_0 t) (st1_1 t) (st1_2 t) (st1_3 t) (st1_4 t) (st1_5 t) (st1_6 t) (st1_7 t))
    (fun t => by unfold defs₀; rw [Defs.onTc_tc]; rfl)
    (fun t K => ?_)
  have triple := tile_wp (defs₀ := defs₀ (F := F)) (U := U) c Set.univ 1024 1408 h_S1x128x1408 h_S128x1408
    shapeCasts_S1x128x1408_S128x1408 shapeCasts_S128x1408_S128x1408
    (st1_0 t) (st1_1 t) (st1_2 t) (st1_3 t) (st1_4 t) (st1_5 t) (st1_6 t) (st1_7 t)
    (stage_whole1 0 _) (stage_whole1 1 _) (stage_whole1 2 _) (stage_whole1 3 _) (stage_whole1 4 _) (stage_whole1 5 _)
    (stage_whole1 6 _) (stage_whole1 7 _)
    ((cfg1.win 4).blk t).view.emb (in1 V c 0) (in1 V c 1) (in1 V c 2) (in1 V c 3)
    (Tiles.block (out1 V c) 0 t) (Tiles.block (out1 V c) 1 t) (Tiles.block (out1 V c) 2 t) (Tiles.block (out1 V c) 3 t)
    (Tiles.block (out1 V c) 4 t) (Tiles.block (out1 V c) 5 t) (Tiles.block (out1 V c) 6 t) (Tiles.block (out1 V c) 7 t)
    (fun k y => congrArg (in1 V c 0) (place1 t k y)) rfl rfl rfl rfl rfl rfl rfl K
  rw [bigSep_W1, bigSep_W1]
  exact triple

theorem arrAt1 (w : Fin 8) (h : w = 4 ∨ w = 5 ∨ w = 6 ∨ w = 7) : (dat1 (U := U) V c).arrAt w cfg1.N = out1 V c w := by
  rcases h with rfl | rfl | rfl | rfl <;> exact Tiles.arrAt_out _ _ _ (by decide +kernel) (Memref.isWhole_whole _)

/-! ## Call 2: tables of 256 rows of 1024 -/

def in2 : Tiles.Arrs (Elt F) cfg2 c τ := fun w => V (Proc.devRef .tc (arrRef spec2 w))
def out2 : Tiles.Arrs (Elt F) cfg2 c τ := fun
  | 4 => after4 (R := 256) (L := 1024) (in2 V c 0) (in2 V c 1) (in2 V c 2) (in2 V c 3) 0
  | 5 => after4 (R := 256) (L := 1024) (in2 V c 0) (in2 V c 1) (in2 V c 2) (in2 V c 3) 1
  | 6 => after4 (R := 256) (L := 1024) (in2 V c 0) (in2 V c 1) (in2 V c 2) (in2 V c 3) 2
  | 7 => after4 (R := 256) (L := 1024) (in2 V c 0) (in2 V c 1) (in2 V c 2) (in2 V c 3) 3
  | w => in2 V c w
def dat2 : Dat τ (Elt F) Unit ℕ U ℕ cfg2 c := Tiles.dat (in2 V c) (out2 V c)

theorem place2 (t : Fin cfg2.N) (k : Fin 8) (y : (Sheet 1024).Idx) :
    ((cfg2.win 0).blk t).view.emb (Fin.cons k y) = Fin.cons k (((cfg2.win 4).blk t).view.emb y) := by
  funext a
  apply Fin.ext
  fin_cases a
  · exact (win2_0.rect_emb_val t _ 0).trans (show 0 * 8 + k.val = k.val by omega)
  · exact (win2_0.rect_emb_val t _ 1).trans (win2_4.rect_emb_val t y 0).symm
  · exact (win2_0.rect_emb_val t _ 2).trans (win2_4.rect_emb_val t y 1).symm

set_option maxHeartbeats 4000000 in
theorem body2 : Pipeline.BodyObligationLoose (dat2 (U := U) V c) (defs₀ (F := F)) Variants.none () Set.univ := by
  refine Regional.obligation _ _ _ (fun _ => rfl) (fun _ => rfl) (fun _ _ => rfl)
    (fun
      | 0, h => Tiles.before_in _ _ 0 h (fun _ => rfl) (fun _ _ _ => rfl) (fun _ _ _ _ => rfl) rfl
      | 1, h => Tiles.before_in _ _ 1 h (fun _ => rfl) (fun _ _ _ => rfl) (fun _ _ _ _ => rfl) rfl
      | 2, h => Tiles.before_in _ _ 2 h (fun _ => rfl) (fun _ _ _ => rfl) (fun _ _ _ _ => rfl) rfl
      | 3, h => Tiles.before_in _ _ 3 h (fun _ => rfl) (fun _ _ _ => rfl) (fun _ _ _ _ => rfl) rfl
      | 4, h | 5, h | 6, h | 7, h => nomatch h)
    (fun t => step 1024 h_S1x128x1024 h_S128x1024 shapeCasts_S1x128x1024_S128x1024 shapeCasts_S128x1024_S128x1024
      (st2_0 t) (st2_1 t) (st2_2 t) (st2_3 t) (st2_4 t) (st2_5 t) (st2_6 t) (st2_7 t))
    (fun t => by unfold defs₀; rw [Defs.onTc_tc]; rfl)
    (fun t K => ?_)
  have triple := tile_wp (defs₀ := defs₀ (F := F)) (U := U) c Set.univ 256 1024 h_S1x128x1024 h_S128x1024
    shapeCasts_S1x128x1024_S128x1024 shapeCasts_S128x1024_S128x1024
    (st2_0 t) (st2_1 t) (st2_2 t) (st2_3 t) (st2_4 t) (st2_5 t) (st2_6 t) (st2_7 t)
    (stage_whole2 0 _) (stage_whole2 1 _) (stage_whole2 2 _) (stage_whole2 3 _) (stage_whole2 4 _) (stage_whole2 5 _)
    (stage_whole2 6 _) (stage_whole2 7 _)
    ((cfg2.win 4).blk t).view.emb (in2 V c 0) (in2 V c 1) (in2 V c 2) (in2 V c 3)
    (Tiles.block (out2 V c) 0 t) (Tiles.block (out2 V c) 1 t) (Tiles.block (out2 V c) 2 t) (Tiles.block (out2 V c) 3 t)
    (Tiles.block (out2 V c) 4 t) (Tiles.block (out2 V c) 5 t) (Tiles.block (out2 V c) 6 t) (Tiles.block (out2 V c) 7 t)
    (fun k y => congrArg (in2 V c 0) (place2 t k y)) rfl rfl rfl rfl rfl rfl rfl K
  rw [bigSep_W2, bigSep_W2]
  exact triple

theorem arrAt2 (w : Fin 8) (h : w = 4 ∨ w = 5 ∨ w = 6 ∨ w = 7) : (dat2 (U := U) V c).arrAt w cfg2.N = out2 V c w := by
  rcases h with rfl | rfl | rfl | rfl <;> exact Tiles.arrAt_out _ _ _ (by decide +kernel) (Memref.isWhole_whole _)

/-! ## Call 3: tables of 128 rows of 1024 -/

def in3 : Tiles.Arrs (Elt F) cfg3 c τ := fun w => V (Proc.devRef .tc (arrRef spec3 w))
def out3 : Tiles.Arrs (Elt F) cfg3 c τ := fun
  | 4 => after4 (R := 128) (L := 1024) (in3 V c 0) (in3 V c 1) (in3 V c 2) (in3 V c 3) 0
  | 5 => after4 (R := 128) (L := 1024) (in3 V c 0) (in3 V c 1) (in3 V c 2) (in3 V c 3) 1
  | 6 => after4 (R := 128) (L := 1024) (in3 V c 0) (in3 V c 1) (in3 V c 2) (in3 V c 3) 2
  | 7 => after4 (R := 128) (L := 1024) (in3 V c 0) (in3 V c 1) (in3 V c 2) (in3 V c 3) 3
  | w => in3 V c w
def dat3 : Dat τ (Elt F) Unit ℕ U ℕ cfg3 c := Tiles.dat (in3 V c) (out3 V c)

theorem place3 (t : Fin cfg3.N) (k : Fin 8) (y : (Sheet 1024).Idx) :
    ((cfg3.win 0).blk t).view.emb (Fin.cons k y) = Fin.cons k (((cfg3.win 4).blk t).view.emb y) := by
  funext a
  apply Fin.ext
  fin_cases a
  · exact (win3_0.rect_emb_val t _ 0).trans (show 0 * 8 + k.val = k.val by omega)
  · exact (win3_0.rect_emb_val t _ 1).trans (win3_4.rect_emb_val t y 0).symm
  · exact (win3_0.rect_emb_val t _ 2).trans (win3_4.rect_emb_val t y 1).symm

set_option maxHeartbeats 4000000 in
theorem body3 : Pipeline.BodyObligationLoose (dat3 (U := U) V c) (defs₀ (F := F)) Variants.none () Set.univ := by
  refine Regional.obligation _ _ _ (fun _ => rfl) (fun _ => rfl) (fun _ _ => rfl)
    (fun
      | 0, h => Tiles.before_in _ _ 0 h (fun _ => rfl) (fun _ _ _ => rfl) (fun _ _ _ _ => rfl) rfl
      | 1, h => Tiles.before_in _ _ 1 h (fun _ => rfl) (fun _ _ _ => rfl) (fun _ _ _ _ => rfl) rfl
      | 2, h => Tiles.before_in _ _ 2 h (fun _ => rfl) (fun _ _ _ => rfl) (fun _ _ _ _ => rfl) rfl
      | 3, h => Tiles.before_in _ _ 3 h (fun _ => rfl) (fun _ _ _ => rfl) (fun _ _ _ _ => rfl) rfl
      | 4, h | 5, h | 6, h | 7, h => nomatch h)
    (fun t => step 1024 h_S1x128x1024 h_S128x1024 shapeCasts_S1x128x1024_S128x1024 shapeCasts_S128x1024_S128x1024
      (st3_0 t) (st3_1 t) (st3_2 t) (st3_3 t) (st3_4 t) (st3_5 t) (st3_6 t) (st3_7 t))
    (fun t => by unfold defs₀; rw [Defs.onTc_tc]; rfl)
    (fun t K => ?_)
  have triple := tile_wp (defs₀ := defs₀ (F := F)) (U := U) c Set.univ 128 1024 h_S1x128x1024 h_S128x1024
    shapeCasts_S1x128x1024_S128x1024 shapeCasts_S128x1024_S128x1024
    (st3_0 t) (st3_1 t) (st3_2 t) (st3_3 t) (st3_4 t) (st3_5 t) (st3_6 t) (st3_7 t)
    (stage_whole3 0 _) (stage_whole3 1 _) (stage_whole3 2 _) (stage_whole3 3 _) (stage_whole3 4 _) (stage_whole3 5 _)
    (stage_whole3 6 _) (stage_whole3 7 _)
    ((cfg3.win 4).blk t).view.emb (in3 V c 0) (in3 V c 1) (in3 V c 2) (in3 V c 3)
    (Tiles.block (out3 V c) 0 t) (Tiles.block (out3 V c) 1 t) (Tiles.block (out3 V c) 2 t) (Tiles.block (out3 V c) 3 t)
    (Tiles.block (out3 V c) 4 t) (Tiles.block (out3 V c) 5 t) (Tiles.block (out3 V c) 6 t) (Tiles.block (out3 V c) 7 t)
    (fun k y => congrArg (in3 V c 0) (place3 t k y)) rfl rfl rfl rfl rfl rfl rfl K
  rw [bigSep_W3, bigSep_W3]
  exact triple

theorem arrAt3 (w : Fin 8) (h : w = 4 ∨ w = 5 ∨ w = 6 ∨ w = 7) : (dat3 (U := U) V c).arrAt w cfg3.N = out3 V c w := by
  rcases h with rfl | rfl | rfl | rfl <;> exact Tiles.arrAt_out _ _ _ (by decide +kernel) (Memref.isWhole_whole _)

/-! ## Call 4: tables of 128 rows of 1024 -/

def in4 : Tiles.Arrs (Elt F) cfg4 c τ := fun w => V (Proc.devRef .tc (arrRef spec4 w))
def out4 : Tiles.Arrs (Elt F) cfg4 c τ := fun
  | 4 => after4 (R := 128) (L := 1024) (in4 V c 0) (in4 V c 1) (in4 V c 2) (in4 V c 3) 0
  | 5 => after4 (R := 128) (L := 1024) (in4 V c 0) (in4 V c 1) (in4 V c 2) (in4 V c 3) 1
  | 6 => after4 (R := 128) (L := 1024) (in4 V c 0) (in4 V c 1) (in4 V c 2) (in4 V c 3) 2
  | 7 => after4 (R := 128) (L := 1024) (in4 V c 0) (in4 V c 1) (in4 V c 2) (in4 V c 3) 3
  | w => in4 V c w
def dat4 : Dat τ (Elt F) Unit ℕ U ℕ cfg4 c := Tiles.dat (in4 V c) (out4 V c)

theorem place4 (t : Fin cfg4.N) (k : Fin 8) (y : (Sheet 1024).Idx) :
    ((cfg4.win 0).blk t).view.emb (Fin.cons k y) = Fin.cons k (((cfg4.win 4).blk t).view.emb y) := by
  funext a
  apply Fin.ext
  fin_cases a
  · exact (win4_0.rect_emb_val t _ 0).trans (show 0 * 8 + k.val = k.val by omega)
  · exact (win4_0.rect_emb_val t _ 1).trans (win4_4.rect_emb_val t y 0).symm
  · exact (win4_0.rect_emb_val t _ 2).trans (win4_4.rect_emb_val t y 1).symm

set_option maxHeartbeats 4000000 in
theorem body4 : Pipeline.BodyObligationLoose (dat4 (U := U) V c) (defs₀ (F := F)) Variants.none () Set.univ := by
  refine Regional.obligation _ _ _ (fun _ => rfl) (fun _ => rfl) (fun _ _ => rfl)
    (fun
      | 0, h => Tiles.before_in _ _ 0 h (fun _ => rfl) (fun _ _ _ => rfl) (fun _ _ _ _ => rfl) rfl
      | 1, h => Tiles.before_in _ _ 1 h (fun _ => rfl) (fun _ _ _ => rfl) (fun _ _ _ _ => rfl) rfl
      | 2, h => Tiles.before_in _ _ 2 h (fun _ => rfl) (fun _ _ _ => rfl) (fun _ _ _ _ => rfl) rfl
      | 3, h => Tiles.before_in _ _ 3 h (fun _ => rfl) (fun _ _ _ => rfl) (fun _ _ _ _ => rfl) rfl
      | 4, h | 5, h | 6, h | 7, h => nomatch h)
    (fun t => step 1024 h_S1x128x1024 h_S128x1024 shapeCasts_S1x128x1024_S128x1024 shapeCasts_S128x1024_S128x1024
      (st4_0 t) (st4_1 t) (st4_2 t) (st4_3 t) (st4_4 t) (st4_5 t) (st4_6 t) (st4_7 t))
    (fun t => by unfold defs₀; rw [Defs.onTc_tc]; rfl)
    (fun t K => ?_)
  have triple := tile_wp (defs₀ := defs₀ (F := F)) (U := U) c Set.univ 128 1024 h_S1x128x1024 h_S128x1024
    shapeCasts_S1x128x1024_S128x1024 shapeCasts_S128x1024_S128x1024
    (st4_0 t) (st4_1 t) (st4_2 t) (st4_3 t) (st4_4 t) (st4_5 t) (st4_6 t) (st4_7 t)
    (stage_whole4 0 _) (stage_whole4 1 _) (stage_whole4 2 _) (stage_whole4 3 _) (stage_whole4 4 _) (stage_whole4 5 _)
    (stage_whole4 6 _) (stage_whole4 7 _)
    ((cfg4.win 4).blk t).view.emb (in4 V c 0) (in4 V c 1) (in4 V c 2) (in4 V c 3)
    (Tiles.block (out4 V c) 0 t) (Tiles.block (out4 V c) 1 t) (Tiles.block (out4 V c) 2 t) (Tiles.block (out4 V c) 3 t)
    (Tiles.block (out4 V c) 4 t) (Tiles.block (out4 V c) 5 t) (Tiles.block (out4 V c) 6 t) (Tiles.block (out4 V c) 7 t)
    (fun k y => congrArg (in4 V c 0) (place4 t k y)) rfl rfl rfl rfl rfl rfl rfl K
  rw [bigSep_W4, bigSep_W4]
  exact triple

theorem arrAt4 (w : Fin 8) (h : w = 4 ∨ w = 5 ∨ w = 6 ∨ w = 7) : (dat4 (U := U) V c).arrAt w cfg4.N = out4 V c w := by
  rcases h with rfl | rfl | rfl | rfl <;> exact Tiles.arrAt_out _ _ _ (by decide +kernel) (Memref.isWhole_whole _)

end Cert.UpdateAdam
-- ==== Proof.UpdateRun.lean ====
/-
The run of the whole program: the exchange of the gradients, then the four AdamW calls.

Between two calls a device holds all its buffers at known contents. `val1` is what the exchange leaves, `val2` to `val5` what
each AdamW call leaves in turn.
-/
module

public import proofs.«01_k».proof.Proof.UpdateRows
public import proofs.«01_k».proof.Proof.UpdateAdam

@[expose] public section

set_option maxRecDepth 65536

noncomputable section

namespace Cert.UpdateRun

open Idealize.ShloMosaic Idealize.ShloMosaic.TcCoe Idealize.ShloMosaic.Rounds Idealize.ShloMosaic.ValueIdx
open Idealize.ShloMosaic.Pipeline (Dat ownSems0 prefHeld scopedRest ucRefs afterRegion arrRef)
open Idealize.SL
open Idealize.SL.BI (sProp bigSep bigSep_sep' bigSep_mono bigSep_congr)
open scoped Idealize.SL.BI
open Idealize.SL.BI.BIBase Idealize.SL.BI.Laws Idealize.SL.Sem Idealize.SL.ProofMode
open Idealize.SL.RA
open Cert.UpdateIdeal Cert.UpdateIdeal.Gen Cert.Rows Cert.UpdateAdam

variable {F : FTy → Type} [FloatOps F]

local notation "𝕄" => MT nD τ sig Unit (Elt F) ℕ UU ℕ

variable (m : (ℓ : Loc nD τ sig) → Buf (Elt F) ℓ) (ρ : Dev nD → PrngReg)

/-! ## The contents between the calls -/

abbrev val0 (c : Dev nD) : Valuation τ sig (Elt F) := fun b => m (c, b)

/-- After the exchange: the four result arrays as received, the rest as launched. -/
def val1 (c : Dev nD) : Valuation τ sig (Elt F) :=
  Function.update (Function.update (Function.update (Function.update (val0 m c)
    (Proc.devRef .tc main_v1_0) (received m 0 c)) (Proc.devRef .tc main_v1_1) (received m 1 c))
    (Proc.devRef .tc main_v1_2) (received m 2 c)) (Proc.devRef .tc main_v1_3) (received m 3 c)

def val2 (c : Dev nD) : Valuation τ sig (Elt F) := afterRegion (dat1 (U := UU) (val1 m c) c) (val1 m c)
def val3 (c : Dev nD) : Valuation τ sig (Elt F) := afterRegion (dat2 (U := UU) (val2 m c) c) (val2 m c)
def val4 (c : Dev nD) : Valuation τ sig (Elt F) := afterRegion (dat3 (U := UU) (val3 m c) c) (val3 m c)
def val5 (c : Dev nD) : Valuation τ sig (Elt F) := afterRegion (dat4 (U := UU) (val4 m c) c) (val4 m c)

theorem val1_rec (c : Dev nD) : ∀ i, val1 m c (Proc.devRef .tc (outRef i)) = received m i c
  | 0 => by
    unfold val1
    exact (Function.update_of_ne (by decide) _ _).trans ((Function.update_of_ne (by decide) _ _).trans
      ((Function.update_of_ne (by decide) _ _).trans (Function.update_self _ _ _)))
  | 1 => by
    unfold val1
    exact (Function.update_of_ne (by decide) _ _).trans ((Function.update_of_ne (by decide) _ _).trans (Function.update_self _ _ _))
  | 2 => by
    unfold val1
    exact (Function.update_of_ne (by decide) _ _).trans (Function.update_self _ _ _)
  | 3 => by
    unfold val1
    exact Function.update_self _ _ _

theorem val1_other (c : Dev nD) (b : DevRef τ sig) (hb : ∀ i, b ≠ Proc.devRef .tc (outRef i)) : val1 m c b = m (c, b) := by
  unfold val1
  exact (Function.update_of_ne (hb 3) _ _).trans ((Function.update_of_ne (hb 2) _ _).trans
    ((Function.update_of_ne (hb 1) _ _).trans (Function.update_of_ne (hb 0) _ _)))

/-! ## The exchange's buffers among all buffers -/

/-- The exchange's arguments and results. -/
def exchanged : Finset (DevRef τ sig) :=
  {Proc.devRef .tc main_arg0, Proc.devRef .tc main_arg1, Proc.devRef .tc main_arg2, Proc.devRef .tc main_arg3,
    Proc.devRef .tc main_v1_0, Proc.devRef .tc main_v1_1, Proc.devRef .tc main_v1_2, Proc.devRef .tc main_v1_3}

theorem exchanged_sub : exchanged ⊆ ucRefs τ sig := by
  unfold exchanged
  intro b hb
  simp only [Finset.mem_insert, Finset.mem_singleton] at hb
  rcases hb with rfl | rfl | rfl | rfl | rfl | rfl | rfl | rfl <;> exact Pipeline.devRef_mem_ucRefs rfl

theorem held_exchanged (c : Dev nD) (V : Valuation τ sig (Elt F)) : (StableHlo.held (c.tc : Thread nD τ) exchanged V : sProp 𝕄)
    = iprop((bigSep Finset.univ fun i : Fin 4 => ((c.tc : Thread nD τ).loc (argRef i)) ↦{fullShare} V (Proc.devRef .tc (argRef i)))
      ∗ bigSep Finset.univ fun i : Fin 4 => ((c.tc : Thread nD τ).loc (outRef i)) ↦{fullShare} V (Proc.devRef .tc (outRef i))) := by
  have h4 (Φ : Fin 4 → sProp 𝕄) : bigSep Finset.univ Φ = iprop(Φ 0 ∗ Φ 1 ∗ Φ 2 ∗ Φ 3) :=
    BI.bigSep_eq_bigSepL_of_eq [0, 1, 2, 3] (by decide) (by decide) _
  have h8 (Φ : DevRef τ sig → sProp 𝕄) : bigSep exchanged Φ = iprop(Φ (Proc.devRef .tc main_arg0) ∗ Φ (Proc.devRef .tc main_arg1)
      ∗ Φ (Proc.devRef .tc main_arg2) ∗ Φ (Proc.devRef .tc main_arg3) ∗ Φ (Proc.devRef .tc main_v1_0) ∗ Φ (Proc.devRef .tc main_v1_1)
      ∗ Φ (Proc.devRef .tc main_v1_2) ∗ Φ (Proc.devRef .tc main_v1_3)) :=
    BI.bigSep_eq_bigSepL_of_eq [Proc.devRef .tc main_arg0, Proc.devRef .tc main_arg1, Proc.devRef .tc main_arg2, Proc.devRef .tc main_arg3,
      Proc.devRef .tc main_v1_0, Proc.devRef .tc main_v1_1, Proc.devRef .tc main_v1_2, Proc.devRef .tc main_v1_3] (by decide) (by decide) _
  unfold StableHlo.held
  rw [h8, h4, h4]
  refine BI.equiv_iff.mp ⟨?_, ?_⟩
  · show _ ⊢ (_ : sProp 𝕄)
    iintro ⟨H0, H1, H2, H3, H4⟩
    isplitl [H0 H1 H2 H3]
    · isplitl [H0]; · iexact H0
      isplitl [H1]; · iexact H1
      isplitl [H2]; · iexact H2
      iexact H3
    iexact H4
  · show _ ⊢ (_ : sProp 𝕄)
    iintro ⟨⟨H0, H1, H2, H3⟩, H4⟩
    isplitl [H0]; · iexact H0
    isplitl [H1]; · iexact H1
    isplitl [H2]; · iexact H2
    isplitl [H3]; · iexact H3
    iexact H4

/-- The buffers the exchange does not touch, as launched. -/
def others (c : Dev nD) : sProp 𝕄 := StableHlo.held (c.tc : Thread nD τ) (ucRefs τ sig \ exchanged) (val0 m c)

theorem unscoped_intro (c : Dev nD) : (unscopedBufs c (fun b => m ((c.tc : Thread nD τ).loc b)) : sProp 𝕄)
    = iprop((bigSep Finset.univ (argPts m c) ∗ bigSep Finset.univ (outPts m c)) ∗ others m c) := by
  refine (Pipeline.unscopedBufs_held (Ix := Unit) (Name := ℕ) (U := UU) (Lvl := ℕ) c (val0 m c)).trans ?_
  rw [StableHlo.held_sub_split (c.tc : Thread nD τ) exchanged_sub, held_exchanged]
  rfl

theorem join_val1 (c : Dev nD) : (iprop(held m c ∗ others m c) : sProp 𝕄) = StableHlo.held (c.tc : Thread nD τ) (ucRefs τ sig) (val1 m c) := by
  have harg : ∀ i : Fin 4, val1 m c (Proc.devRef .tc (argRef i)) = m ((c.tc : Thread nD τ).loc (argRef i)) := fun i =>
    val1_other m c _ (by revert i; decide)
  have hmem : ∀ i : Fin 4, (Proc.devRef .tc (outRef i) : DevRef τ sig) ∈ exchanged := by decide
  rw [StableHlo.held_sub_split (c.tc : Thread nD τ) exchanged_sub, held_exchanged]
  have ho : (StableHlo.held (c.tc : Thread nD τ) (ucRefs τ sig \ exchanged) (val1 m c) : sProp 𝕄) = others m c :=
    StableHlo.held_congr _ fun b hb => val1_other m c b fun i h => (Finset.mem_sdiff.mp hb).2 (h ▸ hmem i)
  have ha : (bigSep Finset.univ fun i : Fin 4 => ((c.tc : Thread nD τ).loc (argRef i)) ↦{fullShare} val1 m c (Proc.devRef .tc (argRef i)) : sProp 𝕄)
      = bigSep Finset.univ (argPts m c) := bigSep_congr fun i _ => by rw [harg i]; rfl
  have hr : (bigSep Finset.univ fun i : Fin 4 => ((c.tc : Thread nD τ).loc (outRef i)) ↦{fullShare} val1 m c (Proc.devRef .tc (outRef i)) : sProp 𝕄)
      = bigSep Finset.univ (recPts m c) := bigSep_congr fun i _ => by rw [val1_rec m c i]; rfl
  rw [ho, ha, hr]
  rfl

/-! ## The exchange's region -/

/-- What device `c` owes at the start: the arrival of each of its remote copies. -/
abbrev O₀ (c : Dev nD) : CellTallies nD τ sig Unit := plan.owed c plan.is

def exch (c : Dev nD) : Dat τ (Elt F) Unit ℕ UU ℕ cfg0 c where
  A w := w.elim0
  after w _ := w.elim0
  Φ t := match t with
    | ⟨0, _⟩ => iprop(plan.Pre ER m lq rq c ∗ scopedRest cfg0.spec c)
    | ⟨_ + 1, _⟩ => iprop((ownSems0 plan.osem c ∗ held m c) ∗ scopedRest cfg0.spec c)
  q _ := fullShare
  owed t := match t with
    | ⟨0, _⟩ => O₀ c
    | ⟨_ + 1, _⟩ => 0

def dats : (p : Fin 5) → (c : Dev nD) → Dat τ (Elt F) Unit ℕ UU ℕ (cfgs p) c
  | ⟨0, _⟩, c => exch m c
  | ⟨1, _⟩, c => dat1 (val1 m c) c
  | ⟨2, _⟩, c => dat2 (val2 m c) c
  | ⟨3, _⟩, c => dat3 (val3 m c) c
  | ⟨4, _⟩, c => dat4 (val4 m c) c
  | ⟨_ + 5, h⟩, _ => absurd h (Nat.not_lt.2 (Nat.le_add_left _ _))

abbrev 𝒱₀ : Variants := Variants.none

theorem bigSep_none (Φ : Fin cfg0.W → sProp 𝕄) : bigSep Finset.univ Φ = BI.emp := BI.bigSep_empty

theorem body_obligation (c : Dev nD) : Pipeline.BodyObligationLoose (exch m c) (defs₀ (F := F)) 𝒱₀ () Set.univ := by
  intro t
  rw [fin_N0 t, bigSep_none, bigSep_none]
  show iprop((plan.Pre ER m lq rq c ∗ scopedRest cfg0.spec c) ∗ (exch m c).owesAt () t0_0.castSucc ∗ emp)
    ⊢ wp frame (wpE (defs₀ (F := F)) 𝒱₀ c none) Set.univ
      (cc0_scatter_grads (F := F) (Memref.whole main_arg0) (Memref.isWhole_whole _) (Memref.whole main_arg1) (Memref.isWhole_whole _) (Memref.whole main_arg2) (Memref.isWhole_whole _) (Memref.whole main_arg3) (Memref.isWhole_whole _)
        (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2)
      fun _ => iprop(((ownSems0 plan.osem c ∗ held m c) ∗ scopedRest cfg0.spec c) ∗ (exch m c).owesAt () t0_0.succ ∗ emp)
  rw [body_eq t0_0 fun w => w.elim0, wp_deviceId]
  unfold Dat.owesAt Pipeline.owesWithin
  iintro ⟨⟨HP, HR⟩, ⟨%W, %hW, HO⟩, -⟩
  iapply (plan.wp_prog ER m lq rq 𝒱₀ none _ c (.ret ⟨⟩) W)
  isplitl [HP]; · iexact HP
  isplitl [HO]; · iexact HO
  iintro ⟨HQ, ⟨%W', HO⟩⟩
  rw [wp_ret]
  imodintro
  ihave H := (plan.post_done m lq rq c) $$ HQ
  icases H with ⟨HS, HD⟩
  isplitl [HS HD HR]
  · isplitr [HR]
    · isplitl [HS]; · iexact HS
      iapply (done_held m c); iexact HD
    iexact HR
  isplitl [HO]
  · iexists W'
    isplitr; · ipureintro; exact fun _ _ => Or.inl trivial
    iexact HO
  iempintro

theorem ownSemFacts : Pipeline.OwnSemFacts cfg0.spec plan.osem := by decide +kernel

def u₀ : UU := (initOf (Pipeline.cells cfgs cellOf_inj) (Pipeline.launchToks cfgs cellOf_inj), initOf plan.cellsOf plan.toksOf)

/-- What a device enters the exchange with. -/
def start (c : Dev nD) : sProp 𝕄 := iprop(plan.Pre ER m lq rq c ∗ owes (c.tc : Thread nD τ) (O₀ c) ∅ ∗ others m c)

theorem deal : (bigSep Finset.univ fun c : Dev nD => First.dealt plan.osem m O₀ (plan.G ER m lq rq) c)
    ⊢ |={Set.univ}=> bigSep Finset.univ (start m) := by
  have h1 : (bigSep Finset.univ fun c : Dev nD => First.dealt plan.osem m O₀ (plan.G ER m lq rq) c)
      ⊢ (iprop((bigSep Finset.univ fun c : Dev nD => iprop(ownSems0 plan.osem c ∗ Pipeline.launchCred O₀ c ∗ plan.G ER m lq rq c ∗ plan.rows m lq rq c))
        ∗ bigSep Finset.univ fun c : Dev nD => iprop(owes (c.tc : Thread nD τ) (O₀ c) ∅ ∗ others m c)) : sProp 𝕄) := by
    rw [← bigSep_sep']
    refine bigSep_mono fun c _ => (show _ ⊢ (_ : sProp 𝕄) from ?_)
    unfold First.dealt
    rw [unscoped_intro]
    iintro ⟨HS, ⟨HU, HR⟩, HO, HC, HG⟩
    isplitr [HO HR]
    · isplitl [HS]; · iexact HS
      isplitl [HC]; · iexact HC
      isplitl [HG]; · iexact HG
      iapply (rows_intro m c)
      iexact HU
    isplitl [HO]; · iexact HO
    iexact HR
  refine h1.trans ?_
  unfold start
  rw [bigSep_sep' (Φ := plan.Pre ER m lq rq)]
  iintro ⟨HA, HO⟩
  imod (plan.deal ER m lq rq) $$ HA with HP
  imodintro
  isplitl [HP] <;> iassumption

/-! ## The AdamW regions -/

abbrev pcs : (p : Fin 5) → Pipeline.PCfg sig Λ₀ (Elt F) := fun p => (cfgs p).toPCfg

def reg1 : Pipeline.RegionSeg pcs (fun p => (cfgs p).toPCfg_adm) (dats m) () defs₀ 𝒱₀ First.L₀ First.lv₀ (1 : Fin 5) :=
  Regional.region cfgs (dats m) 1 launch1 defs₀ 𝒱₀ (val1 m) (fun c => body1 (val1 m c) c)
    (fun c w => Tiles.share_full _ _ w) (fun _ _ => rfl) (fun _ _ => rfl) (fun _ _ => rfl) (fun _ _ => rfl)
def reg2 : Pipeline.RegionSeg pcs (fun p => (cfgs p).toPCfg_adm) (dats m) () defs₀ 𝒱₀ First.L₀ First.lv₀ (2 : Fin 5) :=
  Regional.region cfgs (dats m) 2 launch2 defs₀ 𝒱₀ (val2 m) (fun c => body2 (val2 m c) c)
    (fun c w => Tiles.share_full _ _ w) (fun _ _ => rfl) (fun _ _ => rfl) (fun _ _ => rfl) (fun _ _ => rfl)
def reg3 : Pipeline.RegionSeg pcs (fun p => (cfgs p).toPCfg_adm) (dats m) () defs₀ 𝒱₀ First.L₀ First.lv₀ (3 : Fin 5) :=
  Regional.region cfgs (dats m) 3 launch3 defs₀ 𝒱₀ (val3 m) (fun c => body3 (val3 m c) c)
    (fun c w => Tiles.share_full _ _ w) (fun _ _ => rfl) (fun _ _ => rfl) (fun _ _ => rfl) (fun _ _ => rfl)
def reg4 : Pipeline.RegionSeg pcs (fun p => (cfgs p).toPCfg_adm) (dats m) () defs₀ 𝒱₀ First.L₀ First.lv₀ (4 : Fin 5) :=
  Regional.region cfgs (dats m) 4 launch4 defs₀ 𝒱₀ (val4 m) (fun c => body4 (val4 m c) c)
    (fun c w => Tiles.share_full _ _ w) (fun _ _ => rfl) (fun _ _ => rfl) (fun _ _ => rfl) (fun _ _ => rfl)

/-! ## The run -/

/-- The final memory of one device: every buffer at `val5`. -/
def Final (c : Dev nD) (s : MemSt nD τ sig (Elt F)) : Prop := ∀ b ∈ ucRefs τ sig, s.mem (c, b) = val5 m c b

theorem held_final (c : Dev nD) (s' : Phys nD τ sig (Elt F)) :
    iprop(StableHlo.held (c.tc : Thread nD τ) (ucRefs τ sig) (val5 m c) ∗ SI s') ⊢ (iprop(⌜Final m c s'.mem⌝ ∗ SI s') : sProp 𝕄) :=
  pointsTo_read_all (ucRefs τ sig) (fun b => ((c, b) : Loc nD τ sig)) (val5 m c) s'

/-- @main ends with every device's buffers at `val5` and every semaphore at zero. -/
theorem run_main : θ_run defs (onTc (τ := τ) (main (F := F))) (s₀ m ρ) (fun r => (∀ c, Final m c r.2) ∧ r.2.sem = fun _ => 0) :=
  First.run_first pcs (fun p => (cfgs p).toPCfg_adm) (dats m) cellOf_inj EP defs₀ 𝒱₀ plan.osem
    m ρ (p := (0 : Fin 5)) winFacts0.to₀ ownSemFacts block_pos0 stage_whole0 main
    [.region (reg1 m), .region (reg2 m), .region (reg3 m), .region (reg4 m)]
    (fun c => main_chain c) (show ([1, 2, 3, 4] : List (Fin 5)).Nodup by decide) (show (0 : Fin 5) ∉ [1, 2, 3, 4] by decide)
    (body_obligation m) (fun c => by unfold Pipeline.cellsWaits; exact Entails.of_eq (BI.bigSep_empty).symm)
    O₀ (plan.G ER m lq rq) u₀
    (by
      unfold u₀
      iintro Hu
      ihave H := (ownU_pair _ _) $$ Hu
      icases H with ⟨HP, HX⟩
      imod (plan.fund_cells ER m lq rq) $$ HX with HG
      imodintro
      isplitl [HP] <;> iassumption)
    (start m) (plan.Pre ER m lq rq) (held m) (others m) (Regional.state (val1 m))
    (fun c => StableHlo.held (c.tc : Thread nD τ) (ucRefs τ sig) (val5 m c))
    (deal m)
    (fun c => by
      unfold start
      iintro ⟨HP, HO, HR⟩
      imodintro
      isplitr; · iapply (Entails.of_eq (BI.bigSep_empty).symm : (emp : sProp 𝕄) ⊢ (dats m 0 c).arrays ((dats m 0 c).arrAt · 0)); iempintro
      isplitr; · iapply (Entails.of_eq (BI.bigSep_empty).symm : (emp : sProp 𝕄) ⊢ prefHeld Pipeline.Prefetch.none c (fun _ => fullShare) _); iempintro
      isplitl [HO]
      · unfold Dat.owesAt Pipeline.owesWithin
        iexists ∅
        isplitr; · ipureintro; exact fun _ h => Or.inl trivial
        iexact HO
      isplitl [HP]; · iexact HP
      iexact HR)
    (fun c => by
      show iprop(plan.Pre ER m lq rq c ∗ _ ∗ scopedRest cfg0.spec c) ⊢ (iprop(plan.Pre ER m lq rq c ∗ scopedRest cfg0.spec c) : sProp 𝕄)
      iintro ⟨HP, -, HR⟩
      isplitl [HP] <;> iassumption)
    (fun c => by
      show iprop((ownSems0 plan.osem c ∗ held m c) ∗ scopedRest cfg0.spec c) ⊢ (iprop(held m c ∗ ownSems0 plan.osem c ∗ scopedRest cfg0.spec c) : sProp 𝕄)
      iintro ⟨⟨HS, HH⟩, HR⟩
      isplitl [HH]; · iexact HH
      isplitl [HS] <;> iassumption)
    (fun c => by
      unfold Dat.owesAt Pipeline.owesWithin Regional.state
      rw [← join_val1]
      iintro ⟨-, ⟨%W, -, HO⟩, HH, HR⟩
      imodintro
      isplitl [HH HR]
      · isplitl [HH] <;> iassumption
      iexists W
      iexact HO)
    ⟨fun _ => BI.Entails.refl _, fun _ => BI.Entails.refl _, fun _ => BI.Entails.refl _, fun _ => BI.Entails.refl _, fun _ => BI.Entails.refl _⟩
    (Final m)
    (fun c s' => (held_final m c s').trans (by iintro H; imodintro; iexact H))
    (fun s h hs => ⟨h, sem_eq_zero_of_scoped (by decide) hs⟩)

end Cert.UpdateRun

end
-- ==== Proof.UpdateValues.lean ====
/-
What the run leaves in each array: the arguments as launched, and in the results of the AdamW calls the formulas of what the
exchange delivered and of the launched weights and moments.
-/
module

public import proofs.«01_k».proof.Proof.UpdateRun
public import Idealize.ShloMosaic.Lib.Pipeline.RegionArraysS

@[expose] public section

set_option maxRecDepth 65536

noncomputable section

namespace Cert.UpdateValues

open Idealize.ShloMosaic Idealize.ShloMosaic.TcCoe
open Idealize.ShloMosaic.Pipeline
open Idealize.SL.RA
open Cert.UpdateIdeal Cert.UpdateIdeal.Gen Cert.Rows Cert.UpdateAdam Cert.UpdateRun

variable {F : FTy → Type} [FloatOps F]

variable (m : (ℓ : Loc nD τ sig) → Buf (Elt F) ℓ) (c : Dev nD)

/-! ## What each call leaves alone -/

abbrev Spared1 (r : Ref sig .tc) : Prop := ∀ w, arrRef spec1 w = r → (cfg1.win w).isOut = false
abbrev Spared2 (r : Ref sig .tc) : Prop := ∀ w, arrRef spec2 w = r → (cfg2.win w).isOut = false
abbrev Spared3 (r : Ref sig .tc) : Prop := ∀ w, arrRef spec3 w = r → (cfg3.win w).isOut = false
abbrev Spared4 (r : Ref sig .tc) : Prop := ∀ w, arrRef spec4 w = r → (cfg4.win w).isOut = false

theorem keep1 (r : Ref sig .tc) (h : Spared1 r) : val2 m c (Proc.devRef .tc r) = val1 m c (Proc.devRef .tc r) :=
  afterRegion_keeps _ _ winFacts1.arr_inj (fun _ => rfl) r h
theorem keep2 (r : Ref sig .tc) (h : Spared2 r) : val3 m c (Proc.devRef .tc r) = val2 m c (Proc.devRef .tc r) :=
  afterRegion_keeps _ _ winFacts2.arr_inj (fun _ => rfl) r h
theorem keep3 (r : Ref sig .tc) (h : Spared3 r) : val4 m c (Proc.devRef .tc r) = val3 m c (Proc.devRef .tc r) :=
  afterRegion_keeps _ _ winFacts3.arr_inj (fun _ => rfl) r h
theorem keep4 (r : Ref sig .tc) (h : Spared4 r) : val5 m c (Proc.devRef .tc r) = val4 m c (Proc.devRef .tc r) :=
  afterRegion_keeps _ _ winFacts4.arr_inj (fun _ => rfl) r h

/-- An array no call writes. -/
def Input (r : Ref sig .tc) : Prop :=
  (∀ i, (Proc.devRef .tc r : DevRef τ sig) ≠ Proc.devRef .tc (outRef i)) ∧ Spared1 r ∧ Spared2 r ∧ Spared3 r ∧ Spared4 r

instance (r : Ref sig .tc) : Decidable (Input r) := by unfold Input; infer_instance

abbrev argAt : Fin 16 → Ref sig .tc :=
  ![main_arg0, main_arg1, main_arg2, main_arg3, main_arg4, main_arg5, main_arg6, main_arg7, main_arg8, main_arg9, main_arg10, main_arg11,
    main_arg12, main_arg13, main_arg14, main_arg15]

theorem input_arg : ∀ i, Input (argAt i) := by decide +kernel

section
variable {r : Ref sig .tc} (h : Input r)
include h
theorem at1 : val1 m c (Proc.devRef .tc r) = m (c, Proc.devRef .tc r) := val1_other m c _ h.1
theorem at2 : val2 m c (Proc.devRef .tc r) = m (c, Proc.devRef .tc r) := (keep1 m c r h.2.1).trans (at1 m c h)
theorem at3 : val3 m c (Proc.devRef .tc r) = m (c, Proc.devRef .tc r) := (keep2 m c r h.2.2.1).trans (at2 m c h)
theorem at4 : val4 m c (Proc.devRef .tc r) = m (c, Proc.devRef .tc r) := (keep3 m c r h.2.2.2.1).trans (at3 m c h)
theorem at5 : val5 m c (Proc.devRef .tc r) = m (c, Proc.devRef .tc r) := (keep4 m c r h.2.2.2.2).trans (at4 m c h)
end

theorem after4_congr {R L : ℕ} {X X' : Vec F ⟨3, ![8, R, L]⟩ .bf16} {W W' M M' V V' : Vec F ⟨2, ![R, L]⟩ .f32} (hX : X = X') (hW : W = W')
    (hM : M = M') (hV : V = V') (j : Fin 4) : after4 X W M V j = after4 X' W' M' V' j := by subst hX hW hM hV; rfl

/-! ## Call 1 -/

/-- The four results of call 1. -/
abbrev res1 : Fin 4 → Vec F ⟨2, ![1024, 1408]⟩ .f32 :=
  after4 (received m 0 c) (m ((c.tc : Thread nD τ).loc main_arg4)) (m ((c.tc : Thread nD τ).loc main_arg8)) (m ((c.tc : Thread nD τ).loc main_arg12))

theorem entry1 (j : Fin 4) : after4 (R := 1024) (L := 1408) (in1 (val1 m c) c 0) (in1 (val1 m c) c 1) (in1 (val1 m c) c 2) (in1 (val1 m c) c 3) j = res1 m c j :=
  after4_congr (val1_rec m c 0) (at1 m c (input_arg 4)) (at1 m c (input_arg 8)) (at1 m c (input_arg 12)) j

theorem exit1 (w : Fin 8) (h : w = 4 ∨ w = 5 ∨ w = 6 ∨ w = 7) :
    val5 m c (Proc.devRef .tc (arrRef spec1 w)) = out1 (val1 m c) c w := by
  refine (keep4 m c (arrRef spec1 w) (by rcases h with rfl | rfl | rfl | rfl <;> decide +kernel)).trans ?_
  refine (keep3 m c (arrRef spec1 w) (by rcases h with rfl | rfl | rfl | rfl <;> decide +kernel)).trans ?_
  refine (keep2 m c (arrRef spec1 w) (by rcases h with rfl | rfl | rfl | rfl <;> decide +kernel)).trans ?_
  exact (afterRegion_arr (dat1 (U := UU) (val1 m c) c) (val1 m c) winFacts1.arr_inj w).trans (arrAt1 (val1 m c) c w h)

theorem result1_0 : val5 m c (Proc.devRef .tc main_v2_0) = res1 m c 0 := (exit1 m c 4 (.inl rfl)).trans (entry1 m c 0)
theorem result1_1 : val5 m c (Proc.devRef .tc main_v2_1) = res1 m c 1 := (exit1 m c 5 (.inr (.inl rfl))).trans (entry1 m c 1)
theorem result1_2 : val5 m c (Proc.devRef .tc main_v2_2) = res1 m c 2 := (exit1 m c 6 (.inr (.inr (.inl rfl)))).trans (entry1 m c 2)
theorem result1_3 : val5 m c (Proc.devRef .tc main_v2_3) = res1 m c 3 := (exit1 m c 7 (.inr (.inr (.inr rfl)))).trans (entry1 m c 3)

/-! ## Call 2 -/

/-- The four results of call 2. -/
abbrev res2 : Fin 4 → Vec F ⟨2, ![256, 1024]⟩ .f32 :=
  after4 (received m 1 c) (m ((c.tc : Thread nD τ).loc main_arg5)) (m ((c.tc : Thread nD τ).loc main_arg9)) (m ((c.tc : Thread nD τ).loc main_arg13))

theorem entry2 (j : Fin 4) : after4 (R := 256) (L := 1024) (in2 (val2 m c) c 0) (in2 (val2 m c) c 1) (in2 (val2 m c) c 2) (in2 (val2 m c) c 3) j = res2 m c j :=
  after4_congr ((keep1 m c main_v1_1 (by decide +kernel)).trans (val1_rec m c 1)) (at2 m c (input_arg 5)) (at2 m c (input_arg 9)) (at2 m c (input_arg 13)) j

theorem exit2 (w : Fin 8) (h : w = 4 ∨ w = 5 ∨ w = 6 ∨ w = 7) :
    val5 m c (Proc.devRef .tc (arrRef spec2 w)) = out2 (val2 m c) c w := by
  refine (keep4 m c (arrRef spec2 w) (by rcases h with rfl | rfl | rfl | rfl <;> decide +kernel)).trans ?_
  refine (keep3 m c (arrRef spec2 w) (by rcases h with rfl | rfl | rfl | rfl <;> decide +kernel)).trans ?_
  exact (afterRegion_arr (dat2 (U := UU) (val2 m c) c) (val2 m c) winFacts2.arr_inj w).trans (arrAt2 (val2 m c) c w h)

theorem result2_0 : val5 m c (Proc.devRef .tc main_v3_0) = res2 m c 0 := (exit2 m c 4 (.inl rfl)).trans (entry2 m c 0)
theorem result2_1 : val5 m c (Proc.devRef .tc main_v3_1) = res2 m c 1 := (exit2 m c 5 (.inr (.inl rfl))).trans (entry2 m c 1)
theorem result2_2 : val5 m c (Proc.devRef .tc main_v3_2) = res2 m c 2 := (exit2 m c 6 (.inr (.inr (.inl rfl)))).trans (entry2 m c 2)
theorem result2_3 : val5 m c (Proc.devRef .tc main_v3_3) = res2 m c 3 := (exit2 m c 7 (.inr (.inr (.inr rfl)))).trans (entry2 m c 3)

/-! ## Call 3 -/

/-- The four results of call 3. -/
abbrev res3 : Fin 4 → Vec F ⟨2, ![128, 1024]⟩ .f32 :=
  after4 (received m 2 c) (m ((c.tc : Thread nD τ).loc main_arg6)) (m ((c.tc : Thread nD τ).loc main_arg10)) (m ((c.tc : Thread nD τ).loc main_arg14))

theorem entry3 (j : Fin 4) : after4 (R := 128) (L := 1024) (in3 (val3 m c) c 0) (in3 (val3 m c) c 1) (in3 (val3 m c) c 2) (in3 (val3 m c) c 3) j = res3 m c j :=
  after4_congr ((keep2 m c main_v1_2 (by decide +kernel)).trans ((keep1 m c main_v1_2 (by decide +kernel)).trans (val1_rec m c 2))) (at3 m c (input_arg 6)) (at3 m c (input_arg 10)) (at3 m c (input_arg 14)) j

theorem exit3 (w : Fin 8) (h : w = 4 ∨ w = 5 ∨ w = 6 ∨ w = 7) :
    val5 m c (Proc.devRef .tc (arrRef spec3 w)) = out3 (val3 m c) c w := by
  refine (keep4 m c (arrRef spec3 w) (by rcases h with rfl | rfl | rfl | rfl <;> decide +kernel)).trans ?_
  exact (afterRegion_arr (dat3 (U := UU) (val3 m c) c) (val3 m c) winFacts3.arr_inj w).trans (arrAt3 (val3 m c) c w h)

theorem result3_0 : val5 m c (Proc.devRef .tc main_v4_0) = res3 m c 0 := (exit3 m c 4 (.inl rfl)).trans (entry3 m c 0)
theorem result3_1 : val5 m c (Proc.devRef .tc main_v4_1) = res3 m c 1 := (exit3 m c 5 (.inr (.inl rfl))).trans (entry3 m c 1)
theorem result3_2 : val5 m c (Proc.devRef .tc main_v4_2) = res3 m c 2 := (exit3 m c 6 (.inr (.inr (.inl rfl)))).trans (entry3 m c 2)
theorem result3_3 : val5 m c (Proc.devRef .tc main_v4_3) = res3 m c 3 := (exit3 m c 7 (.inr (.inr (.inr rfl)))).trans (entry3 m c 3)

/-! ## Call 4 -/

/-- The four results of call 4. -/
abbrev res4 : Fin 4 → Vec F ⟨2, ![128, 1024]⟩ .f32 :=
  after4 (received m 3 c) (m ((c.tc : Thread nD τ).loc main_arg7)) (m ((c.tc : Thread nD τ).loc main_arg11)) (m ((c.tc : Thread nD τ).loc main_arg15))

theorem entry4 (j : Fin 4) : after4 (R := 128) (L := 1024) (in4 (val4 m c) c 0) (in4 (val4 m c) c 1) (in4 (val4 m c) c 2) (in4 (val4 m c) c 3) j = res4 m c j :=
  after4_congr ((keep3 m c main_v1_3 (by decide +kernel)).trans ((keep2 m c main_v1_3 (by decide +kernel)).trans ((keep1 m c main_v1_3 (by decide +kernel)).trans (val1_rec m c 3)))) (at4 m c (input_arg 7)) (at4 m c (input_arg 11)) (at4 m c (input_arg 15)) j

theorem exit4 (w : Fin 8) (h : w = 4 ∨ w = 5 ∨ w = 6 ∨ w = 7) :
    val5 m c (Proc.devRef .tc (arrRef spec4 w)) = out4 (val4 m c) c w := by
  exact (afterRegion_arr (dat4 (U := UU) (val4 m c) c) (val4 m c) winFacts4.arr_inj w).trans (arrAt4 (val4 m c) c w h)

theorem result4_0 : val5 m c (Proc.devRef .tc main_v5_0) = res4 m c 0 := (exit4 m c 4 (.inl rfl)).trans (entry4 m c 0)
theorem result4_1 : val5 m c (Proc.devRef .tc main_v5_1) = res4 m c 1 := (exit4 m c 5 (.inr (.inl rfl))).trans (entry4 m c 1)
theorem result4_2 : val5 m c (Proc.devRef .tc main_v5_2) = res4 m c 2 := (exit4 m c 6 (.inr (.inr (.inl rfl)))).trans (entry4 m c 2)
theorem result4_3 : val5 m c (Proc.devRef .tc main_v5_3) = res4 m c 3 := (exit4 m c 7 (.inr (.inr (.inr rfl)))).trans (entry4 m c 3)

end Cert.UpdateValues

end
-- ==== Proof.UpdateSum.lean ====
/-
The whole arrays behind the update: the sum of eight gradients over their leading axis, and the AdamW formulas of it, read at
one device's block.
-/
module

public import Idealize.ShloMosaic.Lib.IdealHost
public import Idealize.ShloMosaic.Lib.Pointwise.Reduce
public import proofs.«01_k».proof.Proof.Swap
public import proofs.«01_k».proof.Proof.AdamStep

@[expose] public section

noncomputable section

namespace Cert.UpdateSum

open Idealize.ShloMosaic Idealize.ShloMosaic.ValueIdx
open Cert.AdamStep Cert.Swap

variable {A B : ℕ}

abbrev Scal : Shape := ⟨0, ![]⟩
abbrev Table (A B : ℕ) : Shape := ⟨2, ![A, B]⟩

/-- The whole gradients: `x` holds eight stacks of eight sheets; sheet `s` of the result is the sum of sheet `s` of each stack. -/
abbrev gradient (x : (Long A B).Idx → Ideal .bf16) (h₁ : (Long A B).ShapeCasts (Square A B)) (hr : (Square A B).ReducesTo [0] (Part A B))
    (hu : 0 < Scal.numel) : FVec Ideal (Part A B) .f32 :=
  Host.reduceAdd (shapeCast (Square A B) (extf .f32 (x : FVec Ideal (Long A B) .bf16) narrower) h₁) (constant Scal .f32 0x00000000#32) hr hu

theorem gradient_apply (x : (Long A B).Idx → Ideal .bf16) (h₁ : (Long A B).ShapeCasts (Square A B)) (hr : (Square A B).ReducesTo [0] (Part A B))
    (hu : 0 < Scal.numel) (ht : Layout.Tiles (Part A B) (Long A B) 0 8) (c : Fin 8) (i : Fin A) (j : Fin B) :
    gradient x h₁ hr hu (ValueIdx.ix3 c i j) = ∑ k : Fin 8, x (ht.idx k (ValueIdx.ix3 c i j)) := by
  refine (hostReduceAdd_apply _ _ hr hu _).trans ((Ideal.hostReduceAdd_r4_a0 hr _ _ _).trans ?_)
  refine (congrArg₂ (· + ·) (Ideal.ofBits_zero_f32 : _) (Finset.sum_congr rfl fun k _ => ?_)).trans (zero_add _)
  exact cut_apply (A := A) (B := B) x h₁ ht k c i j

/-- A device that holds sheet `c` of every stack of `x` adds up sheet `c` of the whole gradients. -/
theorem total_received (x : (Long A B).Idx → Ideal .bf16) (h₁ : (Long A B).ShapeCasts (Square A B)) (hr : (Square A B).ReducesTo [0] (Part A B))
    (hu : 0 < Scal.numel) (ht : Layout.Tiles (Part A B) (Long A B) 0 8) (c : Fin 8) (X : Vec Ideal (Part A B) .bf16)
    (hX : ∀ y : (Part A B).Idx, X y = x (ht.idx (y 0) (ValueIdx.ix3 c (y 1) (y 2)))) (y : (Table A B).Idx) :
    total (F := Ideal) (part X) y = gradient x h₁ hr hu (ValueIdx.ix3 c (y 0) (y 1)) := by
  have hk : ∀ k : Fin 8, part X k y = x (ht.idx k (ValueIdx.ix3 c (y 0) (y 1))) := fun k => hX _
  refine Eq.trans ?_ ((gradient_apply x h₁ hr hu ht c (y 0) (y 1)).trans (Fin.sum_univ_eight _)).symm
  rw [← hk 0, ← hk 1, ← hk 2, ← hk 3, ← hk 4, ← hk 5, ← hk 6, ← hk 7]
  rfl

/-- Sheets one under the other: block `c` is sheet `c`. -/
theorem block_rows {α : Type} (G : (Part A B).Idx → α) (h : (Part A B).ShapeCasts (Table (8 * A) B))
    (ht : Layout.Tiles (Table A B) (Table (8 * A) B) 0 8) (c : Fin 8) (y : (Table A B).Idx) :
    Layout.block (Table A B) (Table (8 * A) B) 0 8 c (shapeCast (Table (8 * A) B) G h) ht y = G (ValueIdx.ix3 c (y 0) (y 1)) := by
  refine shapeCast_apply G h _ _ ?_
  rw [Shape.rowMajor_val_two, Shape.rowMajor_val_three]
  rfl

/-- Sheets one beside the other: block `c` is sheet `c`. -/
theorem block_cols {α : Type} (G : (Part A B).Idx → α) (hp : (Part A B).Transposes [1, 0, 2] ⟨3, ![A, 8, B]⟩)
    (h : (⟨3, ![A, 8, B]⟩ : Shape).ShapeCasts (Table A (8 * B))) (ht : Layout.Tiles (Table A B) (Table A (8 * B)) 1 8) (c : Fin 8)
    (y : (Table A B).Idx) :
    Layout.block (Table A B) (Table A (8 * B)) 1 8 c (shapeCast (Table A (8 * B)) (transpose ⟨3, ![A, 8, B]⟩ [1, 0, 2] G hp) h) ht y
      = G (ValueIdx.ix3 c (y 0) (y 1)) := by
  refine (shapeCast_apply _ h _ (ValueIdx.ix3 (n0 := A) (n1 := 8) (n2 := B) (y 0) c (y 1)) ?_).trans
    (transpose_apply _ G hp _ _ fun a => match a with | ⟨0, _⟩ => rfl | ⟨1, _⟩ => rfl | ⟨2, _⟩ => rfl)
  rw [Shape.rowMajor_val_two, Shape.rowMajor_val_three]
  show ((y 0).val * 8 + c.val) * B + (y 1).val = (y 0).val * (8 * B) + (c.val * B + (y 1).val)
  ring

/-! ## The formulas over whole arrays -/

variable {T : Shape} (hb : Scal.BroadcastsInDim T ![])

abbrev wide (b : BitVec 32) : FVec Ideal T .f32 := broadcastInDim T ![] hb (constant (F := Ideal) Scal .f32 b)

abbrev wholeMoment1 (g m : FVec Ideal T .f32) : FVec Ideal T .f32 :=
  addf (mulf (wide hb 0x3F666666#32) m) (mulf (wide hb 0x3DCCCCCD#32) g)

abbrev wholeMoment2 (g v : FVec Ideal T .f32) : FVec Ideal T .f32 :=
  addf (mulf (wide hb 0x3F7FBE77#32) v) (mulf (wide hb 0x3A83126F#32) (mulf g g))

abbrev wholeChange (g w m v : FVec Ideal T .f32) : FVec Ideal T .f32 :=
  mulf (wide hb 0xBA83126F#32)
    (addf (Host.divf (Host.divf (wholeMoment1 hb g m) (wide hb 0x3F26BD02#32))
        (addf (Host.sqrt (Host.divf (wholeMoment2 hb g v) (wide hb 0x3C231ACC#32))) (wide hb 0x322BCC77#32)))
      (mulf (wide hb 0x3C23D70A#32) w))

variable {S : Shape} {a : ℕ} (ht : Layout.Tiles S T a 8) (c : Fin 8)

theorem block_moment1 (g m : FVec Ideal T .f32) : moment1 (F := Ideal) (Layout.block S T a 8 c g ht) (Layout.block S T a 8 c m ht)
    = Layout.block S T a 8 c (wholeMoment1 hb g m) ht := rfl

theorem block_moment2 (g v : FVec Ideal T .f32) : moment2 (F := Ideal) (Layout.block S T a 8 c g ht) (Layout.block S T a 8 c v ht)
    = Layout.block S T a 8 c (wholeMoment2 hb g v) ht := rfl

theorem block_change (g w m v : FVec Ideal T .f32) : change (F := Ideal) (Layout.block S T a 8 c g ht) (Layout.block S T a 8 c w ht)
      (Layout.block S T a 8 c m ht) (Layout.block S T a 8 c v ht)
    = Layout.block S T a 8 c (wholeChange hb g w m v) ht := rfl

end Cert.UpdateSum

end
-- ==== Proof.UpdateClaims.lean ====
/-
The claims about the update: each device ends with its block of the whole gradients, weight changes and moments.
-/
module

public import proofs.«01_k».proof.Defs
public import proofs.«01_k».proof.Proof.Gen.Update
public import proofs.«01_k».proof.Proof.Gen.Update.Launch
public import proofs.«01_k».proof.Proof.Gen.UpdateRefIdeal.Run
public import proofs.«01_k».proof.Proof.UpdateValues
public import proofs.«01_k».proof.Proof.UpdateSum
public import Idealize.ShloMosaic.Lib.Quiescent

@[expose] public section

set_option maxRecDepth 65536

noncomputable section

namespace Cert.UpdateClaims

open Idealize.ShloMosaic Idealize.ShloMosaic.TcCoe
open Idealize.SL.Sem
open Cert.AdamStep Cert.Swap Cert.UpdateSum Cert.UpdateAdam Cert.UpdateValues
open Cert.UpdateRefIdeal Cert.UpdateRefIdeal.Gen

/-- The arguments on a device are as launched. -/
theorem kept {F : FTy → Type} [FloatOps F] (m : (ℓ : Loc Cert.UpdateIdeal.nD Cert.UpdateIdeal.τ Cert.UpdateIdeal.sig) → Buf (Elt F) ℓ)
    (c : Dev Cert.UpdateIdeal.nD) (s : MemSt Cert.UpdateIdeal.nD Cert.UpdateIdeal.τ Cert.UpdateIdeal.sig (Elt F)) (h : Cert.UpdateRun.Final m c s)
    (i : Fin 16) (hu : ((Proc.devRef .tc (argAt i) : DevRef Cert.UpdateIdeal.τ Cert.UpdateIdeal.sig)) ∈ Pipeline.ucRefs Cert.UpdateIdeal.τ Cert.UpdateIdeal.sig := by exact Pipeline.devRef_mem_ucRefs rfl) :
    s.mem ((c.tc : Thread Cert.UpdateIdeal.nD Cert.UpdateIdeal.τ).loc (argAt i)) = m ((c.tc : Thread Cert.UpdateIdeal.nD Cert.UpdateIdeal.τ).loc (argAt i)) :=
  (h _ hu).trans (at5 m c (input_arg i))

/-- The kernels' bodies over any number system. -/
abbrev Bodies (F : FTy → Type) : Type 1 := Defs Cert.UpdateIdeal.nD Cert.UpdateIdeal.τ Cert.UpdateIdeal.sig (Elt F) Cert.UpdateIdeal.Λ₀

/-- The program's run over any number system with the kernels' bodies `D`: it keeps its arguments and ends with every semaphore
    at zero. -/
def FrameOf (F : FTy → Type) [FloatOps F] (D : Bodies F) : Prop :=
  ∀ (m : (ℓ : Loc Cert.UpdateIdeal.nD Cert.UpdateIdeal.τ Cert.UpdateIdeal.sig) → Buf (Elt F) ℓ) (g : Dev Cert.UpdateIdeal.nD → PrngReg), True →
    θ_run (Pipeline.defs (Cert.UpdateIdeal.pcfgs (F := F)) D) (onTc (τ := Cert.UpdateIdeal.τ) (Cert.UpdateIdeal.main (F := F))) ⟨m, fun _ => 0, g⟩ (fun r => (∀ c : Dev Cert.UpdateIdeal.nD,
      r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
      ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
      ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
      ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3)
      ∧ r.2.mem ((c.tc : Thread Cert.UpdateIdeal.nD Cert.UpdateIdeal.τ).loc Cert.UpdateIdeal.main_arg4) = m ((c.tc : Thread Cert.UpdateIdeal.nD Cert.UpdateIdeal.τ).loc Cert.UpdateIdeal.main_arg4)
      ∧ r.2.mem ((c.tc : Thread Cert.UpdateIdeal.nD Cert.UpdateIdeal.τ).loc Cert.UpdateIdeal.main_arg5) = m ((c.tc : Thread Cert.UpdateIdeal.nD Cert.UpdateIdeal.τ).loc Cert.UpdateIdeal.main_arg5)
      ∧ r.2.mem ((c.tc : Thread Cert.UpdateIdeal.nD Cert.UpdateIdeal.τ).loc Cert.UpdateIdeal.main_arg6) = m ((c.tc : Thread Cert.UpdateIdeal.nD Cert.UpdateIdeal.τ).loc Cert.UpdateIdeal.main_arg6)
      ∧ r.2.mem ((c.tc : Thread Cert.UpdateIdeal.nD Cert.UpdateIdeal.τ).loc Cert.UpdateIdeal.main_arg7) = m ((c.tc : Thread Cert.UpdateIdeal.nD Cert.UpdateIdeal.τ).loc Cert.UpdateIdeal.main_arg7)
      ∧ r.2.mem ((c.tc : Thread Cert.UpdateIdeal.nD Cert.UpdateIdeal.τ).loc Cert.UpdateIdeal.main_arg8) = m ((c.tc : Thread Cert.UpdateIdeal.nD Cert.UpdateIdeal.τ).loc Cert.UpdateIdeal.main_arg8)
      ∧ r.2.mem ((c.tc : Thread Cert.UpdateIdeal.nD Cert.UpdateIdeal.τ).loc Cert.UpdateIdeal.main_arg9) = m ((c.tc : Thread Cert.UpdateIdeal.nD Cert.UpdateIdeal.τ).loc Cert.UpdateIdeal.main_arg9)
      ∧ r.2.mem ((c.tc : Thread Cert.UpdateIdeal.nD Cert.UpdateIdeal.τ).loc Cert.UpdateIdeal.main_arg10) = m ((c.tc : Thread Cert.UpdateIdeal.nD Cert.UpdateIdeal.τ).loc Cert.UpdateIdeal.main_arg10)
      ∧ r.2.mem ((c.tc : Thread Cert.UpdateIdeal.nD Cert.UpdateIdeal.τ).loc Cert.UpdateIdeal.main_arg11) = m ((c.tc : Thread Cert.UpdateIdeal.nD Cert.UpdateIdeal.τ).loc Cert.UpdateIdeal.main_arg11)
      ∧ r.2.mem ((c.tc : Thread Cert.UpdateIdeal.nD Cert.UpdateIdeal.τ).loc Cert.UpdateIdeal.main_arg12) = m ((c.tc : Thread Cert.UpdateIdeal.nD Cert.UpdateIdeal.τ).loc Cert.UpdateIdeal.main_arg12)
      ∧ r.2.mem ((c.tc : Thread Cert.UpdateIdeal.nD Cert.UpdateIdeal.τ).loc Cert.UpdateIdeal.main_arg13) = m ((c.tc : Thread Cert.UpdateIdeal.nD Cert.UpdateIdeal.τ).loc Cert.UpdateIdeal.main_arg13)
      ∧ r.2.mem ((c.tc : Thread Cert.UpdateIdeal.nD Cert.UpdateIdeal.τ).loc Cert.UpdateIdeal.main_arg14) = m ((c.tc : Thread Cert.UpdateIdeal.nD Cert.UpdateIdeal.τ).loc Cert.UpdateIdeal.main_arg14)
      ∧ r.2.mem ((c.tc : Thread Cert.UpdateIdeal.nD Cert.UpdateIdeal.τ).loc Cert.UpdateIdeal.main_arg15) = m ((c.tc : Thread Cert.UpdateIdeal.nD Cert.UpdateIdeal.τ).loc Cert.UpdateIdeal.main_arg15))
      ∧ r.2.sem = fun _ => 0)

def Frame (F : FTy → Type) [FloatOps F] : Prop := FrameOf F (Cert.UpdateIdeal.defs₀ (F := F))

theorem frame (F : FTy → Type) [FloatOps F] : Frame F := fun m ρ _ => (θ_run (Cert.UpdateIdeal.defs (F := F)) _ _).mono
  (fun r h => ⟨fun c => ⟨kept m c r.2 (h.1 c) 0, kept m c r.2 (h.1 c) 1, kept m c r.2 (h.1 c) 2, kept m c r.2 (h.1 c) 3, kept m c r.2 (h.1 c) 4, kept m c r.2 (h.1 c) 5, kept m c r.2 (h.1 c) 6, kept m c r.2 (h.1 c) 7, kept m c r.2 (h.1 c) 8, kept m c r.2 (h.1 c) 9, kept m c r.2 (h.1 c) 10, kept m c r.2 (h.1 c) 11, kept m c r.2 (h.1 c) 12, kept m c r.2 (h.1 c) 13, kept m c r.2 (h.1 c) 14, kept m c r.2 (h.1 c) 15⟩, h.2⟩) (Cert.UpdateRun.run_main (F := F) m ρ)

theorem frame_ideal : Cert.quiescent_UpdateIdeal := frame Ideal

/-- The bodies of the program as written. -/
abbrev written : Defs Cert.Update.nD Cert.Update.τ Cert.Update.sig (Elt Bits) Cert.Update.Λ₀ := Cert.Update.defs₀ (F := Bits)

theorem same_type : Defs Cert.Update.nD Cert.Update.τ Cert.Update.sig (Elt Bits) Cert.Update.Λ₀ = Bodies Bits := by eq_refl

/-- Two families of bodies are the same if they are at each label of the matrix cores and on every other processor. -/
theorem bodies_ext {F : FTy → Type} {D E : Bodies F} (h0 : D .tc (0 : Fin 5) = E .tc (0 : Fin 5)) (h1 : D .tc (1 : Fin 5) = E .tc (1 : Fin 5))
    (h2 : D .tc (2 : Fin 5) = E .tc (2 : Fin 5)) (h3 : D .tc (3 : Fin 5) = E .tc (3 : Fin 5)) (h4 : D .tc (4 : Fin 5) = E .tc (4 : Fin 5))
    (hs : (fun c => D (.scScalar c)) = fun c => E (.scScalar c)) (hv : (fun c i => D (.scVector c i)) = fun c i => E (.scVector c i)) : D = E :=
  funext fun p => match p with
    | .tc => funext fun (ℓ : Fin 5) => match ℓ with
      | ⟨0, _⟩ => h0
      | ⟨1, _⟩ => h1
      | ⟨2, _⟩ => h2
      | ⟨3, _⟩ => h3
      | ⟨4, _⟩ => h4
    | .scScalar c => congrFun hs c
    | .scVector c i => congrFun (congrFun hv c) i

set_option maxHeartbeats 8000000 in
/-- The program as written and the program read over the ideal numbers have the same bodies, label by label. -/
theorem same_bodies : cast same_type written = Cert.UpdateIdeal.defs₀ (F := Bits) :=
  bodies_ext (by eq_refl) (by eq_refl) (by eq_refl) (by eq_refl) (by eq_refl) (by eq_refl) (by eq_refl)

set_option maxHeartbeats 8000000 in
theorem same_frame : Cert.quiescent_Update = FrameOf Bits (cast same_type written) := by eq_refl

theorem frame_kernel : Cert.quiescent_Update :=
  same_frame.mpr (same_bodies.symm.subst (motive := FrameOf Bits) (frame Bits))

theorem frame_refIdeal : Cert.quiescent_UpdateRefIdeal := fun m ρ _ => (θ_run (Cert.UpdateRefIdeal.defs (F := Ideal)) _ _).mono
  (fun r h => ⟨fun c => (h c).2.2.2.2.2.2.2.2.2.2.2.2.2.2.2.2, sem_eq_zero_of_no_sems (by decide) r.2⟩) (Cert.UpdateRefIdeal.Value.run (F := Ideal) m ρ)

/-! ## The values -/

variable {A B : ℕ} {T : Shape} {a : ℕ}

/-- The four whole results of one weight matrix, in the order of the results. -/
abbrev whole4 (hb : Scal.BroadcastsInDim T ![]) (g w m v : FVec Ideal T .f32) : Fin 4 → FVec Ideal T .f32
  | 0 => g
  | 1 => wholeChange hb g w m v
  | 2 => wholeMoment1 hb g m
  | 3 => wholeMoment2 hb g v

/-- One weight matrix on one device: where the received parts add up to a block of `g`, and the weight and moments are blocks,
    so are the four results. -/
theorem block4 (hb : Scal.BroadcastsInDim T ![]) (ht : Layout.Tiles (Table A B) T a 8) (c : Fin 8) {X : Vec Ideal (Swap.Part A B) .bf16}
    {W M V : Vec Ideal (Table A B) .f32} {g w m v : FVec Ideal T .f32} (hg : ∀ y, total (F := Ideal) (part X) y = Layout.block (Table A B) T a 8 c g ht y)
    (hW : W = Layout.block (Table A B) T a 8 c w ht) (hM : M = Layout.block (Table A B) T a 8 c m ht) (hV : V = Layout.block (Table A B) T a 8 c v ht) :
    ∀ j, after4 X W M V j = Layout.block (Table A B) T a 8 c (whole4 hb g w m v j) ht := by
  have hg' : total (F := Ideal) (part X) = Layout.block (Table A B) T a 8 c g ht := funext hg
  subst hW hM hV
  intro j
  match j with
  | 0 => exact hg'
  | 1 => exact (congrArg (fun t => change (F := Ideal) t _ _ _) hg').trans (block_change hb ht c g w m v)
  | 2 => exact (congrArg (fun t => moment1 (F := Ideal) t _) hg').trans (block_moment1 hb ht c g m)
  | 3 => exact (congrArg (fun t => moment2 (F := Ideal) t _) hg').trans (block_moment2 hb ht c g v)

/-- The whole gradient for the partial gradients `x`. -/
abbrev grad0 (x : S64x1024x1408.Idx → Elt Ideal .bf16) : FVec Ideal S1024x11264 .f32 :=
  shapeCast S1024x11264 (transpose S1024x8x1408 [1, 0, 2] (gradient (A := 1024) (B := 1408) x shapeCasts_S64x1024x1408_S8x8x1024x1408 reducesTo_S8x8x1024x1408_S8x1024x1408_d0 h_S_) transposes_S8x1024x1408_S1024x8x1408_1_0_2) shapeCasts_S1024x8x1408_S1024x11264

/-- The whole gradient for the partial gradients `x`. -/
abbrev grad1 (x : S64x256x1024.Idx → Elt Ideal .bf16) : FVec Ideal S2048x1024 .f32 :=
  shapeCast S2048x1024 (gradient (A := 256) (B := 1024) x shapeCasts_S64x256x1024_S8x8x256x1024 reducesTo_S8x8x256x1024_S8x256x1024_d0 h_S_) shapeCasts_S8x256x1024_S2048x1024

/-- The whole gradient for the partial gradients `x`. -/
abbrev grad2 (x : S64x128x1024.Idx → Elt Ideal .bf16) : FVec Ideal S1024x1024 .f32 :=
  shapeCast S1024x1024 (gradient (A := 128) (B := 1024) x shapeCasts_S64x128x1024_S8x8x128x1024 reducesTo_S8x8x128x1024_S8x128x1024_d0 h_S_) shapeCasts_S8x128x1024_S1024x1024

theorem sum0 (x : S64x1024x1408.Idx → Elt Ideal .bf16) (c : Fin 8) (X : Vec Ideal (Swap.Part 1024 1408) .bf16)
    (hX : ∀ y, X y = Layout.block (Swap.Part 1024 1408) (Long 1024 1408) 0 8 (y 0) x (by decide) (ValueIdx.ix3 c (y 1) (y 2))) (y : (Table 1024 1408).Idx) :
    total (F := Ideal) (part X) y = Layout.block (Table 1024 1408) S1024x11264 1 8 c (grad0 x) (by decide) y :=
  (total_received x _ _ _ (by decide) c X hX y).trans (block_cols (A := 1024) (B := 1408) _ _ _ _ c y).symm

theorem sum1 (x : S64x256x1024.Idx → Elt Ideal .bf16) (c : Fin 8) (X : Vec Ideal (Swap.Part 256 1024) .bf16)
    (hX : ∀ y, X y = Layout.block (Swap.Part 256 1024) (Long 256 1024) 0 8 (y 0) x (by decide) (ValueIdx.ix3 c (y 1) (y 2))) (y : (Table 256 1024).Idx) :
    total (F := Ideal) (part X) y = Layout.block (Table 256 1024) S2048x1024 0 8 c (grad1 x) (by decide) y :=
  (total_received x _ _ _ (by decide) c X hX y).trans (block_rows (A := 256) (B := 1024) _ _ _ c y).symm

theorem sum2 (x : S64x128x1024.Idx → Elt Ideal .bf16) (c : Fin 8) (X : Vec Ideal (Swap.Part 128 1024) .bf16)
    (hX : ∀ y, X y = Layout.block (Swap.Part 128 1024) (Long 128 1024) 0 8 (y 0) x (by decide) (ValueIdx.ix3 c (y 1) (y 2))) (y : (Table 128 1024).Idx) :
    total (F := Ideal) (part X) y = Layout.block (Table 128 1024) S1024x1024 0 8 c (grad2 x) (by decide) y :=
  (total_received x _ _ _ (by decide) c X hX y).trans (block_rows (A := 128) (B := 1024) _ _ _ c y).symm

set_option maxHeartbeats 2000000 in
theorem algebraic : Cert.algebraic_UpdateIdeal_UpdateRefIdeal := by
  intro m g m' g' _ hm
  have b0 : ∀ (c : Fin 8) (j : Fin 4), res1 (F := Ideal) m c j = Layout.block (Table 1024 1408) _ 1 8 c (whole4 bcast_S_S1024x11264 (grad0 (m' (((0 : Dev nD).tc : Thread nD τ).loc main_arg0))) (m' (((0 : Dev nD).tc : Thread nD τ).loc main_arg4)) (m' (((0 : Dev nD).tc : Thread nD τ).loc main_arg8)) (m' (((0 : Dev nD).tc : Thread nD τ).loc main_arg12)) j) (by decide) := fun c =>
    block4 _ _ c (sum0 _ c _ fun y => congrFun ((hm (y 0)).1) _) ((hm c).2.2.2.2.1) ((hm c).2.2.2.2.2.2.2.2.1) ((hm c).2.2.2.2.2.2.2.2.2.2.2.2.1)
  have b1 : ∀ (c : Fin 8) (j : Fin 4), res2 (F := Ideal) m c j = Layout.block (Table 256 1024) _ 0 8 c (whole4 bcast_S_S2048x1024 (grad1 (m' (((0 : Dev nD).tc : Thread nD τ).loc main_arg1))) (m' (((0 : Dev nD).tc : Thread nD τ).loc main_arg5)) (m' (((0 : Dev nD).tc : Thread nD τ).loc main_arg9)) (m' (((0 : Dev nD).tc : Thread nD τ).loc main_arg13)) j) (by decide) := fun c =>
    block4 _ _ c (sum1 _ c _ fun y => congrFun ((hm (y 0)).2.1) _) ((hm c).2.2.2.2.2.1) ((hm c).2.2.2.2.2.2.2.2.2.1) ((hm c).2.2.2.2.2.2.2.2.2.2.2.2.2.1)
  have b2 : ∀ (c : Fin 8) (j : Fin 4), res3 (F := Ideal) m c j = Layout.block (Table 128 1024) _ 0 8 c (whole4 bcast_S_S1024x1024 (grad2 (m' (((0 : Dev nD).tc : Thread nD τ).loc main_arg2))) (m' (((0 : Dev nD).tc : Thread nD τ).loc main_arg6)) (m' (((0 : Dev nD).tc : Thread nD τ).loc main_arg10)) (m' (((0 : Dev nD).tc : Thread nD τ).loc main_arg14)) j) (by decide) := fun c =>
    block4 _ _ c (sum2 _ c _ fun y => congrFun ((hm (y 0)).2.2.1) _) ((hm c).2.2.2.2.2.2.1) ((hm c).2.2.2.2.2.2.2.2.2.2.1) ((hm c).2.2.2.2.2.2.2.2.2.2.2.2.2.2.1)
  have b3 : ∀ (c : Fin 8) (j : Fin 4), res4 (F := Ideal) m c j = Layout.block (Table 128 1024) _ 0 8 c (whole4 bcast_S_S1024x1024 (grad2 (m' (((0 : Dev nD).tc : Thread nD τ).loc main_arg3))) (m' (((0 : Dev nD).tc : Thread nD τ).loc main_arg7)) (m' (((0 : Dev nD).tc : Thread nD τ).loc main_arg11)) (m' (((0 : Dev nD).tc : Thread nD τ).loc main_arg15)) j) (by decide) := fun c =>
    block4 _ _ c (sum2 _ c _ fun y => congrFun ((hm (y 0)).2.2.2.1) _) ((hm c).2.2.2.2.2.2.2.1) ((hm c).2.2.2.2.2.2.2.2.2.2.2.1) ((hm c).2.2.2.2.2.2.2.2.2.2.2.2.2.2.2)
  refine ⟨whole4 bcast_S_S1024x11264 (grad0 (m' (((0 : Dev nD).tc : Thread nD τ).loc main_arg0))) (m' (((0 : Dev nD).tc : Thread nD τ).loc main_arg4)) (m' (((0 : Dev nD).tc : Thread nD τ).loc main_arg8)) (m' (((0 : Dev nD).tc : Thread nD τ).loc main_arg12)) 0, whole4 bcast_S_S1024x11264 (grad0 (m' (((0 : Dev nD).tc : Thread nD τ).loc main_arg0))) (m' (((0 : Dev nD).tc : Thread nD τ).loc main_arg4)) (m' (((0 : Dev nD).tc : Thread nD τ).loc main_arg8)) (m' (((0 : Dev nD).tc : Thread nD τ).loc main_arg12)) 1, whole4 bcast_S_S1024x11264 (grad0 (m' (((0 : Dev nD).tc : Thread nD τ).loc main_arg0))) (m' (((0 : Dev nD).tc : Thread nD τ).loc main_arg4)) (m' (((0 : Dev nD).tc : Thread nD τ).loc main_arg8)) (m' (((0 : Dev nD).tc : Thread nD τ).loc main_arg12)) 2, whole4 bcast_S_S1024x11264 (grad0 (m' (((0 : Dev nD).tc : Thread nD τ).loc main_arg0))) (m' (((0 : Dev nD).tc : Thread nD τ).loc main_arg4)) (m' (((0 : Dev nD).tc : Thread nD τ).loc main_arg8)) (m' (((0 : Dev nD).tc : Thread nD τ).loc main_arg12)) 3, whole4 bcast_S_S2048x1024 (grad1 (m' (((0 : Dev nD).tc : Thread nD τ).loc main_arg1))) (m' (((0 : Dev nD).tc : Thread nD τ).loc main_arg5)) (m' (((0 : Dev nD).tc : Thread nD τ).loc main_arg9)) (m' (((0 : Dev nD).tc : Thread nD τ).loc main_arg13)) 0, whole4 bcast_S_S2048x1024 (grad1 (m' (((0 : Dev nD).tc : Thread nD τ).loc main_arg1))) (m' (((0 : Dev nD).tc : Thread nD τ).loc main_arg5)) (m' (((0 : Dev nD).tc : Thread nD τ).loc main_arg9)) (m' (((0 : Dev nD).tc : Thread nD τ).loc main_arg13)) 1, whole4 bcast_S_S2048x1024 (grad1 (m' (((0 : Dev nD).tc : Thread nD τ).loc main_arg1))) (m' (((0 : Dev nD).tc : Thread nD τ).loc main_arg5)) (m' (((0 : Dev nD).tc : Thread nD τ).loc main_arg9)) (m' (((0 : Dev nD).tc : Thread nD τ).loc main_arg13)) 2, whole4 bcast_S_S2048x1024 (grad1 (m' (((0 : Dev nD).tc : Thread nD τ).loc main_arg1))) (m' (((0 : Dev nD).tc : Thread nD τ).loc main_arg5)) (m' (((0 : Dev nD).tc : Thread nD τ).loc main_arg9)) (m' (((0 : Dev nD).tc : Thread nD τ).loc main_arg13)) 3, whole4 bcast_S_S1024x1024 (grad2 (m' (((0 : Dev nD).tc : Thread nD τ).loc main_arg2))) (m' (((0 : Dev nD).tc : Thread nD τ).loc main_arg6)) (m' (((0 : Dev nD).tc : Thread nD τ).loc main_arg10)) (m' (((0 : Dev nD).tc : Thread nD τ).loc main_arg14)) 0, whole4 bcast_S_S1024x1024 (grad2 (m' (((0 : Dev nD).tc : Thread nD τ).loc main_arg2))) (m' (((0 : Dev nD).tc : Thread nD τ).loc main_arg6)) (m' (((0 : Dev nD).tc : Thread nD τ).loc main_arg10)) (m' (((0 : Dev nD).tc : Thread nD τ).loc main_arg14)) 1, whole4 bcast_S_S1024x1024 (grad2 (m' (((0 : Dev nD).tc : Thread nD τ).loc main_arg2))) (m' (((0 : Dev nD).tc : Thread nD τ).loc main_arg6)) (m' (((0 : Dev nD).tc : Thread nD τ).loc main_arg10)) (m' (((0 : Dev nD).tc : Thread nD τ).loc main_arg14)) 2, whole4 bcast_S_S1024x1024 (grad2 (m' (((0 : Dev nD).tc : Thread nD τ).loc main_arg2))) (m' (((0 : Dev nD).tc : Thread nD τ).loc main_arg6)) (m' (((0 : Dev nD).tc : Thread nD τ).loc main_arg10)) (m' (((0 : Dev nD).tc : Thread nD τ).loc main_arg14)) 3, whole4 bcast_S_S1024x1024 (grad2 (m' (((0 : Dev nD).tc : Thread nD τ).loc main_arg3))) (m' (((0 : Dev nD).tc : Thread nD τ).loc main_arg7)) (m' (((0 : Dev nD).tc : Thread nD τ).loc main_arg11)) (m' (((0 : Dev nD).tc : Thread nD τ).loc main_arg15)) 0, whole4 bcast_S_S1024x1024 (grad2 (m' (((0 : Dev nD).tc : Thread nD τ).loc main_arg3))) (m' (((0 : Dev nD).tc : Thread nD τ).loc main_arg7)) (m' (((0 : Dev nD).tc : Thread nD τ).loc main_arg11)) (m' (((0 : Dev nD).tc : Thread nD τ).loc main_arg15)) 1, whole4 bcast_S_S1024x1024 (grad2 (m' (((0 : Dev nD).tc : Thread nD τ).loc main_arg3))) (m' (((0 : Dev nD).tc : Thread nD τ).loc main_arg7)) (m' (((0 : Dev nD).tc : Thread nD τ).loc main_arg11)) (m' (((0 : Dev nD).tc : Thread nD τ).loc main_arg15)) 2, whole4 bcast_S_S1024x1024 (grad2 (m' (((0 : Dev nD).tc : Thread nD τ).loc main_arg3))) (m' (((0 : Dev nD).tc : Thread nD τ).loc main_arg7)) (m' (((0 : Dev nD).tc : Thread nD τ).loc main_arg11)) (m' (((0 : Dev nD).tc : Thread nD τ).loc main_arg15)) 3, ?_, ?_⟩
  · refine (θ_run (Cert.UpdateIdeal.defs (F := Ideal)) _ _).mono (fun r h c => ⟨?_, ?_, ?_, ?_, ?_, ?_, ?_, ?_, ?_, ?_, ?_, ?_, ?_, ?_, ?_, ?_, kept m c r.2 (h.1 c) 0, kept m c r.2 (h.1 c) 1, kept m c r.2 (h.1 c) 2, kept m c r.2 (h.1 c) 3, kept m c r.2 (h.1 c) 4, kept m c r.2 (h.1 c) 5, kept m c r.2 (h.1 c) 6, kept m c r.2 (h.1 c) 7, kept m c r.2 (h.1 c) 8, kept m c r.2 (h.1 c) 9, kept m c r.2 (h.1 c) 10, kept m c r.2 (h.1 c) 11, kept m c r.2 (h.1 c) 12, kept m c r.2 (h.1 c) 13, kept m c r.2 (h.1 c) 14, kept m c r.2 (h.1 c) 15⟩) (Cert.UpdateRun.run_main (F := Ideal) m g)
    · exact (h.1 c _ (Pipeline.devRef_mem_ucRefs rfl)).trans ((result1_0 m c).trans (b0 c 0))
    · exact (h.1 c _ (Pipeline.devRef_mem_ucRefs rfl)).trans ((result1_1 m c).trans (b0 c 1))
    · exact (h.1 c _ (Pipeline.devRef_mem_ucRefs rfl)).trans ((result1_2 m c).trans (b0 c 2))
    · exact (h.1 c _ (Pipeline.devRef_mem_ucRefs rfl)).trans ((result1_3 m c).trans (b0 c 3))
    · exact (h.1 c _ (Pipeline.devRef_mem_ucRefs rfl)).trans ((result2_0 m c).trans (b1 c 0))
    · exact (h.1 c _ (Pipeline.devRef_mem_ucRefs rfl)).trans ((result2_1 m c).trans (b1 c 1))
    · exact (h.1 c _ (Pipeline.devRef_mem_ucRefs rfl)).trans ((result2_2 m c).trans (b1 c 2))
    · exact (h.1 c _ (Pipeline.devRef_mem_ucRefs rfl)).trans ((result2_3 m c).trans (b1 c 3))
    · exact (h.1 c _ (Pipeline.devRef_mem_ucRefs rfl)).trans ((result3_0 m c).trans (b2 c 0))
    · exact (h.1 c _ (Pipeline.devRef_mem_ucRefs rfl)).trans ((result3_1 m c).trans (b2 c 1))
    · exact (h.1 c _ (Pipeline.devRef_mem_ucRefs rfl)).trans ((result3_2 m c).trans (b2 c 2))
    · exact (h.1 c _ (Pipeline.devRef_mem_ucRefs rfl)).trans ((result3_3 m c).trans (b2 c 3))
    · exact (h.1 c _ (Pipeline.devRef_mem_ucRefs rfl)).trans ((result4_0 m c).trans (b3 c 0))
    · exact (h.1 c _ (Pipeline.devRef_mem_ucRefs rfl)).trans ((result4_1 m c).trans (b3 c 1))
    · exact (h.1 c _ (Pipeline.devRef_mem_ucRefs rfl)).trans ((result4_2 m c).trans (b3 c 2))
    · exact (h.1 c _ (Pipeline.devRef_mem_ucRefs rfl)).trans ((result4_3 m c).trans (b3 c 3))
  · exact (θ_run (Cert.UpdateRefIdeal.defs (F := Ideal)) _ _).mono (fun r h => h 0) (Cert.UpdateRefIdeal.Value.run (F := Ideal) m' g')

end Cert.UpdateClaims

end
-- ==== Proof.SmallClaims.lean ====
/-
The claims about the calls on the small weights, each on one device: the sum of the devices' small gradients, the gradient of
the conditioning matrix, and the AdamW steps of the stacked vectors, of the convolution's taps and of the conditioning matrix.
-/
module

public import proofs.«01_k».proof.Defs
public import proofs.«01_k».proof.Proof.Gen.AdamSmall.Value
public import proofs.«01_k».proof.Proof.Gen.AdamSmallIdeal.Value
public import proofs.«01_k».proof.Proof.Gen.AdamSmallRefIdeal.Run
public import proofs.«01_k».proof.Proof.Gen.AdamConv.Value
public import proofs.«01_k».proof.Proof.Gen.AdamConvIdeal.Value
public import proofs.«01_k».proof.Proof.Gen.AdamConvRefIdeal.Run
public import proofs.«01_k».proof.Proof.Gen.AdamAda.Value
public import proofs.«01_k».proof.Proof.Gen.AdamAdaIdeal.Value
public import proofs.«01_k».proof.Proof.Gen.AdamAdaRefIdeal.Run
public import proofs.«01_k».proof.Proof.Gen.SumSmall.Value
public import proofs.«01_k».proof.Proof.Gen.SumSmallIdeal.Value
public import proofs.«01_k».proof.Proof.Gen.SumSmallRefIdeal.Run
public import proofs.«01_k».proof.Proof.Gen.GradAda.Value
public import proofs.«01_k».proof.Proof.Gen.GradAdaIdeal.Value
public import proofs.«01_k».proof.Proof.Gen.GradAdaRefIdeal.Run
public import Idealize.ShloMosaic.Lib.Quiescent
public import Idealize.ShloMosaic.Lib.IdealHost
public import Idealize.ShloMosaic.Lib.Pointwise

@[expose] public section

noncomputable section

namespace Cert.SmallClaims

open Idealize.ShloMosaic Idealize.ShloMosaic.TcCoe
open Idealize.SL.Sem

/-! ## The AdamW steps -/

/-- `AdamSmall` and its reference end with the same weight change and moments. -/
theorem algebraic_AdamSmall : Cert.algebraic_AdamSmallIdeal_AdamSmallRefIdeal := by
  intro m g m' g' _ hm
  refine ⟨fun c => Cert.AdamSmallIdeal.Value.G4 (F := Ideal) (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg0)) (m ((c.tc : Thread Cert.AdamSmallIdeal.nD Cert.AdamSmallIdeal.τ).loc Cert.AdamSmallIdeal.main_arg2)) (m ((c.tc : Thread Cert.AdamSmallIdeal.nD Cert.AdamSmallIdeal.τ).loc Cert.AdamSmallIdeal.main_arg3)),
    fun c => Cert.AdamSmallIdeal.Value.G5 (F := Ideal) (m ((c.tc : Thread Cert.AdamSmallIdeal.nD Cert.AdamSmallIdeal.τ).loc Cert.AdamSmallIdeal.main_arg0)) (m ((c.tc : Thread Cert.AdamSmallIdeal.nD Cert.AdamSmallIdeal.τ).loc Cert.AdamSmallIdeal.main_arg2)),
    fun c => Cert.AdamSmallIdeal.Value.G6 (F := Ideal) (m ((c.tc : Thread Cert.AdamSmallIdeal.nD Cert.AdamSmallIdeal.τ).loc Cert.AdamSmallIdeal.main_arg0)) (m ((c.tc : Thread Cert.AdamSmallIdeal.nD Cert.AdamSmallIdeal.τ).loc Cert.AdamSmallIdeal.main_arg3)), Cert.AdamSmallIdeal.Value.run (F := Ideal) m g, ?_⟩
  refine (θ_run (Cert.AdamSmallRefIdeal.defs (F := Ideal)) _ _).mono (fun r h c => ?_) (Cert.AdamSmallRefIdeal.Value.run (F := Ideal) m' g')
  have hr := h c
  rw [(hm c).1, (hm c).2.1, (hm c).2.2.1, (hm c).2.2.2] at hr
  exact ⟨hr.1.trans rfl, hr.2.1.trans rfl, hr.2.2.1.trans rfl, hr.2.2.2.1.trans (hm c).1.symm, hr.2.2.2.2.1.trans (hm c).2.1.symm,
    hr.2.2.2.2.2.1.trans (hm c).2.2.1.symm, hr.2.2.2.2.2.2.trans (hm c).2.2.2.symm⟩

theorem frameRef_AdamSmall : Cert.quiescent_AdamSmallRefIdeal := fun m ρ _ => (θ_run (Cert.AdamSmallRefIdeal.defs (F := Ideal)) _ _).mono
  (fun r h => ⟨fun c => (h c).2.2.2, sem_eq_zero_of_no_sems (by decide) r.2⟩) (Cert.AdamSmallRefIdeal.Value.run (F := Ideal) m ρ)

/-- `AdamConv` and its reference end with the same weight change and moments. -/
theorem algebraic_AdamConv : Cert.algebraic_AdamConvIdeal_AdamConvRefIdeal := by
  intro m g m' g' _ hm
  refine ⟨fun c => Cert.AdamConvIdeal.Value.G4 (F := Ideal) (m ((c.tc : Thread Cert.AdamConvIdeal.nD Cert.AdamConvIdeal.τ).loc Cert.AdamConvIdeal.main_arg1)) (m ((c.tc : Thread Cert.AdamConvIdeal.nD Cert.AdamConvIdeal.τ).loc Cert.AdamConvIdeal.main_arg0)) (m ((c.tc : Thread Cert.AdamConvIdeal.nD Cert.AdamConvIdeal.τ).loc Cert.AdamConvIdeal.main_arg2)) (m ((c.tc : Thread Cert.AdamConvIdeal.nD Cert.AdamConvIdeal.τ).loc Cert.AdamConvIdeal.main_arg3)),
    fun c => Cert.AdamConvIdeal.Value.G5 (F := Ideal) (m ((c.tc : Thread Cert.AdamConvIdeal.nD Cert.AdamConvIdeal.τ).loc Cert.AdamConvIdeal.main_arg0)) (m ((c.tc : Thread Cert.AdamConvIdeal.nD Cert.AdamConvIdeal.τ).loc Cert.AdamConvIdeal.main_arg2)),
    fun c => Cert.AdamConvIdeal.Value.G6 (F := Ideal) (m ((c.tc : Thread Cert.AdamConvIdeal.nD Cert.AdamConvIdeal.τ).loc Cert.AdamConvIdeal.main_arg0)) (m ((c.tc : Thread Cert.AdamConvIdeal.nD Cert.AdamConvIdeal.τ).loc Cert.AdamConvIdeal.main_arg3)), Cert.AdamConvIdeal.Value.run (F := Ideal) m g, ?_⟩
  refine (θ_run (Cert.AdamConvRefIdeal.defs (F := Ideal)) _ _).mono (fun r h c => ?_) (Cert.AdamConvRefIdeal.Value.run (F := Ideal) m' g')
  have hr := h c
  rw [(hm c).1, (hm c).2.1, (hm c).2.2.1, (hm c).2.2.2] at hr
  exact ⟨hr.1.trans rfl, hr.2.1.trans rfl, hr.2.2.1.trans rfl, hr.2.2.2.1.trans (hm c).1.symm, hr.2.2.2.2.1.trans (hm c).2.1.symm,
    hr.2.2.2.2.2.1.trans (hm c).2.2.1.symm, hr.2.2.2.2.2.2.trans (hm c).2.2.2.symm⟩

theorem frameRef_AdamConv : Cert.quiescent_AdamConvRefIdeal := fun m ρ _ => (θ_run (Cert.AdamConvRefIdeal.defs (F := Ideal)) _ _).mono
  (fun r h => ⟨fun c => (h c).2.2.2, sem_eq_zero_of_no_sems (by decide) r.2⟩) (Cert.AdamConvRefIdeal.Value.run (F := Ideal) m ρ)

/-- `AdamAda` and its reference end with the same weight change and moments. -/
theorem algebraic_AdamAda : Cert.algebraic_AdamAdaIdeal_AdamAdaRefIdeal := by
  intro m g m' g' _ hm
  refine ⟨fun c => Cert.AdamAdaIdeal.Value.G4 (F := Ideal) (m ((c.tc : Thread Cert.AdamAdaIdeal.nD Cert.AdamAdaIdeal.τ).loc Cert.AdamAdaIdeal.main_arg1)) (m ((c.tc : Thread Cert.AdamAdaIdeal.nD Cert.AdamAdaIdeal.τ).loc Cert.AdamAdaIdeal.main_arg0)) (m ((c.tc : Thread Cert.AdamAdaIdeal.nD Cert.AdamAdaIdeal.τ).loc Cert.AdamAdaIdeal.main_arg2)) (m ((c.tc : Thread Cert.AdamAdaIdeal.nD Cert.AdamAdaIdeal.τ).loc Cert.AdamAdaIdeal.main_arg3)),
    fun c => Cert.AdamAdaIdeal.Value.G5 (F := Ideal) (m ((c.tc : Thread Cert.AdamAdaIdeal.nD Cert.AdamAdaIdeal.τ).loc Cert.AdamAdaIdeal.main_arg0)) (m ((c.tc : Thread Cert.AdamAdaIdeal.nD Cert.AdamAdaIdeal.τ).loc Cert.AdamAdaIdeal.main_arg2)),
    fun c => Cert.AdamAdaIdeal.Value.G6 (F := Ideal) (m ((c.tc : Thread Cert.AdamAdaIdeal.nD Cert.AdamAdaIdeal.τ).loc Cert.AdamAdaIdeal.main_arg0)) (m ((c.tc : Thread Cert.AdamAdaIdeal.nD Cert.AdamAdaIdeal.τ).loc Cert.AdamAdaIdeal.main_arg3)), Cert.AdamAdaIdeal.Value.run (F := Ideal) m g, ?_⟩
  refine (θ_run (Cert.AdamAdaRefIdeal.defs (F := Ideal)) _ _).mono (fun r h c => ?_) (Cert.AdamAdaRefIdeal.Value.run (F := Ideal) m' g')
  have hr := h c
  rw [(hm c).1, (hm c).2.1, (hm c).2.2.1, (hm c).2.2.2] at hr
  exact ⟨hr.1.trans rfl, hr.2.1.trans rfl, hr.2.2.1.trans rfl, hr.2.2.2.1.trans (hm c).1.symm, hr.2.2.2.2.1.trans (hm c).2.1.symm,
    hr.2.2.2.2.2.1.trans (hm c).2.2.1.symm, hr.2.2.2.2.2.2.trans (hm c).2.2.2.symm⟩

theorem frameRef_AdamAda : Cert.quiescent_AdamAdaRefIdeal := fun m ρ _ => (θ_run (Cert.AdamAdaRefIdeal.defs (F := Ideal)) _ _).mono
  (fun r h => ⟨fun c => (h c).2.2.2, sem_eq_zero_of_no_sems (by decide) r.2⟩) (Cert.AdamAdaRefIdeal.Value.run (F := Ideal) m ρ)

/-! ## The sum of the devices' small gradients -/

/-- The seven additions of the kernel are the sum over the leading axis. -/
theorem sum_eq (x : Cert.SumSmallIdeal.S8x56x1024.Idx → Ideal .f32) (hr : Cert.SumSmallRefIdeal.S8x56x1024.ReducesTo [0] Cert.SumSmallRefIdeal.S56x1024) (hu : 0 < (Cert.SumSmallRefIdeal.S_).numel) :
    Host.reduceAdd (F := Ideal) (x : FVec Ideal Cert.SumSmallRefIdeal.S8x56x1024 .f32) (constant Cert.SumSmallRefIdeal.S_ .f32 0x00000000#32) hr hu = Cert.SumSmallIdeal.Value.G1 (F := Ideal) x := by
  funext y
  obtain ⟨i, j, rfl⟩ : ∃ i j, y = ix2 i j := ⟨y 0, y 1, eq_ix2 y⟩
  unfold Cert.SumSmallIdeal.Value.G1
  pointwise [Cert.SumSmallIdeal.Gen.k0_pay1, Fin.sum_univ_eight, Ideal.ofBits_zero_f32]

theorem algebraic_SumSmall : Cert.algebraic_SumSmallIdeal_SumSmallRefIdeal := by
  intro m g m' g' _ hm
  refine ⟨fun c => Cert.SumSmallIdeal.Value.G1 (F := Ideal) (m ((c.tc : Thread Cert.SumSmallIdeal.nD Cert.SumSmallIdeal.τ).loc Cert.SumSmallIdeal.main_arg0)), Cert.SumSmallIdeal.Value.run (F := Ideal) m g, ?_⟩
  refine (θ_run (Cert.SumSmallRefIdeal.defs (F := Ideal)) _ _).mono (fun r h c => ?_) (Cert.SumSmallRefIdeal.Value.run (F := Ideal) m' g')
  have hr := h c
  rw [hm c] at hr
  exact ⟨hr.1.trans (sum_eq _ _ _), hr.2.trans (hm c).symm⟩

theorem frameRef_SumSmall : Cert.quiescent_SumSmallRefIdeal := fun m ρ _ => (θ_run (Cert.SumSmallRefIdeal.defs (F := Ideal)) _ _).mono
  (fun r h => ⟨fun c => (h c).2, sem_eq_zero_of_no_sems (by decide) r.2⟩) (Cert.SumSmallRefIdeal.Value.run (F := Ideal) m ρ)

/-! ## The gradient of the conditioning matrix -/

/-- The eight outer products of the kernel add up to the product of the two arrays. -/
theorem grad_eq (x : Cert.GradAdaIdeal.S1024x8.Idx → Ideal .f32) (z : Cert.GradAdaIdeal.S8x384.Idx → Ideal .f32) :
    Host.dotGeneral (F := Ideal) Cert.GradAdaRefIdeal.dot_S1024x8_S8x384_S1024x384_1_0_0_1_n_n none (x : FVec Ideal Cert.GradAdaRefIdeal.S1024x8 .f32) (z : FVec Ideal Cert.GradAdaRefIdeal.S8x384 .f32) = Cert.GradAdaIdeal.Value.G2 (F := Ideal) x z := by
  funext y
  obtain ⟨i, j, rfl⟩ : ∃ i j, y = ix2 i j := ⟨y 0, y 1, eq_ix2 y⟩
  unfold Cert.GradAdaIdeal.Value.G2
  pointwise [Cert.GradAdaIdeal.Gen.k0_pay1, Cert.GradAdaIdeal.Gen.k0_pay2, Fin.sum_univ_eight]

theorem algebraic_GradAda : Cert.algebraic_GradAdaIdeal_GradAdaRefIdeal := by
  intro m g m' g' _ hm
  refine ⟨fun c => Cert.GradAdaIdeal.Value.G2 (F := Ideal) (m ((c.tc : Thread Cert.GradAdaIdeal.nD Cert.GradAdaIdeal.τ).loc Cert.GradAdaIdeal.main_arg0)) (m ((c.tc : Thread Cert.GradAdaIdeal.nD Cert.GradAdaIdeal.τ).loc Cert.GradAdaIdeal.main_arg1)), Cert.GradAdaIdeal.Value.run (F := Ideal) m g, ?_⟩
  refine (θ_run (Cert.GradAdaRefIdeal.defs (F := Ideal)) _ _).mono (fun r h c => ?_) (Cert.GradAdaRefIdeal.Value.run (F := Ideal) m' g')
  have hr := h c
  rw [(hm c).1, (hm c).2] at hr
  exact ⟨hr.1.trans (grad_eq _ _), hr.2.1.trans (hm c).1.symm, hr.2.2.trans (hm c).2.symm⟩

theorem frameRef_GradAda : Cert.quiescent_GradAdaRefIdeal := fun m ρ _ => (θ_run (Cert.GradAdaRefIdeal.defs (F := Ideal)) _ _).mono
  (fun r h => ⟨fun c => (h c).2, sem_eq_zero_of_no_sems (by decide) r.2⟩) (Cert.GradAdaRefIdeal.Value.run (F := Ideal) m ρ)

end Cert.SmallClaims

end
-- ==== Proof.PassClaims.lean ====
/-
The claims about two small passes, each on one device: a device's columns of the conditioning, and the products of the
activations with the gradients, which are the devices' weight gradients.
-/
module

public import proofs.«01_k».proof.Defs
public import proofs.«01_k».proof.Proof.Gen.ModPart.Value
public import proofs.«01_k».proof.Proof.Gen.ModPartIdeal.Value
public import proofs.«01_k».proof.Proof.Gen.ModPartRefIdeal.Run
public import proofs.«01_k».proof.Proof.Gen.DwOutIdeal.Value
public import proofs.«01_k».proof.Proof.Gen.DwOutRefIdeal.Run
public import proofs.«01_k».proof.Proof.Gen.DwRetIdeal.Value
public import proofs.«01_k».proof.Proof.Gen.DwRetRefIdeal.Run
public import Idealize.ShloMosaic.Lib.Quiescent
public import Idealize.ShloMosaic.Lib.IdealHost
public import Idealize.ShloMosaic.Lib.Pointwise
public import Idealize.ShloMosaic.Lib.Pipeline.ValueKit

@[expose] public section

set_option maxRecDepth 16384

noncomputable section

namespace Cert.PassClaims

open Idealize.ShloMosaic Idealize.ShloMosaic.TcCoe
open Idealize.SL.Sem

/-! ## The columns of the conditioning -/

theorem mod_eq (x : Cert.ModPartIdeal.S8x1024.Idx → Ideal .f32) (w : Cert.ModPartIdeal.S1024x384.Idx → Ideal .f32) (b : Cert.ModPartIdeal.S1x384.Idx → Ideal .f32) :
    addf (Host.dotGeneral (F := Ideal) Cert.ModPartRefIdeal.dot_S8x1024_S1024x384_S8x384_1_0_0_1_n_n none (x : FVec Ideal Cert.ModPartRefIdeal.S8x1024 .f32) (w : FVec Ideal Cert.ModPartRefIdeal.S1024x384 .f32))
      (broadcastInDim Cert.ModPartRefIdeal.S8x384 ![0, 1] Cert.ModPartRefIdeal.Facts₀.bcast_S1x384_S8x384_0_1 (b : FVec Ideal Cert.ModPartRefIdeal.S1x384 .f32)) =
      Cert.ModPartIdeal.Value.G3 (F := Ideal) x w b := by
  funext y
  obtain ⟨i, j, rfl⟩ : ∃ i j, y = ix2 i j := ⟨y 0, y 1, eq_ix2 y⟩
  unfold Cert.ModPartIdeal.Value.G3
  pointwise [Cert.ModPartIdeal.Gen.k0_pay1]

theorem algebraic_ModPart : Cert.algebraic_ModPartIdeal_ModPartRefIdeal := by
  intro m g m' g' _ hm
  refine ⟨fun c => Cert.ModPartIdeal.Value.G3 (F := Ideal) (m ((c.tc : Thread Cert.ModPartIdeal.nD Cert.ModPartIdeal.τ).loc Cert.ModPartIdeal.main_arg0)) (m ((c.tc : Thread Cert.ModPartIdeal.nD Cert.ModPartIdeal.τ).loc Cert.ModPartIdeal.main_arg1)) (m ((c.tc : Thread Cert.ModPartIdeal.nD Cert.ModPartIdeal.τ).loc Cert.ModPartIdeal.main_arg2)), Cert.ModPartIdeal.Value.run (F := Ideal) m g, ?_⟩
  refine (θ_run (Cert.ModPartRefIdeal.defs (F := Ideal)) _ _).mono (fun r h c => ?_) (Cert.ModPartRefIdeal.Value.run (F := Ideal) m' g')
  have hr := h c
  rw [(hm c).1, (hm c).2.1, (hm c).2.2] at hr
  exact ⟨hr.1.trans (mod_eq _ _ _), hr.2.1.trans (hm c).1.symm, hr.2.2.1.trans (hm c).2.1.symm, hr.2.2.2.trans (hm c).2.2.symm⟩

theorem frameRef_ModPart : Cert.quiescent_ModPartRefIdeal := fun m ρ _ => (θ_run (Cert.ModPartRefIdeal.defs (F := Ideal)) _ _).mono
  (fun r h => ⟨fun c => (h c).2, sem_eq_zero_of_no_sems (by decide) r.2⟩) (Cert.ModPartRefIdeal.Value.run (F := Ideal) m ρ)

/-! ## The weight gradients -/

/-- Sixteen blocks' sums over 512 rows each, a block's number asked for only below the grid's size, are the sum over the rows. -/
theorem sum_blocks {N : ℕ} (hN : 16 = N) (f : Fin 8192 → Ideal .f32) (hf : ∀ n, n < N → ∀ q : Fin 512, 512 * n + q.val < 8192) :
    (∑ k ∈ Finset.range (15 + 1), if hn : k < N then ∑ q : Fin 512, f ⟨512 * k + q.val, hf k hn q⟩ else (0 : Ideal .f32)) = ∑ i, f i := by
  rw [Finset.sum_range]
  refine (Finset.sum_congr rfl fun s _ => ?_).trans (Fin.sum_mul_add_fin 16 512 f rfl)
  rw [dif_pos (lt_of_lt_of_eq s.isLt hN)]
  exact Finset.sum_congr rfl fun q _ => congrArg f (Fin.ext (congrArg (· + q.val) (Nat.mul_comm _ _)))

theorem row_lt {N : ℕ} (hN : N = 16) (n : ℕ) (hn : n < N) (q : Fin 512) : 512 * n + q.val < 8192 := by omega

/-- A sum that starts at zero every sixteen points and takes one block of 512 rows at each is, at the last of the sixteen, the sum over the rows. -/
theorem fold_blocks {N : ℕ} (hN : N = 16) {I : Type} (o : (n : ℕ) → n < N → I → Ideal .f32) (f : I → Fin 8192 → Ideal .f32)
    (hA : ∀ t : Fin N, t.val % 16 = 0 → ∀ i, o t.val t.isLt i = 0 + ∑ q : Fin 512, f i ⟨512 * t.val + q.val, row_lt hN t.val t.isLt q⟩)
    (hB : ∀ t : Fin N, ¬t.val % 16 = 0 → ∀ i, o t.val t.isLt i = o (t.val - 1) (Nat.lt_of_le_of_lt (Nat.sub_le _ _) t.isLt) i + ∑ q : Fin 512, f i ⟨512 * t.val + q.val, row_lt hN t.val t.isLt q⟩)
    (t : Fin N) (hr : t.val % 16 = 15) (i : I) : o t.val t.isLt i = ∑ k, f i k := by
  refine (Pipeline.eq_sum_of_reset_step_apply_single_of_mod o 16 (fun _ => (0 : Ideal .f32))
    (fun n i => if hn : n < N then ∑ q : Fin 512, f i ⟨512 * n + q.val, row_lt hN n hn q⟩ else (0 : Ideal .f32))
    (fun t h i => ?_) (fun t h i => ?_) hN.le t hr i).trans ?_
  · rw [dif_pos t.isLt]
    exact hA t h i
  · rw [dif_pos t.isLt]
    exact hB t h i
  · rw [zero_add]
    exact sum_blocks hN.symm (f i) (row_lt hN)

section DwOut

open Cert.DwOutIdeal Cert.DwOutIdeal.Gen

variable (m : (ℓ : Loc Cert.DwOutIdeal.nD Cert.DwOutIdeal.τ Cert.DwOutIdeal.sig) → Buf (Elt Ideal) ℓ) (c : Dev Cert.DwOutIdeal.nD)

/-- What token `k` adds to entry `(i, j)` of the product. -/
def outTerm (i : Fin 1024) (j : Fin 1024) (k : Fin 8192) : Ideal .f32 :=
  let a : Ideal .f32 := m (c.tc.loc Cert.DwOutIdeal.main_arg0) (ix2 k i)
  let b : Ideal .f32 := m (c.tc.loc Cert.DwOutIdeal.main_arg1) (ix2 k j)
  a * b

theorem outIdx : ∀ t : Fin grid0.N, win0_0.index t = ![t.val, 0] ∧ win0_1.index t = ![t.val, 0] ∧ win0_2.index t = ![0, 0] := by decide +kernel

theorem outN : cfg0.N = 16 := by decide +kernel

theorem outPay (t : Fin cfg0.N) (i : Fin 1024) (j : Fin 1024) (v : Vec Ideal S1024x1024 .f32) :
    k0_pay2 v (iblk m c 0 t) (iblk m c 1 t) (ix2 i j) =
      (v (ix2 i j) : Ideal .f32) + ∑ q : Fin 512, outTerm m c i j ⟨512 * t.val + q.val, row_lt outN t.val t.isLt q⟩ := by
  have h0 : ∀ q : Fin 512, iblk m c 0 t (ix2 q i) = m (c.tc.loc Cert.DwOutIdeal.main_arg0) (ix2 ⟨512 * t.val + q.val, row_lt outN t.val t.isLt q⟩ i) := fun q => by
    blk_ext! [iblk, V, outIdx t]
  have h1 : ∀ q : Fin 512, iblk m c 1 t (ix2 q j) = m (c.tc.loc Cert.DwOutIdeal.main_arg1) (ix2 ⟨512 * t.val + q.val, row_lt outN t.val t.isLt q⟩ j) := fun q => by
    blk_ext! [iblk, V, outIdx t]
  pointwise [k0_pay2]
  simp only [h0, h1]
  rfl

theorem outZero (y : S1024x1024.Idx) : (k0_pay1 (F := Ideal)) y = (0 : Ideal .f32) := by
  obtain ⟨i, j, rfl⟩ : ∃ i j, y = ix2 i j := ⟨y 0, y 1, eq_ix2 y⟩
  pointwise [k0_pay1, Ideal.ofBits_zero_f32]

theorem outArr : (dats (F := Ideal) m 0 c).arrAt 2 cfg0.N = (fun i => ∑ k, outTerm m c (i 0) (i 1) k) := by
  refine (dats m 0 c).arrAt_eq_of_covers 2 _ (by decide +kernel) fun t hf y => ?_
  have hy : (y : S1024x1024.Idx) = ix2 (y 0) (y 1) := eq_ix2 y
  have he : (((View.whole main_v0).slice (win0_2.rect t)).emb y : S1024x1024.Idx) = ix2 (y 0) (y 1) := by
    blk_ext! [outIdx t]
  have hr := (flush0_2 t).mp hf
  blk_simp
  rw [after0_2, he, hy]
  refine fold_blocks outN (fun n h => outsAt0 (F := Ideal) m c n h) (fun i => outTerm m c (i 0) (i 1)) (fun t h i => ?_) (fun t h i => ?_) t hr (ix2 (y 0) (y 1))
  · rw [outsAt0_A m c t h]
    frame_out
    exact (congrArg _ (eq_ix2 i)).trans ((outPay m c t _ _ _).trans (congrArg (· + _) (outZero _)))
  · rw [outsAt0_B m c t h]
    frame_out
    exact (congrArg _ (eq_ix2 i)).trans ((outPay m c t _ _ _).trans (congrArg (fun x => (outsAt0 (F := Ideal) m c (t.val - 1) _) x + _) (eq_ix2 i).symm))

theorem outRef (m' : (ℓ : Loc Cert.DwOutRefIdeal.nD Cert.DwOutRefIdeal.τ Cert.DwOutRefIdeal.sig) → Buf (Elt Ideal) ℓ)
    (h0 : m' (c.tc.loc Cert.DwOutRefIdeal.main_arg0) = m (c.tc.loc Cert.DwOutIdeal.main_arg0))
    (h1 : m' (c.tc.loc Cert.DwOutRefIdeal.main_arg1) = m (c.tc.loc Cert.DwOutIdeal.main_arg1)) :
    Host.dotGeneral (F := Ideal) Cert.DwOutRefIdeal.dot_S1024x8192_S8192x1024_S1024x1024_1_0_0_1_n_n none
      (transpose Cert.DwOutRefIdeal.S1024x8192 [1, 0] (extf .f32 (m' (c.tc.loc Cert.DwOutRefIdeal.main_arg0)) Cert.DwOutRefIdeal.Facts₀.bitsLt_bf16_f32) Cert.DwOutRefIdeal.Facts₀.transposes_S8192x1024_S1024x8192_1_0)
      (extf .f32 (m' (c.tc.loc Cert.DwOutRefIdeal.main_arg1)) Cert.DwOutRefIdeal.Facts₀.bitsLt_bf16_f32) =
      (fun i : S1024x1024.Idx => ∑ k, outTerm m c (i 0) (i 1) k) := by
  rw [h0, h1]
  funext y
  obtain ⟨i, j, rfl⟩ : ∃ i j, y = ix2 i j := ⟨y 0, y 1, eq_ix2 y⟩
  pointwise []
  rfl

theorem algebraic_DwOut : Cert.algebraic_DwOutIdeal_DwOutRefIdeal := by
  intro m g m' g' _ hm
  refine ⟨fun c => (dats (F := Ideal) m 0 c).arrAt 2 cfg0.N, Cert.DwOutIdeal.Value.run_blocks (F := Ideal) m g, ?_⟩
  refine (θ_run (Cert.DwOutRefIdeal.defs (F := Ideal)) _ _).mono (fun r h c => ?_) (Cert.DwOutRefIdeal.Value.run (F := Ideal) m' g')
  exact ⟨(h c).1.trans ((outRef m c m' (hm c).1 (hm c).2).trans (outArr m c).symm), (h c).2⟩

theorem frameRef_DwOut : Cert.quiescent_DwOutRefIdeal := fun m ρ _ => (θ_run (Cert.DwOutRefIdeal.defs (F := Ideal)) _ _).mono
  (fun r h => ⟨fun c => (h c).2, sem_eq_zero_of_no_sems (by decide) r.2⟩) (Cert.DwOutRefIdeal.Value.run (F := Ideal) m ρ)

end DwOut

section DwRet

open Cert.DwRetIdeal Cert.DwRetIdeal.Gen

variable (m : (ℓ : Loc Cert.DwRetIdeal.nD Cert.DwRetIdeal.τ Cert.DwRetIdeal.sig) → Buf (Elt Ideal) ℓ) (c : Dev Cert.DwRetIdeal.nD)

/-- What token `k` adds to entry `(i, j)` of the product. -/
def retTerm (i : Fin 2048) (j : Fin 1024) (k : Fin 8192) : Ideal .f32 :=
  let a : Ideal .f32 := m (c.tc.loc Cert.DwRetIdeal.main_arg0) (ix2 k i)
  let b : Ideal .f32 := m (c.tc.loc Cert.DwRetIdeal.main_arg1) (ix2 k j)
  a * b

theorem retIdx : ∀ t : Fin grid0.N, win0_0.index t = ![t.val, 0] ∧ win0_1.index t = ![t.val, 0] ∧ win0_2.index t = ![0, 0] := by decide +kernel

theorem retN : cfg0.N = 16 := by decide +kernel

theorem retPay (t : Fin cfg0.N) (i : Fin 2048) (j : Fin 1024) (v : Vec Ideal S2048x1024 .f32) :
    k0_pay2 v (iblk m c 0 t) (iblk m c 1 t) (ix2 i j) =
      (v (ix2 i j) : Ideal .f32) + ∑ q : Fin 512, retTerm m c i j ⟨512 * t.val + q.val, row_lt retN t.val t.isLt q⟩ := by
  have h0 : ∀ q : Fin 512, iblk m c 0 t (ix2 q i) = m (c.tc.loc Cert.DwRetIdeal.main_arg0) (ix2 ⟨512 * t.val + q.val, row_lt retN t.val t.isLt q⟩ i) := fun q => by
    blk_ext! [iblk, V, retIdx t]
  have h1 : ∀ q : Fin 512, iblk m c 1 t (ix2 q j) = m (c.tc.loc Cert.DwRetIdeal.main_arg1) (ix2 ⟨512 * t.val + q.val, row_lt retN t.val t.isLt q⟩ j) := fun q => by
    blk_ext! [iblk, V, retIdx t]
  pointwise [k0_pay2]
  simp only [h0, h1]
  rfl

theorem retZero (y : S2048x1024.Idx) : (k0_pay1 (F := Ideal)) y = (0 : Ideal .f32) := by
  obtain ⟨i, j, rfl⟩ : ∃ i j, y = ix2 i j := ⟨y 0, y 1, eq_ix2 y⟩
  pointwise [k0_pay1, Ideal.ofBits_zero_f32]

theorem retArr : (dats (F := Ideal) m 0 c).arrAt 2 cfg0.N = (fun i => ∑ k, retTerm m c (i 0) (i 1) k) := by
  refine (dats m 0 c).arrAt_eq_of_covers 2 _ (by decide +kernel) fun t hf y => ?_
  have hy : (y : S2048x1024.Idx) = ix2 (y 0) (y 1) := eq_ix2 y
  have he : (((View.whole main_v0).slice (win0_2.rect t)).emb y : S2048x1024.Idx) = ix2 (y 0) (y 1) := by
    blk_ext! [retIdx t]
  have hr := (flush0_2 t).mp hf
  blk_simp
  rw [after0_2, he, hy]
  refine fold_blocks retN (fun n h => outsAt0 (F := Ideal) m c n h) (fun i => retTerm m c (i 0) (i 1)) (fun t h i => ?_) (fun t h i => ?_) t hr (ix2 (y 0) (y 1))
  · rw [outsAt0_A m c t h]
    frame_out
    exact (congrArg _ (eq_ix2 i)).trans ((retPay m c t _ _ _).trans (congrArg (· + _) (retZero _)))
  · rw [outsAt0_B m c t h]
    frame_out
    exact (congrArg _ (eq_ix2 i)).trans ((retPay m c t _ _ _).trans (congrArg (fun x => (outsAt0 (F := Ideal) m c (t.val - 1) _) x + _) (eq_ix2 i).symm))

theorem retRef (m' : (ℓ : Loc Cert.DwRetRefIdeal.nD Cert.DwRetRefIdeal.τ Cert.DwRetRefIdeal.sig) → Buf (Elt Ideal) ℓ)
    (h0 : m' (c.tc.loc Cert.DwRetRefIdeal.main_arg0) = m (c.tc.loc Cert.DwRetIdeal.main_arg0))
    (h1 : m' (c.tc.loc Cert.DwRetRefIdeal.main_arg1) = m (c.tc.loc Cert.DwRetIdeal.main_arg1)) :
    Host.dotGeneral (F := Ideal) Cert.DwRetRefIdeal.dot_S2048x8192_S8192x1024_S2048x1024_1_0_0_1_n_n none
      (transpose Cert.DwRetRefIdeal.S2048x8192 [1, 0] (extf .f32 (m' (c.tc.loc Cert.DwRetRefIdeal.main_arg0)) Cert.DwRetRefIdeal.Facts₀.bitsLt_bf16_f32) Cert.DwRetRefIdeal.Facts₀.transposes_S8192x2048_S2048x8192_1_0)
      (extf .f32 (m' (c.tc.loc Cert.DwRetRefIdeal.main_arg1)) Cert.DwRetRefIdeal.Facts₀.bitsLt_bf16_f32) =
      (fun i : S2048x1024.Idx => ∑ k, retTerm m c (i 0) (i 1) k) := by
  rw [h0, h1]
  funext y
  obtain ⟨i, j, rfl⟩ : ∃ i j, y = ix2 i j := ⟨y 0, y 1, eq_ix2 y⟩
  pointwise []
  rfl

theorem algebraic_DwRet : Cert.algebraic_DwRetIdeal_DwRetRefIdeal := by
  intro m g m' g' _ hm
  refine ⟨fun c => (dats (F := Ideal) m 0 c).arrAt 2 cfg0.N, Cert.DwRetIdeal.Value.run_blocks (F := Ideal) m g, ?_⟩
  refine (θ_run (Cert.DwRetRefIdeal.defs (F := Ideal)) _ _).mono (fun r h c => ?_) (Cert.DwRetRefIdeal.Value.run (F := Ideal) m' g')
  exact ⟨(h c).1.trans ((retRef m c m' (hm c).1 (hm c).2).trans (retArr m c).symm), (h c).2⟩

theorem frameRef_DwRet : Cert.quiescent_DwRetRefIdeal := fun m ρ _ => (θ_run (Cert.DwRetRefIdeal.defs (F := Ideal)) _ _).mono
  (fun r h => ⟨fun c => (h c).2, sem_eq_zero_of_no_sems (by decide) r.2⟩) (Cert.DwRetRefIdeal.Value.run (F := Ideal) m ρ)

end DwRet

end Cert.PassClaims

end
-- ==== Proof.WeightClaims.lean ====
/-
The claims about the weight gradients of the three groups of projection columns, each on one device: products of the
transposed activations with the gradients, computed a block of columns at a time and, within it, a block of tokens at a time.
-/
module

public import proofs.«01_k».proof.Defs
public import proofs.«01_k».proof.Proof.Gen.DwInRIdeal.Value
public import proofs.«01_k».proof.Proof.Gen.DwInRRefIdeal.Run
public import proofs.«01_k».proof.Proof.Gen.DwInCIdeal.Value
public import proofs.«01_k».proof.Proof.Gen.DwInCRefIdeal.Run
public import proofs.«01_k».proof.Proof.Gen.DwInGIdeal.Value
public import proofs.«01_k».proof.Proof.Gen.DwInGRefIdeal.Run
public import Idealize.ShloMosaic.Lib.Quiescent
public import Idealize.ShloMosaic.Lib.IdealHost
public import Idealize.ShloMosaic.Lib.Pointwise
public import Idealize.ShloMosaic.Lib.Pipeline.ValueKit

@[expose] public section

set_option maxRecDepth 16384

noncomputable section

namespace Cert.WeightClaims

open Idealize.ShloMosaic Idealize.ShloMosaic.TcCoe
open Idealize.SL.Sem

/-- Row `q` of the block of 512 tokens that point `n` takes. -/
def token (n : ℕ) (q : Fin 512) : Fin 8192 := ⟨512 * (n % 16) + q.val, by omega⟩

/-- Column `j` of the `r`-th of `R` blocks of `B` columns. -/
def col {R B C : ℕ} (hC : B * R = C) (r : Fin R) (j : Fin B) : Fin C :=
  ⟨B * r.val + j.val, by
    subst hC
    calc B * r.val + j.val < B * r.val + B := Nat.add_lt_add_left j.isLt _
      _ = B * (r.val + 1) := rfl
      _ ≤ B * R := Nat.mul_le_mul_left _ r.isLt⟩

/-- The block of columns that point `t` works on. -/
def part {N R : ℕ} (hN : N = 16 * R) (t : Fin N) : Fin R := ⟨t.val / 16, by omega⟩

theorem sum_tokens (f : Fin 8192 → Ideal .f32) : (∑ k ∈ Finset.range (15 + 1), ∑ q : Fin 512, f (token k q)) = ∑ i, f i := by
  rw [Finset.sum_range]
  refine (Finset.sum_congr rfl fun s _ => ?_).trans (Fin.sum_mul_add_fin 16 512 f rfl)
  refine Finset.sum_congr rfl fun q _ => congrArg f (Fin.ext ?_)
  show 512 * (s.val % 16) + q.val = s.val * 512 + q.val
  omega

/-- A sum that starts at zero every sixteen points and takes one block of 512 tokens at each is, at the last of the sixteen, the sum over the tokens. -/
theorem fold_parts {N R : ℕ} (hN : N = 16 * R) {I : Type} (o : (n : ℕ) → n < N → I → Ideal .f32) (f : Fin R → I → Fin 8192 → Ideal .f32)
    (hA : ∀ t : Fin N, t.val % 16 = 0 → ∀ i, o t.val t.isLt i = 0 + ∑ q : Fin 512, f (part hN t) i (token t.val q))
    (hB : ∀ t : Fin N, ¬t.val % 16 = 0 → ∀ i, o t.val t.isLt i = o (t.val - 1) (Nat.lt_of_le_of_lt (Nat.sub_le _ _) t.isLt) i + ∑ q : Fin 512, f (part hN t) i (token t.val q))
    (t : Fin N) (hr : t.val % 16 = 15) (i : I) : o t.val t.isLt i = ∑ k, f (part hN t) i k := by
  refine (Pipeline.eq_sum_of_reset_step_apply_of_mod o 16 (fun _ => (0 : Ideal .f32))
    (fun n i => if hn : n < N then ∑ q : Fin 512, f (part hN ⟨n, hn⟩) i (token n q) else (0 : Ideal .f32))
    (fun t h i => ?_) (fun t h i => ?_) t hr i).trans ?_
  · rw [dif_pos t.isLt]
    exact hA t h i
  · rw [dif_pos t.isLt]
    exact hB t h i
  · rw [zero_add, ← sum_tokens (f (part hN t) i)]
    refine Finset.sum_congr rfl fun k hk => ?_
    have hk' : k < 16 := Finset.mem_range.mp hk
    have ht := t.isLt
    rw [dif_pos (show 16 * (t.val / 16) + k < N by omega)]
    refine Finset.sum_congr rfl fun q _ => congrArg₂ (fun r => f r i) (Fin.ext ?_) (Fin.ext ?_)
    · show (16 * (t.val / 16) + k) / 16 = t.val / 16
      omega
    · show 512 * ((16 * (t.val / 16) + k) % 16) + q.val = 512 * (k % 16) + q.val
      omega

section DwInR

open Cert.DwInRIdeal Cert.DwInRIdeal.Gen

variable (m : (ℓ : Loc Cert.DwInRIdeal.nD Cert.DwInRIdeal.τ Cert.DwInRIdeal.sig) → Buf (Elt Ideal) ℓ) (c : Dev Cert.DwInRIdeal.nD)

/-- What token `k` adds to entry `(i, j)` of the product. -/
def retTerm (i : Fin 1024) (j : Fin 6144) (k : Fin 8192) : Ideal .f32 :=
  let a : Ideal .f32 := m (c.tc.loc Cert.DwInRIdeal.main_arg0) (ix2 k i)
  let b : Ideal .f32 := m (c.tc.loc Cert.DwInRIdeal.main_arg1) (ix2 k j)
  a * b

theorem retIdx : ∀ t : Fin grid0.N, win0_0.index t = ![t.val % 16, 0] ∧ win0_1.index t = ![t.val % 16, t.val / 16] ∧ win0_2.index t = ![0, t.val / 16] := by decide +kernel

theorem retN : cfg0.N = 16 * 4 := by decide +kernel

theorem retC : 1536 * 4 = 6144 := rfl

theorem retPay (t : Fin cfg0.N) (i : Fin 1024) (j : Fin 1536) (v : Vec Ideal S1024x1536 .f32) :
    k0_pay2 v (iblk m c 0 t) (iblk m c 1 t) (ix2 i j) =
      (v (ix2 i j) : Ideal .f32) + ∑ q : Fin 512, retTerm m c i (col retC (part retN t) j) (token t.val q) := by
  have h0 : ∀ q : Fin 512, iblk m c 0 t (ix2 q i) = m (c.tc.loc Cert.DwInRIdeal.main_arg0) (ix2 (token t.val q) i) := fun q => by
    blk_ext! [iblk, V, retIdx t, token]
  have h1 : ∀ q : Fin 512, iblk m c 1 t (ix2 q j) = m (c.tc.loc Cert.DwInRIdeal.main_arg1) (ix2 (token t.val q) (col retC (part retN t) j)) := fun q => by
    blk_ext! [iblk, V, retIdx t, token, col, part]
  pointwise [k0_pay2]
  simp only [h0, h1]
  rfl

theorem retZero (y : S1024x1536.Idx) : (k0_pay1 (F := Ideal)) y = (0 : Ideal .f32) := by
  obtain ⟨i, j, rfl⟩ : ∃ i j, y = ix2 i j := ⟨y 0, y 1, eq_ix2 y⟩
  pointwise [k0_pay1, Ideal.ofBits_zero_f32]

theorem retArr : (dats (F := Ideal) m 0 c).arrAt 2 cfg0.N = (fun i => ∑ k, retTerm m c (i 0) (i 1) k) := by
  refine (dats m 0 c).arrAt_eq_of_covers 2 _ (by decide +kernel) fun t hf y => ?_
  have hy : (y : S1024x1536.Idx) = ix2 (y 0) (y 1) := eq_ix2 y
  have he : (((View.whole main_v0).slice (win0_2.rect t)).emb y : S1024x6144.Idx) = ix2 (y 0) (col retC (part retN t) (y 1)) := by
    blk_ext! [retIdx t, col, part]
  have hr := (flush0_2 t).mp hf
  blk_simp
  rw [after0_2, he, hy]
  refine fold_parts retN (fun n h => outsAt0 (F := Ideal) m c n h) (fun r i => retTerm m c (i 0) (col retC r (i 1))) (fun t h i => ?_) (fun t h i => ?_) t hr (ix2 (y 0) (y 1))
  · rw [outsAt0_A m c t h]
    frame_out
    exact (congrArg _ (eq_ix2 i)).trans ((retPay m c t _ _ _).trans (congrArg (· + _) (retZero _)))
  · rw [outsAt0_B m c t h]
    frame_out
    exact (congrArg _ (eq_ix2 i)).trans ((retPay m c t _ _ _).trans (congrArg (fun x => (outsAt0 (F := Ideal) m c (t.val - 1) _) x + _) (eq_ix2 i).symm))

theorem retRef (m' : (ℓ : Loc Cert.DwInRRefIdeal.nD Cert.DwInRRefIdeal.τ Cert.DwInRRefIdeal.sig) → Buf (Elt Ideal) ℓ)
    (h0 : m' (c.tc.loc Cert.DwInRRefIdeal.main_arg0) = m (c.tc.loc Cert.DwInRIdeal.main_arg0))
    (h1 : m' (c.tc.loc Cert.DwInRRefIdeal.main_arg1) = m (c.tc.loc Cert.DwInRIdeal.main_arg1)) :
    Host.dotGeneral (F := Ideal) Cert.DwInRRefIdeal.dot_S1024x8192_S8192x6144_S1024x6144_1_0_0_1_n_n none
      (transpose Cert.DwInRRefIdeal.S1024x8192 [1, 0] (extf .f32 (m' (c.tc.loc Cert.DwInRRefIdeal.main_arg0)) Cert.DwInRRefIdeal.Facts₀.bitsLt_bf16_f32) Cert.DwInRRefIdeal.Facts₀.transposes_S8192x1024_S1024x8192_1_0)
      (extf .f32 (m' (c.tc.loc Cert.DwInRRefIdeal.main_arg1)) Cert.DwInRRefIdeal.Facts₀.bitsLt_bf16_f32) =
      (fun i : S1024x6144.Idx => ∑ k, retTerm m c (i 0) (i 1) k) := by
  rw [h0, h1]
  funext y
  obtain ⟨i, j, rfl⟩ : ∃ i j, y = ix2 i j := ⟨y 0, y 1, eq_ix2 y⟩
  pointwise []
  rfl

theorem algebraic_DwInR : Cert.algebraic_DwInRIdeal_DwInRRefIdeal := by
  intro m g m' g' _ hm
  refine ⟨fun c => (dats (F := Ideal) m 0 c).arrAt 2 cfg0.N, Cert.DwInRIdeal.Value.run_blocks (F := Ideal) m g, ?_⟩
  refine (θ_run (Cert.DwInRRefIdeal.defs (F := Ideal)) _ _).mono (fun r h c => ?_) (Cert.DwInRRefIdeal.Value.run (F := Ideal) m' g')
  exact ⟨(h c).1.trans ((retRef m c m' (hm c).1 (hm c).2).trans (retArr m c).symm), (h c).2⟩

theorem frameRef_DwInR : Cert.quiescent_DwInRRefIdeal := fun m ρ _ => (θ_run (Cert.DwInRRefIdeal.defs (F := Ideal)) _ _).mono
  (fun r h => ⟨fun c => (h c).2, sem_eq_zero_of_no_sems (by decide) r.2⟩) (Cert.DwInRRefIdeal.Value.run (F := Ideal) m ρ)

end DwInR

section DwInC

open Cert.DwInCIdeal Cert.DwInCIdeal.Gen

variable (m : (ℓ : Loc Cert.DwInCIdeal.nD Cert.DwInCIdeal.τ Cert.DwInCIdeal.sig) → Buf (Elt Ideal) ℓ) (c : Dev Cert.DwInCIdeal.nD)

/-- What token `k` adds to entry `(i, j)` of the product. -/
def convTerm (i : Fin 1024) (j : Fin 3072) (k : Fin 8192) : Ideal .f32 :=
  let a : Ideal .f32 := m (c.tc.loc Cert.DwInCIdeal.main_arg0) (ix2 k i)
  let b : Ideal .f32 := m (c.tc.loc Cert.DwInCIdeal.main_arg1) (ix2 k j)
  a * b

theorem convIdx : ∀ t : Fin grid0.N, win0_0.index t = ![t.val % 16, 0] ∧ win0_1.index t = ![t.val % 16, t.val / 16] ∧ win0_2.index t = ![0, t.val / 16] := by decide +kernel

theorem convN : cfg0.N = 16 * 3 := by decide +kernel

theorem convC : 1024 * 3 = 3072 := rfl

theorem convPay (t : Fin cfg0.N) (i : Fin 1024) (j : Fin 1024) (v : Vec Ideal S1024x1024 .f32) :
    k0_pay2 v (iblk m c 0 t) (iblk m c 1 t) (ix2 i j) =
      (v (ix2 i j) : Ideal .f32) + ∑ q : Fin 512, convTerm m c i (col convC (part convN t) j) (token t.val q) := by
  have h0 : ∀ q : Fin 512, iblk m c 0 t (ix2 q i) = m (c.tc.loc Cert.DwInCIdeal.main_arg0) (ix2 (token t.val q) i) := fun q => by
    blk_ext! [iblk, V, convIdx t, token]
  have h1 : ∀ q : Fin 512, iblk m c 1 t (ix2 q j) = m (c.tc.loc Cert.DwInCIdeal.main_arg1) (ix2 (token t.val q) (col convC (part convN t) j)) := fun q => by
    blk_ext! [iblk, V, convIdx t, token, col, part]
  pointwise [k0_pay2]
  simp only [h0, h1]
  rfl

theorem convZero (y : S1024x1024.Idx) : (k0_pay1 (F := Ideal)) y = (0 : Ideal .f32) := by
  obtain ⟨i, j, rfl⟩ : ∃ i j, y = ix2 i j := ⟨y 0, y 1, eq_ix2 y⟩
  pointwise [k0_pay1, Ideal.ofBits_zero_f32]

theorem convArr : (dats (F := Ideal) m 0 c).arrAt 2 cfg0.N = (fun i => ∑ k, convTerm m c (i 0) (i 1) k) := by
  refine (dats m 0 c).arrAt_eq_of_covers 2 _ (by decide +kernel) fun t hf y => ?_
  have hy : (y : S1024x1024.Idx) = ix2 (y 0) (y 1) := eq_ix2 y
  have he : (((View.whole main_v0).slice (win0_2.rect t)).emb y : S1024x3072.Idx) = ix2 (y 0) (col convC (part convN t) (y 1)) := by
    blk_ext! [convIdx t, col, part]
  have hr := (flush0_2 t).mp hf
  blk_simp
  rw [after0_2, he, hy]
  refine fold_parts convN (fun n h => outsAt0 (F := Ideal) m c n h) (fun r i => convTerm m c (i 0) (col convC r (i 1))) (fun t h i => ?_) (fun t h i => ?_) t hr (ix2 (y 0) (y 1))
  · rw [outsAt0_A m c t h]
    frame_out
    exact (congrArg _ (eq_ix2 i)).trans ((convPay m c t _ _ _).trans (congrArg (· + _) (convZero _)))
  · rw [outsAt0_B m c t h]
    frame_out
    exact (congrArg _ (eq_ix2 i)).trans ((convPay m c t _ _ _).trans (congrArg (fun x => (outsAt0 (F := Ideal) m c (t.val - 1) _) x + _) (eq_ix2 i).symm))

theorem convRef (m' : (ℓ : Loc Cert.DwInCRefIdeal.nD Cert.DwInCRefIdeal.τ Cert.DwInCRefIdeal.sig) → Buf (Elt Ideal) ℓ)
    (h0 : m' (c.tc.loc Cert.DwInCRefIdeal.main_arg0) = m (c.tc.loc Cert.DwInCIdeal.main_arg0))
    (h1 : m' (c.tc.loc Cert.DwInCRefIdeal.main_arg1) = m (c.tc.loc Cert.DwInCIdeal.main_arg1)) :
    Host.dotGeneral (F := Ideal) Cert.DwInCRefIdeal.dot_S1024x8192_S8192x3072_S1024x3072_1_0_0_1_n_n none
      (transpose Cert.DwInCRefIdeal.S1024x8192 [1, 0] (extf .f32 (m' (c.tc.loc Cert.DwInCRefIdeal.main_arg0)) Cert.DwInCRefIdeal.Facts₀.bitsLt_bf16_f32) Cert.DwInCRefIdeal.Facts₀.transposes_S8192x1024_S1024x8192_1_0)
      (extf .f32 (m' (c.tc.loc Cert.DwInCRefIdeal.main_arg1)) Cert.DwInCRefIdeal.Facts₀.bitsLt_bf16_f32) =
      (fun i : S1024x3072.Idx => ∑ k, convTerm m c (i 0) (i 1) k) := by
  rw [h0, h1]
  funext y
  obtain ⟨i, j, rfl⟩ : ∃ i j, y = ix2 i j := ⟨y 0, y 1, eq_ix2 y⟩
  pointwise []
  rfl

theorem algebraic_DwInC : Cert.algebraic_DwInCIdeal_DwInCRefIdeal := by
  intro m g m' g' _ hm
  refine ⟨fun c => (dats (F := Ideal) m 0 c).arrAt 2 cfg0.N, Cert.DwInCIdeal.Value.run_blocks (F := Ideal) m g, ?_⟩
  refine (θ_run (Cert.DwInCRefIdeal.defs (F := Ideal)) _ _).mono (fun r h c => ?_) (Cert.DwInCRefIdeal.Value.run (F := Ideal) m' g')
  exact ⟨(h c).1.trans ((convRef m c m' (hm c).1 (hm c).2).trans (convArr m c).symm), (h c).2⟩

theorem frameRef_DwInC : Cert.quiescent_DwInCRefIdeal := fun m ρ _ => (θ_run (Cert.DwInCRefIdeal.defs (F := Ideal)) _ _).mono
  (fun r h => ⟨fun c => (h c).2, sem_eq_zero_of_no_sems (by decide) r.2⟩) (Cert.DwInCRefIdeal.Value.run (F := Ideal) m ρ)

end DwInC

section DwInG

open Cert.DwInGIdeal Cert.DwInGIdeal.Gen

variable (m : (ℓ : Loc Cert.DwInGIdeal.nD Cert.DwInGIdeal.τ Cert.DwInGIdeal.sig) → Buf (Elt Ideal) ℓ) (c : Dev Cert.DwInGIdeal.nD)

/-- What token `k` adds to entry `(i, j)` of the product. -/
def gateTerm (i : Fin 1024) (j : Fin 2048) (k : Fin 8192) : Ideal .f32 :=
  let a : Ideal .f32 := m (c.tc.loc Cert.DwInGIdeal.main_arg0) (ix2 k i)
  let b : Ideal .f32 := m (c.tc.loc Cert.DwInGIdeal.main_arg1) (ix2 k j)
  a * b

theorem gateIdx : ∀ t : Fin grid0.N, win0_0.index t = ![t.val % 16, 0] ∧ win0_1.index t = ![t.val % 16, t.val / 16] ∧ win0_2.index t = ![0, t.val / 16] := by decide +kernel

theorem gateN : cfg0.N = 16 * 2 := by decide +kernel

theorem gateC : 1024 * 2 = 2048 := rfl

theorem gatePay (t : Fin cfg0.N) (i : Fin 1024) (j : Fin 1024) (v : Vec Ideal S1024x1024 .f32) :
    k0_pay2 v (iblk m c 0 t) (iblk m c 1 t) (ix2 i j) =
      (v (ix2 i j) : Ideal .f32) + ∑ q : Fin 512, gateTerm m c i (col gateC (part gateN t) j) (token t.val q) := by
  have h0 : ∀ q : Fin 512, iblk m c 0 t (ix2 q i) = m (c.tc.loc Cert.DwInGIdeal.main_arg0) (ix2 (token t.val q) i) := fun q => by
    blk_ext! [iblk, V, gateIdx t, token]
  have h1 : ∀ q : Fin 512, iblk m c 1 t (ix2 q j) = m (c.tc.loc Cert.DwInGIdeal.main_arg1) (ix2 (token t.val q) (col gateC (part gateN t) j)) := fun q => by
    blk_ext! [iblk, V, gateIdx t, token, col, part]
  pointwise [k0_pay2]
  simp only [h0, h1]
  rfl

theorem gateZero (y : S1024x1024.Idx) : (k0_pay1 (F := Ideal)) y = (0 : Ideal .f32) := by
  obtain ⟨i, j, rfl⟩ : ∃ i j, y = ix2 i j := ⟨y 0, y 1, eq_ix2 y⟩
  pointwise [k0_pay1, Ideal.ofBits_zero_f32]

theorem gateArr : (dats (F := Ideal) m 0 c).arrAt 2 cfg0.N = (fun i => ∑ k, gateTerm m c (i 0) (i 1) k) := by
  refine (dats m 0 c).arrAt_eq_of_covers 2 _ (by decide +kernel) fun t hf y => ?_
  have hy : (y : S1024x1024.Idx) = ix2 (y 0) (y 1) := eq_ix2 y
  have he : (((View.whole main_v0).slice (win0_2.rect t)).emb y : S1024x2048.Idx) = ix2 (y 0) (col gateC (part gateN t) (y 1)) := by
    blk_ext! [gateIdx t, col, part]
  have hr := (flush0_2 t).mp hf
  blk_simp
  rw [after0_2, he, hy]
  refine fold_parts gateN (fun n h => outsAt0 (F := Ideal) m c n h) (fun r i => gateTerm m c (i 0) (col gateC r (i 1))) (fun t h i => ?_) (fun t h i => ?_) t hr (ix2 (y 0) (y 1))
  · rw [outsAt0_A m c t h]
    frame_out
    exact (congrArg _ (eq_ix2 i)).trans ((gatePay m c t _ _ _).trans (congrArg (· + _) (gateZero _)))
  · rw [outsAt0_B m c t h]
    frame_out
    exact (congrArg _ (eq_ix2 i)).trans ((gatePay m c t _ _ _).trans (congrArg (fun x => (outsAt0 (F := Ideal) m c (t.val - 1) _) x + _) (eq_ix2 i).symm))

theorem gateRef (m' : (ℓ : Loc Cert.DwInGRefIdeal.nD Cert.DwInGRefIdeal.τ Cert.DwInGRefIdeal.sig) → Buf (Elt Ideal) ℓ)
    (h0 : m' (c.tc.loc Cert.DwInGRefIdeal.main_arg0) = m (c.tc.loc Cert.DwInGIdeal.main_arg0))
    (h1 : m' (c.tc.loc Cert.DwInGRefIdeal.main_arg1) = m (c.tc.loc Cert.DwInGIdeal.main_arg1)) :
    Host.dotGeneral (F := Ideal) Cert.DwInGRefIdeal.dot_S1024x8192_S8192x2048_S1024x2048_1_0_0_1_n_n none
      (transpose Cert.DwInGRefIdeal.S1024x8192 [1, 0] (extf .f32 (m' (c.tc.loc Cert.DwInGRefIdeal.main_arg0)) Cert.DwInGRefIdeal.Facts₀.bitsLt_bf16_f32) Cert.DwInGRefIdeal.Facts₀.transposes_S8192x1024_S1024x8192_1_0)
      (extf .f32 (m' (c.tc.loc Cert.DwInGRefIdeal.main_arg1)) Cert.DwInGRefIdeal.Facts₀.bitsLt_bf16_f32) =
      (fun i : S1024x2048.Idx => ∑ k, gateTerm m c (i 0) (i 1) k) := by
  rw [h0, h1]
  funext y
  obtain ⟨i, j, rfl⟩ : ∃ i j, y = ix2 i j := ⟨y 0, y 1, eq_ix2 y⟩
  pointwise []
  rfl

theorem algebraic_DwInG : Cert.algebraic_DwInGIdeal_DwInGRefIdeal := by
  intro m g m' g' _ hm
  refine ⟨fun c => (dats (F := Ideal) m 0 c).arrAt 2 cfg0.N, Cert.DwInGIdeal.Value.run_blocks (F := Ideal) m g, ?_⟩
  refine (θ_run (Cert.DwInGRefIdeal.defs (F := Ideal)) _ _).mono (fun r h c => ?_) (Cert.DwInGRefIdeal.Value.run (F := Ideal) m' g')
  exact ⟨(h c).1.trans ((gateRef m c m' (hm c).1 (hm c).2).trans (gateArr m c).symm), (h c).2⟩

theorem frameRef_DwInG : Cert.quiescent_DwInGRefIdeal := fun m ρ _ => (θ_run (Cert.DwInGRefIdeal.defs (F := Ideal)) _ _).mono
  (fun r h => ⟨fun c => (h c).2, sem_eq_zero_of_no_sems (by decide) r.2⟩) (Cert.DwInGRefIdeal.Value.run (F := Ideal) m ρ)

end DwInG

end Cert.WeightClaims

end
-- ==== Proof.ConvBlocks.lean ====
/-
The claims about the Conformer branch on one device's tokens: the gated activations, the causal convolution over the
31 last tokens, the layer norm and the two gates. A tile reads its predecessor's last rows for the convolution.
-/
module

public import proofs.«01_k».proof.Defs
public import proofs.«01_k».proof.Proof.Gen.ConvFwdIdeal.Value
public import Idealize.ShloMosaic.Lib.Quiescent
public import Idealize.ShloMosaic.Lib.IdealHost
public import Idealize.ShloMosaic.Lib.Pointwise
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.PassConv

open Idealize.ShloMosaic Idealize.ShloMosaic.TcCoe
open Idealize.SL.Sem
open Cert.ConvFwdIdeal Cert.ConvFwdIdeal.Gen

/-- The memory of the version's program. -/
abbrev Mem : Type := (ℓ : Loc Cert.ConvFwdIdeal.nD Cert.ConvFwdIdeal.τ Cert.ConvFwdIdeal.sig) → Buf (Elt Ideal) ℓ

variable (m : Mem) (c : Dev Cert.ConvFwdIdeal.nD)

/-! ## The formulas, token by token -/

/-- The value, gate and branch gate columns of the projection. -/
def uVal (i : Fin 8192) (j : Fin 1024) : Ideal .f32 := m (c.tc.loc Cert.ConvFwdIdeal.main_arg0) (ix2 i (⟨6144 + j.val, by omega⟩ : Fin 11264))
def uGate (i : Fin 8192) (j : Fin 1024) : Ideal .f32 := m (c.tc.loc Cert.ConvFwdIdeal.main_arg0) (ix2 i (⟨7168 + j.val, by omega⟩ : Fin 11264))
def zGate (i : Fin 8192) (j : Fin 1024) : Ideal .f32 := m (c.tc.loc Cert.ConvFwdIdeal.main_arg0) (ix2 i (⟨8192 + j.val, by omega⟩ : Fin 11264))
def bias (j : Fin 1024) : Ideal .f32 := m (c.tc.loc Cert.ConvFwdIdeal.main_arg2) (ix2 0 j)
def lnG (j : Fin 1024) : Ideal .f32 := m (c.tc.loc Cert.ConvFwdIdeal.main_arg3) (ix2 0 j)
def lnB (j : Fin 1024) : Ideal .f32 := m (c.tc.loc Cert.ConvFwdIdeal.main_arg4) (ix2 0 j)

/-- The gated activations. -/
def act (i : Fin 8192) (j : Fin 1024) : Ideal .f32 := uVal m c i j * Ideal.logistic (uGate m c i j)

/-- The gated activations after thirty rows of zeros. -/
def padded (e : ℕ) (j : Fin 1024) : Ideal .f32 := if h : 30 ≤ e ∧ e < 8222 then act m c ⟨e - 30, by omega⟩ j else 0

/-- The convolution's weight for the `k`-th of its 31 rows. -/
def tapW (k : ℕ) (j : Fin 1024) : Ideal .f32 := m (c.tc.loc Cert.ConvFwdIdeal.main_arg1) (ix2 (Fin.ofNat 32 k) j)

/-- The convolution's first `n + 1` terms, added up one by one, at row `i`. -/
def taps (i : ℕ) (j : Fin 1024) : ℕ → Ideal .f32
  | 0 => tapW m c 0 j * padded m c i j
  | n + 1 => taps i j n + tapW m c (n + 1) j * padded m c (i + (n + 1)) j

/-- The convolution with its bias. -/
def conv (i : ℕ) (j : Fin 1024) : Ideal .f32 := taps m c i j 30 + bias m c j
/-- The mean of its row, what is left of an entry, and one over the root of the variance. -/
def mean (i : ℕ) : Ideal .f32 := Ideal.div (∑ k, conv m c i k) (Ideal.ofBits FTy.f32 1149239296#32)
def cen (i : ℕ) (j : Fin 1024) : Ideal .f32 := conv m c i j - mean m c i
def rstd (i : ℕ) : Ideal .f32 :=
  Ideal.rsqrt (Ideal.div (∑ k, cen m c i k * cen m c i k) (Ideal.ofBits FTy.f32 1149239296#32) + Ideal.ofBits FTy.f32 925353388#32)
def normed (i : ℕ) (j : Fin 1024) : Ideal .f32 := cen m c i j * rstd m c i * lnG m c j + lnB m c j
/-- The branch's activations. -/
def outAt (i : Fin 8192) (j : Fin 1024) : Ideal .f32 :=
  normed m c i.val j * Ideal.logistic (normed m c i.val j) * (zGate m c i j * Ideal.logistic (zGate m c i j))

/-! ## The blocks -/

theorem idx : ∀ t : Fin grid0.N, win0_0.index t = ![t.val, 6] ∧ win0_1.index t = ![t.val, 7] ∧ win0_2.index t = ![16 * t.val - 1, 6] ∧
    win0_3.index t = ![16 * t.val - 1, 7] ∧ win0_4.index t = ![t.val, 8] ∧ win0_5.index t = ![0, 0] ∧ win0_6.index t = ![0, 0] ∧
    win0_7.index t = ![0, 0] ∧ win0_8.index t = ![0, 0] ∧ win0_9.index t = ![t.val, 0] := by decide +kernel

theorem lt16 (t : Fin grid0.N) : t.val < 16 := lt_of_lt_of_eq t.isLt (by decide +kernel)

/-- Row `r` of tile `t`, and of the 32 rows before it (of the first tile itself, for the first). -/
def at512 (t : Fin grid0.N) (r : Fin 512) : Fin 8192 := ⟨512 * t.val + r.val, by have := lt16 t; omega⟩
def before (t : Fin grid0.N) (r : Fin 32) : Fin 8192 := ⟨32 * (16 * t.val - 1) + r.val, by have := lt16 t; omega⟩

theorem rd0 (t : Fin cfg0.N) (r : Fin 512) (k : Fin 1024) : iblk m c 0 t (ix2 r k) = uVal m c (at512 t r) k := by
  unfold uVal; blk_ext! [iblk, V, idx t, at512]
theorem rd1 (t : Fin cfg0.N) (r : Fin 512) (k : Fin 1024) : iblk m c 1 t (ix2 r k) = uGate m c (at512 t r) k := by
  unfold uGate; blk_ext! [iblk, V, idx t, at512]
theorem rd2 (t : Fin cfg0.N) (r : Fin 32) (k : Fin 1024) : iblk m c 2 t (ix2 r k) = uVal m c (before t r) k := by
  unfold uVal; blk_ext! [iblk, V, idx t, before]
theorem rd3 (t : Fin cfg0.N) (r : Fin 32) (k : Fin 1024) : iblk m c 3 t (ix2 r k) = uGate m c (before t r) k := by
  unfold uGate; blk_ext! [iblk, V, idx t, before]
theorem rd4 (t : Fin cfg0.N) (r : Fin 512) (k : Fin 1024) : iblk m c 4 t (ix2 r k) = zGate m c (at512 t r) k := by
  unfold zGate; blk_ext! [iblk, V, idx t, at512]
theorem rd5 (t : Fin cfg0.N) : iblk m c 5 t = m (c.tc.loc Cert.ConvFwdIdeal.main_arg1) := by
  blk_ext! [iblk, V, idx t]
theorem rd6 (t : Fin cfg0.N) : iblk m c 6 t = m (c.tc.loc Cert.ConvFwdIdeal.main_arg2) := by
  blk_ext! [iblk, V, idx t]
theorem rd7 (t : Fin cfg0.N) : iblk m c 7 t = m (c.tc.loc Cert.ConvFwdIdeal.main_arg3) := by
  blk_ext! [iblk, V, idx t]
theorem rd8 (t : Fin cfg0.N) : iblk m c 8 t = m (c.tc.loc Cert.ConvFwdIdeal.main_arg4) := by
  blk_ext! [iblk, V, idx t]

/-! ## The rows the convolution reads -/

/-- The rows of the tile, below the 32 rows before it. -/
theorem tile_at (t : Fin cfg0.N) (r : Fin 512) (j : Fin 1024) :
    k0_pay3 (iblk m c 0 t) (iblk m c 1 t) (ix2 r j) = padded m c (512 * t.val + (32 + r.val) - 2) j := by
  have ht := lt16 t
  unfold padded act
  rw [dif_pos (by omega)]
  pointwise [k0_pay3]
  rw [rd0, rd1]
  have e : at512 t r = ⟨512 * t.val + (32 + r.val) - 2 - 30, by omega⟩ := Fin.ext (by unfold at512; dsimp only; omega)
  rw [e]

/-- The 32 rows before the tile: zeros for the first. -/
theorem halo_at (t : Fin cfg0.N) (r : Fin 32) (j : Fin 1024) :
    k0_pay2 (grid0.coords t) (iblk m c 2 t) (iblk m c 3 t) (ix2 r j) = padded m c (512 * t.val + r.val - 2) j := by
  have ht := lt16 t
  have h0 : (Scalar.cmpi .eq (BitVec.ofNat 32 (grid0.coords t 0).val) 0#32 = 1#1) ↔ t.val = 0 := by
    revert t; decide +kernel
  unfold padded act
  pointwise [k0_pay2]
  rw [rd2, rd3]
  unfold Scalar.select
  by_cases h : t.val = 0
  · refine (if_pos (h0.mpr h)).trans ?_
    rw [dif_neg (by omega)]
  · have e : before t r = ⟨512 * t.val + r.val - 2 - 30, by omega⟩ := Fin.ext (by
      show _ = _
      unfold before
      dsimp only
      omega)
    refine (if_neg (fun q => h (h0.mp q))).trans ?_
    rw [dif_pos (by omega), e]

/-- The buffer that the tile and the rows before it are copied into. -/
theorem ext_at (t : Fin cfg0.N) (inb32 : ∀ a, ![32, 0] a + ![512, 1024] a ≤ S544x1024.size a) (inb0 : ∀ a, ![0, 0] a + ![32, 1024] a ≤ S544x1024.size a)
    (e : Fin 544) (j : Fin 1024) :
    View.canon (Val := Elt Ideal) (s := S544x1024) (e := .f32)
      [⟨Rect.unit (s := S544x1024) ![32, 0] ![512, 1024] inb32, k0_pay3 (iblk m c 0 t) (iblk m c 1 t)⟩,
        ⟨Rect.unit (s := S544x1024) ![0, 0] ![32, 1024] inb0, k0_pay2 (grid0.coords t) (iblk m c 2 t) (iblk m c 3 t)⟩] (ix2 e j) =
      padded m c (512 * t.val + e.val - 2) j := by
  rw [← View.read_writes_junk_apply_eq_canon (View.whole cc0_scratch0)]
  by_cases h : e.val < 32
  · refine (View.read_writes_cons_rows_of_not_mem (View.whole cc0_scratch0) _ (o := 32) (W := 512) inb32 _ _ (ix2 e j) rfl rfl (Or.inl h)).trans ?_
    refine (View.read_writes_cons_rows_of_mem (View.whole cc0_scratch0) _ (o := 0) inb0 _ _ (ix2 e j) (ix2 (⟨e.val, h⟩ : Fin 32) j : S32x1024.Idx) rfl (Nat.zero_add _).symm rfl).trans ?_
    exact halo_at m c t ⟨e.val, h⟩ j
  · have he : e.val = 32 + (e.val - 32) := by omega
    refine (View.read_writes_cons_rows_of_mem (View.whole cc0_scratch0) _ (o := 32) inb32 _ _ (ix2 e j) (ix2 (⟨e.val - 32, by omega⟩ : Fin 512) j : S512x1024.Idx) rfl he rfl).trans ?_
    refine (tile_at m c t ⟨e.val - 32, by omega⟩ j).trans ?_
    rw [← he]

/-- The rows that the convolution's `k`-th term multiplies. -/
def tapRows (t : Fin cfg0.N) (k : ℕ) : Vec Ideal S512x1024 .f32 := fun y => padded m c (512 * t.val + (y 0).val + k) (y 1)

/-- The weights that it multiplies them by. -/
def tapRow (k : ℕ) : Vec Ideal S1x1024 .f32 := fun y => tapW m c k (y 1)

theorem load_rows (t : Fin cfg0.N) (inb32 : ∀ a, ![32, 0] a + ![512, 1024] a ≤ S544x1024.size a) (inb0 : ∀ a, ![0, 0] a + ![32, 1024] a ≤ S544x1024.size a)
    (o : ℕ) (h : 2 ≤ o) (inb : ∀ a, ![o, 0] a + ![512, 1024] a ≤ S544x1024.size a) :
    (View.whole cc0_scratch0).readCov (Val := Elt Ideal)
      [⟨Rect.unit (s := S544x1024) ![32, 0] ![512, 1024] inb32, k0_pay3 (iblk m c 0 t) (iblk m c 1 t)⟩,
        ⟨Rect.unit (s := S544x1024) ![0, 0] ![32, 1024] inb0, k0_pay2 (grid0.coords t) (iblk m c 2 t) (iblk m c 3 t)⟩]
      (Rect.unit (s := S544x1024) ![o, 0] ![512, 1024] inb).toLoadRect = tapRows m c t (o - 2) := by
  rw [View.readCov_eq_canon']
  funext y
  obtain ⟨i, j, rfl⟩ : ∃ (i : Fin 512) (j : Fin 1024), y = (ix2 i j : S512x1024.Idx) := ⟨y 0, y 1, eq_ix2 y⟩
  have hk : o + 512 ≤ 544 := inb 0
  have he : (Rect.unit (s := S544x1024) ![o, 0] ![512, 1024] inb).toLoadRect.idx (ix2 i j : S512x1024.Idx) = (ix2 (⟨o + i.val, by omega⟩ : Fin 544) j : S544x1024.Idx) := by
    refine funext fun a => Fin.ext ?_
    refine (Rect.idx_unit_val ..).trans ?_
    fin_cases a
    · rfl
    · exact Nat.zero_add _
  rw [he, ext_at]
  show padded m c (512 * t.val + (o + i.val) - 2) j = padded m c (512 * t.val + i.val + (o - 2)) j
  congr 1
  omega

theorem load_row (t : Fin cfg0.N) (k : ℕ) (inb : ∀ a, ![k, 0] a + ![1, 1024] a ≤ S32x1024.size a) :
    View.ld (Val := Elt Ideal) (iblk m c 5 t) (Rect.unit (s := S32x1024) ![k, 0] ![1, 1024] inb) = tapRow m c k := by
  rw [rd5]
  funext y
  obtain ⟨i, j, rfl⟩ : ∃ (i : Fin 1) (j : Fin 1024), y = (ix2 i j : S1x1024.Idx) := ⟨y 0, y 1, eq_ix2 y⟩
  have hk : k + 1 ≤ 32 := inb 0
  refine congrArg (m (c.tc.loc Cert.ConvFwdIdeal.main_arg1)) (funext fun a => Fin.ext ?_)
  refine (Rect.idx_unit_val ..).trans ?_
  fin_cases a
  · show k + i.val = k % 32
    omega
  · exact Nat.zero_add _

/-! ## The terms, added up -/

/-- The first `n + 1` terms on the tile. -/
def acc (t : Fin cfg0.N) (n : ℕ) : Vec Ideal S512x1024 .f32 := fun y => taps m c (512 * t.val + (y 0).val) (y 1) n

theorem pay4 (t : Fin cfg0.N) : k0_pay4 (tapRow m c 0) (tapRows m c t 0) (tapRow m c 1) (tapRows m c t 1) = acc m c t 1 := by
  funext y
  obtain ⟨i, j, rfl⟩ : ∃ (i : Fin 512) (j : Fin 1024), y = (ix2 i j : S512x1024.Idx) := ⟨y 0, y 1, eq_ix2 y⟩
  pointwise [k0_pay4]
  rfl

theorem pay5 (t : Fin cfg0.N) :
    k0_pay5 (acc m c t 1) (tapRow m c 2) (tapRows m c t 2) (tapRow m c 3) (tapRows m c t 3) (tapRow m c 4) (tapRows m c t 4) (tapRow m c 5) (tapRows m c t 5) (tapRow m c 6) (tapRows m c t 6) (tapRow m c 7) (tapRows m c t 7) (tapRow m c 8) (tapRows m c t 8) =
      acc m c t 8 := by
  funext y
  obtain ⟨i, j, rfl⟩ : ∃ (i : Fin 512) (j : Fin 1024), y = (ix2 i j : S512x1024.Idx) := ⟨y 0, y 1, eq_ix2 y⟩
  pointwise [k0_pay5]
  rfl

theorem pay6 (t : Fin cfg0.N) :
    k0_pay6 (acc m c t 8) (tapRow m c 9) (tapRows m c t 9) (tapRow m c 10) (tapRows m c t 10) (tapRow m c 11) (tapRows m c t 11) (tapRow m c 12) (tapRows m c t 12) (tapRow m c 13) (tapRows m c t 13) (tapRow m c 14) (tapRows m c t 14) =
      acc m c t 14 := by
  funext y
  obtain ⟨i, j, rfl⟩ : ∃ (i : Fin 512) (j : Fin 1024), y = (ix2 i j : S512x1024.Idx) := ⟨y 0, y 1, eq_ix2 y⟩
  pointwise [k0_pay6]
  rfl

theorem pay8 (t : Fin cfg0.N) :
    k0_pay8 (acc m c t 14) (k0_pay7 (tapRow m c 15) (tapRows m c t 15)) (tapRow m c 16) (tapRows m c t 16) (tapRow m c 17) (tapRows m c t 17) (tapRow m c 18) (tapRows m c t 18) (tapRow m c 19) (tapRows m c t 19) (tapRow m c 20) (tapRows m c t 20) (tapRow m c 21) (tapRows m c t 21) =
      acc m c t 21 := by
  funext y
  obtain ⟨i, j, rfl⟩ : ∃ (i : Fin 512) (j : Fin 1024), y = (ix2 i j : S512x1024.Idx) := ⟨y 0, y 1, eq_ix2 y⟩
  pointwise [k0_pay8, k0_pay7]
  rfl

theorem pay9 (t : Fin cfg0.N) :
    k0_pay9 (acc m c t 21) (tapRow m c 22) (tapRows m c t 22) (tapRow m c 23) (tapRows m c t 23) (tapRow m c 24) (tapRows m c t 24) (tapRow m c 25) (tapRows m c t 25) (tapRow m c 26) (tapRows m c t 26) (tapRow m c 27) (tapRows m c t 27) (tapRow m c 28) (tapRows m c t 28) =
      acc m c t 28 := by
  funext y
  obtain ⟨i, j, rfl⟩ : ∃ (i : Fin 512) (j : Fin 1024), y = (ix2 i j : S512x1024.Idx) := ⟨y 0, y 1, eq_ix2 y⟩
  pointwise [k0_pay9]
  rfl

theorem pay10 (t : Fin cfg0.N) (i : Fin 512) (j : Fin 1024) :
    k0_pay10 (acc m c t 28) (tapRow m c 29) (tapRows m c t 29) (tapRow m c 30) (tapRows m c t 30) (iblk m c 6 t) (iblk m c 7 t) (iblk m c 8 t) (iblk m c 4 t) (ix2 i j) =
      outAt m c (at512 t i) j := by
  pointwise [k0_pay10]
  simp only [rd4, rd6, rd7, rd8]
  rfl

theorem outs (t : Fin cfg0.N) (i : Fin 512) (j : Fin 1024) : outsAt0 (F := Ideal) m c t (ix2 i j) = outAt m c (at512 t i) j := by
  unfold outsAt0
  frame_out
  simp only [load_row]
  repeat rw [load_rows]
  on_goal 1 =>
    simp only [Nat.reduceSub]
    rw [pay4, pay5, pay6, pay8, pay9]
    pointwise [k0_pay1]
    exact pay10 m c t i j
  all_goals decide

/-! ## The array the kernel leaves -/

theorem arr : (dats (F := Ideal) m 0 c).arrAt 9 cfg0.N = (fun i => outAt m c (i 0) (i 1)) := by
  refine (dats m 0 c).arrAt_eq_of_covers 9 _ (by decide +kernel) fun t hf y => ?_
  have hy : (y : S512x1024.Idx) = ix2 (y 0) (y 1) := eq_ix2 y
  have he : (((View.whole main_v0).slice (win0_9.rect t)).emb y : S8192x1024.Idx) = ix2 (at512 t (y 0)) (y 1) := by
    blk_ext! [idx t, at512]
  blk_simp
  rw [after0_9, he, hy]
  exact outs m c t (y 0) (y 1)

end Cert.PassConv

end
-- ==== Proof.GradXClaims.lean ====
/-
The claims about the pass that ends the backward pass of a device's tokens: the gradient of x through the projections,
the scaling and the root mean square, and the sums over the tokens that give the gradients of shift, scale and norm weight.
-/
module

public import proofs.«01_k».proof.Defs
public import proofs.«01_k».proof.Proof.Gen.GradXIdeal.Value
public import proofs.«01_k».proof.Proof.Gen.GradXRefIdeal.Run
public import Idealize.ShloMosaic.Lib.Quiescent
public import Idealize.ShloMosaic.Lib.IdealHost
public import Idealize.ShloMosaic.Lib.Pointwise
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.PassGradX

open Idealize.ShloMosaic Idealize.ShloMosaic.TcCoe
open Idealize.SL.Sem
open Cert.GradXIdeal Cert.GradXIdeal.Gen

/-- The gradient of one row of `h` at column `j`: the row's three gradients of projections against row `j` of each weight. -/
def dh (a : Fin 6144 → Ideal .f32) (b : Fin 3072 → Ideal .f32) (e : Fin 2048 → Ideal .f32) (wa : Fin 6144 → Ideal .f32)
    (wb : Fin 3072 → Ideal .f32) (we : Fin 2048 → Ideal .f32) : Ideal .f32 :=
  (∑ k, a k * wa k + ∑ k, b k * wb k + ∑ k, e k * we k : Ideal .f32)

/-- One over the root mean square of a row. -/
def rinv (x : Fin 1024 → Ideal .f32) : Ideal .f32 :=
  Ideal.rsqrt (Ideal.div (∑ k, x k * x k) (Ideal.ofBits FTy.f32 1149239296#32) + Ideal.ofBits FTy.f32 897988541#32)

/-- The gradient of one entry of `x`: row gradient `d` of `h`, row `x`, weight `g`, scale `s`, and the gradient `o` of the skip. -/
def gx (d x g s : Fin 1024 → Ideal .f32) (o : Ideal .f32) (j : Fin 1024) : Ideal .f32 :=
  o + rinv x * (d j * (1 + s j) * g j - x j * rinv x * Ideal.div (∑ k, d k * (1 + s k) * g k * (x k * rinv x)) (Ideal.ofBits FTy.f32 1149239296#32))

theorem pay_x (x0 : Vec Ideal S256x6144 .bf16) (x1 : Vec Ideal S256x3072 .bf16) (x2 : Vec Ideal S256x2048 .bf16)
    (x3 : Vec Ideal S1024x6144 .bf16) (x4 : Vec Ideal S1024x3072 .bf16) (x5 : Vec Ideal S1024x2048 .bf16)
    (x6 x7 : Vec Ideal S256x1024 .f32) (x8 x9 : Vec Ideal S1x1024 .f32) (r : Fin 256) (j : Fin 1024) :
    k0_pay9 (k0_pay2 x0 x3 x1 x4 x2 x5) (k0_pay3 x6) (k0_pay4 x6) x8 (k0_pay5 x9) x7 (ix2 r j) =
      gx (fun i => dh (fun k => x0 (ix2 r k)) (fun k => x1 (ix2 r k)) (fun k => x2 (ix2 r k)) (fun k => x3 (ix2 i k)) (fun k => x4 (ix2 i k))
          (fun k => x5 (ix2 i k))) (fun k => x6 (ix2 r k)) (fun k => x8 (ix2 0 k)) (fun k => x9 (ix2 0 k)) (x7 (ix2 r j)) j := by
  pointwise [k0_pay9, k0_pay2, k0_pay3, k0_pay4, k0_pay5]
  rfl

/-- The memory of the version's program. -/
abbrev Mem : Type := (ℓ : Loc Cert.GradXIdeal.nD Cert.GradXIdeal.τ Cert.GradXIdeal.sig) → Buf (Elt Ideal) ℓ

variable (m : Mem) (c : Dev Cert.GradXIdeal.nD)

/-- Row `i` of the gradient of `h`, from the arguments. -/
def dRow (i : Fin 8192) (j : Fin 1024) : Ideal .f32 :=
  dh (fun k => m (c.tc.loc Cert.GradXIdeal.main_arg0) (ix2 i k)) (fun k => m (c.tc.loc Cert.GradXIdeal.main_arg1) (ix2 i k)) (fun k => m (c.tc.loc Cert.GradXIdeal.main_arg2) (ix2 i k))
    (fun k => m (c.tc.loc Cert.GradXIdeal.main_arg3) (ix2 j k)) (fun k => m (c.tc.loc Cert.GradXIdeal.main_arg4) (ix2 j k)) (fun k => m (c.tc.loc Cert.GradXIdeal.main_arg5) (ix2 j k))

/-- The gradient of `x`, from the arguments. -/
def gradX (i : Fin 8192) (j : Fin 1024) : Ideal .f32 :=
  gx (dRow m c i) (fun k => m (c.tc.loc Cert.GradXIdeal.main_arg6) (ix2 i k)) (fun k => m (c.tc.loc Cert.GradXIdeal.main_arg8) (ix2 0 k)) (fun k => m (c.tc.loc Cert.GradXIdeal.main_arg9) (ix2 0 k))
    (m (c.tc.loc Cert.GradXIdeal.main_arg7) (ix2 i j)) j

theorem idx : ∀ t : Fin grid0.N, win0_0.index t = ![t.val, 0] ∧ win0_1.index t = ![t.val, 0] ∧ win0_2.index t = ![t.val, 0] ∧
    win0_3.index t = ![0, 0] ∧ win0_4.index t = ![0, 0] ∧ win0_5.index t = ![0, 0] ∧ win0_6.index t = ![t.val, 0] ∧
    win0_7.index t = ![t.val, 0] ∧ win0_8.index t = ![0, 0] ∧ win0_9.index t = ![0, 0] ∧ win0_10.index t = ![t.val, 0] ∧
    win0_11.index t = ![0, 0] := by decide +kernel

theorem at256_lt (t : Fin grid0.N) (r : Fin 256) : 256 * t.val + r.val < 8192 := by
  have h : t.val < 32 := lt_of_lt_of_eq t.isLt (by decide +kernel)
  omega

/-- Row `r` of block `t` is row `256 t + r` of the array. -/
def at256 (t : Fin grid0.N) (r : Fin 256) : Fin 8192 := ⟨256 * t.val + r.val, at256_lt t r⟩

theorem at256_val (t : Fin grid0.N) (r : Fin 256) : (at256 t r).val = 256 * t.val + r.val := rfl

theorem rd0 (t : Fin cfg0.N) (r : Fin 256) (k : Fin 6144) : iblk m c 0 t (ix2 r k) = m (c.tc.loc Cert.GradXIdeal.main_arg0) (ix2 (at256 t r) k) := by
  blk_ext! [iblk, V, idx t, at256_val]
theorem rd1 (t : Fin cfg0.N) (r : Fin 256) (k : Fin 3072) : iblk m c 1 t (ix2 r k) = m (c.tc.loc Cert.GradXIdeal.main_arg1) (ix2 (at256 t r) k) := by
  blk_ext! [iblk, V, idx t, at256_val]
theorem rd2 (t : Fin cfg0.N) (r : Fin 256) (k : Fin 2048) : iblk m c 2 t (ix2 r k) = m (c.tc.loc Cert.GradXIdeal.main_arg2) (ix2 (at256 t r) k) := by
  blk_ext! [iblk, V, idx t, at256_val]
theorem rd3 (t : Fin cfg0.N) : iblk m c 3 t = m (c.tc.loc Cert.GradXIdeal.main_arg3) := by
  blk_ext! [iblk, V, idx t]
theorem rd4 (t : Fin cfg0.N) : iblk m c 4 t = m (c.tc.loc Cert.GradXIdeal.main_arg4) := by
  blk_ext! [iblk, V, idx t]
theorem rd5 (t : Fin cfg0.N) : iblk m c 5 t = m (c.tc.loc Cert.GradXIdeal.main_arg5) := by
  blk_ext! [iblk, V, idx t]
theorem rd6 (t : Fin cfg0.N) (r : Fin 256) (k : Fin 1024) : iblk m c 6 t (ix2 r k) = m (c.tc.loc Cert.GradXIdeal.main_arg6) (ix2 (at256 t r) k) := by
  blk_ext! [iblk, V, idx t, at256_val]
theorem rd7 (t : Fin cfg0.N) (r : Fin 256) (k : Fin 1024) : iblk m c 7 t (ix2 r k) = m (c.tc.loc Cert.GradXIdeal.main_arg7) (ix2 (at256 t r) k) := by
  blk_ext! [iblk, V, idx t, at256_val]
theorem rd8 (t : Fin cfg0.N) : iblk m c 8 t = m (c.tc.loc Cert.GradXIdeal.main_arg8) := by
  blk_ext! [iblk, V, idx t]
theorem rd9 (t : Fin cfg0.N) : iblk m c 9 t = m (c.tc.loc Cert.GradXIdeal.main_arg9) := by
  blk_ext! [iblk, V, idx t]

theorem blk_x (t : Fin cfg0.N) (r : Fin 256) (j : Fin 1024) :
    k0_pay9 (k0_pay2 (iblk m c 0 t) (iblk m c 3 t) (iblk m c 1 t) (iblk m c 4 t) (iblk m c 2 t) (iblk m c 5 t))
      (k0_pay3 (iblk m c 6 t)) (k0_pay4 (iblk m c 6 t)) (iblk m c 8 t) (k0_pay5 (iblk m c 9 t)) (iblk m c 7 t) (ix2 r j) =
      gradX m c (at256 t r) j := by
  refine (pay_x _ _ _ _ _ _ _ _ _ _ r j).trans ?_
  simp only [rd0, rd1, rd2, rd3, rd4, rd5, rd6, rd7, rd8, rd9]
  rfl

theorem out10 : (dats (F := Ideal) m 0 c).arrAt 10 cfg0.N = (fun i => gradX m c (i 0) (i 1)) := by
  refine (dats m 0 c).arrAt_eq_of_covers 10 _ (by decide +kernel) fun t hf y => ?_
  have hy : (y : S256x1024.Idx) = ix2 (y 0) (y 1) := eq_ix2 y
  have he : (((View.whole main_v0_0).slice (win0_10.rect t)).emb y : S8192x1024.Idx) = ix2 (at256 t (y 0)) (y 1) := by
    blk_ext! [idx t]
    all_goals exact (congrArg (· + (y 0).val) (Nat.mul_comm _ _)).trans (at256_val t (y 0)).symm
  blk_simp
  rw [after0_10]
  by_cases h0 : t.val % 32 = 0
  · rw [outsAt0_A m c t h0]
    frame_out
    rw [he, hy]
    exact blk_x m c t _ _
  · rw [outsAt0_B m c t h0]
    frame_out
    rw [he, hy]
    exact blk_x m c t _ _

section Rows

variable {sig' : RefSig} {κ : Kind} {sp : Space}

/-- A buffer of eight rows after a write of row `o`: the written row there, what the earlier writes left elsewhere. -/
theorem read_row (v : View sig' κ sp S8x1024 .f32) (f : v.ty.Contents (Elt Ideal)) (o : ℕ) (inb : ∀ a, ![o, 0] a + ![1, 1024] a ≤ S8x1024.size a)
    (w : (Rect.unit (s := S8x1024) ![o, 0] ![1, 1024] inb).shape.Idx → Elt Ideal .f32) (L : List (View.Piece (Elt Ideal) S8x1024 .f32))
    (r : Fin 8) (j : Fin 1024) :
    v.read (Elt Ideal) (v.writes (Elt Ideal) f (⟨Rect.unit (s := S8x1024) ![o, 0] ![1, 1024] inb, w⟩ :: L)) (ix2 r j) =
      if r.val = o then w (ix2 0 j : S1x1024.Idx) else v.read (Elt Ideal) (v.writes (Elt Ideal) f L) (ix2 r j) := by
  by_cases h : r.val = o
  · rw [if_pos h]
    exact View.read_writes_cons_rows_of_mem v f inb w L (ix2 r j) (ix2 0 j : S1x1024.Idx) rfl (by exact h) rfl
  · rw [if_neg h]
    exact View.read_writes_cons_rows_of_not_mem v f (o := o) (W := 1) inb w L (ix2 r j) rfl rfl (by change r.val < o ∨ o + 1 ≤ r.val; omega)

/-- The same where nothing was there before the writes. -/
theorem canon_row (v : View sig' κ sp S8x1024 .f32) (o : ℕ) (inb : ∀ a, ![o, 0] a + ![1, 1024] a ≤ S8x1024.size a)
    (w : (Rect.unit (s := S8x1024) ![o, 0] ![1, 1024] inb).shape.Idx → Elt Ideal .f32) (L : List (View.Piece (Elt Ideal) S8x1024 .f32))
    (r : Fin 8) (j : Fin 1024) :
    View.canon (⟨Rect.unit (s := S8x1024) ![o, 0] ![1, 1024] inb, w⟩ :: L) (ix2 r j) =
      if r.val = o then w (ix2 0 j : S1x1024.Idx) else View.canon L (ix2 r j) := by
  rw [← View.read_writes_junk_apply_eq_canon v, ← View.read_writes_junk_apply_eq_canon v]
  exact read_row v _ o inb w L r j

/-- A load of row `o` of a buffer of eight rows. -/
theorem ld_row (X : S8x1024.Idx → Elt Ideal .f32) (o : ℕ) (inb : ∀ a, ![o, 0] a + ![1, 1024] a ≤ S8x1024.size a) (r : Fin 8) (hr : r.val = o)
    (j : Fin 1024) : View.ld X (Rect.unit (s := S8x1024) ![o, 0] ![1, 1024] inb) (ix2 0 j : S1x1024.Idx) = X (ix2 r j) := by
  subst hr
  refine congrArg X (funext fun a => Fin.ext ?_)
  rw [Rect.idx_unit_val]
  fin_cases a
  · exact Nat.add_zero _
  · exact Nat.zero_add _

end Rows

/-- The argument `x`, and one row of it over its root mean square. -/
def xAt (i : Fin 8192) (j : Fin 1024) : Ideal .f32 := m (c.tc.loc Cert.GradXIdeal.main_arg6) (ix2 i j)
def xHat (i : Fin 8192) (j : Fin 1024) : Ideal .f32 := xAt m c i j * rinv (xAt m c i)
/-- The norm's weight and the scale that the conditioning gives. -/
def gAt (j : Fin 1024) : Ideal .f32 := m (c.tc.loc Cert.GradXIdeal.main_arg8) (ix2 0 j)
def sAt (j : Fin 1024) : Ideal .f32 := m (c.tc.loc Cert.GradXIdeal.main_arg9) (ix2 0 j)

/-- What token `i` adds to entry `(r, j)` of the three sums. -/
def rowTerm (r : Fin 8) (j : Fin 1024) (i : Fin 8192) : Ideal .f32 :=
  if r.val = 2 then dRow m c i j * (1 + sAt m c j) * xHat m c i j
  else if r.val = 1 then dRow m c i j * (xHat m c i j * gAt m c j)
  else if r.val = 0 then dRow m c i j else 0

/-- What block `t` adds to entry `(r, j)` of the three sums. -/
def con (t : Fin cfg0.N) (r : Fin 8) (j : Fin 1024) : Ideal .f32 := ∑ q : Fin 256, rowTerm m c r j (at256 t q)

theorem row6 (t : Fin cfg0.N) (j : Fin 1024) (v : Vec Ideal S1x1024 .f32) :
    k0_pay6 (k0_pay2 (iblk m c 0 t) (iblk m c 3 t) (iblk m c 1 t) (iblk m c 4 t) (iblk m c 2 t) (iblk m c 5 t)) v (ix2 0 j) =
      (v (ix2 0 j) : Ideal .f32) + con m c t 0 j := by
  pointwise [k0_pay6, k0_pay2]
  simp only [rd0, rd1, rd2, rd3, rd4, rd5]
  rfl

theorem row7 (t : Fin cfg0.N) (j : Fin 1024) (v : Vec Ideal S1x1024 .f32) :
    k0_pay7 (k0_pay2 (iblk m c 0 t) (iblk m c 3 t) (iblk m c 1 t) (iblk m c 4 t) (iblk m c 2 t) (iblk m c 5 t)) (k0_pay4 (iblk m c 6 t))
      (iblk m c 8 t) v (ix2 0 j) = (v (ix2 0 j) : Ideal .f32) + con m c t 1 j := by
  pointwise [k0_pay7, k0_pay2, k0_pay3, k0_pay4]
  simp only [rd0, rd1, rd2, rd3, rd4, rd5, rd6, rd8]
  rfl

theorem row8 (t : Fin cfg0.N) (j : Fin 1024) (v : Vec Ideal S1x1024 .f32) :
    k0_pay8 (k0_pay2 (iblk m c 0 t) (iblk m c 3 t) (iblk m c 1 t) (iblk m c 4 t) (iblk m c 2 t) (iblk m c 5 t)) (k0_pay4 (iblk m c 6 t))
      (k0_pay5 (iblk m c 9 t)) v (ix2 0 j) = (v (ix2 0 j) : Ideal .f32) + con m c t 2 j := by
  pointwise [k0_pay8, k0_pay2, k0_pay3, k0_pay4, k0_pay5]
  simp only [rd0, rd1, rd2, rd3, rd4, rd5, rd6, rd9]
  rfl

theorem con_rest (t : Fin cfg0.N) (r : Fin 8) (j : Fin 1024) (h0 : ¬r.val = 0) (h1 : ¬r.val = 1) (h2 : ¬r.val = 2) : con m c t r j = 0 := by
  unfold con rowTerm
  simp only [if_neg h0, if_neg h1, if_neg h2, Finset.sum_const_zero]

/-- The three written rows added to what was there. -/
theorem step_rows (t : Fin cfg0.N) (r : Fin 8) (j : Fin 1024) (X : Vec Ideal S8x1024 .f32) (a b e : Ideal .f32)
    (ha : a = X (ix2 2 j) + con m c t 2 j) (hb : b = X (ix2 1 j) + con m c t 1 j) (he : e = X (ix2 0 j) + con m c t 0 j) :
    (if r.val = 2 then a else if r.val = 1 then b else if r.val = 0 then e else X (ix2 r j)) = (X (ix2 r j) : Ideal .f32) + con m c t r j := by
  by_cases h2 : r.val = 2
  · obtain rfl : r = 2 := Fin.ext h2
    rw [if_pos h2, ha]
  by_cases h1 : r.val = 1
  · obtain rfl : r = 1 := Fin.ext h1
    rw [if_neg h2, if_pos h1, hb]
  by_cases h0 : r.val = 0
  · obtain rfl : r = 0 := Fin.ext h0
    rw [if_neg h2, if_neg h1, if_pos h0, he]
  rw [if_neg h2, if_neg h1, if_neg h0, con_rest m c t r j h0 h1 h2]
  exact (add_zero _).symm

theorem acc_A (t : Fin cfg0.N) (h0 : t.val % 32 = 0) (r : Fin 8) (j : Fin 1024) :
    (outsAt0 (F := Ideal) m c t.val t.isLt).2 (ix2 r j) = (0 : Ideal .f32) + con m c t r j := by
  rw [outsAt0_A m c t h0]
  frame_open
  simp (disch := decide) only [↓ View.readCov_skip, ↓ View.readCov_cons_toLoadRect, ↓ View.readCov_fill]
  frame_out
  have hz : ∀ y : S8x1024.Idx, (k0_pay1 (F := Ideal)) y = (0 : Ideal .f32) := fun y => by
    obtain ⟨i, j, rfl⟩ : ∃ i j, y = ix2 i j := ⟨y 0, y 1, eq_ix2 y⟩
    pointwise [k0_pay1, Ideal.ofBits_zero_f32]
  rw [canon_row (ms0_11 t).view, canon_row (ms0_11 t).view, canon_row (ms0_11 t).view, View.canon_cons_unit_lit]
  case h => decide
  refine (step_rows m c t r j (k0_pay1 (F := Ideal)) _ _ _ ((row8 m c t j _).trans ?_) ((row7 m c t j _).trans ?_) ((row6 m c t j _).trans ?_)).trans ?_
  · exact congrArg (· + _) ((hz _).trans (hz _).symm)
  · exact congrArg (· + _) ((hz _).trans (hz _).symm)
  · exact congrArg (· + _) ((hz _).trans (hz _).symm)
  · rw [hz]

theorem acc_B (t : Fin cfg0.N) (h0 : ¬t.val % 32 = 0) (r : Fin 8) (j : Fin 1024) :
    (outsAt0 (F := Ideal) m c t.val t.isLt).2 (ix2 r j) =
      ((outsAt0 (F := Ideal) m c (t.val - 1) (Nat.lt_of_le_of_lt (Nat.sub_le _ _) t.isLt)).2 (ix2 r j) : Ideal .f32) + con m c t r j := by
  rw [outsAt0_B m c t h0]
  frame_open
  simp (disch := decide) only [↓ View.readCov_skip, ↓ View.readCov_cons_toLoadRect, ↓ View.readCov_fill]
  frame_out
  rw [read_row, read_row, read_row, View.writes_nil, Memref.IsWhole.read_unread]
  refine step_rows m c t r j _ _ _ _ ((row8 m c t j _).trans ?_) ((row7 m c t j _).trans ?_) ((row6 m c t j _).trans ?_)
  · exact congrArg (· + con m c t 2 j) (ld_row _ 2 _ 2 rfl j)
  · exact congrArg (· + con m c t 1 j) (ld_row _ 1 _ 1 rfl j)
  · exact congrArg (· + con m c t 0 j) (ld_row _ 0 _ 0 rfl j)

/-- The blocks' sums together are the sum over the tokens. -/
theorem sum_con (r : Fin 8) (j : Fin 1024) :
    (∑ k ∈ Finset.range (31 + 1), if hn : k < cfg0.N then con m c ⟨k, hn⟩ r j else (0 : Ideal .f32)) = ∑ i, rowTerm m c r j i := by
  have hN : 32 = cfg0.N := by decide +kernel
  rw [Finset.sum_range]
  refine (Finset.sum_congr rfl fun s _ => ?_).trans (Fin.sum_mul_add_fin 32 256 (rowTerm m c r j) rfl)
  rw [dif_pos (lt_of_lt_of_eq s.isLt hN)]
  exact Finset.sum_congr rfl fun q _ => congrArg (rowTerm m c r j) (Fin.ext (congrArg (· + q.val) (Nat.mul_comm _ _)))

theorem out11 : (dats (F := Ideal) m 0 c).arrAt 11 cfg0.N = (fun i => ∑ k, rowTerm m c (i 0) (i 1) k) := by
  refine (dats m 0 c).arrAt_eq_of_covers 11 _ (by decide +kernel) fun t hf y => ?_
  have hy : (y : S8x1024.Idx) = ix2 (y 0) (y 1) := eq_ix2 y
  have he : (((View.whole main_v0_1).slice (win0_11.rect t)).emb y : S8x1024.Idx) = ix2 (y 0) (y 1) := by
    blk_ext! [idx t]
  have hr := (flush0_11 t).mp hf
  blk_simp
  rw [after0_11, he, hy]
  have h := Pipeline.eq_sum_of_reset_step_apply_single_of_mod (fun n h => (outsAt0 (F := Ideal) m c n h).2) 32 (fun _ => (0 : Ideal .f32))
    (fun n i => if hn : n < cfg0.N then con m c ⟨n, hn⟩ (i 0) (i 1) else (0 : Ideal .f32))
    (fun t h i => by
      rw [dif_pos t.isLt]
      exact (congrArg _ (eq_ix2 i)).trans (acc_A m c t h _ _))
    (fun t h i => by
      rw [dif_pos t.isLt]
      exact (congrArg _ (eq_ix2 i)).trans ((acc_B m c t h _ _).trans (congrArg (fun x => (outsAt0 (F := Ideal) m c (t.val - 1) _).2 x + _) (eq_ix2 i).symm)))
    (by decide +kernel) t hr (ix2 (y 0) (y 1))
  refine h.trans ?_
  rw [zero_add]
  exact sum_con m c (y 0) (y 1)

/-- The reference's memory holds the same arguments. -/
abbrev Same (m : Mem) (m' : (ℓ : Loc Cert.GradXRefIdeal.nD Cert.GradXRefIdeal.τ Cert.GradXRefIdeal.sig) → Buf (Elt Ideal) ℓ) (c : Dev Cert.GradXIdeal.nD) : Prop :=
  m' (c.tc.loc Cert.GradXRefIdeal.main_arg0) = m (c.tc.loc Cert.GradXIdeal.main_arg0) ∧ m' (c.tc.loc Cert.GradXRefIdeal.main_arg1) = m (c.tc.loc Cert.GradXIdeal.main_arg1) ∧
  m' (c.tc.loc Cert.GradXRefIdeal.main_arg2) = m (c.tc.loc Cert.GradXIdeal.main_arg2) ∧ m' (c.tc.loc Cert.GradXRefIdeal.main_arg3) = m (c.tc.loc Cert.GradXIdeal.main_arg3) ∧
  m' (c.tc.loc Cert.GradXRefIdeal.main_arg4) = m (c.tc.loc Cert.GradXIdeal.main_arg4) ∧ m' (c.tc.loc Cert.GradXRefIdeal.main_arg5) = m (c.tc.loc Cert.GradXIdeal.main_arg5) ∧
  m' (c.tc.loc Cert.GradXRefIdeal.main_arg6) = m (c.tc.loc Cert.GradXIdeal.main_arg6) ∧ m' (c.tc.loc Cert.GradXRefIdeal.main_arg7) = m (c.tc.loc Cert.GradXIdeal.main_arg7) ∧
  m' (c.tc.loc Cert.GradXRefIdeal.main_arg8) = m (c.tc.loc Cert.GradXIdeal.main_arg8) ∧ m' (c.tc.loc Cert.GradXRefIdeal.main_arg9) = m (c.tc.loc Cert.GradXIdeal.main_arg9)

theorem ref_x (m' : (ℓ : Loc Cert.GradXRefIdeal.nD Cert.GradXRefIdeal.τ Cert.GradXRefIdeal.sig) → Buf (Elt Ideal) ℓ) (h : Same m m' c) :
    Cert.GradXRefIdeal.Value.res_main_v53 m' c = (fun i : S8192x1024.Idx => gradX m c (i 0) (i 1)) := by
  obtain ⟨h0, h1, h2, h3, h4, h5, h6, h7, h8, h9⟩ := h
  unfold Cert.GradXRefIdeal.Value.res_main_v53
  rw [h0, h1, h2, h3, h4, h5, h6, h7, h8, h9]
  funext y
  obtain ⟨i, j, rfl⟩ : ∃ i j, y = ix2 i j := ⟨y 0, y 1, eq_ix2 y⟩
  pointwise []
  rfl

theorem rowSum_rest (r : Fin 8) (j : Fin 1024) (h0 : ¬r.val = 0) (h1 : ¬r.val = 1) (h2 : ¬r.val = 2) : ∑ i, rowTerm m c r j i = 0 :=
  Finset.sum_eq_zero fun i _ => (if_neg h2).trans ((if_neg h1).trans (if_neg h0))

theorem sitofp_nil : (FloatOps.sitofp FTy.f32 0#32 : Ideal .f32) = 0 := by
  show (((0#32 : BitVec 32).toInt : ℝ) : EReal) = 0
  simp

theorem ref_sums (m' : (ℓ : Loc Cert.GradXRefIdeal.nD Cert.GradXRefIdeal.τ Cert.GradXRefIdeal.sig) → Buf (Elt Ideal) ℓ) (h : Same m m' c) :
    Cert.GradXRefIdeal.Value.res_main_v58 m' c = (fun i : S8x1024.Idx => ∑ k, rowTerm m c (i 0) (i 1) k) := by
  obtain ⟨h0, h1, h2, h3, h4, h5, h6, h7, h8, h9⟩ := h
  unfold Cert.GradXRefIdeal.Value.res_main_v58
  rw [h0, h1, h2, h3, h4, h5, h6, h8, h9]
  funext y
  obtain ⟨i, j, rfl⟩ : ∃ i j, y = ix2 i j := ⟨y 0, y 1, eq_ix2 y⟩
  pointwise []
  by_cases e2 : i.val = 2
  · obtain rfl : i = 2 := Fin.ext e2
    rfl
  by_cases e1 : i.val = 1
  · obtain rfl : i = 1 := Fin.ext e1
    rfl
  by_cases e0 : i.val = 0
  · obtain rfl : i = 0 := Fin.ext e0
    rfl
  rw [dif_neg (by omega)]
  exact sitofp_nil.trans (rowSum_rest m c i j e0 e1 e2).symm

theorem algebraic_GradX : Cert.algebraic_GradXIdeal_GradXRefIdeal := by
  intro m g m' g' _ hm
  refine ⟨fun c => (dats (F := Ideal) m 0 c).arrAt 10 cfg0.N, fun c => (dats (F := Ideal) m 0 c).arrAt 11 cfg0.N, Cert.GradXIdeal.Value.run_blocks (F := Ideal) m g, ?_⟩
  refine (θ_run (Cert.GradXRefIdeal.defs (F := Ideal)) _ _).mono (fun r h c => ?_) (Cert.GradXRefIdeal.Value.run (F := Ideal) m' g')
  obtain ⟨e0, e1, a0, a1, a2, a3, a4, a5, a6, a7, a8, a9⟩ := h c
  have hs : Same m m' c := hm c
  exact ⟨e0.trans ((ref_x m c m' hs).trans (out10 m c).symm), e1.trans ((ref_sums m c m' hs).trans (out11 m c).symm), a0, a1, a2, a3, a4, a5, a6, a7, a8, a9⟩

theorem frameRef_GradX : Cert.quiescent_GradXRefIdeal := fun m ρ _ => (θ_run (Cert.GradXRefIdeal.defs (F := Ideal)) _ _).mono
  (fun r h => ⟨fun c => (h c).2.2, sem_eq_zero_of_no_sems (by decide) r.2⟩) (Cert.GradXRefIdeal.Value.run (F := Ideal) m ρ)

end Cert.PassGradX
end
-- ==== Proof.ConvClaims.lean ====
/-
The claims about the Conformer branch on one device's tokens: the version's array is that of the reference.
-/
module

public import proofs.«01_k».proof.Defs
public import proofs.«01_k».proof.Proof.ConvBlocks
public import proofs.«01_k».proof.Proof.GradXClaims
public import proofs.«01_k».proof.Proof.Gen.ConvFwdRefIdeal.Run

@[expose] public section

set_option maxRecDepth 16384
set_option maxHeartbeats 4000000

noncomputable section

namespace Cert.PassConv

open Idealize.ShloMosaic Idealize.ShloMosaic.TcCoe
open Idealize.SL.Sem Idealize.ShloMosaic.StableHlo
open Cert.ConvFwdIdeal Cert.ConvFwdIdeal.Gen
open Cert.ConvFwdRefIdeal.Value

variable (m : Mem) (c : Dev Cert.ConvFwdIdeal.nD)

/-- The memory of the reference's program. -/
abbrev RefMem : Type := (ℓ : Loc Cert.ConvFwdRefIdeal.nD Cert.ConvFwdRefIdeal.τ Cert.ConvFwdRefIdeal.sig) → Buf (Elt Ideal) ℓ

/-- The reference's memory holds the same arguments. -/
abbrev Same (m : Mem) (m' : RefMem) (c : Dev Cert.ConvFwdIdeal.nD) : Prop :=
  m' (c.tc.loc Cert.ConvFwdRefIdeal.main_arg0) = m (c.tc.loc Cert.ConvFwdIdeal.main_arg0) ∧
  m' (c.tc.loc Cert.ConvFwdRefIdeal.main_arg1) = m (c.tc.loc Cert.ConvFwdIdeal.main_arg1) ∧
  m' (c.tc.loc Cert.ConvFwdRefIdeal.main_arg2) = m (c.tc.loc Cert.ConvFwdIdeal.main_arg2) ∧
  m' (c.tc.loc Cert.ConvFwdRefIdeal.main_arg3) = m (c.tc.loc Cert.ConvFwdIdeal.main_arg3) ∧
  m' (c.tc.loc Cert.ConvFwdRefIdeal.main_arg4) = m (c.tc.loc Cert.ConvFwdIdeal.main_arg4)

/-- What the reference starts from. -/
abbrev V0 (m' : RefMem) (c : Dev Cert.ConvFwdIdeal.nD) : Valuation Cert.ConvFwdRefIdeal.τ Cert.ConvFwdRefIdeal.sig (Elt Ideal) := launchContents m' c

theorem ref_arg0 (m' : RefMem) (h : Same m m' c) : V0 m' c (Proc.devRef .tc Cert.ConvFwdRefIdeal.main_arg0) = m (c.tc.loc Cert.ConvFwdIdeal.main_arg0) := h.1
theorem ref_arg1 (m' : RefMem) (h : Same m m' c) : V0 m' c (Proc.devRef .tc Cert.ConvFwdRefIdeal.main_arg1) = m (c.tc.loc Cert.ConvFwdIdeal.main_arg1) := h.2.1
theorem ref_arg2 (m' : RefMem) (h : Same m m' c) : V0 m' c (Proc.devRef .tc Cert.ConvFwdRefIdeal.main_arg2) = m (c.tc.loc Cert.ConvFwdIdeal.main_arg2) := h.2.2.1
theorem ref_arg3 (m' : RefMem) (h : Same m m' c) : V0 m' c (Proc.devRef .tc Cert.ConvFwdRefIdeal.main_arg3) = m (c.tc.loc Cert.ConvFwdIdeal.main_arg3) := h.2.2.2.1
theorem ref_arg4 (m' : RefMem) (h : Same m m' c) : V0 m' c (Proc.devRef .tc Cert.ConvFwdRefIdeal.main_arg4) = m (c.tc.loc Cert.ConvFwdIdeal.main_arg4) := h.2.2.2.2

/-- The gated activations after thirty rows of zeros. -/
theorem ref_padded (m' : RefMem) (h : Same m m' c) :
    res_main_v9 (V0 m' c) = (fun y : Cert.ConvFwdRefIdeal.S8222x1024.Idx => padded m c (y 0).val (y 1)) := by
  unfold res_main_v9
  rw [ref_arg0 m c m' h]
  funext y
  obtain ⟨i, j, rfl⟩ : ∃ (i : Fin 8222) (j : Fin 1024), y = (ix2 i j : Cert.ConvFwdRefIdeal.S8222x1024.Idx) := ⟨y 0, y 1, eq_ix2 y⟩
  pointwise [Ideal.ofBits_one_f32]
  unfold padded act
  by_cases e : 30 ≤ i.val
  · rw [dif_pos ⟨e, by omega⟩, dif_pos ⟨e, i.isLt⟩]
    rfl
  · rw [dif_neg (fun q => e q.1), dif_neg (fun q => e q.1)]
    exact Cert.PassGradX.sitofp_nil

/-- The convolution's first fifteen terms. -/
theorem ref_taps (m' : RefMem) (h : Same m m' c) :
    res_main_v85 (V0 m' c) = (fun y : S8192x1024.Idx => taps m c (y 0).val (y 1) 14) := by
  unfold res_main_v85
  rw [ref_padded m c m' h, ref_arg1 m c m' h]
  funext y
  obtain ⟨i, j, rfl⟩ : ∃ (i : Fin 8192) (j : Fin 1024), y = (ix2 i j : S8192x1024.Idx) := ⟨y 0, y 1, eq_ix2 y⟩
  pointwise [Ideal.ofBits_zero_f32, zero_add]
  simp only [Nat.add_comm _ i.val]
  rfl

/-- The next fifteen. -/
theorem ref_more (m' : RefMem) (h : Same m m' c) :
    res_main_v160 (V0 m' c) = (fun y : S8192x1024.Idx => taps m c (y 0).val (y 1) 29) := by
  unfold res_main_v160
  rw [ref_taps m c m' h, ref_padded m c m' h, ref_arg1 m c m' h]
  funext y
  obtain ⟨i, j, rfl⟩ : ∃ (i : Fin 8192) (j : Fin 1024), y = (ix2 i j : S8192x1024.Idx) := ⟨y 0, y 1, eq_ix2 y⟩
  pointwise []
  simp only [Nat.add_comm _ i.val]
  rfl

/-- The last one, and the bias. -/
theorem ref_conv (m' : RefMem) (h : Same m m' c) : res_main_v167 (V0 m' c) = (fun y : S8192x1024.Idx => conv m c (y 0).val (y 1)) := by
  unfold res_main_v167
  rw [ref_more m c m' h, ref_padded m c m' h, ref_arg1 m c m' h, ref_arg2 m c m' h]
  funext y
  obtain ⟨i, j, rfl⟩ : ∃ (i : Fin 8192) (j : Fin 1024), y = (ix2 i j : S8192x1024.Idx) := ⟨y 0, y 1, eq_ix2 y⟩
  pointwise []
  simp only [Nat.add_comm _ i.val]
  rfl

theorem ref_mean (m' : RefMem) (h : Same m m' c) :
    res_main_v171 (V0 m' c) = (fun y : Cert.ConvFwdRefIdeal.S8192x1.Idx => mean m c (y 0).val) := by
  unfold res_main_v171
  rw [ref_conv m c m' h]
  funext y
  obtain ⟨i, j, rfl⟩ : ∃ (i : Fin 8192) (j : Fin 1), y = (ix2 i j : Cert.ConvFwdRefIdeal.S8192x1.Idx) := ⟨y 0, y 1, eq_ix2 y⟩
  pointwise []
  rfl

theorem ref_cen (m' : RefMem) (h : Same m m' c) : res_main_v173 (V0 m' c) = (fun y : S8192x1024.Idx => cen m c (y 0).val (y 1)) := by
  unfold res_main_v173
  rw [ref_conv m c m' h, ref_mean m c m' h]
  funext y
  obtain ⟨i, j, rfl⟩ : ∃ (i : Fin 8192) (j : Fin 1024), y = (ix2 i j : S8192x1024.Idx) := ⟨y 0, y 1, eq_ix2 y⟩
  pointwise []
  rfl

theorem ref_normed (m' : RefMem) (h : Same m m' c) : res_main_v189 (V0 m' c) = (fun y : S8192x1024.Idx => normed m c (y 0).val (y 1)) := by
  unfold res_main_v189
  rw [ref_conv m c m' h, ref_mean m c m' h, ref_cen m c m' h, ref_arg3 m c m' h, ref_arg4 m c m' h]
  funext y
  obtain ⟨i, j, rfl⟩ : ∃ (i : Fin 8192) (j : Fin 1024), y = (ix2 i j : S8192x1024.Idx) := ⟨y 0, y 1, eq_ix2 y⟩
  pointwise []
  rfl

theorem ref_gate (m' : RefMem) (h : Same m m' c) : res_main_v191 (V0 m' c) = (fun y : S8192x1024.Idx => zGate m c (y 0) (y 1)) := by
  unfold res_main_v191
  rw [ref_arg0 m c m' h]
  funext y
  obtain ⟨i, j, rfl⟩ : ∃ (i : Fin 8192) (j : Fin 1024), y = (ix2 i j : S8192x1024.Idx) := ⟨y 0, y 1, eq_ix2 y⟩
  pointwise []
  rfl

theorem algebraic_ConvFwd : Cert.algebraic_ConvFwdIdeal_ConvFwdRefIdeal := by
  intro m g m' g' _ hm
  refine ⟨fun c => (dats (F := Ideal) m 0 c).arrAt 9 cfg0.N, Cert.ConvFwdIdeal.Value.run_blocks (F := Ideal) m g, ?_⟩
  refine (θ_run (Cert.ConvFwdRefIdeal.defs (F := Ideal)) _ _).mono (fun r h c => ?_) (Cert.ConvFwdRefIdeal.Value.run (F := Ideal) m' g')
  obtain ⟨e0, args⟩ := h c
  have hs : Same m m' c := hm c
  refine ⟨e0.trans ((?_ : _ = _).trans (arr m c).symm), args⟩
  rw [ref_normed m c m' hs, ref_gate m c m' hs]
  funext y
  obtain ⟨i, j, rfl⟩ : ∃ (i : Fin 8192) (j : Fin 1024), y = (ix2 i j : S8192x1024.Idx) := ⟨y 0, y 1, eq_ix2 y⟩
  pointwise [Ideal.ofBits_one_f32]
  rfl

theorem frameRef_ConvFwd : Cert.quiescent_ConvFwdRefIdeal := fun m ρ _ => (θ_run (Cert.ConvFwdRefIdeal.defs (F := Ideal)) _ _).mono
  (fun r h => ⟨fun c => (h c).2, sem_eq_zero_of_no_sems (by decide) r.2⟩) (Cert.ConvFwdRefIdeal.Value.run (F := Ideal) m ρ)

end Cert.PassConv

end
-- ==== Proof.HeadBlocks.lean ====
/-
The claims about the head of the block on one device's tokens: the gated merge of the two branches, the output
projection, its norm, the loss, and the backward pass through all of these.
-/
module

public import proofs.«01_k».proof.Defs
public import proofs.«01_k».proof.Proof.Gen.HeadIdeal.Value
public import Idealize.ShloMosaic.Lib.Quiescent
public import Idealize.ShloMosaic.Lib.IdealHost
public import Idealize.ShloMosaic.Lib.Pointwise
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.PassHead

open Idealize.ShloMosaic Idealize.ShloMosaic.TcCoe
open Idealize.SL.Sem
open Cert.HeadIdeal Cert.HeadIdeal.Gen

/-- The memory of the version's program. -/
abbrev Mem : Type := (ℓ : Loc Cert.HeadIdeal.nD Cert.HeadIdeal.τ Cert.HeadIdeal.sig) → Buf (Elt Ideal) ℓ

variable (m : Mem) (c : Dev Cert.HeadIdeal.nD)

/-! ## The arguments -/

def pA (i : Fin 8192) (k : Fin 2048) : Ideal .f32 := m (c.tc.loc Cert.HeadIdeal.main_arg0) (ix2 i k)
def pB (i : Fin 8192) (k : Fin 1024) : Ideal .f32 := m (c.tc.loc Cert.HeadIdeal.main_arg1) (ix2 i k)
/-- The columns of the projection that hold the two gates. -/
def gA (i : Fin 8192) (k : Fin 1024) : Ideal .f32 := m (c.tc.loc Cert.HeadIdeal.main_arg2) (ix2 i (⟨9216 + k.val, by omega⟩ : Fin 11264))
def gB (i : Fin 8192) (k : Fin 1024) : Ideal .f32 := m (c.tc.loc Cert.HeadIdeal.main_arg2) (ix2 i (⟨10240 + k.val, by omega⟩ : Fin 11264))
def xAt (i : Fin 8192) (k : Fin 1024) : Ideal .f32 := m (c.tc.loc Cert.HeadIdeal.main_arg3) (ix2 i k)
def tAt (i : Fin 8192) (k : Fin 1024) : Ideal .f32 := m (c.tc.loc Cert.HeadIdeal.main_arg4) (ix2 i k)
def gate (k : Fin 1024) : Ideal .f32 := m (c.tc.loc Cert.HeadIdeal.main_arg5) (ix2 0 k)
def gPost (k : Fin 1024) : Ideal .f32 := m (c.tc.loc Cert.HeadIdeal.main_arg6) (ix2 0 k)
def wRet (k : Fin 2048) (j : Fin 1024) : Ideal .f32 := m (c.tc.loc Cert.HeadIdeal.main_arg7) (ix2 k j)
def wConv (k : Fin 1024) (j : Fin 1024) : Ideal .f32 := m (c.tc.loc Cert.HeadIdeal.main_arg8) (ix2 k j)
def wOut (k : Fin 1024) (j : Fin 1024) : Ideal .f32 := m (c.tc.loc Cert.HeadIdeal.main_arg9) (ix2 k j)

/-! ## The formulas, token by token -/

def yA (i : Fin 8192) (j : Fin 1024) : Ideal .f32 := ∑ k, pA m c i k * wRet m c k j
def yB (i : Fin 8192) (j : Fin 1024) : Ideal .f32 := ∑ k, pB m c i k * wConv m c k j
def sA (i : Fin 8192) (j : Fin 1024) : Ideal .f32 := Ideal.logistic (gA m c i j)
def sB (i : Fin 8192) (j : Fin 1024) : Ideal .f32 := Ideal.logistic (gB m c i j)
def merged (i : Fin 8192) (j : Fin 1024) : Ideal .f32 := sA m c i j * yA m c i j + sB m c i j * yB m c i j
def yOut (i : Fin 8192) (j : Fin 1024) : Ideal .f32 := ∑ k, merged m c i k * wOut m c k j
/-- The mean square of the output's row and the norm's constant, and one over the root of it. -/
def msq (i : Fin 8192) : Ideal .f32 :=
  Ideal.div (∑ k, yOut m c i k * yOut m c i k) (Ideal.ofBits FTy.f32 1149239296#32) + Ideal.ofBits FTy.f32 897988541#32
def rinv (i : Fin 8192) : Ideal .f32 := Ideal.rsqrt (msq m c i)
def yHat (i : Fin 8192) (j : Fin 1024) : Ideal .f32 := yOut m c i j * rinv m c i
def yNorm (i : Fin 8192) (j : Fin 1024) : Ideal .f32 := yHat m c i j * gPost m c j
def err (i : Fin 8192) (j : Fin 1024) : Ideal .f32 := xAt m c i j + gate m c j * yNorm m c i j - tAt m c i j
/-- A token's loss, before the half. -/
def tokLoss (i : Fin 8192) : Ideal .f32 := Ideal.div (∑ k, err m c i k * err m c i k) (Ideal.ofBits FTy.f32 1149239296#32)
def dOut (i : Fin 8192) (j : Fin 1024) : Ideal .f32 := err m c i j * Ideal.ofBits FTy.f32 981467136#32
def dNorm (i : Fin 8192) (j : Fin 1024) : Ideal .f32 := dOut m c i j * gate m c j
def dHat (i : Fin 8192) (j : Fin 1024) : Ideal .f32 := dNorm m c i j * gPost m c j
def dY (i : Fin 8192) (j : Fin 1024) : Ideal .f32 :=
  rinv m c i * (dHat m c i j - yHat m c i j * Ideal.div (∑ k, dHat m c i k * yHat m c i k) (Ideal.ofBits FTy.f32 1149239296#32))
def dMerged (i : Fin 8192) (j : Fin 1024) : Ideal .f32 := ∑ k, dY m c i k * wOut m c j k
def dYA (i : Fin 8192) (j : Fin 1024) : Ideal .f32 := dMerged m c i j * sA m c i j
def dYB (i : Fin 8192) (j : Fin 1024) : Ideal .f32 := dMerged m c i j * sB m c i j
def dGA (i : Fin 8192) (j : Fin 1024) : Ideal .f32 := dYA m c i j * yA m c i j * (1 - sA m c i j)
def dGB (i : Fin 8192) (j : Fin 1024) : Ideal .f32 := dYB m c i j * yB m c i j * (1 - sB m c i j)
def dPA (i : Fin 8192) (j : Fin 2048) : Ideal .f32 := ∑ k, dYA m c i k * wRet m c j k
def dPB (i : Fin 8192) (j : Fin 1024) : Ideal .f32 := ∑ k, dYB m c i k * wConv m c j k

/-! ## What one grid point reads -/

theorem idx : ∀ t : Fin grid0.N, win0_0.index t = ![t.val, 0] ∧ win0_1.index t = ![t.val, 0] ∧ win0_2.index t = ![t.val, 9] ∧
    win0_3.index t = ![t.val, 10] ∧ win0_4.index t = ![t.val, 0] ∧ win0_5.index t = ![t.val, 0] ∧ win0_6.index t = ![0, 0] ∧
    win0_7.index t = ![0, 0] ∧ win0_8.index t = ![0, 0] ∧ win0_9.index t = ![0, 0] ∧ win0_10.index t = ![0, 0] := by decide +kernel

theorem idxOut : ∀ t : Fin grid0.N, win0_11.index t = ![0, 0] ∧ win0_12.index t = ![t.val, 0] ∧ win0_13.index t = ![t.val, 0] ∧
    win0_14.index t = ![t.val, 0] ∧ win0_15.index t = ![t.val, 0] ∧ win0_16.index t = ![t.val, 0] ∧ win0_17.index t = ![t.val, 0] ∧
    win0_18.index t = ![t.val, 0] ∧ win0_19.index t = ![t.val, 0] ∧ win0_20.index t = ![0, 0] := by decide +kernel

theorem at256_lt (t : Fin grid0.N) (r : Fin 256) : 256 * t.val + r.val < 8192 := by
  have h : t.val < 32 := lt_of_lt_of_eq t.isLt (by decide +kernel)
  omega

/-- Row `r` of block `t` is row `256 t + r` of the array. -/
def at256 (t : Fin grid0.N) (r : Fin 256) : Fin 8192 := ⟨256 * t.val + r.val, at256_lt t r⟩

theorem at256_val (t : Fin grid0.N) (r : Fin 256) : (at256 t r).val = 256 * t.val + r.val := rfl

theorem rd0 (t : Fin cfg0.N) (r : Fin 256) (k : Fin 2048) : iblk m c 0 t (ix2 r k) = m (c.tc.loc Cert.HeadIdeal.main_arg0) (ix2 (at256 t r) k) := by
  blk_ext! [iblk, V, idx t, at256_val]
theorem rd1 (t : Fin cfg0.N) (r : Fin 256) (k : Fin 1024) : iblk m c 1 t (ix2 r k) = m (c.tc.loc Cert.HeadIdeal.main_arg1) (ix2 (at256 t r) k) := by
  blk_ext! [iblk, V, idx t, at256_val]
theorem rd2 (t : Fin cfg0.N) (r : Fin 256) (k : Fin 1024) :
    iblk m c 2 t (ix2 r k) = m (c.tc.loc Cert.HeadIdeal.main_arg2) (ix2 (at256 t r) (⟨9216 + k.val, by omega⟩ : Fin 11264)) := by
  blk_ext! [iblk, V, idx t, at256_val]
theorem rd3 (t : Fin cfg0.N) (r : Fin 256) (k : Fin 1024) :
    iblk m c 3 t (ix2 r k) = m (c.tc.loc Cert.HeadIdeal.main_arg2) (ix2 (at256 t r) (⟨10240 + k.val, by omega⟩ : Fin 11264)) := by
  blk_ext! [iblk, V, idx t, at256_val]
theorem rd4 (t : Fin cfg0.N) (r : Fin 256) (k : Fin 1024) : iblk m c 4 t (ix2 r k) = m (c.tc.loc Cert.HeadIdeal.main_arg3) (ix2 (at256 t r) k) := by
  blk_ext! [iblk, V, idx t, at256_val]
theorem rd5 (t : Fin cfg0.N) (r : Fin 256) (k : Fin 1024) : iblk m c 5 t (ix2 r k) = m (c.tc.loc Cert.HeadIdeal.main_arg4) (ix2 (at256 t r) k) := by
  blk_ext! [iblk, V, idx t, at256_val]
theorem rd6 (t : Fin cfg0.N) : iblk m c 6 t = m (c.tc.loc Cert.HeadIdeal.main_arg5) := by
  blk_ext! [iblk, V, idx t]
theorem rd7 (t : Fin cfg0.N) : iblk m c 7 t = m (c.tc.loc Cert.HeadIdeal.main_arg6) := by
  blk_ext! [iblk, V, idx t]
theorem rd8 (t : Fin cfg0.N) : iblk m c 8 t = m (c.tc.loc Cert.HeadIdeal.main_arg7) := by
  blk_ext! [iblk, V, idx t]
theorem rd9 (t : Fin cfg0.N) : iblk m c 9 t = m (c.tc.loc Cert.HeadIdeal.main_arg8) := by
  blk_ext! [iblk, V, idx t]
theorem rd10 (t : Fin cfg0.N) : iblk m c 10 t = m (c.tc.loc Cert.HeadIdeal.main_arg9) := by
  blk_ext! [iblk, V, idx t]

/-! ## What one grid point computes -/

abbrev bMerged (t : Fin cfg0.N) : FVec Ideal S256x1024 .bf16 := k0_pay11 (iblk m c 0 t) (iblk m c 8 t) (iblk m c 1 t) (iblk m c 9 t) (iblk m c 2 t) (iblk m c 3 t)
abbrev bY (t : Fin cfg0.N) : FVec Ideal S256x1024 .f32 := k0_pay12 (iblk m c 0 t) (iblk m c 8 t) (iblk m c 1 t) (iblk m c 9 t) (iblk m c 2 t) (iblk m c 3 t) (iblk m c 10 t)
abbrev bMsq (t : Fin cfg0.N) : FVec Ideal S256x1 .f32 := k0_pay13 (iblk m c 0 t) (iblk m c 8 t) (iblk m c 1 t) (iblk m c 9 t) (iblk m c 2 t) (iblk m c 3 t) (iblk m c 10 t)
abbrev bHat (t : Fin cfg0.N) : FVec Ideal S256x1024 .f32 := k0_pay15 (F := Ideal) (bY m c t) (bMsq m c t)
abbrev bErr (t : Fin cfg0.N) : FVec Ideal S256x1024 .f32 := k0_pay17 (iblk m c 6 t) (iblk m c 7 t) (bY m c t) (bMsq m c t) (iblk m c 4 t) (iblk m c 5 t)
abbrev bDout (t : Fin cfg0.N) : FVec Ideal S256x1024 .f32 := k0_pay19 (iblk m c 6 t) (iblk m c 7 t) (bY m c t) (bMsq m c t) (iblk m c 4 t) (iblk m c 5 t)
abbrev bDY (t : Fin cfg0.N) : FVec Ideal S256x1024 .bf16 := k0_pay24 (iblk m c 7 t) (k0_pay14 (bMsq m c t)) (bHat m c t) (bDout m c t) (k0_pay21 (iblk m c 6 t))
abbrev bDYA (t : Fin cfg0.N) : FVec Ideal S256x1024 .f32 := k0_pay26 (iblk m c 7 t) (k0_pay9 (iblk m c 2 t)) (k0_pay14 (bMsq m c t)) (bHat m c t) (bDout m c t) (k0_pay21 (iblk m c 6 t)) (iblk m c 10 t)
abbrev bDYB (t : Fin cfg0.N) : FVec Ideal S256x1024 .f32 := k0_pay27 (iblk m c 7 t) (k0_pay10 (iblk m c 3 t)) (k0_pay14 (bMsq m c t)) (bHat m c t) (bDout m c t) (k0_pay21 (iblk m c 6 t)) (iblk m c 10 t)

theorem blk_yA (t : Fin cfg0.N) (r : Fin 256) (j : Fin 1024) : k0_pay7 (iblk m c 0 t) (iblk m c 8 t) (ix2 r j) = yA m c (at256 t r) j := by
  pointwise [k0_pay7]
  simp only [rd0, rd8]
  rfl

theorem blk_yB (t : Fin cfg0.N) (r : Fin 256) (j : Fin 1024) : k0_pay8 (iblk m c 1 t) (iblk m c 9 t) (ix2 r j) = yB m c (at256 t r) j := by
  pointwise [k0_pay8]
  simp only [rd1, rd9]
  rfl

theorem blk_sA (t : Fin cfg0.N) (r : Fin 256) (j : Fin 1024) : k0_pay9 (iblk m c 2 t) (ix2 r j) = sA m c (at256 t r) j := by
  pointwise [k0_pay9]
  simp only [rd2]
  rfl

theorem blk_sB (t : Fin cfg0.N) (r : Fin 256) (j : Fin 1024) : k0_pay10 (iblk m c 3 t) (ix2 r j) = sB m c (at256 t r) j := by
  pointwise [k0_pay10]
  simp only [rd3]
  rfl

theorem blk_merged (t : Fin cfg0.N) (r : Fin 256) (j : Fin 1024) : bMerged m c t (ix2 r j) = merged m c (at256 t r) j := by
  pointwise [k0_pay11]
  simp only [blk_yA, blk_yB, blk_sA, blk_sB]
  rfl

theorem blk_y (t : Fin cfg0.N) (r : Fin 256) (j : Fin 1024) : bY m c t (ix2 r j) = yOut m c (at256 t r) j := by
  pointwise [k0_pay12]
  simp only [blk_merged, rd10]
  rfl

theorem blk_msq (t : Fin cfg0.N) (r : Fin 256) : bMsq m c t (ix2 r 0) = msq m c (at256 t r) := by
  pointwise [k0_pay13]
  simp only [blk_y]
  rfl

theorem blk_rinv (t : Fin cfg0.N) (r : Fin 256) : k0_pay14 (bMsq m c t) (ix2 r 0) = rinv m c (at256 t r) := by
  pointwise [k0_pay14]
  simp only [blk_msq]
  rfl

theorem blk_hat (t : Fin cfg0.N) (r : Fin 256) (j : Fin 1024) : bHat m c t (ix2 r j) = yHat m c (at256 t r) j := by
  pointwise [k0_pay15]
  simp only [blk_y, blk_rinv]
  rfl

theorem blk_norm (t : Fin cfg0.N) (r : Fin 256) (j : Fin 1024) : k0_pay16 (iblk m c 7 t) (bY m c t) (bMsq m c t) (ix2 r j) = yNorm m c (at256 t r) j := by
  pointwise [k0_pay16]
  simp only [blk_hat, rd7]
  rfl

theorem blk_err (t : Fin cfg0.N) (r : Fin 256) (j : Fin 1024) : bErr m c t (ix2 r j) = err m c (at256 t r) j := by
  pointwise [k0_pay17]
  simp only [blk_norm, rd4, rd5, rd6]
  rfl

theorem blk_dout (t : Fin cfg0.N) (r : Fin 256) (j : Fin 1024) : bDout m c t (ix2 r j) = dOut m c (at256 t r) j := by
  pointwise [k0_pay19]
  simp only [blk_err]
  rfl

theorem blk_dY (t : Fin cfg0.N) (r : Fin 256) (j : Fin 1024) : bDY m c t (ix2 r j) = dY m c (at256 t r) j := by
  pointwise [k0_pay24, k0_pay22, k0_pay21]
  simp only [blk_dout, blk_hat, blk_rinv, rd6, rd7]
  rfl

theorem blk_dYA (t : Fin cfg0.N) (r : Fin 256) (j : Fin 1024) : bDYA m c t (ix2 r j) = dYA m c (at256 t r) j := by
  pointwise [k0_pay26, k0_pay25]
  simp only [blk_dY, blk_sA, rd10]
  rfl

theorem blk_dYB (t : Fin cfg0.N) (r : Fin 256) (j : Fin 1024) : bDYB m c t (ix2 r j) = dYB m c (at256 t r) j := by
  pointwise [k0_pay27, k0_pay25]
  simp only [blk_dY, blk_sB, rd10]
  rfl

/-! ## The arrays of the tokens -/

theorem blk_dPA (t : Fin cfg0.N) (r : Fin 256) (j : Fin 2048) : k0_pay3 (bDYA m c t) (iblk m c 8 t) (ix2 r j) = dPA m c (at256 t r) j := by
  pointwise [k0_pay3, k0_pay1]
  simp only [blk_dYA, rd8]
  rfl

theorem blk_dPB (t : Fin cfg0.N) (r : Fin 256) (j : Fin 1024) : k0_pay4 (bDYB m c t) (iblk m c 9 t) (ix2 r j) = dPB m c (at256 t r) j := by
  pointwise [k0_pay4, k0_pay2]
  simp only [blk_dYB, rd9]
  rfl

/-- What a grid point leaves in the blocks that it writes whole. -/
theorem outs (t : Fin cfg0.N) :
    (outsAt0 (F := Ideal) m c t.val t.isLt).2.1 = bDout m c t ∧
    (outsAt0 (F := Ideal) m c t.val t.isLt).2.2.2.1 = k0_pay3 (bDYA m c t) (iblk m c 8 t) ∧
    (outsAt0 (F := Ideal) m c t.val t.isLt).2.2.2.2.1 = k0_pay4 (bDYB m c t) (iblk m c 9 t) ∧
    (outsAt0 (F := Ideal) m c t.val t.isLt).2.2.2.2.2.1 = bMerged m c t ∧
    (outsAt0 (F := Ideal) m c t.val t.isLt).2.2.2.2.2.2.1 = bDY m c t ∧
    (outsAt0 (F := Ideal) m c t.val t.isLt).2.2.2.2.2.2.2.1 = k0_pay1 (F := Ideal) (bDYA m c t) ∧
    (outsAt0 (F := Ideal) m c t.val t.isLt).2.2.2.2.2.2.2.2.1 = k0_pay2 (F := Ideal) (bDYB m c t) := by
  by_cases h0 : t.val % 32 = 0
  · rw [outsAt0_A m c t h0]
    refine ⟨?_, ?_, ?_, ?_, ?_, ?_, ?_⟩
    all_goals frame_out
  · rw [outsAt0_B m c t h0]
    refine ⟨?_, ?_, ?_, ?_, ?_, ?_, ?_⟩
    all_goals frame_out

end Cert.PassHead

end
-- ==== Proof.HeadArrays.lean ====
/-
The arrays that the head of the block leaves on one device where it writes each block whole, as formulas in the arguments.
-/
module

public import proofs.«01_k».proof.Proof.HeadBlocks

@[expose] public section

set_option maxRecDepth 16384

noncomputable section

namespace Cert.PassHead

open Idealize.ShloMosaic Idealize.ShloMosaic.TcCoe
open Idealize.SL.Sem
open Cert.HeadIdeal Cert.HeadIdeal.Gen

variable (m : Mem) (c : Dev Cert.HeadIdeal.nD)

/-- Each of the seven arrays is cut into blocks of 256 rows, and each block is written back once. -/
theorem arrs :
    (dats (F := Ideal) m 0 c).arrAt 12 cfg0.N = (fun i => dOut m c (i 0) (i 1)) ∧
    (dats (F := Ideal) m 0 c).arrAt 14 cfg0.N = (fun i => dPA m c (i 0) (i 1)) ∧
    (dats (F := Ideal) m 0 c).arrAt 15 cfg0.N = (fun i => dPB m c (i 0) (i 1)) ∧
    (dats (F := Ideal) m 0 c).arrAt 16 cfg0.N = (fun i => merged m c (i 0) (i 1)) ∧
    (dats (F := Ideal) m 0 c).arrAt 17 cfg0.N = (fun i => dY m c (i 0) (i 1)) ∧
    (dats (F := Ideal) m 0 c).arrAt 18 cfg0.N = (fun i => dYA m c (i 0) (i 1)) ∧
    (dats (F := Ideal) m 0 c).arrAt 19 cfg0.N = (fun i => dYB m c (i 0) (i 1)) := by
  refine ⟨(dats m 0 c).arrAt_eq_of_covers 12 _ (by decide +kernel) fun t hf y => ?_,
    (dats m 0 c).arrAt_eq_of_covers 14 _ (by decide +kernel) fun t hf y => ?_,
    (dats m 0 c).arrAt_eq_of_covers 15 _ (by decide +kernel) fun t hf y => ?_,
    (dats m 0 c).arrAt_eq_of_covers 16 _ (by decide +kernel) fun t hf y => ?_,
    (dats m 0 c).arrAt_eq_of_covers 17 _ (by decide +kernel) fun t hf y => ?_,
    (dats m 0 c).arrAt_eq_of_covers 18 _ (by decide +kernel) fun t hf y => ?_,
    (dats m 0 c).arrAt_eq_of_covers 19 _ (by decide +kernel) fun t hf y => ?_⟩
  all_goals
    obtain ⟨o1, o2, o3, o4, o5, o6, o7⟩ := outs m c t
    obtain ⟨r, j, rfl⟩ : ∃ r j, y = ix2 r j := ⟨y 0, y 1, eq_ix2 y⟩
    blk_simp
    first
      | rw [after0_12, o1, blk_dout] | rw [after0_14, o2, blk_dPA] | rw [after0_15, o3, blk_dPB] | rw [after0_16, o4, blk_merged]
      | rw [after0_17, o5, blk_dY] | rw [after0_18, o6, show k0_pay1 (F := Ideal) (bDYA m c t) = bDYA m c t from rfl, blk_dYA]
      | rw [after0_19, o7, show k0_pay2 (F := Ideal) (bDYB m c t) = bDYB m c t from rfl, blk_dYB]
    refine congrArg₂ _ (Fin.ext ?_) (Fin.ext ?_)
    · blk_simp [idxOut t, at256_val]
      exact congrArg (· + r.val) (Nat.mul_comm _ _)
    · blk_simp [idxOut t]

end Cert.PassHead

end
-- ==== Proof.HeadSums.lean ====
/-
What the head of the block leaves on one device where it writes a block in parts: the gradient of the two gates, side by side,
and the sums over all tokens, added up block by block: the loss and the two rows of weight gradients.
-/
module

public import proofs.«01_k».proof.Proof.HeadBlocks
public import proofs.«01_k».proof.Proof.GradXClaims

@[expose] public section

set_option maxRecDepth 16384

noncomputable section

namespace Cert.PassHead

open Idealize.ShloMosaic Idealize.ShloMosaic.TcCoe
open Idealize.SL.Sem
open Cert.HeadIdeal Cert.HeadIdeal.Gen
open Cert.PassGradX (read_row canon_row ld_row)

variable (m : Mem) (c : Dev Cert.HeadIdeal.nD)

/-! ## The gradient of the gates -/

/-- The gradient of the two gates, side by side. -/
def dG (i : Fin 8192) (j : Fin 2048) : Ideal .f32 :=
  if h : j.val < 1024 then dGA m c i ⟨j.val, h⟩ else dGB m c i ⟨j.val - 1024, by omega⟩

abbrev bDGA (t : Fin cfg0.N) : FVec Ideal S256x1024 .bf16 := k0_pay28 (iblk m c 7 t) (k0_pay7 (iblk m c 0 t) (iblk m c 8 t)) (k0_pay9 (iblk m c 2 t)) (k0_pay14 (bMsq m c t)) (bHat m c t) (bDout m c t) (k0_pay21 (iblk m c 6 t)) (iblk m c 10 t)
abbrev bDGB (t : Fin cfg0.N) : FVec Ideal S256x1024 .bf16 := k0_pay29 (iblk m c 7 t) (k0_pay8 (iblk m c 1 t) (iblk m c 9 t)) (k0_pay10 (iblk m c 3 t)) (k0_pay14 (bMsq m c t)) (bHat m c t) (bDout m c t) (k0_pay21 (iblk m c 6 t)) (iblk m c 10 t)

theorem blk_dGA (t : Fin cfg0.N) (r : Fin 256) (j : Fin 1024) : bDGA m c t (ix2 r j) = dGA m c (at256 t r) j := by
  pointwise [k0_pay28]
  simp only [blk_dYA, blk_yA, blk_sA, Ideal.ofBits_one_f32]
  rfl

theorem blk_dGB (t : Fin cfg0.N) (r : Fin 256) (j : Fin 1024) : bDGB m c t (ix2 r j) = dGB m c (at256 t r) j := by
  pointwise [k0_pay29]
  simp only [blk_dYB, blk_yB, blk_sB, Ideal.ofBits_one_f32]
  rfl

section Halves

variable {sig' : RefSig} {κ : Kind} {sp : Space}

/-- A block of 2048 columns after its right half and, before that, its left half have been written. -/
theorem canon_halves (v : View sig' κ sp S256x2048 .bf16) (inb0 : ∀ a, ![0, 0] a + ![256, 1024] a ≤ S256x2048.size a)
    (inb1 : ∀ a, ![0, 1024] a + ![256, 1024] a ≤ S256x2048.size a)
    (w0 : (Rect.unit (s := S256x2048) ![0, 0] ![256, 1024] inb0).shape.Idx → Elt Ideal .bf16)
    (w1 : (Rect.unit (s := S256x2048) ![0, 1024] ![256, 1024] inb1).shape.Idx → Elt Ideal .bf16) (r : Fin 256) (j : Fin 2048) :
    View.canon [⟨Rect.unit (s := S256x2048) ![0, 1024] ![256, 1024] inb1, w1⟩, ⟨Rect.unit (s := S256x2048) ![0, 0] ![256, 1024] inb0, w0⟩] (ix2 r j) =
      if h : j.val < 1024 then w0 (ix2 r (⟨j.val, h⟩ : Fin 1024) : S256x1024.Idx)
      else w1 (ix2 r (⟨j.val - 1024, by omega⟩ : Fin 1024) : S256x1024.Idx) := by
  rw [← View.read_writes_junk_apply_eq_canon v]
  by_cases h : j.val < 1024
  · rw [dif_pos h]
    refine (View.read_writes_cons_unit_of_not_mem v _ inb1 w1 _ (ix2 r j) rfl (1 : Fin 2) (Or.inl h)).trans ?_
    exact View.read_writes_cons_unit_of_mem v _ inb0 w0 [] (ix2 r j) (ix2 r (⟨j.val, h⟩ : Fin 1024) : S256x1024.Idx) rfl
      (Fin.forall_fin_two.mpr ⟨(Nat.zero_add _).symm, (Nat.zero_add _).symm⟩)
  · rw [dif_neg h]
    exact View.read_writes_cons_unit_of_mem v _ inb1 w1 _ (ix2 r j) (ix2 r (⟨j.val - 1024, by omega⟩ : Fin 1024) : S256x1024.Idx) rfl
      (Fin.forall_fin_two.mpr ⟨(Nat.zero_add _).symm, (Nat.add_sub_of_le (Nat.le_of_not_lt h)).symm⟩)

end Halves

theorem blk_dG (t : Fin cfg0.N) (r : Fin 256) (j : Fin 2048) :
    (outsAt0 (F := Ideal) m c t.val t.isLt).2.2.1 (ix2 r j) = dG m c (at256 t r) j := by
  have hL : View.canon (Val := Elt Ideal) (s := S256x2048) (e := .bf16) [⟨Rect.unit (s := S256x2048) ![0, 1024] ![256, 1024] inb_S256x2048_S256x1024_0_1024, bDGB m c t⟩,
      ⟨Rect.unit (s := S256x2048) ![0, 0] ![256, 1024] inb_S256x2048_S256x1024_0_0, bDGA m c t⟩] (ix2 r j) = dG m c (at256 t r) j := by
    rw [canon_halves (ms0_13 t).view]
    unfold dG
    by_cases h : j.val < 1024
    · rw [dif_pos h, dif_pos h]
      exact blk_dGA m c t r _
    · rw [dif_neg h, dif_neg h]
      exact blk_dGB m c t r _
  by_cases h0 : t.val % 32 = 0
  · rw [outsAt0_A m c t h0]
    frame_open
    frame_out
    exact hL
  · rw [outsAt0_B m c t h0]
    frame_open
    frame_out
    exact hL

theorem arr13 : (dats (F := Ideal) m 0 c).arrAt 13 cfg0.N = (fun i => dG m c (i 0) (i 1)) := by
  refine (dats m 0 c).arrAt_eq_of_covers 13 _ (by decide +kernel) fun t hf y => ?_
  have hy : (y : S256x2048.Idx) = ix2 (y 0) (y 1) := eq_ix2 y
  have he : (((View.whole main_v0_2).slice (win0_13.rect t)).emb y : S8192x2048.Idx) = ix2 (at256 t (y 0)) (y 1) := by
    blk_ext! [idxOut t]
    all_goals exact (congrArg (· + (y 0).val) (Nat.mul_comm _ _)).trans (at256_val t (y 0)).symm
  blk_simp
  rw [after0_13, he, hy]
  exact blk_dG m c t _ _

/-! ## The sums over the blocks -/

theorem N_eq : 32 = cfg0.N := by decide +kernel

/-- The blocks' sums over their tokens together are the sum over all tokens. -/
theorem sum_tokens (f : Fin 8192 → Ideal .f32) :
    (∑ k ∈ Finset.range (31 + 1), if hn : k < cfg0.N then ∑ q : Fin 256, f (at256 ⟨k, hn⟩ q) else (0 : Ideal .f32)) = ∑ i, f i := by
  rw [Finset.sum_range]
  refine (Finset.sum_congr rfl fun s _ => ?_).trans (Fin.sum_mul_add_fin 32 256 f rfl)
  rw [dif_pos (lt_of_lt_of_eq s.isLt N_eq)]
  exact Finset.sum_congr rfl fun q _ => congrArg f (Fin.ext (congrArg (· + q.val) (Nat.mul_comm _ _)))

theorem ofBits_half : Ideal.ofBits FTy.f32 1056964608#32 = (((1 / 2 : ℝ)) : EReal) := by
  simp [Ideal.ofBits, Ideal.ieee, -EReal.coe_mul]
  norm_num

/-- The half may be taken out of a sum. -/
theorem half_mul_sum {ι : Type} (s : Finset ι) (f : ι → Ideal .f32) :
    (∑ i ∈ s, Ideal.ofBits FTy.f32 1056964608#32 * f i : Ideal .f32) = Ideal.ofBits FTy.f32 1056964608#32 * ∑ i ∈ s, f i := by
  classical
  have h0 : (0 : EReal) ≤ Ideal.ofBits FTy.f32 1056964608#32 := by rw [ofBits_half]; exact_mod_cast (by norm_num : (0 : ℝ) ≤ 1 / 2)
  have h1 : Ideal.ofBits FTy.f32 1056964608#32 ≠ (⊤ : EReal) := by rw [ofBits_half]; exact EReal.coe_ne_top _
  induction s using Finset.induction_on with
  | empty => simp only [Finset.sum_empty]; exact (mul_zero (M₀ := EReal) _).symm
  | insert a s ha ih =>
    rw [Finset.sum_insert ha, Finset.sum_insert ha, ih]
    exact (EReal.left_distrib_of_nonneg_of_ne_top h0 h1 _ _).symm

/-! ## The loss -/

/-- Half of a token's mean squared error, and the loss of all tokens. -/
def halfLoss (i : Fin 8192) : Ideal .f32 := Ideal.ofBits FTy.f32 1056964608#32 * tokLoss m c i
def lossAll : Ideal .f32 := Ideal.ofBits FTy.f32 1056964608#32 * ∑ i, tokLoss m c i

theorem step_loss (t : Fin cfg0.N) (r : Fin 8) (j : Fin 128) (v : Vec Ideal S8x128 .f32) :
    k0_pay18 (iblk m c 6 t) (iblk m c 7 t) (bY m c t) (bMsq m c t) (iblk m c 4 t) (iblk m c 5 t) v (ix2 r j) =
      (v (ix2 r j) : Ideal .f32) + ∑ q : Fin 256, halfLoss m c (at256 t q) := by
  have e : (∑ q : Fin 256, halfLoss m c (at256 t q) : Ideal .f32) = Ideal.ofBits FTy.f32 1056964608#32 * ∑ q : Fin 256, tokLoss m c (at256 t q) :=
    half_mul_sum _ _
  rw [e]
  pointwise [k0_pay18]
  simp only [blk_err, Fin.sum_univ_one]
  rfl

theorem zero_loss (y : S8x128.Idx) : (k0_pay5 (F := Ideal)) y = (0 : Ideal .f32) := by
  obtain ⟨i, j, rfl⟩ : ∃ i j, y = ix2 i j := ⟨y 0, y 1, eq_ix2 y⟩
  pointwise [k0_pay5, Ideal.ofBits_zero_f32]

theorem loss_A (t : Fin cfg0.N) (h0 : t.val % 32 = 0) (r : Fin 8) (j : Fin 128) :
    (outsAt0 (F := Ideal) m c t.val t.isLt).1 (ix2 r j) = (0 : Ideal .f32) + ∑ q : Fin 256, halfLoss m c (at256 t q) := by
  rw [outsAt0_A m c t h0]
  frame_open
  simp (disch := decide) only [↓ View.readCov_skip, ↓ View.readCov_cons_toLoadRect, ↓ View.readCov_fill]
  frame_out
  exact (step_loss m c t r j _).trans (congrArg (· + _) (zero_loss _))

theorem loss_B (t : Fin cfg0.N) (h0 : ¬t.val % 32 = 0) (r : Fin 8) (j : Fin 128) :
    (outsAt0 (F := Ideal) m c t.val t.isLt).1 (ix2 r j) =
      ((outsAt0 (F := Ideal) m c (t.val - 1) (Nat.lt_of_le_of_lt (Nat.sub_le _ _) t.isLt)).1 (ix2 r j) : Ideal .f32) +
        ∑ q : Fin 256, halfLoss m c (at256 t q) := by
  rw [outsAt0_B m c t h0]
  frame_open
  simp (disch := decide) only [↓ View.readCov_skip, ↓ View.readCov_cons_toLoadRect, ↓ View.readCov_fill]
  frame_out
  exact step_loss m c t r j _

theorem arr11 : (dats (F := Ideal) m 0 c).arrAt 11 cfg0.N = (fun _ => lossAll m c) := by
  refine (dats m 0 c).arrAt_eq_of_covers 11 _ (by decide +kernel) fun t hf y => ?_
  have hr := (flush0_11 t).mp hf
  blk_simp
  rw [after0_11]
  refine (Pipeline.eq_sum_of_reset_step_apply_single_of_mod (fun n h => (outsAt0 (F := Ideal) m c n h).1) 32 (fun _ => (0 : Ideal .f32))
    (fun n _ => if hn : n < cfg0.N then ∑ q : Fin 256, halfLoss m c (at256 ⟨n, hn⟩ q) else (0 : Ideal .f32))
    (fun t h i => by
      rw [dif_pos t.isLt]
      exact (congrArg _ (eq_ix2 i)).trans (loss_A m c t h _ _))
    (fun t h i => by
      rw [dif_pos t.isLt]
      exact (congrArg _ (eq_ix2 i)).trans ((loss_B m c t h _ _).trans (congrArg (fun x => (outsAt0 (F := Ideal) m c (t.val - 1) _).1 x + _) (eq_ix2 i).symm)))
    (by decide +kernel) t hr y).trans ?_
  rw [zero_add]
  exact (sum_tokens (halfLoss m c)).trans (half_mul_sum _ _)

/-! ## The two rows of weight gradients -/

/-- What token `i` adds to entry `(r, j)` of the two rows. -/
def rowTerm (r : Fin 8) (j : Fin 1024) (i : Fin 8192) : Ideal .f32 :=
  if r.val = 1 then dNorm m c i j * yHat m c i j else if r.val = 0 then dOut m c i j * yNorm m c i j else 0

/-- What block `t` adds to it. -/
def con (t : Fin cfg0.N) (r : Fin 8) (j : Fin 1024) : Ideal .f32 := ∑ q : Fin 256, rowTerm m c r j (at256 t q)

theorem row0 (t : Fin cfg0.N) (j : Fin 1024) (v : Vec Ideal S1x1024 .f32) :
    k0_pay20 (iblk m c 6 t) (iblk m c 7 t) (bY m c t) (bMsq m c t) (iblk m c 4 t) (iblk m c 5 t) v (ix2 0 j) =
      (v (ix2 0 j) : Ideal .f32) + con m c t 0 j := by
  pointwise [k0_pay20]
  simp only [blk_dout, blk_norm]
  rfl

theorem row1 (t : Fin cfg0.N) (j : Fin 1024) (v : Vec Ideal S1x1024 .f32) :
    k0_pay23 (bHat m c t) (bDout m c t) (k0_pay21 (iblk m c 6 t)) v (ix2 0 j) = (v (ix2 0 j) : Ideal .f32) + con m c t 1 j := by
  pointwise [k0_pay23, k0_pay22, k0_pay21]
  simp only [blk_dout, blk_hat, rd6]
  rfl

/-- The two written rows added to what was there. -/
theorem step_rows (t : Fin cfg0.N) (r : Fin 8) (j : Fin 1024) (X : Vec Ideal S8x1024 .f32) (a b : Ideal .f32)
    (ha : a = X (ix2 1 j) + con m c t 1 j) (hb : b = X (ix2 0 j) + con m c t 0 j) :
    (if r.val = 1 then a else if r.val = 0 then b else X (ix2 r j)) = (X (ix2 r j) : Ideal .f32) + con m c t r j := by
  by_cases h1 : r.val = 1
  · obtain rfl : r = 1 := Fin.ext h1
    rw [if_pos h1, ha]
  by_cases h0 : r.val = 0
  · obtain rfl : r = 0 := Fin.ext h0
    rw [if_neg h1, if_pos h0, hb]
  have hz : con m c t r j = 0 := Finset.sum_eq_zero fun q _ => (if_neg h1).trans (if_neg h0)
  rw [if_neg h1, if_neg h0, hz]
  exact (add_zero _).symm

theorem rows_A (t : Fin cfg0.N) (h0 : t.val % 32 = 0) (r : Fin 8) (j : Fin 1024) :
    (outsAt0 (F := Ideal) m c t.val t.isLt).2.2.2.2.2.2.2.2.2 (ix2 r j) = (0 : Ideal .f32) + con m c t r j := by
  rw [outsAt0_A m c t h0]
  frame_open
  simp (disch := decide) only [↓ View.readCov_skip, ↓ View.readCov_cons_toLoadRect, ↓ View.readCov_fill]
  frame_out
  have hz : ∀ y : S8x1024.Idx, (k0_pay6 (F := Ideal)) y = (0 : Ideal .f32) := fun y => by
    obtain ⟨i, j, rfl⟩ : ∃ i j, y = ix2 i j := ⟨y 0, y 1, eq_ix2 y⟩
    pointwise [k0_pay6, Ideal.ofBits_zero_f32]
  rw [canon_row (ms0_20 t).view, canon_row (ms0_20 t).view, View.canon_cons_unit_lit]
  case h => decide
  refine (step_rows m c t r j (k0_pay6 (F := Ideal)) _ _ ((row1 m c t j _).trans ?_) ((row0 m c t j _).trans ?_)).trans ?_
  · exact congrArg (· + _) ((hz _).trans (hz _).symm)
  · exact congrArg (· + _) ((hz _).trans (hz _).symm)
  · rw [hz]

theorem rows_B (t : Fin cfg0.N) (h0 : ¬t.val % 32 = 0) (r : Fin 8) (j : Fin 1024) :
    (outsAt0 (F := Ideal) m c t.val t.isLt).2.2.2.2.2.2.2.2.2 (ix2 r j) =
      ((outsAt0 (F := Ideal) m c (t.val - 1) (Nat.lt_of_le_of_lt (Nat.sub_le _ _) t.isLt)).2.2.2.2.2.2.2.2.2 (ix2 r j) : Ideal .f32) + con m c t r j := by
  rw [outsAt0_B m c t h0]
  frame_open
  simp (disch := decide) only [↓ View.readCov_skip, ↓ View.readCov_cons_toLoadRect, ↓ View.readCov_fill]
  frame_out
  rw [read_row, read_row, View.writes_nil, Memref.IsWhole.read_unread]
  refine step_rows m c t r j _ _ _ ((row1 m c t j _).trans ?_) ((row0 m c t j _).trans ?_)
  · exact congrArg (· + con m c t 1 j) (ld_row _ 1 _ 1 rfl j)
  · exact congrArg (· + con m c t 0 j) (ld_row _ 0 _ 0 rfl j)

theorem arr20 : (dats (F := Ideal) m 0 c).arrAt 20 cfg0.N = (fun i => ∑ k, rowTerm m c (i 0) (i 1) k) := by
  refine (dats m 0 c).arrAt_eq_of_covers 20 _ (by decide +kernel) fun t hf y => ?_
  have hy : (y : S8x1024.Idx) = ix2 (y 0) (y 1) := eq_ix2 y
  have he : (((View.whole main_v0_9).slice (win0_20.rect t)).emb y : S8x1024.Idx) = ix2 (y 0) (y 1) := by
    blk_ext! [idxOut t]
  have hr := (flush0_20 t).mp hf
  blk_simp
  rw [after0_20, he, hy]
  refine (Pipeline.eq_sum_of_reset_step_apply_single_of_mod (fun n h => (outsAt0 (F := Ideal) m c n h).2.2.2.2.2.2.2.2.2) 32 (fun _ => (0 : Ideal .f32))
    (fun n i => if hn : n < cfg0.N then con m c ⟨n, hn⟩ (i 0) (i 1) else (0 : Ideal .f32))
    (fun t h i => by
      rw [dif_pos t.isLt]
      exact (congrArg _ (eq_ix2 i)).trans (rows_A m c t h _ _))
    (fun t h i => by
      rw [dif_pos t.isLt]
      exact (congrArg _ (eq_ix2 i)).trans ((rows_B m c t h _ _).trans (congrArg (fun x => (outsAt0 (F := Ideal) m c (t.val - 1) _).2.2.2.2.2.2.2.2.2 x + _) (eq_ix2 i).symm)))
    (by decide +kernel) t hr (ix2 (y 0) (y 1))).trans ?_
  rw [zero_add]
  exact sum_tokens (rowTerm m c (y 0) (y 1))

end Cert.PassHead

end
-- ==== Proof.HeadClaims.lean ====
/-
The claims about the head of the block on one device's tokens: the version's arrays are those of the reference.
-/
module

public import proofs.«01_k».proof.Defs
public import proofs.«01_k».proof.Proof.HeadArrays
public import proofs.«01_k».proof.Proof.HeadSums
public import proofs.«01_k».proof.Proof.Gen.HeadRefIdeal.Run

@[expose] public section

set_option maxRecDepth 16384
set_option maxHeartbeats 4000000

noncomputable section

namespace Cert.PassHead

open Idealize.ShloMosaic Idealize.ShloMosaic.TcCoe
open Idealize.SL.Sem
open Cert.HeadIdeal Cert.HeadIdeal.Gen
open Cert.HeadRefIdeal.Value

variable (m : Mem) (c : Dev Cert.HeadIdeal.nD)

/-- The memory of the reference's program. -/
abbrev RefMem : Type := (ℓ : Loc Cert.HeadRefIdeal.nD Cert.HeadRefIdeal.τ Cert.HeadRefIdeal.sig) → Buf (Elt Ideal) ℓ

/-- The reference's memory holds the same arguments. -/
abbrev Same (m : Mem) (m' : RefMem) (c : Dev Cert.HeadIdeal.nD) : Prop :=
  m' (c.tc.loc Cert.HeadRefIdeal.main_arg0) = m (c.tc.loc Cert.HeadIdeal.main_arg0) ∧
  m' (c.tc.loc Cert.HeadRefIdeal.main_arg1) = m (c.tc.loc Cert.HeadIdeal.main_arg1) ∧
  m' (c.tc.loc Cert.HeadRefIdeal.main_arg2) = m (c.tc.loc Cert.HeadIdeal.main_arg2) ∧
  m' (c.tc.loc Cert.HeadRefIdeal.main_arg3) = m (c.tc.loc Cert.HeadIdeal.main_arg3) ∧
  m' (c.tc.loc Cert.HeadRefIdeal.main_arg4) = m (c.tc.loc Cert.HeadIdeal.main_arg4) ∧
  m' (c.tc.loc Cert.HeadRefIdeal.main_arg5) = m (c.tc.loc Cert.HeadIdeal.main_arg5) ∧
  m' (c.tc.loc Cert.HeadRefIdeal.main_arg6) = m (c.tc.loc Cert.HeadIdeal.main_arg6) ∧
  m' (c.tc.loc Cert.HeadRefIdeal.main_arg7) = m (c.tc.loc Cert.HeadIdeal.main_arg7) ∧
  m' (c.tc.loc Cert.HeadRefIdeal.main_arg8) = m (c.tc.loc Cert.HeadIdeal.main_arg8) ∧
  m' (c.tc.loc Cert.HeadRefIdeal.main_arg9) = m (c.tc.loc Cert.HeadIdeal.main_arg9)

/-- The arrays over the tokens, and the loss: the reference's term, read entry by entry, is the formula. -/
theorem ref_tokens (m' : RefMem) (h : Same m m' c) :
    res_main_v87 m' c = (fun _ : S8x128.Idx => lossAll m c) ∧
    res_main_v48 m' c = (fun i : S8192x1024.Idx => dOut m c (i 0) (i 1)) ∧
    res_main_v88 m' c = (fun i : S8192x2048.Idx => dG m c (i 0) (i 1)) ∧
    res_main_v90 m' c = (fun i : S8192x2048.Idx => dPA m c (i 0) (i 1)) ∧
    res_main_v92 m' c = (fun i : S8192x1024.Idx => dPB m c (i 0) (i 1)) ∧
    res_main_v94 m' c = (fun i : S8192x1024.Idx => dY m c (i 0) (i 1)) ∧
    res_main_v95 m' c = (fun i : S8192x1024.Idx => dYA m c (i 0) (i 1)) ∧
    res_main_v96 m' c = (fun i : S8192x1024.Idx => dYB m c (i 0) (i 1)) := by
  obtain ⟨h0, h1, h2, h3, h4, h5, h6, h7, h8, h9⟩ := h
  refine ⟨?_, ?_, ?_, ?_, ?_, ?_, ?_, ?_⟩
  all_goals
    first
      | unfold res_main_v87 | unfold res_main_v48 | unfold res_main_v88 | unfold res_main_v90
      | unfold res_main_v92 | unfold res_main_v94 | unfold res_main_v95 | unfold res_main_v96
    rw [h0, h1, h2, h3, h4, h5, h6, h7, h8, h9]
    funext y
    obtain ⟨i, j, rfl⟩ : ∃ i j, y = ix2 i j := ⟨y 0, y 1, eq_ix2 y⟩
    pointwise [Ideal.ofBits_one_f32]
    rfl

/-- The two rows of weight gradients, over six rows of zeros. -/
theorem ref_rows (m' : RefMem) (h : Same m m' c) : res_main_v97 m' c = (fun i : S8x1024.Idx => ∑ k, rowTerm m c (i 0) (i 1) k) := by
  obtain ⟨h0, h1, h2, h3, h4, h5, h6, h7, h8, h9⟩ := h
  unfold res_main_v97
  rw [h0, h1, h2, h3, h4, h5, h6, h7, h8, h9]
  funext y
  obtain ⟨i, j, rfl⟩ : ∃ i j, y = ix2 i j := ⟨y 0, y 1, eq_ix2 y⟩
  pointwise []
  by_cases e1 : i.val = 1
  · obtain rfl : i = 1 := Fin.ext e1
    rfl
  by_cases e0 : i.val = 0
  · obtain rfl : i = 0 := Fin.ext e0
    rfl
  rw [dif_neg (by omega)]
  exact Cert.PassGradX.sitofp_nil.trans (Finset.sum_eq_zero fun k _ => (if_neg e1).trans (if_neg e0)).symm

theorem algebraic_Head : Cert.algebraic_HeadIdeal_HeadRefIdeal := by
  intro m g m' g' _ hm
  refine ⟨fun c => (dats (F := Ideal) m 0 c).arrAt 11 cfg0.N, fun c => (dats (F := Ideal) m 0 c).arrAt 12 cfg0.N,
    fun c => (dats (F := Ideal) m 0 c).arrAt 13 cfg0.N, fun c => (dats (F := Ideal) m 0 c).arrAt 14 cfg0.N,
    fun c => (dats (F := Ideal) m 0 c).arrAt 15 cfg0.N, fun c => (dats (F := Ideal) m 0 c).arrAt 16 cfg0.N,
    fun c => (dats (F := Ideal) m 0 c).arrAt 17 cfg0.N, fun c => (dats (F := Ideal) m 0 c).arrAt 18 cfg0.N,
    fun c => (dats (F := Ideal) m 0 c).arrAt 19 cfg0.N, fun c => (dats (F := Ideal) m 0 c).arrAt 20 cfg0.N,
    Cert.HeadIdeal.Value.run_blocks (F := Ideal) m g, ?_⟩
  refine (θ_run (Cert.HeadRefIdeal.defs (F := Ideal)) _ _).mono (fun r h c => ?_) (Cert.HeadRefIdeal.Value.run (F := Ideal) m' g')
  obtain ⟨e0, e1, e2, e3, e4, e5, e6, e7, e8, e9, args⟩ := h c
  have hs : Same m m' c := hm c
  obtain ⟨f0, f1, f2, f3, f4, f6, f7, f8⟩ := ref_tokens m c m' hs
  obtain ⟨a1, a3, a4, a5, a6, a7, a8⟩ := arrs m c
  refine ⟨e0.trans (f0.trans (arr11 m c).symm), e1.trans (f1.trans a1.symm), e2.trans (f2.trans (arr13 m c).symm),
    e3.trans (f3.trans a3.symm), e4.trans (f4.trans a4.symm), e5.trans ((?_ : _ = _).trans a5.symm),
    e6.trans (f6.trans a6.symm), e7.trans (f7.trans a7.symm), e8.trans (f8.trans a8.symm),
    e9.trans ((ref_rows m c m' hs).trans (arr20 m c).symm), args⟩
  obtain ⟨h0, h1, h2, h3, h4, h5, h6, h7, h8, h9⟩ := hs
  rw [h0, h1, h2, h7, h8]
  funext y
  obtain ⟨i, j, rfl⟩ : ∃ i j, y = ix2 i j := ⟨y 0, y 1, eq_ix2 y⟩
  pointwise []
  rfl

theorem frameRef_Head : Cert.quiescent_HeadRefIdeal := fun m ρ _ => (θ_run (Cert.HeadRefIdeal.defs (F := Ideal)) _ _).mono
  (fun r h => ⟨fun c => (h c).2.2.2.2.2.2.2.2.2.2, sem_eq_zero_of_no_sems (by decide) r.2⟩) (Cert.HeadRefIdeal.Value.run (F := Ideal) m ρ)

end Cert.PassHead

end
-- ==== Proof.lean ====
module

public import proofs.«01_k».proof.Defs
public import proofs.«01_k».proof.Proof.Gen.Scatter
public import proofs.«01_k».proof.Proof.Gen.Scatter.Skeleton
public import proofs.«01_k».proof.Proof.Gen.Scatter.Launch
public import proofs.«01_k».proof.Proof.Gen.Scatter.Points
public import proofs.«01_k».proof.Proof.Gen.Scatter.Frame
public import proofs.«01_k».proof.Proof.Gen.ScatterIdeal
public import proofs.«01_k».proof.Proof.Gen.ScatterIdeal.Skeleton
public import proofs.«01_k».proof.Proof.Gen.ScatterIdeal.Launch
public import proofs.«01_k».proof.Proof.Gen.ScatterIdeal.Points
public import proofs.«01_k».proof.Proof.Gen.ScatterIdeal.Frame
public import proofs.«01_k».proof.Proof.Gen.ScatterRefIdeal
public import proofs.«01_k».proof.Proof.Gen.ScatterRefIdeal.Run
public import proofs.«01_k».proof.Proof.Gen.ScatterRef.Run
public import proofs.«01_k».proof.Proof.ScatterClaims
public import proofs.«01_k».proof.Proof.Gen.ScatterRef
public import proofs.«01_k».proof.Proof.Gen.Gather
public import proofs.«01_k».proof.Proof.Gen.Gather.Skeleton
public import proofs.«01_k».proof.Proof.Gen.Gather.Launch
public import proofs.«01_k».proof.Proof.Gen.Gather.Points
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherRefIdeal
public import proofs.«01_k».proof.Proof.Gen.GatherRefIdeal.Run
public import proofs.«01_k».proof.Proof.Gen.GatherRef
public import proofs.«01_k».proof.Proof.Gen.GatherRef.Run
public import proofs.«01_k».proof.Proof.GatherClaims
public import proofs.«01_k».proof.Proof.Gen.Update
public import proofs.«01_k».proof.Proof.Gen.Update.Skeleton
public import proofs.«01_k».proof.Proof.Gen.Update.Launch
public import proofs.«01_k».proof.Proof.Gen.Update.Points
public import proofs.«01_k».proof.Proof.Gen.UpdateIdeal
public import proofs.«01_k».proof.Proof.Gen.UpdateIdeal.Skeleton
public import proofs.«01_k».proof.Proof.Gen.UpdateIdeal.Launch
public import proofs.«01_k».proof.Proof.Gen.UpdateIdeal.Points
public import proofs.«01_k».proof.Proof.Gen.UpdateRefIdeal
public import proofs.«01_k».proof.Proof.Gen.UpdateRefIdeal.Run
public import proofs.«01_k».proof.Proof.Gen.UpdateIdeal.Regions
public import proofs.«01_k».proof.Proof.UpdateClaims
public import proofs.«01_k».proof.Proof.Gen.SumSmall.Value
public import proofs.«01_k».proof.Proof.Gen.SumSmallIdeal.Value
public import proofs.«01_k».proof.Proof.Gen.GradAda.Value
public import proofs.«01_k».proof.Proof.Gen.GradAdaIdeal.Value
public import proofs.«01_k».proof.Proof.Gen.AdamSmall.Value
public import proofs.«01_k».proof.Proof.Gen.AdamSmallIdeal.Value
public import proofs.«01_k».proof.Proof.Gen.AdamConv.Value
public import proofs.«01_k».proof.Proof.Gen.AdamConvIdeal.Value
public import proofs.«01_k».proof.Proof.Gen.AdamAda.Value
public import proofs.«01_k».proof.Proof.Gen.AdamAdaIdeal.Value
public import proofs.«01_k».proof.Proof.Gen.SumSmallRefIdeal.Run
public import proofs.«01_k».proof.Proof.Gen.GradAdaRefIdeal.Run
public import proofs.«01_k».proof.Proof.Gen.AdamSmallRefIdeal.Run
public import proofs.«01_k».proof.Proof.Gen.AdamConvRefIdeal.Run
public import proofs.«01_k».proof.Proof.Gen.AdamAdaRefIdeal.Run
public import proofs.«01_k».proof.Proof.SmallClaims
public import proofs.«01_k».proof.Proof.Gen.ModPart.Value
public import proofs.«01_k».proof.Proof.Gen.ModPartIdeal.Value
public import proofs.«01_k».proof.Proof.Gen.ModPartRefIdeal.Run
public import proofs.«01_k».proof.Proof.Gen.DwOut.Value
public import proofs.«01_k».proof.Proof.Gen.DwOutIdeal.Value
public import proofs.«01_k».proof.Proof.Gen.DwOutRefIdeal.Run
public import proofs.«01_k».proof.Proof.Gen.DwRet.Value
public import proofs.«01_k».proof.Proof.Gen.DwRetIdeal.Value
public import proofs.«01_k».proof.Proof.Gen.DwRetRefIdeal.Run
public import proofs.«01_k».proof.Proof.Gen.GradX.Value
public import proofs.«01_k».proof.Proof.Gen.GradXIdeal.Value
public import proofs.«01_k».proof.Proof.Gen.GradXRefIdeal.Run
public import proofs.«01_k».proof.Proof.Gen.Head.Value
public import proofs.«01_k».proof.Proof.Gen.HeadIdeal.Value
public import proofs.«01_k».proof.Proof.Gen.HeadRefIdeal.Run
public import proofs.«01_k».proof.Proof.Gen.DwInR.Value
public import proofs.«01_k».proof.Proof.Gen.DwInRIdeal.Value
public import proofs.«01_k».proof.Proof.Gen.DwInRRefIdeal.Run
public import proofs.«01_k».proof.Proof.Gen.DwInC.Value
public import proofs.«01_k».proof.Proof.Gen.DwInCIdeal.Value
public import proofs.«01_k».proof.Proof.Gen.DwInCRefIdeal.Run
public import proofs.«01_k».proof.Proof.Gen.DwInG.Value
public import proofs.«01_k».proof.Proof.Gen.DwInGIdeal.Value
public import proofs.«01_k».proof.Proof.Gen.DwInGRefIdeal.Run
public import proofs.«01_k».proof.Proof.Gen.ConvFwd.Value
public import proofs.«01_k».proof.Proof.Gen.ConvFwdIdeal.Value
public import proofs.«01_k».proof.Proof.Gen.ConvFwdRefIdeal.Run
public import proofs.«01_k».proof.Proof.PassClaims
public import proofs.«01_k».proof.Proof.WeightClaims
public import proofs.«01_k».proof.Proof.ConvClaims
public import proofs.«01_k».proof.Proof.GradXClaims
public import proofs.«01_k».proof.Proof.HeadClaims
public import Idealize.ShloMosaic.Adequacy
public import Idealize.ShloMosaic.Init

@[expose] public section

noncomputable section

namespace Cert.Proof

open Idealize.ShloMosaic Idealize.SL.Sem Cert.Scatter

theorem claim : Cert.Claim :=
  ⟨Cert.Scatter.Gen.facts, Cert.ScatterIdeal.Gen.facts, Cert.ScatterRefIdeal.Gen.facts, Cert.ScatterRef.Gen.facts,
    Cert.Gather.Gen.facts, Cert.GatherIdeal.Gen.facts, Cert.GatherRefIdeal.Gen.facts, Cert.GatherRef.Gen.facts,
    Cert.Update.Gen.facts, Cert.UpdateIdeal.Gen.facts, Cert.UpdateRefIdeal.Gen.facts,
    Cert.SumSmall.Gen.facts, Cert.SumSmallIdeal.Gen.facts, Cert.SumSmallRefIdeal.Gen.facts,
    Cert.GradAda.Gen.facts, Cert.GradAdaIdeal.Gen.facts, Cert.GradAdaRefIdeal.Gen.facts,
    Cert.AdamSmall.Gen.facts, Cert.AdamSmallIdeal.Gen.facts, Cert.AdamSmallRefIdeal.Gen.facts,
    Cert.AdamConv.Gen.facts, Cert.AdamConvIdeal.Gen.facts, Cert.AdamConvRefIdeal.Gen.facts,
    Cert.AdamAda.Gen.facts, Cert.AdamAdaIdeal.Gen.facts, Cert.AdamAdaRefIdeal.Gen.facts,
    Cert.ModPart.Gen.facts, Cert.ModPartIdeal.Gen.facts, Cert.ModPartRefIdeal.Gen.facts,
    Cert.DwOut.Gen.facts, Cert.DwOutIdeal.Gen.facts, Cert.DwOutRefIdeal.Gen.facts,
    Cert.DwRet.Gen.facts, Cert.DwRetIdeal.Gen.facts, Cert.DwRetRefIdeal.Gen.facts,
    Cert.GradX.Gen.facts, Cert.GradXIdeal.Gen.facts, Cert.GradXRefIdeal.Gen.facts,
    Cert.Head.Gen.facts, Cert.HeadIdeal.Gen.facts, Cert.HeadRefIdeal.Gen.facts,
    Cert.DwInR.Gen.facts, Cert.DwInRIdeal.Gen.facts, Cert.DwInRRefIdeal.Gen.facts,
    Cert.DwInC.Gen.facts, Cert.DwInCIdeal.Gen.facts, Cert.DwInCRefIdeal.Gen.facts,
    Cert.DwInG.Gen.facts, Cert.DwInGIdeal.Gen.facts, Cert.DwInGRefIdeal.Gen.facts,
    Cert.ConvFwd.Gen.facts, Cert.ConvFwdIdeal.Gen.facts, Cert.ConvFwdRefIdeal.Gen.facts,
    Cert.ScatterClaims.frame_kernel, Cert.ScatterClaims.frame_ideal, Cert.ScatterClaims.frame_refIdeal, Cert.ScatterClaims.frame_ref,
    Cert.GatherClaims.frame_kernel, Cert.GatherClaims.frame_ideal, Cert.GatherClaims.frame_refIdeal, Cert.GatherClaims.frame_ref,
    Cert.UpdateClaims.frame_kernel, Cert.UpdateClaims.frame_ideal, Cert.UpdateClaims.frame_refIdeal,
    fun m ρ _ => Cert.SumSmall.Gen.frame m ρ, fun m ρ _ => Cert.SumSmallIdeal.Gen.frame m ρ, Cert.SmallClaims.frameRef_SumSmall,
    fun m ρ _ => Cert.GradAda.Gen.frame m ρ, fun m ρ _ => Cert.GradAdaIdeal.Gen.frame m ρ, Cert.SmallClaims.frameRef_GradAda,
    fun m ρ _ => Cert.AdamSmall.Gen.frame m ρ, fun m ρ _ => Cert.AdamSmallIdeal.Gen.frame m ρ, Cert.SmallClaims.frameRef_AdamSmall,
    fun m ρ _ => Cert.AdamConv.Gen.frame m ρ, fun m ρ _ => Cert.AdamConvIdeal.Gen.frame m ρ, Cert.SmallClaims.frameRef_AdamConv,
    fun m ρ _ => Cert.AdamAda.Gen.frame m ρ, fun m ρ _ => Cert.AdamAdaIdeal.Gen.frame m ρ, Cert.SmallClaims.frameRef_AdamAda,
    fun m ρ _ => Cert.ModPart.Gen.frame m ρ, fun m ρ _ => Cert.ModPartIdeal.Gen.frame m ρ, Cert.PassClaims.frameRef_ModPart,
    fun m ρ _ => Cert.DwOut.Gen.frame m ρ, fun m ρ _ => Cert.DwOutIdeal.Gen.frame m ρ, Cert.PassClaims.frameRef_DwOut,
    fun m ρ _ => Cert.DwRet.Gen.frame m ρ, fun m ρ _ => Cert.DwRetIdeal.Gen.frame m ρ, Cert.PassClaims.frameRef_DwRet,
    fun m ρ _ => Cert.GradX.Gen.frame m ρ, fun m ρ _ => Cert.GradXIdeal.Gen.frame m ρ, Cert.PassGradX.frameRef_GradX,
    fun m ρ _ => Cert.Head.Gen.frame m ρ, fun m ρ _ => Cert.HeadIdeal.Gen.frame m ρ, Cert.PassHead.frameRef_Head,
    fun m ρ _ => Cert.DwInR.Gen.frame m ρ, fun m ρ _ => Cert.DwInRIdeal.Gen.frame m ρ, Cert.WeightClaims.frameRef_DwInR,
    fun m ρ _ => Cert.DwInC.Gen.frame m ρ, fun m ρ _ => Cert.DwInCIdeal.Gen.frame m ρ, Cert.WeightClaims.frameRef_DwInC,
    fun m ρ _ => Cert.DwInG.Gen.frame m ρ, fun m ρ _ => Cert.DwInGIdeal.Gen.frame m ρ, Cert.WeightClaims.frameRef_DwInG,
    fun m ρ _ => Cert.ConvFwd.Gen.frame m ρ, fun m ρ _ => Cert.ConvFwdIdeal.Gen.frame m ρ, Cert.PassConv.frameRef_ConvFwd,
    trivial, Cert.ScatterClaims.algebraic, Cert.ScatterClaims.bitexact, trivial, Cert.GatherClaims.algebraic, Cert.GatherClaims.bitexact,
    trivial, Cert.UpdateClaims.algebraic,
    trivial, Cert.SmallClaims.algebraic_SumSmall,
    trivial, Cert.SmallClaims.algebraic_GradAda,
    trivial, Cert.SmallClaims.algebraic_AdamSmall,
    trivial, Cert.SmallClaims.algebraic_AdamConv,
    trivial, Cert.SmallClaims.algebraic_AdamAda,
    trivial, Cert.PassClaims.algebraic_ModPart,
    trivial, Cert.PassClaims.algebraic_DwOut,
    trivial, Cert.PassClaims.algebraic_DwRet,
    trivial, Cert.PassGradX.algebraic_GradX,
    trivial, Cert.PassHead.algebraic_Head,
    trivial, Cert.WeightClaims.algebraic_DwInR,
    trivial, Cert.WeightClaims.algebraic_DwInC,
    trivial, Cert.WeightClaims.algebraic_DwInG,
    trivial, Cert.PassConv.algebraic_ConvFwd⟩

end Cert.Proof

end
